-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v12)) (v2 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_v13) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v1)) (v3 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v1) = v2 c
          ∧ r.2.mem ((c.tc : Thread Cert.Kernel3Ideal.nD Cert.Kernel3Ideal.τ).loc Cert.Kernel3Ideal.main_v2) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8320x3072 : Shape := ⟨2, ![8320, 3072]⟩
abbrev S8320x128 : Shape := ⟨2, ![8320, 128]⟩
abbrev S8320x1024 : Shape := ⟨2, ![8320, 1024]⟩
abbrev S_ : Shape := ⟨0, ![]⟩

class Facts : Prop where
  bcast_S_S8320x3072 : S_.BroadcastsInDim S8320x3072 (![] : Fin 0 → Fin S8320x3072.rank)
  reducesTo_S8320x3072_S_d0_1 : S8320x3072.ReducesTo [0, 1] S_
  h_S_ : 0 < S_.numel
  bcast_S_S8320x128 : S_.BroadcastsInDim S8320x128 (![] : Fin 0 → Fin S8320x128.rank)
  reducesTo_S8320x128_S_d0_1 : S8320x128.ReducesTo [0, 1] S_
  bcast_S_S8320x1024 : S_.BroadcastsInDim S8320x1024 (![] : Fin 0 → Fin S8320x1024.rank)
  reducesTo_S8320x1024_S_d0_1 : S8320x1024.ReducesTo [0, 1] S_

variable [Facts]

def fn {F : FTy → Type} [FloatOps F] (main_arg0 : FVec F S8320x3072 .f32) (main_arg1 : FVec F S8320x128 .f32) (main_arg2 : FVec F S8320x1024 .f32) : IVec S_ 1 :=
  let main_v0 : FVec F S8320x3072 .f32 := Host.absf main_arg0
  let main_cst : FVec F S_ .f32 := constant S_ .f32 0x7F800000#32
  let main_v1 : FVec F S8320x3072 .f32 := broadcastInDim S8320x3072 ![] bcast_S_S8320x3072 main_cst
  let main_v2 : IVec S8320x3072 1 := cmpf .olt main_v0 main_v1
  let main_c : IVec S_ 1 := constantI S_ 1 1#1
  let main_v3 : IVec S_ 1 := (fun x v => Host.reduce IntOp.andi x v reducesTo_S8320x3072_S_d0_1 h_S_) main_v2 main_c
  let main_v4 : FVec F S8320x128 .f32 := Host.absf main_arg1
  let main_cst_0 : FVec F S_ .f32 := constant S_ .f32 0x7F800000#32
  let main_v5 : FVec F S8320x128 .f32 := broadcastInDim S8320x128 ![] bcast_S_S8320x128 main_cst_0
  let main_v6 : IVec S8320x128 1 := cmpf .olt main_v4 main_v5
  let main_c_1 : IVec S_ 1 := constantI S_ 1 1#1
  let main_v7 : IVec S_ 1 := (fun x v => Host.reduce IntOp.andi x v reducesTo_S8320x128_S_d0_1 h_S_) main_v6 main_c_1
  let main_v8 : IVec S_ 1 := andi main_v3 main_v7
  let main_v9 : FVec F S8320x1024 .f32 := Host.absf main_arg2
  let main_cst_2 : FVec F S_ .f32 := constant S_ .f32 0x7F800000#32
  let main_v10 : FVec F S8320x1024 .f32 := broadcastInDim S8320x1024 ![] bcast_S_S8320x1024 main_cst_2
  let main_v11 : IVec S8320x1024 1 := cmpf .olt main_v9 main_v10
  let main_c_3 : IVec S_ 1 := constantI S_ 1 1#1
  let main_v12 : IVec S_ 1 := (fun x v => Host.reduce IntOp.andi x v reducesTo_S8320x1024_S_d0_1 h_S_) main_v11 main_c_3
  let main_v13 : IVec S_ 1 := andi main_v8 main_v12
  main_v13
-- ==== Pre_finite2.lean ====
abbrev S8320x128 : Shape := ⟨2, ![8320, 128]⟩
abbrev S1x8 : Shape := ⟨2, ![1, 8]⟩
abbrev S_ : Shape := ⟨0, ![]⟩

class Facts : Prop where
  bcast_S_S8320x128 : S_.BroadcastsInDim S8320x128 (![] : Fin 0 → Fin S8320x128.rank)
  reducesTo_S8320x128_S_d0_1 : S8320x128.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v13 : IVec S_ 1) (main_v16 : IVec S8320x128 1) : IVec S_ 1 :=
  let main_c_5 : IVec S_ 1 := constantI S_ 1 1#1
  let main_v17 : IVec S_ 1 := (fun x v => Host.reduce IntOp.andi x v reducesTo_S8320x128_S_d0_1 h_S_) main_v16 main_c_5
  let main_v18 : IVec S_ 1 := andi main_v13 main_v17
  main_v18

def fn {F : FTy → Type} [FloatOps F] (main_arg0 : FVec F S8320x128 .f32) (main_arg1 : FVec F S1x8 .f32) (main_arg2 : FVec F S1x8 .f32) (main_arg3 : FVec F S8320x128 .f32) : IVec S_ 1 :=
  let main_v0 : FVec F S8320x128 .f32 := Host.absf main_arg0
  let main_cst : FVec F S_ .f32 := constant S_ .f32 0x7F800000#32
  let main_v1 : FVec F S8320x128 .f32 := broadcastInDim S8320x128 ![] bcast_S_S8320x128 main_cst
  let main_v2 : IVec S8320x128 1 := cmpf .olt main_v0 main_v1
  let main_c : IVec S_ 1 := constantI S_ 1 1#1
  let main_v3 : IVec S_ 1 := (fun x v => Host.reduce IntOp.andi x v reducesTo_S8320x128_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S8320x128 .f32 := Host.absf main_arg3
  let main_cst_4 : FVec F S_ .f32 := constant S_ .f32 0x7F800000#32
  let main_v15 : FVec F S8320x128 .f32 := broadcastInDim S8320x128 ![] bcast_S_S8320x128 main_cst_4
  let main_v16 : IVec S8320x128 1 := cmpf .olt main_v14 main_v15
  fn_part1 (F := F) main_v13 main_v16
-- ==== Kernel.lean ====
abbrev S8320x3072 : Shape := ⟨2, ![8320, 3072]⟩
abbrev S8320x128 : Shape := ⟨2, ![8320, 128]⟩
abbrev S8320x1024 : Shape := ⟨2, ![8320, 1024]⟩
abbrev S8320x8 : Shape := ⟨2, ![8320, 8]⟩
abbrev S130x64x8 : Shape := ⟨3, ![130, 64, 8]⟩
abbrev S130x8x64 : Shape := ⟨3, ![130, 8, 64]⟩
abbrev S130x8x128x128 : Shape := ⟨4, ![130, 8, 128, 128]⟩
abbrev S130x8x64x64 : Shape := ⟨4, ![130, 8, 64, 64]⟩
abbrev S64x3072 : Shape := ⟨2, ![64, 3072]⟩
abbrev S64x128 : Shape := ⟨2, ![64, 128]⟩
abbrev S1x8x64 : Shape := ⟨3, ![1, 8, 64]⟩
abbrev S64x1024 : Shape := ⟨2, ![64, 1024]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S64x64 : Shape := ⟨2, ![64, 64]⟩
abbrev S8x64 : Shape := ⟨2, ![8, 64]⟩
abbrev S64x1 : Shape := ⟨2, ![64, 1]⟩
abbrev S1x64 : Shape := ⟨2, ![1, 64]⟩
abbrev S64x256 : Shape := ⟨2, ![64, 256]⟩
abbrev S1x128x128 : Shape := ⟨3, ![1, 128, 128]⟩
abbrev S128x128 : Shape := ⟨2, ![128, 128]⟩
abbrev S1x1 : Shape := ⟨2, ![1, 1]⟩
abbrev S1x1x128x128 : Shape := ⟨4, ![1, 1, 128, 128]⟩
abbrev S1x1x64x64 : Shape := ⟨4, ![1, 1, 64, 64]⟩
abbrev S128 : Shape := ⟨1, ![128]⟩
abbrev S128x1 : Shape := ⟨2, ![128, 1]⟩
abbrev S1 : Shape := ⟨1, ![1]⟩
abbrev S64 : Shape := ⟨1, ![64]⟩
abbrev S_ : Shape := ⟨0, ![]⟩

abbrev nBuf : Space → Nat
  | .hbm => 18
  | .vmem => 32
  | .smem => 0
  | _ => 0

abbrev bufTy : (tb : Table) → Fin (tcTables nBuf tb) → BufTy
  | .hbm, ⟨0, _⟩ => ⟨S8320x3072, .f32⟩
  | .hbm, ⟨1, _⟩ => ⟨S8320x128, .f32⟩
  | .hbm, ⟨2, _⟩ => ⟨S8320x1024, .f32⟩
  | .hbm, ⟨3, _⟩ => ⟨S8320x8, .f32⟩
  | .hbm, ⟨4, _⟩ => ⟨S130x64x8, .f32⟩
  | .hbm, ⟨5, _⟩ => ⟨S130x8x64, .f32⟩
  | .hbm, ⟨6, _⟩ => ⟨S8320x1024, .f32⟩
  | .hbm, ⟨7, _⟩ => ⟨S130x8x128x128, .f32⟩
  | .hbm, ⟨8, _⟩ => ⟨S130x8x64x64, .f32⟩
  | .hbm, ⟨9, _⟩ => ⟨S8320x3072, .f32⟩
  | .hbm, ⟨10, _⟩ => ⟨S8320x128, .f32⟩
  | .hbm, ⟨11, _⟩ => ⟨S130x8x64, .f32⟩
  | .hbm, ⟨12, _⟩ => ⟨S130x64x8, .f32⟩
  | .hbm, ⟨13, _⟩ => ⟨S8320x8, .f32⟩
  | .hbm, ⟨14, _⟩ => ⟨S_, .i32⟩
  | .hbm, ⟨15, _⟩ => ⟨S_, .f32⟩
  | .hbm, ⟨16, _⟩ => ⟨S8320x128, .f32⟩
  | .hbm, ⟨17, _⟩ => ⟨S8320x128, .f32⟩
  | .local _ .vmem, ⟨0, _⟩ => ⟨S64x3072, .f32⟩
  | .local _ .vmem, ⟨1, _⟩ => ⟨S64x3072, .f32⟩
  | .local _ .vmem, ⟨2, _⟩ => ⟨S64x128, .f32⟩
  | .local _ .vmem, ⟨3, _⟩ => ⟨S64x128, .f32⟩
  | .local _ .vmem, ⟨4, _⟩ => ⟨S1x8x64, .f32⟩
  | .local _ .vmem, ⟨5, _⟩ => ⟨S1x8x64, .f32⟩
  | .local _ .vmem, ⟨6, _⟩ => ⟨S64x1024, .f32⟩
  | .local _ .vmem, ⟨7, _⟩ => ⟨S64x1024, .f32⟩
  | .local _ .vmem, ⟨8, _⟩ => ⟨S1x8x128x128, .f32⟩
  | .local _ .vmem, ⟨9, _⟩ => ⟨S1x8x128x128, .f32⟩
  | .local _ .vmem, ⟨10, _⟩ => ⟨S1x8x64x64, .f32⟩
  | .local _ .vmem, ⟨11, _⟩ => ⟨S1x8x64x64, .f32⟩
  | .local _ .vmem, ⟨12, _⟩ => ⟨S8x128x128, .f32⟩
  | .local _ .vmem, ⟨13, _⟩ => ⟨S64x3072, .f32⟩
  | .local _ .vmem, ⟨14, _⟩ => ⟨S64x3072, .f32⟩
  | .local _ .vmem, ⟨15, _⟩ => ⟨S64x128, .f32⟩
  | .local _ .vmem, ⟨16, _⟩ => ⟨S64x128, .f32⟩
  | .local _ .vmem, ⟨17, _⟩ => ⟨S1x8x64, .f32⟩
  | .local _ .vmem, ⟨18, _⟩ => ⟨S1x8x64, .f32⟩
  | .local _ .vmem, ⟨19, _⟩ => ⟨S64x1024, .f32⟩
  | .local _ .vmem, ⟨20, _⟩ => ⟨S64x1024, .f32⟩
  | .local _ .vmem, ⟨21, _⟩ => ⟨S1x8x128x128, .f32⟩
  | .local _ .vmem, ⟨22, _⟩ => ⟨S1x8x128x128, .f32⟩
  | .local _ .vmem, ⟨23, _⟩ => ⟨S1x8x64x64, .f32⟩
  | .local _ .vmem, ⟨24, _⟩ => ⟨S1x8x64x64, .f32⟩
  | .local _ .vmem, ⟨25, _⟩ => ⟨S64x3072, .f32⟩
  | .local _ .vmem, ⟨26, _⟩ => ⟨S64x3072, .f32⟩
  | .local _ .vmem, ⟨27, _⟩ => ⟨S64x128, .f32⟩
  | .local _ .vmem, ⟨28, _⟩ => ⟨S64x128, .f32⟩
  | .local _ .vmem, ⟨29, _⟩ => ⟨S1x8x64, .f32⟩
  | .local _ .vmem, ⟨30, _⟩ => ⟨S1x8x64, .f32⟩
  | .local _ .vmem, ⟨31, _⟩ => ⟨S8x128x128, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![130], ![false]⟩

def cc1_transform_0 (i : grid1.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc1_transform_2 (i : grid1.Coords) : Fin 3 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc1_transform_4 (i : grid1.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_5 (i : grid1.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_6 (i : grid1.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S64x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x3072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x8x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S8320x3072 : Shape := ⟨2, ![8320, 3072]⟩
abbrev S8320x128 : Shape := ⟨2, ![8320, 128]⟩
abbrev S8320x1024 : Shape := ⟨2, ![8320, 1024]⟩
abbrev S8320x8x128 : Shape := ⟨3, ![8320, 8, 128]⟩
abbrev S8320x8 : Shape := ⟨2, ![8320, 8]⟩
abbrev S_ : Shape := ⟨0, ![]⟩
abbrev S8x128x128 : Shape := ⟨3, ![8, 128, 128]⟩
abbrev S8320x8x128x128 : Shape := ⟨4, ![8320, 8, 128, 128]⟩
abbrev S1x8x128 : Shape := ⟨3, ![1, 8, 128]⟩
abbrev S8x128 : Shape := ⟨2, ![8, 128]⟩
abbrev S1x8 : Shape := ⟨2, ![1, 8]⟩
abbrev S8 : Shape := ⟨1, ![8]⟩
abbrev S8x1x1 : Shape := ⟨3, ![8, 1, 1]⟩
abbrev S8x128x1 : Shape := ⟨3, ![8, 128, 1]⟩
abbrev S8x1 : Shape := ⟨2, ![8, 1]⟩
abbrev S8x1x128 : Shape := ⟨3, ![8, 1, 128]⟩
abbrev S1x8x128x128 : Shape := ⟨4, ![1, 8, 128, 128]⟩

abbrev nBuf : Space → Nat
  | .hbm => 248
  | .vmem => 0
  | .smem => 0
  | _ => 0

abbrev hbmTy0_0 (i : Nat) : BufTy := match i % 128 with
  | 0 => ⟨S8320x3072, .f32⟩
  | 1 => ⟨S8320x128, .f32⟩
  | 2 => ⟨S8320x1024, .f32⟩
  | 3 => ⟨S8320x1024, .f32⟩
  | 4 => ⟨S8320x1024, .f32⟩
  | 5 => ⟨S8320x1024, .f32⟩
  | 6 => ⟨S8320x8x128, .f32⟩
  | 7 => ⟨S8320x8x128, .f32⟩
  | 8 => ⟨S8320x8x128, .f32⟩
  | 9 => ⟨S8320x8, .f32⟩
  | 10 => ⟨S8320x8, .f32⟩
  | 11 => ⟨S_, .f32⟩
  | 12 => ⟨S8x128x128, .f32⟩
  | 13 => ⟨S_, .f32⟩
  | 14 => ⟨S8320x8x128, .f32⟩
  | 15 => ⟨S_, .f32⟩
  | 16 => ⟨S8320x8x128x128, .f32⟩
  | 17 => ⟨S_, .i32⟩
  | 18 => ⟨S8320x8x128, .f32⟩
  | 19 => ⟨S8320x8x128, .f32⟩
  | 20 => ⟨S8320x8x128, .f32⟩
  | 21 => ⟨S8320x8, .f32⟩
  | 22 => ⟨S8320x8, .f32⟩
  | 23 => ⟨S_, .i32⟩
  | 24 => ⟨S8x128x128, .f32⟩
  | 25 => ⟨S8320x8x128, .f32⟩
  | 26 => ⟨S8320x8x128x128, .f32⟩
  | 27 => ⟨S_, .i32⟩
  | 28 => ⟨S_, .i1⟩
  | 29 => ⟨S_, .i32⟩
  | 30 => ⟨S_, .i32⟩
  | 31 => ⟨S1x8x128, .f32⟩
  | 32 => ⟨S8x128, .f32⟩
  | 33 => ⟨S_, .i32⟩
  | 34 => ⟨S_, .i32⟩
  | 35 => ⟨S1x8x128, .f32⟩
  | 36 => ⟨S8x128, .f32⟩
  | 37 => ⟨S_, .i32⟩
  | 38 => ⟨S_, .i32⟩
  | 39 => ⟨S1x8x128, .f32⟩
  | 40 => ⟨S8x128, .f32⟩
  | 41 => ⟨S_, .i32⟩
  | 42 => ⟨S1x8, .f32⟩
  | 43 => ⟨S8, .f32⟩
  | 44 => ⟨S_, .i32⟩
  | 45 => ⟨S1x8, .f32⟩
  | 46 => ⟨S8, .f32⟩
  | 47 => ⟨S8, .f32⟩
  | 48 => ⟨S8x1x1, .f32⟩
  | 49 => ⟨S8x128x128, .f32⟩
  | 50 => ⟨S8x128x128, .f32⟩
  | 51 => ⟨S8x128x1, .f32⟩
  | 52 => ⟨S8x128x128, .f32⟩
  | 53 => ⟨S8x128x128, .f32⟩
  | 54 => ⟨S_, .f32⟩
  | 55 => ⟨S8x128, .f32⟩
  | 56 => ⟨S8x128, .f32⟩
  | 57 => ⟨S8x1, .f32⟩
  | 58 => ⟨S8x128, .f32⟩
  | 59 => ⟨S8x128, .f32⟩
  | 60 => ⟨S8x128x1, .f32⟩
  | 61 => ⟨S8x1x128, .f32⟩
  | 62 => ⟨S8x128x128, .f32⟩
  | 63 => ⟨S8x128x128, .f32⟩
  | 64 => ⟨S8x128x128, .f32⟩
  | 65 => ⟨S8x128x128, .f32⟩
  | 66 => ⟨S8x128x1, .f32⟩
  | 67 => ⟨S8x128x128, .f32⟩
  | 68 => ⟨S8x128x128, .f32⟩
  | 69 => ⟨S_, .f32⟩
  | 70 => ⟨S8x128, .f32⟩
  | 71 => ⟨S1x8x128, .f32⟩
  | 72 => ⟨S_, .i32⟩
  | 73 => ⟨S_, .i32⟩
  | 74 => ⟨S8320x8x128, .f32⟩
  | 75 => ⟨S1x8x128x128, .f32⟩
  | 76 => ⟨S_, .i32⟩
  | 77 => ⟨S_, .i32⟩
  | 78 => ⟨S_, .i32⟩
  | 79 => ⟨S8320x8x128x128, .f32⟩
  | 80 => ⟨S_, .i32⟩
  | 81 => ⟨S_, .i32⟩
  | 82 => ⟨S8320x1024, .f32⟩
  | 83 => ⟨S_, .f32⟩
  | 84 => ⟨S8x128x128, .f32⟩
  | 85 => ⟨S8320x8x128, .f32⟩
  | 86 => ⟨S_, .f32⟩
  | 87 => ⟨S8x128x128, .f32⟩
  | 88 => ⟨S_, .f32⟩
  | 89 => ⟨S8320x8x128, .f32⟩
  | 90 => ⟨S_, .f32⟩
  | 91 => ⟨S8320x8x128, .f32⟩
  | 92 => ⟨S_, .f32⟩
  | 93 => ⟨S8320x8x128, .f32⟩
  | 94 => ⟨S_, .f32⟩
  | 95 => ⟨S8320x8, .f32⟩
  | 96 => ⟨S_, .f32⟩
  | 97 => ⟨S8320x8, .f32⟩
  | 98 => ⟨S_, .i32⟩
  | 99 => ⟨S8320x8x128, .f32⟩
  | 100 => ⟨S8320x8x128x128, .f32⟩
  | 101 => ⟨S8320x8x128, .f32⟩
  | 102 => ⟨S8320x8x128, .f32⟩
  | 103 => ⟨S8320x8x128, .f32⟩
  | 104 => ⟨S8320x8, .f32⟩
  | 105 => ⟨S8320x8, .f32⟩
  | 106 => ⟨S_, .i32⟩
  | 107 => ⟨S8x128x128, .f32⟩
  | 108 => ⟨S8320x8x128, .f32⟩
  | 109 => ⟨S8320x8x128, .f32⟩
  | 110 => ⟨S8320x8x128, .f32⟩
  | 111 => ⟨S8320x8, .f32⟩
  | 112 => ⟨S8320x8, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S1x8x128, .f32⟩
  | 122 => ⟨S8x128, .f32⟩
  | 123 => ⟨S_, .i32⟩
  | 124 => ⟨S_, .i32⟩
  | 125 => ⟨S_, .i32⟩
  | 126 => ⟨S1x8x128x128, .f32⟩
  | 127 => ⟨S8x128x128, .f32⟩
  | _ => ⟨S8320x3072, .f32⟩

abbrev hbmTy0_1 (i : Nat) : BufTy := match i % 128 with
  | 0 => ⟨S_, .i32⟩
  | 1 => ⟨S_, .i32⟩
  | 2 => ⟨S1x8x128, .f32⟩
  | 3 => ⟨S8x128, .f32⟩
  | 4 => ⟨S_, .i32⟩
  | 5 => ⟨S_, .i32⟩
  | 6 => ⟨S1x8x128, .f32⟩
  | 7 => ⟨S8x128, .f32⟩
  | 8 => ⟨S_, .i32⟩
  | 9 => ⟨S_, .i32⟩
  | 10 => ⟨S1x8x128, .f32⟩
  | 11 => ⟨S8x128, .f32⟩
  | 12 => ⟨S_, .i32⟩
  | 13 => ⟨S1x8, .f32⟩
  | 14 => ⟨S8, .f32⟩
  | 15 => ⟨S_, .i32⟩
  | 16 => ⟨S1x8, .f32⟩
  | 17 => ⟨S8, .f32⟩
  | 18 => ⟨S8, .f32⟩
  | 19 => ⟨S8x1x1, .f32⟩
  | 20 => ⟨S8x128x128, .f32⟩
  | 21 => ⟨S8x128x128, .f32⟩
  | 22 => ⟨S8x128x1, .f32⟩
  | 23 => ⟨S8x128x128, .f32⟩
  | 24 => ⟨S8x128x128, .f32⟩
  | 25 => ⟨S_, .f32⟩
  | 26 => ⟨S8x128, .f32⟩
  | 27 => ⟨S8x128, .f32⟩
  | 28 => ⟨S8x1, .f32⟩
  | 29 => ⟨S8x128, .f32⟩
  | 30 => ⟨S8x128, .f32⟩
  | 31 => ⟨S8x128x1, .f32⟩
  | 32 => ⟨S8x1x128, .f32⟩
  | 33 => ⟨S8x128x128, .f32⟩
  | 34 => ⟨S8x128x128, .f32⟩
  | 35 => ⟨S8x128x128, .f32⟩
  | 36 => ⟨S8x128x128, .f32⟩
  | 37 => ⟨S8x128x1, .f32⟩
  | 38 => ⟨S8x128x128, .f32⟩
  | 39 => ⟨S8x128x128, .f32⟩
  | 40 => ⟨S_, .f32⟩
  | 41 => ⟨S8x128, .f32⟩
  | 42 => ⟨S8x128x1, .f32⟩
  | 43 => ⟨S8x128x128, .f32⟩
  | 44 => ⟨S8x128x128, .f32⟩
  | 45 => ⟨S8x128x128, .f32⟩
  | 46 => ⟨S_, .f32⟩
  | 47 => ⟨S8x128, .f32⟩
  | 48 => ⟨S8x128x128, .f32⟩
  | 49 => ⟨S8x128x128, .f32⟩
  | 50 => ⟨S_, .f32⟩
  | 51 => ⟨S8x128, .f32⟩
  | 52 => ⟨S8x1x128, .f32⟩
  | 53 => ⟨S8x128x128, .f32⟩
  | 54 => ⟨S8x128x128, .f32⟩
  | 55 => ⟨S_, .f32⟩
  | 56 => ⟨S8x128, .f32⟩
  | 57 => ⟨S8x128x1, .f32⟩
  | 58 => ⟨S_, .f32⟩
  | 59 => ⟨S8x128, .f32⟩
  | 60 => ⟨S_, .f32⟩
  | 61 => ⟨S8x128, .f32⟩
  | 62 => ⟨S8x128, .f32⟩
  | 63 => ⟨S_, .f32⟩
  | 64 => ⟨S8, .f32⟩
  | 65 => ⟨S8x1, .f32⟩
  | 66 => ⟨S8x128, .f32⟩
  | 67 => ⟨S8x128, .f32⟩
  | 68 => ⟨S_, .f32⟩
  | 69 => ⟨S8, .f32⟩
  | 70 => ⟨S8x128, .f32⟩
  | 71 => ⟨S8x128x128, .f32⟩
  | 72 => ⟨S8x128x128, .f32⟩
  | 73 => ⟨S_, .f32⟩
  | 74 => ⟨S8x128, .f32⟩
  | 75 => ⟨S8x128x1, .f32⟩
  | 76 => ⟨S8x128x128, .f32⟩
  | 77 => ⟨S8x128x128, .f32⟩
  | 78 => ⟨S8x128x128, .f32⟩
  | 79 => ⟨S_, .f32⟩
  | 80 => ⟨S8x128, .f32⟩
  | 81 => ⟨S8x128, .f32⟩
  | 82 => ⟨S8x128x128, .f32⟩
  | 83 => ⟨S_, .f32⟩
  | 84 => ⟨S8, .f32⟩
  | 85 => ⟨S8x1x1, .f32⟩
  | 86 => ⟨S8x128x128, .f32⟩
  | 87 => ⟨S8x128x128, .f32⟩
  | 88 => ⟨S_, .f32⟩
  | 89 => ⟨S8, .f32⟩
  | 90 => ⟨S8, .f32⟩
  | 91 => ⟨S1x8x128, .f32⟩
  | 92 => ⟨S_, .i32⟩
  | 93 => ⟨S_, .i32⟩
  | 94 => ⟨S8320x8x128, .f32⟩
  | 95 => ⟨S1x8x128, .f32⟩
  | 96 => ⟨S_, .i32⟩
  | 97 => ⟨S_, .i32⟩
  | 98 => ⟨S8320x8x128, .f32⟩
  | 99 => ⟨S1x8x128, .f32⟩
  | 100 => ⟨S_, .i32⟩
  | 101 => ⟨S_, .i32⟩
  | 102 => ⟨S8320x8x128, .f32⟩
  | 103 => ⟨S1x8, .f32⟩
  | 104 => ⟨S_, .i32⟩
  | 105 => ⟨S8320x8, .f32⟩
  | 106 => ⟨S1x8, .f32⟩
  | 107 => ⟨S_, .i32⟩
  | 108 => ⟨S8320x8, .f32⟩
  | 109 => ⟨S_, .i32⟩
  | 110 => ⟨S_, .i32⟩
  | 111 => ⟨S_, .f32⟩
  | 112 => ⟨S8320x128, .f32⟩
  | 113 => ⟨S_, .f32⟩
  | 114 => ⟨S8320x128, .f32⟩
  | 115 => ⟨S8320x128, .f32⟩
  | 116 => ⟨S8320x1024, .f32⟩
  | 117 => ⟨S8320x1024, .f32⟩
  | 118 => ⟨S8320x1024, .f32⟩
  | 119 => ⟨S8320x3072, .f32⟩
  | _ => ⟨S8320x3072, .f32⟩

abbrev hbmTy (i : Nat) : BufTy := match i / 128 with
  | 0 => hbmTy0_0 i
  | 1 => hbmTy0_1 i
  | _ => ⟨S8320x3072, .f32⟩

abbrev bufTy : (tb : Table) → Fin (tcTables nBuf tb) → BufTy
  | .hbm, ⟨i, _⟩ => hbmTy i
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_c : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_v11_8 : Ref sig .tc := ⟨.hbm, 26, rfl⟩
abbrev main_while0c_c_20 : Ref sig .tc := ⟨.hbm, 27, rfl⟩
abbrev main_while0c_v29 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v29 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_v0 : Ref sig .tc := ⟨.hbm, 35, rfl⟩
abbrev main_while0b_v30 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_v0 : Ref sig .tc := ⟨.hbm, 39, rfl⟩
abbrev main_while0b_v31 : Ref sig .tc := ⟨.hbm, 40, rfl⟩
abbrev main_while0b_call3_c : Ref sig .tc := ⟨.hbm, 41, rfl⟩
abbrev main_while0b_call3_v0 : Ref sig .tc := ⟨.hbm, 42, rfl⟩
abbrev main_while0b_v32 : Ref sig .tc := ⟨.hbm, 43, rfl⟩
abbrev main_while0b_call4_c : Ref sig .tc := ⟨.hbm, 44, rfl⟩
abbrev main_while0b_call4_v0 : Ref sig .tc := ⟨.hbm, 45, rfl⟩
abbrev main_while0b_v33 : Ref sig .tc := ⟨.hbm, 46, rfl⟩
abbrev main_while0b_v34 : Ref sig .tc := ⟨.hbm, 47, rfl⟩
abbrev main_while0b_v35 : Ref sig .tc := ⟨.hbm, 48, rfl⟩
abbrev main_while0b_v36 : Ref sig .tc := ⟨.hbm, 49, rfl⟩
abbrev main_while0b_v37 : Ref sig .tc := ⟨.hbm, 50, rfl⟩
abbrev main_while0b_v38 : Ref sig .tc := ⟨.hbm, 51, rfl⟩
abbrev main_while0b_v39 : Ref sig .tc := ⟨.hbm, 52, rfl⟩
abbrev main_while0b_v40 : Ref sig .tc := ⟨.hbm, 53, rfl⟩
abbrev main_while0b_cst_20 : Ref sig .tc := ⟨.hbm, 54, rfl⟩
abbrev main_while0b_v41 : Ref sig .tc := ⟨.hbm, 55, rfl⟩
abbrev main_while0b_v42 : Ref sig .tc := ⟨.hbm, 56, rfl⟩
abbrev main_while0b_v43 : Ref sig .tc := ⟨.hbm, 57, rfl⟩
abbrev main_while0b_v44 : Ref sig .tc := ⟨.hbm, 58, rfl⟩
abbrev main_while0b_v45 : Ref sig .tc := ⟨.hbm, 59, rfl⟩
abbrev main_while0b_v46 : Ref sig .tc := ⟨.hbm, 60, rfl⟩
abbrev main_while0b_v47 : Ref sig .tc := ⟨.hbm, 61, rfl⟩
abbrev main_while0b_v48 : Ref sig .tc := ⟨.hbm, 62, rfl⟩
abbrev main_while0b_v49 : Ref sig .tc := ⟨.hbm, 63, rfl⟩
abbrev main_while0b_v50 : Ref sig .tc := ⟨.hbm, 64, rfl⟩
abbrev main_while0b_v51 : Ref sig .tc := ⟨.hbm, 65, rfl⟩
abbrev main_while0b_v52 : Ref sig .tc := ⟨.hbm, 66, rfl⟩
abbrev main_while0b_v53 : Ref sig .tc := ⟨.hbm, 67, rfl⟩
abbrev main_while0b_v54 : Ref sig .tc := ⟨.hbm, 68, rfl⟩
abbrev main_while0b_cst_21 : Ref sig .tc := ⟨.hbm, 69, rfl⟩
abbrev main_while0b_v55 : Ref sig .tc := ⟨.hbm, 70, rfl⟩
abbrev main_while0b_call5_v0 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_v56 : Ref sig .tc := ⟨.hbm, 74, rfl⟩
abbrev main_while0b_call6_v0 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_v57 : Ref sig .tc := ⟨.hbm, 79, rfl⟩
abbrev main_while0b_c_22 : Ref sig .tc := ⟨.hbm, 80, rfl⟩
abbrev main_while0b_v58 : Ref sig .tc := ⟨.hbm, 81, rfl⟩
abbrev main_v12 : Ref sig .tc := ⟨.hbm, 82, rfl⟩
abbrev main_cst_2 : Ref sig .tc := ⟨.hbm, 83, rfl⟩
abbrev main_v13 : Ref sig .tc := ⟨.hbm, 84, rfl⟩
abbrev main_v14 : Ref sig .tc := ⟨.hbm, 85, rfl⟩
abbrev main_cst_3 : Ref sig .tc := ⟨.hbm, 86, rfl⟩
abbrev main_v15 : Ref sig .tc := ⟨.hbm, 87, rfl⟩
abbrev main_cst_4 : Ref sig .tc := ⟨.hbm, 88, rfl⟩
abbrev main_v16 : Ref sig .tc := ⟨.hbm, 89, rfl⟩
abbrev main_cst_5 : Ref sig .tc := ⟨.hbm, 90, rfl⟩
abbrev main_v17 : Ref sig .tc := ⟨.hbm, 91, rfl⟩
abbrev main_cst_6 : Ref sig .tc := ⟨.hbm, 92, rfl⟩
abbrev main_v18 : Ref sig .tc := ⟨.hbm, 93, rfl⟩
abbrev main_cst_7 : Ref sig .tc := ⟨.hbm, 94, rfl⟩
abbrev main_v19 : Ref sig .tc := ⟨.hbm, 95, rfl⟩
abbrev main_cst_8 : Ref sig .tc := ⟨.hbm, 96, rfl⟩
abbrev main_v20 : Ref sig .tc := ⟨.hbm, 97, rfl⟩
abbrev main_c_9 : Ref sig .tc := ⟨.hbm, 98, rfl⟩
abbrev main_v21_0 : Ref sig .tc := ⟨.hbm, 99, rfl⟩
abbrev main_v21_1 : Ref sig .tc := ⟨.hbm, 100, rfl⟩
abbrev main_v21_2 : Ref sig .tc := ⟨.hbm, 101, rfl⟩
abbrev main_v21_3 : Ref sig .tc := ⟨.hbm, 102, rfl⟩
abbrev main_v21_4 : Ref sig .tc := ⟨.hbm, 103, rfl⟩
abbrev main_v21_5 : Ref sig .tc := ⟨.hbm, 104, rfl⟩
abbrev main_v21_6 : Ref sig .tc := ⟨.hbm, 105, rfl⟩
abbrev main_v21_7 : Ref sig .tc := ⟨.hbm, 106, rfl⟩
abbrev main_v21_8 : Ref sig .tc := ⟨.hbm, 107, rfl⟩
abbrev main_v21_9 : Ref sig .tc := ⟨.hbm, 108, rfl⟩
abbrev main_v21_10 : Ref sig .tc := ⟨.hbm, 109, rfl⟩
abbrev main_v21_11 : Ref sig .tc := ⟨.hbm, 110, rfl⟩
abbrev main_v21_12 : Ref sig .tc := ⟨.hbm, 111, rfl⟩
abbrev main_v21_13 : Ref sig .tc := ⟨.hbm, 112, rfl⟩
abbrev main_while1c_c_25 : Ref sig .tc := ⟨.hbm, 113, rfl⟩
abbrev main_while1c_v29 : Ref sig .tc := ⟨.hbm, 114, rfl⟩
abbrev main_while1b_c_25 : Ref sig .tc := ⟨.hbm, 115, rfl⟩
abbrev main_while1b_v29 : Ref sig .tc := ⟨.hbm, 116, rfl⟩
abbrev main_while1b_c_26 : Ref sig .tc := ⟨.hbm, 117, rfl⟩
abbrev main_while1b_v30 : Ref sig .tc := ⟨.hbm, 118, rfl⟩
abbrev main_while1b_call7_c : Ref sig .tc := ⟨.hbm, 119, rfl⟩
abbrev main_while1b_call7_c_0 : Ref sig .tc := ⟨.hbm, 120, rfl⟩
abbrev main_while1b_call7_v0 : Ref sig .tc := ⟨.hbm, 121, rfl⟩
abbrev main_while1b_v31 : Ref sig .tc := ⟨.hbm, 122, rfl⟩
abbrev main_while1b_call8_c : Ref sig .tc := ⟨.hbm, 123, rfl⟩
abbrev main_while1b_call8_c_0 : Ref sig .tc := ⟨.hbm, 124, rfl⟩
abbrev main_while1b_call8_c_1 : Ref sig .tc := ⟨.hbm, 125, rfl⟩
abbrev main_while1b_call8_v0 : Ref sig .tc := ⟨.hbm, 126, rfl⟩
abbrev main_while1b_v32 : Ref sig .tc := ⟨.hbm, 127, rfl⟩
abbrev main_while1b_call9_c : Ref sig .tc := ⟨.hbm, 128, rfl⟩
abbrev main_while1b_call9_c_0 : Ref sig .tc := ⟨.hbm, 129, rfl⟩
abbrev main_while1b_call9_v0 : Ref sig .tc := ⟨.hbm, 130, rfl⟩
abbrev main_while1b_v33 : Ref sig .tc := ⟨.hbm, 131, rfl⟩
abbrev main_while1b_call10_c : Ref sig .tc := ⟨.hbm, 132, rfl⟩
abbrev main_while1b_call10_c_0 : Ref sig .tc := ⟨.hbm, 133, rfl⟩
abbrev main_while1b_call10_v0 : Ref sig .tc := ⟨.hbm, 134, rfl⟩
abbrev main_while1b_v34 : Ref sig .tc := ⟨.hbm, 135, rfl⟩
abbrev main_while1b_call11_c : Ref sig .tc := ⟨.hbm, 136, rfl⟩
abbrev main_while1b_call11_c_0 : Ref sig .tc := ⟨.hbm, 137, rfl⟩
abbrev main_while1b_call11_v0 : Ref sig .tc := ⟨.hbm, 138, rfl⟩
abbrev main_while1b_v35 : Ref sig .tc := ⟨.hbm, 139, rfl⟩
abbrev main_while1b_call12_c : Ref sig .tc := ⟨.hbm, 140, rfl⟩
abbrev main_while1b_call12_v0 : Ref sig .tc := ⟨.hbm, 141, rfl⟩
abbrev main_while1b_v36 : Ref sig .tc := ⟨.hbm, 142, rfl⟩
abbrev main_while1b_call13_c : Ref sig .tc := ⟨.hbm, 143, rfl⟩
abbrev main_while1b_call13_v0 : Ref sig .tc := ⟨.hbm, 144, rfl⟩
abbrev main_while1b_v37 : Ref sig .tc := ⟨.hbm, 145, rfl⟩
abbrev main_while1b_v38 : Ref sig .tc := ⟨.hbm, 146, rfl⟩
abbrev main_while1b_v39 : Ref sig .tc := ⟨.hbm, 147, rfl⟩
abbrev main_while1b_v40 : Ref sig .tc := ⟨.hbm, 148, rfl⟩
abbrev main_while1b_v41 : Ref sig .tc := ⟨.hbm, 149, rfl⟩
abbrev main_while1b_v42 : Ref sig .tc := ⟨.hbm, 150, rfl⟩
abbrev main_while1b_v43 : Ref sig .tc := ⟨.hbm, 151, rfl⟩
abbrev main_while1b_v44 : Ref sig .tc := ⟨.hbm, 152, rfl⟩
abbrev main_while1b_cst_27 : Ref sig .tc := ⟨.hbm, 153, rfl⟩
abbrev main_while1b_v45 : Ref sig .tc := ⟨.hbm, 154, rfl⟩
abbrev main_while1b_v46 : Ref sig .tc := ⟨.hbm, 155, rfl⟩
abbrev main_while1b_v47 : Ref sig .tc := ⟨.hbm, 156, rfl⟩
abbrev main_while1b_v48 : Ref sig .tc := ⟨.hbm, 157, rfl⟩
abbrev main_while1b_v49 : Ref sig .tc := ⟨.hbm, 158, rfl⟩
abbrev main_while1b_v50 : Ref sig .tc := ⟨.hbm, 159, rfl⟩
abbrev main_while1b_v51 : Ref sig .tc := ⟨.hbm, 160, rfl⟩
abbrev main_while1b_v52 : Ref sig .tc := ⟨.hbm, 161, rfl⟩
abbrev main_while1b_v53 : Ref sig .tc := ⟨.hbm, 162, rfl⟩
abbrev main_while1b_v54 : Ref sig .tc := ⟨.hbm, 163, rfl⟩
abbrev main_while1b_v55 : Ref sig .tc := ⟨.hbm, 164, rfl⟩
abbrev main_while1b_v56 : Ref sig .tc := ⟨.hbm, 165, rfl⟩
abbrev main_while1b_v57 : Ref sig .tc := ⟨.hbm, 166, rfl⟩
abbrev main_while1b_v58 : Ref sig .tc := ⟨.hbm, 167, rfl⟩
abbrev main_while1b_cst_28 : Ref sig .tc := ⟨.hbm, 168, rfl⟩
abbrev main_while1b_v59 : Ref sig .tc := ⟨.hbm, 169, rfl⟩
abbrev main_while1b_v60 : Ref sig .tc := ⟨.hbm, 170, rfl⟩
abbrev main_while1b_v61 : Ref sig .tc := ⟨.hbm, 171, rfl⟩
abbrev main_while1b_v62 : Ref sig .tc := ⟨.hbm, 172, rfl⟩
abbrev main_while1b_v63 : Ref sig .tc := ⟨.hbm, 173, rfl⟩
abbrev main_while1b_cst_29 : Ref sig .tc := ⟨.hbm, 174, rfl⟩
abbrev main_while1b_v64 : Ref sig .tc := ⟨.hbm, 175, rfl⟩
abbrev main_while1b_v65 : Ref sig .tc := ⟨.hbm, 176, rfl⟩
abbrev main_while1b_v66 : Ref sig .tc := ⟨.hbm, 177, rfl⟩
abbrev main_while1b_cst_30 : Ref sig .tc := ⟨.hbm, 178, rfl⟩
abbrev main_while1b_v67 : Ref sig .tc := ⟨.hbm, 179, rfl⟩
abbrev main_while1b_v68 : Ref sig .tc := ⟨.hbm, 180, rfl⟩
abbrev main_while1b_v69 : Ref sig .tc := ⟨.hbm, 181, rfl⟩
abbrev main_while1b_v70 : Ref sig .tc := ⟨.hbm, 182, rfl⟩
abbrev main_while1b_cst_31 : Ref sig .tc := ⟨.hbm, 183, rfl⟩
abbrev main_while1b_v71 : Ref sig .tc := ⟨.hbm, 184, rfl⟩
abbrev main_while1b_v72 : Ref sig .tc := ⟨.hbm, 185, rfl⟩
abbrev main_while1b_cst_32 : Ref sig .tc := ⟨.hbm, 186, rfl⟩
abbrev main_while1b_v73 : Ref sig .tc := ⟨.hbm, 187, rfl⟩
abbrev main_while1b_cst_33 : Ref sig .tc := ⟨.hbm, 188, rfl⟩
abbrev main_while1b_v74 : Ref sig .tc := ⟨.hbm, 189, rfl⟩
abbrev main_while1b_v75 : Ref sig .tc := ⟨.hbm, 190, rfl⟩
abbrev main_while1b_cst_34 : Ref sig .tc := ⟨.hbm, 191, rfl⟩
abbrev main_while1b_v76 : Ref sig .tc := ⟨.hbm, 192, rfl⟩
abbrev main_while1b_v77 : Ref sig .tc := ⟨.hbm, 193, rfl⟩
abbrev main_while1b_v78 : Ref sig .tc := ⟨.hbm, 194, rfl⟩
abbrev main_while1b_v79 : Ref sig .tc := ⟨.hbm, 195, rfl⟩
abbrev main_while1b_cst_35 : Ref sig .tc := ⟨.hbm, 196, rfl⟩
abbrev main_while1b_v80 : Ref sig .tc := ⟨.hbm, 197, rfl⟩
abbrev main_while1b_v81 : Ref sig .tc := ⟨.hbm, 198, rfl⟩
abbrev main_while1b_v82 : Ref sig .tc := ⟨.hbm, 199, rfl⟩
abbrev main_while1b_v83 : Ref sig .tc := ⟨.hbm, 200, rfl⟩
abbrev main_while1b_cst_36 : Ref sig .tc := ⟨.hbm, 201, rfl⟩
abbrev main_while1b_v84 : Ref sig .tc := ⟨.hbm, 202, rfl⟩
abbrev main_while1b_v85 : Ref sig .tc := ⟨.hbm, 203, rfl⟩
abbrev main_while1b_v86 : Ref sig .tc := ⟨.hbm, 204, rfl⟩
abbrev main_while1b_v87 : Ref sig .tc := ⟨.hbm, 205, rfl⟩
abbrev main_while1b_v88 : Ref sig .tc := ⟨.hbm, 206, rfl⟩
abbrev main_while1b_cst_37 : Ref sig .tc := ⟨.hbm, 207, rfl⟩
abbrev main_while1b_v89 : Ref sig .tc := ⟨.hbm, 208, rfl⟩
abbrev main_while1b_v90 : Ref sig .tc := ⟨.hbm, 209, rfl⟩
abbrev main_while1b_v91 : Ref sig .tc := ⟨.hbm, 210, rfl⟩
abbrev main_while1b_cst_38 : Ref sig .tc := ⟨.hbm, 211, rfl⟩
abbrev main_while1b_v92 : Ref sig .tc := ⟨.hbm, 212, rfl⟩
abbrev main_while1b_v93 : Ref sig .tc := ⟨.hbm, 213, rfl⟩
abbrev main_while1b_v94 : Ref sig .tc := ⟨.hbm, 214, rfl⟩
abbrev main_while1b_v95 : Ref sig .tc := ⟨.hbm, 215, rfl⟩
abbrev main_while1b_cst_39 : Ref sig .tc := ⟨.hbm, 216, rfl⟩
abbrev main_while1b_v96 : Ref sig .tc := ⟨.hbm, 217, rfl⟩
abbrev main_while1b_v97 : Ref sig .tc := ⟨.hbm, 218, rfl⟩
abbrev main_while1b_call14_v0 : Ref sig .tc := ⟨.hbm, 219, rfl⟩
abbrev main_while1b_call14_c : Ref sig .tc := ⟨.hbm, 220, rfl⟩
abbrev main_while1b_call14_c_0 : Ref sig .tc := ⟨.hbm, 221, rfl⟩
abbrev main_while1b_v98 : Ref sig .tc := ⟨.hbm, 222, rfl⟩
abbrev main_while1b_call15_v0 : Ref sig .tc := ⟨.hbm, 223, rfl⟩
abbrev main_while1b_call15_c : Ref sig .tc := ⟨.hbm, 224, rfl⟩
abbrev main_while1b_call15_c_0 : Ref sig .tc := ⟨.hbm, 225, rfl⟩
abbrev main_while1b_v99 : Ref sig .tc := ⟨.hbm, 226, rfl⟩
abbrev main_while1b_call16_v0 : Ref sig .tc := ⟨.hbm, 227, rfl⟩
abbrev main_while1b_call16_c : Ref sig .tc := ⟨.hbm, 228, rfl⟩
abbrev main_while1b_call16_c_0 : Ref sig .tc := ⟨.hbm, 229, rfl⟩
abbrev main_while1b_v100 : Ref sig .tc := ⟨.hbm, 230, rfl⟩
abbrev main_while1b_call17_v0 : Ref sig .tc := ⟨.hbm, 231, rfl⟩
abbrev main_while1b_call17_c : Ref sig .tc := ⟨.hbm, 232, rfl⟩
abbrev main_while1b_v101 : Ref sig .tc := ⟨.hbm, 233, rfl⟩
abbrev main_while1b_call18_v0 : Ref sig .tc := ⟨.hbm, 234, rfl⟩
abbrev main_while1b_call18_c : Ref sig .tc := ⟨.hbm, 235, rfl⟩
abbrev main_while1b_v102 : Ref sig .tc := ⟨.hbm, 236, rfl⟩
abbrev main_while1b_c_40 : Ref sig .tc := ⟨.hbm, 237, rfl⟩
abbrev main_while1b_v103 : Ref sig .tc := ⟨.hbm, 238, rfl⟩
abbrev main_cst_10 : Ref sig .tc := ⟨.hbm, 239, rfl⟩
abbrev main_v22 : Ref sig .tc := ⟨.hbm, 240, rfl⟩
abbrev main_cst_11 : Ref sig .tc := ⟨.hbm, 241, rfl⟩
abbrev main_v23 : Ref sig .tc := ⟨.hbm, 242, rfl⟩
abbrev main_v24 : Ref sig .tc := ⟨.hbm, 243, rfl⟩
abbrev main_v25 : Ref sig .tc := ⟨.hbm, 244, rfl⟩
abbrev main_v26 : Ref sig .tc := ⟨.hbm, 245, rfl⟩
abbrev main_v27 : Ref sig .tc := ⟨.hbm, 246, rfl⟩
abbrev main_v28 : Ref sig .tc := ⟨.hbm, 247, rfl⟩

abbrev nD : Nat := 1
abbrev τ : Topo := Topo.v7x

variable {F : FTy → Type} [FloatOps F]

abbrev main_while0_count : Scf.Loop 32 := ⟨0#32, 8320#32, 1#32⟩

abbrev main_while1_count : Scf.Loop 32 := ⟨0#32, 8320#32, 1#32⟩
-- ==== Kernel2.lean ====
abbrev S8320x128 : Shape := ⟨2, ![8320, 128]⟩
abbrev S1x8 : Shape := ⟨2, ![1, 8]⟩
abbrev S_ : Shape := ⟨0, ![]⟩
abbrev S8x128 : Shape := ⟨2, ![8, 128]⟩
abbrev S8 : Shape := ⟨1, ![8]⟩
abbrev S1 : Shape := ⟨1, ![1]⟩
abbrev S2 : Shape := ⟨1, ![2]⟩
abbrev S320x128 : Shape := ⟨2, ![320, 128]⟩
abbrev S1x128 : Shape := ⟨2, ![1, 128]⟩
abbrev S320x1 : Shape := ⟨2, ![320, 1]⟩
abbrev S128 : Shape := ⟨1, ![128]⟩

abbrev nBuf : Space → Nat
  | .hbm => 24
  | .vmem => 8
  | .smem => 0
  | _ => 0

abbrev bufTy : (tb : Table) → Fin (tcTables nBuf tb) → BufTy
  | .hbm, ⟨0, _⟩ => ⟨S8320x128, .f32⟩
  | .hbm, ⟨1, _⟩ => ⟨S1x8, .f32⟩
  | .hbm, ⟨2, _⟩ => ⟨S1x8, .f32⟩
  | .hbm, ⟨3, _⟩ => ⟨S8320x128, .f32⟩
  | .hbm, ⟨4, _⟩ => ⟨S_, .f32⟩
  | .hbm, ⟨5, _⟩ => ⟨S8x128, .f32⟩
  | .hbm, ⟨6, _⟩ => ⟨S8, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S8x128, .f32⟩
  | .hbm, ⟨13, _⟩ => ⟨S8, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x128, .f32⟩
  | .hbm, ⟨20, _⟩ => ⟨S8320x128, .bf16⟩
  | .hbm, ⟨21, _⟩ => ⟨S8x128, .f32⟩
  | .hbm, ⟨22, _⟩ => ⟨S1x8, .f32⟩
  | .hbm, ⟨23, _⟩ => ⟨S1x8, .f32⟩
  | .local _ .vmem, ⟨0, _⟩ => ⟨S320x128, .f32⟩
  | .local _ .vmem, ⟨1, _⟩ => ⟨S320x128, .f32⟩
  | .local _ .vmem, ⟨2, _⟩ => ⟨S8x128, .f32⟩
  | .local _ .vmem, ⟨3, _⟩ => ⟨S320x128, .f32⟩
  | .local _ .vmem, ⟨4, _⟩ => ⟨S320x128, .f32⟩
  | .local _ .vmem, ⟨5, _⟩ => ⟨S320x128, .bf16⟩
  | .local _ .vmem, ⟨6, _⟩ => ⟨S320x128, .bf16⟩
  | .local _ .vmem, ⟨7, _⟩ => ⟨S8x128, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S8320x128 : Shape := ⟨2, ![8320, 128]⟩
abbrev S1x8 : Shape := ⟨2, ![1, 8]⟩
abbrev S8208x8 : Shape := ⟨2, ![8208, 8]⟩
abbrev S_ : Shape := ⟨0, ![]⟩
abbrev S8208x112 : Shape := ⟨2, ![8208, 112]⟩
abbrev S8208x128 : Shape := ⟨2, ![8208, 128]⟩
abbrev S112x128 : Shape := ⟨2, ![112, 128]⟩
abbrev S8 : Shape := ⟨1, ![8]⟩

abbrev nBuf : Space → Nat
  | .hbm => 64
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S1x8, .f32⟩
  | .hbm, ⟨2, _⟩ => ⟨S1x8, .f32⟩
  | .hbm, ⟨3, _⟩ => ⟨S8320x128, .f32⟩
  | .hbm, ⟨4, _⟩ => ⟨S8208x8, .f32⟩
  | .hbm, ⟨5, _⟩ => ⟨S8208x8, .f32⟩
  | .hbm, ⟨6, _⟩ => ⟨S8208x8, .f32⟩
  | .hbm, ⟨7, _⟩ => ⟨S8208x8, .f32⟩
  | .hbm, ⟨8, _⟩ => ⟨S_, .f32⟩
  | .hbm, ⟨9, _⟩ => ⟨S8208x8, .f32⟩
  | .hbm, ⟨10, _⟩ => ⟨S8208x8, .f32⟩
  | .hbm, ⟨11, _⟩ => ⟨S_, .f32⟩
  | .hbm, ⟨12, _⟩ => ⟨S8208x8, .f32⟩
  | .hbm, ⟨13, _⟩ => ⟨S8208x8, .f32⟩
  | .hbm, ⟨14, _⟩ => ⟨S_, .f32⟩
  | .hbm, ⟨15, _⟩ => ⟨S8208x8, .f32⟩
  | .hbm, ⟨16, _⟩ => ⟨S8208x8, .f32⟩
  | .hbm, ⟨17, _⟩ => ⟨S8208x8, .f32⟩
  | .hbm, ⟨18, _⟩ => ⟨S1x8, .f32⟩
  | .hbm, ⟨19, _⟩ => ⟨S1x8, .f32⟩
  | .hbm, ⟨20, _⟩ => ⟨S8208x8, .f32⟩
  | .hbm, ⟨21, _⟩ => ⟨S8208x8, .f32⟩
  | .hbm, ⟨22, _⟩ => ⟨S8208x8, .f32⟩
  | .hbm, ⟨23, _⟩ => ⟨S8208x8, .f32⟩
  | .hbm, ⟨24, _⟩ => ⟨S_, .f32⟩
  | .hbm, ⟨25, _⟩ => ⟨S8208x8, .f32⟩
  | .hbm, ⟨26, _⟩ => ⟨S8208x8, .f32⟩
  | .hbm, ⟨27, _⟩ => ⟨S8208x8, .f32⟩
  | .hbm, ⟨28, _⟩ => ⟨S8208x8, .f32⟩
  | .hbm, ⟨29, _⟩ => ⟨S_, .f32⟩
  | .hbm, ⟨30, _⟩ => ⟨S8208x112, .f32⟩
  | .hbm, ⟨31, _⟩ => ⟨S8208x128, .f32⟩
  | .hbm, ⟨32, _⟩ => ⟨S_, .f32⟩
  | .hbm, ⟨33, _⟩ => ⟨S8208x112, .f32⟩
  | .hbm, ⟨34, _⟩ => ⟨S_, .f32⟩
  | .hbm, ⟨35, _⟩ => ⟨S112x128, .f32⟩
  | .hbm, ⟨36, _⟩ => ⟨S8320x128, .f32⟩
  | .hbm, ⟨37, _⟩ => ⟨S_, .f32⟩
  | .hbm, ⟨38, _⟩ => ⟨S112x128, .f32⟩
  | .hbm, ⟨39, _⟩ => ⟨S112x128, .f32⟩
  | .hbm, ⟨40, _⟩ => ⟨S8208x128, .f32⟩
  | .hbm, ⟨41, _⟩ => ⟨S8208x8, .f32⟩
  | .hbm, ⟨42, _⟩ => ⟨S8208x8, .f32⟩
  | .hbm, ⟨43, _⟩ => ⟨S8208x112, .f32⟩
  | .hbm, ⟨44, _⟩ => ⟨S8208x8, .f32⟩
  | .hbm, ⟨45, _⟩ => ⟨S8208x8, .f32⟩
  | .hbm, ⟨46, _⟩ => ⟨S8208x8, .f32⟩
  | .hbm, ⟨47, _⟩ => ⟨S_, .f32⟩
  | .hbm, ⟨48, _⟩ => ⟨S8, .f32⟩
  | .hbm, ⟨49, _⟩ => ⟨S1x8, .f32⟩
  | .hbm, ⟨50, _⟩ => ⟨S8208x8, .f32⟩
  | .hbm, ⟨51, _⟩ => ⟨S8208x8, .f32⟩
  | .hbm, ⟨52, _⟩ => ⟨S_, .f32⟩
  | .hbm, ⟨53, _⟩ => ⟨S8, .f32⟩
  | .hbm, ⟨54, _⟩ => ⟨S1x8, .f32⟩
  | .hbm, ⟨55, _⟩ => ⟨S1x8, .f32⟩
  | .hbm, ⟨56, _⟩ => ⟨S1x8, .f32⟩
  | .hbm, ⟨57, _⟩ => ⟨S8208x8, .f32⟩
  | .hbm, ⟨58, _⟩ => ⟨S_, .f32⟩
  | .hbm, ⟨59, _⟩ => ⟨S8320x128, .f32⟩
  | .hbm, ⟨60, _⟩ => ⟨S_, .f32⟩
  | .hbm, ⟨61, _⟩ => ⟨S8320x128, .f32⟩
  | .hbm, ⟨62, _⟩ => ⟨S8320x128, .f32⟩
  | .hbm, ⟨63, _⟩ => ⟨S8320x128, .bf16⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel3.lean ====
abbrev S8320x1024 : Shape := ⟨2, ![8320, 1024]⟩
abbrev S1024x1024 : Shape := ⟨2, ![1024, 1024]⟩
abbrev S8320x9216 : Shape := ⟨2, ![8320, 9216]⟩
abbrev S1x1024 : Shape := ⟨2, ![1, 1024]⟩
abbrev S8x1024 : Shape := ⟨2, ![8, 1024]⟩
abbrev S320x1024 : Shape := ⟨2, ![320, 1024]⟩
abbrev S320x2048 : Shape := ⟨2, ![320, 2048]⟩
abbrev S1024 : Shape := ⟨1, ![1024]⟩
abbrev S8320x2048 : Shape := ⟨2, ![8320, 2048]⟩

abbrev nBuf : Space → Nat
  | .hbm => 12
  | .vmem => 17
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x9216, .bf16⟩
  | .hbm, ⟨3, _⟩ => ⟨S8320x1024, .f32⟩
  | .hbm, ⟨4, _⟩ => ⟨S8320x1024, .f32⟩
  | .hbm, ⟨5, _⟩ => ⟨S1x1024, .f32⟩
  | .hbm, ⟨6, _⟩ => ⟨S8320x1024, .bf16⟩
  | .hbm, ⟨7, _⟩ => ⟨S8320x1024, .bf16⟩
  | .hbm, ⟨8, _⟩ => ⟨S8320x9216, .bf16⟩
  | .hbm, ⟨9, _⟩ => ⟨S8x1024, .f32⟩
  | .hbm, ⟨10, _⟩ => ⟨S8320x2048, .bf16⟩
  | .hbm, ⟨11, _⟩ => ⟨S1x1024, .f32⟩
  | .local _ .vmem, ⟨0, _⟩ => ⟨S320x1024, .bf16⟩
  | .local _ .vmem, ⟨1, _⟩ => ⟨S320x1024, .bf16⟩
  | .local _ .vmem, ⟨2, _⟩ => ⟨S1024x1024, .bf16⟩
  | .local _ .vmem, ⟨3, _⟩ => ⟨S320x2048, .bf16⟩
  | .local _ .vmem, ⟨4, _⟩ => ⟨S320x2048, .bf16⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S1x1024, .f32⟩
  | .local _ .vmem, ⟨10, _⟩ => ⟨S320x1024, .bf16⟩
  | .local _ .vmem, ⟨11, _⟩ => ⟨S320x1024, .bf16⟩
  | .local _ .vmem, ⟨12, _⟩ => ⟨S320x1024, .bf16⟩
  | .local _ .vmem, ⟨13, _⟩ => ⟨S320x1024, .bf16⟩
  | .local _ .vmem, ⟨14, _⟩ => ⟨S320x2048, .bf16⟩
  | .local _ .vmem, ⟨15, _⟩ => ⟨S320x2048, .bf16⟩
  | .local _ .vmem, ⟨16, _⟩ => ⟨S8x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S320x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S320x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S320x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference3Ideal.lean ====
abbrev S8320x1024 : Shape := ⟨2, ![8320, 1024]⟩
abbrev S1024x1024 : Shape := ⟨2, ![1024, 1024]⟩
abbrev S8320x9216 : Shape := ⟨2, ![8320, 9216]⟩
abbrev S1x1024 : Shape := ⟨2, ![1, 1024]⟩
abbrev S_ : Shape := ⟨0, ![]⟩
abbrev S1024 : Shape := ⟨1, ![1024]⟩
abbrev S8320x2048 : Shape := ⟨2, ![8320, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x9216, .bf16⟩
  | .hbm, ⟨3, _⟩ => ⟨S8320x1024, .f32⟩
  | .hbm, ⟨4, _⟩ => ⟨S8320x1024, .f32⟩
  | .hbm, ⟨5, _⟩ => ⟨S1x1024, .f32⟩
  | .hbm, ⟨6, _⟩ => ⟨S8320x1024, .bf16⟩
  | .hbm, ⟨7, _⟩ => ⟨S8320x1024, .f32⟩
  | .hbm, ⟨8, _⟩ => ⟨S8320x1024, .bf16⟩
  | .hbm, ⟨9, _⟩ => ⟨S8320x1024, .f32⟩
  | .hbm, ⟨10, _⟩ => ⟨S8320x1024, .f32⟩
  | .hbm, ⟨11, _⟩ => ⟨S8320x1024, .f32⟩
  | .hbm, ⟨12, _⟩ => ⟨S_, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S8320x1024, .f32⟩
  | .hbm, ⟨27, _⟩ => ⟨S8320x1024, .f32⟩
  | .hbm, ⟨28, _⟩ => ⟨S_, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S1024x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .bf16⟩
  | .hbm, ⟨53, _⟩ => ⟨S8320x1024, .bf16⟩
  | .hbm, ⟨54, _⟩ => ⟨S8320x2048, .f32⟩
  | .hbm, ⟨55, _⟩ => ⟨S8320x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel4.lean ====
abbrev S8320x1024 : Shape := ⟨2, ![8320, 1024]⟩
abbrev S8320x9216 : Shape := ⟨2, ![8320, 9216]⟩
abbrev S1024x9216 : Shape := ⟨2, ![1024, 9216]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x9216, .bf16⟩
  | .hbm, ⟨2, _⟩ => ⟨S1024x9216, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S8320x9216 : Shape := ⟨2, ![8320, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x9216, .bf16⟩
  | .hbm, ⟨2, _⟩ => ⟨S8320x1024, .f32⟩
  | .hbm, ⟨3, _⟩ => ⟨S8320x9216, .f32⟩
  | .hbm, ⟨4, _⟩ => ⟨S_, .f32⟩
  | .hbm, ⟨5, _⟩ => ⟨S1024x9216, .f32⟩
  | .hbm, ⟨6, _⟩ => ⟨S8320x9216, .f32⟩
  | .hbm, ⟨7, _⟩ => ⟨S9216x1024, .f32⟩
  | .hbm, ⟨8, _⟩ => ⟨S1024x9216, .f32⟩
  | .hbm, ⟨9, _⟩ => ⟨S1024x9216, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8320x1024 : Shape := ⟨2, ![8320, 1024]⟩
abbrev S1024x9216 : Shape := ⟨2, ![1024, 9216]⟩
abbrev S8320x9216 : Shape := ⟨2, ![8320, 9216]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x9216, .bf16⟩
  | .hbm, ⟨2, _⟩ => ⟨S8320x9216, .bf16⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .bf16⟩
  | .local _ .vmem, ⟨5, _⟩ => ⟨S1664x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x1024 : Shape := ⟨2, ![8320, 1024]⟩
abbrev S1024x9216 : Shape := ⟨2, ![1024, 9216]⟩
abbrev S8320x9216 : Shape := ⟨2, ![8320, 9216]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x9216, .bf16⟩
  | .hbm, ⟨2, _⟩ => ⟨S8320x1024, .f32⟩
  | .hbm, ⟨3, _⟩ => ⟨S1024x9216, .f32⟩
  | .hbm, ⟨4, _⟩ => ⟨S8320x9216, .f32⟩
  | .hbm, ⟨5, _⟩ => ⟨S8320x9216, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.FwdStart.lean ====
/-
  The forward call: its blocks, its one branch and its staging buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

/-- The block of window `w` at point `t`, read off the array the call is entered with. -/
def iblk (c : Dev nD) (w : Fin cfg0.W) (t : Fin cfg0.N) : ((cfg0.win w).xblock (cfg0.grid.coords t)).Idx → Elt F (cfg0.win w).elt :=
  ((cfg0.win w).blk t).view.read (Elt F) (ent c (Pipeline.arrRef spec0 w))

theorem before0_0_of {c : Dev nD} (dat : Dat τ (Elt F) Unit ℕ (UR sig nD τ) ℕ cfg0 c) (hA : dat.A 0 = ent c (Pipeline.arrRef spec0 0))
    (hafter : ∀ t, dat.after 0 t = iblk ent c 0 t) (t : Fin cfg0.N) (d) : dat.before 0 t d = iblk ent c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = ent c (Pipeline.arrRef spec0 1))
    (hafter : ∀ t, dat.after 1 t = iblk ent c 1 t) (t : Fin cfg0.N) (d) : dat.before 1 t d = iblk ent c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = ent c (Pipeline.arrRef spec0 2))
    (hafter : ∀ t, dat.after 2 t = iblk ent c 2 t) (t : Fin cfg0.N) (d) : dat.before 2 t d = iblk ent c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The condition of the body's one branch. -/
abbrev cond0_0 (i : grid0.Coords) : Prop := (Scalar.cmpi .ne (Scalar.extui (Scalar.cmpi .eq (BitVec.ofNat 32 (i 0).val) 0#32)) 0#32) = 1#1
/-- The branch is taken at the first point only. -/
theorem hcond0_0 : ∀ t : Fin cfg0.N, cond0_0 (grid0.coords t) ↔ t.val % 130 = 0 :=
  (fun t => by
    have ht : t.val < 130 := Nat.lt_of_lt_of_eq t.isLt N_0
    have e0 : (grid0.coords t 0).val = t.val / 1 % 130 := Pipeline.Grid.coords_val t 0 (by decide) rfl
    simp only [cond0_0, e0]
    word_cmp
   : ∀ t : Fin grid0.N, cond0_0 (grid0.coords t) ↔ t.val % 130 = 0)

abbrev VO0_3 : View sig .tc .vmem S64x1024 .f32 := (Memref.whole cc0_stg3_0 : Memref sig .tc .vmem S64x1024 .f32).view
abbrev VO0_4 : View sig .tc .vmem S1x8x128x128 .f32 := (Memref.whole cc0_stg4_0 : Memref sig .tc .vmem S1x8x128x128 .f32).view
abbrev VO0_5 : View sig .tc .vmem S1x8x64x64 .f32 := (Memref.whole cc0_stg5_0 : Memref sig .tc .vmem S1x8x64x64 .f32).view
abbrev ms0_0 (t : Fin cfg0.N) : Memref sig .tc .vmem S64x3072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x64x64 .f32 := win0_5.stage (cfg0.slots t 5)
abbrev hs0_5 (t : Fin cfg0.N) : (ms0_5 t).IsWhole := hstage0_5 ((cfg0.slots t 5).cast nbuf0_5)
abbrev scM0_0 : Memref sig .tc .vmem S8x128x128 .f32 := Memref.whole cc0_scratch0
abbrev VS0_0 : View sig .tc .vmem S8x128x128 .f32 := scM0_0.view

/-- What the call never touches: every buffer of the other call, and the generator register. -/
def Side (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The invariant of the call, with its scratch held at anything. -/
theorem PhiA0_eq (c : Dev nD) :
    (Pipeline.ΦA spec0 c : sProp 𝕄)
      = iprop((∃ d, owns (c : Thread nD τ) scM0_0 fullShare d) ∗ Side (F := F) c) := by
  unfold Pipeline.ΦA Side
  rw [Pipeline.scopedRest_split_of_list spec0 c [cc0_scratch0] (by decide) (by decide)]
  simp only [scM0_0, owns_whole]
  exact Idealize.SL.BI.equiv_iff.mp ⟨Idealize.SL.BI.sep_assoc, Idealize.SL.BI.sep_assoc'⟩

end Cert.Fwd

end
-- ==== Proof.FwdRunA.lean ====
/-
  The forward call at its first point, run through.
-/
module

public import proofs.«01_k».proof.Proof.FwdStart

@[expose] public section

set_option maxRecDepth 16384
set_option synthInstance.maxSize 4096

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

set_option maxHeartbeats 1000000 in
/-- The body at the first point: the pieces its stores leave in every output and in the scratch. -/
noncomputable def kernelRun0_A (c : Dev nD) (i : grid0.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S8x128x128 .f32) (harg7 : arg7.IsWhole) (hc0 : cond0_0 i)
    (x0 : Vec F S64x3072 .f32) (x1 : Vec F S64x128 .f32) (x2 : Vec F S1x8x64 .f32) :
    Σ' (L3 : List (View.Piece (Elt F) S64x1024 .f32)), Σ' (L4 : List (View.Piece (Elt F) S1x8x128x128 .f32)), Σ' (L5 : List (View.Piece (Elt F) S1x8x64x64 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_dn_fwd i arg1 harg1 arg2 harg2 arg3 harg3 arg4 harg4 arg5 harg5 arg6 harg6 arg7 harg7) K } := by
  refine ⟨?_, ?_, ?_, ?_, fun E K => ?run⟩
  case run =>
    simp only [cc0_dn_fwd_eq_skeleton]; unfold cc0_dn_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

end Cert.Fwd

end
-- ==== Proof.FwdRunB.lean ====
/-
  The forward call at a later point, run through.
-/
module

public import proofs.«01_k».proof.Proof.FwdStart

@[expose] public section

set_option maxRecDepth 16384
set_option synthInstance.maxSize 4096

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

set_option maxHeartbeats 1000000 in
/-- The body at a later point, over what the scratch held: the pieces its stores leave. -/
noncomputable def kernelRun0_B (c : Dev nD) (i : grid0.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S8x128x128 .f32) (harg7 : arg7.IsWhole) (hc0 : ¬cond0_0 i)
    (x0 : Vec F S64x3072 .f32) (x1 : Vec F S64x128 .f32) (x2 : Vec F S1x8x64 .f32) (xs0 : Vec F S8x128x128 .f32) :
    Σ' (L3 : List (View.Piece (Elt F) S64x1024 .f32)), Σ' (L4 : List (View.Piece (Elt F) S1x8x128x128 .f32)), Σ' (L5 : List (View.Piece (Elt F) S1x8x64x64 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_dn_fwd i arg1 harg1 arg2 harg2 arg3 harg3 arg4 harg4 arg5 harg5 arg6 harg6 arg7 harg7) K } := by
  refine ⟨?_, ?_, ?_, ?_, fun E K => ?run⟩
  case run =>
    simp only [cc0_dn_fwd_eq_skeleton]; unfold cc0_dn_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

end Cert.Fwd

end
-- ==== Proof.FwdPoints.lean ====
/-
  The forward call: what every point leaves, and the body at a generic point.
-/
module

public import proofs.«01_k».proof.Proof.FwdRunA
public import proofs.«01_k».proof.Proof.FwdRunB
public import Idealize.ShloMosaic.Lib.Claim
public import Idealize.ShloMosaic.Lib.Pipeline.Value

@[expose] public section

set_option maxRecDepth 16384
set_option synthInstance.maxSize 4096

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

section Outs

variable (c : Dev nD) (i : grid0.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S8x128x128 .f32) (harg7 : arg7.IsWhole)

theorem cover0_A_3 (hc0 : cond0_0 i)
    (x0 : Vec F S64x3072 .f32) (x1 : Vec F S64x128 .f32) (x2 : Vec F S1x8x64 .f32) (y : S64x1024.Idx) :
    ∃ pc ∈ (kernelRun0_A c i arg1 harg1 arg2 harg2 arg3 harg3 arg4 harg4 arg5 harg5 arg6 harg6 arg7 harg7 hc0 x0 x1 x2).1, y ∈ pc.1.set :=
  View.cover_of_tiledL (kernelRun0_A c i arg1 harg1 arg2 harg2 arg3 harg3 arg4 harg4 arg5 harg5 arg6 harg6 arg7 harg7 hc0 x0 x1 x2).1 S64x128.size (by sl_kernel_rfl) y

def out0_A_3 (hc0 : cond0_0 i)
    (x0 : Vec F S64x3072 .f32) (x1 : Vec F S64x128 .f32) (x2 : Vec F S1x8x64 .f32) : Vec F S64x1024 .f32 :=
  VO0_3.read (Elt F) (VO0_3.writes (Elt F) VO0_3.junk (kernelRun0_A c i arg1 harg1 arg2 harg2 arg3 harg3 arg4 harg4 arg5 harg5 arg6 harg6 arg7 harg7 hc0 x0 x1 x2).1)

theorem cover0_A_4 (hc0 : cond0_0 i)
    (x0 : Vec F S64x3072 .f32) (x1 : Vec F S64x128 .f32) (x2 : Vec F S1x8x64 .f32) (y : S1x8x128x128.Idx) :
    ∃ pc ∈ (kernelRun0_A c i arg1 harg1 arg2 harg2 arg3 harg3 arg4 harg4 arg5 harg5 arg6 harg6 arg7 harg7 hc0 x0 x1 x2).2.1, y ∈ pc.1.set :=
  View.cover_of_tiledL (kernelRun0_A c i arg1 harg1 arg2 harg2 arg3 harg3 arg4 harg4 arg5 harg5 arg6 harg6 arg7 harg7 hc0 x0 x1 x2).2.1 S1x1x128x128.size (by sl_kernel_rfl) y

def out0_A_4 (hc0 : cond0_0 i)
    (x0 : Vec F S64x3072 .f32) (x1 : Vec F S64x128 .f32) (x2 : Vec F S1x8x64 .f32) : Vec F S1x8x128x128 .f32 :=
  VO0_4.read (Elt F) (VO0_4.writes (Elt F) VO0_4.junk (kernelRun0_A c i arg1 harg1 arg2 harg2 arg3 harg3 arg4 harg4 arg5 harg5 arg6 harg6 arg7 harg7 hc0 x0 x1 x2).2.1)

theorem cover0_A_5 (hc0 : cond0_0 i)
    (x0 : Vec F S64x3072 .f32) (x1 : Vec F S64x128 .f32) (x2 : Vec F S1x8x64 .f32) (y : S1x8x64x64.Idx) :
    ∃ pc ∈ (kernelRun0_A c i arg1 harg1 arg2 harg2 arg3 harg3 arg4 harg4 arg5 harg5 arg6 harg6 arg7 harg7 hc0 x0 x1 x2).2.2.1, y ∈ pc.1.set :=
  View.cover_of_tiledL (kernelRun0_A c i arg1 harg1 arg2 harg2 arg3 harg3 arg4 harg4 arg5 harg5 arg6 harg6 arg7 harg7 hc0 x0 x1 x2).2.2.1 S1x1x64x64.size (by sl_kernel_rfl) y

def out0_A_5 (hc0 : cond0_0 i)
    (x0 : Vec F S64x3072 .f32) (x1 : Vec F S64x128 .f32) (x2 : Vec F S1x8x64 .f32) : Vec F S1x8x64x64 .f32 :=
  VO0_5.read (Elt F) (VO0_5.writes (Elt F) VO0_5.junk (kernelRun0_A c i arg1 harg1 arg2 harg2 arg3 harg3 arg4 harg4 arg5 harg5 arg6 harg6 arg7 harg7 hc0 x0 x1 x2).2.2.1)

theorem scover0_A_0 (hc0 : cond0_0 i)
    (x0 : Vec F S64x3072 .f32) (x1 : Vec F S64x128 .f32) (x2 : Vec F S1x8x64 .f32) (y : S8x128x128.Idx) :
    ∃ pc ∈ (kernelRun0_A c i arg1 harg1 arg2 harg2 arg3 harg3 arg4 harg4 arg5 harg5 arg6 harg6 arg7 harg7 hc0 x0 x1 x2).2.2.2.1, y ∈ pc.1.set :=
  View.cover_of_wholeMem (kernelRun0_A c i arg1 harg1 arg2 harg2 arg3 harg3 arg4 harg4 arg5 harg5 arg6 harg6 arg7 harg7 hc0 x0 x1 x2).2.2.2.1 (by sl_whole_mem) y

def sout0_A_0 (hc0 : cond0_0 i)
    (x0 : Vec F S64x3072 .f32) (x1 : Vec F S64x128 .f32) (x2 : Vec F S1x8x64 .f32) : Vec F S8x128x128 .f32 :=
  VS0_0.read (Elt F) (VS0_0.writes (Elt F) VS0_0.junk (kernelRun0_A c i arg1 harg1 arg2 harg2 arg3 harg3 arg4 harg4 arg5 harg5 arg6 harg6 arg7 harg7 hc0 x0 x1 x2).2.2.2.1)

theorem cover0_B_3 (hc0 : ¬cond0_0 i)
    (x0 : Vec F S64x3072 .f32) (x1 : Vec F S64x128 .f32) (x2 : Vec F S1x8x64 .f32) (xs0 : Vec F S8x128x128 .f32) (y : S64x1024.Idx) :
    ∃ pc ∈ (kernelRun0_B c i arg1 harg1 arg2 harg2 arg3 harg3 arg4 harg4 arg5 harg5 arg6 harg6 arg7 harg7 hc0 x0 x1 x2 xs0).1, y ∈ pc.1.set :=
  View.cover_of_tiledL (kernelRun0_B c i arg1 harg1 arg2 harg2 arg3 harg3 arg4 harg4 arg5 harg5 arg6 harg6 arg7 harg7 hc0 x0 x1 x2 xs0).1 S64x128.size (by sl_kernel_rfl) y

def out0_B_3 (hc0 : ¬cond0_0 i)
    (x0 : Vec F S64x3072 .f32) (x1 : Vec F S64x128 .f32) (x2 : Vec F S1x8x64 .f32) (xs0 : Vec F S8x128x128 .f32) : Vec F S64x1024 .f32 :=
  VO0_3.read (Elt F) (VO0_3.writes (Elt F) VO0_3.junk (kernelRun0_B c i arg1 harg1 arg2 harg2 arg3 harg3 arg4 harg4 arg5 harg5 arg6 harg6 arg7 harg7 hc0 x0 x1 x2 xs0).1)

theorem cover0_B_4 (hc0 : ¬cond0_0 i)
    (x0 : Vec F S64x3072 .f32) (x1 : Vec F S64x128 .f32) (x2 : Vec F S1x8x64 .f32) (xs0 : Vec F S8x128x128 .f32) (y : S1x8x128x128.Idx) :
    ∃ pc ∈ (kernelRun0_B c i arg1 harg1 arg2 harg2 arg3 harg3 arg4 harg4 arg5 harg5 arg6 harg6 arg7 harg7 hc0 x0 x1 x2 xs0).2.1, y ∈ pc.1.set :=
  View.cover_of_tiledL (kernelRun0_B c i arg1 harg1 arg2 harg2 arg3 harg3 arg4 harg4 arg5 harg5 arg6 harg6 arg7 harg7 hc0 x0 x1 x2 xs0).2.1 S1x1x128x128.size (by sl_kernel_rfl) y

def out0_B_4 (hc0 : ¬cond0_0 i)
    (x0 : Vec F S64x3072 .f32) (x1 : Vec F S64x128 .f32) (x2 : Vec F S1x8x64 .f32) (xs0 : Vec F S8x128x128 .f32) : Vec F S1x8x128x128 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 xs0).2.1)

theorem cover0_B_5 (hc0 : ¬cond0_0 i)
    (x0 : Vec F S64x3072 .f32) (x1 : Vec F S64x128 .f32) (x2 : Vec F S1x8x64 .f32) (xs0 : Vec F S8x128x128 .f32) (y : S1x8x64x64.Idx) :
    ∃ pc ∈ (kernelRun0_B c i arg1 harg1 arg2 harg2 arg3 harg3 arg4 harg4 arg5 harg5 arg6 harg6 arg7 harg7 hc0 x0 x1 x2 xs0).2.2.1, y ∈ pc.1.set :=
  View.cover_of_tiledL (kernelRun0_B c i arg1 harg1 arg2 harg2 arg3 harg3 arg4 harg4 arg5 harg5 arg6 harg6 arg7 harg7 hc0 x0 x1 x2 xs0).2.2.1 S1x1x64x64.size (by sl_kernel_rfl) y

def out0_B_5 (hc0 : ¬cond0_0 i)
    (x0 : Vec F S64x3072 .f32) (x1 : Vec F S64x128 .f32) (x2 : Vec F S1x8x64 .f32) (xs0 : Vec F S8x128x128 .f32) : Vec F S1x8x64x64 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 xs0).2.2.1)

theorem scover0_B_0 (hc0 : ¬cond0_0 i)
    (x0 : Vec F S64x3072 .f32) (x1 : Vec F S64x128 .f32) (x2 : Vec F S1x8x64 .f32) (xs0 : Vec F S8x128x128 .f32) (y : S8x128x128.Idx) :
    ∃ pc ∈ (kernelRun0_B c i arg1 harg1 arg2 harg2 arg3 harg3 arg4 harg4 arg5 harg5 arg6 harg6 arg7 harg7 hc0 x0 x1 x2 xs0).2.2.2.1, y ∈ pc.1.set :=
  View.cover_of_tiledL (kernelRun0_B c i arg1 harg1 arg2 harg2 arg3 harg3 arg4 harg4 arg5 harg5 arg6 harg6 arg7 harg7 hc0 x0 x1 x2 xs0).2.2.2.1 S1x128x128.size (by sl_kernel_rfl) y

def sout0_B_0 (hc0 : ¬cond0_0 i)
    (x0 : Vec F S64x3072 .f32) (x1 : Vec F S64x128 .f32) (x2 : Vec F S1x8x64 .f32) (xs0 : Vec F S8x128x128 .f32) : Vec F S8x128x128 .f32 :=
  VS0_0.read (Elt F) (VS0_0.writes (Elt F) VS0_0.junk (kernelRun0_B c i arg1 harg1 arg2 harg2 arg3 harg3 arg4 harg4 arg5 harg5 arg6 harg6 arg7 harg7 hc0 x0 x1 x2 xs0).2.2.2.1)

end Outs

/-- What the outputs and the scratch hold after the first point, and after a later one, from what the scratch held before. -/
def outsA (c : Dev nD) (t : Fin cfg0.N) (h0 : t.val % 130 = 0) : Vec F S64x1024 .f32 × Vec F S1x8x128x128 .f32 × Vec F S1x8x64x64 .f32 × Vec F S8x128x128 .f32 :=
  (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk ent c 0 t) (iblk ent c 1 t) (iblk ent c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk ent c 0 t) (iblk ent c 1 t) (iblk ent c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk ent c 0 t) (iblk ent c 1 t) (iblk ent c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk ent c 0 t) (iblk ent c 1 t) (iblk ent c 2 t))
def outsB (c : Dev nD) (t : Fin cfg0.N) (h0 : ¬t.val % 130 = 0) (x : Vec F S8x128x128 .f32) : Vec F S64x1024 .f32 × Vec F S1x8x128x128 .f32 × Vec F S1x8x64x64 .f32 × Vec F S8x128x128 .f32 :=
  (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk ent c 0 t) (iblk ent c 1 t) (iblk ent c 2 t) x, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk ent c 0 t) (iblk ent c 1 t) (iblk ent c 2 t) x, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk ent c 0 t) (iblk ent c 1 t) (iblk ent c 2 t) x, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk ent c 0 t) (iblk ent c 1 t) (iblk ent c 2 t) x)
/-- What the outputs and the scratch hold after point `n`. -/
def outsAt0 (c : Dev nD) : (n : ℕ) → n < cfg0.N → Vec F S64x1024 .f32 × Vec F S1x8x128x128 .f32 × Vec F S1x8x64x64 .f32 × Vec F S8x128x128 .f32
  | 0, hn => outsA ent c ⟨0, hn⟩ (Nat.zero_mod _)
  | n + 1, hn => if h0 : (n + 1) % 130 = 0 then outsA ent c ⟨n + 1, hn⟩ h0 else outsB ent c ⟨n + 1, hn⟩ h0 (outsAt0 c n (Nat.lt_of_succ_lt hn)).2.2.2

theorem outsAt0_A (c : Dev nD) (t : Fin cfg0.N) (h0 : t.val % 130 = 0) :
    outsAt0 ent c t.val t.isLt = outsA ent c t h0 := by
  obtain ⟨n, hn⟩ := t
  cases n with
  | zero => exact rfl
  | succ n => exact (dif_pos h0).trans rfl

theorem outsAt0_B (c : Dev nD) (t : Fin cfg0.N) (h0 : ¬t.val % 130 = 0) :
    outsAt0 ent c t.val t.isLt = outsB ent c t h0 (outsAt0 ent c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-- The invariant before point `n`: the scratch holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 ent c n hn).2.2.2)) ∗ Side (F := F) c)

theorem PhiS_zero (c : Dev nD) (n : ℕ) (h : n ≤ cfg0.N) (hz : n = 0) : PhiS ent c n h = Pipeline.ΦA spec0 c := by
  subst hz; rfl

theorem PhiS_succ (c : Dev nD) (n : ℕ) (hn : n < cfg0.N) :
    PhiS ent c (n + 1) hn = iprop(iprop(owns (c : Thread nD τ) scM0_0 fullShare ((outsAt0 ent c n hn).2.2.2)) ∗ Side (F := F) c) := rfl

theorem PhiS_pos (c : Dev nD) (n : ℕ) (h : n ≤ cfg0.N) (hz : n ≠ 0) :
    PhiS ent c n h = iprop(iprop(owns (c : Thread nD τ) scM0_0 fullShare ((outsAt0 ent c (n - 1) (by omega)).2.2.2)) ∗ Side (F := F) c) := by
  cases n with
  | zero => exact absurd rfl hz
  | succ n => rfl

/-- The proof data of the call: the arrays as it is entered with them, the blocks as the points leave them. -/
def dat (c : Dev nD) : Dat τ (Elt F) Unit ℕ (UR sig nD τ) ℕ cfg0 c where
  A w := ent c (Pipeline.arrRef spec0 w)
  after w t := match w with
    | ⟨0, _⟩ => iblk ent c 0 t
    | ⟨1, _⟩ => iblk ent c 1 t
    | ⟨2, _⟩ => iblk ent c 2 t
    | ⟨3, _⟩ => (outsAt0 ent c t.val t.isLt).1
    | ⟨4, _⟩ => (outsAt0 ent c t.val t.isLt).2.1
    | ⟨5, _⟩ => (outsAt0 ent c t.val t.isLt).2.2.1
  Φ t := PhiS ent c t.val (Nat.le_of_lt_succ t.isLt)
  q _ := fullShare
  owed _ := 0

theorem A_eq (c : Dev nD) (w : Fin cfg0.W) : (dat ent c).A w = ent c (Pipeline.arrRef spec0 w) := by
  dsimp only [dat]

theorem PhiS_castSucc (c : Dev nD) (t : Fin cfg0.N) :
    (dat ent c).Φ t.castSucc = PhiS ent c t.val (Nat.le_of_lt t.isLt) := by
  dsimp only [dat]; exact Pipeline.Dat.Φ_castSucc (PhiS ent c) t

theorem after0_0 (c : Dev nD) (t : Fin cfg0.N) : (dat ent c).after 0 t = iblk ent c 0 t := by dsimp only [dat]
theorem after0_1 (c : Dev nD) (t : Fin cfg0.N) : (dat ent c).after 1 t = iblk ent c 1 t := by dsimp only [dat]
theorem after0_2 (c : Dev nD) (t : Fin cfg0.N) : (dat ent c).after 2 t = iblk ent c 2 t := by dsimp only [dat]
theorem after0_3 (c : Dev nD) (t : Fin cfg0.N) : (dat ent c).after 3 t = (outsAt0 ent c t.val t.isLt).1 := by dsimp only [dat]
theorem after0_4 (c : Dev nD) (t : Fin cfg0.N) : (dat ent c).after 4 t = (outsAt0 ent c t.val t.isLt).2.1 := by dsimp only [dat]
theorem after0_5 (c : Dev nD) (t : Fin cfg0.N) : (dat ent c).after 5 t = (outsAt0 ent c t.val t.isLt).2.2.1 := by dsimp only [dat]

theorem before0_0 (c : Dev nD) (t : Fin cfg0.N) (d) : (dat ent c).before 0 t d = iblk ent c 0 t :=
  before0_0_of ent (dat ent c) (A_eq ent c 0) (after0_0 ent c) t d
theorem before0_1 (c : Dev nD) (t : Fin cfg0.N) (d) : (dat ent c).before 1 t d = iblk ent c 1 t :=
  before0_1_of ent (dat ent c) (A_eq ent c 1) (after0_1 ent c) t d
theorem before0_2 (c : Dev nD) (t : Fin cfg0.N) (d) : (dat ent c).before 2 t d = iblk ent c 2 t :=
  before0_2_of ent (dat ent c) (A_eq ent c 2) (after0_2 ent c) t d

def bodyPre (c : Dev nD) (t : Fin cfg0.N) : sProp 𝕄 :=
  iprop((dat ent c).Φ t.castSucc ∗ (dat ent c).owesAt () t.castSucc
    ∗ (∃ d, owns (c : Thread nD τ) (ms0_0 t) fullShare ((dat ent c).before 0 t d))
    ∗ (∃ d, owns (c : Thread nD τ) (ms0_1 t) fullShare ((dat ent c).before 1 t d))
    ∗ (∃ d, owns (c : Thread nD τ) (ms0_2 t) fullShare ((dat ent c).before 2 t d))
    ∗ (∃ d, owns (c : Thread nD τ) (ms0_3 t) fullShare ((dat ent c).before 3 t d))
    ∗ (∃ d, owns (c : Thread nD τ) (ms0_4 t) fullShare ((dat ent c).before 4 t d))
    ∗ (∃ d, owns (c : Thread nD τ) (ms0_5 t) fullShare ((dat ent c).before 5 t d)))

def bodyPost (c : Dev nD) (t : Fin cfg0.N) : sProp 𝕄 :=
  iprop((dat ent c).Φ t.succ ∗ (dat ent c).owesAt () t.succ
    ∗ owns (c : Thread nD τ) (ms0_0 t) fullShare ((dat ent c).after 0 t)
    ∗ owns (c : Thread nD τ) (ms0_1 t) fullShare ((dat ent c).after 1 t)
    ∗ owns (c : Thread nD τ) (ms0_2 t) fullShare ((dat ent c).after 2 t)
    ∗ owns (c : Thread nD τ) (ms0_3 t) fullShare ((dat ent c).after 3 t)
    ∗ owns (c : Thread nD τ) (ms0_4 t) fullShare ((dat ent c).after 4 t)
    ∗ owns (c : Thread nD τ) (ms0_5 t) fullShare ((dat ent c).after 5 t))

set_option maxHeartbeats 3200000 in
/-- The body at a generic point takes the invariant to the next. -/
theorem sound_body (c : Dev nD) (t : Fin cfg0.N) :
    bodyPre ent c t ⊢ wp frame (wpE (defs₀ (F := F)) Variants.none c none) Set.univ (bodyAt0 t) (fun _ => bodyPost ent c t) := by
  unfold bodyPre bodyPost bodyAt0
  simp only [before0_0, before0_1, before0_2]
  rw [show (dat ent c).owesAt () t.succ = (dat ent c).owesAt () t.castSucc from rfl,
    after0_0, after0_1, after0_2, after0_3, after0_4, after0_5]
  rw [show (dat ent c).Φ t.succ = PhiS ent c (t.val + 1) t.isLt from rfl, PhiS_succ]
  have hN : t.val < 130 := lt_of_lt_of_eq t.isLt (show cfg0.N = 130 from N_0)
  by_cases h0 : t.val % 130 = 0
  · by_cases hz : t.val = 0
    · rw [PhiS_castSucc ent c t, PhiS_zero ent c _ _ hz, PhiA0_eq]
      rw [outsAt0_A ent c t h0, outsA]
      unfold out0_A_3 out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk ent c 0 t) (iblk ent c 1 t) (iblk ent c 2 t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _)
    · exfalso; have hN : t.val < 130 := lt_of_lt_of_eq t.isLt (show cfg0.N = 130 from N_0); omega
  · by_cases hz : t.val = 0
    · exfalso; have hN : t.val < 130 := lt_of_lt_of_eq t.isLt (show cfg0.N = 130 from N_0); omega
    · rw [PhiS_castSucc ent c t, PhiS_pos ent c _ _ hz]
      rw [outsAt0_B ent c t h0, outsB]
      unfold out0_B_3 out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk ent c 0 t) (iblk ent c 1 t) (iblk ent c 2 t) _).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dat (F := F) ent c) (defs₀ (F := F)) Variants.none () Set.univ := fun t => by
  rw [bigSep_W0, bigSep_W0, defs₀_row]
  exact triple_restated (sound_body ent c t) rfl .rfl fun _ => .rfl

theorem hin (c : Dev nD) : Pipeline.ΦA spec0 c ⊢ (dat ent c).Φ 0 := by
  rw [show (dat ent c).Φ 0 = PhiS ent c 0 (Nat.zero_le _) from rfl, PhiS_zero ent c 0 _ rfl]
  try exact Idealize.SL.BI.Entails.refl _

theorem Phi_out (c : Dev nD) (t : Fin (cfg0.N + 1)) (ht : t.val ≠ 0) : (dat ent c).Φ t ⊢ Pipeline.ΦA spec0 c := by
  rw [show (dat ent c).Φ t = PhiS ent c t.val (Nat.le_of_lt_succ t.isLt) from rfl, PhiS_pos ent c _ _ ht, PhiA0_eq]
  iintro ⟨HS0, Hg⟩
  isplitl [HS0]
  · iexists _; iexact HS0
  iexact Hg

theorem hout (c : Dev nD) : (dat ent c).Φ (Fin.last cfg0.N) ⊢ Pipeline.ΦA spec0 c :=
  Phi_out ent c _ (by rw [Fin.val_last]; have : cfg0.N = 130 := N_0; omega)

theorem flushed3 (c : Dev nD) (t : Fin cfg0.N) :
    (dat ent c).flushed 3 t = (cfg0.win 3).cut (grid0.coords t) ((outsAt0 ent c t.val t.isLt).1) := by
  show (cfg0.win 3).cut (grid0.coords t) ((dat ent c).after 3 t) = _
  rw [after0_3]

theorem flushed4 (c : Dev nD) (t : Fin cfg0.N) :
    (dat ent c).flushed 4 t = (cfg0.win 4).cut (grid0.coords t) ((outsAt0 ent c t.val t.isLt).2.1) := by
  show (cfg0.win 4).cut (grid0.coords t) ((dat ent c).after 4 t) = _
  rw [after0_4]

theorem flushed5 (c : Dev nD) (t : Fin cfg0.N) :
    (dat ent c).flushed 5 t = (cfg0.win 5).cut (grid0.coords t) ((outsAt0 ent c t.val t.isLt).2.2.1) := by
  show (cfg0.win 5).cut (grid0.coords t) ((dat ent c).after 5 t) = _
  rw [after0_5]

end Cert.Fwd

end
-- ==== Proof.BwdStart.lean ====
/-
  The backward call: its blocks, its one branch and its staging buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384
set_option synthInstance.maxSize 4096

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

/-- The block of window `w` at point `t`, read off the array the call is entered with. -/
def iblk (c : Dev nD) (w : Fin cfg1.W) (t : Fin cfg1.N) : ((cfg1.win w).xblock (cfg1.grid.coords t)).Idx → Elt F (cfg1.win w).elt :=
  ((cfg1.win w).blk t).view.read (Elt F) (ent c (Pipeline.arrRef spec1 w))

theorem before0_0_of {c : Dev nD} (dat : Dat τ (Elt F) Unit ℕ (UR sig nD τ) ℕ cfg1 c) (hA : dat.A 0 = ent c (Pipeline.arrRef spec1 0))
    (hafter : ∀ t, dat.after 0 t = iblk ent c 0 t) (t : Fin cfg1.N) (d) : dat.before 0 t d = iblk ent c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = ent c (Pipeline.arrRef spec1 1))
    (hafter : ∀ t, dat.after 1 t = iblk ent c 1 t) (t : Fin cfg1.N) (d) : dat.before 1 t d = iblk ent c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = ent c (Pipeline.arrRef spec1 2))
    (hafter : ∀ t, dat.after 2 t = iblk ent c 2 t) (t : Fin cfg1.N) (d) : dat.before 2 t d = iblk ent c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = ent c (Pipeline.arrRef spec1 3))
    (hafter : ∀ t, dat.after 3 t = iblk ent c 3 t) (t : Fin cfg1.N) (d) : dat.before 3 t d = iblk ent c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = ent c (Pipeline.arrRef spec1 4))
    (hafter : ∀ t, dat.after 4 t = iblk ent c 4 t) (t : Fin cfg1.N) (d) : dat.before 4 t d = iblk ent c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = ent c (Pipeline.arrRef spec1 5))
    (hafter : ∀ t, dat.after 5 t = iblk ent c 5 t) (t : Fin cfg1.N) (d) : dat.before 5 t d = iblk ent c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The condition of the body's one branch. -/
abbrev cond0_0 (i : grid1.Coords) : Prop := (Scalar.cmpi .ne (Scalar.extui (Scalar.cmpi .eq (BitVec.ofNat 32 (i 0).val) 0#32)) 0#32) = 1#1
/-- The branch is taken at the first point only. -/
theorem hcond0_0 : ∀ t : Fin cfg1.N, cond0_0 (grid1.coords t) ↔ t.val % 130 = 0 :=
  (fun t => by
    have ht : t.val < 130 := Nat.lt_of_lt_of_eq t.isLt N_1
    have e0 : (grid1.coords t 0).val = t.val / 1 % 130 := Pipeline.Grid.coords_val t 0 (by decide) rfl
    simp only [cond0_0, e0]
    word_cmp
   : ∀ t : Fin grid1.N, cond0_0 (grid1.coords t) ↔ t.val % 130 = 0)

abbrev VO0_6 : View sig .tc .vmem S64x3072 .f32 := (Memref.whole cc1_stg6_0 : Memref sig .tc .vmem S64x3072 .f32).view
abbrev VO0_7 : View sig .tc .vmem S64x128 .f32 := (Memref.whole cc1_stg7_0 : Memref sig .tc .vmem S64x128 .f32).view
abbrev VO0_8 : View sig .tc .vmem S1x8x64 .f32 := (Memref.whole cc1_stg8_0 : Memref sig .tc .vmem S1x8x64 .f32).view
abbrev ms0_0 (t : Fin cfg1.N) : Memref sig .tc .vmem S64x3072 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S64x128 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x8x64 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S64x1024 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S1x8x128x128 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x8x64x64 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S64x3072 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S64x128 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S1x8x64 .f32 := win1_8.stage (cfg1.slots t 8)
abbrev hs0_8 (t : Fin cfg1.N) : (ms0_8 t).IsWhole := hstage1_8 ((cfg1.slots t 8).cast nbuf1_8)
abbrev scM0_0 : Memref sig .tc .vmem S8x128x128 .f32 := Memref.whole cc1_scratch0
abbrev VS0_0 : View sig .tc .vmem S8x128x128 .f32 := scM0_0.view

/-- What the call never touches: every buffer of the other call, and the generator register. -/
def Side (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The invariant of the call, with its scratch held at anything. -/
theorem PhiA0_eq (c : Dev nD) :
    (Pipeline.ΦA spec1 c : sProp 𝕄)
      = iprop((∃ d, owns (c : Thread nD τ) scM0_0 fullShare d) ∗ Side (F := F) c) := by
  unfold Pipeline.ΦA Side
  rw [Pipeline.scopedRest_split_of_list spec1 c [cc1_scratch0] (by decide) (by decide)]
  simp only [scM0_0, owns_whole]
  exact Idealize.SL.BI.equiv_iff.mp ⟨Idealize.SL.BI.sep_assoc, Idealize.SL.BI.sep_assoc'⟩

end Cert.Bwd

end
-- ==== Proof.BwdRunA.lean ====
/-
  The backward call at its first point, run through.
-/
module

public import proofs.«01_k».proof.Proof.BwdStart

@[expose] public section

set_option maxRecDepth 16384
set_option synthInstance.maxSize 4096

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

set_option maxHeartbeats 1260000 in
/-- The body at the first point: the pieces its stores leave in every output and in the scratch. -/
noncomputable def kernelRun0_A (c : Dev nD) (i : grid1.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S64x3072 .f32) (harg7 : arg7.IsWhole) (arg8 : Memref sig .tc .vmem S64x128 .f32) (harg8 : arg8.IsWhole) (arg9 : Memref sig .tc .vmem S1x8x64 .f32) (harg9 : arg9.IsWhole) (arg10 : Memref sig .tc .vmem S8x128x128 .f32) (harg10 : arg10.IsWhole) (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) :
    Σ' (L6 : List (View.Piece (Elt F) S64x3072 .f32)), Σ' (L7 : List (View.Piece (Elt F) S64x128 .f32)), Σ' (L8 : List (View.Piece (Elt F) S1x8x64 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc1_dn_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_dn_bwd_eq_skeleton]; unfold cc1_dn_bwd_skel
    simp only [k1_part39_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

end Cert.Bwd

end
-- ==== Proof.BwdRunB.lean ====
/-
  The backward call at a later point, run through.
-/
module

public import proofs.«01_k».proof.Proof.BwdStart

@[expose] public section

set_option maxRecDepth 16384
set_option synthInstance.maxSize 4096

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

set_option maxHeartbeats 1248000 in
/-- The body at a later point, over what the scratch held: the pieces its stores leave. -/
noncomputable def kernelRun0_B (c : Dev nD) (i : grid1.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S64x3072 .f32) (harg7 : arg7.IsWhole) (arg8 : Memref sig .tc .vmem S64x128 .f32) (harg8 : arg8.IsWhole) (arg9 : Memref sig .tc .vmem S1x8x64 .f32) (harg9 : arg9.IsWhole) (arg10 : Memref sig .tc .vmem S8x128x128 .f32) (harg10 : arg10.IsWhole) (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) :
    Σ' (L6 : List (View.Piece (Elt F) S64x3072 .f32)), Σ' (L7 : List (View.Piece (Elt F) S64x128 .f32)), Σ' (L8 : List (View.Piece (Elt F) S1x8x64 .f32)), { LS0 : List (View.Piece (Elt F) S8x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc1_dn_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1_dn_bwd_eq_skeleton]; unfold cc1_dn_bwd_skel
    simp only [k1_part39_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS0

end Cert.Bwd

end
-- ==== Proof.BwdPoints.lean ====
/-
  The backward call: what every point leaves, and the body at a generic point.
-/
module

public import proofs.«01_k».proof.Proof.BwdRunA
public import proofs.«01_k».proof.Proof.BwdRunB
public import Idealize.ShloMosaic.Lib.Claim
public import Idealize.ShloMosaic.Lib.Pipeline.Value

@[expose] public section

set_option maxRecDepth 16384
set_option synthInstance.maxSize 4096

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (ent : ∀ c : Dev nD, ∀ b : Ref sig .tc, Buf (Elt F) ((c : Thread nD τ).loc b))

section Outs

variable (c : Dev nD) (i : grid1.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S64x3072 .f32) (harg7 : arg7.IsWhole) (arg8 : Memref sig .tc .vmem S64x128 .f32) (harg8 : arg8.IsWhole) (arg9 : Memref sig .tc .vmem S1x8x64 .f32) (harg9 : arg9.IsWhole) (arg10 : Memref sig .tc .vmem S8x128x128 .f32) (harg10 : arg10.IsWhole)

theorem cover0_A_6 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (y : S64x3072.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5).1 S64x128.size (by sl_kernel_rfl) y

def out0_A_6 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) : Vec F S64x3072 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3 x4 x5).1)

theorem cover0_A_7 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (y : S64x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5).2.1 S64x128.size (by sl_kernel_rfl) y

def out0_A_7 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) : Vec F S64x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5).2.1)

theorem cover0_A_8 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (y : S1x8x64.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5).2.2.1 S1x8x64.size (by sl_kernel_rfl) y

def out0_A_8 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) : Vec F S1x8x64 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3 x4 x5).2.2.1)

theorem scover0_A_0 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (y : S8x128x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 hc0 x0 x1 x2 x3 x4 x5).2.2.2.1 (by sl_whole_mem) y

def sout0_A_0 (hc0 : cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) : Vec F S8x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 x0 x1 x2 x3 x4 x5).2.2.2.1)

theorem cover0_B_6 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) (y : S64x3072.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs0).1 S64x128.size (by sl_kernel_rfl) y

def out0_B_6 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) : Vec F S64x3072 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 x0 x1 x2 x3 x4 x5 xs0).1)

theorem cover0_B_7 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) (y : S64x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs0).2.1 S64x128.size (by sl_kernel_rfl) y

def out0_B_7 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) : Vec F S64x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 xs0).2.1)

theorem cover0_B_8 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) (y : S1x8x64.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs0).2.2.1 S1x8x64.size (by sl_kernel_rfl) y

def out0_B_8 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) : Vec F S1x8x64 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 x4 x5 xs0).2.2.1)

theorem scover0_B_0 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) (y : S8x128x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 xs0).2.2.2.1 S1x128x128.size (by sl_kernel_rfl) y

def sout0_B_0 (hc0 : ¬cond0_0 i)
    (x0 : Vec F S64x3072 .f32) (x1 : Vec F S64x128 .f32) (x2 : Vec F S1x8x64 .f32) (x3 : Vec F S64x1024 .f32) (x4 : Vec F S1x8x128x128 .f32) (x5 : Vec F S1x8x64x64 .f32) (xs0 : Vec F S8x128x128 .f32) : Vec F S8x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 x0 x1 x2 x3 x4 x5 xs0).2.2.2.1)

end Outs

/-- What the outputs and the scratch hold after the first point, and after a later one, from what the scratch held before. -/
def outsA (c : Dev nD) (t : Fin cfg1.N) (h0 : t.val % 130 = 0) : Vec F S64x3072 .f32 × Vec F S64x128 .f32 × Vec F S1x8x64 .f32 × Vec F S8x128x128 .f32 :=
  (out0_A_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk ent c 0 t) (iblk ent c 1 t) (iblk ent c 2 t) (iblk ent c 3 t) (iblk ent c 4 t) (iblk ent c 5 t), out0_A_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk ent c 0 t) (iblk ent c 1 t) (iblk ent c 2 t) (iblk ent c 3 t) (iblk ent c 4 t) (iblk ent c 5 t), out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk ent c 0 t) (iblk ent c 1 t) (iblk ent c 2 t) (iblk ent c 3 t) (iblk ent c 4 t) (iblk ent c 5 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk ent c 0 t) (iblk ent c 1 t) (iblk ent c 2 t) (iblk ent c 3 t) (iblk ent c 4 t) (iblk ent c 5 t))
def outsB (c : Dev nD) (t : Fin cfg1.N) (h0 : ¬t.val % 130 = 0) (x : Vec F S8x128x128 .f32) : Vec F S64x3072 .f32 × Vec F S64x128 .f32 × Vec F S1x8x64 .f32 × Vec F S8x128x128 .f32 :=
  (out0_B_6 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk ent c 0 t) (iblk ent c 1 t) (iblk ent c 2 t) (iblk ent c 3 t) (iblk ent c 4 t) (iblk ent c 5 t) x, out0_B_7 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk ent c 0 t) (iblk ent c 1 t) (iblk ent c 2 t) (iblk ent c 3 t) (iblk ent c 4 t) (iblk ent c 5 t) x, out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk ent c 0 t) (iblk ent c 1 t) (iblk ent c 2 t) (iblk ent c 3 t) (iblk ent c 4 t) (iblk ent c 5 t) x, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk ent c 0 t) (iblk ent c 1 t) (iblk ent c 2 t) (iblk ent c 3 t) (iblk ent c 4 t) (iblk ent c 5 t) x)
/-- What the outputs and the scratch hold after point `n`. -/
def outsAt0 (c : Dev nD) : (n : ℕ) → n < cfg1.N → Vec F S64x3072 .f32 × Vec F S64x128 .f32 × Vec F S1x8x64 .f32 × Vec F S8x128x128 .f32
  | 0, hn => outsA ent c ⟨0, hn⟩ (Nat.zero_mod _)
  | n + 1, hn => if h0 : (n + 1) % 130 = 0 then outsA ent c ⟨n + 1, hn⟩ h0 else outsB ent c ⟨n + 1, hn⟩ h0 (outsAt0 c n (Nat.lt_of_succ_lt hn)).2.2.2

theorem outsAt0_A (c : Dev nD) (t : Fin cfg1.N) (h0 : t.val % 130 = 0) :
    outsAt0 ent c t.val t.isLt = outsA ent c t h0 := by
  obtain ⟨n, hn⟩ := t
  cases n with
  | zero => exact rfl
  | succ n => exact (dif_pos h0).trans rfl

theorem outsAt0_B (c : Dev nD) (t : Fin cfg1.N) (h0 : ¬t.val % 130 = 0) :
    outsAt0 ent c t.val t.isLt = outsB ent c t h0 (outsAt0 ent c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-- The invariant before point `n`: the scratch holds what the point before left. -/
def PhiS (c : Dev nD) : (n : ℕ) → n ≤ cfg1.N → sProp 𝕄
  | 0, _ => Pipeline.ΦA spec1 c
  | n + 1, hn => iprop(iprop(owns (c : Thread nD τ) scM0_0 fullShare ((outsAt0 ent c n hn).2.2.2)) ∗ Side (F := F) c)

theorem PhiS_zero (c : Dev nD) (n : ℕ) (h : n ≤ cfg1.N) (hz : n = 0) : PhiS ent c n h = Pipeline.ΦA spec1 c := by
  subst hz; rfl

theorem PhiS_succ (c : Dev nD) (n : ℕ) (hn : n < cfg1.N) :
    PhiS ent c (n + 1) hn = iprop(iprop(owns (c : Thread nD τ) scM0_0 fullShare ((outsAt0 ent c n hn).2.2.2)) ∗ Side (F := F) c) := rfl

theorem PhiS_pos (c : Dev nD) (n : ℕ) (h : n ≤ cfg1.N) (hz : n ≠ 0) :
    PhiS ent c n h = iprop(iprop(owns (c : Thread nD τ) scM0_0 fullShare ((outsAt0 ent c (n - 1) (by omega)).2.2.2)) ∗ Side (F := F) c) := by
  cases n with
  | zero => exact absurd rfl hz
  | succ n => rfl

/-- The proof data of the call: the arrays as it is entered with them, the blocks as the points leave them. -/
def dat (c : Dev nD) : Dat τ (Elt F) Unit ℕ (UR sig nD τ) ℕ cfg1 c where
  A w := ent c (Pipeline.arrRef spec1 w)
  after w t := match w with
    | ⟨0, _⟩ => iblk ent c 0 t
    | ⟨1, _⟩ => iblk ent c 1 t
    | ⟨2, _⟩ => iblk ent c 2 t
    | ⟨3, _⟩ => iblk ent c 3 t
    | ⟨4, _⟩ => iblk ent c 4 t
    | ⟨5, _⟩ => iblk ent c 5 t
    | ⟨6, _⟩ => (outsAt0 ent c t.val t.isLt).1
    | ⟨7, _⟩ => (outsAt0 ent c t.val t.isLt).2.1
    | ⟨8, _⟩ => (outsAt0 ent c t.val t.isLt).2.2.1
  Φ t := PhiS ent c t.val (Nat.le_of_lt_succ t.isLt)
  q _ := fullShare
  owed _ := 0

theorem A_eq (c : Dev nD) (w : Fin cfg1.W) : (dat ent c).A w = ent c (Pipeline.arrRef spec1 w) := by
  dsimp only [dat]

theorem PhiS_castSucc (c : Dev nD) (t : Fin cfg1.N) :
    (dat ent c).Φ t.castSucc = PhiS ent c t.val (Nat.le_of_lt t.isLt) := by
  dsimp only [dat]; exact Pipeline.Dat.Φ_castSucc (PhiS ent c) t

theorem after0_0 (c : Dev nD) (t : Fin cfg1.N) : (dat ent c).after 0 t = iblk ent c 0 t := by dsimp only [dat]
theorem after0_1 (c : Dev nD) (t : Fin cfg1.N) : (dat ent c).after 1 t = iblk ent c 1 t := by dsimp only [dat]
theorem after0_2 (c : Dev nD) (t : Fin cfg1.N) : (dat ent c).after 2 t = iblk ent c 2 t := by dsimp only [dat]
theorem after0_3 (c : Dev nD) (t : Fin cfg1.N) : (dat ent c).after 3 t = iblk ent c 3 t := by dsimp only [dat]
theorem after0_4 (c : Dev nD) (t : Fin cfg1.N) : (dat ent c).after 4 t = iblk ent c 4 t := by dsimp only [dat]
theorem after0_5 (c : Dev nD) (t : Fin cfg1.N) : (dat ent c).after 5 t = iblk ent c 5 t := by dsimp only [dat]
theorem after0_6 (c : Dev nD) (t : Fin cfg1.N) : (dat ent c).after 6 t = (outsAt0 ent c t.val t.isLt).1 := by dsimp only [dat]
theorem after0_7 (c : Dev nD) (t : Fin cfg1.N) : (dat ent c).after 7 t = (outsAt0 ent c t.val t.isLt).2.1 := by dsimp only [dat]
theorem after0_8 (c : Dev nD) (t : Fin cfg1.N) : (dat ent c).after 8 t = (outsAt0 ent c t.val t.isLt).2.2.1 := by dsimp only [dat]

theorem before0_0 (c : Dev nD) (t : Fin cfg1.N) (d) : (dat ent c).before 0 t d = iblk ent c 0 t :=
  before0_0_of ent (dat ent c) (A_eq ent c 0) (after0_0 ent c) t d
theorem before0_1 (c : Dev nD) (t : Fin cfg1.N) (d) : (dat ent c).before 1 t d = iblk ent c 1 t :=
  before0_1_of ent (dat ent c) (A_eq ent c 1) (after0_1 ent c) t d
theorem before0_2 (c : Dev nD) (t : Fin cfg1.N) (d) : (dat ent c).before 2 t d = iblk ent c 2 t :=
  before0_2_of ent (dat ent c) (A_eq ent c 2) (after0_2 ent c) t d
theorem before0_3 (c : Dev nD) (t : Fin cfg1.N) (d) : (dat ent c).before 3 t d = iblk ent c 3 t :=
  before0_3_of ent (dat ent c) (A_eq ent c 3) (after0_3 ent c) t d
theorem before0_4 (c : Dev nD) (t : Fin cfg1.N) (d) : (dat ent c).before 4 t d = iblk ent c 4 t :=
  before0_4_of ent (dat ent c) (A_eq ent c 4) (after0_4 ent c) t d
theorem before0_5 (c : Dev nD) (t : Fin cfg1.N) (d) : (dat ent c).before 5 t d = iblk ent c 5 t :=
  before0_5_of ent (dat ent c) (A_eq ent c 5) (after0_5 ent c) t d

def bodyPre (c : Dev nD) (t : Fin cfg1.N) : sProp 𝕄 :=
  iprop((dat ent c).Φ t.castSucc ∗ (dat ent c).owesAt () t.castSucc
    ∗ (∃ d, owns (c : Thread nD τ) (ms0_0 t) fullShare ((dat ent c).before 0 t d))
    ∗ (∃ d, owns (c : Thread nD τ) (ms0_1 t) fullShare ((dat ent c).before 1 t d))
    ∗ (∃ d, owns (c : Thread nD τ) (ms0_2 t) fullShare ((dat ent c).before 2 t d))
    ∗ (∃ d, owns (c : Thread nD τ) (ms0_3 t) fullShare ((dat ent c).before 3 t d))
    ∗ (∃ d, owns (c : Thread nD τ) (ms0_4 t) fullShare ((dat ent c).before 4 t d))
    ∗ (∃ d, owns (c : Thread nD τ) (ms0_5 t) fullShare ((dat ent c).before 5 t d))
    ∗ (∃ d, owns (c : Thread nD τ) (ms0_6 t) fullShare ((dat ent c).before 6 t d))
    ∗ (∃ d, owns (c : Thread nD τ) (ms0_7 t) fullShare ((dat ent c).before 7 t d))
    ∗ (∃ d, owns (c : Thread nD τ) (ms0_8 t) fullShare ((dat ent c).before 8 t d)))

def bodyPost (c : Dev nD) (t : Fin cfg1.N) : sProp 𝕄 :=
  iprop((dat ent c).Φ t.succ ∗ (dat ent c).owesAt () t.succ
    ∗ owns (c : Thread nD τ) (ms0_0 t) fullShare ((dat ent c).after 0 t)
    ∗ owns (c : Thread nD τ) (ms0_1 t) fullShare ((dat ent c).after 1 t)
    ∗ owns (c : Thread nD τ) (ms0_2 t) fullShare ((dat ent c).after 2 t)
    ∗ owns (c : Thread nD τ) (ms0_3 t) fullShare ((dat ent c).after 3 t)
    ∗ owns (c : Thread nD τ) (ms0_4 t) fullShare ((dat ent c).after 4 t)
    ∗ owns (c : Thread nD τ) (ms0_5 t) fullShare ((dat ent c).after 5 t)
    ∗ owns (c : Thread nD τ) (ms0_6 t) fullShare ((dat ent c).after 6 t)
    ∗ owns (c : Thread nD τ) (ms0_7 t) fullShare ((dat ent c).after 7 t)
    ∗ owns (c : Thread nD τ) (ms0_8 t) fullShare ((dat ent c).after 8 t))

set_option maxHeartbeats 6400000 in
/-- The body at a generic point takes the invariant to the next. -/
theorem sound_body (c : Dev nD) (t : Fin cfg1.N) :
    bodyPre ent c t ⊢ wp frame (wpE (defs₀ (F := F)) Variants.none c none) Set.univ (bodyAt1 t) (fun _ => bodyPost ent c t) := by
  unfold bodyPre bodyPost bodyAt1
  simp only [before0_0, before0_1, before0_2, before0_3, before0_4, before0_5]
  rw [show (dat ent c).owesAt () t.succ = (dat ent c).owesAt () t.castSucc from rfl,
    after0_0, after0_1, after0_2, after0_3, after0_4, after0_5, after0_6, after0_7, after0_8]
  rw [show (dat ent c).Φ t.succ = PhiS ent c (t.val + 1) t.isLt from rfl, PhiS_succ]
  have hN : t.val < 130 := lt_of_lt_of_eq t.isLt (show cfg1.N = 130 from N_1)
  by_cases h0 : t.val % 130 = 0
  · by_cases hz : t.val = 0
    · rw [PhiS_castSucc ent c t, PhiS_zero ent c _ _ hz, PhiA0_eq]
      rw [outsAt0_A ent c t h0, outsA]
      unfold out0_A_6 out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid1.coords t) _ _ _ _ _ _ _ _ _ _ _ _ _ _ _ _ _ _ _ _ ((hcond0_0 t).mpr h0) (iblk ent c 0 t) (iblk ent c 1 t) (iblk ent c 2 t) (iblk ent c 3 t) (iblk ent c 4 t) (iblk ent c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _)
    · exfalso; have hN : t.val < 130 := lt_of_lt_of_eq t.isLt (show cfg1.N = 130 from N_1); omega
  · by_cases hz : t.val = 0
    · exfalso; have hN : t.val < 130 := lt_of_lt_of_eq t.isLt (show cfg1.N = 130 from N_1); omega
    · rw [PhiS_castSucc ent c t, PhiS_pos ent c _ _ hz]
      rw [outsAt0_B ent c t h0, outsB]
      unfold out0_B_6 out0_B_7 out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid1.coords t) _ _ _ _ _ _ _ _ _ _ _ _ _ _ _ _ _ _ _ _ (fun h => h0 ((hcond0_0 t).mp h)) (iblk ent c 0 t) (iblk ent c 1 t) (iblk ent c 2 t) (iblk ent c 3 t) (iblk ent c 4 t) (iblk ent c 5 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, ⟨%e6, H6⟩, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _)

theorem row (t : Fin cfg1.N) :
    defs₀ (F := F) .tc cfg1.body (cfg1.bodyArgs t (cfg1.slots t)) = bodyAt1 t := by
  unfold defs₀; rw [Defs.onTc_tc]

/-- The body's obligation, at every point. -/
theorem body_obligation (c : Dev nD) : BodyObligation (dat (F := F) ent c) (defs₀ (F := F)) Variants.none () Set.univ := fun t => by
  rw [bigSep_W1, bigSep_W1, row]
  exact triple_restated (sound_body ent c t) rfl .rfl fun _ => .rfl

theorem hin (c : Dev nD) : Pipeline.ΦA spec1 c ⊢ (dat ent c).Φ 0 := by
  rw [show (dat ent c).Φ 0 = PhiS ent c 0 (Nat.zero_le _) from rfl, PhiS_zero ent c 0 _ rfl]
  try exact Idealize.SL.BI.Entails.refl _

theorem Phi_out (c : Dev nD) (t : Fin (cfg1.N + 1)) (ht : t.val ≠ 0) : (dat ent c).Φ t ⊢ Pipeline.ΦA spec1 c := by
  rw [show (dat ent c).Φ t = PhiS ent c t.val (Nat.le_of_lt_succ t.isLt) from rfl, PhiS_pos ent c _ _ ht, PhiA0_eq]
  iintro ⟨HS0, Hg⟩
  isplitl [HS0]
  · iexists _; iexact HS0
  iexact Hg

theorem hout (c : Dev nD) : (dat ent c).Φ (Fin.last cfg1.N) ⊢ Pipeline.ΦA spec1 c :=
  Phi_out ent c _ (by rw [Fin.val_last]; have : cfg1.N = 130 := N_1; omega)

theorem flushed6 (c : Dev nD) (t : Fin cfg1.N) :
    (dat ent c).flushed 6 t = (cfg1.win 6).cut (grid1.coords t) ((outsAt0 ent c t.val t.isLt).1) := by
  show (cfg1.win 6).cut (grid1.coords t) ((dat ent c).after 6 t) = _
  rw [after0_6]

theorem flushed7 (c : Dev nD) (t : Fin cfg1.N) :
    (dat ent c).flushed 7 t = (cfg1.win 7).cut (grid1.coords t) ((outsAt0 ent c t.val t.isLt).2.1) := by
  show (cfg1.win 7).cut (grid1.coords t) ((dat ent c).after 7 t) = _
  rw [after0_7]

theorem flushed8 (c : Dev nD) (t : Fin cfg1.N) :
    (dat ent c).flushed 8 t = (cfg1.win 8).cut (grid1.coords t) ((outsAt0 ent c t.val t.isLt).2.2.1) := by
  show (cfg1.win 8).cut (grid1.coords t) ((dat ent c).after 8 t) = _
  rw [after0_8]

end Cert.Bwd

end
-- ==== Proof.KernelRun.lean ====
/-
  The kernel's run: the host's preparation, the forward call, the backward call, the host's last
  lines.  What every buffer holds at the end is a term of the arguments.
-/
module

public import proofs.«01_k».proof.Proof.FwdPoints
public import proofs.«01_k».proof.Proof.BwdPoints
public import proofs.«01_k».proof.Proof.Gen.KernelIdeal.Regions
public import Idealize.ShloMosaic.Lib.Pipeline.RegionArraysS

@[expose] public section

set_option maxRecDepth 16384
set_option synthInstance.maxSize 4096

noncomputable section

namespace Cert.KernelRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-- The buffers as the forward call is entered. -/
def W1 (c : Dev nD) : Valuation τ sig (Elt F) := StableHlo.after hostOps0 (V0 m c)
/-- The same, by reference. -/
def ent0 (c : Dev nD) (b : Ref sig .tc) : Buf (Elt F) ((c : Thread nD τ).loc b) := W1 m c (Proc.devRef .tc b)
/-- The buffers between the two calls. -/
def W2 (c : Dev nD) : Valuation τ sig (Elt F) := afterRegion (Fwd.dat (ent0 m) c) (W1 m c)
/-- The same, by reference. -/
def ent1 (c : Dev nD) (b : Ref sig .tc) : Buf (Elt F) ((c : Thread nD τ).loc b) := W2 m c (Proc.devRef .tc b)
/-- The buffers after the backward call. -/
def W3 (c : Dev nD) : Valuation τ sig (Elt F) := afterRegion (Bwd.dat (ent1 m) c) (W2 m c)
/-- After the host's stretches. -/
def W4 (c : Dev nD) : Valuation τ sig (Elt F) := StableHlo.after hostOps2 (W3 m c)
def W5 (c : Dev nD) : Valuation τ sig (Elt F) := StableHlo.after hostOps2_1 (W4 m c)
def W6 (c : Dev nD) : Valuation τ sig (Elt F) := StableHlo.after hostOps2_2 (W5 m c)

/-- The proof data of the two calls. -/
def pdats : (p : Fin 2) → (c : Dev nD) → Dat τ (Elt F) Unit ℕ (UR sig nD τ) ℕ (cfgs p) c
  | ⟨0, _⟩ => Fwd.dat (ent0 m)
  | ⟨1, _⟩ => Bwd.dat (ent1 m)

/-- One level, for the TensorCores' cells. -/
def L (g : GSem nD τ sig) : Finset Unit := if g.1.2 = .tc then {()} else ∅
def lv (_ : GSem nD τ sig) (_ : Unit) : ℕ := 0

/-- The generator's register, at anything. -/
def Reg (c : Dev nD) : sProp 𝕄 := iprop(∃ r, prngReg c r)
/-- What rides beside the buffers: nothing is owed, and the register. -/
abbrev E (c : Dev nD) : sProp 𝕄 :=
  iprop((∃ W, owes (c : Thread nD τ) (0 : CellTallies nD τ sig Unit) W) ∗ Reg (F := F) c ∗ emp)

theorem cut (p : Fin 2) : Pipeline.LevelCut (nD := nD) (τ := τ) (pcfgs (F := F)) adm () L lv p (fun _ => 0) (fun _ => 0) :=
  ⟨fun _ _ _ => Finset.mem_singleton_self _, fun _ _ _ => le_refl _, fun _ _ _ h => absurd h (lt_irrefl _)⟩

set_option backward.isDefEq.respectTransparency.types false in
/-- The forward call as a region of the run. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (Reg (F := F)) (Reg (F := F)) launch0.toP rfl (fun c => (Fwd.body_obligation (ent0 m) c).loose) (fun _ _ => rfl)
    (fun _ => rfl) (fun c => (Fwd.dat (ent0 m) c).share_full fun _ => rfl)
    (fun c => (show _ from Fwd.hin (ent0 m) c)) (fun c => (show _ from Fwd.hout (ent0 m) c))
    (fun _ => 0) (cut 0) (fun _ => iprop(emp)) (W1 m) (fun _ _ => rfl)

set_option backward.isDefEq.respectTransparency.types false in
/-- The backward call as a region of the run. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (Reg (F := F)) (Reg (F := F)) launch1.toP rfl (fun c => (Bwd.body_obligation (ent1 m) c).loose) (fun _ _ => rfl)
    (fun _ => rfl) (fun c => (Bwd.dat (ent1 m) c).share_full fun _ => rfl)
    (fun c => (show _ from Bwd.hin (ent1 m) c)) (fun c => (show _ from Bwd.hout (ent1 m) c))
    (fun _ => 0) (cut 1) (fun _ => iprop(emp)) (W2 m) (fun _ _ => rfl)

theorem arr0 : Pipeline.arrRefs (τ := τ) (pcfgs (F := F) 0).spec ⊆ Pipeline.ucRefs τ sig :=
  Pipeline.arrRefs_sub_ucRefs spec0 (by decide)
theorem arr1 : Pipeline.arrRefs (τ := τ) (pcfgs (F := F) 1).spec ⊆ Pipeline.ucRefs τ sig :=
  Pipeline.arrRefs_sub_ucRefs spec1 (by decide)

set_option backward.isDefEq.respectTransparency.types false in
theorem pre0 (c : Dev nD) :
    iprop(StableHlo.held (c : Thread nD τ) (Pipeline.ucRefs τ sig) (W1 m c) ∗ E (F := F) c) ⊢ (reg0 m).pre c := by
  refine BIBase.Entails.trans ?_ (RegionSeg.ofHeldIn_pre (arr0 (F := F)) c)
  exact .rfl
set_option backward.isDefEq.respectTransparency.types false in
theorem post0 (c : Dev nD) :
    (reg0 m).post c ⊢ iprop(StableHlo.held (c : Thread nD τ) (Pipeline.ucRefs τ sig) (W2 m c) ∗ E (F := F) c) :=
  RegionSeg.ofHeldIn_post (arr0 (F := F)) c
set_option backward.isDefEq.respectTransparency.types false in
theorem pre1 (c : Dev nD) :
    iprop(StableHlo.held (c : Thread nD τ) (Pipeline.ucRefs τ sig) (W2 m c) ∗ E (F := F) c) ⊢ (reg1 m).pre c := by
  refine BIBase.Entails.trans ?_ (RegionSeg.ofHeldIn_pre (arr1 (F := F)) c)
  exact .rfl
set_option backward.isDefEq.respectTransparency.types false in
theorem post1 (c : Dev nD) :
    (reg1 m).post c ⊢ iprop(StableHlo.held (c : Thread nD τ) (Pipeline.ucRefs τ sig) (W3 m c) ∗ E (F := F) c) :=
  RegionSeg.ofHeldIn_post (arr1 (F := F)) c

/-- A host stretch of the run. -/
def host (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) W (E (F := F))

/-- The run's items in order. -/
abbrev items : List (Seg (pcfgs (F := F)) adm (pdats m) () defs₀ Variants.none L lv) :=
  [.host (host hostOps0 hostOps0_sub hostOps0_fresh (V0 m)), .region (reg0 m), .region (reg1 m),
    .host (host hostOps2 hostOps2_sub hostOps2_fresh (W3 m)),
    .host (host hostOps2_1 hostOps2_1_sub hostOps2_1_fresh (W4 m)),
    .host (host hostOps2_2 hostOps2_2_sub hostOps2_2_fresh (W5 m))]

theorem arr_inj0 : Function.Injective (Pipeline.arrRef spec0) := by decide
theorem arr_inj1 : Function.Injective (Pipeline.arrRef spec1) := by decide

variable (ρ : Dev nD → PrngReg)

theorem launch_one (c : Dev nD) : (iprop(unscopedBufs c (fun b => m ((c.tc : Thread nD τ).loc b)) ∗ unscopedSems0 c
          ∗ owes (c.tc : Thread nD τ) (0 : CellTallies nD τ sig Unit) ∅ ∗ Pipeline.launchCred (fun _ => 0 : Dev nD → CellTallies nD τ sig Unit) c ∗ prngReg c (ρ c) ∗ emp) : sProp 𝕄)
        ⊢ iprop(StableHlo.held (c : Thread nD τ) (Pipeline.ucRefs τ sig) (V0 m c) ∗ E (F := F) c) := by
  rw [← Pipeline.unscopedBufs_held (Ix := Unit) (Name := ℕ) (U := UR sig nD τ) (Lvl := ℕ) c (V0 m c)]
  unfold E Reg
  iintro ⟨Hb, -, HO, -, Hp, -⟩
  isplitl [Hb]; · iexact Hb
  isplitl [HO]; · iexists _; iexact HO
  isplitl [Hp]; · iexists _; iexact Hp
  iempintro

set_option backward.isDefEq.respectTransparency.types false in
/-- Every execution ends, with every unscoped buffer at `W6` and every counter at zero. -/
theorem run :
    θ_run defs (onTc (τ := τ) (main (F := F))) ⟨m, fun _ => 0, ρ⟩ (fun r => (∀ c : Dev nD, ∀ b : DevRef τ sig,
      b ∈ Pipeline.ucRefs τ sig → r.2.mem (c, b) = W6 m c b) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      dsimp (config := { failIfUnchanged := false }) only
      exact .rfl)
    (fun c => by simp only [items, Seg.pipes_host, Seg.pipes_region, Seg.pipes_nil]; decide) (fun _ => 0)
    (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E (F := F) c))
    (Tₙ := fun c => StableHlo.held (c : Thread nD τ) (Pipeline.ucRefs τ sig) (W6 m c))
    (hch := fun c => ⟨.rfl, pre0 m c, (post0 m c).trans (pre1 m c), post1 m c, .rfl, .rfl, ?_⟩)
    (hinit := ?_) (QY := fun c s => ∀ b : DevRef τ sig, b ∈ Pipeline.ucRefs τ sig → s.mem (c, b) = W6 m c b)
    (hfin := fun c s' => ?_) (hQ := fun _ h hz => ⟨h, funext fun g => hz g (.inr (regions_no_unscoped g.2))⟩)
  · show iprop(StableHlo.held (c : Thread nD τ) (Pipeline.ucRefs τ sig) (W6 m c) ∗ E (F := F) c) ⊢ _
    iintro ⟨Hh, HO, -, -⟩
    isplitl [Hh]; · iexact Hh
    iexact HO
  · iintro ⟨H, -⟩
    imodintro
    iapply (show (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0 : Dev nD → CellTallies nD τ sig Unit) c ∗ prngReg c (ρ c) ∗ emp) : sProp 𝕄))
        ⊢ (bigSep Finset.univ fun c : Dev nD => iprop(StableHlo.held (c : Thread nD τ) (Pipeline.ucRefs τ sig) (V0 m c) ∗ E (F := F) c)) from bigSep_mono fun c _ => launch_one m ρ c)
    iexact H
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact h
    · iexact HSI

/-- The two calls and the host's lines leave a buffer that none of them writes. -/
theorem W6_keep (c : Dev nD) (r : Ref sig .tc) (h0 : r ∉ hostOps0_W) (h2 : r ∉ hostOps2_W) (h3 : r ∉ hostOps2_1_W) (h4 : r ∉ hostOps2_2_W)
    (hF : ∀ w, Pipeline.arrRef spec0 w = r → (cfg0.win w).isOut = false) (hB : ∀ w, Pipeline.arrRef spec1 w = r → (cfg1.win w).isOut = false) :
    W6 m c (Proc.devRef .tc r) = m ((c.tc : Thread nD τ).loc r) :=
  (StableHlo.after_of_writes_sub hostOps2_2 _ hostOps2_2_writes h4).trans <|
  (StableHlo.after_of_writes_sub hostOps2_1 _ hostOps2_1_writes h3).trans <|
  (StableHlo.after_of_writes_sub hostOps2 _ hostOps2_writes h2).trans <|
  (Pipeline.afterRegion_keeps (Bwd.dat (ent1 m) c) (W2 m c) arr_inj1 (Bwd.A_eq (ent1 m) c) r hB).trans <|
  (Pipeline.afterRegion_keeps (Fwd.dat (ent0 m) c) (W1 m c) arr_inj0 (Fwd.A_eq (ent0 m) c) r hF).trans <|
  (StableHlo.after_of_writes_sub hostOps0 _ hostOps0_writes h0)

/-- Each argument ends as launched and every counter at zero. -/
theorem args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (Proc.devRef .tc main_arg0) (Finset.mem_filter.mpr ⟨StableHlo.devRef_mem_tcRefs main_arg0, by decide⟩)).trans
        (W6_keep m c main_arg0 (by decide) (by decide) (by decide) (by decide) (by decide) (by decide)),
      (h.1 c (Proc.devRef .tc main_arg1) (Finset.mem_filter.mpr ⟨StableHlo.devRef_mem_tcRefs main_arg1, by decide⟩)).trans
        (W6_keep m c main_arg1 (by decide) (by decide) (by decide) (by decide) (by decide) (by decide)),
      (h.1 c (Proc.devRef .tc main_arg2) (Finset.mem_filter.mpr ⟨StableHlo.devRef_mem_tcRefs main_arg2, by decide⟩)).trans
        (W6_keep m c main_arg2 (by decide) (by decide) (by decide) (by decide) (by decide) (by decide))⟩, h.2⟩) (run m ρ)

end Cert.KernelRun

end
-- ==== Proof.Lift.lean ====
/-
  Real matrices inside the vectors of the idealised program.

  `up A` is the vector whose entry at (i, j) is the real number `A i j`. Each theorem says what one vector
  operation of the programs gives on such vectors: the entrywise operations, the format changes, the products, the
  broadcasts, the column and row slices, the joining of two blocks of columns and the masks of a triangle.
-/
module

public import proofs.«01_k».proof.Proof.Gen.KernelIdeal.Skeleton
public import Idealize.ShloMosaic.Lib.Pointwise.Contract
public import Idealize.ShloMosaic.Lib.Pointwise.Reduce
public import Idealize.ShloMosaic.Lib.Pointwise.Elementwise
public import Idealize.ShloMosaic.Lib.Pointwise.Select
public import Idealize.ShloMosaic.Lib.Pointwise.ShapeOps
public import Idealize.ShloMosaic.Lib.Pointwise.Reshape
public import Mathlib.Data.Matrix.Mul
public import Mathlib.Analysis.SpecialFunctions.Exp

@[expose] public section

set_option maxRecDepth 16384

noncomputable section
namespace Cert.Lift

open Cert.KernelIdeal Idealize.ShloMosaic

/-- A real matrix of `n` rows and `m` columns. -/
abbrev Mat (n m : ℕ) := Matrix (Fin n) (Fin m) ℝ

/-- The entrywise product. -/
def had {n m : ℕ} (A B : Mat n m) : Mat n m := fun i j => A i j * B i j

/-- The vector with the entries of the real matrix `A`. -/
def up {n m : ℕ} {φ : FTy} (A : Mat n m) : FVec Ideal ⟨2, ![n, m]⟩ φ := fun i => ((A (i 0) (i 1) : ℝ) : EReal)

variable {n m l : ℕ} {φ ψ : FTy}

theorem up_ix2 (A : Mat n m) (a : Fin n) (b : Fin m) : (up A : FVec Ideal _ φ) (ix2 a b) = ((A a b : ℝ) : EReal) := rfl

theorem up_ext {v : FVec Ideal ⟨2, ![n, m]⟩ φ} {A : Mat n m} (h : ∀ a b, v (ix2 a b) = ((A a b : ℝ) : EReal)) : v = up A := by
  funext i
  rw [eq_ix2 i]
  exact h _ _

theorem truncf_up (A : Mat n m) (h) : truncf φ (up A : FVec Ideal _ ψ) h = up A := rfl
theorem extf_up (A : Mat n m) (h) : extf φ (up A : FVec Ideal _ ψ) h = up A := rfl
theorem addf_up (A B : Mat n m) : addf (up A : FVec Ideal _ φ) (up B) = up (A + B) := rfl
theorem subf_up (A B : Mat n m) : subf (up A : FVec Ideal _ φ) (up B) = up (A - B) := rfl
theorem mulf_up (A B : Mat n m) : mulf (up A : FVec Ideal _ φ) (up B) = up (had A B) := rfl
theorem exp_up (A : Mat n m) : exp (up A : FVec Ideal _ φ) = up (A.map Real.exp) := by
  refine up_ext fun a b => ?_
  simp [exp, up_ix2]

theorem zero_f32 : (FloatOps.ofBits (F := Ideal) .f32 0x00000000#32 : EReal) = 0 := by
  simp

theorem const_up : constant (F := Ideal) (⟨2, ![n, m]⟩ : Shape) .f32 0x00000000#32 = up 0 := by
  refine up_ext fun a b => ?_; simp [constant, up_ix2]
theorem bcast_up : broadcast (⟨2, ![n, m]⟩ : Shape) (Scalar.ofBits (F := Ideal) .f32 0x00000000#32) = up 0 := by
  refine up_ext fun a b => ?_; simp [broadcast, up_ix2]

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem mm_64_64_64 (A : Mat 64 64) (B : Mat 64 64) (p) :
    matmul dot_S64x64_S64x64_S64x64_1_0_0_1_n_n p (up A : FVec Ideal _ φ) (up B : FVec Ideal _ ψ) (up 0) = up (A * B) := by
  refine up_ext fun a b => ?_
  simp [pointwise, up_ix2, coe_sum, Matrix.mul_apply]

theorem mm_64_64_128 (A : Mat 64 64) (B : Mat 64 128) (p) :
    matmul dot_S64x64_S64x128_S64x128_1_0_0_1_n_n p (up A : FVec Ideal _ φ) (up B : FVec Ideal _ ψ) (up 0) = up (A * B) := by
  refine up_ext fun a b => ?_
  simp [pointwise, up_ix2, coe_sum, Matrix.mul_apply]

theorem mm_64_64_256 (A : Mat 64 64) (B : Mat 64 256) (p) :
    matmul dot_S64x64_S64x256_S64x256_1_0_0_1_n_n p (up A : FVec Ideal _ φ) (up B : FVec Ideal _ ψ) (up 0) = up (A * B) := by
  refine up_ext fun a b => ?_
  simp [pointwise, up_ix2, coe_sum, Matrix.mul_apply]

theorem mm_64_128_128 (A : Mat 64 128) (B : Mat 128 128) (p) :
    matmul dot_S64x128_S128x128_S64x128_1_0_0_1_n_n p (up A : FVec Ideal _ φ) (up B : FVec Ideal _ ψ) (up 0) = up (A * B) := by
  refine up_ext fun a b => ?_
  simp [pointwise, up_ix2, coe_sum, Matrix.mul_apply]

theorem mm_nt (A : Mat 64 128) (B : Mat 64 128) (p) :
    matmul dot_S64x128_S64x128_S64x64_1_1_0_0_n_n p (up A : FVec Ideal _ φ) (up B : FVec Ideal _ ψ) (up 0) = up (A * B.transpose) := by
  refine up_ext fun a b => ?_
  simp [pointwise, up_ix2, coe_sum, Matrix.mul_apply]

theorem mm_tn (A : Mat 64 128) (B : Mat 64 128) (p) :
    matmul dot_S64x128_S64x128_S128x128_0_0_1_1_n_n p (up A : FVec Ideal _ φ) (up B : FVec Ideal _ ψ) (up 0) = up (A.transpose * B) := by
  refine up_ext fun a b => ?_
  simp [pointwise, up_ix2, coe_sum, Matrix.mul_apply]

theorem bc_64_1_64 (A : Mat 64 1) (h) : broadcastTo S64x64 (up A : FVec Ideal _ φ) h = up (Matrix.of fun i _ => A i 0) := by
  refine up_ext fun a b => ?_; simp [pointwise, up_ix2]
theorem bc_64_1_128 (A : Mat 64 1) (h) : broadcastTo S64x128 (up A : FVec Ideal _ φ) h = up (Matrix.of fun i _ => A i 0) := by
  refine up_ext fun a b => ?_; simp [pointwise, up_ix2]
theorem bc_1_64 (A : Mat 1 64) (h) : broadcastTo S64x64 (up A : FVec Ideal _ φ) h = up (Matrix.of fun _ j => A 0 j) := by
  refine up_ext fun a b => ?_; simp [pointwise, up_ix2]
theorem bc_1_1_64 (A : Mat 1 1) (h) : broadcastTo S64x1 (up A : FVec Ideal _ φ) h = up (Matrix.of fun _ _ => A 0 0) := by
  refine up_ext fun a b => ?_; simp [pointwise, up_ix2]
theorem bc_1_1_128 (A : Mat 1 1) (h) : broadcastTo S128x128 (up A : FVec Ideal _ φ) h = up (Matrix.of fun _ _ => A 0 0) := by
  refine up_ext fun a b => ?_; simp [pointwise, up_ix2]
theorem last_row (A : Mat 64 1) (h) : extractStridedSlice S1x1 ![63, 0] (up A : FVec Ideal _ φ) h = up (Matrix.of fun _ _ => A 63 0) := by
  refine up_ext fun a b => ?_; simp [pointwise, up_ix2]

/-- Two blocks of 128 columns side by side. -/
def cat {n : ℕ} (A B : Mat n 128) : Mat n 256 := fun i j => if h : j.val < 128 then A i ⟨j.val, h⟩ else B i ⟨j.val - 128, by omega⟩

theorem cat_left (A B : Mat 64 128) (h) : extractStridedSlice S64x128 ![0, 0] (up (cat A B) : FVec Ideal _ φ) h = up A := by
  refine up_ext fun a b => ?_; simp [pointwise, up_ix2, cat]
theorem cat_right (A B : Mat 64 128) (h) : extractStridedSlice S64x128 ![0, 128] (up (cat A B) : FVec Ideal _ φ) h = up B := by
  refine up_ext fun a b => ?_; simp [pointwise, up_ix2, cat]
theorem concat_up (A B : Mat 64 128) (h) :
    concatenate S64x256 1 [⟨S64x128, (up A : FVec Ideal _ φ)⟩, ⟨S64x128, up B⟩] h = up (cat A B) := by
  refine up_ext fun a b => ?_
  simp only [pointwise, up_ix2, cat]
  split <;> rfl
theorem mul_cat (X : Mat n l) (A B : Mat l 128) : X * cat A B = cat (X * A) (X * B) := by
  ext i j
  simp only [Matrix.mul_apply, cat]
  split <;> rfl

theorem cmp_ge (a b : Fin 64) :
    IntOp.cmpi CmpIPredicate.sge (BitVec.ofNat 32 a.val) (BitVec.ofNat 32 b.val) = if b ≤ a then 1#1 else 0#1 := by
  revert a b; decide +kernel
theorem cmp_gt (a b : Fin 64) :
    IntOp.cmpi CmpIPredicate.sgt (BitVec.ofNat 32 a.val) (BitVec.ofNat 32 b.val) = if b < a then 1#1 else 0#1 := by
  revert a b; decide +kernel
theorem cmp_le (a b : Fin 64) :
    IntOp.cmpi CmpIPredicate.sle (BitVec.ofNat 32 a.val) (BitVec.ofNat 32 b.val) = if a ≤ b then 1#1 else 0#1 := by
  revert a b; decide +kernel
theorem cmp_eq (a b : Fin 64) :
    IntOp.cmpi CmpIPredicate.eq (BitVec.ofNat 32 a.val) (BitVec.ofNat 32 b.val) = if a = b then 1#1 else 0#1 := by
  revert a b; decide +kernel

theorem select_ite {α : Type} (p : Prop) [Decidable p] (x y : α) :
    Scalar.select (if p then 1#1 else 0#1) x y = if p then x else y := by
  by_cases h : p <;> simp [h, Scalar.select]
theorem mask_ite (p : Prop) [Decidable p] :
    FloatOps.sitofp (F := Ideal) FTy.f32 (BitVec.setWidth 32 (if p then 1#1 else 0#1)) = (((if p then 1 else 0 : ℝ)) : EReal) := by
  by_cases h : p
  · simp only [h, if_true]; show (((BitVec.setWidth 32 1#1).toInt : ℝ) : EReal) = _
    have : (BitVec.setWidth 32 1#1).toInt = 1 := by decide
    rw [this]; simp
  · simp only [h, if_false]; show (((BitVec.setWidth 32 0#1).toInt : ℝ) : EReal) = _
    have : (BitVec.setWidth 32 0#1).toInt = 0 := by decide
    rw [this]; simp

theorem select_incl (A B : Mat 64 64) :
    select Gen.k0_pay4 (up A : FVec Ideal _ φ) (up B) = up (Matrix.of fun i j => if j ≤ i then A i j else B i j) := by
  refine up_ext fun a b => ?_
  simp [Gen.k0_pay4, pointwise, up_ix2]
  rw [cmp_ge, select_ite]
  split <;> rfl
theorem select_strict (A B : Mat 64 64) :
    select Gen.k0_pay5 (up A : FVec Ideal _ φ) (up B) = up (Matrix.of fun i j => if j < i then A i j else B i j) := by
  refine up_ext fun a b => ?_
  simp [Gen.k0_pay5, pointwise, up_ix2]
  rw [cmp_gt, select_ite]
  split <;> rfl
theorem eye_up : Gen.k0_pay6 (F := Ideal) = up 1 := by
  refine up_ext fun a b => ?_
  simp [Gen.k0_pay6, pointwise, up_ix2]
  rw [cmp_eq, mask_ite, Matrix.one_apply]

/-- The sums of the entries of a column up to each row. -/
theorem tril_up (B : Mat 64 128) :
    Gen.k0_pay7 (F := Ideal) (up B : FVec Ideal _ .f32) = up (Matrix.of fun i c => ∑ s, if s ≤ i then B s c else 0) := by
  refine up_ext fun a b => ?_
  simp [Gen.k0_pay7, const_up, pointwise, up_ix2, coe_sum]
  refine Finset.sum_congr rfl fun s _ => ?_
  rw [cmp_ge, mask_ite]
  split <;> simp

/-- The vector of one plane with the entries of the real matrix `A`. -/
def up3 (A : Mat n m) : FVec Ideal ⟨3, ![1, n, m]⟩ φ := fun i => ((A (i 1) (i 2) : ℝ) : EReal)

/-- The sums of the entries of a row up to each column. -/
theorem triu_up (B : Mat 8 64) :
    Gen.k0_pay8 (F := Ideal) (up3 B : FVec Ideal _ .f32) = up (Matrix.of fun h t => ∑ s, if s ≤ t then B h s else 0) := by
  refine up_ext fun a b => ?_
  simp [Gen.k0_pay8, const_up, pointwise, up_ix2, coe_sum]
  refine Finset.sum_congr rfl fun s _ => ?_
  rw [cmp_le, mask_ite]
  split <;> simp [up3]

end Cert.Lift
end
-- ==== Proof.Head.lean ====
/-
  What one head of one chunk computes, as vector operations and as real matrices.

  The vector functions name the stages of the kernel's body for one head: the decay of the chunk, the strictly lower
  triangular matrix, its inverse by repeated squaring, the two solutions, the values written and the new state. The
  theorems say what each stage gives when its arguments hold real numbers.
-/
module

public import proofs.«01_k».proof.Proof.Lift

@[expose] public section

set_option maxRecDepth 16384

noncomputable section
namespace Cert.Head

open Cert.KernelIdeal Cert.Lift Idealize.ShloMosaic

/-- Single precision vectors of the idealised program. -/
abbrev V (s : Shape) := FVec Ideal s .f32

/-- The 64 × 64 product of the rounded arguments. -/
def mm (a b : V S64x64) : V S64x64 :=
  matmul dot_S64x64_S64x64_S64x64_1_0_0_1_n_n none (truncf .bf16 a Gen.bitsLt_bf16_f32) (truncf .bf16 b Gen.bitsLt_bf16_f32)
    (constant S64x64 .f32 0x00000000#32)

/-- The decay of a chunk: the exponential of the difference of the running sums, on and below the diagonal. -/
def hDec (gc : V S64x1) (gr : V S1x64) : V S64x64 :=
  select Gen.k0_pay4
    (exp (select Gen.k0_pay4
      (subf (broadcastTo S64x64 gc Gen.broadcasts_S64x1_S64x64) (broadcastTo S64x64 gr Gen.broadcasts_S1x64_S64x64))
      (broadcast S64x64 (Scalar.ofBits .f32 0x00000000#32))))
    (broadcast S64x64 (Scalar.ofBits .f32 0x00000000#32))

/-- The strictly lower triangular matrix of a chunk. -/
def hN (k : V S64x128) (β : V S64x1) (dec : V S64x64) : V S64x64 :=
  select Gen.k0_pay5
    (subf (broadcast S64x64 (Scalar.ofBits .f32 0x00000000#32))
      (mulf (mulf (broadcastTo S64x64 β Gen.broadcasts_S64x1_S64x64)
        (matmul dot_S64x128_S64x128_S64x64_1_1_0_0_n_n none (truncf .bf16 k Gen.bitsLt_bf16_f32)
          (truncf .bf16 k Gen.bitsLt_bf16_f32) (constant S64x64 .f32 0x00000000#32))) dec))
    (broadcast S64x64 (Scalar.ofBits .f32 0x00000000#32))

/-- The rest after rounding. -/
def lo {s : Shape} (a : V s) : FVec Ideal s .bf16 :=
  truncf .bf16 (subf a (extf .f32 (truncf .bf16 a Gen.bitsLt_bf16_f32) Gen.bitsLt_bf16_f32)) Gen.bitsLt_bf16_f32

/-- The product in three passes. -/
def dot3 (a b : V S64x64) : V S64x64 :=
  addf (mm a b)
    (addf
      (matmul dot_S64x64_S64x64_S64x64_1_0_0_1_n_n none (truncf .bf16 a Gen.bitsLt_bf16_f32) (lo b)
        (constant S64x64 .f32 0x00000000#32))
      (matmul dot_S64x64_S64x64_S64x64_1_0_0_1_n_n none (lo a) (truncf .bf16 b Gen.bitsLt_bf16_f32)
        (constant S64x64 .f32 0x00000000#32)))

/-- One doubling of the inverse: `x + x p`. -/
def dbl (x p : V S64x64) : V S64x64 := addf x (mm x p)

/-- The inverse of `1 - n` by doubling, before the last correction. -/
def hX0 (n : V S64x64) : V S64x64 :=
  let p1 := mm n n
  let p2 := mm p1 p1
  let p3 := mm p2 p2
  let p4 := mm p3 p3
  let p5 := mm p4 p4
  dbl (dbl (dbl (dbl (dbl (addf Gen.k0_pay6 n) p1) p2) p3) p4) p5

/-- The last correction of the inverse. -/
def fixup (n x : V S64x64) : V S64x64 := dbl x (addf (subf Gen.k0_pay6 x) (dot3 n x))

/-- The inverse of `1 - n`. -/
def hX (n : V S64x64) : V S64x64 := fixup n (hX0 n)

/-- The right sides of the two systems. -/
def hRhs (k v : V S64x128) (β eg : V S64x1) : V S64x256 :=
  concatenate S64x256 1
    [⟨S64x128, mulf v (broadcastTo S64x128 β Gen.broadcasts_S64x1_S64x128)⟩,
     ⟨S64x128, mulf k (broadcastTo S64x128 (mulf β eg) Gen.broadcasts_S64x1_S64x128)⟩]
    Gen.concatenates_S64x128_S64x128_S64x256_d1

/-- The two solutions. -/
def hSol (x : V S64x64) (r : V S64x256) : V S64x256 :=
  addf
    (matmul dot_S64x64_S64x256_S64x256_1_0_0_1_n_n none (truncf .bf16 x Gen.bitsLt_bf16_f32)
      (truncf .bf16 r Gen.bitsLt_bf16_f32) (constant S64x256 .f32 0x00000000#32))
    (addf
      (matmul dot_S64x64_S64x256_S64x256_1_0_0_1_n_n none (truncf .bf16 x Gen.bitsLt_bf16_f32) (lo r)
        (constant S64x256 .f32 0x00000000#32))
      (matmul dot_S64x64_S64x256_S64x256_1_0_0_1_n_n none (lo x) (truncf .bf16 r Gen.bitsLt_bf16_f32)
        (constant S64x256 .f32 0x00000000#32)))

/-- The decayed products of queries and keys. -/
def hAttn (q k : V S64x128) (dec : V S64x64) : V S64x64 :=
  mulf (matmul dot_S64x128_S64x128_S64x64_1_1_0_0_n_n none (truncf .bf16 q Gen.bitsLt_bf16_f32)
    (truncf .bf16 k Gen.bitsLt_bf16_f32) (constant S64x64 .f32 0x00000000#32)) dec

/-- The values written to the state. -/
def hWv (sol : V S64x256) (s : V S128x128) : V S64x128 :=
  subf (extractStridedSlice S64x128 ![0, 0] sol Gen.slices_S64x256_o0_0_S64x128)
    (matmul dot_S64x128_S128x128_S64x128_1_0_0_1_n_n none
      (truncf .bf16 (extractStridedSlice S64x128 ![0, 128] sol Gen.slices_S64x256_o0_128_S64x128) Gen.bitsLt_bf16_f32)
      (truncf .bf16 s Gen.bitsLt_bf16_f32) (constant S64x128 .f32 0x00000000#32))

/-- The outputs of the chunk. -/
def hO (q : V S64x128) (eg : V S64x1) (attn : V S64x64) (wv : V S64x128) (s : V S128x128) : V S64x128 :=
  addf
    (matmul dot_S64x128_S128x128_S64x128_1_0_0_1_n_n none
      (truncf .bf16 (mulf q (broadcastTo S64x128 eg Gen.broadcasts_S64x1_S64x128)) Gen.bitsLt_bf16_f32)
      (truncf .bf16 s Gen.bitsLt_bf16_f32) (constant S64x128 .f32 0x00000000#32))
    (matmul dot_S64x64_S64x128_S64x128_1_0_0_1_n_n none (truncf .bf16 attn Gen.bitsLt_bf16_f32)
      (truncf .bf16 wv Gen.bitsLt_bf16_f32) (constant S64x128 .f32 0x00000000#32))

/-- The running sum at the last row. -/
def hLast (gc : V S64x1) : V S1x1 := extractStridedSlice S1x1 ![63, 0] gc Gen.slices_S64x1_o63_0_S1x1

/-- The state after the chunk. -/
def hS (k : V S64x128) (gc : V S64x1) (wv : V S64x128) (s : V S128x128) : V S128x128 :=
  addf (mulf s (broadcastTo S128x128 (exp (hLast gc)) Gen.broadcasts_S1x1_S128x128))
    (matmul dot_S64x128_S64x128_S128x128_0_0_1_1_n_n none
      (truncf .bf16 (mulf k (broadcastTo S64x128
        (exp (subf (broadcastTo S64x1 (hLast gc) Gen.broadcasts_S1x1_S64x1) gc)) Gen.broadcasts_S64x1_S64x128)) Gen.bitsLt_bf16_f32)
      (truncf .bf16 wv Gen.bitsLt_bf16_f32) (constant S128x128 .f32 0x00000000#32))

/-- The written values of a head, from its blocks and its state. -/
def headW (k v : V S64x128) (β gc : V S64x1) (gr : V S1x64) (s : V S128x128) : V S64x128 :=
  hWv (hSol (hX (hN k β (hDec gc gr))) (hRhs k v β (exp gc))) s

/-- The outputs of a head, from its blocks and its state. -/
def headO (q k v : V S64x128) (β gc : V S64x1) (gr : V S1x64) (s : V S128x128) : V S64x128 :=
  hO q (exp gc) (hAttn q k (hDec gc gr)) (headW k v β gc gr s) s

/-- The state of a head after the chunk. -/
def headS (k v : V S64x128) (β gc : V S64x1) (gr : V S1x64) (s : V S128x128) : V S128x128 :=
  hS k gc (headW k v β gc gr s) s

end Cert.Head
end
-- ==== Proof.Block.lean ====
/-
  What the body of the forward call leaves in its windows and in its scratch, as functions of the blocks it reads.

  A block holds eight heads. `qB`, `kB`, `vB`, `bB`, `gcB`, `grB` and `sB` are the parts of one head, and `outO`,
  `outS`, `outX`, `outN` are the four results: the outputs, the states before the chunk, the inverses and the states after it.
-/
module

public import proofs.«01_k».proof.Proof.FwdPoints
public import proofs.«01_k».proof.Proof.Head
public import Idealize.ShloMosaic.Lib.WholeRead
public import Idealize.ShloMosaic.Lib.Writes

@[expose] public section

set_option maxRecDepth 16384

noncomputable section
namespace Cert.Block

open Cert.KernelIdeal Cert.KernelIdeal.Gen Cert.Fwd Cert.Head Idealize.ShloMosaic Idealize.ShloMosaic.TcCoe Idealize.SL.Sem

/-- A load of 64 × 128 entries from the block of queries, keys and values. -/
def rdQ (arg1 : Memref sig .tc .vmem S64x3072 .f32) (harg1 : arg1.IsWhole) (x0 : V S64x3072)
    (off : Fin 2 → ℕ) (inb : ∀ a, off a + S64x128.size a ≤ S64x3072.size a) : V S64x128 :=
  View.readAt (Elt Ideal) arg1.view (Rect.unit (s := S64x3072) off S64x128.size inb).toLoadRect (harg1.unread x0)
/-- The load of the rates and decays. -/
def rdB (arg2 : Memref sig .tc .vmem S64x128 .f32) (harg2 : arg2.IsWhole) (x1 : V S64x128) : V S64x128 :=
  View.readAt (Elt Ideal) arg2.view (Rect.unit (s := S64x128) ![0, 0] S64x128.size inb_S64x128_S64x128_0_0).toLoadRect (harg2.unread x1)
/-- The load of the decays as rows. -/
def rdG (arg3 : Memref sig .tc .vmem S1x8x64 .f32) (harg3 : arg3.IsWhole) (x2 : V S1x8x64) : V S1x8x64 :=
  View.readAt (Elt Ideal) arg3.view (Rect.unit (s := S1x8x64) ![0, 0, 0] S1x8x64.size inb_S1x8x64_S1x8x64_0_0_0).toLoadRect (harg3.unread x2)
/-- The load of a head's state. -/
def rdS (arg7 : Memref sig .tc .vmem S8x128x128 .f32) (harg7 : arg7.IsWhole) (xs : V S8x128x128)
    (off : Fin 3 → ℕ) (inb : ∀ a, off a + S1x128x128.size a ≤ S8x128x128.size a) : V S1x128x128 :=
  View.readAt (Elt Ideal) arg7.view (Rect.unit (s := S8x128x128) off S1x128x128.size inb).toLoadRect (harg7.unread xs)
/-- The load of a head's state after the scratch was filled with zeros. -/
def rdZ (arg7 : Memref sig .tc .vmem S8x128x128 .f32)
    (off : Fin 3 → ℕ) (inb : ∀ a, off a + S1x128x128.size a ≤ S8x128x128.size a) : V S1x128x128 :=
  arg7.view.readCov (kernelRun0_A.sl.HS0_1 (F := Ideal)) (Rect.unit (s := S8x128x128) off S1x128x128.size inb).toLoadRect

/-- The columns `o … o + 127` of the block of queries, keys and values. -/
def colsB (x0 : V S64x3072) (o : ℕ) (ho : o + 128 ≤ 3072) : V S64x128 :=
  fun j => x0 (ix2 (j 0) ⟨o + (j 1).val, by have := (j 1).isLt; simp at this; omega⟩)
def qB (x0 : V S64x3072) (h : Fin 8) : V S64x128 := colsB x0 (128 * h.val) (by omega)
def kB (x0 : V S64x3072) (h : Fin 8) : V S64x128 := colsB x0 (1024 + 128 * h.val) (by omega)
def vB (x0 : V S64x3072) (h : Fin 8) : V S64x128 := colsB x0 (2048 + 128 * h.val) (by omega)
/-- One column of a 64 × 128 vector. -/
def colB (x1 : V S64x128) (o : Fin 128) : V S64x1 := fun j => x1 (ix2 (j 0) o)
def bB (x1 : V S64x128) (h : Fin 8) : V S64x1 := colB x1 ⟨h.val, by omega⟩
def gcB (x1 : V S64x128) (h : Fin 8) : V S64x1 := colB (k0_pay7 (F := Ideal) x1) ⟨8 + h.val, by omega⟩
def grB (x2 : V S1x8x64) (h : Fin 8) : V S1x64 := fun j => k0_pay8 (F := Ideal) x2 (ix2 h (j 1))
def sB (xs : V S8x128x128) (h : Fin 8) : V S128x128 := fun j => xs (ix3 h (j 0) (j 1))

theorem rdQ_eq (arg1 : Memref sig .tc .vmem S64x3072 .f32) (harg1 : arg1.IsWhole) (x0 : V S64x3072)
    (o : ℕ) (inb) (ho : o + 128 ≤ 3072) : rdQ arg1 harg1 x0 ![0, o] inb = colsB x0 o ho := by
  funext j
  refine (congrFun (Memref.IsWhole.read_unread (Val := Elt Ideal) harg1 x0) _).trans (congrArg x0 (funext fun a => Fin.ext ?_))
  match a with
  | ⟨0, _⟩ => show 0 + 1 * (j 0).val = (j 0).val; omega
  | ⟨1, _⟩ => show o + 1 * (j 1).val = o + (j 1).val; omega
theorem rdB_eq (arg2 : Memref sig .tc .vmem S64x128 .f32) (harg2 : arg2.IsWhole) (x1 : V S64x128) : rdB arg2 harg2 x1 = x1 := by
  funext j
  refine (congrFun (Memref.IsWhole.read_unread (Val := Elt Ideal) harg2 x1) _).trans (congrArg x1 (funext fun a => Fin.ext ?_))
  match a with
  | ⟨0, _⟩ => show 0 + 1 * (j 0).val = (j 0).val; omega
  | ⟨1, _⟩ => show 0 + 1 * (j 1).val = (j 1).val; omega
theorem rdG_eq (arg3 : Memref sig .tc .vmem S1x8x64 .f32) (harg3 : arg3.IsWhole) (x2 : V S1x8x64) : rdG arg3 harg3 x2 = x2 := by
  funext j
  refine (congrFun (Memref.IsWhole.read_unread (Val := Elt Ideal) harg3 x2) _).trans (congrArg x2 (funext fun a => Fin.ext ?_))
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
theorem rdS_eq (arg7 : Memref sig .tc .vmem S8x128x128 .f32) (harg7 : arg7.IsWhole) (xs : V S8x128x128)
    (h : Fin 8) (inb) (hc) : shapeCast S128x128 (rdS arg7 harg7 xs ![h.val, 0, 0] inb) hc = sB xs h := by
  funext j
  rw [eq_ix2 j]
  simp only [pointwise, sB]
  refine (congrFun (Memref.IsWhole.read_unread (Val := Elt Ideal) harg7 xs) _).trans (congrArg xs (funext fun a => Fin.ext ?_))
  match a with
  | ⟨0, _⟩ => show h.val + 1 * 0 = h.val; omega
  | ⟨1, _⟩ => show 0 + 1 * (j 0).val = (j 0).val; omega
  | ⟨2, _⟩ => show 0 + 1 * (j 1).val = (j 1).val; omega
/-- The state of zeros. -/
def zS : V S8x128x128 := fun _ => 0
theorem rdZ_eq (arg7 : Memref sig .tc .vmem S8x128x128 .f32)
    (h : Fin 8) (inb) (hc) : shapeCast S128x128 (rdZ arg7 ![h.val, 0, 0] inb) hc = sB zS h := by
  funext j
  rw [eq_ix2 j]
  simp only [pointwise]
  show _ = (0 : EReal)
  refine View.read_writes_apply_of_pieces (Val := Elt Ideal) (e := .f32) arg7.view _ (fun _ => (0 : EReal)) _ (fun p hp x => ?_) _ ⟨_, List.mem_singleton_self _, ?_⟩
  · have hp' := List.mem_singleton.1 hp
    subst hp'
    show k0_pay3 (F := Ideal) x = (0 : EReal)
    simp [k0_pay3, pointwise]
  · rw [Rect.mem_set_unit]
    intro a
    have h0 := (j 0).isLt
    have h1 := (j 1).isLt
    have hh := h.isLt
    match a with
    | ⟨0, _⟩ => exact ⟨Nat.zero_le _, show h.val + 1 * 0 < 0 + 8 by omega⟩
    | ⟨1, _⟩ => exact ⟨Nat.zero_le _, show 0 + 1 * (j 0).val < 0 + 128 by simp at h0; omega⟩
    | ⟨2, _⟩ => exact ⟨Nat.zero_le _, show 0 + 1 * (j 1).val < 0 + 128 by simp at h1; omega⟩
theorem bB_eq (x1 : V S64x128) (h : Fin 8) (hs) : extractStridedSlice S64x1 ![0, h.val] x1 hs = bB x1 h := by
  funext j
  refine congrArg x1 (funext fun a => Fin.ext ?_)
  match a with
  | ⟨0, _⟩ => show 0 + (j 0).val = (j 0).val; omega
  | ⟨1, _⟩ => show h.val + (j 1).val = h.val; have : (j 1).val < 1 := (j 1).isLt; omega
theorem gcB_eq (x1 : V S64x128) (h : Fin 8) (hs) : extractStridedSlice S64x1 ![0, 8 + h.val] (k0_pay7 (F := Ideal) x1) hs = gcB x1 h := by
  funext j
  refine congrArg (k0_pay7 (F := Ideal) x1) (funext fun a => Fin.ext ?_)
  match a with
  | ⟨0, _⟩ => show 0 + (j 0).val = (j 0).val; omega
  | ⟨1, _⟩ => show 8 + h.val + (j 1).val = 8 + h.val; have : (j 1).val < 1 := (j 1).isLt; omega
theorem grB_eq (x2 : V S1x8x64) (h : Fin 8) (hs) : extractStridedSlice S1x64 ![h.val, 0] (k0_pay8 (F := Ideal) x2) hs = grB x2 h := by
  funext j
  refine congrArg (k0_pay8 (F := Ideal) x2) (funext fun a => Fin.ext ?_)
  match a with
  | ⟨0, _⟩ => show h.val + (j 0).val = h.val; have : (j 0).val < 1 := (j 0).isLt; omega
  | ⟨1, _⟩ => show 0 + (j 1).val = (j 1).val; omega

/-- The outputs of head `h`. -/
def oH (x0 : V S64x3072) (x1 : V S64x128) (x2 : V S1x8x64) (xs : V S8x128x128) (h : Fin 8) : V S64x128 :=
  headO (qB x0 h) (kB x0 h) (vB x0 h) (bB x1 h) (gcB x1 h) (grB x2 h) (sB xs h)
/-- The new state of head `h`. -/
def nH (x0 : V S64x3072) (x1 : V S64x128) (x2 : V S1x8x64) (xs : V S8x128x128) (h : Fin 8) : V S128x128 :=
  headS (kB x0 h) (vB x0 h) (bB x1 h) (gcB x1 h) (grB x2 h) (sB xs h)
/-- The inverse of head `h`. -/
def xH (x0 : V S64x3072) (x1 : V S64x128) (x2 : V S1x8x64) (h : Fin 8) : V S64x64 :=
  hX (hN (kB x0 h) (bB x1 h) (hDec (gcB x1 h) (grB x2 h)))

/-- The outputs of the block. -/
def outO (x0 : V S64x3072) (x1 : V S64x128) (x2 : V S1x8x64) (xs : V S8x128x128) : V S64x1024 :=
  fun i => oH x0 x1 x2 xs ⟨(i 1).val / 128, by have : (i 1).val < 1024 := (i 1).isLt; omega⟩ (ix2 (i 0) ⟨(i 1).val % 128, by omega⟩)
/-- The states before the chunk. -/
def outS (xs : V S8x128x128) : V S1x8x128x128 := fun i => xs (ix3 (i 1) (i 2) (i 3))
/-- The inverses. -/
def outX (x0 : V S64x3072) (x1 : V S64x128) (x2 : V S1x8x64) : V S1x8x64x64 := fun i => xH x0 x1 x2 (i 1) (ix2 (i 2) (i 3))
/-- The states after the chunk. -/
def outN (x0 : V S64x3072) (x1 : V S64x128) (x2 : V S1x8x64) (xs : V S8x128x128) : V S8x128x128 :=
  fun i => nH x0 x1 x2 xs (i 0) (ix2 (i 1) (i 2))

theorem outO_emb (x0 : V S64x3072) (x1 : V S64x128) (x2 : V S1x8x64) (xs : V S8x128x128) (h : Fin 8) (inb)
    (x : (Rect.unit (s := S64x1024) ![0, 128 * h.val] ![64, 128] inb).shape.Idx) :
    oH x0 x1 x2 xs h x = outO x0 x1 x2 xs ((Rect.unit (s := S64x1024) ![0, 128 * h.val] ![64, 128] inb).emb x) := by
  have hx : (x 1).val < 128 := (x 1).isLt
  have e0 : ((Rect.unit (s := S64x1024) ![0, 128 * h.val] ![64, 128] inb).emb x 0).val = (x 0).val := by
    show 0 + 1 * (x 0).val = _; omega
  have e1 : ((Rect.unit (s := S64x1024) ![0, 128 * h.val] ![64, 128] inb).emb x 1).val = 128 * h.val + (x 1).val := by
    show 128 * h.val + 1 * (x 1).val = _; omega
  unfold outO
  have eh : (⟨((Rect.unit (s := S64x1024) ![0, 128 * h.val] ![64, 128] inb).emb x 1).val / 128, by rw [e1]; omega⟩ : Fin 8) = h := by
    apply Fin.ext; show _ / 128 = _; rw [e1]; omega
  rw [eh]
  refine congrArg (oH x0 x1 x2 xs h) (funext fun a => Fin.ext ?_)
  match a with
  | ⟨0, _⟩ => exact e0.symm
  | ⟨1, _⟩ => show (x 1).val = _ % 128; rw [e1]; omega
theorem outS_emb (xs : V S8x128x128) (h : Fin 8) (inb) (hc)
    (x : (Rect.unit (s := S1x8x128x128) ![0, h.val, 0, 0] ![1, 1, 128, 128] inb).shape.Idx) :
    shapeCast S1x1x128x128 (sB xs h) hc x = outS xs ((Rect.unit (s := S1x8x128x128) ![0, h.val, 0, 0] ![1, 1, 128, 128] inb).emb x) := by
  rw [eq_ix4 x]
  simp only [pointwise, sB]
  refine congrArg xs (funext fun a => Fin.ext ?_)
  have h1 : (x 1).val < 1 := (x 1).isLt
  match a with
  | ⟨0, _⟩ => show h.val = h.val + 1 * (x 1).val; omega
  | ⟨1, _⟩ => show (x 2).val = 0 + 1 * (x 2).val; omega
  | ⟨2, _⟩ => show (x 3).val = 0 + 1 * (x 3).val; omega
theorem outX_emb (x0 : V S64x3072) (x1 : V S64x128) (x2 : V S1x8x64) (h : Fin 8) (inb) (hc)
    (x : (Rect.unit (s := S1x8x64x64) ![0, h.val, 0, 0] ![1, 1, 64, 64] inb).shape.Idx) :
    shapeCast S1x1x64x64 (xH x0 x1 x2 h) hc x = outX x0 x1 x2 ((Rect.unit (s := S1x8x64x64) ![0, h.val, 0, 0] ![1, 1, 64, 64] inb).emb x) := by
  rw [eq_ix4 x]
  simp only [pointwise]
  have h1 : (x 1).val < 1 := (x 1).isLt
  have eh : (Rect.unit (s := S1x8x64x64) ![0, h.val, 0, 0] ![1, 1, 64, 64] inb).emb x 1 = h := by
    apply Fin.ext; show h.val + 1 * (x 1).val = h.val; omega
  unfold outX
  rw [eh]
  refine congrArg (xH x0 x1 x2 h) (funext fun a => Fin.ext ?_)
  match a with
  | ⟨0, _⟩ => show (x 2).val = 0 + 1 * (x 2).val; omega
  | ⟨1, _⟩ => show (x 3).val = 0 + 1 * (x 3).val; omega
theorem outN_emb (x0 : V S64x3072) (x1 : V S64x128) (x2 : V S1x8x64) (xs : V S8x128x128) (h : Fin 8) (inb) (hc)
    (x : (Rect.unit (s := S8x128x128) ![h.val, 0, 0] ![1, 128, 128] inb).shape.Idx) :
    shapeCast S1x128x128 (nH x0 x1 x2 xs h) hc x = outN x0 x1 x2 xs ((Rect.unit (s := S8x128x128) ![h.val, 0, 0] ![1, 128, 128] inb).emb x) := by
  rw [eq_ix3 x]
  simp only [pointwise]
  have h1 : (x 0).val < 1 := (x 0).isLt
  have eh : (Rect.unit (s := S8x128x128) ![h.val, 0, 0] ![1, 128, 128] inb).emb x 0 = h := by
    apply Fin.ext; show h.val + 1 * (x 0).val = h.val; omega
  unfold outN
  rw [eh]
  refine congrArg (nH x0 x1 x2 xs h) (funext fun a => Fin.ext ?_)
  match a with
  | ⟨0, _⟩ => show (x 1).val = 0 + 1 * (x 1).val; omega
  | ⟨1, _⟩ => show (x 2).val = 0 + 1 * (x 2).val; omega
end Cert.Block
end
-- ==== Proof.BlockFirst.lean ====
/-
  The results of the body's run at the first point, where the scratch is filled with zeros.
-/
module

public import proofs.«01_k».proof.Proof.Block

@[expose] public section

set_option maxRecDepth 16384

noncomputable section
namespace Cert.Block

open Cert.KernelIdeal Cert.KernelIdeal.Gen Cert.Fwd Cert.Head Idealize.ShloMosaic Idealize.ShloMosaic.TcCoe Idealize.SL.Sem

variable (c : Dev nD) (i : grid0.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S8x128x128 .f32) (harg7 : arg7.IsWhole)

variable (x0 : V S64x3072) (x1 : V S64x128) (x2 : V S1x8x64)

/-- The heads in the order in which a list of stores holds them, the last first. -/
def heads8 : List (Fin 8) := [7, 6, 5, 4, 3, 2, 1, 0]

theorem inbO : ∀ n : Fin 8, ∀ a, (![0, 128 * n.val] : Fin 2 → ℕ) a + S64x128.size a ≤ S64x1024.size a := by decide +kernel
theorem inbQ : ∀ n : Fin 8, ∀ a, (![0, 128 * n.val] : Fin 2 → ℕ) a + S64x128.size a ≤ S64x3072.size a := by decide +kernel
theorem inbK : ∀ n : Fin 8, ∀ a, (![0, 1024 + 128 * n.val] : Fin 2 → ℕ) a + S64x128.size a ≤ S64x3072.size a := by decide +kernel
theorem inbV : ∀ n : Fin 8, ∀ a, (![0, 2048 + 128 * n.val] : Fin 2 → ℕ) a + S64x128.size a ≤ S64x3072.size a := by decide +kernel
theorem inbZ : ∀ n : Fin 8, ∀ a, (![n.val, 0, 0] : Fin 3 → ℕ) a + S1x128x128.size a ≤ S8x128x128.size a := by decide +kernel
theorem inbS : ∀ n : Fin 8, ∀ a, (![0, n.val, 0, 0] : Fin 4 → ℕ) a + S1x1x128x128.size a ≤ S1x8x128x128.size a := by decide +kernel
theorem inbX : ∀ n : Fin 8, ∀ a, (![0, n.val, 0, 0] : Fin 4 → ℕ) a + S1x1x64x64.size a ≤ S1x8x64x64.size a := by decide +kernel
theorem slB : ∀ n : Fin 8, S64x128.Slices ![0, n.val] S64x1 := by decide +kernel
theorem slG : ∀ n : Fin 8, S64x128.Slices ![0, 8 + n.val] S64x1 := by decide +kernel
theorem slR : ∀ n : Fin 8, S8x64.Slices ![n.val, 0] S1x64 := by decide +kernel

/-- Head `n`'s rates, decays and decays as a row, from the loads. -/
def pB (n : Fin 8) : V S64x1 := extractStridedSlice S64x1 ![0, n.val] (rdB arg2 harg2 x1) (slB n)
def pG (n : Fin 8) : V S64x1 := extractStridedSlice S64x1 ![0, 8 + n.val] (k0_pay7 (F := Ideal) (rdB arg2 harg2 x1)) (slG n)
def pR (n : Fin 8) : V S1x64 := extractStridedSlice S1x64 ![n.val, 0] (k0_pay8 (F := Ideal) (rdG arg3 harg3 x2)) (slR n)
theorem pB_eq (n : Fin 8) : pB arg2 harg2 x1 n = bB x1 n := by unfold pB; rw [rdB_eq]; exact bB_eq x1 n _
theorem pG_eq (n : Fin 8) : pG arg2 harg2 x1 n = gcB x1 n := by unfold pG; rw [rdB_eq]; exact gcB_eq x1 n _
theorem pR_eq (n : Fin 8) : pR arg3 harg3 x2 n = grB x2 n := by unfold pR; rw [rdG_eq]; exact grB_eq x2 n _

/-- The stores of the outputs, of the states before the chunk, of the inverses and of the states after it, from the states `z`. -/
def storesO (z : Fin 8 → V S128x128) : List (View.Piece (Elt Ideal) S64x1024 .f32) := heads8.map fun n =>
  ⟨Rect.unit ![0, 128 * n.val] ![64, 128] (inbO n), headO (rdQ arg1 harg1 x0 ![0, 128 * n.val] (inbQ n)) (rdQ arg1 harg1 x0 ![0, 1024 + 128 * n.val] (inbK n))
    (rdQ arg1 harg1 x0 ![0, 2048 + 128 * n.val] (inbV n)) (pB arg2 harg2 x1 n) (pG arg2 harg2 x1 n) (pR arg3 harg3 x2 n) (z n)⟩
def storesS (z : Fin 8 → V S128x128) : List (View.Piece (Elt Ideal) S1x8x128x128 .f32) := heads8.map fun n =>
  ⟨Rect.unit ![0, n.val, 0, 0] ![1, 1, 128, 128] (inbS n), shapeCast S1x1x128x128 (z n) shapeCasts_S128x128_S1x1x128x128⟩
def storesX : List (View.Piece (Elt Ideal) S1x8x64x64 .f32) := heads8.map fun n =>
  ⟨Rect.unit ![0, n.val, 0, 0] ![1, 1, 64, 64] (inbX n), shapeCast S1x1x64x64 (hX (hN (rdQ arg1 harg1 x0 ![0, 1024 + 128 * n.val] (inbK n)) (pB arg2 harg2 x1 n)
    (hDec (pG arg2 harg2 x1 n) (pR arg3 harg3 x2 n)))) shapeCasts_S64x64_S1x1x64x64⟩
def storesN (z : Fin 8 → V S128x128) : List (View.Piece (Elt Ideal) S8x128x128 .f32) := heads8.map fun n =>
  ⟨Rect.unit ![n.val, 0, 0] ![1, 128, 128] (inbZ n), shapeCast S1x128x128 (headS (rdQ arg1 harg1 x0 ![0, 1024 + 128 * n.val] (inbK n))
    (rdQ arg1 harg1 x0 ![0, 2048 + 128 * n.val] (inbV n)) (pB arg2 harg2 x1 n) (pG arg2 harg2 x1 n) (pR arg3 harg3 x2 n) (z n)) shapeCasts_S128x128_S1x128x128⟩

section
variable {z : Fin 8 → V S128x128} {xs : V S8x128x128} (hz : ∀ n, z n = sB xs n)
include hz
theorem storesO_eq : ∀ p ∈ storesO arg1 harg1 arg2 harg2 arg3 harg3 x0 x1 x2 z, ∀ x, p.2 x = outO x0 x1 x2 xs (p.1.emb x) := by
  intro p hp x
  obtain ⟨n, -, rfl⟩ := List.mem_map.1 hp
  refine (congrFun ?_ x).trans (outO_emb x0 x1 x2 xs n (inbO n) x)
  rw [rdQ_eq arg1 harg1 x0 (128 * n.val) _ (by omega), rdQ_eq arg1 harg1 x0 (1024 + 128 * n.val) _ (by omega), rdQ_eq arg1 harg1 x0 (2048 + 128 * n.val) _ (by omega),
    pB_eq, pG_eq, pR_eq, hz n]
  rfl
theorem storesS_eq : ∀ p ∈ storesS z, ∀ x, p.2 x = outS xs (p.1.emb x) := by
  intro p hp x
  obtain ⟨n, -, rfl⟩ := List.mem_map.1 hp
  exact (congrFun (congrArg (fun z => shapeCast S1x1x128x128 z shapeCasts_S128x128_S1x1x128x128) (hz n)) x).trans (outS_emb xs n (inbS n) _ x)
theorem storesN_eq : ∀ p ∈ storesN arg1 harg1 arg2 harg2 arg3 harg3 x0 x1 x2 z, ∀ x, p.2 x = outN x0 x1 x2 xs (p.1.emb x) := by
  intro p hp x
  obtain ⟨n, -, rfl⟩ := List.mem_map.1 hp
  refine Eq.trans ?_ (outN_emb x0 x1 x2 xs n (inbZ n) shapeCasts_S128x128_S1x128x128 x)
  dsimp only
  rw [rdQ_eq arg1 harg1 x0 (1024 + 128 * n.val) _ (by omega), rdQ_eq arg1 harg1 x0 (2048 + 128 * n.val) _ (by omega), pB_eq, pG_eq, pR_eq, hz n]
  rfl
end
theorem storesX_eq : ∀ p ∈ storesX arg1 harg1 arg2 harg2 arg3 harg3 x0 x1 x2, ∀ x, p.2 x = outX x0 x1 x2 (p.1.emb x) := by
  intro p hp x
  obtain ⟨n, -, rfl⟩ := List.mem_map.1 hp
  refine Eq.trans ?_ (outX_emb x0 x1 x2 n (inbX n) shapeCasts_S64x64_S1x1x64x64 x)
  dsimp only
  rw [rdQ_eq arg1 harg1 x0 (1024 + 128 * n.val) _ (by omega), pB_eq, pG_eq, pR_eq]
  rfl
theorem storesN_cover (z : Fin 8 → V S128x128) : ∀ y, ∃ p ∈ storesN arg1 harg1 arg2 harg2 arg3 harg3 x0 x1 x2 z, y ∈ p.1.set :=
  fun y => View.cover_of_tiledL (s := S8x128x128) _ S1x128x128.size (by sl_kernel_rfl) y

variable (hc0 : cond0_0 i)

/-- The loads of the heads' states. -/
def loadsA (n : Fin 8) : V S128x128 := shapeCast S128x128 (rdZ arg7 ![n.val, 0, 0] (inbZ n)) shapeCasts_S1x128x128_S128x128
theorem loadsA_eq (n : Fin 8) : loadsA arg7 n = sB zS n := rdZ_eq arg7 n _ _

theorem out0_A_3_eq : out0_A_3 (F := Ideal) c i arg1 harg1 arg2 harg2 arg3 harg3 arg4 harg4 arg5 harg5 arg6 harg6 arg7 harg7 hc0 x0 x1 x2 = outO x0 x1 x2 zS := by
  have e : (kernelRun0_A (F := Ideal) c i arg1 harg1 arg2 harg2 arg3 harg3 arg4 harg4 arg5 harg5 arg6 harg6 arg7 harg7 hc0 x0 x1 x2).1 = storesO arg1 harg1 arg2 harg2 arg3 harg3 x0 x1 x2 (loadsA arg7) := rfl
  exact funext fun y => View.read_writes_apply_of_pieces (Val := Elt Ideal) VO0_3 VO0_3.junk (outO x0 x1 x2 zS) _ (e ▸ storesO_eq arg1 harg1 arg2 harg2 arg3 harg3 x0 x1 x2 (loadsA_eq arg7)) y (cover0_A_3 (F := Ideal) c i arg1 harg1 arg2 harg2 arg3 harg3 arg4 harg4 arg5 harg5 arg6 harg6 arg7 harg7 hc0 x0 x1 x2 y)
theorem out0_A_4_eq : out0_A_4 (F := Ideal) c i arg1 harg1 arg2 harg2 arg3 harg3 arg4 harg4 arg5 harg5 arg6 harg6 arg7 harg7 hc0 x0 x1 x2 = outS zS := by
  have e : (kernelRun0_A (F := Ideal) c i arg1 harg1 arg2 harg2 arg3 harg3 arg4 harg4 arg5 harg5 arg6 harg6 arg7 harg7 hc0 x0 x1 x2).2.1 = storesS (loadsA arg7) := rfl
  exact funext fun y => View.read_writes_apply_of_pieces (Val := Elt Ideal) VO0_4 VO0_4.junk (outS zS) _ (e ▸ storesS_eq (loadsA_eq arg7)) y (cover0_A_4 (F := Ideal) c i arg1 harg1 arg2 harg2 arg3 harg3 arg4 harg4 arg5 harg5 arg6 harg6 arg7 harg7 hc0 x0 x1 x2 y)
theorem out0_A_5_eq : out0_A_5 (F := Ideal) c i arg1 harg1 arg2 harg2 arg3 harg3 arg4 harg4 arg5 harg5 arg6 harg6 arg7 harg7 hc0 x0 x1 x2 = outX x0 x1 x2 := by
  have e : (kernelRun0_A (F := Ideal) c i arg1 harg1 arg2 harg2 arg3 harg3 arg4 harg4 arg5 harg5 arg6 harg6 arg7 harg7 hc0 x0 x1 x2).2.2.1 = storesX arg1 harg1 arg2 harg2 arg3 harg3 x0 x1 x2 := rfl
  exact funext fun y => View.read_writes_apply_of_pieces (Val := Elt Ideal) VO0_5 VO0_5.junk (outX x0 x1 x2) _ (e ▸ storesX_eq arg1 harg1 arg2 harg2 arg3 harg3 x0 x1 x2) y (cover0_A_5 (F := Ideal) c i arg1 harg1 arg2 harg2 arg3 harg3 arg4 harg4 arg5 harg5 arg6 harg6 arg7 harg7 hc0 x0 x1 x2 y)
theorem sout0_A_0_eq : sout0_A_0 (F := Ideal) c i arg1 harg1 arg2 harg2 arg3 harg3 arg4 harg4 arg5 harg5 arg6 harg6 arg7 harg7 hc0 x0 x1 x2 = outN x0 x1 x2 zS := by
  have e : (kernelRun0_A (F := Ideal) c i arg1 harg1 arg2 harg2 arg3 harg3 arg4 harg4 arg5 harg5 arg6 harg6 arg7 harg7 hc0 x0 x1 x2).2.2.2.1 = storesN arg1 harg1 arg2 harg2 arg3 harg3 x0 x1 x2 (loadsA arg7) ++ [⟨Rect.unit ![0, 0, 0] S8x128x128.size inb_S8x128x128_S8x128x128_0_0_0, k0_pay3 (F := Ideal)⟩] := rfl
  funext y
  unfold sout0_A_0
  rw [e, View.writes_append]
  exact View.read_writes_apply_of_pieces (Val := Elt Ideal) _ _ (outN x0 x1 x2 zS) _ (storesN_eq arg1 harg1 arg2 harg2 arg3 harg3 x0 x1 x2 (loadsA_eq arg7)) y (storesN_cover arg1 harg1 arg2 harg2 arg3 harg3 x0 x1 x2 _ y)

end Cert.Block
end
-- ==== Proof.BlockLater.lean ====
/-
  The results of the body's run at a later point, from the states the scratch holds.
-/
module

public import proofs.«01_k».proof.Proof.BlockFirst

@[expose] public section

set_option maxRecDepth 16384

noncomputable section
namespace Cert.Block

open Cert.KernelIdeal Cert.KernelIdeal.Gen Cert.Fwd Cert.Head Idealize.ShloMosaic Idealize.ShloMosaic.TcCoe Idealize.SL.Sem

variable (c : Dev nD) (i : grid0.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S8x128x128 .f32) (harg7 : arg7.IsWhole)

variable (x0 : V S64x3072) (x1 : V S64x128) (x2 : V S1x8x64)
variable (hc0 : ¬ cond0_0 i) (xs : V S8x128x128)

/-- The loads of the heads' states. -/
def loadsB (n : Fin 8) : V S128x128 := shapeCast S128x128 (rdS arg7 harg7 xs ![n.val, 0, 0] (inbZ n)) shapeCasts_S1x128x128_S128x128
theorem loadsB_eq (n : Fin 8) : loadsB arg7 harg7 xs n = sB xs n := rdS_eq arg7 harg7 xs n _ _

theorem out0_B_3_eq : out0_B_3 (F := Ideal) c i arg1 harg1 arg2 harg2 arg3 harg3 arg4 harg4 arg5 harg5 arg6 harg6 arg7 harg7 hc0 x0 x1 x2 xs = outO x0 x1 x2 xs := by
  have e : (kernelRun0_B (F := Ideal) c i arg1 harg1 arg2 harg2 arg3 harg3 arg4 harg4 arg5 harg5 arg6 harg6 arg7 harg7 hc0 x0 x1 x2 xs).1 = storesO arg1 harg1 arg2 harg2 arg3 harg3 x0 x1 x2 (loadsB arg7 harg7 xs) := rfl
  exact funext fun y => View.read_writes_apply_of_pieces (Val := Elt Ideal) VO0_3 VO0_3.junk (outO x0 x1 x2 xs) _ (e ▸ storesO_eq arg1 harg1 arg2 harg2 arg3 harg3 x0 x1 x2 (loadsB_eq arg7 harg7 xs)) y (cover0_B_3 (F := Ideal) c i arg1 harg1 arg2 harg2 arg3 harg3 arg4 harg4 arg5 harg5 arg6 harg6 arg7 harg7 hc0 x0 x1 x2 xs y)
theorem out0_B_4_eq : out0_B_4 (F := Ideal) c i arg1 harg1 arg2 harg2 arg3 harg3 arg4 harg4 arg5 harg5 arg6 harg6 arg7 harg7 hc0 x0 x1 x2 xs = outS xs := by
  have e : (kernelRun0_B (F := Ideal) c i arg1 harg1 arg2 harg2 arg3 harg3 arg4 harg4 arg5 harg5 arg6 harg6 arg7 harg7 hc0 x0 x1 x2 xs).2.1 = storesS (loadsB arg7 harg7 xs) := rfl
  exact funext fun y => View.read_writes_apply_of_pieces (Val := Elt Ideal) VO0_4 VO0_4.junk (outS xs) _ (e ▸ storesS_eq (loadsB_eq arg7 harg7 xs)) y (cover0_B_4 (F := Ideal) c i arg1 harg1 arg2 harg2 arg3 harg3 arg4 harg4 arg5 harg5 arg6 harg6 arg7 harg7 hc0 x0 x1 x2 xs y)
theorem out0_B_5_eq : out0_B_5 (F := Ideal) c i arg1 harg1 arg2 harg2 arg3 harg3 arg4 harg4 arg5 harg5 arg6 harg6 arg7 harg7 hc0 x0 x1 x2 xs = outX x0 x1 x2 := by
  have e : (kernelRun0_B (F := Ideal) c i arg1 harg1 arg2 harg2 arg3 harg3 arg4 harg4 arg5 harg5 arg6 harg6 arg7 harg7 hc0 x0 x1 x2 xs).2.2.1 = storesX arg1 harg1 arg2 harg2 arg3 harg3 x0 x1 x2 := rfl
  exact funext fun y => View.read_writes_apply_of_pieces (Val := Elt Ideal) VO0_5 VO0_5.junk (outX x0 x1 x2) _ (e ▸ storesX_eq arg1 harg1 arg2 harg2 arg3 harg3 x0 x1 x2) y (cover0_B_5 (F := Ideal) c i arg1 harg1 arg2 harg2 arg3 harg3 arg4 harg4 arg5 harg5 arg6 harg6 arg7 harg7 hc0 x0 x1 x2 xs y)
theorem sout0_B_0_eq : sout0_B_0 (F := Ideal) c i arg1 harg1 arg2 harg2 arg3 harg3 arg4 harg4 arg5 harg5 arg6 harg6 arg7 harg7 hc0 x0 x1 x2 xs = outN x0 x1 x2 xs := by
  have e : (kernelRun0_B (F := Ideal) c i arg1 harg1 arg2 harg2 arg3 harg3 arg4 harg4 arg5 harg5 arg6 harg6 arg7 harg7 hc0 x0 x1 x2 xs).2.2.2.1 = storesN arg1 harg1 arg2 harg2 arg3 harg3 x0 x1 x2 (loadsB arg7 harg7 xs) := rfl
  exact funext fun y => View.read_writes_apply_of_pieces (Val := Elt Ideal) VS0_0 VS0_0.junk (outN x0 x1 x2 xs) _ (e ▸ storesN_eq arg1 harg1 arg2 harg2 arg3 harg3 x0 x1 x2 (loadsB_eq arg7 harg7 xs)) y (scover0_B_0 (F := Ideal) c i arg1 harg1 arg2 harg2 arg3 harg3 arg4 harg4 arg5 harg5 arg6 harg6 arg7 harg7 hc0 x0 x1 x2 xs y)

end Cert.Block
end
-- ==== Proof.Delta.lean ====
/-
  The gated delta rule over the real numbers, token by token and in chunks of 64 tokens.

  `step` is one token: the state decays, the value is corrected by what the state returns for the key, and the result
  is written along the key. `traj` is the sequence of states. The theorems say that a whole chunk is given by one
  triangular system: its solution holds the written values, and the outputs and the last state follow by products.
-/
module

public import Mathlib.Data.Matrix.Mul
public import Mathlib.LinearAlgebra.Matrix.NonsingularInverse
public import Mathlib.Analysis.SpecialFunctions.Exp
public import Mathlib.Tactic.Ring
public import Mathlib.Tactic.NoncommRing
public import Mathlib.Tactic.Linarith

@[expose] public section

noncomputable section
namespace Cert.Delta

open Finset

/-- A state of one head: rows are key features and columns are value features. -/
abbrev State := Matrix (Fin 128) (Fin 128) ℝ

/-- The value written by one token. -/
def wr (k v : Fin 128 → ℝ) (β g : ℝ) (S : State) : Fin 128 → ℝ := fun j => β * (v j - ∑ i, k i * (S i j * Real.exp g))

/-- The state after one token. -/
def step (k v : Fin 128 → ℝ) (β g : ℝ) (S : State) : State := fun i j => S i j * Real.exp g + k i * wr k v β g S j

/-- The output of one token. -/
def out (q : Fin 128 → ℝ) (S : State) : Fin 128 → ℝ := fun j => ∑ i, q i * S i j

variable (S₀ : State) (q k v : ℕ → Fin 128 → ℝ) (β g : ℕ → ℝ)

/-- The state before token `n`. -/
def traj : ℕ → State
  | 0 => S₀
  | n + 1 => step (k n) (v n) (β n) (g n) (traj n)

/-- The value written by token `n`. -/
def wrote (n : ℕ) : Fin 128 → ℝ := wr (k n) (v n) (β n) (g n) (traj S₀ k v β g n)

/-- The sum of the first `n` decays. -/
def gs (n : ℕ) : ℝ := ∑ s ∈ range n, g s

/-- A trajectory may be started again at any token. -/
theorem traj_add (b n : ℕ) : traj S₀ k v β g (b + n) =
    traj (traj S₀ k v β g b) (fun t => k (b + t)) (fun t => v (b + t)) (fun t => β (b + t)) (fun t => g (b + t)) n := by
  induction n with
  | zero => rfl
  | succ n ih => rw [← Nat.add_assoc]; simp only [traj]; rw [ih]

/-- The state as the decayed first state and the decayed writes. -/
theorem traj_form (n : ℕ) (i j : Fin 128) : traj S₀ k v β g n i j =
    Real.exp (gs g n) * S₀ i j + ∑ s ∈ range n, Real.exp (gs g n - gs g (s + 1)) * k s i * wrote S₀ k v β g s j := by
  induction n with
  | zero => simp [traj, gs]
  | succ n ih =>
    have e : ∀ x : ℝ, Real.exp (gs g (n + 1) - x) = Real.exp (gs g n - x) * Real.exp (g n) := fun x => by
      rw [← Real.exp_add]; congr 1; simp only [gs, sum_range_succ]; ring
    have e0 : Real.exp (gs g (n + 1)) = Real.exp (gs g n) * Real.exp (g n) := by simpa using e 0
    have h : traj S₀ k v β g (n + 1) i j = traj S₀ k v β g n i j * Real.exp (g n) + k n i * wrote S₀ k v β g n j := rfl
    rw [h, ih, sum_range_succ, sub_self, Real.exp_zero, e0]
    simp only [e]
    rw [add_mul, sum_mul]
    have : ∀ s, Real.exp (gs g n - gs g (s + 1)) * k s i * wrote S₀ k v β g s j * Real.exp (g n) =
        Real.exp (gs g n - gs g (s + 1)) * Real.exp (g n) * k s i * wrote S₀ k v β g s j := fun s => by ring
    simp only [this]
    ring

theorem sum_lt (f : ℕ → ℝ) (t : Fin 64) : ∑ s : Fin 64, (if s < t then f s.val else 0) = ∑ s ∈ range t.val, f s := by
  have h := Fin.sum_univ_eq_sum_range (fun s => if s < t.val then f s else 0) 64
  simp only [Fin.lt_def]
  rw [h, ← sum_filter]
  congr 1
  ext x
  simp only [mem_filter, mem_range]
  have := t.isLt
  omega

theorem sum_le (f : ℕ → ℝ) (t : Fin 64) : ∑ s : Fin 64, (if s ≤ t then f s.val else 0) = ∑ s ∈ range (t.val + 1), f s := by
  have h := Fin.sum_univ_eq_sum_range (fun s => if s ≤ t.val then f s else 0) 64
  simp only [Fin.le_def]
  rw [h, ← sum_filter]
  congr 1
  ext x
  simp only [mem_filter, mem_range]
  have := t.isLt
  omega

/-- Rows `0 … 63` of a sequence of rows. -/
def rows (x : ℕ → Fin 128 → ℝ) : Matrix (Fin 64) (Fin 128) ℝ := fun t j => x t.val j

/-- The decay between two tokens of a chunk. -/
def dec : Matrix (Fin 64) (Fin 64) ℝ := fun t s => if s ≤ t then Real.exp (gs g (t.val + 1) - gs g (s.val + 1)) else 0

/-- The strictly lower triangular matrix of a chunk. -/
def low : Matrix (Fin 64) (Fin 64) ℝ := fun t s => if s < t then 0 - β t.val * (rows k * (rows k).transpose) t s * dec g t s else 0

/-- The right side that carries the values. -/
def rhsV : Matrix (Fin 64) (Fin 128) ℝ := fun t j => v t.val j * β t.val

/-- The right side that carries the keys. -/
def rhsK : Matrix (Fin 64) (Fin 128) ℝ := fun t i => k t.val i * (β t.val * Real.exp (gs g (t.val + 1)))

/-- The written values of a chunk solve its triangular system. -/
theorem system : (1 - low k β g) * rows (wrote S₀ k v β g) = rhsV v β - rhsK k β g * S₀ := by
  ext t j
  rw [Matrix.sub_mul, Matrix.one_mul]
  simp only [Matrix.sub_apply, Matrix.mul_apply]
  have hl : ∀ s : Fin 64, low k β g t s * rows (wrote S₀ k v β g) s j =
      if s < t then (fun s : ℕ => -(β t.val * (∑ i, k t.val i * k s i) * Real.exp (gs g (t.val + 1) - gs g (s + 1)) * wrote S₀ k v β g s j)) s.val else 0 := fun s => by
    by_cases h : s < t
    · simp only [low, dec, rows, h, h.le, if_true, Matrix.mul_apply, Matrix.transpose_apply]; ring
    · simp [low, h]
  rw [(sum_congr rfl fun s _ => hl s).trans (sum_lt (fun s : ℕ => -(β t.val * (∑ i, k t.val i * k s i) * Real.exp (gs g (t.val + 1) - gs g (s + 1)) * wrote S₀ k v β g s j)) t)]
  have hw : rows (wrote S₀ k v β g) t j = β t.val * (v t.val j - ∑ i, k t.val i * (traj S₀ k v β g t.val i j * Real.exp (g t.val))) := rfl
  have e : ∀ x : ℝ, Real.exp (gs g (t.val + 1) - x) = Real.exp (gs g t.val - x) * Real.exp (g t.val) := fun x => by
    rw [← Real.exp_add]; congr 1; simp only [gs, sum_range_succ]; ring
  have e0 : Real.exp (gs g (t.val + 1)) = Real.exp (gs g t.val) * Real.exp (g t.val) := by simpa using e 0
  rw [hw]
  have h1 : ∑ i, k t.val i * (traj S₀ k v β g t.val i j * Real.exp (g t.val)) =
      Real.exp (gs g (t.val + 1)) * ∑ i, k t.val i * S₀ i j +
      ∑ s ∈ range t.val, (∑ i, k t.val i * k s i) * Real.exp (gs g (t.val + 1) - gs g (s + 1)) * wrote S₀ k v β g s j := by
    simp only [traj_form S₀ k v β g t.val, e, e0, sum_mul, mul_sum, add_mul, mul_add, sum_add_distrib]
    rw [sum_comm]
    congr 1
    · exact sum_congr rfl fun i _ => by ring
    · exact sum_congr rfl fun i _ => sum_congr rfl fun s _ => by ring
  rw [h1]
  simp only [rhsV, rhsK]
  have h2 : ∑ i, k t.val i * (β t.val * Real.exp (gs g (t.val + 1))) * S₀ i j = β t.val * (Real.exp (gs g (t.val + 1)) * ∑ i, k t.val i * S₀ i j) := by
    rw [mul_sum, mul_sum]; exact sum_congr rfl fun i _ => by ring
  have h3 : ∑ s ∈ range t.val, -(β t.val * (∑ i, k t.val i * k s i) * Real.exp (gs g (t.val + 1) - gs g (s + 1)) * wrote S₀ k v β g s j) =
      -(β t.val * ∑ s ∈ range t.val, (∑ i, k t.val i * k s i) * Real.exp (gs g (t.val + 1) - gs g (s + 1)) * wrote S₀ k v β g s j) := by
    rw [mul_sum, ← sum_neg_distrib]; exact sum_congr rfl fun s _ => by ring
  rw [h2, h3]
  ring

/-- The decayed products of queries and keys. -/
def attn : Matrix (Fin 64) (Fin 64) ℝ := fun t s => (rows q * (rows k).transpose) t s * dec g t s

/-- The queries with the decay from the start of the chunk. -/
def qdec : Matrix (Fin 64) (Fin 128) ℝ := fun t i => q t.val i * Real.exp (gs g (t.val + 1))

/-- The outputs of a chunk. -/
theorem outputs : rows (fun t => out (q t) (traj S₀ k v β g (t + 1))) =
    qdec q g * S₀ + attn q k g * rows (wrote S₀ k v β g) := by
  ext t j
  simp only [Matrix.add_apply, Matrix.mul_apply]
  have hl : ∀ s : Fin 64, attn q k g t s * rows (wrote S₀ k v β g) s j =
      if s ≤ t then (fun s : ℕ => (∑ i, q t.val i * k s i) * Real.exp (gs g (t.val + 1) - gs g (s + 1)) * wrote S₀ k v β g s j) s.val else 0 := fun s => by
    by_cases h : s ≤ t
    · simp only [attn, dec, rows, h, if_true, Matrix.mul_apply, Matrix.transpose_apply]
    · simp [attn, dec, h]
  rw [(sum_congr rfl fun s _ => hl s).trans (sum_le (fun s : ℕ => (∑ i, q t.val i * k s i) * Real.exp (gs g (t.val + 1) - gs g (s + 1)) * wrote S₀ k v β g s j) t)]
  simp only [rows, out, qdec, traj_form S₀ k v β g (t.val + 1), mul_add, mul_sum, sum_mul, sum_add_distrib]
  rw [sum_comm (s := range (t.val + 1))]
  congr 1
  · exact sum_congr rfl fun i _ => by ring
  · exact sum_congr rfl fun i _ => sum_congr rfl fun s _ => by ring

/-- The keys with the decay to the end of the chunk. -/
def kend : Matrix (Fin 64) (Fin 128) ℝ := fun t i => k t.val i * Real.exp (gs g 64 - gs g (t.val + 1))

/-- The state after a chunk. -/
theorem after : traj S₀ k v β g 64 = Real.exp (gs g 64) • S₀ + (kend k g).transpose * rows (wrote S₀ k v β g) := by
  ext i j
  simp only [Matrix.add_apply, Matrix.mul_apply, Matrix.smul_apply, Matrix.transpose_apply, smul_eq_mul, kend, rows]
  rw [traj_form, ← Fin.sum_univ_eq_sum_range (fun s => Real.exp (gs g 64 - gs g (s + 1)) * k s i * wrote S₀ k v β g s j) 64]
  congr 1
  exact sum_congr rfl fun s _ => by ring

/-- A strictly lower triangular matrix of 64 rows has its 64th power zero. -/
theorem pow_low {n : Matrix (Fin 64) (Fin 64) ℝ} (hn : ∀ i j, i ≤ j → n i j = 0) : n ^ 64 = 0 := by
  have h : ∀ p : ℕ, ∀ i j : Fin 64, i.val < j.val + p → (n ^ p) i j = 0 := by
    intro p
    induction p with
    | zero => intro i j hij; rw [pow_zero, Matrix.one_apply_ne]; intro h; subst h; omega
    | succ p ih =>
      intro i j hij
      rw [pow_succ, Matrix.mul_apply]
      refine sum_eq_zero fun s _ => ?_
      by_cases hs : i.val < s.val + p
      · rw [ih i s hs, zero_mul]
      · rw [hn s j (by rw [Fin.le_def]; omega), mul_zero]
  ext i j
  exact h 64 i j (by have := i.isLt; omega)

/-- The inverse by doubling, with its last correction. -/
def inv0 (n : Matrix (Fin 64) (Fin 64) ℝ) : Matrix (Fin 64) (Fin 64) ℝ :=
  let p1 := n * n
  let p2 := p1 * p1
  let p3 := p2 * p2
  let p4 := p3 * p3
  let p5 := p4 * p4
  let x0 := 1 + n
  let x1 := x0 + x0 * p1
  let x2 := x1 + x1 * p2
  let x3 := x2 + x2 * p3
  let x4 := x3 + x3 * p4
  x4 + x4 * p5

/-- The corrected inverse. -/
def inv (n : Matrix (Fin 64) (Fin 64) ℝ) : Matrix (Fin 64) (Fin 64) ℝ := inv0 n + inv0 n * (1 - inv0 n + n * inv0 n)

theorem inv0_mul {n : Matrix (Fin 64) (Fin 64) ℝ} (hn : n ^ 64 = 0) : (1 - n) * inv0 n = 1 := by
  have h1 : (1 - n) * (1 + n) = 1 - n ^ 2 := by noncomm_ring
  have hs : ∀ (p : ℕ) (x : Matrix (Fin 64) (Fin 64) ℝ), (1 - n) * x = 1 - n ^ p → (1 - n) * (x + x * n ^ p) = 1 - n ^ (p + p) := by
    intro p x hx
    rw [mul_add, ← mul_assoc, hx, pow_add]
    noncomm_ring
  have h2 := hs 2 _ h1
  have h4 := hs 4 _ h2
  have h8 := hs 8 _ h4
  have h16 := hs 16 _ h8
  have h32 := hs 32 _ h16
  have e1 : n * n = n ^ 2 := (pow_two n).symm
  have e2 : n ^ 2 * n ^ 2 = n ^ 4 := (pow_add n 2 2).symm
  have e3 : n ^ 4 * n ^ 4 = n ^ 8 := (pow_add n 4 4).symm
  have e4 : n ^ 8 * n ^ 8 = n ^ 16 := (pow_add n 8 8).symm
  have e5 : n ^ 16 * n ^ 16 = n ^ 32 := (pow_add n 16 16).symm
  simp only [inv0, e1, e2, e3, e4, e5]
  rw [h32, hn, sub_zero]

theorem inv_mul {n : Matrix (Fin 64) (Fin 64) ℝ} (hn : ∀ i j, i ≤ j → n i j = 0) : (1 - n) * inv n = 1 := by
  have h := inv0_mul (pow_low hn)
  have hr : 1 - inv0 n + n * inv0 n = 0 := by
    have : 1 - inv0 n + n * inv0 n = 1 - (1 - n) * inv0 n := by rw [sub_mul, one_mul]; abel
    rw [this, h, sub_self]
  rw [inv, hr, mul_zero, add_zero, h]

theorem low_zero (i j : Fin 64) (h : i ≤ j) : low k β g i j = 0 := by
  rw [low, if_neg (not_lt.2 h)]

theorem inv_low_mul : inv (low k β g) * (1 - low k β g) = 1 :=
  mul_eq_one_comm.1 (inv_mul (low_zero k β g))

/-- The written values of a chunk, from the inverse. -/
theorem written : rows (wrote S₀ k v β g) = inv (low k β g) * rhsV v β - inv (low k β g) * rhsK k β g * S₀ := by
  have h := congrArg (fun x => inv (low k β g) * x) (system S₀ k v β g)
  change inv (low k β g) * _ = inv (low k β g) * _ at h
  rw [← Matrix.mul_assoc, inv_low_mul, Matrix.one_mul, Matrix.mul_sub, ← Matrix.mul_assoc] at h
  exact h

end Cert.Delta
end
-- ==== Proof.HeadReal.lean ====
/-
  What one head of one chunk computes when its arguments hold real numbers: the outputs and the last state of the
  token recurrence.
-/
module

public import proofs.«01_k».proof.Proof.Head
public import proofs.«01_k».proof.Proof.Delta

@[expose] public section

set_option maxRecDepth 16384

noncomputable section
namespace Cert.Head

open Cert.KernelIdeal Cert.Lift Cert.Delta Idealize.ShloMosaic

variable (S₀ : State) (q k v : ℕ → Fin 128 → ℝ) (β g : ℕ → ℝ)

/-- A column of 64 numbers. -/
def col (x : ℕ → ℝ) : Mat 64 1 := fun t _ => x t.val
/-- A row of 64 numbers. -/
def row (x : ℕ → ℝ) : Mat 1 64 := fun _ t => x t.val
/-- The running sums of the decays. -/
def gsum : ℕ → ℝ := fun t => gs g (t + 1)

theorem hDec_up : hDec (up (col (gsum g))) (up (row (gsum g))) = up (dec g) := by
  simp only [hDec, bc_64_1_64, bc_1_64, subf_up, bcast_up, select_incl, exp_up]
  refine congrArg up ?_
  ext i j
  by_cases h : j ≤ i <;> simp [dec, h, col, row, gsum, Matrix.of_apply]

theorem hN_up : hN (up (rows k)) (up (col β)) (up (dec g)) = up (low k β g) := by
  simp only [hN, bc_64_1_64, truncf_up, const_up, mm_nt, mulf_up, bcast_up, subf_up, select_strict]
  refine congrArg up ?_
  ext i j
  by_cases h : j < i <;> simp [low, h, col, had, Matrix.of_apply]

theorem mm_up (a b : Mat 64 64) : mm (up a) (up b) = up (a * b) := by
  simp only [mm, truncf_up, const_up, mm_64_64_64]

theorem lo_up {n m : ℕ} (a : Mat n m) : lo (s := ⟨2, ![n, m]⟩) (up a) = up 0 := by
  simp only [lo, truncf_up, extf_up, subf_up, sub_self]

theorem dot3_up (a b : Mat 64 64) : dot3 (up a) (up b) = up (a * b) := by
  simp only [dot3, mm_up, lo_up, truncf_up, const_up, mm_64_64_64, addf_up, Matrix.mul_zero, Matrix.zero_mul, add_zero]

theorem hX_up (n : Mat 64 64) : hX (up n) = up (inv n) := by
  simp only [hX, fixup, hX0, dbl, mm_up, dot3_up, eye_up, addf_up, subf_up, Delta.inv, Delta.inv0]

theorem hRhs_up : hRhs (up (rows k)) (up (rows v)) (up (col β)) (exp (up (col (gsum g)))) =
    up (cat (rhsV v β) (rhsK k β g)) := by
  have e1 : mulf (up (rows v)) (broadcastTo S64x128 (up (col β)) Gen.broadcasts_S64x1_S64x128) = (up (rhsV v β) : V S64x128) := by
    simp only [bc_64_1_128, mulf_up]
    rfl
  have e2 : mulf (up (rows k)) (broadcastTo S64x128 (mulf (up (col β)) (exp (up (col (gsum g))))) Gen.broadcasts_S64x1_S64x128) =
      (up (rhsK k β g) : V S64x128) := by
    simp only [exp_up, mulf_up, bc_64_1_128]
    rfl
  exact (congrArg₂ (fun A B : V S64x128 => concatenate S64x256 1 [⟨S64x128, A⟩, ⟨S64x128, B⟩]
    Gen.concatenates_S64x128_S64x128_S64x256_d1) e1 e2).trans (concat_up _ _ _)

theorem hSol_up (x : Mat 64 64) (r : Mat 64 256) : hSol (up x) (up r) = up (x * r) := by
  simp only [hSol, lo_up, truncf_up, const_up, mm_64_64_256, addf_up, Matrix.mul_zero, Matrix.zero_mul, add_zero]

theorem hAttn_up : hAttn (up (rows q)) (up (rows k)) (up (dec g)) = up (attn q k g) := by
  simp only [hAttn, truncf_up, const_up, mm_nt, mulf_up]
  rfl

/-- The written values of a head are those of the token recurrence. -/
theorem headW_up : headW (up (rows k)) (up (rows v)) (up (col β)) (up (col (gsum g))) (up (row (gsum g))) (up S₀) =
    up (rows (wrote S₀ k v β g)) := by
  simp only [headW, hDec_up, hN_up, hX_up, hRhs_up, hSol_up, mul_cat, hWv, cat_left, cat_right, truncf_up, const_up,
    mm_64_128_128, subf_up]
  rw [← written]

/-- The outputs of a head are those of the token recurrence. -/
theorem headO_up : headO (up (rows q)) (up (rows k)) (up (rows v)) (up (col β)) (up (col (gsum g))) (up (row (gsum g))) (up S₀) =
    up (rows (fun t => out (q t) (traj S₀ k v β g (t + 1)))) := by
  simp only [headO, headW_up, hDec_up, hAttn_up, hO, exp_up, bc_64_1_128, mulf_up, truncf_up, const_up, mm_64_128_128,
    mm_64_64_128, addf_up]
  rw [outputs]
  rfl

/-- The state of a head after the chunk is that of the token recurrence. -/
theorem headS_up : headS (up (rows k)) (up (rows v)) (up (col β)) (up (col (gsum g))) (up (row (gsum g))) (up S₀) =
    up (traj S₀ k v β g 64) := by
  simp only [headS, headW_up, hS, hLast, last_row, exp_up, bc_1_1_64, bc_1_1_128, bc_64_1_128, subf_up, mulf_up, truncf_up,
    const_up, mm_tn, addf_up]
  rw [after]
  refine congrArg up ?_
  congr 1
  ext i j
  simp [had, col, gsum, mul_comm]

end Cert.Head
end
-- ==== Proof.BlockReal.lean ====
/-
  What the body of the forward call leaves when the blocks it reads hold real numbers.

  `a` are the queries, keys and values and `b` the rates and decays, by token and column. Each of the eight heads of a
  block runs its own token recurrence.
-/
module

public import proofs.«01_k».proof.Proof.Block
public import proofs.«01_k».proof.Proof.HeadReal

@[expose] public section

set_option maxRecDepth 16384

noncomputable section
namespace Cert.Block

open Cert.KernelIdeal Cert.KernelIdeal.Gen Cert.Head Cert.Lift Cert.Delta Idealize.ShloMosaic

variable (a b : ℕ → ℕ → ℝ)

/-- The queries of head `h`. -/
def qs (h : ℕ) : ℕ → Fin 128 → ℝ := fun n i => a n (128 * h + i.val)
/-- The keys of head `h`. -/
def ks (h : ℕ) : ℕ → Fin 128 → ℝ := fun n i => a n (1024 + 128 * h + i.val)
/-- The values of head `h`. -/
def vs (h : ℕ) : ℕ → Fin 128 → ℝ := fun n i => a n (2048 + 128 * h + i.val)
/-- The rates of head `h`. -/
def bs (h : ℕ) : ℕ → ℝ := fun n => b n h
/-- The decays of head `h`. -/
def ds (h : ℕ) : ℕ → ℝ := fun n => b n (8 + h)
/-- The state of head `h` before token `n`, from zero. -/
def st (h n : ℕ) : State := traj 0 (ks a h) (vs a h) (bs b h) (ds b h) n

/-- The block of queries, keys and values of the chunk that starts at token `c`. -/
def blk0 (c : ℕ) : V S64x3072 := fun j => ((a (c + (j 0).val) (j 1).val : ℝ) : EReal)
/-- The block of rates and decays of the chunk that starts at token `c`. -/
def blk1 (c : ℕ) : V S64x128 := fun j => ((b (c + (j 0).val) (j 1).val : ℝ) : EReal)
/-- The decays of the chunk that starts at token `c`, as rows. -/
def blk2 (c : ℕ) : V S1x8x64 := fun j => ((b (c + (j 2).val) (8 + (j 1).val) : ℝ) : EReal)
/-- The states of the eight heads before token `c`. -/
def blkS (c : ℕ) : V S8x128x128 := fun j => ((st a b (j 0).val c (j 1) (j 2) : ℝ) : EReal)

variable (c : ℕ) (h : Fin 8)

theorem qB_real : qB (blk0 a c) h = up (rows (fun t => qs a h.val (c + t))) := rfl
theorem kB_real : kB (blk0 a c) h = up (rows (fun t => ks a h.val (c + t))) := rfl
theorem vB_real : vB (blk0 a c) h = up (rows (fun t => vs a h.val (c + t))) := rfl
theorem bB_real : bB (blk1 b c) h = up (col (fun t => bs b h.val (c + t))) := rfl
theorem sB_real : sB (blkS a b c) h = up (st a b h.val c) := rfl

/-- The rates and decays of a chunk as a matrix. -/
def m1 : Mat 64 128 := fun t k => b (c + t.val) k.val
/-- The decays of a chunk as a matrix of rows. -/
def m2 : Mat 8 64 := fun k t => b (c + t.val) (8 + k.val)

theorem gcB_real : gcB (blk1 b c) h = up (col (gsum (fun t => ds b h.val (c + t)))) := by
  funext j
  have e : k0_pay7 (F := Ideal) (blk1 b c) (ix2 (j 0) ⟨8 + h.val, by omega⟩) = ((∑ s, if s ≤ j 0 then m1 b c s ⟨8 + h.val, by omega⟩ else 0 : ℝ) : EReal) :=
    congrFun (tril_up (m1 b c)) (ix2 (j 0) ⟨8 + h.val, by omega⟩)
  exact e.trans (congrArg Real.toEReal (sum_le (fun t => b (c + t) (8 + h.val)) (j 0)))

theorem grB_real : grB (blk2 b c) h = up (row (gsum (fun t => ds b h.val (c + t)))) := by
  funext j
  have e : k0_pay8 (F := Ideal) (blk2 b c) (ix2 h (j 1)) = ((∑ s, if s ≤ j 1 then m2 b c h s else 0 : ℝ) : EReal) :=
    congrFun (triu_up (m2 b c)) (ix2 h (j 1))
  exact e.trans (congrArg Real.toEReal (sum_le (fun t => b (c + t) (8 + h.val)) (j 1)))

/-- The state after `n` more tokens. -/
theorem st_add (n : ℕ) : traj (st a b h.val c) (fun t => ks a h.val (c + t)) (fun t => vs a h.val (c + t))
    (fun t => bs b h.val (c + t)) (fun t => ds b h.val (c + t)) n = st a b h.val (c + n) :=
  (traj_add _ _ _ _ _ c n).symm

/-- The outputs of a head are those of the token recurrence. -/
theorem oH_real : oH (blk0 a c) (blk1 b c) (blk2 b c) (blkS a b c) h =
    up (rows (fun t => out (qs a h.val (c + t)) (st a b h.val (c + t + 1)))) := by
  rw [oH, qB_real, kB_real, vB_real, bB_real, gcB_real, grB_real, sB_real, headO_up]
  simp only [st_add]
  rfl

/-- The state of a head after the chunk is that of the token recurrence. -/
theorem nH_real : nH (blk0 a c) (blk1 b c) (blk2 b c) (blkS a b c) h = up (st a b h.val (c + 64)) := by
  rw [nH, kB_real, vB_real, bB_real, gcB_real, grB_real, sB_real, headS_up, st_add]

/-- The inverse of a head. -/
theorem xH_real : xH (blk0 a c) (blk1 b c) (blk2 b c) h =
    up (Delta.inv (low (fun t => ks a h.val (c + t)) (fun t => bs b h.val (c + t)) (fun t => ds b h.val (c + t)))) := by
  rw [xH, kB_real, bB_real, gcB_real, grB_real, hDec_up, hN_up, hX_up]

/-- The output of token `n` in column `j`. -/
def oR (n j : ℕ) : ℝ := out (qs a (j / 128) n) (st a b (j / 128) (n + 1)) ⟨j % 128, Nat.mod_lt _ (by decide)⟩

theorem outO_real : outO (blk0 a c) (blk1 b c) (blk2 b c) (blkS a b c) = fun i => ((oR a b (c + (i 0).val) (i 1).val : ℝ) : EReal) := by
  funext i
  have hi : (i 1).val < 1024 := (i 1).isLt
  exact congrFun (oH_real a b c ⟨(i 1).val / 128, by omega⟩) (ix2 (i 0) ⟨(i 1).val % 128, by omega⟩)

theorem outN_real : outN (blk0 a c) (blk1 b c) (blk2 b c) (blkS a b c) = blkS a b (c + 64) := by
  funext i
  exact congrFun (nH_real a b c (i 0)) (ix2 (i 1) (i 2))

theorem zS_real : zS = blkS a b 0 := by
  funext i
  show (0 : EReal) = ((0 : ℝ) : EReal)
  exact EReal.coe_zero.symm

end Cert.Block
end
-- ==== Proof.FwdArray.lean ====
/-
  The arrays the forward call leaves: the outputs of the token recurrence, the states at the chunks' starts and the
  inverses of the chunks' triangular matrices, chunk after chunk.
-/
module

public import proofs.«01_k».proof.Proof.FwdPoints
public import proofs.«01_k».proof.Proof.BlockFirst
public import proofs.«01_k».proof.Proof.BlockLater
public import proofs.«01_k».proof.Proof.BlockReal

@[expose] public section

set_option maxRecDepth 16384

noncomputable section
namespace Cert.FwdArray

open Cert.KernelIdeal Cert.KernelIdeal.Gen Cert.Fwd Cert.Block Cert.Head Idealize.ShloMosaic Idealize.ShloMosaic.TcCoe Idealize.SL.Sem

variable (ent : ∀ c : Dev nD, ∀ b : Ref sig .tc, Buf (Elt Ideal) ((c : Thread nD τ).loc b)) (c : Dev nD) (a b : ℕ → ℕ → ℝ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

/-- The block of queries, keys and values of chunk `t`. -/
theorem iblk0 (hA : ∀ i : S8320x3072.Idx, ent c main_arg0 i = ((a (i 0).val (i 1).val : ℝ) : EReal))
    (t : Fin cfg0.N) : iblk (F := Ideal) ent c 0 t = blk0 a (64 * t.val) := by
  funext j
  obtain ⟨e0, e1⟩ := idx0 t
  have hb0 : (((cfg0.win 0).blk t).view.emb j 0).val = win0_0.index t (0 : Fin 2) * 64 + 1 * (j 0).val := rfl
  have hb1 : (((cfg0.win 0).blk t).view.emb j 1).val = win0_0.index t (1 : Fin 2) * 3072 + 1 * (j 1).val := rfl
  refine (hA (((cfg0.win 0).blk t).view.emb j)).trans (congrArg Real.toEReal ?_)
  have q0 : (((cfg0.win 0).blk t).view.emb j 0).val = 64 * t.val + (j 0).val := by rw [hb0, e0]; omega
  have q1 : (((cfg0.win 0).blk t).view.emb j 1).val = (j 1).val := by rw [hb1, e1]; omega
  exact congrArg₂ a q0 q1

/-- The block of rates and decays of chunk `t`. -/
theorem iblk1 (hB : ∀ i : S8320x128.Idx, ent c main_arg1 i = ((b (i 0).val (i 1).val : ℝ) : EReal))
    (t : Fin cfg0.N) : iblk (F := Ideal) ent c 1 t = blk1 b (64 * t.val) := by
  funext j
  obtain ⟨e0, e1⟩ := idx1 t
  have hb0 : (((cfg0.win 1).blk t).view.emb j 0).val = win0_1.index t (0 : Fin 2) * 64 + 1 * (j 0).val := rfl
  have hb1 : (((cfg0.win 1).blk t).view.emb j 1).val = win0_1.index t (1 : Fin 2) * 128 + 1 * (j 1).val := rfl
  refine (hB (((cfg0.win 1).blk t).view.emb j)).trans (congrArg Real.toEReal ?_)
  have q0 : (((cfg0.win 1).blk t).view.emb j 0).val = 64 * t.val + (j 0).val := by rw [hb0, e0]; omega
  have q1 : (((cfg0.win 1).blk t).view.emb j 1).val = (j 1).val := by rw [hb1, e1]; omega
  exact congrArg₂ b q0 q1

/-- The decays of chunk `t` as rows. -/
theorem iblk2 (hR : ∀ i : S130x8x64.Idx, ent c main_v2 i = ((b (64 * (i 0).val + (i 2).val) (8 + (i 1).val) : ℝ) : EReal))
    (t : Fin cfg0.N) : iblk (F := Ideal) ent c 2 t = blk2 b (64 * t.val) := by
  funext j
  obtain ⟨e0, e1, e2⟩ := idx2 t
  have ht : t.val < 130 := lt_of_lt_of_eq t.isLt (show cfg0.N = 130 from N_0)
  have hb0 : (((cfg0.win 2).blk t).view.emb j 0).val = win0_2.index t (0 : Fin 3) * 1 + 1 * (j 0).val := rfl
  have hb1 : (((cfg0.win 2).blk t).view.emb j 1).val = win0_2.index t (1 : Fin 3) * 8 + 1 * (j 1).val := rfl
  have hb2 : (((cfg0.win 2).blk t).view.emb j 2).val = win0_2.index t (2 : Fin 3) * 64 + 1 * (j 2).val := rfl
  have h0 : (j 0).val < 1 := (j 0).isLt
  have h1 : (j 1).val < 8 := (j 1).isLt
  have h2 : (j 2).val < 64 := (j 2).isLt
  refine (hR (((cfg0.win 2).blk t).view.emb j)).trans (congrArg Real.toEReal ?_)
  refine congrArg₂ b ?_ ?_
  · rw [hb0, hb2, e0, e2]; omega
  · rw [hb1, e1]; omega

/-- What the body leaves after chunk `n`. -/
theorem outs (hA : ∀ i : S8320x3072.Idx, ent c main_arg0 i = ((a (i 0).val (i 1).val : ℝ) : EReal))
    (hB : ∀ i : S8320x128.Idx, ent c main_arg1 i = ((b (i 0).val (i 1).val : ℝ) : EReal))
    (hR : ∀ i : S130x8x64.Idx, ent c main_v2 i = ((b (64 * (i 0).val + (i 2).val) (8 + (i 1).val) : ℝ) : EReal))
    (n : ℕ) : ∀ hn : n < cfg0.N, outsAt0 (F := Ideal) ent c n hn =
      ((fun i => ((oR a b (64 * n + (i 0).val) (i 1).val : ℝ) : EReal)), outS (blkS a b (64 * n)),
        outX (blk0 a (64 * n)) (blk1 b (64 * n)) (blk2 b (64 * n)), blkS a b (64 * n + 64)) := by
  induction n with
  | zero =>
    intro hn
    rw [outsAt0_A ent c ⟨0, hn⟩ (Nat.zero_mod _), outsA]
    rw [out0_A_3_eq, out0_A_4_eq, out0_A_5_eq, sout0_A_0_eq, iblk0 ent c a hA, iblk1 ent c b hB, iblk2 ent c b hR, zS_real a b]
    show (outO (blk0 a (64 * 0)) (blk1 b (64 * 0)) (blk2 b (64 * 0)) (blkS a b (64 * 0)), outS (blkS a b (64 * 0)), _,
      outN (blk0 a (64 * 0)) (blk1 b (64 * 0)) (blk2 b (64 * 0)) (blkS a b (64 * 0))) = _
    rw [outO_real, outN_real]
  | succ n ih =>
    intro hn
    have hN : n + 1 < 130 := lt_of_lt_of_eq hn (show cfg0.N = 130 from N_0)
    rw [outsAt0_B ent c ⟨n + 1, hn⟩ (by show ¬(n + 1) % 130 = 0; omega), outsB]
    have e : (outsAt0 (F := Ideal) ent c ((⟨n + 1, hn⟩ : Fin cfg0.N).val - 1) (Nat.lt_of_le_of_lt (Nat.sub_le _ _) hn)).2.2.2 =
        blkS a b (64 * (n + 1)) := by
      refine (congrArg (fun p => p.2.2.2) (ih (Nat.lt_of_succ_lt hn))).trans ?_
      show blkS a b (64 * n + 64) = _
      rw [Nat.mul_succ]
    rw [out0_B_3_eq, out0_B_4_eq, out0_B_5_eq, sout0_B_0_eq, iblk0 ent c a hA, iblk1 ent c b hB, iblk2 ent c b hR]
    rw [e]
    show (outO (blk0 a (64 * (n + 1))) (blk1 b (64 * (n + 1))) (blk2 b (64 * (n + 1))) (blkS a b (64 * (n + 1))), _, _,
      outN (blk0 a (64 * (n + 1))) (blk1 b (64 * (n + 1))) (blk2 b (64 * (n + 1))) (blkS a b (64 * (n + 1)))) = _
    rw [outO_real, outN_real]

/-! ## The arrays -/

theorem idx3 : ∀ t : Fin cfg0.N, (cfg0.win 3).flush t = true ∧ win0_3.index t (0 : Fin 2) = t.val ∧ win0_3.index t (1 : Fin 2) = 0 :=
  (by decide +kernel : ∀ t : Fin grid0.N, _)
theorem cover3 (i : S8320x1024.Idx) : ∃ t : Fin cfg0.N, (cfg0.win 3).flush t = true ∧ i ∈ ((cfg0.win 3).blk t).view.set := by
  have h0 : (i 0).val < 8320 := (i 0).isLt
  have h1 : (i 1).val < 1024 := (i 1).isLt
  have hN : (i 0).val / 64 < cfg0.N := by rw [show cfg0.N = 130 from N_0]; omega
  obtain ⟨hf, e0, e1⟩ := idx3 ⟨(i 0).val / 64, hN⟩
  refine ⟨⟨(i 0).val / 64, hN⟩, hf, ?_⟩
  show i ∈ ((View.whole main_v3_0).slice (win0_3.rect ⟨(i 0).val / 64, hN⟩)).set
  rw [View.set_slice_whole, Rect.mem_set_unit]
  intro x
  match x with
  | ⟨0, _⟩ =>
    show win0_3.index ⟨(i 0).val / 64, hN⟩ (0 : Fin 2) * 64 ≤ (i 0).val ∧ (i 0).val < win0_3.index ⟨(i 0).val / 64, hN⟩ (0 : Fin 2) * 64 + 64
    rw [e0]; simp only; omega
  | ⟨1, _⟩ =>
    show win0_3.index ⟨(i 0).val / 64, hN⟩ (1 : Fin 2) * 1024 ≤ (i 1).val ∧ (i 1).val < win0_3.index ⟨(i 0).val / 64, hN⟩ (1 : Fin 2) * 1024 + 1024
    rw [e1]; simp only; omega

/-- The outputs of the token recurrence. -/
theorem array3 (hA : ∀ i : S8320x3072.Idx, ent c main_arg0 i = ((a (i 0).val (i 1).val : ℝ) : EReal))
    (hB : ∀ i : S8320x128.Idx, ent c main_arg1 i = ((b (i 0).val (i 1).val : ℝ) : EReal))
    (hR : ∀ i : S130x8x64.Idx, ent c main_v2 i = ((b (64 * (i 0).val + (i 2).val) (8 + (i 1).val) : ℝ) : EReal)) :
    (dat (F := Ideal) ent c).arrAt 3 cfg0.N = fun i : S8320x1024.Idx => ((oR a b (i 0).val (i 1).val : ℝ) : EReal) := by
  refine (dat (F := Ideal) ent c).arrAt_eq_of_cover 3 (fun i : S8320x1024.Idx => ((oR a b (i 0).val (i 1).val : ℝ) : EReal)) (fun t _ => ?_) cover3
  rw [flushed3, outs ent c a b hA hB hR]
  funext y
  obtain ⟨hf, e0, e1⟩ := idx3 t
  have hy0 : (y 0).val < 64 := (y 0).isLt
  have q0 : (((cfg0.win 3).blk t).view.emb y 0).val = win0_3.index t (0 : Fin 2) * 64 + 1 * (y 0).val := rfl
  have hy1 : (y 1).val < 1024 := (y 1).isLt
  have q1 : (((cfg0.win 3).blk t).view.emb y 1).val = win0_3.index t (1 : Fin 2) * 1024 + 1 * (y 1).val := rfl
  rw [e0] at q0
  rw [e1] at q1
  show ((oR a b (64 * t.val + (y 0).val) (y 1).val : ℝ) : EReal) = ((oR a b (((cfg0.win 3).blk t).view.emb y 0).val (((cfg0.win 3).blk t).view.emb y 1).val : ℝ) : EReal)
  refine congrArg Real.toEReal (congrArg₂ (oR a b) ?_ ?_)
  · rw [q0]; omega
  · rw [q1]; omega

theorem idx4 : ∀ t : Fin cfg0.N, (cfg0.win 4).flush t = true ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)
theorem cover4 (i : S130x8x128x128.Idx) : ∃ t : Fin cfg0.N, (cfg0.win 4).flush t = true ∧ i ∈ ((cfg0.win 4).blk t).view.set := by
  have h0 : (i 0).val < 130 := (i 0).isLt
  have h1 : (i 1).val < 8 := (i 1).isLt
  have h2 : (i 2).val < 128 := (i 2).isLt
  have h3 : (i 3).val < 128 := (i 3).isLt
  have hN : (i 0).val / 1 < cfg0.N := by rw [show cfg0.N = 130 from N_0]; omega
  obtain ⟨hf, e0, e1, e2, e3⟩ := idx4 ⟨(i 0).val / 1, hN⟩
  refine ⟨⟨(i 0).val / 1, hN⟩, hf, ?_⟩
  show i ∈ ((View.whole main_v3_1).slice (win0_4.rect ⟨(i 0).val / 1, hN⟩)).set
  rw [View.set_slice_whole, Rect.mem_set_unit]
  intro x
  match x with
  | ⟨0, _⟩ =>
    show win0_4.index ⟨(i 0).val / 1, hN⟩ (0 : Fin 4) * 1 ≤ (i 0).val ∧ (i 0).val < win0_4.index ⟨(i 0).val / 1, hN⟩ (0 : Fin 4) * 1 + 1
    rw [e0]; simp only; omega
  | ⟨1, _⟩ =>
    show win0_4.index ⟨(i 0).val / 1, hN⟩ (1 : Fin 4) * 8 ≤ (i 1).val ∧ (i 1).val < win0_4.index ⟨(i 0).val / 1, hN⟩ (1 : Fin 4) * 8 + 8
    rw [e1]; simp only; omega
  | ⟨2, _⟩ =>
    show win0_4.index ⟨(i 0).val / 1, hN⟩ (2 : Fin 4) * 128 ≤ (i 2).val ∧ (i 2).val < win0_4.index ⟨(i 0).val / 1, hN⟩ (2 : Fin 4) * 128 + 128
    rw [e2]; simp only; omega
  | ⟨3, _⟩ =>
    show win0_4.index ⟨(i 0).val / 1, hN⟩ (3 : Fin 4) * 128 ≤ (i 3).val ∧ (i 3).val < win0_4.index ⟨(i 0).val / 1, hN⟩ (3 : Fin 4) * 128 + 128
    rw [e3]; simp only; omega

/-- The states at the chunks' starts. -/
theorem array4 (hA : ∀ i : S8320x3072.Idx, ent c main_arg0 i = ((a (i 0).val (i 1).val : ℝ) : EReal))
    (hB : ∀ i : S8320x128.Idx, ent c main_arg1 i = ((b (i 0).val (i 1).val : ℝ) : EReal))
    (hR : ∀ i : S130x8x64.Idx, ent c main_v2 i = ((b (64 * (i 0).val + (i 2).val) (8 + (i 1).val) : ℝ) : EReal)) :
    (dat (F := Ideal) ent c).arrAt 4 cfg0.N = fun i : S130x8x128x128.Idx => ((st a b (i 1).val (64 * (i 0).val) (i 2) (i 3) : ℝ) : EReal) := by
  refine (dat (F := Ideal) ent c).arrAt_eq_of_cover 4 (fun i : S130x8x128x128.Idx => ((st a b (i 1).val (64 * (i 0).val) (i 2) (i 3) : ℝ) : EReal)) (fun t _ => ?_) cover4
  rw [flushed4, outs ent c a b hA hB hR]
  funext y
  obtain ⟨hf, e0, e1, e2, e3⟩ := idx4 t
  have hy0 : (y 0).val < 1 := (y 0).isLt
  have q0 : (((cfg0.win 4).blk t).view.emb y 0).val = win0_4.index t (0 : Fin 4) * 1 + 1 * (y 0).val := rfl
  have hy1 : (y 1).val < 8 := (y 1).isLt
  have q1 : (((cfg0.win 4).blk t).view.emb y 1).val = win0_4.index t (1 : Fin 4) * 8 + 1 * (y 1).val := rfl
  have hy2 : (y 2).val < 128 := (y 2).isLt
  have q2 : (((cfg0.win 4).blk t).view.emb y 2).val = win0_4.index t (2 : Fin 4) * 128 + 1 * (y 2).val := rfl
  have hy3 : (y 3).val < 128 := (y 3).isLt
  have q3 : (((cfg0.win 4).blk t).view.emb y 3).val = win0_4.index t (3 : Fin 4) * 128 + 1 * (y 3).val := rfl
  rw [e0] at q0
  rw [e1] at q1
  rw [e2] at q2
  rw [e3] at q3
  have z0 : (((cfg0.win 4).blk t).view.emb y 0).val = t.val := by rw [q0]; omega
  have z1 : (((cfg0.win 4).blk t).view.emb y 1).val = (y 1).val := by rw [q1]; omega
  have z2 : ((cfg0.win 4).blk t).view.emb y 2 = (⟨(y 2).val, hy2⟩ : Fin 128) := Fin.ext (by rw [q2]; show _ = (y 2).val; omega)
  have z3 : ((cfg0.win 4).blk t).view.emb y 3 = (⟨(y 3).val, hy3⟩ : Fin 128) := Fin.ext (by rw [q3]; show _ = (y 3).val; omega)
  show ((st a b (y 1).val (64 * t.val) ⟨(y 2).val, hy2⟩ ⟨(y 3).val, hy3⟩ : ℝ) : EReal) = ((st a b (((cfg0.win 4).blk t).view.emb y 1).val (64 * (((cfg0.win 4).blk t).view.emb y 0).val) (((cfg0.win 4).blk t).view.emb y 2) (((cfg0.win 4).blk t).view.emb y 3) : ℝ) : EReal)
  rw [z0, z1, z2, z3]

theorem idx5 : ∀ t : Fin cfg0.N, (cfg0.win 5).flush t = true ∧ win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem cover5 (i : S130x8x64x64.Idx) : ∃ t : Fin cfg0.N, (cfg0.win 5).flush t = true ∧ i ∈ ((cfg0.win 5).blk t).view.set := by
  have h0 : (i 0).val < 130 := (i 0).isLt
  have h1 : (i 1).val < 8 := (i 1).isLt
  have h2 : (i 2).val < 64 := (i 2).isLt
  have h3 : (i 3).val < 64 := (i 3).isLt
  have hN : (i 0).val / 1 < cfg0.N := by rw [show cfg0.N = 130 from N_0]; omega
  obtain ⟨hf, e0, e1, e2, e3⟩ := idx5 ⟨(i 0).val / 1, hN⟩
  refine ⟨⟨(i 0).val / 1, hN⟩, hf, ?_⟩
  show i ∈ ((View.whole main_v3_2).slice (win0_5.rect ⟨(i 0).val / 1, hN⟩)).set
  rw [View.set_slice_whole, Rect.mem_set_unit]
  intro x
  match x with
  | ⟨0, _⟩ =>
    show win0_5.index ⟨(i 0).val / 1, hN⟩ (0 : Fin 4) * 1 ≤ (i 0).val ∧ (i 0).val < win0_5.index ⟨(i 0).val / 1, hN⟩ (0 : Fin 4) * 1 + 1
    rw [e0]; simp only; omega
  | ⟨1, _⟩ =>
    show win0_5.index ⟨(i 0).val / 1, hN⟩ (1 : Fin 4) * 8 ≤ (i 1).val ∧ (i 1).val < win0_5.index ⟨(i 0).val / 1, hN⟩ (1 : Fin 4) * 8 + 8
    rw [e1]; simp only; omega
  | ⟨2, _⟩ =>
    show win0_5.index ⟨(i 0).val / 1, hN⟩ (2 : Fin 4) * 64 ≤ (i 2).val ∧ (i 2).val < win0_5.index ⟨(i 0).val / 1, hN⟩ (2 : Fin 4) * 64 + 64
    rw [e2]; simp only; omega
  | ⟨3, _⟩ =>
    show win0_5.index ⟨(i 0).val / 1, hN⟩ (3 : Fin 4) * 64 ≤ (i 3).val ∧ (i 3).val < win0_5.index ⟨(i 0).val / 1, hN⟩ (3 : Fin 4) * 64 + 64
    rw [e3]; simp only; omega

/-- The inverses of the chunks' triangular matrices. -/
theorem array5 (hA : ∀ i : S8320x3072.Idx, ent c main_arg0 i = ((a (i 0).val (i 1).val : ℝ) : EReal))
    (hB : ∀ i : S8320x128.Idx, ent c main_arg1 i = ((b (i 0).val (i 1).val : ℝ) : EReal))
    (hR : ∀ i : S130x8x64.Idx, ent c main_v2 i = ((b (64 * (i 0).val + (i 2).val) (8 + (i 1).val) : ℝ) : EReal)) :
    (dat (F := Ideal) ent c).arrAt 5 cfg0.N = fun i : S130x8x64x64.Idx => xH (blk0 a (64 * (i 0).val)) (blk1 b (64 * (i 0).val)) (blk2 b (64 * (i 0).val)) (i 1) (ix2 (i 2) (i 3)) := by
  refine (dat (F := Ideal) ent c).arrAt_eq_of_cover 5 (fun i : S130x8x64x64.Idx => xH (blk0 a (64 * (i 0).val)) (blk1 b (64 * (i 0).val)) (blk2 b (64 * (i 0).val)) (i 1) (ix2 (i 2) (i 3))) (fun t _ => ?_) cover5
  rw [flushed5, outs ent c a b hA hB hR]
  funext y
  obtain ⟨hf, e0, e1, e2, e3⟩ := idx5 t
  have hy0 : (y 0).val < 1 := (y 0).isLt
  have q0 : (((cfg0.win 5).blk t).view.emb y 0).val = win0_5.index t (0 : Fin 4) * 1 + 1 * (y 0).val := rfl
  have hy1 : (y 1).val < 8 := (y 1).isLt
  have q1 : (((cfg0.win 5).blk t).view.emb y 1).val = win0_5.index t (1 : Fin 4) * 8 + 1 * (y 1).val := rfl
  have hy2 : (y 2).val < 64 := (y 2).isLt
  have q2 : (((cfg0.win 5).blk t).view.emb y 2).val = win0_5.index t (2 : Fin 4) * 64 + 1 * (y 2).val := rfl
  have hy3 : (y 3).val < 64 := (y 3).isLt
  have q3 : (((cfg0.win 5).blk t).view.emb y 3).val = win0_5.index t (3 : Fin 4) * 64 + 1 * (y 3).val := rfl
  rw [e0] at q0
  rw [e1] at q1
  rw [e2] at q2
  rw [e3] at q3
  have z0 : (((cfg0.win 5).blk t).view.emb y 0).val = t.val := by rw [q0]; omega
  have z1 : ((cfg0.win 5).blk t).view.emb y 1 = (⟨(y 1).val, hy1⟩ : Fin 8) := Fin.ext (by rw [q1]; show _ = (y 1).val; omega)
  have z2 : ((cfg0.win 5).blk t).view.emb y 2 = (⟨(y 2).val, hy2⟩ : Fin 64) := Fin.ext (by rw [q2]; show _ = (y 2).val; omega)
  have z3 : ((cfg0.win 5).blk t).view.emb y 3 = (⟨(y 3).val, hy3⟩ : Fin 64) := Fin.ext (by rw [q3]; show _ = (y 3).val; omega)
  show xH (blk0 a (64 * t.val)) (blk1 b (64 * t.val)) (blk2 b (64 * t.val)) ⟨(y 1).val, hy1⟩ (ix2 ⟨(y 2).val, hy2⟩ ⟨(y 3).val, hy3⟩) = xH (blk0 a (64 * (((cfg0.win 5).blk t).view.emb y 0).val)) (blk1 b (64 * (((cfg0.win 5).blk t).view.emb y 0).val)) (blk2 b (64 * (((cfg0.win 5).blk t).view.emb y 0).val)) (((cfg0.win 5).blk t).view.emb y 1) (ix2 (((cfg0.win 5).blk t).view.emb y 2) (((cfg0.win 5).blk t).view.emb y 3))
  rw [z0, z1, z2, z3]

end Cert.FwdArray
end
-- ==== Proof.DeltaBack.lean ====
/-
  The derivative of the gated delta rule over the real numbers, token by token and in chunks of 64 tokens.

  `bstep` takes the gradient of the state after a token to the gradient of the state before it; `back` repeats it from
  the last token. The theorems say that the gradients of a whole chunk come from the transposed triangular system of the
  forward pass, and that the queries', keys', values', rates' and decays' gradients follow by products.
-/
module

public import proofs.«01_k».proof.Proof.Delta

@[expose] public section

noncomputable section
namespace Cert.Delta

open Finset

/-- The gradient of the state after one token, with the share of that token's output. -/
def dD (q o : Fin 128 → ℝ) (B : State) : State := fun i j => B i j + q i * o j

/-- The gradient of the value written by one token. -/
def dU (q k o : Fin 128 → ℝ) (B : State) : Fin 128 → ℝ := fun j => ∑ i, k i * dD q o B i j

/-- The gradient of the decayed state. -/
def dE (q k o : Fin 128 → ℝ) (β : ℝ) (B : State) : State := fun i j => dD q o B i j - k i * (β * dU q k o B j)

/-- The gradient of the state before one token. -/
def bstep (q k o : Fin 128 → ℝ) (β g : ℝ) (B : State) : State := fun i j => Real.exp g * dE q k o β B i j

/-- The gradient of a query. -/
def gradQ (k v o : Fin 128 → ℝ) (β g : ℝ) (S : State) : Fin 128 → ℝ := fun i => ∑ j, step k v β g S i j * o j

/-- The gradient of a key. -/
def gradK (q k v o : Fin 128 → ℝ) (β g : ℝ) (S B : State) : Fin 128 → ℝ := fun i =>
  ∑ j, dD q o B i j * wr k v β g S j - ∑ j, S i j * Real.exp g * (β * dU q k o B j)

/-- The gradient of a value. -/
def gradV (q k o : Fin 128 → ℝ) (β : ℝ) (B : State) : Fin 128 → ℝ := fun j => β * dU q k o B j

/-- The gradient of a rate. -/
def gradR (q k v o : Fin 128 → ℝ) (g : ℝ) (S B : State) : ℝ := ∑ j, dU q k o B j * (v j - ∑ i, k i * (S i j * Real.exp g))

/-- The gradient of a decay. -/
def gradG (q k o : Fin 128 → ℝ) (β g : ℝ) (S B : State) : ℝ := ∑ i, ∑ j, S i j * bstep q k o β g B i j

variable (S₀ B : State) (q k v o : ℕ → Fin 128 → ℝ) (β g : ℕ → ℝ)

/-- The gradient of the state, `n` tokens before the end of `N` tokens. -/
def back (N : ℕ) : ℕ → State
  | 0 => B
  | n + 1 => bstep (q (N - 1 - n)) (k (N - 1 - n)) (o (N - 1 - n)) (β (N - 1 - n)) (g (N - 1 - n)) (back N n)

/-- A backward sweep may be started again before any token. -/
theorem back_add (N a n : ℕ) (h : n + a ≤ N) (M : ℕ) (hM : n ≤ M) (b : ℕ) (hb : b + M + a = N) : back B q k o β g N (a + n) =
    back (back B q k o β g N a) (fun t => q (b + t)) (fun t => k (b + t)) (fun t => o (b + t)) (fun t => β (b + t))
      (fun t => g (b + t)) M n := by
  induction n with
  | zero => rfl
  | succ n ih =>
    rw [← Nat.add_assoc]
    have e : N - 1 - (a + n) = b + (M - 1 - n) := by omega
    simp only [back]
    rw [ih (by omega) (by omega), e]

/-- The gradient of the state before token `r` of a chunk. -/
def gr (r : ℕ) : State := back B q k o β g 64 (64 - r)

theorem gr_last : gr B q k o β g 64 = B := rfl

theorem gr_succ (r : ℕ) (h : r < 64) : gr B q k o β g r = bstep (q r) (k r) (o r) (β r) (g r) (gr B q k o β g (r + 1)) := by
  have e : 64 - r = (64 - (r + 1)) + 1 := by omega
  have e' : 64 - 1 - (64 - (r + 1)) = r := by omega
  unfold gr
  rw [e]
  simp only [back]
  rw [e']

/-- The gradient of the value written by token `r` of a chunk. -/
def dus (r : ℕ) : Fin 128 → ℝ := dU (q r) (k r) (o r) (gr B q k o β g (r + 1))

/-- The gradient of the state as the decayed last gradient and the decayed shares of the tokens after it. -/
theorem gr_form (n : ℕ) : ∀ r, r + n = 64 → ∀ i j, gr B q k o β g r i j =
    Real.exp (gs g 64 - gs g r) * B i j + ∑ s ∈ Ico r 64, Real.exp (gs g (s + 1) - gs g r) *
      (q s i * o s j - β s * k s i * dus B q k o β g s j) := by
  induction n with
  | zero =>
    intro r hr i j
    have : r = 64 := by omega
    subst this
    simp [gr_last]
  | succ n ih =>
    intro r hr i j
    have hr' : r < 64 := by omega
    have e : ∀ x : ℝ, Real.exp (x - gs g r) = Real.exp (g r) * Real.exp (x - gs g (r + 1)) := fun x => by
      rw [← Real.exp_add]; congr 1; simp only [gs, sum_range_succ]; ring
    have h : gr B q k o β g r i j = Real.exp (g r) * (gr B q k o β g (r + 1) i j + q r i * o r j
        - k r i * (β r * dus B q k o β g r j)) := by rw [gr_succ _ _ _ _ _ _ r hr']; rfl
    rw [h, ih (r + 1) (by omega), sum_eq_sum_Ico_succ_bot hr']
    simp only [e]
    have e1 : ∀ s, Real.exp (g r) * Real.exp (gs g (s + 1) - gs g (r + 1)) * (q s i * o s j - β s * k s i * dus B q k o β g s j) =
        Real.exp (g r) * (Real.exp (gs g (s + 1) - gs g (r + 1)) * (q s i * o s j - β s * k s i * dus B q k o β g s j)) :=
      fun s => by ring
    simp only [e1]
    rw [← mul_sum, sub_self, Real.exp_zero]
    ring

theorem sum_ge (f : ℕ → ℝ) (t : Fin 64) : ∑ s : Fin 64, (if t ≤ s then f s.val else 0) = ∑ s ∈ Ico t.val 64, f s := by
  have h := Fin.sum_univ_eq_sum_range (fun s => if t.val ≤ s then f s else 0) 64
  simp only [Fin.le_def]
  rw [h, ← sum_filter]
  congr 1
  ext x
  simp only [mem_filter, mem_range, mem_Ico]
  omega

theorem sum_gt (f : ℕ → ℝ) (t : Fin 64) : ∑ s : Fin 64, (if t < s then f s.val else 0) = ∑ s ∈ Ico (t.val + 1) 64, f s := by
  have h := Fin.sum_univ_eq_sum_range (fun s => if t.val < s then f s else 0) 64
  simp only [Fin.lt_def]
  rw [h, ← sum_filter]
  congr 1
  ext x
  simp only [mem_filter, mem_range, mem_Ico]
  omega

/-- The gradient of the state after token `r` and the share of its output, from the last gradient. -/
theorem dD_form (r : ℕ) (hr : r < 64) (i j : Fin 128) : dD (q r) (o r) (gr B q k o β g (r + 1)) i j =
    Real.exp (gs g 64 - gs g (r + 1)) * B i j + ∑ s ∈ Ico r 64, Real.exp (gs g (s + 1) - gs g (r + 1)) * (q s i * o s j) -
      ∑ s ∈ Ico (r + 1) 64, Real.exp (gs g (s + 1) - gs g (r + 1)) * (β s * k s i * dus B q k o β g s j) := by
  unfold dD
  rw [gr_form B q k o β g (63 - r) (r + 1) (by omega), sum_eq_sum_Ico_succ_bot hr, sub_self, Real.exp_zero]
  simp only [mul_sub, sum_sub_distrib]
  ring

/-- The gradients of the written values, from the last gradient. -/
theorem dus_form (r : ℕ) (hr : r < 64) (j : Fin 128) : dus B q k o β g r j =
    Real.exp (gs g 64 - gs g (r + 1)) * ∑ i, k r i * B i j +
      ∑ s ∈ Ico r 64, Real.exp (gs g (s + 1) - gs g (r + 1)) * ((∑ i, q s i * k r i) * o s j) -
      ∑ s ∈ Ico (r + 1) 64, Real.exp (gs g (s + 1) - gs g (r + 1)) * (β s * (∑ i, k s i * k r i) * dus B q k o β g s j) := by
  have h : dus B q k o β g r j = ∑ i, k r i * dD (q r) (o r) (gr B q k o β g (r + 1)) i j := rfl
  rw [h]
  simp only [dD_form B q k o β g r hr, mul_sub, mul_add, sum_sub_distrib, sum_add_distrib, mul_sum, sum_mul]
  rw [sum_comm (s := univ) (t := Ico r 64), sum_comm (s := univ) (t := Ico (r + 1) 64)]
  congr 1
  · congr 1
    · exact sum_congr rfl fun i _ => by ring
    · exact sum_congr rfl fun s _ => sum_congr rfl fun i _ => by ring
  · exact sum_congr rfl fun s _ => sum_congr rfl fun i _ => by ring

/-- The right side of the transposed system. -/
def dwv : Matrix (Fin 64) (Fin 128) ℝ := (attn q k g).transpose * rows o + kend k g * B

/-- The gradients of the written values solve the transposed triangular system. -/
theorem back_system : (1 - low k β g).transpose * rows (dus B q k o β g) = dwv B q k o g := by
  ext r j
  rw [Matrix.transpose_sub, Matrix.transpose_one, Matrix.sub_mul, Matrix.one_mul]
  simp only [Matrix.sub_apply, Matrix.mul_apply, Matrix.transpose_apply, dwv, Matrix.add_apply]
  have hl : ∀ s : Fin 64, low k β g s r * rows (dus B q k o β g) s j =
      if r < s then (fun s : ℕ => -(Real.exp (gs g (s + 1) - gs g (r.val + 1)) * (β s * (∑ i, k s i * k r.val i) * dus B q k o β g s j))) s.val else 0 := fun s => by
    by_cases h : r < s
    · simp only [low, dec, rows, h, h.le, if_true, Matrix.mul_apply, Matrix.transpose_apply]; ring
    · simp [low, h]
  have ha : ∀ s : Fin 64, attn q k g s r * rows o s j =
      if r ≤ s then (fun s : ℕ => Real.exp (gs g (s + 1) - gs g (r.val + 1)) * ((∑ i, q s i * k r.val i) * o s j)) s.val else 0 := fun s => by
    by_cases h : r ≤ s
    · simp only [attn, dec, rows, h, if_true, Matrix.mul_apply, Matrix.transpose_apply]; ring
    · simp [attn, dec, h]
  rw [(sum_congr rfl fun s _ => hl s).trans (sum_gt (fun s : ℕ => -(Real.exp (gs g (s + 1) - gs g (r.val + 1)) * (β s * (∑ i, k s i * k r.val i) * dus B q k o β g s j))) r),
    (sum_congr rfl fun s _ => ha s).trans (sum_ge (fun s : ℕ => Real.exp (gs g (s + 1) - gs g (r.val + 1)) * ((∑ i, q s i * k r.val i) * o s j)) r)]
  have hw : rows (dus B q k o β g) r j = dus B q k o β g r.val j := rfl
  have hk : ∑ i, kend k g r i * B i j = Real.exp (gs g 64 - gs g (r.val + 1)) * ∑ i, k r.val i * B i j := by
    rw [mul_sum]; exact sum_congr rfl fun i _ => by simp only [kend]; ring
  rw [hw, dus_form B q k o β g r.val r.isLt, hk, sum_neg_distrib]
  ring

/-- The gradients of the written values, from the inverse of the forward pass. -/
theorem back_written : (inv (low k β g)).transpose * dwv B q k o g = rows (dus B q k o β g) := by
  rw [← back_system B q k o β g, ← Matrix.mul_assoc, ← Matrix.transpose_mul,
    inv_mul (low_zero k β g), Matrix.transpose_one, Matrix.one_mul]

/-- The gradient of the state before a chunk. -/
theorem back_first : Real.exp (gs g 64) • B + (qdec q g).transpose * rows o - (rhsK k β g).transpose * rows (dus B q k o β g) =
    back B q k o β g 64 64 := by
  ext i j
  have h : back B q k o β g 64 64 i j = gr B q k o β g 0 i j := rfl
  rw [h, gr_form B q k o β g 64 0 rfl]
  simp only [Matrix.add_apply, Matrix.sub_apply, Matrix.mul_apply, Matrix.smul_apply, Matrix.transpose_apply, smul_eq_mul, qdec, rhsK, rows]
  have h0 : gs g 0 = 0 := rfl
  rw [h0, sub_zero]
  rw [Fin.sum_univ_eq_sum_range (fun s => q s i * Real.exp (gs g (s + 1)) * o s j) 64,
    Fin.sum_univ_eq_sum_range (fun s => k s i * (β s * Real.exp (gs g (s + 1))) * dus B q k o β g s j) 64, add_sub_assoc, ← sum_sub_distrib,
    Finset.range_eq_Ico]
  congr 1
  exact sum_congr rfl fun s _ => by rw [sub_zero]; ring

end Cert.Delta
end
-- ==== Proof.DeltaGrad.lean ====
/-
  The gradients of a chunk as matrix products over the real numbers.

  Every theorem reads one gradient of a token (its query, key, value, rate or decay) off the matrices of the chunk: the
  decayed products, the written values and their gradients, the state before the chunk and the gradient after it.
-/
module

public import proofs.«01_k».proof.Proof.DeltaBack

@[expose] public section

noncomputable section
namespace Cert.Delta

open Finset

variable (S₀ B : State) (q k v o : ℕ → Fin 128 → ℝ) (β g : ℕ → ℝ)

/-- The written values of the chunk. -/
abbrev W : Matrix (Fin 64) (Fin 128) ℝ := rows (wrote S₀ k v β g)
/-- Their gradients. -/
abbrev U : Matrix (Fin 64) (Fin 128) ℝ := rows (dus B q k o β g)

/-- The gradient of the triangular matrix. -/
def dlow : Matrix (Fin 64) (Fin 64) ℝ := fun t s =>
  if s < t then 0 - (U B q k o β g * (W S₀ k v β g).transpose) t s else 0

/-- The state of token `r`, decayed. -/
theorem decayed_form (r : ℕ) (i j : Fin 128) : traj S₀ k v β g r i j * Real.exp (g r) =
    Real.exp (gs g (r + 1)) * S₀ i j + ∑ s ∈ range r, Real.exp (gs g (r + 1) - gs g (s + 1)) * (k s i * wrote S₀ k v β g s j) := by
  have e : ∀ x : ℝ, Real.exp (gs g (r + 1) - x) = Real.exp (gs g r - x) * Real.exp (g r) := fun x => by
    rw [← Real.exp_add]; congr 1; simp only [gs, sum_range_succ]; ring
  have e0 : Real.exp (gs g (r + 1)) = Real.exp (gs g r) * Real.exp (g r) := by simpa using e 0
  rw [traj_form, add_mul, sum_mul, e0]
  simp only [e]
  congr 1
  · ring
  · exact sum_congr rfl fun s _ => by ring

/-- The gradient of a query. -/
theorem grad_q (r : Fin 64) (i : Fin 128) :
    gradQ (k r.val) (v r.val) (o r.val) (β r.val) (g r.val) (traj S₀ k v β g r.val) i =
      ∑ s : Fin 64, (rows o * (W S₀ k v β g).transpose) r s * dec g r s * k s.val i +
        (rows o * S₀.transpose) r i * Real.exp (gs g (r.val + 1)) := by
  have hl : ∀ s : Fin 64, (rows o * (W S₀ k v β g).transpose) r s * dec g r s * k s.val i =
      if s ≤ r then (fun s : ℕ => (∑ j, o r.val j * wrote S₀ k v β g s j) * Real.exp (gs g (r.val + 1) - gs g (s + 1)) * k s i) s.val else 0 := fun s => by
    by_cases h : s ≤ r
    · simp only [dec, rows, h, if_true, Matrix.mul_apply, Matrix.transpose_apply]
    · simp [dec, h]
  rw [(sum_congr rfl fun s _ => hl s).trans (sum_le (fun s : ℕ => (∑ j, o r.val j * wrote S₀ k v β g s j) * Real.exp (gs g (r.val + 1) - gs g (s + 1)) * k s i) r)]
  have h : gradQ (k r.val) (v r.val) (o r.val) (β r.val) (g r.val) (traj S₀ k v β g r.val) i =
      ∑ j, traj S₀ k v β g (r.val + 1) i j * o r.val j := rfl
  rw [h]
  simp only [traj_form S₀ k v β g (r.val + 1), Matrix.mul_apply, Matrix.transpose_apply, rows, add_mul, sum_mul, sum_add_distrib]
  rw [sum_comm (s := range (r.val + 1)), add_comm]
  congr 1
  · exact sum_congr rfl fun i _ => sum_congr rfl fun s _ => by ring
  · exact sum_congr rfl fun i _ => by ring

/-- The gradient of a token's state against the value it wrote. -/
theorem grad_written (r : Fin 64) (i : Fin 128) :
    ∑ j, dD (q r.val) (o r.val) (gr B q k o β g (r.val + 1)) i j * wrote S₀ k v β g r.val j =
      ∑ s : Fin 64, dlow S₀ B q k v o β g s r * β s.val * dec g s r * k s.val i +
        ∑ s : Fin 64, (rows o * (W S₀ k v β g).transpose) s r * dec g s r * q s.val i +
        (W S₀ k v β g * B.transpose) r i * Real.exp (gs g 64 - gs g (r.val + 1)) := by
  have hk : ∀ s : Fin 64, dlow S₀ B q k v o β g s r * β s.val * dec g s r * k s.val i =
      if r < s then (fun s : ℕ => -((∑ j, dus B q k o β g s j * wrote S₀ k v β g r.val j) * β s * Real.exp (gs g (s + 1) - gs g (r.val + 1)) * k s i)) s.val else 0 := fun s => by
    by_cases h : r < s
    · simp only [dlow, dec, rows, h, h.le, if_true, Matrix.mul_apply, Matrix.transpose_apply]; ring
    · simp [dlow, h]
  have hq : ∀ s : Fin 64, (rows o * (W S₀ k v β g).transpose) s r * dec g s r * q s.val i =
      if r ≤ s then (fun s : ℕ => (∑ j, o s j * wrote S₀ k v β g r.val j) * Real.exp (gs g (s + 1) - gs g (r.val + 1)) * q s i) s.val else 0 := fun s => by
    by_cases h : r ≤ s
    · simp only [dec, rows, h, if_true, Matrix.mul_apply, Matrix.transpose_apply]
    · simp [dec, h]
  rw [(sum_congr rfl fun s _ => hk s).trans (sum_gt (fun s : ℕ => -((∑ j, dus B q k o β g s j * wrote S₀ k v β g r.val j) * β s * Real.exp (gs g (s + 1) - gs g (r.val + 1)) * k s i)) r),
    (sum_congr rfl fun s _ => hq s).trans (sum_ge (fun s : ℕ => (∑ j, o s j * wrote S₀ k v β g r.val j) * Real.exp (gs g (s + 1) - gs g (r.val + 1)) * q s i) r)]
  simp only [dD_form B q k o β g r.val r.isLt, Matrix.mul_apply, Matrix.transpose_apply, rows, sub_mul, add_mul, sum_mul,
    sum_add_distrib, sum_sub_distrib, sum_neg_distrib]
  rw [sum_comm (s := univ) (t := Ico r.val 64), sum_comm (s := univ) (t := Ico (r.val + 1) 64)]
  have e1 : ∑ x : Fin 128, Real.exp (gs g 64 - gs g (r.val + 1)) * B i x * wrote S₀ k v β g r.val x =
      ∑ x : Fin 128, wrote S₀ k v β g r.val x * B i x * Real.exp (gs g 64 - gs g (r.val + 1)) := sum_congr rfl fun x _ => by ring
  have e2 : ∑ y ∈ Ico r.val 64, ∑ x : Fin 128, Real.exp (gs g (y + 1) - gs g (r.val + 1)) * (q y i * o y x) * wrote S₀ k v β g r.val x =
      ∑ y ∈ Ico r.val 64, ∑ x : Fin 128, o y x * wrote S₀ k v β g r.val x * Real.exp (gs g (y + 1) - gs g (r.val + 1)) * q y i :=
    sum_congr rfl fun y _ => sum_congr rfl fun x _ => by ring
  have e3 : ∑ y ∈ Ico (r.val + 1) 64, ∑ x : Fin 128, Real.exp (gs g (y + 1) - gs g (r.val + 1)) * (β y * k y i * dus B q k o β g y x) * wrote S₀ k v β g r.val x =
      ∑ y ∈ Ico (r.val + 1) 64, ∑ x : Fin 128, dus B q k o β g y x * wrote S₀ k v β g r.val x * β y * Real.exp (gs g (y + 1) - gs g (r.val + 1)) * k y i :=
    sum_congr rfl fun y _ => sum_congr rfl fun x _ => by ring
  rw [e1, e2, e3]
  ring

/-- A token's decayed state against the gradient of the value it wrote. -/
theorem decayed_grad (r : Fin 64) (i : Fin 128) :
    ∑ j, traj S₀ k v β g r.val i j * Real.exp (g r.val) * dus B q k o β g r.val j =
      (U B q k o β g * S₀.transpose) r i * Real.exp (gs g (r.val + 1)) -
        ∑ s : Fin 64, dlow S₀ B q k v o β g r s * dec g r s * k s.val i := by
  have hk : ∀ s : Fin 64, dlow S₀ B q k v o β g r s * dec g r s * k s.val i =
      if s < r then (fun s : ℕ => -((∑ j, dus B q k o β g r.val j * wrote S₀ k v β g s j) * Real.exp (gs g (r.val + 1) - gs g (s + 1)) * k s i)) s.val else 0 := fun s => by
    by_cases h : s < r
    · simp only [dlow, dec, rows, h, h.le, if_true, Matrix.mul_apply, Matrix.transpose_apply]; ring
    · simp [dlow, h]
  rw [(sum_congr rfl fun s _ => hk s).trans (sum_lt (fun s : ℕ => -((∑ j, dus B q k o β g r.val j * wrote S₀ k v β g s j) * Real.exp (gs g (r.val + 1) - gs g (s + 1)) * k s i)) r)]
  simp only [decayed_form, Matrix.mul_apply, Matrix.transpose_apply, rows, add_mul, sum_mul, sum_add_distrib, sum_neg_distrib]
  rw [sum_comm (s := univ) (t := range r.val), sub_neg_eq_add]
  congr 1
  · exact sum_congr rfl fun x _ => by ring
  · exact sum_congr rfl fun y _ => sum_congr rfl fun x _ => by ring

/-- The gradient of a key. -/
theorem grad_k (r : Fin 64) (i : Fin 128) :
    gradK (q r.val) (k r.val) (v r.val) (o r.val) (β r.val) (g r.val) (traj S₀ k v β g r.val) (gr B q k o β g (r.val + 1)) i =
      (0 - (U B q k o β g * S₀.transpose) r i) * (β r.val * Real.exp (gs g (r.val + 1))) +
        ∑ s : Fin 64, dlow S₀ B q k v o β g r s * β r.val * dec g r s * k s.val i +
        ∑ s : Fin 64, dlow S₀ B q k v o β g s r * β s.val * dec g s r * k s.val i +
        ∑ s : Fin 64, (rows o * (W S₀ k v β g).transpose) s r * dec g s r * q s.val i +
        (W S₀ k v β g * B.transpose) r i * Real.exp (gs g 64 - gs g (r.val + 1)) := by
  have h1 : ∀ x : Fin 128, traj S₀ k v β g r.val i x * Real.exp (g r.val) * (β r.val * dU (q r.val) (k r.val) (o r.val) (gr B q k o β g (r.val + 1)) x) =
      β r.val * (traj S₀ k v β g r.val i x * Real.exp (g r.val) * dus B q k o β g r.val x) := fun x => by
    have : dU (q r.val) (k r.val) (o r.val) (gr B q k o β g (r.val + 1)) x = dus B q k o β g r.val x := rfl
    rw [this]; ring
  have h2 : ∀ s : Fin 64, dlow S₀ B q k v o β g r s * β r.val * dec g r s * k s.val i =
      β r.val * (dlow S₀ B q k v o β g r s * dec g r s * k s.val i) := fun s => by ring
  have h3 : ∑ x, dD (q r.val) (o r.val) (gr B q k o β g (r.val + 1)) i x * wr (k r.val) (v r.val) (β r.val) (g r.val) (traj S₀ k v β g r.val) x = _ :=
    grad_written S₀ B q k v o β g r i
  unfold gradK
  rw [h3, sum_congr rfl fun x _ => h1 x, ← mul_sum, decayed_grad, sum_congr rfl fun s _ => h2 s, ← mul_sum]
  ring

/-- A key against its token's decayed state against the gradient of the value it wrote. -/
theorem key_decayed (r : Fin 64) :
    ∑ j, dus B q k o β g r.val j * ∑ i, k r.val i * (traj S₀ k v β g r.val i j * Real.exp (g r.val)) =
      0 - ((∑ i, (0 - (U B q k o β g * S₀.transpose) r i) * k r.val i) * Real.exp (gs g (r.val + 1)) +
        ∑ s : Fin 64, dlow S₀ B q k v o β g r s * (rows k * (rows k).transpose) r s * dec g r s) := by
  have h : ∑ j, dus B q k o β g r.val j * ∑ i, k r.val i * (traj S₀ k v β g r.val i j * Real.exp (g r.val)) =
      ∑ i, k r.val i * ∑ j, traj S₀ k v β g r.val i j * Real.exp (g r.val) * dus B q k o β g r.val j := by
    simp only [mul_sum]
    rw [sum_comm]
    exact sum_congr rfl fun i _ => sum_congr rfl fun j _ => by ring
  rw [h]
  simp only [decayed_grad]
  have h2 : ∑ s : Fin 64, dlow S₀ B q k v o β g r s * (rows k * (rows k).transpose) r s * dec g r s =
      ∑ i, k r.val i * ∑ s : Fin 64, dlow S₀ B q k v o β g r s * dec g r s * k s.val i := by
    simp only [mul_sum, Matrix.mul_apply, Matrix.transpose_apply, rows, sum_mul]
    rw [sum_comm]
    exact sum_congr rfl fun i _ => sum_congr rfl fun j _ => by ring
  rw [h2, sum_mul, ← sum_add_distrib, zero_sub, ← sum_neg_distrib]
  exact sum_congr rfl fun i _ => by ring

/-- The gradient of a rate. -/
theorem grad_r (r : Fin 64) :
    gradR (q r.val) (k r.val) (v r.val) (o r.val) (g r.val) (traj S₀ k v β g r.val) (gr B q k o β g (r.val + 1)) =
      ∑ j, U B q k o β g r j * v r.val j +
        (∑ i, (0 - (U B q k o β g * S₀.transpose) r i) * k r.val i) * Real.exp (gs g (r.val + 1)) +
        ∑ s : Fin 64, dlow S₀ B q k v o β g r s * (rows k * (rows k).transpose) r s * dec g r s := by
  have h : gradR (q r.val) (k r.val) (v r.val) (o r.val) (g r.val) (traj S₀ k v β g r.val) (gr B q k o β g (r.val + 1)) =
      ∑ j, dus B q k o β g r.val j * (v r.val j - ∑ i, k r.val i * (traj S₀ k v β g r.val i j * Real.exp (g r.val))) := rfl
  rw [h]
  simp only [mul_sub, sum_sub_distrib]
  rw [key_decayed]
  simp only [rows]
  ring

/-- The state before token `r` against its gradient. -/
def phi (r : ℕ) : ℝ := ∑ i, ∑ j, traj S₀ k v β g r i j * gr B q k o β g r i j

/-- One token changes it by what the token's own terms contribute. -/
theorem phi_step (r : ℕ) (hr : r < 64) : phi S₀ B q k v o β g r - phi S₀ B q k v o β g (r + 1) =
    ∑ i, q r i * gradQ (k r) (v r) (o r) (β r) (g r) (traj S₀ k v β g r) i -
      β r * (∑ j, dus B q k o β g r j * ∑ i, k r i * (traj S₀ k v β g r i j * Real.exp (g r))) -
      ∑ i, k r i * ∑ j, dD (q r) (o r) (gr B q k o β g (r + 1)) i j * wrote S₀ k v β g r j := by
  unfold phi
  rw [gr_succ _ _ _ _ _ _ r hr]
  have h2 : ∑ j, dus B q k o β g r j * ∑ i, k r i * (traj S₀ k v β g r i j * Real.exp (g r)) =
      ∑ i, ∑ j, dus B q k o β g r j * (k r i * (traj S₀ k v β g r i j * Real.exp (g r))) := by
    simp only [mul_sum]; rw [sum_comm]
  rw [h2]
  simp only [mul_sum, ← sum_sub_distrib, gradQ]
  refine sum_congr rfl fun i _ => sum_congr rfl fun j _ => ?_
  have e1 : bstep (q r) (k r) (o r) (β r) (g r) (gr B q k o β g (r + 1)) i j = Real.exp (g r) *
    (gr B q k o β g (r + 1) i j + q r i * o r j - k r i * (β r * dus B q k o β g r j)) := rfl
  have e2 : traj S₀ k v β g (r + 1) i j = traj S₀ k v β g r i j * Real.exp (g r) + k r i * wrote S₀ k v β g r j := rfl
  have e3 : step (k r) (v r) (β r) (g r) (traj S₀ k v β g r) i j = traj S₀ k v β g r i j * Real.exp (g r) + k r i * wrote S₀ k v β g r j := rfl
  have e4 : dD (q r) (o r) (gr B q k o β g (r + 1)) i j = gr B q k o β g (r + 1) i j + q r i * o r j := rfl
  rw [e1, e2, e3, e4]
  ring

/-- What a token contributes through the matrices of the chunk. -/
def ecell (t s : Fin 64) : ℝ := (dlow S₀ B q k v o β g t s * β t.val * (rows k * (rows k).transpose) t s +
  (rows o * (W S₀ k v β g).transpose) t s * (rows q * (rows k).transpose) t s) * dec g t s

/-- The gradient of the summed decays, by rows. -/
def dgc (r : Fin 64) : ℝ := (∑ i, (0 - (U B q k o β g * S₀.transpose) r i) * k r.val i) * β r.val * Real.exp (gs g (r.val + 1)) +
  ∑ s, ecell S₀ B q k v o β g r s + ∑ i, (rows o * S₀.transpose) r i * qdec q g r i -
  ∑ i, (W S₀ k v β g * B.transpose) r i * kend k g r i +
  (if r.val = 63 then Real.exp (gs g 64) * (∑ i, ∑ j, B i j * S₀ i j) + ∑ s, ∑ i, (W S₀ k v β g * B.transpose) s i * kend k g s i else 0)

/-- The gradient of the summed decays, by columns. -/
def dgr (r : Fin 64) : ℝ := 0 - ∑ s, ecell S₀ B q k v o β g s r

/-- The last gradient against the last state. -/
theorem phi_last : Real.exp (gs g 64) * (∑ i, ∑ j, B i j * S₀ i j) + ∑ s, ∑ i, (W S₀ k v β g * B.transpose) s i * kend k g s i =
    phi S₀ B q k v o β g 64 := by
  unfold phi
  rw [after, gr_last]
  simp only [Matrix.add_apply, Matrix.mul_apply, Matrix.smul_apply, Matrix.transpose_apply, smul_eq_mul, add_mul, sum_add_distrib, mul_sum, sum_mul]
  congr 1
  · exact sum_congr rfl fun i _ => sum_congr rfl fun j _ => by ring
  · rw [sum_comm]
    refine sum_congr rfl fun i _ => ?_
    rw [sum_comm]
    exact sum_congr rfl fun i _ => sum_congr rfl fun j _ => by ring

/-- A token's two gradients of the summed decays are one change of `phi`, the last token's with its end. -/
theorem dg_row (r : Fin 64) : dgc S₀ B q k v o β g r + dgr S₀ B q k v o β g r =
    phi S₀ B q k v o β g r.val - phi S₀ B q k v o β g (r.val + 1) + (if r.val = 63 then phi S₀ B q k v o β g 64 else 0) := by
  rw [phi_step S₀ B q k v o β g r.val r.isLt, key_decayed]
  unfold dgc dgr
  rw [phi_last S₀ B q k v o β g]
  simp only [grad_written, grad_q, mul_add, sum_add_distrib, ecell, add_mul, mul_sum]
  have a1 : ∑ i, ∑ s : Fin 64, q r.val i * ((rows o * (W S₀ k v β g).transpose) r s * dec g r s * k s.val i) =
      ∑ s : Fin 64, (rows o * (W S₀ k v β g).transpose) r s * (rows q * (rows k).transpose) r s * dec g r s := by
    rw [sum_comm]
    refine sum_congr rfl fun s _ => ?_
    simp only [Matrix.mul_apply (M := rows q), Matrix.transpose_apply, rows, mul_sum, sum_mul]
    exact sum_congr rfl fun i _ => by ring
  have a2 : ∑ i, q r.val i * ((rows o * S₀.transpose) r i * Real.exp (gs g (r.val + 1))) =
      ∑ i, (rows o * S₀.transpose) r i * qdec q g r i := sum_congr rfl fun i _ => by simp only [qdec]; ring
  have a3 : ∑ i, ∑ s : Fin 64, k r.val i * (dlow S₀ B q k v o β g s r * β s.val * dec g s r * k s.val i) =
      ∑ s : Fin 64, dlow S₀ B q k v o β g s r * β s.val * (rows k * (rows k).transpose) s r * dec g s r := by
    rw [sum_comm]
    refine sum_congr rfl fun s _ => ?_
    simp only [Matrix.mul_apply (M := rows k), Matrix.transpose_apply, rows, mul_sum, sum_mul]
    exact sum_congr rfl fun i _ => by ring
  have a4 : ∑ i, ∑ s : Fin 64, k r.val i * ((rows o * (W S₀ k v β g).transpose) s r * dec g s r * q s.val i) =
      ∑ s : Fin 64, (rows o * (W S₀ k v β g).transpose) s r * (rows q * (rows k).transpose) s r * dec g s r := by
    rw [sum_comm]
    refine sum_congr rfl fun s _ => ?_
    simp only [Matrix.mul_apply (M := rows q), Matrix.transpose_apply, rows, mul_sum, sum_mul]
    exact sum_congr rfl fun i _ => by ring
  have a5 : ∑ i, k r.val i * ((W S₀ k v β g * B.transpose) r i * Real.exp (gs g 64 - gs g (r.val + 1))) =
      ∑ i, (W S₀ k v β g * B.transpose) r i * kend k g r i := sum_congr rfl fun i _ => by simp only [kend]; ring
  have a6 : ∑ s : Fin 64, dlow S₀ B q k v o β g r s * β r.val * (rows k * (rows k).transpose) r s * dec g r s =
      β r.val * ∑ s : Fin 64, dlow S₀ B q k v o β g r s * (rows k * (rows k).transpose) r s * dec g r s := by
    rw [mul_sum]; exact sum_congr rfl fun s _ => by ring
  simp only [a1, a2, a3, a4, a5, a6]
  ring

/-- The gradient of a decay: the sums of both gradients of the summed decays from its token to the end of the chunk. -/
theorem grad_g (r : Fin 64) :
    gradG (q r.val) (k r.val) (o r.val) (β r.val) (g r.val) (traj S₀ k v β g r.val) (gr B q k o β g (r.val + 1)) =
      ∑ s : Fin 64, (if r ≤ s then dgc S₀ B q k v o β g s else 0) + ∑ s : Fin 64, (if r ≤ s then dgr S₀ B q k v o β g s else 0) := by
  have h : gradG (q r.val) (k r.val) (o r.val) (β r.val) (g r.val) (traj S₀ k v β g r.val) (gr B q k o β g (r.val + 1)) =
      phi S₀ B q k v o β g r.val := by
    unfold phi gradG
    rw [gr_succ _ _ _ _ _ _ r.val r.isLt]
  rw [h, ← sum_add_distrib]
  have hs : ∀ s : Fin 64, (if r ≤ s then dgc S₀ B q k v o β g s else 0) + (if r ≤ s then dgr S₀ B q k v o β g s else 0) =
      if r ≤ s then (fun s : ℕ => phi S₀ B q k v o β g s - phi S₀ B q k v o β g (s + 1) + (if s = 63 then phi S₀ B q k v o β g 64 else 0)) s.val else 0 := fun s => by
    by_cases hs : r ≤ s
    · simp only [hs, if_true]; exact dg_row S₀ B q k v o β g s
    · simp [hs]
  rw [sum_congr rfl fun s _ => hs s, sum_ge (fun s : ℕ => phi S₀ B q k v o β g s - phi S₀ B q k v o β g (s + 1) + (if s = 63 then phi S₀ B q k v o β g 64 else 0)) r, sum_add_distrib]
  have ht : ∀ n : ℕ, ∀ a : ℕ, ∑ s ∈ Ico a (a + n), (phi S₀ B q k v o β g s - phi S₀ B q k v o β g (s + 1)) =
      phi S₀ B q k v o β g a - phi S₀ B q k v o β g (a + n) := by
    intro n
    induction n with
    | zero => intro a; simp
    | succ n ih => intro a; rw [← Nat.add_assoc, sum_Ico_succ_top (by omega), ih]; ring
  have hr := r.isLt
  have h64 : r.val + (64 - r.val) = 64 := by omega
  have ht' := ht (64 - r.val) r.val
  rw [h64] at ht'
  rw [ht', sum_ite_eq' (Ico r.val 64) 63, if_pos (by simp only [mem_Ico]; omega)]
  ring

end Cert.Delta
end
-- ==== Proof.HeadBack.lean ====
/-
  What one head of one chunk computes on the way back, as vector operations and as real matrices.

  The vector functions name the stages of the backward body for one head; the theorems say what each stage gives when its
  arguments hold real numbers.
-/
module

public import proofs.«01_k».proof.Proof.HeadReal
public import proofs.«01_k».proof.Proof.DeltaGrad

@[expose] public section

set_option maxRecDepth 16384

noncomputable section
namespace Cert.Head

open Cert.KernelIdeal Cert.Lift Cert.Delta Idealize.ShloMosaic

/-! ## The stages -/

/-- A product of 64 × 128 with 128 × 64. -/
def mNT (a b : V S64x128) : V S64x64 :=
  matmul dot_S64x128_S64x128_S64x64_1_1_0_0_n_n none (truncf .bf16 a Gen.bitsLt_bf16_f32) (truncf .bf16 b Gen.bitsLt_bf16_f32)
    (constant S64x64 .f32 0x00000000#32)
/-- A product of 64 × 128 with a transposed state. -/
def mST (a : V S64x128) (b : V S128x128) : V S64x128 :=
  matmul dot_S64x128_S128x128_S64x128_1_1_0_0_n_n none (truncf .bf16 a Gen.bitsLt_bf16_f32) (truncf .bf16 b Gen.bitsLt_bf16_f32)
    (constant S64x128 .f32 0x00000000#32)
/-- A product of 64 × 128 with a state. -/
def mS (a : V S64x128) (b : V S128x128) : V S64x128 :=
  matmul dot_S64x128_S128x128_S64x128_1_0_0_1_n_n none (truncf .bf16 a Gen.bitsLt_bf16_f32) (truncf .bf16 b Gen.bitsLt_bf16_f32)
    (constant S64x128 .f32 0x00000000#32)
/-- A product of a transposed 64 × 64 with 64 × 128. -/
def mT (a : V S64x64) (b : V S64x128) : V S64x128 :=
  matmul dot_S64x64_S64x128_S64x128_0_0_1_1_n_n none (truncf .bf16 a Gen.bitsLt_bf16_f32) (truncf .bf16 b Gen.bitsLt_bf16_f32)
    (constant S64x128 .f32 0x00000000#32)
/-- A product of 64 × 64 with 64 × 128. -/
def mN (a : V S64x64) (b : V S64x128) : V S64x128 :=
  matmul dot_S64x64_S64x128_S64x128_1_0_0_1_n_n none (truncf .bf16 a Gen.bitsLt_bf16_f32) (truncf .bf16 b Gen.bitsLt_bf16_f32)
    (constant S64x128 .f32 0x00000000#32)
/-- A product of a transposed 64 × 128 with 64 × 128. -/
def mTT (a b : V S64x128) : V S128x128 :=
  matmul dot_S64x128_S64x128_S128x128_0_0_1_1_n_n none (truncf .bf16 a Gen.bitsLt_bf16_f32) (truncf .bf16 b Gen.bitsLt_bf16_f32)
    (constant S128x128 .f32 0x00000000#32)
/-- The sums of the rows. -/
def rsum (a : V S64x128) : V S64x1 :=
  shapeCast S64x1 (multiReduction .add [1] S64 a 0x00000000#32 Gen.reduces_S64x128_S64 (.inl rfl) rfl) Gen.shapeCasts_S64_S64x1
def rsum64 (a : V S64x64) : V S64x1 :=
  shapeCast S64x1 (multiReduction .add [1] S64 a 0x00000000#32 Gen.reduces_S64x64_S64 (.inl rfl) rfl) Gen.shapeCasts_S64_S64x1
/-- The sums of the columns. -/
def csum64 (a : V S64x64) : V S1x64 :=
  shapeCast S1x64 (multiReduction .add [0] S64 a 0x00000000#32 Gen.reduces_S64x64_S64_2 (.inl rfl) rfl) Gen.shapeCasts_S64_S1x64
/-- The sum of all entries. -/
def asum (a : V S64x128) : V S1x1 :=
  shapeCast S1x1 (multiReduction .add [0] S1 (rsum a) 0x00000000#32 Gen.reduces_S64x1_S1 (.inl rfl) rfl) Gen.shapeCasts_S1_S1x1
def asumS (a : V S128x128) : V S1x1 :=
  shapeCast S1x1 (multiReduction .add [0] S1
    (shapeCast S128x1 (multiReduction .add [1] S128 a 0x00000000#32 Gen.reduces_S128x128_S128 (.inl rfl) rfl) Gen.shapeCasts_S128_S128x1)
    0x00000000#32 Gen.reduces_S128x1_S1 (.inl rfl) rfl) Gen.shapeCasts_S1_S1x1

/-- The decay of a token to the chunk's end. -/
def bE (gc : V S64x1) : V S64x1 := exp (subf (broadcastTo S64x1 (hLast gc) Gen.broadcasts_S1x1_S64x1) gc)
/-- The keys and the queries, decayed to the end and from the start. -/
def bK (k : V S64x128) (gc : V S64x1) : V S64x128 := mulf k (broadcastTo S64x128 (bE gc) Gen.broadcasts_S64x1_S64x128)
def bQ (q : V S64x128) (gc : V S64x1) : V S64x128 := mulf q (broadcastTo S64x128 (exp gc) Gen.broadcasts_S64x1_S64x128)
/-- The two parts of the solution. -/
def partU (sol : V S64x256) : V S64x128 := extractStridedSlice S64x128 ![0, 0] sol Gen.slices_S64x256_o0_0_S64x128
def partW (sol : V S64x256) : V S64x128 := extractStridedSlice S64x128 ![0, 128] sol Gen.slices_S64x256_o0_128_S64x128
/-- The gradient of the written values. -/
def bDwv (k o : V S64x128) (gc : V S64x1) (attn : V S64x64) (B : V S128x128) : V S64x128 :=
  addf (mT attn o) (mS (bK k gc) B)
/-- The gradient of the last sum of decays. -/
def bDlast (k : V S64x128) (gc : V S64x1) (dk : V S64x128) (S B : V S128x128) : V S1x1 :=
  addf (mulf (exp (hLast gc)) (asumS (mulf B S))) (asum (mulf dk (bK k gc)))
/-- The gradient of the state before the chunk. -/
def bDs (q o w dwv : V S64x128) (gc : V S64x1) (B : V S128x128) : V S128x128 :=
  subf (addf (mTT (bQ q gc) o) (mulf (broadcastTo S128x128 (exp (hLast gc)) Gen.broadcasts_S1x1_S128x128) B)) (mTT w dwv)
/-- The gradient of the solution's second part. -/
def bDw (dwv : V S64x128) (S : V S128x128) : V S64x128 :=
  subf (broadcast S64x128 (Scalar.ofBits .f32 0x00000000#32)) (mST dwv S)
/-- The transposed inverse against both gradients. -/
def bSolT (x : V S64x64) (a b : V S64x128) : V S64x256 :=
  let r : V S64x256 := concatenate S64x256 1 [⟨S64x128, a⟩, ⟨S64x128, b⟩] Gen.concatenates_S64x128_S64x128_S64x256_d1
  addf
    (matmul dot_S64x64_S64x256_S64x256_0_0_1_1_n_n none (truncf .bf16 x Gen.bitsLt_bf16_f32)
      (truncf .bf16 r Gen.bitsLt_bf16_f32) (constant S64x256 .f32 0x00000000#32))
    (addf
      (matmul dot_S64x64_S64x256_S64x256_0_0_1_1_n_n none (truncf .bf16 x Gen.bitsLt_bf16_f32) (lo r)
        (constant S64x256 .f32 0x00000000#32))
      (matmul dot_S64x64_S64x256_S64x256_0_0_1_1_n_n none (lo x) (truncf .bf16 r Gen.bitsLt_bf16_f32)
        (constant S64x256 .f32 0x00000000#32)))
/-- The gradient of the lower triangular matrix. -/
def bLow (ru u rw w : V S64x128) : V S64x64 :=
  select Gen.k1_pay5 (subf (broadcast S64x64 (Scalar.ofBits .f32 0x00000000#32)) (addf (mNT ru u) (mNT rw w)))
    (broadcast S64x64 (Scalar.ofBits .f32 0x00000000#32))
/-- The gradient of the rates. -/
def bDr (rw k ru v : V S64x128) (gc : V S64x1) (dl kk dec : V S64x64) : V S64x1 :=
  addf (addf (rsum (mulf ru v)) (mulf (rsum (mulf rw k)) (exp gc))) (rsum64 (mulf (mulf dl kk) dec))
/-- The gradient of the values. -/
def bDv (ru : V S64x128) (β : V S64x1) : V S64x128 := mulf ru (broadcastTo S64x128 β Gen.broadcasts_S64x1_S64x128)
/-- The gradient of the keys' products. -/
def bKK (dl : V S64x64) (β : V S64x1) (dec : V S64x64) : V S64x64 :=
  mulf (mulf dl (broadcastTo S64x64 β Gen.broadcasts_S64x1_S64x64)) dec
/-- The gradient of the keys. -/
def bDk (q k rw dk : V S64x128) (β gc : V S64x1) (dkk dqk : V S64x64) : V S64x128 :=
  addf (addf (addf (addf (mulf rw (broadcastTo S64x128 (mulf β (exp gc)) Gen.broadcasts_S64x1_S64x128)) (mN dkk k)) (mT dkk k))
    (mT dqk q)) (mulf dk (broadcastTo S64x128 (bE gc) Gen.broadcasts_S64x1_S64x128))
/-- The gradient of the queries. -/
def bDq (k dqg : V S64x128) (gc : V S64x1) (dqk : V S64x64) : V S64x128 :=
  addf (mN dqk k) (mulf dqg (broadcastTo S64x128 (exp gc) Gen.broadcasts_S64x1_S64x128))
/-- The gradient of the decays between tokens. -/
def bCell (β : V S64x1) (dl kk da qk dec : V S64x64) : V S64x64 :=
  mulf (addf (mulf (mulf dl (broadcastTo S64x64 β Gen.broadcasts_S64x1_S64x64)) kk) (mulf da qk)) dec
/-- The gradient of the sums of decays, by rows. -/
def bDgc (q k rw dqg dk : V S64x128) (β gc : V S64x1) (e : V S64x64) (dlast : V S1x1) : V S64x1 :=
  addf (subf (addf (addf (mulf (mulf (rsum (mulf rw k)) β) (exp gc)) (rsum64 e)) (rsum (mulf dqg (bQ q gc))))
      (rsum (mulf dk (bK k gc))))
    (select Gen.k1_pay10 (broadcastTo S64x1 (shapeCast S1x1 dlast Gen.shapeCasts_S1x1_S1x1) Gen.broadcasts_S1x1_S64x1)
      (broadcast S64x1 (Scalar.ofBits .f32 0x00000000#32)))
/-- The gradient of the sums of decays, by columns. -/
def bDgr (e : V S64x64) : V S1x64 := subf (broadcast S1x64 (Scalar.ofBits .f32 0x00000000#32)) (csum64 e)

/-! ## A head -/

/-- The solution of a head. -/
def bSol (k v : V S64x128) (β gc : V S64x1) (x : V S64x64) : V S64x256 := hSol x (hRhs k v β (exp gc))
/-- The gradient of a head's written values. -/
def headDwv (q k o : V S64x128) (gc : V S64x1) (gr : V S1x64) (B : V S128x128) : V S64x128 :=
  bDwv k o gc (hAttn q k (hDec gc gr)) B
/-- The gradients of a head's right sides. -/
def headR (q k o : V S64x128) (gc : V S64x1) (gr : V S1x64) (S : V S128x128) (x : V S64x64) (B : V S128x128) : V S64x256 :=
  bSolT x (headDwv q k o gc gr B) (bDw (headDwv q k o gc gr B) S)
/-- The gradient of a head's lower triangular matrix. -/
def headL (q k v o : V S64x128) (β gc : V S64x1) (gr : V S1x64) (S : V S128x128) (x : V S64x64) (B : V S128x128) : V S64x64 :=
  bLow (partU (headR q k o gc gr S x B)) (partU (bSol k v β gc x)) (partW (headR q k o gc gr S x B)) (partW (bSol k v β gc x))
/-- The written values of a head. -/
def headWv (k v : V S64x128) (β gc : V S64x1) (S : V S128x128) (x : V S64x64) : V S64x128 := hWv (bSol k v β gc x) S

variable (q k v o : V S64x128) (β gc : V S64x1) (gr : V S1x64) (S : V S128x128) (x : V S64x64) (B : V S128x128)

/-- The gradient of the state before the chunk. -/
def headDS : V S128x128 := bDs q o (partW (bSol k v β gc x)) (headDwv q k o gc gr B) gc B
/-- The gradients of the queries, keys and values of a head. -/
def headDQ : V S64x128 := bDq k (mST o S) gc (mulf (mNT o (headWv k v β gc S x)) (hDec gc gr))
def headDK : V S64x128 := bDk q k (partW (headR q k o gc gr S x B)) (mST (headWv k v β gc S x) B) β gc
  (bKK (headL q k v o β gc gr S x B) β (hDec gc gr)) (mulf (mNT o (headWv k v β gc S x)) (hDec gc gr))
def headDV : V S64x128 := bDv (partU (headR q k o gc gr S x B)) β
/-- The gradient of a head's rates. -/
def headDR : V S64x1 := bDr (partW (headR q k o gc gr S x B)) k (partU (headR q k o gc gr S x B)) v gc
  (headL q k v o β gc gr S x B) (mNT k k) (hDec gc gr)
/-- The gradient of a head's decays between tokens. -/
def headC : V S64x64 := bCell β (headL q k v o β gc gr S x B) (mNT k k) (mNT o (headWv k v β gc S x)) (mNT q k) (hDec gc gr)
/-- The gradients of a head's sums of decays. -/
def headDGC : V S64x1 := bDgc q k (partW (headR q k o gc gr S x B)) (mST o S) (mST (headWv k v β gc S x) B) β gc
  (headC q k v o β gc gr S x B) (bDlast k gc (mST (headWv k v β gc S x) B) S B)
def headDGR : V S1x64 := bDgr (headC q k v o β gc gr S x B)

end Cert.Head
end
-- ==== Proof.BwdBlock.lean ====
/-
  What the body of the backward call leaves in its windows and in its scratch, as functions of the blocks it reads.

  `Parts` holds what one head reads. `outD`, `outG`, `outR` and `outN` are the four results: the gradients of the queries,
  keys and values, those of the rates and decays, the part of the decays' that is summed by rows, and the gradients of
  the states before the chunk.
-/
module

public import proofs.«01_k».proof.Proof.Block
public import proofs.«01_k».proof.Proof.BwdPoints
public import proofs.«01_k».proof.Proof.HeadBack

@[expose] public section

set_option maxRecDepth 16384

noncomputable section
namespace Cert.Back

open Cert.KernelIdeal Cert.KernelIdeal.Gen Cert.Head Cert.Block Cert.Bwd Idealize.ShloMosaic Idealize.ShloMosaic.TcCoe Idealize.SL.Sem

/-- What one head of a block reads. -/
@[ext] structure Parts where
  q : V S64x128
  k : V S64x128
  v : V S64x128
  o : V S64x128
  β : V S64x1
  gc : V S64x1
  gr : V S1x64
  S : V S128x128
  x : V S64x64
  B : V S128x128

namespace Parts
variable (p : Parts)
def dq : V S64x128 := headDQ p.k p.v p.o p.β p.gc p.gr p.S p.x
def dk : V S64x128 := headDK p.q p.k p.v p.o p.β p.gc p.gr p.S p.x p.B
def dv : V S64x128 := headDV p.q p.k p.o p.β p.gc p.gr p.S p.x p.B
def ds : V S128x128 := headDS p.q p.k p.v p.o p.β p.gc p.gr p.x p.B
def dr : V S64x1 := headDR p.q p.k p.v p.o p.β p.gc p.gr p.S p.x p.B
def dgc : V S64x1 := headDGC p.q p.k p.v p.o p.β p.gc p.gr p.S p.x p.B
def dgr : V S1x64 := headDGR p.q p.k p.v p.o p.β p.gc p.gr p.S p.x p.B
end Parts

/-- A load of 64 × 128 entries of the outputs' gradient. -/
def rdO (arg4 : Memref sig .tc .vmem S64x1024 .f32) (harg4 : arg4.IsWhole) (x3 : V S64x1024)
    (off : Fin 2 → ℕ) (inb : ∀ a, off a + S64x128.size a ≤ S64x1024.size a) : V S64x128 :=
  View.readAt (Elt Ideal) arg4.view (Rect.unit (s := S64x1024) off S64x128.size inb).toLoadRect (harg4.unread x3)
/-- A load of a head's saved state. -/
def rdA (arg5 : Memref sig .tc .vmem S1x8x128x128 .f32) (harg5 : arg5.IsWhole) (x4 : V S1x8x128x128)
    (off : Fin 4 → ℕ) (inb : ∀ a, off a + S1x1x128x128.size a ≤ S1x8x128x128.size a) : V S1x1x128x128 :=
  View.readAt (Elt Ideal) arg5.view (Rect.unit (s := S1x8x128x128) off S1x1x128x128.size inb).toLoadRect (harg5.unread x4)
/-- A load of a head's saved inverse. -/
def rdX (arg6 : Memref sig .tc .vmem S1x8x64x64 .f32) (harg6 : arg6.IsWhole) (x5 : V S1x8x64x64)
    (off : Fin 4 → ℕ) (inb : ∀ a, off a + S1x1x64x64.size a ≤ S1x8x64x64.size a) : V S1x1x64x64 :=
  View.readAt (Elt Ideal) arg6.view (Rect.unit (s := S1x8x64x64) off S1x1x64x64.size inb).toLoadRect (harg6.unread x5)
/-- The load of a head's scratch after it was filled with zeros. -/
def rdZB (arg10 : Memref sig .tc .vmem S8x128x128 .f32)
    (off : Fin 3 → ℕ) (inb : ∀ a, off a + S1x128x128.size a ≤ S8x128x128.size a) : V S1x128x128 :=
  arg10.view.readCov (Bwd.kernelRun0_A.sl.HS0_1 (F := Ideal)) (Rect.unit (s := S8x128x128) off S1x128x128.size inb).toLoadRect

def oB (x3 : V S64x1024) (h : Fin 8) : V S64x128 :=
  fun j => x3 (ix2 (j 0) ⟨128 * h.val + (j 1).val, by have := (j 1).isLt; simp at this; omega⟩)
def sA (x4 : V S1x8x128x128) (h : Fin 8) : V S128x128 := fun j => x4 (ix4 0 h (j 0) (j 1))
def xA (x5 : V S1x8x64x64) (h : Fin 8) : V S64x64 := fun j => x5 (ix4 0 h (j 0) (j 1))

theorem rdO_eq (arg4 : Memref sig .tc .vmem S64x1024 .f32) (harg4 : arg4.IsWhole) (x3 : V S64x1024) (h : Fin 8) (inb) :
    rdO arg4 harg4 x3 ![0, 128 * h.val] inb = oB x3 h := by
  funext j
  refine (congrFun (Memref.IsWhole.read_unread (Val := Elt Ideal) harg4 x3) _).trans (congrArg x3 (funext fun a => Fin.ext ?_))
  match a with
  | ⟨0, _⟩ => show 0 + 1 * (j 0).val = (j 0).val; omega
  | ⟨1, _⟩ => show 128 * h.val + 1 * (j 1).val = 128 * h.val + (j 1).val; omega
theorem rdA_eq (arg5 : Memref sig .tc .vmem S1x8x128x128 .f32) (harg5 : arg5.IsWhole) (x4 : V S1x8x128x128) (h : Fin 8) (inb) (hc) :
    shapeCast S128x128 (rdA arg5 harg5 x4 ![0, h.val, 0, 0] inb) hc = sA x4 h := by
  funext j
  rw [eq_ix2 j]
  simp only [pointwise, sA]
  refine (congrFun (Memref.IsWhole.read_unread (Val := Elt Ideal) harg5 x4) _).trans (congrArg x4 (funext fun a => Fin.ext ?_))
  match a with
  | ⟨0, _⟩ => show 0 + 1 * 0 = 0; omega
  | ⟨1, _⟩ => show h.val + 1 * 0 = h.val; omega
  | ⟨2, _⟩ => show 0 + 1 * (j 0).val = (j 0).val; omega
  | ⟨3, _⟩ => show 0 + 1 * (j 1).val = (j 1).val; omega
theorem rdX_eq (arg6 : Memref sig .tc .vmem S1x8x64x64 .f32) (harg6 : arg6.IsWhole) (x5 : V S1x8x64x64) (h : Fin 8) (inb) (hc) :
    shapeCast S64x64 (rdX arg6 harg6 x5 ![0, h.val, 0, 0] inb) hc = xA x5 h := by
  funext j
  rw [eq_ix2 j]
  simp only [pointwise, xA]
  refine (congrFun (Memref.IsWhole.read_unread (Val := Elt Ideal) harg6 x5) _).trans (congrArg x5 (funext fun a => Fin.ext ?_))
  match a with
  | ⟨0, _⟩ => show 0 + 1 * 0 = 0; omega
  | ⟨1, _⟩ => show h.val + 1 * 0 = h.val; omega
  | ⟨2, _⟩ => show 0 + 1 * (j 0).val = (j 0).val; omega
  | ⟨3, _⟩ => show 0 + 1 * (j 1).val = (j 1).val; omega
theorem rdZB_eq (arg10 : Memref sig .tc .vmem S8x128x128 .f32) (h : Fin 8) (inb) (hc) :
    shapeCast S128x128 (rdZB arg10 ![h.val, 0, 0] inb) hc = sB zS h := by
  funext j
  rw [eq_ix2 j]
  simp only [pointwise]
  show _ = (0 : EReal)
  refine View.read_writes_apply_of_pieces (Val := Elt Ideal) (e := .f32) arg10.view _ (fun _ => (0 : EReal)) _ (fun p hp x => ?_) _ ⟨_, List.mem_singleton_self _, ?_⟩
  · have hp' := List.mem_singleton.1 hp
    subst hp'
    show k1_pay3 (F := Ideal) x = (0 : EReal)
    simp [k1_pay3, pointwise]
  · rw [Rect.mem_set_unit]
    intro a
    have h0 := (j 0).isLt
    have h1 := (j 1).isLt
    have hh := h.isLt
    match a with
    | ⟨0, _⟩ => exact ⟨Nat.zero_le _, show h.val + 1 * 0 < 0 + 8 by omega⟩
    | ⟨1, _⟩ => exact ⟨Nat.zero_le _, show 0 + 1 * (j 0).val < 0 + 128 by simp at h0; omega⟩
    | ⟨2, _⟩ => exact ⟨Nat.zero_le _, show 0 + 1 * (j 1).val < 0 + 128 by simp at h1; omega⟩

theorem inbQ (o : ℕ) (ho : o + 128 ≤ 3072) : ∀ a, (![0, o] : Fin 2 → ℕ) a + S64x128.size a ≤ S64x3072.size a
  | ⟨0, _⟩ => by show 0 + 64 ≤ 64; omega
  | ⟨1, _⟩ => ho
theorem inbO (h : Fin 8) : ∀ a, (![0, 128 * h.val] : Fin 2 → ℕ) a + S64x128.size a ≤ S64x1024.size a
  | ⟨0, _⟩ => by show 0 + 64 ≤ 64; omega
  | ⟨1, _⟩ => by show 128 * h.val + 128 ≤ 1024; omega
theorem inbA (h : Fin 8) : ∀ a, (![0, h.val, 0, 0] : Fin 4 → ℕ) a + S1x1x128x128.size a ≤ S1x8x128x128.size a := by revert h; decide
theorem inbX (h : Fin 8) : ∀ a, (![0, h.val, 0, 0] : Fin 4 → ℕ) a + S1x1x64x64.size a ≤ S1x8x64x64.size a := by revert h; decide
theorem inbS (h : Fin 8) : ∀ a, (![h.val, 0, 0] : Fin 3 → ℕ) a + S1x128x128.size a ≤ S8x128x128.size a := by revert h; decide
theorem sliB (h : Fin 8) : S64x128.Slices ![0, h.val] S64x1 := by revert h; decide
theorem sliG (h : Fin 8) : S64x128.Slices ![0, 8 + h.val] S64x1 := by revert h; decide
theorem sliR (h : Fin 8) : S8x64.Slices ![h.val, 0] S1x64 := by revert h; decide

/-- The blocks a point reads. -/
structure Blocks where
  x0 : V S64x3072
  x1 : V S64x128
  x2 : V S1x8x64
  x3 : V S64x1024
  x4 : V S1x8x128x128
  x5 : V S1x8x64x64

/-- The parts of a head of the blocks and the scratch. -/
def parts (b : Blocks) (xs : V S8x128x128) (h : Fin 8) : Parts where
  q := qB b.x0 h
  k := kB b.x0 h
  v := vB b.x0 h
  o := oB b.x3 h
  β := bB b.x1 h
  gc := gcB b.x1 h
  gr := grB b.x2 h
  S := sA b.x4 h
  x := xA b.x5 h
  B := sB xs h

section
variable (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg10 : Memref sig .tc .vmem S8x128x128 .f32)

/-- The parts of a head as they are loaded, for a scratch part `B`. -/
def raw (b : Blocks) (h : Fin 8) (B : V S128x128) : Parts where
  q := rdQ arg1 harg1 b.x0 ![0, 128 * h.val] (inbQ _ (by omega))
  k := rdQ arg1 harg1 b.x0 ![0, 1024 + 128 * h.val] (inbQ _ (by omega))
  v := rdQ arg1 harg1 b.x0 ![0, 2048 + 128 * h.val] (inbQ _ (by omega))
  o := rdO arg4 harg4 b.x3 ![0, 128 * h.val] (inbO h)
  β := extractStridedSlice S64x1 ![0, h.val] (rdB arg2 harg2 b.x1) (sliB h)
  gc := extractStridedSlice S64x1 ![0, 8 + h.val] (k1_pay8 (F := Ideal) (rdB arg2 harg2 b.x1)) (sliG h)
  gr := extractStridedSlice S1x64 ![h.val, 0] (k1_pay9 (F := Ideal) (rdG arg3 harg3 b.x2)) (sliR h)
  S := shapeCast S128x128 (rdA arg5 harg5 b.x4 ![0, h.val, 0, 0] (inbA h)) shapeCasts_S1x1x128x128_S128x128
  x := shapeCast S64x64 (rdX arg6 harg6 b.x5 ![0, h.val, 0, 0] (inbX h)) shapeCasts_S1x1x64x64_S64x64
  B := B
/-- The same with the scratch's part. -/
def rawA (b : Blocks) (h : Fin 8) : Parts := raw arg1 harg1 arg2 harg2 arg3 harg3 arg4 harg4 arg5 harg5 arg6 harg6 b h
  (shapeCast S128x128 (rdZB arg10 ![h.val, 0, 0] (inbS h)) shapeCasts_S1x128x128_S128x128)
def rawB (harg10 : arg10.IsWhole) (b : Blocks) (xs : V S8x128x128) (h : Fin 8) : Parts := raw arg1 harg1 arg2 harg2 arg3 harg3 arg4 harg4 arg5 harg5 arg6 harg6 b h
  (shapeCast S128x128 (rdS arg10 harg10 xs ![h.val, 0, 0] (inbS h)) shapeCasts_S1x128x128_S128x128)

theorem raw_eq (b : Blocks) (xs : V S8x128x128) (h : Fin 8) : raw arg1 harg1 arg2 harg2 arg3 harg3 arg4 harg4 arg5 harg5 arg6 harg6 b h (sB xs h) = parts b xs h := by
  unfold raw parts
  rw [rdQ_eq arg1 harg1 b.x0 (128 * h.val) _ (by omega), rdQ_eq arg1 harg1 b.x0 (1024 + 128 * h.val) _ (by omega),
    rdQ_eq arg1 harg1 b.x0 (2048 + 128 * h.val) _ (by omega), rdO_eq, rdB_eq, rdG_eq, rdA_eq, rdX_eq, bB_eq]
  exact congrArg₂ (fun g r => Parts.mk (qB b.x0 h) (kB b.x0 h) (vB b.x0 h) (oB b.x3 h) (bB b.x1 h) g r (sA b.x4 h) (xA b.x5 h) (sB xs h)) (gcB_eq b.x1 h (sliG h)) (grB_eq b.x2 h (sliR h))
theorem rawA_eq (b : Blocks) : rawA arg1 harg1 arg2 harg2 arg3 harg3 arg4 harg4 arg5 harg5 arg6 harg6 arg10 b = parts b zS := by
  funext h
  rw [rawA, rdZB_eq, raw_eq]
theorem rawB_eq (harg10 : arg10.IsWhole) (b : Blocks) (xs : V S8x128x128) : rawB arg1 harg1 arg2 harg2 arg3 harg3 arg4 harg4 arg5 harg5 arg6 harg6 arg10 harg10 b xs = parts b xs := by
  funext h
  rw [rawB, rdS_eq, raw_eq]
end

/-! ## The results -/

/-- One more head's column put in its lane. -/
def put (n : BitVec 32) (d : V S64x1) (p : V S64x128) : V S64x128 :=
  select (cmpi .eq (iota .tc S64x128 32 [1] iota_S64x128_d1_w32) (broadcast S64x128 n))
    (broadcastTo S64x128 (shapeCast S64x1 d shapeCasts_S64x1_S64x1) broadcasts_S64x1_S64x128) p
/-- One more head's row put in its place. -/
def putR (n : BitVec 32) (d : V S1x64) (p : V S8x64) : V S8x64 :=
  select (cmpi .eq (iota .tc S8x64 32 [0] iota_S8x64_d0_w32) (broadcast S8x64 n))
    (broadcastTo S8x64 (shapeCast S1x64 d shapeCasts_S1x64_S1x64) broadcasts_S1x64_S8x64) p
/-- The rates' gradients in lanes 0 … 7. -/
def slabB (f : Fin 8 → V S64x1) : V S64x128 :=
  put 7#32 (f 7) (put 6#32 (f 6) (put 5#32 (f 5) (put 4#32 (f 4) (put 3#32 (f 3) (put 2#32 (f 2) (put 1#32 (f 1) (put 0#32 (f 0) k1_pay11)))))))
/-- The gradients of the sums of decays in lanes 8 … 15. -/
def slabG (f : Fin 8 → V S64x1) : V S64x128 :=
  put 15#32 (f 7) (put 14#32 (f 6) (put 13#32 (f 5) (put 12#32 (f 4) (put 11#32 (f 3) (put 10#32 (f 2) (put 9#32 (f 1) (put 8#32 (f 0) k1_pay12)))))))
/-- The same by rows. -/
def slabR (f : Fin 8 → V S1x64) : V S8x64 :=
  putR 7#32 (f 7) (putR 6#32 (f 6) (putR 5#32 (f 5) (putR 4#32 (f 4) (putR 3#32 (f 3) (putR 2#32 (f 2) (putR 1#32 (f 1) (putR 0#32 (f 0) k1_pay13)))))))
/-- The gradients of the rates and of the decays. -/
def outG (p : Fin 8 → Parts) : V S64x128 :=
  addf (slabB fun h => (p h).dr) (matmul dot_S64x64_S64x128_S64x128_1_0_0_1_n_n (some .fp32) (k1_pay7 (F := Ideal)) (slabG fun h => (p h).dgc)
    (constant S64x128 .f32 0x00000000#32))
/-- The part of the decays' gradients that comes by rows. -/
def outR (p : Fin 8 → Parts) : V S1x8x64 :=
  shapeCast S1x8x64 (matmul dot_S8x64_S64x64_S8x64_1_0_0_1_n_n (some .fp32) (slabR fun h => (p h).dgr) (k1_pay6 (F := Ideal))
    (constant S8x64 .f32 0x00000000#32)) shapeCasts_S8x64_S1x8x64
/-- A column's head and place within it. -/
def hd (c : ℕ) : Fin 8 := ⟨c / 128 % 8, by omega⟩
def pl (c : ℕ) : Fin 128 := ⟨c % 128, by omega⟩
/-- The gradients of the queries, keys and values. -/
def outD (p : Fin 8 → Parts) : V S64x3072 := fun i =>
  (if (i 1).val < 1024 then (p (hd (i 1).val)).dq else if (i 1).val < 2048 then (p (hd (i 1).val)).dk else (p (hd (i 1).val)).dv)
    (ix2 (i 0) (pl (i 1).val))
/-- The gradients of the states before the chunk. -/
def outN (p : Fin 8 → Parts) : V S8x128x128 := fun i => (p (i 0)).ds (ix2 (i 1) (i 2))

theorem hd_eq (h : Fin 8) (a : ℕ) (n : ℕ) (ha : a < 128) : hd (1024 * n + 128 * h.val + a) = h := by
  apply Fin.ext; show (1024 * n + 128 * h.val + a) / 128 % 8 = h.val; omega
theorem outD_emb (p : Fin 8 → Parts) (h : Fin 8) (n : ℕ) (o : ℕ) (hn : o = 1024 * n + 128 * h.val) (inb)
    (f : Parts → V S64x128) (hf : ∀ c, 1024 * n ≤ c → c < 1024 * n + 1024 → ∀ p : Parts, (if c < 1024 then p.dq else if c < 2048 then p.dk else p.dv) = f p)
    (x : (Rect.unit (s := S64x3072) ![0, o] ![64, 128] inb).shape.Idx) :
    f (p h) x = outD p ((Rect.unit (s := S64x3072) ![0, o] ![64, 128] inb).emb x) := by
  have hx : (x 1).val < 128 := (x 1).isLt
  have e0 : ((Rect.unit (s := S64x3072) ![0, o] ![64, 128] inb).emb x 0).val = (x 0).val := by
    show 0 + 1 * (x 0).val = _; omega
  have e1 : ((Rect.unit (s := S64x3072) ![0, o] ![64, 128] inb).emb x 1).val = 1024 * n + 128 * h.val + (x 1).val := by
    show o + 1 * (x 1).val = _; omega
  unfold outD
  rw [e1, hd_eq h _ n hx, hf _ (by omega) (by omega)]
  refine congrArg (f (p h)) (funext fun a => Fin.ext ?_)
  match a with
  | ⟨0, _⟩ => exact e0.symm
  | ⟨1, _⟩ => show (x 1).val = (1024 * n + 128 * h.val + (x 1).val) % 128; omega
theorem outD_q (p : Fin 8 → Parts) (h : Fin 8) (inb) (x : (Rect.unit (s := S64x3072) ![0, 128 * h.val] ![64, 128] inb).shape.Idx) :
    (p h).dq x = outD p ((Rect.unit (s := S64x3072) ![0, 128 * h.val] ![64, 128] inb).emb x) :=
  outD_emb p h 0 _ (by omega) inb Parts.dq (fun c _ hc p => if_pos (by omega)) x
theorem outD_k (p : Fin 8 → Parts) (h : Fin 8) (inb) (x : (Rect.unit (s := S64x3072) ![0, 1024 + 128 * h.val] ![64, 128] inb).shape.Idx) :
    (p h).dk x = outD p ((Rect.unit (s := S64x3072) ![0, 1024 + 128 * h.val] ![64, 128] inb).emb x) :=
  outD_emb p h 1 _ (by omega) inb Parts.dk (fun c _ hc p => (if_neg (by omega)).trans (if_pos (by omega))) x
theorem outD_v (p : Fin 8 → Parts) (h : Fin 8) (inb) (x : (Rect.unit (s := S64x3072) ![0, 2048 + 128 * h.val] ![64, 128] inb).shape.Idx) :
    (p h).dv x = outD p ((Rect.unit (s := S64x3072) ![0, 2048 + 128 * h.val] ![64, 128] inb).emb x) :=
  outD_emb p h 2 _ (by omega) inb Parts.dv (fun c _ hc p => (if_neg (by omega)).trans (if_neg (by omega))) x
theorem outN_emb (p : Fin 8 → Parts) (h : Fin 8) (inb) (hc)
    (x : (Rect.unit (s := S8x128x128) ![h.val, 0, 0] ![1, 128, 128] inb).shape.Idx) :
    shapeCast S1x128x128 (p h).ds hc x = outN p ((Rect.unit (s := S8x128x128) ![h.val, 0, 0] ![1, 128, 128] inb).emb x) := by
  rw [eq_ix3 x]
  simp only [pointwise]
  have h1 : (x 0).val < 1 := (x 0).isLt
  have eh : (Rect.unit (s := S8x128x128) ![h.val, 0, 0] ![1, 128, 128] inb).emb x 0 = h := by
    apply Fin.ext; show h.val + 1 * (x 0).val = h.val; omega
  unfold outN
  rw [eh]
  refine congrArg (p h).ds (funext fun a => Fin.ext ?_)
  match a with
  | ⟨0, _⟩ => show (x 1).val = 0 + 1 * (x 1).val; omega
  | ⟨1, _⟩ => show (x 2).val = 0 + 1 * (x 2).val; omega
theorem outG_emb (G : V S64x128) (inb) (x : (Rect.unit (s := S64x128) ![0, 0] ![64, 128] inb).shape.Idx) :
    G x = G ((Rect.unit (s := S64x128) ![0, 0] ![64, 128] inb).emb x) := by
  refine congrArg G (funext fun a => Fin.ext ?_)
  match a with
  | ⟨0, _⟩ => show (x 0).val = 0 + 1 * (x 0).val; omega
  | ⟨1, _⟩ => show (x 1).val = 0 + 1 * (x 1).val; omega
theorem outR_emb (G : V S1x8x64) (inb) (x : (Rect.unit (s := S1x8x64) ![0, 0, 0] ![1, 8, 64] inb).shape.Idx) :
    G x = G ((Rect.unit (s := S1x8x64) ![0, 0, 0] ![1, 8, 64] inb).emb x) := by
  refine congrArg G (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega

end Cert.Back
end
-- ==== Proof.BwdBlockFirst.lean ====
/-
  The results of the backward body's run at the first point, where the scratch is filled with zeros.
-/
module

public import proofs.«01_k».proof.Proof.BwdBlock

@[expose] public section

set_option maxRecDepth 16384

noncomputable section
namespace Cert.Back

open Cert.KernelIdeal Cert.KernelIdeal.Gen Cert.Head Cert.Block Cert.Bwd Idealize.ShloMosaic Idealize.ShloMosaic.TcCoe Idealize.SL.Sem

variable (c : Dev nD) (i : grid1.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S64x3072 .f32) (harg7 : arg7.IsWhole) (arg8 : Memref sig .tc .vmem S64x128 .f32) (harg8 : arg8.IsWhole) (arg9 : Memref sig .tc .vmem S1x8x64 .f32) (harg9 : arg9.IsWhole) (arg10 : Memref sig .tc .vmem S8x128x128 .f32) (harg10 : arg10.IsWhole)

/-- The heads in the order in which a list of stores holds them, the last first. -/
def order : List (Fin 8) := [7, 6, 5, 4, 3, 2, 1, 0]

theorem withinQ : ∀ n : Fin 8, ∀ a, (![0, 128 * n.val] : Fin 2 → ℕ) a + S64x128.size a ≤ S64x3072.size a := by decide +kernel
theorem withinK : ∀ n : Fin 8, ∀ a, (![0, 1024 + 128 * n.val] : Fin 2 → ℕ) a + S64x128.size a ≤ S64x3072.size a := by decide +kernel
theorem withinV : ∀ n : Fin 8, ∀ a, (![0, 2048 + 128 * n.val] : Fin 2 → ℕ) a + S64x128.size a ≤ S64x3072.size a := by decide +kernel

/-- The stores of the gradients of queries, keys and values, of rates and decays, of decays by rows, and of the scratch. -/
def storesD (r : Fin 8 → Parts) : List (View.Piece (Elt Ideal) S64x3072 .f32) := order.flatMap fun n =>
  [⟨Rect.unit ![0, 2048 + 128 * n.val] ![64, 128] (withinV n), (r n).dv⟩, ⟨Rect.unit ![0, 1024 + 128 * n.val] ![64, 128] (withinK n), (r n).dk⟩,
    ⟨Rect.unit ![0, 128 * n.val] ![64, 128] (withinQ n), (r n).dq⟩]
def storesG (r : Fin 8 → Parts) : List (View.Piece (Elt Ideal) S64x128 .f32) := [⟨Rect.unit ![0, 0] ![64, 128] inb_S64x128_S64x128_0_0, outG r⟩]
def storesR (r : Fin 8 → Parts) : List (View.Piece (Elt Ideal) S1x8x64 .f32) := [⟨Rect.unit ![0, 0, 0] ![1, 8, 64] inb_S1x8x64_S1x8x64_0_0_0, outR r⟩]
def storesN (r : Fin 8 → Parts) : List (View.Piece (Elt Ideal) S8x128x128 .f32) := order.map fun n =>
  ⟨Rect.unit ![n.val, 0, 0] ![1, 128, 128] (inbS n), shapeCast S1x128x128 (r n).ds shapeCasts_S128x128_S1x128x128⟩

theorem storesD_at (r : Fin 8 → Parts) : ∀ p ∈ storesD r, ∀ x, p.2 x = outD r (p.1.emb x) := by
  intro p hp x
  obtain ⟨n, -, hp⟩ := List.mem_flatMap.1 hp
  rcases List.mem_cons.1 hp with rfl | hp
  · exact outD_v r n (withinV n) x
  rcases List.mem_cons.1 hp with rfl | hp
  · exact outD_k r n (withinK n) x
  rw [List.mem_singleton] at hp
  subst hp
  exact outD_q r n (withinQ n) x
theorem storesG_at (r : Fin 8 → Parts) : ∀ p ∈ storesG r, ∀ x, p.2 x = outG r (p.1.emb x) := by
  intro p hp x
  rw [storesG, List.mem_singleton] at hp
  subst hp
  exact outG_emb (outG r) inb_S64x128_S64x128_0_0 x
theorem storesR_at (r : Fin 8 → Parts) : ∀ p ∈ storesR r, ∀ x, p.2 x = outR r (p.1.emb x) := by
  intro p hp x
  rw [storesR, List.mem_singleton] at hp
  subst hp
  exact outR_emb (outR r) inb_S1x8x64_S1x8x64_0_0_0 x
theorem storesN_at (r : Fin 8 → Parts) : ∀ p ∈ storesN r, ∀ x, p.2 x = outN r (p.1.emb x) := by
  intro p hp x
  obtain ⟨n, -, rfl⟩ := List.mem_map.1 hp
  exact outN_emb r n (inbS n) shapeCasts_S128x128_S1x128x128 x
theorem storesN_cover (r : Fin 8 → Parts) : ∀ y, ∃ p ∈ storesN r, y ∈ p.1.set :=
  fun y => View.cover_of_tiledL (s := S8x128x128) _ S1x128x128.size (by sl_kernel_rfl) y

variable (hc0 : cond0_0 i) (b : Blocks)

theorem out0_A_6_eq : out0_A_6 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 = outD (parts b zS) := by
  have e : (kernelRun0_A (F := Ideal) c i arg1 harg1 arg2 harg2 arg3 harg3 arg4 harg4 arg5 harg5 arg6 harg6 arg7 harg7 arg8 harg8 arg9 harg9 arg10 harg10 hc0 b.x0 b.x1 b.x2 b.x3 b.x4 b.x5).1 = storesD (rawA arg1 harg1 arg2 harg2 arg3 harg3 arg4 harg4 arg5 harg5 arg6 harg6 arg10 b) := by sl_kernel_rfl
  exact Eq.trans (funext fun y => View.read_writes_apply_of_pieces (Val := Elt Ideal) VO0_6 VO0_6.junk (outD (rawA arg1 harg1 arg2 harg2 arg3 harg3 arg4 harg4 arg5 harg5 arg6 harg6 arg10 b)) _ (e ▸ storesD_at _) y (cover0_A_6 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 y)) (congrArg outD (rawA_eq arg1 harg1 arg2 harg2 arg3 harg3 arg4 harg4 arg5 harg5 arg6 harg6 arg10 b))
theorem out0_A_7_eq : out0_A_7 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 = outG (parts b zS) := by
  have e : (kernelRun0_A (F := Ideal) c i arg1 harg1 arg2 harg2 arg3 harg3 arg4 harg4 arg5 harg5 arg6 harg6 arg7 harg7 arg8 harg8 arg9 harg9 arg10 harg10 hc0 b.x0 b.x1 b.x2 b.x3 b.x4 b.x5).2.1 = storesG (rawA arg1 harg1 arg2 harg2 arg3 harg3 arg4 harg4 arg5 harg5 arg6 harg6 arg10 b) := by sl_kernel_rfl
  exact Eq.trans (funext fun y => View.read_writes_apply_of_pieces (Val := Elt Ideal) VO0_7 VO0_7.junk (outG (rawA arg1 harg1 arg2 harg2 arg3 harg3 arg4 harg4 arg5 harg5 arg6 harg6 arg10 b)) _ (e ▸ storesG_at _) y (cover0_A_7 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 y)) (congrArg outG (rawA_eq arg1 harg1 arg2 harg2 arg3 harg3 arg4 harg4 arg5 harg5 arg6 harg6 arg10 b))
theorem out0_A_8_eq : out0_A_8 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 = outR (parts b zS) := by
  have e : (kernelRun0_A (F := Ideal) c i arg1 harg1 arg2 harg2 arg3 harg3 arg4 harg4 arg5 harg5 arg6 harg6 arg7 harg7 arg8 harg8 arg9 harg9 arg10 harg10 hc0 b.x0 b.x1 b.x2 b.x3 b.x4 b.x5).2.2.1 = storesR (rawA arg1 harg1 arg2 harg2 arg3 harg3 arg4 harg4 arg5 harg5 arg6 harg6 arg10 b) := by sl_kernel_rfl
  exact Eq.trans (funext fun y => View.read_writes_apply_of_pieces (Val := Elt Ideal) VO0_8 VO0_8.junk (outR (rawA arg1 harg1 arg2 harg2 arg3 harg3 arg4 harg4 arg5 harg5 arg6 harg6 arg10 b)) _ (e ▸ storesR_at _) y (cover0_A_8 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 y)) (congrArg outR (rawA_eq arg1 harg1 arg2 harg2 arg3 harg3 arg4 harg4 arg5 harg5 arg6 harg6 arg10 b))
theorem sout0_A_0_eq : sout0_A_0 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 = outN (parts b zS) := by
  have e : (kernelRun0_A (F := Ideal) c i arg1 harg1 arg2 harg2 arg3 harg3 arg4 harg4 arg5 harg5 arg6 harg6 arg7 harg7 arg8 harg8 arg9 harg9 arg10 harg10 hc0 b.x0 b.x1 b.x2 b.x3 b.x4 b.x5).2.2.2.1 = storesN (rawA arg1 harg1 arg2 harg2 arg3 harg3 arg4 harg4 arg5 harg5 arg6 harg6 arg10 b) ++ [⟨Rect.unit ![0, 0, 0] S8x128x128.size inb_S8x128x128_S8x128x128_0_0_0, k1_pay3 (F := Ideal)⟩] := by sl_kernel_rfl
  refine Eq.trans (funext fun y => ?_) (congrArg outN (rawA_eq arg1 harg1 arg2 harg2 arg3 harg3 arg4 harg4 arg5 harg5 arg6 harg6 arg10 b))
  unfold sout0_A_0
  rw [e, View.writes_append]
  exact View.read_writes_apply_of_pieces (Val := Elt Ideal) _ _ (outN (rawA arg1 harg1 arg2 harg2 arg3 harg3 arg4 harg4 arg5 harg5 arg6 harg6 arg10 b)) _ (storesN_at _) y (storesN_cover _ y)

end Cert.Back
end
-- ==== Proof.BwdBlockLater.lean ====
/-
  The results of the backward body's run at a later point, from the gradients the scratch holds.
-/
module

public import proofs.«01_k».proof.Proof.BwdBlockFirst

@[expose] public section

set_option maxRecDepth 16384

noncomputable section
namespace Cert.Back

open Cert.KernelIdeal Cert.KernelIdeal.Gen Cert.Head Cert.Block Cert.Bwd Idealize.ShloMosaic Idealize.ShloMosaic.TcCoe Idealize.SL.Sem

variable (c : Dev nD) (i : grid1.Coords) (arg1 : Memref sig .tc .vmem S64x3072 .f32) (harg1 : arg1.IsWhole) (arg2 : Memref sig .tc .vmem S64x128 .f32) (harg2 : arg2.IsWhole) (arg3 : Memref sig .tc .vmem S1x8x64 .f32) (harg3 : arg3.IsWhole) (arg4 : Memref sig .tc .vmem S64x1024 .f32) (harg4 : arg4.IsWhole) (arg5 : Memref sig .tc .vmem S1x8x128x128 .f32) (harg5 : arg5.IsWhole) (arg6 : Memref sig .tc .vmem S1x8x64x64 .f32) (harg6 : arg6.IsWhole) (arg7 : Memref sig .tc .vmem S64x3072 .f32) (harg7 : arg7.IsWhole) (arg8 : Memref sig .tc .vmem S64x128 .f32) (harg8 : arg8.IsWhole) (arg9 : Memref sig .tc .vmem S1x8x64 .f32) (harg9 : arg9.IsWhole) (arg10 : Memref sig .tc .vmem S8x128x128 .f32) (harg10 : arg10.IsWhole)

variable (hc0 : ¬ cond0_0 i) (b : Blocks) (xs : V S8x128x128)

theorem out0_B_6_eq : out0_B_6 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs = outD (parts b xs) := by
  have e : (kernelRun0_B (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs).1 = storesD (rawB arg1 harg1 arg2 harg2 arg3 harg3 arg4 harg4 arg5 harg5 arg6 harg6 arg10 harg10 b xs) := by sl_kernel_rfl
  exact Eq.trans (funext fun y => View.read_writes_apply_of_pieces (Val := Elt Ideal) VO0_6 VO0_6.junk (outD (rawB arg1 harg1 arg2 harg2 arg3 harg3 arg4 harg4 arg5 harg5 arg6 harg6 arg10 harg10 b xs)) _ (e ▸ storesD_at _) y (cover0_B_6 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs y)) (congrArg outD (rawB_eq arg1 harg1 arg2 harg2 arg3 harg3 arg4 harg4 arg5 harg5 arg6 harg6 arg10 harg10 b xs))
theorem out0_B_7_eq : out0_B_7 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs = outG (parts b xs) := by
  have e : (kernelRun0_B (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs).2.1 = storesG (rawB arg1 harg1 arg2 harg2 arg3 harg3 arg4 harg4 arg5 harg5 arg6 harg6 arg10 harg10 b xs) := by sl_kernel_rfl
  exact Eq.trans (funext fun y => View.read_writes_apply_of_pieces (Val := Elt Ideal) VO0_7 VO0_7.junk (outG (rawB arg1 harg1 arg2 harg2 arg3 harg3 arg4 harg4 arg5 harg5 arg6 harg6 arg10 harg10 b xs)) _ (e ▸ storesG_at _) y (cover0_B_7 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs y)) (congrArg outG (rawB_eq arg1 harg1 arg2 harg2 arg3 harg3 arg4 harg4 arg5 harg5 arg6 harg6 arg10 harg10 b xs))
theorem out0_B_8_eq : out0_B_8 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs = outR (parts b xs) := by
  have e : (kernelRun0_B (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs).2.2.1 = storesR (rawB arg1 harg1 arg2 harg2 arg3 harg3 arg4 harg4 arg5 harg5 arg6 harg6 arg10 harg10 b xs) := by sl_kernel_rfl
  exact Eq.trans (funext fun y => View.read_writes_apply_of_pieces (Val := Elt Ideal) VO0_8 VO0_8.junk (outR (rawB arg1 harg1 arg2 harg2 arg3 harg3 arg4 harg4 arg5 harg5 arg6 harg6 arg10 harg10 b xs)) _ (e ▸ storesR_at _) y (cover0_B_8 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs y)) (congrArg outR (rawB_eq arg1 harg1 arg2 harg2 arg3 harg3 arg4 harg4 arg5 harg5 arg6 harg6 arg10 harg10 b xs))
theorem sout0_B_0_eq : sout0_B_0 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs = outN (parts b xs) := by
  have e : (kernelRun0_B (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs).2.2.2.1 = storesN (rawB arg1 harg1 arg2 harg2 arg3 harg3 arg4 harg4 arg5 harg5 arg6 harg6 arg10 harg10 b xs) := by sl_kernel_rfl
  exact Eq.trans (funext fun y => View.read_writes_apply_of_pieces (Val := Elt Ideal) VS0_0 VS0_0.junk (outN (rawB arg1 harg1 arg2 harg2 arg3 harg3 arg4 harg4 arg5 harg5 arg6 harg6 arg10 harg10 b xs)) _ (e ▸ storesN_at _) y (scover0_B_0 (F := Ideal) c i arg1 harg1 arg2 harg2 arg3 harg3 arg4 harg4 arg5 harg5 arg6 harg6 arg7 harg7 arg8 harg8 arg9 harg9 arg10 harg10 hc0 b.x0 b.x1 b.x2 b.x3 b.x4 b.x5 xs y)) (congrArg outN (rawB_eq arg1 harg1 arg2 harg2 arg3 harg3 arg4 harg4 arg5 harg5 arg6 harg6 arg10 harg10 b xs))

end Cert.Back
end
-- ==== Proof.HeadBackReal.lean ====
/-
  What one head of one chunk computes on the way back when its arguments hold real numbers: the gradients of the token
  recurrence.
-/
module

public import proofs.«01_k».proof.Proof.HeadBack

@[expose] public section

set_option maxRecDepth 16384

noncomputable section
namespace Cert.Head

open Cert.KernelIdeal Cert.Lift Cert.Delta Idealize.ShloMosaic

/-! ## The stages on real matrices -/

theorem mNT_up (A B : Mat 64 128) : mNT (up A) (up B) = up (A * B.transpose) := by
  simp only [mNT, truncf_up, const_up, mm_nt]
theorem mS_up (A : Mat 64 128) (B : Mat 128 128) : mS (up A) (up B) = up (A * B) := by
  simp only [mS, truncf_up, const_up, mm_64_128_128]
theorem mN_up (A : Mat 64 64) (B : Mat 64 128) : mN (up A) (up B) = up (A * B) := by
  simp only [mN, truncf_up, const_up, mm_64_64_128]
theorem mTT_up (A B : Mat 64 128) : mTT (up A) (up B) = up (A.transpose * B) := by
  simp only [mTT, truncf_up, const_up, mm_tn]
theorem mST_up (A : Mat 64 128) (B : Mat 128 128) : mST (up A) (up B) = up (A * B.transpose) := by
  simp only [mST, truncf_up, const_up]
  refine up_ext fun a b => ?_
  simp [pointwise, up_ix2, coe_sum, Matrix.mul_apply]
theorem mT_up (A : Mat 64 64) (B : Mat 64 128) : mT (up A) (up B) = up (A.transpose * B) := by
  simp only [mT, truncf_up, const_up]
  refine up_ext fun a b => ?_
  simp [pointwise, up_ix2, coe_sum, Matrix.mul_apply]
theorem sum_r (v : V S64x128) (h h' h'') (a : Fin 64) :
    multiReduction .add [1] S64 v 0x00000000#32 h h' h'' (ix1 a) = ∑ j : Fin 128, v (ix2 a j) := by
  simp [pointwise]
theorem sum_r64 (v : V S64x64) (h h' h'') (a : Fin 64) :
    multiReduction .add [1] S64 v 0x00000000#32 h h' h'' (ix1 a) = ∑ j : Fin 64, v (ix2 a j) := by
  simp [pointwise]
theorem sum_c64 (v : V S64x64) (h h' h'') (a : Fin 64) :
    multiReduction .add [0] S64 v 0x00000000#32 h h' h'' (ix1 a) = ∑ j : Fin 64, v (ix2 j a) := by
  simp [pointwise]
theorem sum_1 (v : V S64x1) (h h' h'') (a : Fin 1) :
    multiReduction .add [0] S1 v 0x00000000#32 h h' h'' (ix1 a) = ∑ j : Fin 64, v (ix2 j a) := by
  obtain rfl := Subsingleton.elim a 0
  simp [pointwise]
theorem sum_S (v : V S128x128) (h h' h'') (a : Fin 128) :
    multiReduction .add [1] S128 v 0x00000000#32 h h' h'' (ix1 a) = ∑ j : Fin 128, v (ix2 a j) := by
  simp [pointwise]
theorem sum_S1 (v : V S128x1) (h h' h'') (a : Fin 1) :
    multiReduction .add [0] S1 v 0x00000000#32 h h' h'' (ix1 a) = ∑ j : Fin 128, v (ix2 j a) := by
  obtain rfl := Subsingleton.elim a 0
  simp [pointwise]
theorem cast_64 (v : V S64) (h) (a : Fin 64) (b : Fin 1) : shapeCast S64x1 v h (ix2 a b) = v (ix1 a) := by simp [pointwise]
theorem cast_64r (v : V S64) (h) (a : Fin 1) (b : Fin 64) : shapeCast S1x64 v h (ix2 a b) = v (ix1 b) := by simp [pointwise]
theorem cast_1 (v : V S1) (h) (a b : Fin 1) : shapeCast S1x1 v h (ix2 a b) = v (ix1 b) := by
  obtain rfl := Subsingleton.elim b 0
  simp [pointwise]
theorem cast_128 (v : V S128) (h) (a : Fin 128) (b : Fin 1) : shapeCast S128x1 v h (ix2 a b) = v (ix1 a) := by simp [pointwise]

theorem rsum_up (A : Mat 64 128) : rsum (up A) = up (Matrix.of fun i _ => ∑ j, A i j) := by
  refine up_ext fun a b => ?_
  refine (cast_64 _ _ a b).trans ((sum_r (up A) _ (.inl rfl) rfl a).trans ?_)
  simp [up_ix2, coe_sum]
theorem rsum64_up (A : Mat 64 64) : rsum64 (up A) = up (Matrix.of fun i _ => ∑ j, A i j) := by
  refine up_ext fun a b => ?_
  refine (cast_64 _ _ a b).trans ((sum_r64 (up A) _ (.inl rfl) rfl a).trans ?_)
  simp [up_ix2, coe_sum]
theorem csum64_up (A : Mat 64 64) : csum64 (up A) = up (Matrix.of fun _ j => ∑ i, A i j) := by
  refine up_ext fun a b => ?_
  refine (cast_64r _ _ a b).trans ((sum_c64 (up A) _ (.inl rfl) rfl b).trans ?_)
  simp [up_ix2, coe_sum]
theorem asum_up (A : Mat 64 128) : asum (up A) = up (Matrix.of fun _ _ => ∑ i, ∑ j, A i j) := by
  refine up_ext fun a b => ?_
  refine (cast_1 _ _ a b).trans ((sum_1 (rsum (up A)) _ (.inl rfl) rfl b).trans ?_)
  rw [rsum_up]
  simp [up_ix2, coe_sum]
theorem asumS_up (A : Mat 128 128) : asumS (up A) = up (Matrix.of fun _ _ => ∑ i, ∑ j, A i j) := by
  refine up_ext fun a b => ?_
  refine (cast_1 _ _ a b).trans ((sum_S1 _ _ (.inl rfl) rfl b).trans ?_)
  refine (Finset.sum_congr rfl fun i _ => (cast_128 _ _ i b).trans (sum_S (up A) _ (.inl rfl) rfl i)).trans ?_
  simp [up_ix2, coe_sum]
theorem bcS_up : broadcast S64x128 (Scalar.ofBits (F := Ideal) .f32 0x00000000#32) = (up 0 : V S64x128) := bcast_up
theorem strict_up (A B : Mat 64 64) :
    select Gen.k1_pay5 (up A : V S64x64) (up B) = up (Matrix.of fun i j => if j < i then A i j else B i j) :=
  select_strict A B
theorem cmp_last (a : Fin 64) : IntOp.cmpi .eq (BitVec.ofNat 32 a.val) 63#32 = if a.val = 63 then 1#1 else 0#1 := by
  revert a
  decide +kernel
theorem last_up (A B : Mat 64 1) :
    select Gen.k1_pay10 (up A : V S64x1) (up B) = up (Matrix.of fun i j => if i.val = 63 then A i j else B i j) := by
  refine up_ext fun a b => ?_
  simp [Gen.k1_pay10, pointwise, up_ix2]
  rw [cmp_last, select_ite]
  split <;> rfl
theorem cast11 (A : Mat 1 1) (h) : shapeCast S1x1 (up A : V S1x1) h = up A := by
  refine up_ext fun a b => ?_
  simp [pointwise, up_ix2]

theorem bSolT_up (X : Mat 64 64) (A C : Mat 64 128) : bSolT (up X) (up A) (up C) = up (cat (X.transpose * A) (X.transpose * C)) := by
  have mm : ∀ (X : Mat 64 64) (R : Mat 64 256), matmul dot_S64x64_S64x256_S64x256_0_0_1_1_n_n none (up X : FVec Ideal _ .bf16) (up R : FVec Ideal _ .bf16)
      (up 0) = (up (X.transpose * R) : V S64x256) := fun X R => by
    refine up_ext fun a b => ?_
    simp [pointwise, up_ix2, coe_sum, Matrix.mul_apply]
  unfold bSolT
  rw [show concatenate S64x256 1 [⟨S64x128, (up A : V S64x128)⟩, ⟨S64x128, (up C : V S64x128)⟩] Gen.concatenates_S64x128_S64x128_S64x256_d1 =
    (up (cat A C) : V S64x256) from concat_up _ _ _]
  simp only [lo_up, truncf_up, const_up, mm, addf_up, Matrix.mul_zero, Matrix.transpose_zero, Matrix.zero_mul, add_zero, mul_cat]

/-! ## A head on the numbers of a chunk -/

variable (S₀ B : State) (q k v o : ℕ → Fin 128 → ℝ) (β g : ℕ → ℝ)

theorem bE_up : bE (up (col (gsum g))) = up (Matrix.of fun t _ => Real.exp (gs g 64 - gs g (t.val + 1))) := by
  simp only [bE, hLast, last_row, bc_1_1_64, subf_up, exp_up]
  rfl
theorem bK_up : bK (up (rows k)) (up (col (gsum g))) = up (kend k g) := by
  simp only [bK, bE_up, bc_64_1_128, mulf_up]
  rfl
theorem bQ_up : bQ (up (rows q)) (up (col (gsum g))) = up (qdec q g) := by
  simp only [bQ, exp_up, bc_64_1_128, mulf_up]
  rfl
theorem bSol_up (X : Mat 64 64) : bSol (up (rows k)) (up (rows v)) (up (col β)) (up (col (gsum g))) (up X) =
    up (cat (X * rhsV v β) (X * rhsK k β g)) := by
  simp only [bSol, hRhs_up, hSol_up, mul_cat]

/-- The chunk's inverse. -/
abbrev xi : Mat 64 64 := Delta.inv (low k β g)

theorem headWv_up : headWv (up (rows k)) (up (rows v)) (up (col β)) (up (col (gsum g))) (up S₀) (up (xi k β g)) =
    up (W S₀ k v β g) := by
  simp only [headWv, bSol_up, hWv, cat_left, cat_right, truncf_up, const_up, mm_64_128_128, subf_up]
  rw [← written]

theorem headDwv_up : headDwv (up (rows q)) (up (rows k)) (up (rows o)) (up (col (gsum g))) (up (row (gsum g))) (up B) =
    up (dwv B q k o g) := by
  simp only [headDwv, bDwv, hDec_up, hAttn_up, mT_up, bK_up, mS_up, addf_up]
  rfl

theorem headR_up : headR (up (rows q)) (up (rows k)) (up (rows o)) (up (col (gsum g))) (up (row (gsum g))) (up S₀) (up (xi k β g)) (up B) =
    up (cat (U B q k o β g) (0 - U B q k o β g * S₀.transpose)) := by
  simp only [headR, headDwv_up, bDw, mST_up, bcS_up, subf_up, bSolT_up]
  rw [Matrix.mul_sub, ← Matrix.mul_assoc, back_written, Matrix.mul_zero]

theorem headL_up : headL (up (rows q)) (up (rows k)) (up (rows v)) (up (rows o)) (up (col β)) (up (col (gsum g))) (up (row (gsum g))) (up S₀)
    (up (xi k β g)) (up B) = up (dlow S₀ B q k v o β g) := by
  simp only [headL, headR_up, bSol_up, partU, partW, cat_left, cat_right, bLow, mNT_up, addf_up, bcast_up, subf_up, strict_up]
  refine congrArg up ?_
  have e : U B q k o β g * (xi k β g * rhsV v β).transpose + (0 - U B q k o β g * S₀.transpose) * (xi k β g * rhsK k β g).transpose =
      U B q k o β g * (W S₀ k v β g).transpose := by
    rw [W, written, Matrix.transpose_sub, Matrix.transpose_mul (xi k β g * rhsK k β g), Matrix.mul_sub, Matrix.sub_mul, Matrix.zero_mul, Matrix.mul_assoc]
    abel
  rw [e]
  rfl

/-- The gradient of the state before the chunk. -/
theorem headDS_up : headDS (up (rows q)) (up (rows k)) (up (rows v)) (up (rows o)) (up (col β)) (up (col (gsum g))) (up (row (gsum g)))
    (up (xi k β g)) (up B) = up (back B q k o β g 64 64) := by
  simp only [headDS, bSol_up, headDwv_up, partW, cat_right, bDs, bQ_up, mTT_up, hLast, last_row, exp_up, bc_1_1_128, mulf_up, addf_up, subf_up]
  rw [← back_first, Matrix.transpose_mul, Matrix.mul_assoc, back_written]
  refine congrArg up ?_
  congr 1
  rw [add_comm]
  rfl

/-- The gradients of the queries. -/
theorem headDQ_up : headDQ (up (rows k)) (up (rows v)) (up (rows o)) (up (col β)) (up (col (gsum g))) (up (row (gsum g))) (up S₀)
    (up (xi k β g)) =
    up (fun r : Fin 64 => gradQ (k r.val) (v r.val) (o r.val) (β r.val) (g r.val) (traj S₀ k v β g r.val)) := by
  simp only [headDQ, headWv_up, mNT_up, mST_up, hDec_up, bDq, mulf_up, mN_up, exp_up, bc_64_1_128, addf_up]
  refine congrArg up ?_
  ext r i
  rw [grad_q]
  rfl

/-- The gradients of the keys. -/
theorem headDK_up : headDK (up (rows q)) (up (rows k)) (up (rows v)) (up (rows o)) (up (col β)) (up (col (gsum g))) (up (row (gsum g))) (up S₀)
    (up (xi k β g)) (up B) =
    up (fun r : Fin 64 => gradK (q r.val) (k r.val) (v r.val) (o r.val) (β r.val) (g r.val) (traj S₀ k v β g r.val) (gr B q k o β g (r.val + 1))) := by
  simp only [headDK, headWv_up, headR_up, headL_up, partW, cat_right, bKK, mNT_up, mST_up, hDec_up, bDk, mulf_up, mN_up, mT_up, bE_up, exp_up,
    bc_64_1_128, bc_64_1_64, addf_up]
  refine congrArg up ?_
  ext r i
  rw [grad_k]
  rfl

/-- The gradients of the values. -/
theorem headDV_up : headDV (up (rows q)) (up (rows k)) (up (rows o)) (up (col β)) (up (col (gsum g))) (up (row (gsum g))) (up S₀)
    (up (xi k β g)) (up B) =
    up (fun r : Fin 64 => gradV (q r.val) (k r.val) (o r.val) (β r.val) (gr B q k o β g (r.val + 1))) := by
  simp only [headDV, headR_up, partU, cat_left, bDv, bc_64_1_128, mulf_up]
  refine congrArg up ?_
  ext r i
  exact mul_comm _ _

/-- The gradients of the rates. -/
theorem headDR_up : headDR (up (rows q)) (up (rows k)) (up (rows v)) (up (rows o)) (up (col β)) (up (col (gsum g))) (up (row (gsum g))) (up S₀)
    (up (xi k β g)) (up B) =
    up (fun (r : Fin 64) _ => gradR (q r.val) (k r.val) (v r.val) (o r.val) (g r.val) (traj S₀ k v β g r.val) (gr B q k o β g (r.val + 1))) := by
  simp only [headDR, headR_up, headL_up, partU, partW, cat_left, cat_right, bDr, mNT_up, hDec_up, mulf_up, rsum_up, rsum64_up, exp_up, addf_up]
  refine congrArg up ?_
  ext r i
  rw [grad_r]
  rfl

theorem headC_up : headC (up (rows q)) (up (rows k)) (up (rows v)) (up (rows o)) (up (col β)) (up (col (gsum g))) (up (row (gsum g))) (up S₀)
    (up (xi k β g)) (up B) = up (Matrix.of fun t s => ecell S₀ B q k v o β g t s) := by
  simp only [headC, headWv_up, headL_up, bCell, mNT_up, hDec_up, bc_64_1_64, mulf_up, addf_up]
  rfl

/-- The gradients of the summed decays. -/
theorem headDGC_up : headDGC (up (rows q)) (up (rows k)) (up (rows v)) (up (rows o)) (up (col β)) (up (col (gsum g))) (up (row (gsum g))) (up S₀)
    (up (xi k β g)) (up B) = up (fun r _ => dgc S₀ B q k v o β g r) := by
  simp only [headDGC, headC_up, headR_up, headWv_up, partW, cat_right, bDgc, bDlast, bQ_up, bK_up, mST_up, mulf_up, rsum_up, rsum64_up, asum_up, asumS_up,
    hLast, last_row, exp_up, addf_up, subf_up, cast11, bc_1_1_64, bcast_up, last_up]
  refine congrArg up ?_
  ext r i
  rfl

theorem headDGR_up : headDGR (up (rows q)) (up (rows k)) (up (rows v)) (up (rows o)) (up (col β)) (up (col (gsum g))) (up (row (gsum g))) (up S₀)
    (up (xi k β g)) (up B) = up (fun _ r => dgr S₀ B q k v o β g r) := by
  simp only [headDGR, headC_up, bDgr, csum64_up, bcast_up, subf_up]
  rfl

end Cert.Head
end
-- ==== Proof.BwdReal.lean ====
/-
  What the body of the backward call leaves when the blocks it reads hold real numbers.

  `a` are the queries, keys and values, `b` the rates and decays and `d` the gradients of the outputs, by token and
  column. Each of the eight heads of a block runs the token recurrence's derivative from the chunk's end to its start.
-/
module

public import proofs.«01_k».proof.Proof.BlockReal
public import proofs.«01_k».proof.Proof.BwdBlock
public import proofs.«01_k».proof.Proof.HeadBackReal

@[expose] public section

set_option maxRecDepth 16384

noncomputable section
namespace Cert.Back

open Cert.KernelIdeal Cert.KernelIdeal.Gen Cert.Head Cert.Block Cert.Lift Cert.Delta Idealize.ShloMosaic

/-! ## The heads' columns side by side -/

theorem cmp_lane (l : Fin 128) (m : Fin 16) : IntOp.cmpi .eq (BitVec.ofNat 32 l.val) (BitVec.ofNat 32 m.val) = if l.val = m.val then 1#1 else 0#1 := by
  revert l m; decide +kernel
theorem cmp_row (l m : Fin 8) : IntOp.cmpi .eq (BitVec.ofNat 32 l.val) (BitVec.ofNat 32 m.val) = if l.val = m.val then 1#1 else 0#1 := by
  revert l m; decide +kernel
theorem put_up (m : Fin 16) (A : Mat 64 1) (P : Mat 64 128) :
    put (BitVec.ofNat 32 m.val) (up A) (up P) = up (Matrix.of fun r l => if l.val = m.val then A r 0 else P r l) := by
  refine up_ext fun r l => ?_
  simp [put, pointwise, up_ix2]
  rw [cmp_lane, select_ite]
  split <;> rfl
theorem putR_up (m : Fin 8) (A : Mat 1 64) (P : Mat 8 64) :
    putR (BitVec.ofNat 32 m.val) (up A) (up P) = up (Matrix.of fun l r => if l.val = m.val then A 0 r else P l r) := by
  refine up_ext fun l r => ?_
  simp [putR, pointwise, up_ix2]
  rw [cmp_row, select_ite]
  split <;> rfl
theorem zero11 : k1_pay11 (F := Ideal) = up 0 := bcast_up
theorem zero12 : k1_pay12 (F := Ideal) = up 0 := bcast_up
theorem zero13 : k1_pay13 (F := Ideal) = up 0 := bcast_up

theorem slabB_up (f : Fin 8 → V S64x1) (A : ℕ → Fin 64 → ℝ) (hf : ∀ h, f h = up (Matrix.of fun r _ => A h.val r)) :
    slabB f = up (Matrix.of fun r l => if l.val < 8 then A l.val r else 0) := by
  simp only [slabB, hf, zero11]
  simp only [show (7#32 : BitVec 32) = BitVec.ofNat 32 (7 : Fin 16).val from rfl, show (6#32 : BitVec 32) = BitVec.ofNat 32 (6 : Fin 16).val from rfl,
    show (5#32 : BitVec 32) = BitVec.ofNat 32 (5 : Fin 16).val from rfl, show (4#32 : BitVec 32) = BitVec.ofNat 32 (4 : Fin 16).val from rfl,
    show (3#32 : BitVec 32) = BitVec.ofNat 32 (3 : Fin 16).val from rfl, show (2#32 : BitVec 32) = BitVec.ofNat 32 (2 : Fin 16).val from rfl,
    show (1#32 : BitVec 32) = BitVec.ofNat 32 (1 : Fin 16).val from rfl, show (0#32 : BitVec 32) = BitVec.ofNat 32 (0 : Fin 16).val from rfl]
  simp only [put_up]
  refine congrArg up ?_
  funext r l
  obtain ⟨l, hl⟩ := l
  by_cases h : l < 8
  · interval_cases l <;> rfl
  · have e : ∀ m : ℕ, m < 8 → l ≠ m := fun m hm => by omega
    simp [h, e]
theorem slabG_up (f : Fin 8 → V S64x1) (A : ℕ → Fin 64 → ℝ) (hf : ∀ h, f h = up (Matrix.of fun r _ => A h.val r)) :
    slabG f = up (Matrix.of fun r l => if 8 ≤ l.val ∧ l.val < 16 then A (l.val - 8) r else 0) := by
  simp only [slabG, hf, zero12]
  simp only [show (15#32 : BitVec 32) = BitVec.ofNat 32 (15 : Fin 16).val from rfl, show (14#32 : BitVec 32) = BitVec.ofNat 32 (14 : Fin 16).val from rfl,
    show (13#32 : BitVec 32) = BitVec.ofNat 32 (13 : Fin 16).val from rfl, show (12#32 : BitVec 32) = BitVec.ofNat 32 (12 : Fin 16).val from rfl,
    show (11#32 : BitVec 32) = BitVec.ofNat 32 (11 : Fin 16).val from rfl, show (10#32 : BitVec 32) = BitVec.ofNat 32 (10 : Fin 16).val from rfl,
    show (9#32 : BitVec 32) = BitVec.ofNat 32 (9 : Fin 16).val from rfl, show (8#32 : BitVec 32) = BitVec.ofNat 32 (8 : Fin 16).val from rfl]
  simp only [put_up]
  refine congrArg up ?_
  funext r l
  obtain ⟨l, hl⟩ := l
  by_cases h : 8 ≤ l ∧ l < 16
  · obtain ⟨h1, h2⟩ := h
    interval_cases l <;> rfl
  · have e : ∀ m : ℕ, 8 ≤ m → m < 16 → l ≠ m := fun m hm hm' => by omega
    simp [h, e]
theorem slabR_up (f : Fin 8 → V S1x64) (A : ℕ → Fin 64 → ℝ) (hf : ∀ h, f h = up (Matrix.of fun _ r => A h.val r)) :
    slabR f = up (Matrix.of fun l r => A l.val r) := by
  simp only [slabR, hf, zero13]
  simp only [show (7#32 : BitVec 32) = BitVec.ofNat 32 (7 : Fin 8).val from rfl, show (6#32 : BitVec 32) = BitVec.ofNat 32 (6 : Fin 8).val from rfl,
    show (5#32 : BitVec 32) = BitVec.ofNat 32 (5 : Fin 8).val from rfl, show (4#32 : BitVec 32) = BitVec.ofNat 32 (4 : Fin 8).val from rfl,
    show (3#32 : BitVec 32) = BitVec.ofNat 32 (3 : Fin 8).val from rfl, show (2#32 : BitVec 32) = BitVec.ofNat 32 (2 : Fin 8).val from rfl,
    show (1#32 : BitVec 32) = BitVec.ofNat 32 (1 : Fin 8).val from rfl, show (0#32 : BitVec 32) = BitVec.ofNat 32 (0 : Fin 8).val from rfl]
  simp only [putR_up]
  refine congrArg up ?_
  funext l r
  obtain ⟨l, hl⟩ := l
  interval_cases l <;> rfl

theorem sum_after (B : Mat 64 128) :
    matmul dot_S64x64_S64x128_S64x128_1_0_0_1_n_n (some .fp32) (k1_pay7 (F := Ideal)) (up B : V S64x128) (constant S64x128 .f32 0x00000000#32) =
      up (Matrix.of fun r l => ∑ s, if r ≤ s then B s l else 0) := by
  refine up_ext fun a b => ?_
  simp [k1_pay7, const_up, pointwise, up_ix2, coe_sum]
  refine Finset.sum_congr rfl fun s _ => ?_
  rw [cmp_le, mask_ite]
  split <;> simp
theorem sum_afterR (B : Mat 8 64) :
    matmul dot_S8x64_S64x64_S8x64_1_0_0_1_n_n (some .fp32) (up B : V S8x64) (k1_pay6 (F := Ideal)) (constant S8x64 .f32 0x00000000#32) =
      up (Matrix.of fun h r => ∑ s, if r ≤ s then B h s else 0) := by
  refine up_ext fun a b => ?_
  simp [k1_pay6, const_up, pointwise, up_ix2, coe_sum]
  refine Finset.sum_congr rfl fun s _ => ?_
  rw [cmp_ge, mask_ite]
  split <;> simp

theorem outG_up (p : Fin 8 → Parts) (R C : ℕ → Fin 64 → ℝ) (hR : ∀ h, (p h).dr = up (Matrix.of fun r _ => R h.val r))
    (hC : ∀ h, (p h).dgc = up (Matrix.of fun r _ => C h.val r)) :
    outG p = up (Matrix.of fun r l => (if l.val < 8 then R l.val r else 0) + ∑ s, if r ≤ s then (if 8 ≤ l.val ∧ l.val < 16 then C (l.val - 8) s else 0) else 0) := by
  rw [outG, slabB_up _ R hR, slabG_up _ C hC, sum_after, addf_up]
  rfl
theorem outR_at (p : Fin 8 → Parts) (C : ℕ → Fin 64 → ℝ) (hC : ∀ h, (p h).dgr = up (Matrix.of fun _ r => C h.val r)) (h : Fin 8) (r : Fin 64) :
    outR p (ix3 0 h r) = ((∑ s, (if r ≤ s then C h.val s else 0) : ℝ) : EReal) := by
  rw [outR, slabR_up _ C hC, sum_afterR]
  simp only [pointwise]
  rfl

/-! ## A chunk -/

variable (a b d : ℕ → ℕ → ℝ)

/-- The gradients of the outputs of head `h`. -/
def os (h : ℕ) : ℕ → Fin 128 → ℝ := fun n i => d n (128 * h + i.val)
/-- The gradient of the state of head `h`, `n` tokens before the end. -/
def bk (h n : ℕ) : State := back 0 (qs a h) (ks a h) (os d h) (bs b h) (ds b h) 8320 n
/-- The block of the outputs' gradients of the chunk that starts at token `c`. -/
def blk3 (c : ℕ) : V S64x1024 := fun j => ((d (c + (j 0).val) (j 1).val : ℝ) : EReal)
/-- The gradients of the states of the eight heads, `n` tokens before the end. -/
def blkB (n : ℕ) : V S8x128x128 := fun j => ((bk a b d (j 0).val n (j 1) (j 2) : ℝ) : EReal)
/-- The blocks of the chunk that starts at token `c`. -/
def blks (c : ℕ) : Blocks where
  x0 := blk0 a c
  x1 := blk1 b c
  x2 := blk2 b c
  x3 := blk3 d c
  x4 := outS (blkS a b c)
  x5 := outX (blk0 a c) (blk1 b c) (blk2 b c)

variable (c : ℕ) (h : Fin 8)

/-- The parts of a head, as real matrices. -/
theorem parts_real (n : ℕ) : parts (blks a b d c) (blkB a b d n) h =
    { q := up (rows fun t => qs a h.val (c + t)), k := up (rows fun t => ks a h.val (c + t)), v := up (rows fun t => vs a h.val (c + t)),
      o := up (rows fun t => os d h.val (c + t)), β := up (col fun t => bs b h.val (c + t)),
      gc := up (col (gsum fun t => ds b h.val (c + t))), gr := up (row (gsum fun t => ds b h.val (c + t))),
      S := up (st a b h.val c), x := up (xi (fun t => ks a h.val (c + t)) (fun t => bs b h.val (c + t)) (fun t => ds b h.val (c + t))),
      B := up (bk a b d h.val n) } := by
  have e1 : (parts (blks a b d c) (blkB a b d n) h).q = up (rows fun t => qs a h.val (c + t)) := rfl
  have e2 : (parts (blks a b d c) (blkB a b d n) h).k = up (rows fun t => ks a h.val (c + t)) := rfl
  have e3 : (parts (blks a b d c) (blkB a b d n) h).v = up (rows fun t => vs a h.val (c + t)) := rfl
  have e4 : (parts (blks a b d c) (blkB a b d n) h).o = up (rows fun t => os d h.val (c + t)) := rfl
  have e5 : (parts (blks a b d c) (blkB a b d n) h).β = up (col fun t => bs b h.val (c + t)) := rfl
  have e6 : (parts (blks a b d c) (blkB a b d n) h).gc = up (col (gsum fun t => ds b h.val (c + t))) := gcB_real b c h
  have e7 : (parts (blks a b d c) (blkB a b d n) h).gr = up (row (gsum fun t => ds b h.val (c + t))) := grB_real b c h
  have e8 : (parts (blks a b d c) (blkB a b d n) h).S = up (st a b h.val c) := rfl
  have e9 : (parts (blks a b d c) (blkB a b d n) h).x = up (xi (fun t => ks a h.val (c + t)) (fun t => bs b h.val (c + t)) (fun t => ds b h.val (c + t))) :=
    funext fun j => congrFun (xH_real a b c h) (ix2 (j 0) (j 1))
  have e10 : (parts (blks a b d c) (blkB a b d n) h).B = up (bk a b d h.val n) := rfl
  exact Parts.ext e1 e2 e3 e4 e5 e6 e7 e8 e9 e10

/-- Inside a chunk the gradients of the states are those of the whole sweep. -/
theorem gr_chunk (hc : c + 64 ≤ 8320) (h r : ℕ) (hr : r ≤ 64) :
    gr (bk a b d h (8256 - c)) (fun t => qs a h (c + t)) (fun t => ks a h (c + t)) (fun t => os d h (c + t)) (fun t => bs b h (c + t))
      (fun t => ds b h (c + t)) r = bk a b d h (8320 - (c + r)) := by
  have e : 8320 - (c + r) = (8256 - c) + (64 - r) := by omega
  unfold gr
  conv_rhs => rw [e]
  unfold bk
  exact (back_add 0 (qs a h) (ks a h) (os d h) (bs b h) (ds b h) 8320 (8256 - c) (64 - r) (by omega) 64 (by omega) c (by omega)).symm

/-- The gradient of token `n` in column `j` of the queries, keys and values. -/
def dqkv (n j : ℕ) : ℝ :=
  let h := j / 128 % 8
  let i : Fin 128 := ⟨j % 128, by omega⟩
  if j < 1024 then gradQ (ks a h n) (vs a h n) (os d h n) (bs b h n) (ds b h n) (st a b h n) i
  else if j < 2048 then gradK (qs a h n) (ks a h n) (vs a h n) (os d h n) (bs b h n) (ds b h n) (st a b h n) (bk a b d h (8320 - (n + 1))) i
  else gradV (qs a h n) (ks a h n) (os d h n) (bs b h n) (bk a b d h (8320 - (n + 1))) i
/-- The gradient of the rate of token `n` and head `h`. -/
def dbeta (h n : ℕ) : ℝ := gradR (qs a h n) (ks a h n) (vs a h n) (os d h n) (ds b h n) (st a b h n) (bk a b d h (8320 - (n + 1)))
/-- The gradient of the decay of token `n` and head `h`. -/
def ddecay (h n : ℕ) : ℝ := gradG (qs a h n) (ks a h n) (os d h n) (bs b h n) (ds b h n) (st a b h n) (bk a b d h (8320 - (n + 1)))
/-- The gradients of the sums of decays of a chunk, and their sums to the chunk's end. -/
def cgc (h : ℕ) (s : Fin 64) : ℝ := dgc (st a b h c) (bk a b d h (8256 - c)) (fun t => qs a h (c + t)) (fun t => ks a h (c + t)) (fun t => vs a h (c + t))
  (fun t => os d h (c + t)) (fun t => bs b h (c + t)) (fun t => ds b h (c + t)) s
def cgr (h : ℕ) (s : Fin 64) : ℝ := dgr (st a b h c) (bk a b d h (8256 - c)) (fun t => qs a h (c + t)) (fun t => ks a h (c + t)) (fun t => vs a h (c + t))
  (fun t => os d h (c + t)) (fun t => bs b h (c + t)) (fun t => ds b h (c + t)) s
def sgc (h : ℕ) (r : Fin 64) : ℝ := ∑ s : Fin 64, if r ≤ s then cgc a b d c h s else 0
def sgr (h : ℕ) (r : Fin 64) : ℝ := ∑ s : Fin 64, if r ≤ s then cgr a b d c h s else 0

theorem decay_sum (hc : c + 64 ≤ 8320) (h : ℕ) (r : Fin 64) : ddecay a b d h (c + r.val) = sgc a b d c h r + sgr a b d c h r := by
  have e := grad_g (st a b h c) (bk a b d h (8256 - c)) (fun t => qs a h (c + t)) (fun t => ks a h (c + t)) (fun t => vs a h (c + t))
    (fun t => os d h (c + t)) (fun t => bs b h (c + t)) (fun t => ds b h (c + t)) r
  rw [gr_chunk a b d c hc h (r.val + 1) r.isLt] at e
  have s : traj (st a b h c) (fun t => ks a h (c + t)) (fun t => vs a h (c + t)) (fun t => bs b h (c + t)) (fun t => ds b h (c + t)) r.val = st a b h (c + r.val) :=
    (traj_add _ _ _ _ _ c r.val).symm
  rw [s] at e
  exact e

theorem ds_real (hc : c + 64 ≤ 8320) : (parts (blks a b d c) (blkB a b d (8256 - c)) h).ds = up (bk a b d h.val (8320 - c)) := by
  rw [parts_real]
  refine (headDS_up _ _ _ _ _ _ _).trans (congrArg up ?_)
  exact gr_chunk a b d c hc h.val 0 (by omega)
theorem dq_real : (parts (blks a b d c) (blkB a b d (8256 - c)) h).dq = up (fun r i => dqkv a b d (c + r.val) (128 * h.val + i.val)) := by
  rw [parts_real]
  refine (headDQ_up _ _ _ _ _ _).trans (congrArg up ?_)
  funext r i
  have hi := i.isLt
  have hh := h.isLt
  simp only [st_add]
  have e : (128 * h.val + i.val) / 128 % 8 = h.val := by omega
  have e' : (⟨(128 * h.val + i.val) % 128, by omega⟩ : Fin 128) = i := Fin.ext (by show (128 * h.val + i.val) % 128 = i.val; omega)
  simp only [dqkv]
  rw [if_pos (by omega), e, e']
theorem dk_real (hc : c + 64 ≤ 8320) : (parts (blks a b d c) (blkB a b d (8256 - c)) h).dk = up (fun r i => dqkv a b d (c + r.val) (1024 + 128 * h.val + i.val)) := by
  rw [parts_real]
  refine (headDK_up _ _ _ _ _ _ _ _).trans (congrArg up ?_)
  funext r i
  have hi := i.isLt
  have hh := h.isLt
  simp only [st_add]
  rw [gr_chunk a b d c hc h.val (r.val + 1) r.isLt]
  have e : (1024 + 128 * h.val + i.val) / 128 % 8 = h.val := by omega
  have e' : (⟨(1024 + 128 * h.val + i.val) % 128, by omega⟩ : Fin 128) = i := Fin.ext (by show (1024 + 128 * h.val + i.val) % 128 = i.val; omega)
  simp only [dqkv]
  rw [if_neg (by omega), if_pos (by omega), e, e']
  rfl
theorem dv_real (hc : c + 64 ≤ 8320) : (parts (blks a b d c) (blkB a b d (8256 - c)) h).dv = up (fun r i => dqkv a b d (c + r.val) (2048 + 128 * h.val + i.val)) := by
  rw [parts_real]
  refine (headDV_up _ _ _ _ _ _ _).trans (congrArg up ?_)
  funext r i
  have hi := i.isLt
  have hh := h.isLt
  rw [gr_chunk a b d c hc h.val (r.val + 1) r.isLt]
  have e : (2048 + 128 * h.val + i.val) / 128 % 8 = h.val := by omega
  have e' : (⟨(2048 + 128 * h.val + i.val) % 128, by omega⟩ : Fin 128) = i := Fin.ext (by show (2048 + 128 * h.val + i.val) % 128 = i.val; omega)
  simp only [dqkv]
  rw [if_neg (by omega), if_neg (by omega), e, e']
  rfl
theorem dr_real (hc : c + 64 ≤ 8320) : (parts (blks a b d c) (blkB a b d (8256 - c)) h).dr = up (fun r _ => dbeta a b d h.val (c + r.val)) := by
  rw [parts_real]
  refine (headDR_up _ _ _ _ _ _ _ _).trans (congrArg up ?_)
  funext r i
  simp only [st_add]
  rw [gr_chunk a b d c hc h.val (r.val + 1) r.isLt]
  rfl
theorem dgc_real : (parts (blks a b d c) (blkB a b d (8256 - c)) h).dgc = up (fun r _ => cgc a b d c h.val r) := by
  rw [parts_real]
  exact headDGC_up _ _ _ _ _ _ _ _
theorem dgr_real : (parts (blks a b d c) (blkB a b d (8256 - c)) h).dgr = up (fun _ r => cgr a b d c h.val r) := by
  rw [parts_real]
  exact headDGR_up _ _ _ _ _ _ _ _

/-! ## The results of a chunk -/

theorem outN_real (hc : c + 64 ≤ 8320) : Back.outN (parts (blks a b d c) (blkB a b d (8256 - c))) = blkB a b d (8320 - c) := by
  funext i
  exact congrFun (ds_real a b d c (i 0) hc) (ix2 (i 1) (i 2))
theorem outD_real (hc : c + 64 ≤ 8320) : outD (parts (blks a b d c) (blkB a b d (8256 - c))) =
    fun i => ((dqkv a b d (c + (i 0).val) (i 1).val : ℝ) : EReal) := by
  funext i
  have h1 : (i 1).val < 3072 := (i 1).isLt
  show (if (i 1).val < 1024 then (parts (blks a b d c) (blkB a b d (8256 - c)) (hd (i 1).val)).dq else if (i 1).val < 2048 then
    (parts (blks a b d c) (blkB a b d (8256 - c)) (hd (i 1).val)).dk else (parts (blks a b d c) (blkB a b d (8256 - c)) (hd (i 1).val)).dv) (ix2 (i 0) (pl (i 1).val)) = _
  rw [dq_real, dk_real a b d c _ hc, dv_real a b d c _ hc]
  have e : ∀ x y, x = y → ((dqkv a b d (c + (i 0).val) x : ℝ) : EReal) = ((dqkv a b d (c + (i 0).val) y : ℝ) : EReal) := fun x y h => by rw [h]
  by_cases h2 : (i 1).val < 1024
  · rw [if_pos h2]
    refine e (128 * ((i 1).val / 128 % 8) + (i 1).val % 128) _ ?_
    omega
  · rw [if_neg h2]
    by_cases h3 : (i 1).val < 2048
    · rw [if_pos h3]
      refine e (1024 + 128 * ((i 1).val / 128 % 8) + (i 1).val % 128) _ ?_
      omega
    · rw [if_neg h3]
      refine e (2048 + 128 * ((i 1).val / 128 % 8) + (i 1).val % 128) _ ?_
      omega
/-- The rates' and decays' gradients of a chunk, by token and column. -/
def cG (r : Fin 64) (l : ℕ) : ℝ := (if l < 8 then dbeta a b d l (c + r.val) else 0) + if 8 ≤ l ∧ l < 16 then sgc a b d c (l - 8) r else 0
theorem outG_real (hc : c + 64 ≤ 8320) : outG (parts (blks a b d c) (blkB a b d (8256 - c))) =
    fun i => ((cG a b d c (i 0) (i 1).val : ℝ) : EReal) := by
  rw [outG_up _ (fun h r => dbeta a b d h (c + r.val)) (fun h r => cgc a b d c h r) (fun h => dr_real a b d c h hc) (fun h => dgc_real a b d c h)]
  funext i
  refine congrArg Real.toEReal ?_
  show _ + _ = cG a b d c (i 0) (i 1).val
  unfold cG sgc
  congr 1
  by_cases h : 8 ≤ (i 1).val ∧ (i 1).val < 16
  · simp only [h, and_self, if_true]
  · simp [h]
theorem outR_real : outR (parts (blks a b d c) (blkB a b d (8256 - c))) =
    fun i => ((sgr a b d c (i 1).val (i 2) : ℝ) : EReal) := by
  funext i
  have e : i = ix3 0 (i 1) (i 2) := by
    have h0 : i 0 = (0 : Fin 1) := Subsingleton.elim (α := Fin 1) _ _
    rw [← h0]; exact eq_ix3 i
  rw [e]
  exact outR_at _ (fun h r => cgr a b d c h r) (fun h => dgr_real a b d c h) (i 1) (i 2)
theorem zB_real : zS = blkB a b d 0 := by
  funext i
  show (0 : EReal) = ((0 : ℝ) : EReal)
  exact EReal.coe_zero.symm

end Cert.Back
end
-- ==== Proof.BwdArray.lean ====
/-
  The arrays the backward call leaves: the gradients of the queries, keys and values, of the rates, and the two parts of
  the decays' gradients, chunk after chunk from the last to the first.
-/
module

public import proofs.«01_k».proof.Proof.BwdPoints
public import proofs.«01_k».proof.Proof.BwdBlockFirst
public import proofs.«01_k».proof.Proof.BwdBlockLater
public import proofs.«01_k».proof.Proof.BwdReal

@[expose] public section

set_option maxRecDepth 16384

noncomputable section
namespace Cert.BwdArray

open Cert.KernelIdeal Cert.KernelIdeal.Gen Cert.Bwd Cert.Back Cert.Block Cert.Head Cert.Delta Idealize.ShloMosaic Idealize.ShloMosaic.TcCoe Idealize.SL.Sem

variable (ent : ∀ c : Dev nD, ∀ b : Ref sig .tc, Buf (Elt Ideal) ((c : Thread nD τ).loc b)) (c : Dev nD) (a b d : ℕ → ℕ → ℝ)

theorem idx0 : ∀ t : Fin cfg1.N, win1_0.index t (0 : Fin 2) = 129 - t.val ∧ win1_0.index t (1 : Fin 2) = 0 :=
  (by decide +kernel : ∀ t : Fin grid1.N, _)
theorem idx1 : ∀ t : Fin cfg1.N, win1_1.index t (0 : Fin 2) = 129 - t.val ∧ win1_1.index t (1 : Fin 2) = 0 :=
  (by decide +kernel : ∀ t : Fin grid1.N, _)
theorem idx2 : ∀ t : Fin cfg1.N, win1_2.index t (0 : Fin 3) = 129 - t.val ∧ win1_2.index t (1 : Fin 3) = 0 ∧ win1_2.index t (2 : Fin 3) = 0 :=
  (by decide +kernel : ∀ t : Fin grid1.N, _)
theorem idx3 : ∀ t : Fin cfg1.N, win1_3.index t (0 : Fin 2) = 129 - t.val ∧ win1_3.index t (1 : Fin 2) = 0 :=
  (by decide +kernel : ∀ t : Fin grid1.N, _)
theorem idx4 : ∀ t : Fin cfg1.N, win1_4.index t (0 : Fin 4) = 129 - t.val ∧ win1_4.index t (1 : Fin 4) = 0 ∧ win1_4.index t (2 : Fin 4) = 0 ∧ win1_4.index t (3 : Fin 4) = 0 :=
  (by decide +kernel : ∀ t : Fin grid1.N, _)
theorem idx5 : ∀ t : Fin cfg1.N, win1_5.index t (0 : Fin 4) = 129 - t.val ∧ win1_5.index t (1 : Fin 4) = 0 ∧ win1_5.index t (2 : Fin 4) = 0 ∧ win1_5.index t (3 : Fin 4) = 0 :=
  (by decide +kernel : ∀ t : Fin grid1.N, _)

/-- The block of queries, keys and values of point `t`. -/
theorem iblk0 (hA : ∀ i : S8320x3072.Idx, ent c main_arg0 i = ((a (i 0).val (i 1).val : ℝ) : EReal))
    (t : Fin cfg1.N) : iblk (F := Ideal) ent c 0 t = (blks a b d (64 * (129 - t.val))).x0 := by
  funext j
  obtain ⟨e0, e1⟩ := idx0 t
  have hy0 : (j 0).val < 64 := (j 0).isLt
  have q0 : (((cfg1.win 0).blk t).view.emb j 0).val = win1_0.index t (0 : Fin 2) * 64 + 1 * (j 0).val := rfl
  have hy1 : (j 1).val < 3072 := (j 1).isLt
  have q1 : (((cfg1.win 0).blk t).view.emb j 1).val = win1_0.index t (1 : Fin 2) * 3072 + 1 * (j 1).val := rfl
  rw [e0] at q0
  rw [e1] at q1
  refine (hA (((cfg1.win 0).blk t).view.emb j)).trans (congrArg Real.toEReal (congrArg₂ a ?_ ?_))
  · rw [q0]; omega
  · rw [q1]; omega

/-- The block of rates and decays of point `t`. -/
theorem iblk1 (hB : ∀ i : S8320x128.Idx, ent c main_arg1 i = ((b (i 0).val (i 1).val : ℝ) : EReal))
    (t : Fin cfg1.N) : iblk (F := Ideal) ent c 1 t = (blks a b d (64 * (129 - t.val))).x1 := by
  funext j
  obtain ⟨e0, e1⟩ := idx1 t
  have hy0 : (j 0).val < 64 := (j 0).isLt
  have q0 : (((cfg1.win 1).blk t).view.emb j 0).val = win1_1.index t (0 : Fin 2) * 64 + 1 * (j 0).val := rfl
  have hy1 : (j 1).val < 128 := (j 1).isLt
  have q1 : (((cfg1.win 1).blk t).view.emb j 1).val = win1_1.index t (1 : Fin 2) * 128 + 1 * (j 1).val := rfl
  rw [e0] at q0
  rw [e1] at q1
  refine (hB (((cfg1.win 1).blk t).view.emb j)).trans (congrArg Real.toEReal (congrArg₂ b ?_ ?_))
  · rw [q0]; omega
  · rw [q1]; omega

/-- The block of outputs' gradients of point `t`. -/
theorem iblk3 (hD : ∀ i : S8320x1024.Idx, ent c main_arg2 i = ((d (i 0).val (i 1).val : ℝ) : EReal))
    (t : Fin cfg1.N) : iblk (F := Ideal) ent c 3 t = (blks a b d (64 * (129 - t.val))).x3 := by
  funext j
  obtain ⟨e0, e1⟩ := idx3 t
  have hy0 : (j 0).val < 64 := (j 0).isLt
  have q0 : (((cfg1.win 3).blk t).view.emb j 0).val = win1_3.index t (0 : Fin 2) * 64 + 1 * (j 0).val := rfl
  have hy1 : (j 1).val < 1024 := (j 1).isLt
  have q1 : (((cfg1.win 3).blk t).view.emb j 1).val = win1_3.index t (1 : Fin 2) * 1024 + 1 * (j 1).val := rfl
  rw [e0] at q0
  rw [e1] at q1
  refine (hD (((cfg1.win 3).blk t).view.emb j)).trans (congrArg Real.toEReal (congrArg₂ d ?_ ?_))
  · rw [q0]; omega
  · rw [q1]; omega

/-- The decays of point `t` as rows. -/
theorem iblk2 (hR : ∀ i : S130x8x64.Idx, ent c main_v2 i = ((b (64 * (i 0).val + (i 2).val) (8 + (i 1).val) : ℝ) : EReal))
    (t : Fin cfg1.N) : iblk (F := Ideal) ent c 2 t = (blks a b d (64 * (129 - t.val))).x2 := by
  funext j
  obtain ⟨e0, e1, e2⟩ := idx2 t
  have hy0 : (j 0).val < 1 := (j 0).isLt
  have q0 : (((cfg1.win 2).blk t).view.emb j 0).val = win1_2.index t (0 : Fin 3) * 1 + 1 * (j 0).val := rfl
  have hy1 : (j 1).val < 8 := (j 1).isLt
  have q1 : (((cfg1.win 2).blk t).view.emb j 1).val = win1_2.index t (1 : Fin 3) * 8 + 1 * (j 1).val := rfl
  have hy2 : (j 2).val < 64 := (j 2).isLt
  have q2 : (((cfg1.win 2).blk t).view.emb j 2).val = win1_2.index t (2 : Fin 3) * 64 + 1 * (j 2).val := rfl
  rw [e0] at q0
  rw [e1] at q1
  rw [e2] at q2
  refine (hR (((cfg1.win 2).blk t).view.emb j)).trans (congrArg Real.toEReal (congrArg₂ b ?_ ?_))
  · rw [q0, q2]; omega
  · rw [q1]; omega

/-- The states at the start of the chunk of point `t`. -/
theorem iblk4 (hS : ∀ i : S130x8x128x128.Idx, ent c main_v3_1 i = ((st a b (i 1).val (64 * (i 0).val) (i 2) (i 3) : ℝ) : EReal))
    (t : Fin cfg1.N) : iblk (F := Ideal) ent c 4 t = (blks a b d (64 * (129 - t.val))).x4 := by
  funext j
  obtain ⟨e0, e1, e2, e3⟩ := idx4 t
  have hy0 : (j 0).val < 1 := (j 0).isLt
  have q0 : (((cfg1.win 4).blk t).view.emb j 0).val = win1_4.index t (0 : Fin 4) * 1 + 1 * (j 0).val := rfl
  have hy1 : (j 1).val < 8 := (j 1).isLt
  have q1 : (((cfg1.win 4).blk t).view.emb j 1).val = win1_4.index t (1 : Fin 4) * 8 + 1 * (j 1).val := rfl
  have hy2 : (j 2).val < 128 := (j 2).isLt
  have q2 : (((cfg1.win 4).blk t).view.emb j 2).val = win1_4.index t (2 : Fin 4) * 128 + 1 * (j 2).val := rfl
  have hy3 : (j 3).val < 128 := (j 3).isLt
  have q3 : (((cfg1.win 4).blk t).view.emb j 3).val = win1_4.index t (3 : Fin 4) * 128 + 1 * (j 3).val := rfl
  rw [e0] at q0
  rw [e1] at q1
  rw [e2] at q2
  rw [e3] at q3
  have z0 : (((cfg1.win 4).blk t).view.emb j 0).val = 129 - t.val := by rw [q0]; omega
  have z1 : (((cfg1.win 4).blk t).view.emb j 1).val = (j 1).val := by rw [q1]; omega
  have z2 : ((cfg1.win 4).blk t).view.emb j 2 = (⟨(j 2).val, hy2⟩ : Fin 128) := Fin.ext (by rw [q2]; show _ = (j 2).val; omega)
  have z3 : ((cfg1.win 4).blk t).view.emb j 3 = (⟨(j 3).val, hy3⟩ : Fin 128) := Fin.ext (by rw [q3]; show _ = (j 3).val; omega)
  refine (hS (((cfg1.win 4).blk t).view.emb j)).trans ?_
  show _ = ((st a b (j 1).val (64 * (129 - t.val)) ⟨(j 2).val, hy2⟩ ⟨(j 3).val, hy3⟩ : ℝ) : EReal)
  rw [z0, z1, z2, z3]

/-- The inverses of the chunk of point `t`. -/
theorem iblk5 (hX : ∀ i : S130x8x64x64.Idx, ent c main_v3_2 i = xH (blk0 a (64 * (i 0).val)) (blk1 b (64 * (i 0).val)) (blk2 b (64 * (i 0).val)) (i 1) (ix2 (i 2) (i 3)))
    (t : Fin cfg1.N) : iblk (F := Ideal) ent c 5 t = (blks a b d (64 * (129 - t.val))).x5 := by
  funext j
  obtain ⟨e0, e1, e2, e3⟩ := idx5 t
  have hy0 : (j 0).val < 1 := (j 0).isLt
  have q0 : (((cfg1.win 5).blk t).view.emb j 0).val = win1_5.index t (0 : Fin 4) * 1 + 1 * (j 0).val := rfl
  have hy1 : (j 1).val < 8 := (j 1).isLt
  have q1 : (((cfg1.win 5).blk t).view.emb j 1).val = win1_5.index t (1 : Fin 4) * 8 + 1 * (j 1).val := rfl
  have hy2 : (j 2).val < 64 := (j 2).isLt
  have q2 : (((cfg1.win 5).blk t).view.emb j 2).val = win1_5.index t (2 : Fin 4) * 64 + 1 * (j 2).val := rfl
  have hy3 : (j 3).val < 64 := (j 3).isLt
  have q3 : (((cfg1.win 5).blk t).view.emb j 3).val = win1_5.index t (3 : Fin 4) * 64 + 1 * (j 3).val := rfl
  rw [e0] at q0
  rw [e1] at q1
  rw [e2] at q2
  rw [e3] at q3
  have z0 : (((cfg1.win 5).blk t).view.emb j 0).val = 129 - t.val := by rw [q0]; omega
  have z1 : ((cfg1.win 5).blk t).view.emb j 1 = (⟨(j 1).val, hy1⟩ : Fin 8) := Fin.ext (by rw [q1]; show _ = (j 1).val; omega)
  have z2 : ((cfg1.win 5).blk t).view.emb j 2 = (⟨(j 2).val, hy2⟩ : Fin 64) := Fin.ext (by rw [q2]; show _ = (j 2).val; omega)
  have z3 : ((cfg1.win 5).blk t).view.emb j 3 = (⟨(j 3).val, hy3⟩ : Fin 64) := Fin.ext (by rw [q3]; show _ = (j 3).val; omega)
  refine (hX (((cfg1.win 5).blk t).view.emb j)).trans ?_
  show _ = xH (blk0 a (64 * (129 - t.val))) (blk1 b (64 * (129 - t.val))) (blk2 b (64 * (129 - t.val))) ⟨(j 1).val, hy1⟩ (ix2 ⟨(j 2).val, hy2⟩ ⟨(j 3).val, hy3⟩)
  rw [z0, z1, z2, z3]

section Arrays

variable (hA : ∀ i : S8320x3072.Idx, ent c main_arg0 i = ((a (i 0).val (i 1).val : ℝ) : EReal))
  (hB : ∀ i : S8320x128.Idx, ent c main_arg1 i = ((b (i 0).val (i 1).val : ℝ) : EReal))
  (hR : ∀ i : S130x8x64.Idx, ent c main_v2 i = ((b (64 * (i 0).val + (i 2).val) (8 + (i 1).val) : ℝ) : EReal))
  (hD : ∀ i : S8320x1024.Idx, ent c main_arg2 i = ((d (i 0).val (i 1).val : ℝ) : EReal))
  (hS : ∀ i : S130x8x128x128.Idx, ent c main_v3_1 i = ((st a b (i 1).val (64 * (i 0).val) (i 2) (i 3) : ℝ) : EReal))
  (hX : ∀ i : S130x8x64x64.Idx, ent c main_v3_2 i = xH (blk0 a (64 * (i 0).val)) (blk1 b (64 * (i 0).val)) (blk2 b (64 * (i 0).val)) (i 1) (ix2 (i 2) (i 3)))

include hA hB hR hD hS hX in
/-- What the body leaves at point `n`, which takes the chunk that starts at token `64 (129 - n)`. -/
theorem outs (n : ℕ) : ∀ hn : n < cfg1.N, outsAt0 (F := Ideal) ent c n hn =
      ((fun i => ((dqkv a b d (64 * (129 - n) + (i 0).val) (i 1).val : ℝ) : EReal)),
        (fun i => ((cG a b d (64 * (129 - n)) (i 0) (i 1).val : ℝ) : EReal)),
        (fun i => ((sgr a b d (64 * (129 - n)) (i 1).val (i 2) : ℝ) : EReal)), blkB a b d (64 * n + 64)) := by
  induction n with
  | zero =>
    intro hn
    rw [outsAt0_A ent c ⟨0, hn⟩ (Nat.zero_mod _), outsA, iblk0 ent c a b d hA, iblk1 ent c a b d hB, iblk2 ent c a b d hR, iblk3 ent c a b d hD,
      iblk4 ent c a b d hS, iblk5 ent c a b d hX]
    rw [out0_A_6_eq, out0_A_7_eq, out0_A_8_eq, sout0_A_0_eq, zB_real a b d]
    show (outD (parts (blks a b d 8256) (blkB a b d (8256 - 8256))), outG (parts (blks a b d 8256) (blkB a b d (8256 - 8256))),
      outR (parts (blks a b d 8256) (blkB a b d (8256 - 8256))), Back.outN (parts (blks a b d 8256) (blkB a b d (8256 - 8256)))) = _
    rw [outD_real a b d 8256 (by omega), outG_real a b d 8256 (by omega), outR_real a b d 8256, outN_real a b d 8256 (by omega)]
  | succ n ih =>
    intro hn
    have hN : n + 1 < 130 := lt_of_lt_of_eq hn (show cfg1.N = 130 from N_1)
    rw [outsAt0_B ent c ⟨n + 1, hn⟩ (by show ¬(n + 1) % 130 = 0; omega), outsB, iblk0 ent c a b d hA, iblk1 ent c a b d hB, iblk2 ent c a b d hR, iblk3 ent c a b d hD,
      iblk4 ent c a b d hS, iblk5 ent c a b d hX]
    have e : (outsAt0 (F := Ideal) ent c ((⟨n + 1, hn⟩ : Fin cfg1.N).val - 1) (Nat.lt_of_le_of_lt (Nat.sub_le _ _) hn)).2.2.2 =
        blkB a b d (8256 - 64 * (129 - (n + 1))) := by
      refine (congrArg (fun p => p.2.2.2) (ih (Nat.lt_of_succ_lt hn))).trans ?_
      show blkB a b d (64 * n + 64) = _
      exact congrArg (blkB a b d) (by omega)
    rw [out0_B_6_eq, out0_B_7_eq, out0_B_8_eq, sout0_B_0_eq]
    rw [e]
    have hc : 64 * (129 - (n + 1)) + 64 ≤ 8320 := by omega
    show (outD (parts (blks a b d (64 * (129 - (n + 1)))) (blkB a b d (8256 - 64 * (129 - (n + 1))))), outG (parts (blks a b d (64 * (129 - (n + 1)))) (blkB a b d (8256 - 64 * (129 - (n + 1))))),
      outR (parts (blks a b d (64 * (129 - (n + 1)))) (blkB a b d (8256 - 64 * (129 - (n + 1))))), Back.outN (parts (blks a b d (64 * (129 - (n + 1)))) (blkB a b d (8256 - 64 * (129 - (n + 1)))))) = _
    rw [outD_real a b d _ hc, outG_real a b d _ hc, outR_real a b d _, outN_real a b d _ hc, show 8320 - 64 * (129 - (n + 1)) = 64 * (n + 1) + 64 from by omega]

theorem idx6 : ∀ t : Fin cfg1.N, (cfg1.win 6).flush t = true ∧ win1_6.index t (0 : Fin 2) = 129 - t.val ∧ win1_6.index t (1 : Fin 2) = 0 :=
  (by decide +kernel : ∀ t : Fin grid1.N, _)
theorem cover6 (i : S8320x3072.Idx) : ∃ t : Fin cfg1.N, (cfg1.win 6).flush t = true ∧ i ∈ ((cfg1.win 6).blk t).view.set := by
  have h0 : (i 0).val < 8320 := (i 0).isLt
  have h1 : (i 1).val < 3072 := (i 1).isLt
  have hN : 129 - (i 0).val / 64 < cfg1.N := by rw [show cfg1.N = 130 from N_1]; omega
  obtain ⟨hf, e0, e1⟩ := idx6 ⟨129 - (i 0).val / 64, hN⟩
  refine ⟨⟨129 - (i 0).val / 64, hN⟩, hf, ?_⟩
  show i ∈ ((View.whole main_v4_0).slice (win1_6.rect ⟨129 - (i 0).val / 64, hN⟩)).set
  rw [View.set_slice_whole, Rect.mem_set_unit]
  intro x
  match x with
  | ⟨0, _⟩ =>
    show win1_6.index ⟨129 - (i 0).val / 64, hN⟩ (0 : Fin 2) * 64 ≤ (i 0).val ∧ (i 0).val < win1_6.index ⟨129 - (i 0).val / 64, hN⟩ (0 : Fin 2) * 64 + 64
    rw [e0]; simp only; omega
  | ⟨1, _⟩ =>
    show win1_6.index ⟨129 - (i 0).val / 64, hN⟩ (1 : Fin 2) * 3072 ≤ (i 1).val ∧ (i 1).val < win1_6.index ⟨129 - (i 0).val / 64, hN⟩ (1 : Fin 2) * 3072 + 3072
    rw [e1]; simp only; omega

include hA hB hR hD hS hX in
/-- The gradients of the queries, keys and values. -/
theorem array6 : (dat (F := Ideal) ent c).arrAt 6 cfg1.N = fun i : S8320x3072.Idx => ((dqkv a b d (i 0).val (i 1).val : ℝ) : EReal) := by
  refine (dat (F := Ideal) ent c).arrAt_eq_of_cover 6 (fun i : S8320x3072.Idx => ((dqkv a b d (i 0).val (i 1).val : ℝ) : EReal)) (fun t _ => ?_) cover6
  rw [flushed6, outs ent c a b d hA hB hR hD hS hX]
  funext y
  obtain ⟨hf, e0, e1⟩ := idx6 t
  have hy0 : (y 0).val < 64 := (y 0).isLt
  have q0 : (((cfg1.win 6).blk t).view.emb y 0).val = win1_6.index t (0 : Fin 2) * 64 + 1 * (y 0).val := rfl
  have hy1 : (y 1).val < 3072 := (y 1).isLt
  have q1 : (((cfg1.win 6).blk t).view.emb y 1).val = win1_6.index t (1 : Fin 2) * 3072 + 1 * (y 1).val := rfl
  rw [e0] at q0
  rw [e1] at q1
  show ((dqkv a b d (64 * (129 - t.val) + (y 0).val) (y 1).val : ℝ) : EReal) = ((dqkv a b d (((cfg1.win 6).blk t).view.emb y 0).val (((cfg1.win 6).blk t).view.emb y 1).val : ℝ) : EReal)
  refine congrArg Real.toEReal (congrArg₂ (dqkv a b d) ?_ ?_)
  · rw [q0]; omega
  · rw [q1]; omega

theorem idx7 : ∀ t : Fin cfg1.N, (cfg1.win 7).flush t = true ∧ win1_7.index t (0 : Fin 2) = 129 - t.val ∧ win1_7.index t (1 : Fin 2) = 0 :=
  (by decide +kernel : ∀ t : Fin grid1.N, _)
theorem cover7 (i : S8320x128.Idx) : ∃ t : Fin cfg1.N, (cfg1.win 7).flush t = true ∧ i ∈ ((cfg1.win 7).blk t).view.set := by
  have h0 : (i 0).val < 8320 := (i 0).isLt
  have h1 : (i 1).val < 128 := (i 1).isLt
  have hN : 129 - (i 0).val / 64 < cfg1.N := by rw [show cfg1.N = 130 from N_1]; omega
  obtain ⟨hf, e0, e1⟩ := idx7 ⟨129 - (i 0).val / 64, hN⟩
  refine ⟨⟨129 - (i 0).val / 64, hN⟩, hf, ?_⟩
  show i ∈ ((View.whole main_v4_1).slice (win1_7.rect ⟨129 - (i 0).val / 64, hN⟩)).set
  rw [View.set_slice_whole, Rect.mem_set_unit]
  intro x
  match x with
  | ⟨0, _⟩ =>
    show win1_7.index ⟨129 - (i 0).val / 64, hN⟩ (0 : Fin 2) * 64 ≤ (i 0).val ∧ (i 0).val < win1_7.index ⟨129 - (i 0).val / 64, hN⟩ (0 : Fin 2) * 64 + 64
    rw [e0]; simp only; omega
  | ⟨1, _⟩ =>
    show win1_7.index ⟨129 - (i 0).val / 64, hN⟩ (1 : Fin 2) * 128 ≤ (i 1).val ∧ (i 1).val < win1_7.index ⟨129 - (i 0).val / 64, hN⟩ (1 : Fin 2) * 128 + 128
    rw [e1]; simp only; omega

include hA hB hR hD hS hX in
/-- The gradients of the rates, and the first part of the decays' gradients. -/
theorem array7 : (dat (F := Ideal) ent c).arrAt 7 cfg1.N = fun i : S8320x128.Idx => ((cG a b d (64 * ((i 0).val / 64)) ⟨(i 0).val % 64, Nat.mod_lt _ (by omega)⟩ (i 1).val : ℝ) : EReal) := by
  refine (dat (F := Ideal) ent c).arrAt_eq_of_cover 7 (fun i : S8320x128.Idx => ((cG a b d (64 * ((i 0).val / 64)) ⟨(i 0).val % 64, Nat.mod_lt _ (by omega)⟩ (i 1).val : ℝ) : EReal)) (fun t _ => ?_) cover7
  rw [flushed7, outs ent c a b d hA hB hR hD hS hX]
  funext y
  obtain ⟨hf, e0, e1⟩ := idx7 t
  have hy0 : (y 0).val < 64 := (y 0).isLt
  have q0 : (((cfg1.win 7).blk t).view.emb y 0).val = win1_7.index t (0 : Fin 2) * 64 + 1 * (y 0).val := rfl
  have hy1 : (y 1).val < 128 := (y 1).isLt
  have q1 : (((cfg1.win 7).blk t).view.emb y 1).val = win1_7.index t (1 : Fin 2) * 128 + 1 * (y 1).val := rfl
  rw [e0] at q0
  rw [e1] at q1
  have z0 : (((cfg1.win 7).blk t).view.emb y 0).val / 64 = 129 - t.val := by rw [q0]; omega
  have z1 : (((cfg1.win 7).blk t).view.emb y 0).val % 64 = (y 0).val := by rw [q0]; omega
  have z2 : (((cfg1.win 7).blk t).view.emb y 1).val = (y 1).val := by rw [q1]; omega
  show ((cG a b d (64 * (129 - t.val)) ⟨(y 0).val, hy0⟩ (y 1).val : ℝ) : EReal) = ((cG a b d (64 * ((((cfg1.win 7).blk t).view.emb y 0).val / 64)) ⟨(((cfg1.win 7).blk t).view.emb y 0).val % 64, Nat.mod_lt _ (by omega)⟩ (((cfg1.win 7).blk t).view.emb y 1).val : ℝ) : EReal)
  simp only [z0, z1, z2]

theorem idx8 : ∀ t : Fin cfg1.N, (cfg1.win 8).flush t = true ∧ win1_8.index t (0 : Fin 3) = 129 - t.val ∧ win1_8.index t (1 : Fin 3) = 0 ∧ win1_8.index t (2 : Fin 3) = 0 :=
  (by decide +kernel : ∀ t : Fin grid1.N, _)
theorem cover8 (i : S130x8x64.Idx) : ∃ t : Fin cfg1.N, (cfg1.win 8).flush t = true ∧ i ∈ ((cfg1.win 8).blk t).view.set := by
  have h0 : (i 0).val < 130 := (i 0).isLt
  have h1 : (i 1).val < 8 := (i 1).isLt
  have h2 : (i 2).val < 64 := (i 2).isLt
  have hN : 129 - (i 0).val / 1 < cfg1.N := by rw [show cfg1.N = 130 from N_1]; omega
  obtain ⟨hf, e0, e1, e2⟩ := idx8 ⟨129 - (i 0).val / 1, hN⟩
  refine ⟨⟨129 - (i 0).val / 1, hN⟩, hf, ?_⟩
  show i ∈ ((View.whole main_v4_2).slice (win1_8.rect ⟨129 - (i 0).val / 1, hN⟩)).set
  rw [View.set_slice_whole, Rect.mem_set_unit]
  intro x
  match x with
  | ⟨0, _⟩ =>
    show win1_8.index ⟨129 - (i 0).val / 1, hN⟩ (0 : Fin 3) * 1 ≤ (i 0).val ∧ (i 0).val < win1_8.index ⟨129 - (i 0).val / 1, hN⟩ (0 : Fin 3) * 1 + 1
    rw [e0]; simp only; omega
  | ⟨1, _⟩ =>
    show win1_8.index ⟨129 - (i 0).val / 1, hN⟩ (1 : Fin 3) * 8 ≤ (i 1).val ∧ (i 1).val < win1_8.index ⟨129 - (i 0).val / 1, hN⟩ (1 : Fin 3) * 8 + 8
    rw [e1]; simp only; omega
  | ⟨2, _⟩ =>
    show win1_8.index ⟨129 - (i 0).val / 1, hN⟩ (2 : Fin 3) * 64 ≤ (i 2).val ∧ (i 2).val < win1_8.index ⟨129 - (i 0).val / 1, hN⟩ (2 : Fin 3) * 64 + 64
    rw [e2]; simp only; omega

include hA hB hR hD hS hX in
/-- The second part of the decays' gradients. -/
theorem array8 : (dat (F := Ideal) ent c).arrAt 8 cfg1.N = fun i : S130x8x64.Idx => ((sgr a b d (64 * (i 0).val) (i 1).val (i 2) : ℝ) : EReal) := by
  refine (dat (F := Ideal) ent c).arrAt_eq_of_cover 8 (fun i : S130x8x64.Idx => ((sgr a b d (64 * (i 0).val) (i 1).val (i 2) : ℝ) : EReal)) (fun t _ => ?_) cover8
  rw [flushed8, outs ent c a b d hA hB hR hD hS hX]
  funext y
  obtain ⟨hf, e0, e1, e2⟩ := idx8 t
  have hy0 : (y 0).val < 1 := (y 0).isLt
  have q0 : (((cfg1.win 8).blk t).view.emb y 0).val = win1_8.index t (0 : Fin 3) * 1 + 1 * (y 0).val := rfl
  have hy1 : (y 1).val < 8 := (y 1).isLt
  have q1 : (((cfg1.win 8).blk t).view.emb y 1).val = win1_8.index t (1 : Fin 3) * 8 + 1 * (y 1).val := rfl
  have hy2 : (y 2).val < 64 := (y 2).isLt
  have q2 : (((cfg1.win 8).blk t).view.emb y 2).val = win1_8.index t (2 : Fin 3) * 64 + 1 * (y 2).val := rfl
  rw [e0] at q0
  rw [e1] at q1
  rw [e2] at q2
  have z0 : (((cfg1.win 8).blk t).view.emb y 0).val = 129 - t.val := by rw [q0]; omega
  have z1 : (((cfg1.win 8).blk t).view.emb y 1).val = (y 1).val := by rw [q1]; omega
  have z2 : ((cfg1.win 8).blk t).view.emb y 2 = (⟨(y 2).val, hy2⟩ : Fin 64) := Fin.ext (by rw [q2]; show _ = (y 2).val; omega)
  show ((sgr a b d (64 * (129 - t.val)) (y 1).val ⟨(y 2).val, hy2⟩ : ℝ) : EReal) = ((sgr a b d (64 * (((cfg1.win 8).blk t).view.emb y 0).val) (((cfg1.win 8).blk t).view.emb y 1).val (((cfg1.win 8).blk t).view.emb y 2) : ℝ) : EReal)
  rw [z0, z1, z2]

end Arrays
end Cert.BwdArray
end
-- ==== Proof.TwoLoops.lean ====
/-
  The run of a host program of stretches of operations and two counted loops, one after the other: every buffer ends at the
  contents that the stretches and the trips of both loops make of the launch contents.
-/
module

public import Idealize.ShloMosaic.Lib.Pipeline.RegionsLoop
public import Idealize.ShloMosaic.Lib.Pipeline.Regions
public import Idealize.ShloMosaic.Lib.StableHlo.RunLoop

@[expose] public section

noncomputable section
namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {nD : Nat} {τ : Topo} {sig : RefSig} {F : FTy → Type} {Λ₀ : Idealize.SL.Sem.Labels}

local notation "𝕄" => MT nD τ sig Unit (Elt F) ℕ (Option PUnit) ℕ

/-- What every core holds beside its buffers. -/
abbrev rest (c : Dev nD) : sProp 𝕄 := iprop(∃ W, owes (c : Thread nD τ) (0 : CellTallies nD τ sig Unit) W)

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline to admit. -/
abbrev noAdm : (p : Fin 0) → (pcs p).Adm := fun p => p.elim0
/-- There is no ticket. -/
abbrev noTk : Fin 0 → Ticket (Ix := Unit) (Name := ℕ) (U := Option PUnit) (Lvl := ℕ) (nD := nD) (τ := τ) pcs (noAdm pcs) :=
  fun j => j.elim0
/-- No semaphore carries a tally. -/
abbrev noCells : GSem nD τ sig → Finset Unit := fun _ => ∅
/-- The level of a tally. -/
abbrev noLevel : GSem nD τ sig → Unit → ℕ := fun _ _ => 0

variable {pcs defs₀ loops}

/-- A specification of a condition holds with anything else the core holds beside it. -/
theorem beside {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) : LoopCond pcs defs₀ Variants.none loops rest cond condOps bodyI W₀ n := by
  intro k hk c bd
  have hs := h k hk c bd
  have hq : ∀ v : Elt F .i1,
      iprop(iprop(⌜v = 1#1 ↔ k < n⌝ ∗ boundary (c : Thread nD τ) ∗ held (c : Thread nD τ) (ucRefs τ sig) (after condOps (atTrip condOps bodyI W₀ k c))) ∗ rest c)
        ⊢ iprop(⌜v = 1#1 ↔ k < n⌝ ∗ boundary (c : Thread nD τ) ∗ held (c : Thread nD τ) (ucRefs τ sig) (after condOps (atTrip condOps bodyI W₀ k c)) ∗ rest c) := by
    intro v
    iintro ⟨⟨%hv, A, B⟩, C⟩
    isplitr
    · ipureintro; exact hv
    · isplitl [A]
      · iexact A
      · isplitl [B] <;> iassumption
  refine BIBase.Entails.trans ?_ (((sep_mono_left hs).trans (wp_frame_r _ _ _)).trans (wp_mono _ _ _ hq))
  iintro ⟨A, B, C⟩
  isplitl [A B]
  · isplitl [A] <;> iassumption
  · iexact C

/-- A counted loop: its condition, its body as stretches of operations, and its number of trips. -/
structure Loop (pcs : Fin 0 → PCfg sig Λ₀ (Elt F)) {nL : Nat}
    (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  bodyI : List (List (HloOp τ sig (Elt F)))
  plain : Plain bodyI
  hbody : body = Pipeline.chain (bodyI.map fun ops => (seq ops : Prog _ PUnit))
  n : ℕ

/-- What a loop leaves of the contents `W`. -/
def Loop.leaves (A : Loop pcs loops) (W : Dev nD → Valuation τ sig (Elt F)) (c : Dev nD) : Valuation τ sig (Elt F) :=
  after A.condOps (atTrip A.condOps A.bodyI W A.n c)

/-- A loop's condition is specified at the contents `W`. -/
abbrev Loop.Spec (A : Loop pcs loops) (defs₀ : Defs nD τ sig (Elt F) Λ₀) (W : Dev nD → Valuation τ sig (Elt F)) : Prop :=
  CondSpec pcs defs₀ loops A.cond A.condOps A.bodyI W A.n

variable (A B : Loop pcs loops) (preI midI postI : List (List (HloOp τ sig (Elt F))))
  (hpre : Plain preI) (hmid : Plain midI) (hpost : Plain postI) (m : (ℓ : Loc nD τ sig) → Buf (Elt F) ℓ)

/-- The contents before the second loop. -/
abbrev between (c : Dev nD) : Valuation τ sig (Elt F) := afterL midI (A.leaves (entryContents preI m) c)
/-- The contents at the end. -/
abbrev atEnd (c : Dev nD) : Valuation τ sig (Elt F) := afterL postI (B.leaves (between A preI midI m) c)

/-- The segment of one loop. -/
def seg (A : Loop pcs loops) (W : Dev nD → Valuation τ sig (Elt F)) (h : A.Spec defs₀ W) :
    CSeg pcs (noAdm pcs) defs₀ Variants.none noCells noLevel loops (noTk pcs) :=
  loopSeg _ _ _ _ _ _ _ _ A.l A.cond A.body A.hloops A.condOps A.bodyI A.plain A.hbody A.n W rest (beside h)

/-- The program as segments. -/
def segs (hA : A.Spec defs₀ (entryContents preI m)) (hB : B.Spec defs₀ (between A preI midI m)) :
    List (CSeg pcs (noAdm pcs) defs₀ Variants.none noCells noLevel loops (noTk pcs)) :=
  segsOf _ _ _ _ _ _ _ _ rest preI hpre (launchContents m) ++
    seg A _ hA :: (segsOf _ _ _ _ _ _ _ _ rest midI hmid (A.leaves (entryContents preI m)) ++
      seg B _ hB :: segsOf _ _ _ _ _ _ _ _ rest postI hpost (B.leaves (between A preI midI m)))

/-- The items of the program. -/
abbrev items : List (Prog (TpuEff nD τ sig (Elt F) (HostLoop.Sig (Pipeline.Sig Λ₀ (Fin 0) fun p => (pcs p).Adm) nL) .tc) PUnit) :=
  (preI.map fun ops => seq ops) ++ HostLoop.enter A.l :: ((midI.map fun ops => seq ops) ++ HostLoop.enter B.l :: postI.map fun ops => seq ops)

theorem segs_prog (hA : A.Spec defs₀ (entryContents preI m)) (hB : B.Spec defs₀ (between A preI midI m)) :
    (segs A B preI midI postI hpre hmid hpost m hA hB).map CSeg.prog = items A B preI midI postI := by
  unfold segs
  rw [List.map_append, List.map_cons, List.map_append, List.map_cons, segsOf_prog, segsOf_prog, segsOf_prog]
  rfl

theorem segs_chains (hA : A.Spec defs₀ (entryContents preI m)) (hB : B.Spec defs₀ (between A preI midI m)) :
    CSeg.Chains (fun c => iprop(held (c : Thread nD τ) (ucRefs τ sig) (launchContents m c) ∗ rest c))
      (segs A B preI midI postI hpre hmid hpost m hA hB)
      (fun c => iprop(iprop(held (c : Thread nD τ) (ucRefs τ sig) (atEnd A B preI midI postI m c)) ∗
        ∃ W, owes (c : Thread nD τ) (0 : CellTallies nD τ sig Unit) W)) := by
  unfold segs
  exact CSeg.Chains.append (segsOf_chains _ _ _ _ _ _ _ _ rest preI hpre _) ⟨fun _ => .rfl,
    CSeg.Chains.append (segsOf_chains _ _ _ _ _ _ _ _ rest midI hmid _) ⟨fun _ => .rfl, segsOf_chains _ _ _ _ _ _ _ _ rest postI hpost _⟩⟩

include hpre hmid hpost in
/-- Every weakly fair execution of a program with two counted loops terminates with its buffers at the contents `atEnd`. -/
theorem run [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain (items A B preI midI postI)) (ρ : Dev nD → PrngReg)
    (hA : A.Spec defs₀ (entryContents preI m)) (hB : B.Spec defs₀ (between A preI midI m)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd A B preI midI postI m c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noCells noLevel loops (noTk pcs) m ρ main
    (segs A B preI midI postI hpre hmid hpost m hA hB)
    (fun c Q => by
      rw [hmain c]
      show wp _ _ _ (Pipeline.chain ((segs A B preI midI postI hpre hmid hpost m hA hB).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢
          bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ rest c))
    (Tₙ := fun c => iprop(held (c : Thread nD τ) (ucRefs τ sig) (atEnd A B preI midI postI m c)))
    (hch := segs_chains A B preI midI postI hpre hmid hpost m hA hB)
    (hinit := by
      refine Pipeline.initEach noCells noLevel fun c => ?_
      rw [show unscopedBufs c (fun b => m ((c : Thread nD τ).loc b)) = held (c : Thread nD τ) (ucRefs τ sig) (launchContents m c)
        from Pipeline.unscopedBufs_held c (launchContents m c)]
      iintro ⟨⟨H, -, O, -, -, -⟩, -⟩
      imodintro
      isplitl [H]
      · iexact H
      · iexists ∅; iexact O)
    (QY := fun c s => ∀ b ∈ ucRefs τ sig, s.mem ((c : Dev nD), b) = atEnd A B preI midI postI m c b)
    (hfin := fun c s' => by
      unfold held
      iintro ⟨H, I⟩
      ihave R := (pointsTo_read_all (ucRefs τ sig) (fun b => ((c : Dev nD), b)) (fun b => atEnd A B preI midI postI m c b) s') $$ [H I]
      · isplitl [H] <;> iassumption
      icases R with ⟨%h, I⟩
      imodintro
      isplitr
      · ipureintro; exact h
      · iexact I)
    (hQ := fun _ h c b hb => h c _ (devRef_mem_ucRefs b hb))

end Cert.TwoLoops
end
-- ==== Proof.RefOps.lean ====
/-
  The operations of the reference: the stretches of its host program and of the bodies of its two loops, what each writes,
  and the program as a chain of them.
-/
module

public import proofs.«01_k».proof.Proof.Gen.ReferenceIdeal
public import proofs.«01_k».proof.Proof.TwoLoops
public import Idealize.ShloMosaic.Lib.StableHlo.RunRead
public import Idealize.ShloMosaic.Lib.Scf.ExitTest
public import Idealize.ShloMosaic.Lib.Scf.Counter

@[expose] public section

set_option maxRecDepth 100000

noncomputable section
namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

local notation "𝕋" s:max => BufTy.Contents (Elt F) (BufTy.mk s EltTy.f32)
local notation "𝕀" s:max => BufTy.Contents (Elt F) (BufTy.mk s EltTy.i32)

/-- Operations in a row; that they touch the core's buffers alone, find their results' buffers given, write only the buffers `W`, and keep the others. -/
abbrev Ops (F : FTy → Type) := List (HloOp τ sig (Elt F))
abbrev Inside (l : Ops F) : Prop := l.Forall fun op => op.bufs ⊆ tcRefs τ sig
abbrev Keeps (l : Ops F) (W : List (Ref sig .tc)) : Prop :=
  ∀ (V : Valuation τ sig (Elt F)) (r : Ref sig .tc), r ∉ W → after l V (Proc.devRef .tc r) = V (Proc.devRef .tc r)
abbrev Fresh (l : Ops F) : Prop := l.Forall fun op => op.fresh = ∅
abbrev Writes (l : Ops F) (W : List (Ref sig .tc)) : Prop := l.Forall fun op => op.writes ⊆ (W.map (Proc.devRef (τ := τ) .tc)).toFinset

/-- The operations before the first loop. -/
abbrev preOps : Ops F :=
  [ unary main_arg0 main_v0 ((extractStridedSlice S8320x1024 ![0, 0] · slices_S8320x3072_S8320x1024_0_0) : 𝕋 S8320x3072 → 𝕋 S8320x1024),
    unary main_arg0 main_v1 ((extractStridedSlice S8320x1024 ![0, 1024] · slices_S8320x3072_S8320x1024_0_1024) : 𝕋 S8320x3072 → 𝕋 S8320x1024),
    unary main_arg0 main_v2 ((extractStridedSlice S8320x1024 ![0, 2048] · slices_S8320x3072_S8320x1024_0_2048) : 𝕋 S8320x3072 → 𝕋 S8320x1024),
    reshape main_v0 main_v3 (rfl : (.f32 : EltTy) = .f32) shapeCasts_S8320x1024_S8320x8x128,
    reshape main_v1 main_v4 (rfl : (.f32 : EltTy) = .f32) shapeCasts_S8320x1024_S8320x8x128,
    reshape main_v2 main_v5 (rfl : (.f32 : EltTy) = .f32) shapeCasts_S8320x1024_S8320x8x128,
    unary main_arg1 main_v6 ((extractStridedSlice S8320x8 ![0, 0] · slices_S8320x128_S8320x8_0_0) : 𝕋 S8320x128 → 𝕋 S8320x8),
    unary main_arg1 main_v7 ((extractStridedSlice S8320x8 ![0, 8] · slices_S8320x128_S8320x8_0_8) : 𝕋 S8320x128 → 𝕋 S8320x8),
    nullary main_cst (constant S_ .f32 0x00000000#32),
    unary main_cst main_v8 (broadcastInDim S8x128x128 ![] bcast_S_S8x128x128 : 𝕋 S_ → 𝕋 S8x128x128),
    nullary main_cst_0 (constant S_ .f32 0x00000000#32),
    unary main_cst_0 main_v9 (broadcastInDim S8320x8x128 ![] bcast_S_S8320x8x128 : 𝕋 S_ → 𝕋 S8320x8x128),
    nullary main_cst_1 (constant S_ .f32 0x00000000#32),
    unary main_cst_1 main_v10 (broadcastInDim S8320x8x128x128 ![] bcast_S_S8320x8x128x128 : 𝕋 S_ → 𝕋 S8320x8x128x128),
    nullary main_c (constantI S_ 32 0#32),
    unary main_v3 main_v11_0 id,
    unary main_v4 main_v11_1 id,
    unary main_v5 main_v11_2 id,
    unary main_v6 main_v11_3 id,
    unary main_v7 main_v11_4 id,
    unary main_c main_v11_5 id,
    unary main_v8 main_v11_6 id,
    unary main_v9 main_v11_7 id,
    unary main_v10 main_v11_8 id ]
theorem preOps_fresh : Fresh (F := F) preOps := forall_fresh_of_map rfl
/-- The buffers it writes. -/
abbrev preOps_W : List (Ref sig .tc) := [main_v0, main_v1, main_v2, main_v3, main_v4, main_v5, main_v6, main_v7, main_cst, main_v8, main_cst_0, main_v9, main_cst_1, main_v10, main_c, main_v11_0, main_v11_1, main_v11_2, main_v11_3, main_v11_4, main_v11_5, main_v11_6, main_v11_7, main_v11_8]
theorem preOps_writes : Writes (F := F) preOps preOps_W := forall_writes_sub_of_map rfl
theorem preOps_keep : Keeps (F := F) preOps preOps_W := fun V _ h => after_of_writes_sub preOps V preOps_writes h

/-- The operations between the loops. -/
abbrev midOps : Ops F :=
  [ reshape main_v11_7 main_v12 (rfl : (.f32 : EltTy) = .f32) shapeCasts_S8320x8x128_S8320x1024,
    nullary main_cst_2 (constant S_ .f32 0x00000000#32),
    unary main_cst_2 main_v13 (broadcastInDim S8x128x128 ![] bcast_S_S8x128x128 : 𝕋 S_ → 𝕋 S8x128x128),
    reshape main_arg2 main_v14 (rfl : (.f32 : EltTy) = .f32) shapeCasts_S8320x1024_S8320x8x128,
    nullary main_cst_3 (constant S_ .f32 0x00000000#32),
    unary main_cst_3 main_v15 (broadcastInDim S8x128x128 ![] bcast_S_S8x128x128 : 𝕋 S_ → 𝕋 S8x128x128),
    nullary main_cst_4 (constant S_ .f32 0x00000000#32),
    unary main_cst_4 main_v16 (broadcastInDim S8320x8x128 ![] bcast_S_S8320x8x128 : 𝕋 S_ → 𝕋 S8320x8x128),
    nullary main_cst_5 (constant S_ .f32 0x00000000#32),
    unary main_cst_5 main_v17 (broadcastInDim S8320x8x128 ![] bcast_S_S8320x8x128 : 𝕋 S_ → 𝕋 S8320x8x128),
    nullary main_cst_6 (constant S_ .f32 0x00000000#32),
    unary main_cst_6 main_v18 (broadcastInDim S8320x8x128 ![] bcast_S_S8320x8x128 : 𝕋 S_ → 𝕋 S8320x8x128),
    nullary main_cst_7 (constant S_ .f32 0x00000000#32),
    unary main_cst_7 main_v19 (broadcastInDim S8320x8 ![] bcast_S_S8320x8 : 𝕋 S_ → 𝕋 S8320x8),
    nullary main_cst_8 (constant S_ .f32 0x00000000#32),
    unary main_cst_8 main_v20 (broadcastInDim S8320x8 ![] bcast_S_S8320x8 : 𝕋 S_ → 𝕋 S8320x8),
    nullary main_c_9 (constantI S_ 32 0#32),
    unary main_v14 main_v21_0 id,
    unary main_v11_8 main_v21_1 id,
    unary main_v3 main_v21_2 id,
    unary main_v4 main_v21_3 id,
    unary main_v5 main_v21_4 id,
    unary main_v6 main_v21_5 id,
    unary main_v7 main_v21_6 id,
    unary main_c_9 main_v21_7 id,
    unary main_v15 main_v21_8 id,
    unary main_v16 main_v21_9 id,
    unary main_v17 main_v21_10 id,
    unary main_v18 main_v21_11 id,
    unary main_v19 main_v21_12 id,
    unary main_v20 main_v21_13 id ]
theorem midOps_fresh : Fresh (F := F) midOps := forall_fresh_of_map rfl
/-- The buffers it writes. -/
abbrev midOps_W : List (Ref sig .tc) := [main_v12, main_cst_2, main_v13, main_v14, main_cst_3, main_v15, main_cst_4, main_v16, main_cst_5, main_v17, main_cst_6, main_v18, main_cst_7, main_v19, main_cst_8, main_v20, main_c_9, main_v21_0, main_v21_1, main_v21_2, main_v21_3, main_v21_4, main_v21_5, main_v21_6, main_v21_7, main_v21_8, main_v21_9, main_v21_10, main_v21_11, main_v21_12, main_v21_13]
theorem midOps_writes : Writes (F := F) midOps midOps_W := forall_writes_sub_of_map rfl
theorem midOps_keep : Keeps (F := F) midOps midOps_W := fun V _ h => after_of_writes_sub midOps V midOps_writes h

/-- The operations after the second loop. -/
abbrev postOps : Ops F :=
  [ nullary main_cst_10 (constant S_ .f32 0x00000000#32),
    binary main_v21_13 main_cst_10 main_v22 ((fun x v => pad S8320x128 ![0, 8] ![0, 112] ![0, 0] x v pads_S8320x8_S8320x128_000_81120 h_S_) : 𝕋 S8320x8 → 𝕋 S_ → 𝕋 S8320x128),
    nullary main_cst_11 (constant S_ .f32 0x00000000#32),
    binary main_v21_12 main_cst_11 main_v23 ((fun x v => pad S8320x128 ![0, 0] ![0, 120] ![0, 0] x v pads_S8320x8_S8320x128_000_01200 h_S_) : 𝕋 S8320x8 → 𝕋 S_ → 𝕋 S8320x128),
    binary main_v22 main_v23 main_v24 (addf : 𝕋 S8320x128 → 𝕋 S8320x128 → 𝕋 S8320x128),
    reshape main_v21_11 main_v25 (rfl : (.f32 : EltTy) = .f32) shapeCasts_S8320x8x128_S8320x1024,
    reshape main_v21_10 main_v26 (rfl : (.f32 : EltTy) = .f32) shapeCasts_S8320x8x128_S8320x1024,
    reshape main_v21_9 main_v27 (rfl : (.f32 : EltTy) = .f32) shapeCasts_S8320x8x128_S8320x1024,
    nary ![main_v27, main_v26, main_v25] main_v28 (fun u => (concatenate S8320x3072 1 [⟨S8320x1024, (u 0 : 𝕋 S8320x1024)⟩, ⟨S8320x1024, (u 1 : 𝕋 S8320x1024)⟩, ⟨S8320x1024, (u 2 : 𝕋 S8320x1024)⟩] concatenates_S8320x1024_S8320x1024_S8320x1024_S8320x3072_d1 : 𝕋 S8320x3072)) ]
theorem postOps_fresh : Fresh (F := F) postOps := forall_fresh_of_map rfl
/-- The buffers it writes. -/
abbrev postOps_W : List (Ref sig .tc) := [main_cst_10, main_v22, main_cst_11, main_v23, main_v24, main_v25, main_v26, main_v27, main_v28]
theorem postOps_writes : Writes (F := F) postOps postOps_W := forall_writes_sub_of_map rfl
theorem postOps_keep : Keeps (F := F) postOps postOps_W := fun V _ h => after_of_writes_sub postOps V postOps_writes h

/-- Stretch 0 of the first loop's body. -/
abbrev fw0 : Ops F :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v11_0 : TRef sig ⟨S8320x8x128, .f32⟩) ![(.of main_v11_5 : TRef sig ⟨S_, .i32⟩), (.of main_while0b_call0_c : TRef sig ⟨S_, .i32⟩), (.of main_while0b_call0_c_0 : TRef sig ⟨S_, .i32⟩)] (.of main_while0b_call0_v0 : TRef sig ⟨S1x8x128, .f32⟩) (fun x i => Host.dynamicSlice S1x8x128 x (fun k => (i k (Shape.Idx.first h_S_)).toInt) sliceFits_S8320x8x128_S1x8x128),
    TRef.reshape (.of main_while0b_call0_v0 : TRef sig ⟨S1x8x128, .f32⟩) (.of main_while0b_v29 : TRef sig ⟨S8x128, .f32⟩) (rfl : (.f32 : EltTy) = .f32) shapeCasts_S1x8x128_S8x128,
    TRef.nullary (.of main_while0b_call1_c : TRef sig ⟨S_, .i32⟩) (constantI S_ 32 0#32),
    TRef.nullary (.of main_while0b_call1_c_0 : TRef sig ⟨S_, .i32⟩) (constantI S_ 32 0#32),
    TRef.unaryIndexed (.of main_v11_1 : TRef sig ⟨S8320x8x128, .f32⟩) ![(.of main_v11_5 : TRef sig ⟨S_, .i32⟩), (.of main_while0b_call1_c : TRef sig ⟨S_, .i32⟩), (.of main_while0b_call1_c_0 : TRef sig ⟨S_, .i32⟩)] (.of main_while0b_call1_v0 : TRef sig ⟨S1x8x128, .f32⟩) (fun x i => Host.dynamicSlice S1x8x128 x (fun k => (i k (Shape.Idx.first h_S_)).toInt) sliceFits_S8320x8x128_S1x8x128),
    TRef.reshape (.of main_while0b_call1_v0 : TRef sig ⟨S1x8x128, .f32⟩) (.of main_while0b_v30 : TRef sig ⟨S8x128, .f32⟩) (rfl : (.f32 : EltTy) = .f32) shapeCasts_S1x8x128_S8x128,
    TRef.nullary (.of main_while0b_call2_c : TRef sig ⟨S_, .i32⟩) (constantI S_ 32 0#32),
    TRef.nullary (.of main_while0b_call2_c_0 : TRef sig ⟨S_, .i32⟩) (constantI S_ 32 0#32),
    TRef.unaryIndexed (.of main_v11_2 : TRef sig ⟨S8320x8x128, .f32⟩) ![(.of main_v11_5 : TRef sig ⟨S_, .i32⟩), (.of main_while0b_call2_c : TRef sig ⟨S_, .i32⟩), (.of main_while0b_call2_c_0 : TRef sig ⟨S_, .i32⟩)] (.of main_while0b_call2_v0 : TRef sig ⟨S1x8x128, .f32⟩) (fun x i => Host.dynamicSlice S1x8x128 x (fun k => (i k (Shape.Idx.first h_S_)).toInt) sliceFits_S8320x8x128_S1x8x128),
    TRef.reshape (.of main_while0b_call2_v0 : TRef sig ⟨S1x8x128, .f32⟩) (.of main_while0b_v31 : TRef sig ⟨S8x128, .f32⟩) (rfl : (.f32 : EltTy) = .f32) shapeCasts_S1x8x128_S8x128,
    TRef.nullary (.of main_while0b_call3_c : TRef sig ⟨S_, .i32⟩) (constantI S_ 32 0#32),
    TRef.unaryIndexed (.of main_v11_3 : TRef sig ⟨S8320x8, .f32⟩) ![(.of main_v11_5 : TRef sig ⟨S_, .i32⟩), (.of main_while0b_call3_c : TRef sig ⟨S_, .i32⟩)] (.of main_while0b_call3_v0 : TRef sig ⟨S1x8, .f32⟩) (fun x i => Host.dynamicSlice S1x8 x (fun k => (i k (Shape.Idx.first h_S_)).toInt) sliceFits_S8320x8_S1x8),
    TRef.reshape (.of main_while0b_call3_v0 : TRef sig ⟨S1x8, .f32⟩) (.of main_while0b_v32 : TRef sig ⟨S8, .f32⟩) (rfl : (.f32 : EltTy) = .f32) shapeCasts_S1x8_S8,
    TRef.nullary (.of main_while0b_call4_c : TRef sig ⟨S_, .i32⟩) (constantI S_ 32 0#32),
    TRef.unaryIndexed (.of main_v11_4 : TRef sig ⟨S8320x8, .f32⟩) ![(.of main_v11_5 : TRef sig ⟨S_, .i32⟩), (.of main_while0b_call4_c : TRef sig ⟨S_, .i32⟩)] (.of main_while0b_call4_v0 : TRef sig ⟨S1x8, .f32⟩) (fun x i => Host.dynamicSlice S1x8 x (fun k => (i k (Shape.Idx.first h_S_)).toInt) sliceFits_S8320x8_S1x8),
    TRef.reshape (.of main_while0b_call4_v0 : TRef sig ⟨S1x8, .f32⟩) (.of main_while0b_v33 : TRef sig ⟨S8, .f32⟩) (rfl : (.f32 : EltTy) = .f32) shapeCasts_S1x8_S8 ]
theorem fw0_fresh : Fresh (F := F) fw0 := forall_fresh_of_map rfl
/-- The buffers it writes. -/
abbrev fw0_W : List (Ref sig .tc) := [main_while0b_call0_c, main_while0b_call0_c_0, main_while0b_call0_v0, main_while0b_v29, main_while0b_call1_c, main_while0b_call1_c_0, main_while0b_call1_v0, main_while0b_v30, main_while0b_call2_c, main_while0b_call2_c_0, main_while0b_call2_v0, main_while0b_v31, main_while0b_call3_c, main_while0b_call3_v0, main_while0b_v32, main_while0b_call4_c, main_while0b_call4_v0, main_while0b_v33]
theorem fw0_writes : Writes (F := F) fw0 fw0_W := forall_writes_sub_of_map rfl
theorem fw0_keep : Keeps (F := F) fw0 fw0_W := fun V _ h => after_of_writes_sub fw0 V fw0_writes h

/-- Stretch 1 of the first loop's body. -/
abbrev fw1 : Ops F :=
  [ unary main_while0b_v33 main_while0b_v34 (Host.exp : 𝕋 S8 → 𝕋 S8),
    unary main_while0b_v34 main_while0b_v35 (broadcastInDim S8x1x1 ![0] bcast_S8_S8x1x1_0 : 𝕋 S8 → 𝕋 S8x1x1),
    unary main_while0b_v35 main_while0b_v36 (broadcastInDim S8x128x128 ![0, 1, 2] bcast_S8x1x1_S8x128x128_0_1_2 : 𝕋 S8x1x1 → 𝕋 S8x128x128),
    binary main_v11_6 main_while0b_v36 main_while0b_v37 (mulf : 𝕋 S8x128x128 → 𝕋 S8x128x128 → 𝕋 S8x128x128),
    unary main_while0b_v30 main_while0b_v38 (broadcastInDim S8x128x1 ![0, 1] bcast_S8x128_S8x128x1_0_1 : 𝕋 S8x128 → 𝕋 S8x128x1),
    unary main_while0b_v38 main_while0b_v39 (broadcastInDim S8x128x128 ![0, 1, 2] bcast_S8x128x1_S8x128x128_0_1_2 : 𝕋 S8x128x1 → 𝕋 S8x128x128),
    binary main_while0b_v37 main_while0b_v39 main_while0b_v40 (mulf : 𝕋 S8x128x128 → 𝕋 S8x128x128 → 𝕋 S8x128x128),
    nullary main_while0b_cst_20 (constant S_ .f32 0x00000000#32),
    binary main_while0b_v40 main_while0b_cst_20 main_while0b_v41 ((fun x v => Host.reduceAdd x v reducesTo_S8x128x128_S8x128_d1 h_S_) : 𝕋 S8x128x128 → 𝕋 S_ → 𝕋 S8x128),
    binary main_while0b_v31 main_while0b_v41 main_while0b_v42 (subf : 𝕋 S8x128 → 𝕋 S8x128 → 𝕋 S8x128),
    unary main_while0b_v32 main_while0b_v43 (broadcastInDim S8x1 ![0] bcast_S8_S8x1_0 : 𝕋 S8 → 𝕋 S8x1),
    unary main_while0b_v43 main_while0b_v44 (broadcastInDim S8x128 ![0, 1] bcast_S8x1_S8x128_0_1 : 𝕋 S8x1 → 𝕋 S8x128),
    binary main_while0b_v42 main_while0b_v44 main_while0b_v45 (mulf : 𝕋 S8x128 → 𝕋 S8x128 → 𝕋 S8x128),
    unary main_while0b_v30 main_while0b_v46 (broadcastInDim S8x128x1 ![0, 1] bcast_S8x128_S8x128x1_0_1 : 𝕋 S8x128 → 𝕋 S8x128x1),
    unary main_while0b_v45 main_while0b_v47 (broadcastInDim S8x1x128 ![0, 2] bcast_S8x128_S8x1x128_0_2 : 𝕋 S8x128 → 𝕋 S8x1x128),
    unary main_while0b_v46 main_while0b_v48 (broadcastInDim S8x128x128 ![0, 1, 2] bcast_S8x128x1_S8x128x128_0_1_2 : 𝕋 S8x128x1 → 𝕋 S8x128x128),
    unary main_while0b_v47 main_while0b_v49 (broadcastInDim S8x128x128 ![0, 1, 2] bcast_S8x1x128_S8x128x128_0_1_2 : 𝕋 S8x1x128 → 𝕋 S8x128x128),
    binary main_while0b_v48 main_while0b_v49 main_while0b_v50 (mulf : 𝕋 S8x128x128 → 𝕋 S8x128x128 → 𝕋 S8x128x128),
    binary main_while0b_v37 main_while0b_v50 main_while0b_v51 (addf : 𝕋 S8x128x128 → 𝕋 S8x128x128 → 𝕋 S8x128x128) ]
theorem fw1_fresh : Fresh (F := F) fw1 := forall_fresh_of_map rfl
/-- The buffers it writes. -/
abbrev fw1_W : List (Ref sig .tc) := [main_while0b_v34, main_while0b_v35, main_while0b_v36, main_while0b_v37, main_while0b_v38, main_while0b_v39, main_while0b_v40, main_while0b_cst_20, main_while0b_v41, main_while0b_v42, main_while0b_v43, main_while0b_v44, main_while0b_v45, main_while0b_v46, main_while0b_v47, main_while0b_v48, main_while0b_v49, main_while0b_v50, main_while0b_v51]
theorem fw1_writes : Writes (F := F) fw1 fw1_W := forall_writes_sub_of_map rfl
theorem fw1_keep : Keeps (F := F) fw1 fw1_W := fun V _ h => after_of_writes_sub fw1 V fw1_writes h

/-- Stretch 2 of the first loop's body. -/
abbrev fw2 : Ops F :=
  [ unary main_while0b_v29 main_while0b_v52 (broadcastInDim S8x128x1 ![0, 1] bcast_S8x128_S8x128x1_0_1 : 𝕋 S8x128 → 𝕋 S8x128x1),
    unary main_while0b_v52 main_while0b_v53 (broadcastInDim S8x128x128 ![0, 1, 2] bcast_S8x128x1_S8x128x128_0_1_2 : 𝕋 S8x128x1 → 𝕋 S8x128x128),
    binary main_while0b_v51 main_while0b_v53 main_while0b_v54 (mulf : 𝕋 S8x128x128 → 𝕋 S8x128x128 → 𝕋 S8x128x128),
    nullary main_while0b_cst_21 (constant S_ .f32 0x00000000#32),
    binary main_while0b_v54 main_while0b_cst_21 main_while0b_v55 ((fun x v => Host.reduceAdd x v reducesTo_S8x128x128_S8x128_d1 h_S_) : 𝕋 S8x128x128 → 𝕋 S_ → 𝕋 S8x128) ]
theorem fw2_fresh : Fresh (F := F) fw2 := forall_fresh_of_map rfl
/-- The buffers it writes. -/
abbrev fw2_W : List (Ref sig .tc) := [main_while0b_v52, main_while0b_v53, main_while0b_v54, main_while0b_cst_21, main_while0b_v55]
theorem fw2_writes : Writes (F := F) fw2 fw2_W := forall_writes_sub_of_map rfl
theorem fw2_keep : Keeps (F := F) fw2 fw2_W := fun V _ h => after_of_writes_sub fw2 V fw2_writes h

/-- Stretch 3 of the first loop's body. -/
abbrev fw3 : Ops F :=
  [ TRef.unary (.of main_while0b_v55 : TRef sig ⟨S8x128, .f32⟩) (.of main_while0b_call5_v0 : TRef sig ⟨S1x8x128, .f32⟩) (broadcastInDim S1x8x128 ![1, 2] bcast_S8x128_S1x8x128_1_2),
    TRef.nullary (.of main_while0b_call5_c : TRef sig ⟨S_, .i32⟩) (constantI S_ 32 0#32),
    TRef.nullary (.of main_while0b_call5_c_0 : TRef sig ⟨S_, .i32⟩) (constantI S_ 32 0#32),
    TRef.binaryIndexed (.of main_v11_7 : TRef sig ⟨S8320x8x128, .f32⟩) (.of main_while0b_call5_v0 : TRef sig ⟨S1x8x128, .f32⟩) ![(.of main_v11_5 : TRef sig ⟨S_, .i32⟩), (.of main_while0b_call5_c : TRef sig ⟨S_, .i32⟩), (.of main_while0b_call5_c_0 : TRef sig ⟨S_, .i32⟩)] (.of main_while0b_v56 : TRef sig ⟨S8320x8x128, .f32⟩) (fun x u i => Host.dynamicUpdateSlice x u (fun k => (i k (Shape.Idx.first h_S_)).toInt) updateFits_S8320x8x128_S1x8x128),
    TRef.unary (.of main_v11_6 : TRef sig ⟨S8x128x128, .f32⟩) (.of main_while0b_call6_v0 : TRef sig ⟨S1x8x128x128, .f32⟩) (broadcastInDim S1x8x128x128 ![1, 2, 3] bcast_S8x128x128_S1x8x128x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v11_8 : TRef sig ⟨S8320x8x128x128, .f32⟩) (.of main_while0b_call6_v0 : TRef sig ⟨S1x8x128x128, .f32⟩) ![(.of main_v11_5 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v57 : TRef sig ⟨S8320x8x128x128, .f32⟩) (fun x u i => Host.dynamicUpdateSlice x u (fun k => (i k (Shape.Idx.first h_S_)).toInt) updateFits_S8320x8x128x128_S1x8x128x128) ]
theorem fw3_fresh : Fresh (F := F) fw3 := forall_fresh_of_map rfl
/-- The buffers it writes. -/
abbrev fw3_W : List (Ref sig .tc) := [main_while0b_call5_v0, main_while0b_call5_c, main_while0b_call5_c_0, main_while0b_v56, main_while0b_call6_v0, main_while0b_call6_c, main_while0b_call6_c_0, main_while0b_call6_c_1, main_while0b_v57]
theorem fw3_writes : Writes (F := F) fw3 fw3_W := forall_writes_sub_of_map rfl
theorem fw3_keep : Keeps (F := F) fw3 fw3_W := fun V _ h => after_of_writes_sub fw3 V fw3_writes h

/-- Stretch 4 of the first loop's body. -/
abbrev fw4 : Ops F :=
  [ nullary main_while0b_c_22 (constantI S_ 32 1#32),
    binary main_v11_5 main_while0b_c_22 main_while0b_v58 (addi : 𝕀 S_ → 𝕀 S_ → 𝕀 S_),
    unary main_while0b_v58 main_v11_5 id,
    unary main_while0b_v51 main_v11_6 id,
    unary main_while0b_v56 main_v11_7 id,
    unary main_while0b_v57 main_v11_8 id ]
theorem fw4_fresh : Fresh (F := F) fw4 := forall_fresh_of_map rfl
/-- The buffers it writes. -/
abbrev fw4_W : List (Ref sig .tc) := [main_while0b_c_22, main_while0b_v58, main_v11_5, main_v11_6, main_v11_7, main_v11_8]
theorem fw4_writes : Writes (F := F) fw4 fw4_W := forall_writes_sub_of_map rfl
theorem fw4_keep : Keeps (F := F) fw4 fw4_W := fun V _ h => after_of_writes_sub fw4 V fw4_writes h

/-- Stretch 0 of the second loop's body. -/
abbrev bw0 : Ops F :=
  [ nullary main_while1b_c_25 (constantI S_ 32 8320#32),
    binary main_while1b_c_25 main_v21_7 main_while1b_v29 (subi : 𝕀 S_ → 𝕀 S_ → 𝕀 S_),
    nullary main_while1b_c_26 (constantI S_ 32 1#32),
    binary main_while1b_v29 main_while1b_c_26 main_while1b_v30 (subi : 𝕀 S_ → 𝕀 S_ → 𝕀 S_),
    TRef.nullary (.of main_while1b_call7_c : TRef sig ⟨S_, .i32⟩) (constantI S_ 32 0#32),
    TRef.nullary (.of main_while1b_call7_c_0 : TRef sig ⟨S_, .i32⟩) (constantI S_ 32 0#32),
    TRef.unaryIndexed (.of main_v21_0 : TRef sig ⟨S8320x8x128, .f32⟩) ![(.of main_while1b_v30 : TRef sig ⟨S_, .i32⟩), (.of main_while1b_call7_c : TRef sig ⟨S_, .i32⟩), (.of main_while1b_call7_c_0 : TRef sig ⟨S_, .i32⟩)] (.of main_while1b_call7_v0 : TRef sig ⟨S1x8x128, .f32⟩) (fun x i => Host.dynamicSlice S1x8x128 x (fun k => (i k (Shape.Idx.first h_S_)).toInt) sliceFits_S8320x8x128_S1x8x128),
    TRef.reshape (.of main_while1b_call7_v0 : TRef sig ⟨S1x8x128, .f32⟩) (.of main_while1b_v31 : TRef sig ⟨S8x128, .f32⟩) (rfl : (.f32 : EltTy) = .f32) shapeCasts_S1x8x128_S8x128,
    TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.unaryIndexed (.of main_v21_1 : TRef sig ⟨S8320x8x128x128, .f32⟩) ![(.of main_while1b_v30 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩)] (.of main_while1b_call8_v0 : TRef sig ⟨S1x8x128x128, .f32⟩) (fun x i => Host.dynamicSlice S1x8x128x128 x (fun k => (i k (Shape.Idx.first h_S_)).toInt) sliceFits_S8320x8x128x128_S1x8x128x128),
    TRef.reshape (.of main_while1b_call8_v0 : TRef sig ⟨S1x8x128x128, .f32⟩) (.of main_while1b_v32 : TRef sig ⟨S8x128x128, .f32⟩) (rfl : (.f32 : EltTy) = .f32) shapeCasts_S1x8x128x128_S8x128x128 ]
theorem bw0_fresh : Fresh (F := F) bw0 := forall_fresh_of_map rfl
/-- The buffers it writes. -/
abbrev bw0_W : List (Ref sig .tc) := [main_while1b_c_25, main_while1b_v29, main_while1b_c_26, main_while1b_v30, main_while1b_call7_c, main_while1b_call7_c_0, main_while1b_call7_v0, main_while1b_v31, main_while1b_call8_c, main_while1b_call8_c_0, main_while1b_call8_c_1, main_while1b_call8_v0, main_while1b_v32]
theorem bw0_writes : Writes (F := F) bw0 bw0_W := forall_writes_sub_of_map rfl
theorem bw0_keep : Keeps (F := F) bw0 bw0_W := fun V _ h => after_of_writes_sub bw0 V bw0_writes h

/-- Stretch 1 of the second loop's body. -/
abbrev bw1 : Ops F :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.unaryIndexed (.of main_v21_2 : TRef sig ⟨S8320x8x128, .f32⟩) ![(.of main_while1b_v30 : TRef sig ⟨S_, .i32⟩), (.of main_while1b_call9_c : TRef sig ⟨S_, .i32⟩), (.of main_while1b_call9_c_0 : TRef sig ⟨S_, .i32⟩)] (.of main_while1b_call9_v0 : TRef sig ⟨S1x8x128, .f32⟩) (fun x i => Host.dynamicSlice S1x8x128 x (fun k => (i k (Shape.Idx.first h_S_)).toInt) sliceFits_S8320x8x128_S1x8x128),
    TRef.reshape (.of main_while1b_call9_v0 : TRef sig ⟨S1x8x128, .f32⟩) (.of main_while1b_v33 : TRef sig ⟨S8x128, .f32⟩) (rfl : (.f32 : EltTy) = .f32) shapeCasts_S1x8x128_S8x128,
    TRef.nullary (.of main_while1b_call10_c : TRef sig ⟨S_, .i32⟩) (constantI S_ 32 0#32),
    TRef.nullary (.of main_while1b_call10_c_0 : TRef sig ⟨S_, .i32⟩) (constantI S_ 32 0#32),
    TRef.unaryIndexed (.of main_v21_3 : TRef sig ⟨S8320x8x128, .f32⟩) ![(.of main_while1b_v30 : TRef sig ⟨S_, .i32⟩), (.of main_while1b_call10_c : TRef sig ⟨S_, .i32⟩), (.of main_while1b_call10_c_0 : TRef sig ⟨S_, .i32⟩)] (.of main_while1b_call10_v0 : TRef sig ⟨S1x8x128, .f32⟩) (fun x i => Host.dynamicSlice S1x8x128 x (fun k => (i k (Shape.Idx.first h_S_)).toInt) sliceFits_S8320x8x128_S1x8x128),
    TRef.reshape (.of main_while1b_call10_v0 : TRef sig ⟨S1x8x128, .f32⟩) (.of main_while1b_v34 : TRef sig ⟨S8x128, .f32⟩) (rfl : (.f32 : EltTy) = .f32) shapeCasts_S1x8x128_S8x128,
    TRef.nullary (.of main_while1b_call11_c : TRef sig ⟨S_, .i32⟩) (constantI S_ 32 0#32),
    TRef.nullary (.of main_while1b_call11_c_0 : TRef sig ⟨S_, .i32⟩) (constantI S_ 32 0#32),
    TRef.unaryIndexed (.of main_v21_4 : TRef sig ⟨S8320x8x128, .f32⟩) ![(.of main_while1b_v30 : TRef sig ⟨S_, .i32⟩), (.of main_while1b_call11_c : TRef sig ⟨S_, .i32⟩), (.of main_while1b_call11_c_0 : TRef sig ⟨S_, .i32⟩)] (.of main_while1b_call11_v0 : TRef sig ⟨S1x8x128, .f32⟩) (fun x i => Host.dynamicSlice S1x8x128 x (fun k => (i k (Shape.Idx.first h_S_)).toInt) sliceFits_S8320x8x128_S1x8x128),
    TRef.reshape (.of main_while1b_call11_v0 : TRef sig ⟨S1x8x128, .f32⟩) (.of main_while1b_v35 : TRef sig ⟨S8x128, .f32⟩) (rfl : (.f32 : EltTy) = .f32) shapeCasts_S1x8x128_S8x128,
    TRef.nullary (.of main_while1b_call12_c : TRef sig ⟨S_, .i32⟩) (constantI S_ 32 0#32),
    TRef.unaryIndexed (.of main_v21_5 : TRef sig ⟨S8320x8, .f32⟩) ![(.of main_while1b_v30 : TRef sig ⟨S_, .i32⟩), (.of main_while1b_call12_c : TRef sig ⟨S_, .i32⟩)] (.of main_while1b_call12_v0 : TRef sig ⟨S1x8, .f32⟩) (fun x i => Host.dynamicSlice S1x8 x (fun k => (i k (Shape.Idx.first h_S_)).toInt) sliceFits_S8320x8_S1x8),
    TRef.reshape (.of main_while1b_call12_v0 : TRef sig ⟨S1x8, .f32⟩) (.of main_while1b_v36 : TRef sig ⟨S8, .f32⟩) (rfl : (.f32 : EltTy) = .f32) shapeCasts_S1x8_S8,
    TRef.nullary (.of main_while1b_call13_c : TRef sig ⟨S_, .i32⟩) (constantI S_ 32 0#32),
    TRef.unaryIndexed (.of main_v21_6 : TRef sig ⟨S8320x8, .f32⟩) ![(.of main_while1b_v30 : TRef sig ⟨S_, .i32⟩), (.of main_while1b_call13_c : TRef sig ⟨S_, .i32⟩)] (.of main_while1b_call13_v0 : TRef sig ⟨S1x8, .f32⟩) (fun x i => Host.dynamicSlice S1x8 x (fun k => (i k (Shape.Idx.first h_S_)).toInt) sliceFits_S8320x8_S1x8),
    TRef.reshape (.of main_while1b_call13_v0 : TRef sig ⟨S1x8, .f32⟩) (.of main_while1b_v37 : TRef sig ⟨S8, .f32⟩) (rfl : (.f32 : EltTy) = .f32) shapeCasts_S1x8_S8 ]
theorem bw1_fresh : Fresh (F := F) bw1 := forall_fresh_of_map rfl
/-- The buffers it writes. -/
abbrev bw1_W : List (Ref sig .tc) := [main_while1b_call9_c, main_while1b_call9_c_0, main_while1b_call9_v0, main_while1b_v33, main_while1b_call10_c, main_while1b_call10_c_0, main_while1b_call10_v0, main_while1b_v34, main_while1b_call11_c, main_while1b_call11_c_0, main_while1b_call11_v0, main_while1b_v35, main_while1b_call12_c, main_while1b_call12_v0, main_while1b_v36, main_while1b_call13_c, main_while1b_call13_v0, main_while1b_v37]
theorem bw1_writes : Writes (F := F) bw1 bw1_W := forall_writes_sub_of_map rfl
theorem bw1_keep : Keeps (F := F) bw1 bw1_W := fun V _ h => after_of_writes_sub bw1 V bw1_writes h

/-- Stretch 2 of the second loop's body. -/
abbrev bw2 : Ops F :=
  [ unary main_while1b_v37 main_while1b_v38 (Host.exp : 𝕋 S8 → 𝕋 S8),
    unary main_while1b_v38 main_while1b_v39 (broadcastInDim S8x1x1 ![0] bcast_S8_S8x1x1_0 : 𝕋 S8 → 𝕋 S8x1x1),
    unary main_while1b_v39 main_while1b_v40 (broadcastInDim S8x128x128 ![0, 1, 2] bcast_S8x1x1_S8x128x128_0_1_2 : 𝕋 S8x1x1 → 𝕋 S8x128x128),
    binary main_while1b_v32 main_while1b_v40 main_while1b_v41 (mulf : 𝕋 S8x128x128 → 𝕋 S8x128x128 → 𝕋 S8x128x128),
    unary main_while1b_v34 main_while1b_v42 (broadcastInDim S8x128x1 ![0, 1] bcast_S8x128_S8x128x1_0_1 : 𝕋 S8x128 → 𝕋 S8x128x1),
    unary main_while1b_v42 main_while1b_v43 (broadcastInDim S8x128x128 ![0, 1, 2] bcast_S8x128x1_S8x128x128_0_1_2 : 𝕋 S8x128x1 → 𝕋 S8x128x128),
    binary main_while1b_v41 main_while1b_v43 main_while1b_v44 (mulf : 𝕋 S8x128x128 → 𝕋 S8x128x128 → 𝕋 S8x128x128),
    nullary main_while1b_cst_27 (constant S_ .f32 0x00000000#32),
    binary main_while1b_v44 main_while1b_cst_27 main_while1b_v45 ((fun x v => Host.reduceAdd x v reducesTo_S8x128x128_S8x128_d1 h_S_) : 𝕋 S8x128x128 → 𝕋 S_ → 𝕋 S8x128),
    binary main_while1b_v35 main_while1b_v45 main_while1b_v46 (subf : 𝕋 S8x128 → 𝕋 S8x128 → 𝕋 S8x128),
    unary main_while1b_v36 main_while1b_v47 (broadcastInDim S8x1 ![0] bcast_S8_S8x1_0 : 𝕋 S8 → 𝕋 S8x1),
    unary main_while1b_v47 main_while1b_v48 (broadcastInDim S8x128 ![0, 1] bcast_S8x1_S8x128_0_1 : 𝕋 S8x1 → 𝕋 S8x128),
    binary main_while1b_v46 main_while1b_v48 main_while1b_v49 (mulf : 𝕋 S8x128 → 𝕋 S8x128 → 𝕋 S8x128) ]
theorem bw2_fresh : Fresh (F := F) bw2 := forall_fresh_of_map rfl
/-- The buffers it writes. -/
abbrev bw2_W : List (Ref sig .tc) := [main_while1b_v38, main_while1b_v39, main_while1b_v40, main_while1b_v41, main_while1b_v42, main_while1b_v43, main_while1b_v44, main_while1b_cst_27, main_while1b_v45, main_while1b_v46, main_while1b_v47, main_while1b_v48, main_while1b_v49]
theorem bw2_writes : Writes (F := F) bw2 bw2_W := forall_writes_sub_of_map rfl
theorem bw2_keep : Keeps (F := F) bw2 bw2_W := fun V _ h => after_of_writes_sub bw2 V bw2_writes h

/-- Stretch 3 of the second loop's body. -/
abbrev bw3 : Ops F :=
  [ unary main_while1b_v34 main_while1b_v50 (broadcastInDim S8x128x1 ![0, 1] bcast_S8x128_S8x128x1_0_1 : 𝕋 S8x128 → 𝕋 S8x128x1),
    unary main_while1b_v49 main_while1b_v51 (broadcastInDim S8x1x128 ![0, 2] bcast_S8x128_S8x1x128_0_2 : 𝕋 S8x128 → 𝕋 S8x1x128),
    unary main_while1b_v50 main_while1b_v52 (broadcastInDim S8x128x128 ![0, 1, 2] bcast_S8x128x1_S8x128x128_0_1_2 : 𝕋 S8x128x1 → 𝕋 S8x128x128),
    unary main_while1b_v51 main_while1b_v53 (broadcastInDim S8x128x128 ![0, 1, 2] bcast_S8x1x128_S8x128x128_0_1_2 : 𝕋 S8x1x128 → 𝕋 S8x128x128),
    binary main_while1b_v52 main_while1b_v53 main_while1b_v54 (mulf : 𝕋 S8x128x128 → 𝕋 S8x128x128 → 𝕋 S8x128x128),
    binary main_while1b_v41 main_while1b_v54 main_while1b_v55 (addf : 𝕋 S8x128x128 → 𝕋 S8x128x128 → 𝕋 S8x128x128),
    unary main_while1b_v33 main_while1b_v56 (broadcastInDim S8x128x1 ![0, 1] bcast_S8x128_S8x128x1_0_1 : 𝕋 S8x128 → 𝕋 S8x128x1),
    unary main_while1b_v31 main_while1b_v57 (broadcastInDim S8x128x128 ![0, 2] bcast_S8x128_S8x128x128_0_2 : 𝕋 S8x128 → 𝕋 S8x128x128),
    binary main_while1b_v55 main_while1b_v57 main_while1b_v58 (mulf : 𝕋 S8x128x128 → 𝕋 S8x128x128 → 𝕋 S8x128x128),
    nullary main_while1b_cst_28 (constant S_ .f32 0x00000000#32),
    binary main_while1b_v58 main_while1b_cst_28 main_while1b_v59 ((fun x v => Host.reduceAdd x v reducesTo_S8x128x128_S8x128_d2 h_S_) : 𝕋 S8x128x128 → 𝕋 S_ → 𝕋 S8x128),
    reshape main_while1b_v59 main_while1b_v60 (rfl : (.f32 : EltTy) = .f32) shapeCasts_S8x128_S8x128x1,
    unary main_while1b_v56 main_while1b_v61 (broadcastInDim S8x128x128 ![0, 1, 2] bcast_S8x128x1_S8x128x128_0_1_2 : 𝕋 S8x128x1 → 𝕋 S8x128x128),
    binary main_while1b_v57 main_while1b_v61 main_while1b_v62 (mulf : 𝕋 S8x128x128 → 𝕋 S8x128x128 → 𝕋 S8x128x128),
    binary main_v21_8 main_while1b_v62 main_while1b_v63 (addf : 𝕋 S8x128x128 → 𝕋 S8x128x128 → 𝕋 S8x128x128) ]
theorem bw3_fresh : Fresh (F := F) bw3 := forall_fresh_of_map rfl
/-- The buffers it writes. -/
abbrev bw3_W : List (Ref sig .tc) := [main_while1b_v50, main_while1b_v51, main_while1b_v52, main_while1b_v53, main_while1b_v54, main_while1b_v55, main_while1b_v56, main_while1b_v57, main_while1b_v58, main_while1b_cst_28, main_while1b_v59, main_while1b_v60, main_while1b_v61, main_while1b_v62, main_while1b_v63]
theorem bw3_writes : Writes (F := F) bw3 bw3_W := forall_writes_sub_of_map rfl
theorem bw3_keep : Keeps (F := F) bw3 bw3_W := fun V _ h => after_of_writes_sub bw3 V bw3_writes h

/-- Stretch 4 of the second loop's body. -/
abbrev bw4 : Ops F :=
  [ nullary main_while1b_cst_29 (constant S_ .f32 0x00000000#32),
    binary main_while1b_v60 main_while1b_cst_29 main_while1b_v64 ((fun x v => Host.reduceAdd x v reducesTo_S8x128x1_S8x128_d2 h_S_) : 𝕋 S8x128x1 → 𝕋 S_ → 𝕋 S8x128),
    unary main_while1b_v50 main_while1b_v65 (broadcastInDim S8x128x128 ![0, 1, 2] bcast_S8x128x1_S8x128x128_0_1_2 : 𝕋 S8x128x1 → 𝕋 S8x128x128),
    binary main_while1b_v65 main_while1b_v63 main_while1b_v66 (mulf : 𝕋 S8x128x128 → 𝕋 S8x128x128 → 𝕋 S8x128x128),
    nullary main_while1b_cst_30 (constant S_ .f32 0x00000000#32),
    binary main_while1b_v66 main_while1b_cst_30 main_while1b_v67 ((fun x v => Host.reduceAdd x v reducesTo_S8x128x128_S8x128_d1 h_S_) : 𝕋 S8x128x128 → 𝕋 S_ → 𝕋 S8x128),
    reshape main_while1b_v67 main_while1b_v68 (rfl : (.f32 : EltTy) = .f32) shapeCasts_S8x128_S8x1x128,
    unary main_while1b_v51 main_while1b_v69 (broadcastInDim S8x128x128 ![0, 1, 2] bcast_S8x1x128_S8x128x128_0_1_2 : 𝕋 S8x1x128 → 𝕋 S8x128x128),
    binary main_while1b_v63 main_while1b_v69 main_while1b_v70 (mulf : 𝕋 S8x128x128 → 𝕋 S8x128x128 → 𝕋 S8x128x128),
    nullary main_while1b_cst_31 (constant S_ .f32 0x00000000#32),
    binary main_while1b_v70 main_while1b_cst_31 main_while1b_v71 ((fun x v => Host.reduceAdd x v reducesTo_S8x128x128_S8x128_d2 h_S_) : 𝕋 S8x128x128 → 𝕋 S_ → 𝕋 S8x128),
    reshape main_while1b_v71 main_while1b_v72 (rfl : (.f32 : EltTy) = .f32) shapeCasts_S8x128_S8x128x1,
    nullary main_while1b_cst_32 (constant S_ .f32 0x00000000#32),
    binary main_while1b_v68 main_while1b_cst_32 main_while1b_v73 ((fun x v => Host.reduceAdd x v reducesTo_S8x1x128_S8x128_d1 h_S_) : 𝕋 S8x1x128 → 𝕋 S_ → 𝕋 S8x128),
    nullary main_while1b_cst_33 (constant S_ .f32 0x00000000#32),
    binary main_while1b_v72 main_while1b_cst_33 main_while1b_v74 ((fun x v => Host.reduceAdd x v reducesTo_S8x128x1_S8x128_d2 h_S_) : 𝕋 S8x128x1 → 𝕋 S_ → 𝕋 S8x128),
    binary main_while1b_v46 main_while1b_v73 main_while1b_v75 (mulf : 𝕋 S8x128 → 𝕋 S8x128 → 𝕋 S8x128),
    nullary main_while1b_cst_34 (constant S_ .f32 0x00000000#32),
    binary main_while1b_v75 main_while1b_cst_34 main_while1b_v76 ((fun x v => Host.reduceAdd x v reducesTo_S8x128_S8_d1 h_S_) : 𝕋 S8x128 → 𝕋 S_ → 𝕋 S8),
    reshape main_while1b_v76 main_while1b_v77 (rfl : (.f32 : EltTy) = .f32) shapeCasts_S8_S8x1,
    unary main_while1b_v47 main_while1b_v78 (broadcastInDim S8x128 ![0, 1] bcast_S8x1_S8x128_0_1 : 𝕋 S8x1 → 𝕋 S8x128),
    binary main_while1b_v73 main_while1b_v78 main_while1b_v79 (mulf : 𝕋 S8x128 → 𝕋 S8x128 → 𝕋 S8x128),
    nullary main_while1b_cst_35 (constant S_ .f32 0x00000000#32),
    binary main_while1b_v77 main_while1b_cst_35 main_while1b_v80 ((fun x v => Host.reduceAdd x v reducesTo_S8x1_S8_d1 h_S_) : 𝕋 S8x1 → 𝕋 S_ → 𝕋 S8) ]
theorem bw4_fresh : Fresh (F := F) bw4 := forall_fresh_of_map rfl
/-- The buffers it writes. -/
abbrev bw4_W : List (Ref sig .tc) := [main_while1b_cst_29, main_while1b_v64, main_while1b_v65, main_while1b_v66, main_while1b_cst_30, main_while1b_v67, main_while1b_v68, main_while1b_v69, main_while1b_v70, main_while1b_cst_31, main_while1b_v71, main_while1b_v72, main_while1b_cst_32, main_while1b_v73, main_while1b_cst_33, main_while1b_v74, main_while1b_v75, main_while1b_cst_34, main_while1b_v76, main_while1b_v77, main_while1b_v78, main_while1b_v79, main_while1b_cst_35, main_while1b_v80]
theorem bw4_writes : Writes (F := F) bw4 bw4_W := forall_writes_sub_of_map rfl
theorem bw4_keep : Keeps (F := F) bw4 bw4_W := fun V _ h => after_of_writes_sub bw4 V bw4_writes h

/-- Stretch 5 of the second loop's body. -/
abbrev bw5 : Ops F :=
  [ unary main_while1b_v79 main_while1b_v81 (Host.negf : 𝕋 S8x128 → 𝕋 S8x128),
    unary main_while1b_v81 main_while1b_v82 (broadcastInDim S8x128x128 ![0, 2] bcast_S8x128_S8x128x128_0_2 : 𝕋 S8x128 → 𝕋 S8x128x128),
    binary main_while1b_v41 main_while1b_v82 main_while1b_v83 (mulf : 𝕋 S8x128x128 → 𝕋 S8x128x128 → 𝕋 S8x128x128),
    nullary main_while1b_cst_36 (constant S_ .f32 0x00000000#32),
    binary main_while1b_v83 main_while1b_cst_36 main_while1b_v84 ((fun x v => Host.reduceAdd x v reducesTo_S8x128x128_S8x128_d2 h_S_) : 𝕋 S8x128x128 → 𝕋 S_ → 𝕋 S8x128),
    reshape main_while1b_v84 main_while1b_v85 (rfl : (.f32 : EltTy) = .f32) shapeCasts_S8x128_S8x128x1,
    unary main_while1b_v42 main_while1b_v86 (broadcastInDim S8x128x128 ![0, 1, 2] bcast_S8x128x1_S8x128x128_0_1_2 : 𝕋 S8x128x1 → 𝕋 S8x128x128),
    binary main_while1b_v82 main_while1b_v86 main_while1b_v87 (mulf : 𝕋 S8x128x128 → 𝕋 S8x128x128 → 𝕋 S8x128x128),
    binary main_while1b_v63 main_while1b_v87 main_while1b_v88 (addf : 𝕋 S8x128x128 → 𝕋 S8x128x128 → 𝕋 S8x128x128),
    nullary main_while1b_cst_37 (constant S_ .f32 0x00000000#32),
    binary main_while1b_v85 main_while1b_cst_37 main_while1b_v89 ((fun x v => Host.reduceAdd x v reducesTo_S8x128x1_S8x128_d2 h_S_) : 𝕋 S8x128x1 → 𝕋 S_ → 𝕋 S8x128),
    binary main_while1b_v74 main_while1b_v89 main_while1b_v90 (addf : 𝕋 S8x128 → 𝕋 S8x128 → 𝕋 S8x128),
    binary main_while1b_v32 main_while1b_v88 main_while1b_v91 (mulf : 𝕋 S8x128x128 → 𝕋 S8x128x128 → 𝕋 S8x128x128),
    nullary main_while1b_cst_38 (constant S_ .f32 0x00000000#32),
    binary main_while1b_v91 main_while1b_cst_38 main_while1b_v92 ((fun x v => Host.reduceAdd x v reducesTo_S8x128x128_S8_d1_2 h_S_) : 𝕋 S8x128x128 → 𝕋 S_ → 𝕋 S8),
    reshape main_while1b_v92 main_while1b_v93 (rfl : (.f32 : EltTy) = .f32) shapeCasts_S8_S8x1x1,
    unary main_while1b_v39 main_while1b_v94 (broadcastInDim S8x128x128 ![0, 1, 2] bcast_S8x1x1_S8x128x128_0_1_2 : 𝕋 S8x1x1 → 𝕋 S8x128x128),
    binary main_while1b_v88 main_while1b_v94 main_while1b_v95 (mulf : 𝕋 S8x128x128 → 𝕋 S8x128x128 → 𝕋 S8x128x128),
    nullary main_while1b_cst_39 (constant S_ .f32 0x00000000#32),
    binary main_while1b_v93 main_while1b_cst_39 main_while1b_v96 ((fun x v => Host.reduceAdd x v reducesTo_S8x1x1_S8_d1_2 h_S_) : 𝕋 S8x1x1 → 𝕋 S_ → 𝕋 S8),
    binary main_while1b_v96 main_while1b_v38 main_while1b_v97 (mulf : 𝕋 S8 → 𝕋 S8 → 𝕋 S8) ]
theorem bw5_fresh : Fresh (F := F) bw5 := forall_fresh_of_map rfl
/-- The buffers it writes. -/
abbrev bw5_W : List (Ref sig .tc) := [main_while1b_v81, main_while1b_v82, main_while1b_v83, main_while1b_cst_36, main_while1b_v84, main_while1b_v85, main_while1b_v86, main_while1b_v87, main_while1b_v88, main_while1b_cst_37, main_while1b_v89, main_while1b_v90, main_while1b_v91, main_while1b_cst_38, main_while1b_v92, main_while1b_v93, main_while1b_v94, main_while1b_v95, main_while1b_cst_39, main_while1b_v96, main_while1b_v97]
theorem bw5_writes : Writes (F := F) bw5 bw5_W := forall_writes_sub_of_map rfl
theorem bw5_keep : Keeps (F := F) bw5 bw5_W := fun V _ h => after_of_writes_sub bw5 V bw5_writes h

/-- Stretch 6 of the second loop's body. -/
abbrev bw6 : Ops F :=
  [ TRef.unary (.of main_while1b_v64 : TRef sig ⟨S8x128, .f32⟩) (.of main_while1b_call14_v0 : TRef sig ⟨S1x8x128, .f32⟩) (broadcastInDim S1x8x128 ![1, 2] bcast_S8x128_S1x8x128_1_2),
    TRef.nullary (.of main_while1b_call14_c : TRef sig ⟨S_, .i32⟩) (constantI S_ 32 0#32),
    TRef.nullary (.of main_while1b_call14_c_0 : TRef sig ⟨S_, .i32⟩) (constantI S_ 32 0#32),
    TRef.binaryIndexed (.of main_v21_9 : TRef sig ⟨S8320x8x128, .f32⟩) (.of main_while1b_call14_v0 : TRef sig ⟨S1x8x128, .f32⟩) ![(.of main_while1b_v30 : TRef sig ⟨S_, .i32⟩), (.of main_while1b_call14_c : TRef sig ⟨S_, .i32⟩), (.of main_while1b_call14_c_0 : TRef sig ⟨S_, .i32⟩)] (.of main_while1b_v98 : TRef sig ⟨S8320x8x128, .f32⟩) (fun x u i => Host.dynamicUpdateSlice x u (fun k => (i k (Shape.Idx.first h_S_)).toInt) updateFits_S8320x8x128_S1x8x128),
    TRef.unary (.of main_while1b_v90 : TRef sig ⟨S8x128, .f32⟩) (.of main_while1b_call15_v0 : TRef sig ⟨S1x8x128, .f32⟩) (broadcastInDim S1x8x128 ![1, 2] bcast_S8x128_S1x8x128_1_2),
    TRef.nullary (.of main_while1b_call15_c : TRef sig ⟨S_, .i32⟩) (constantI S_ 32 0#32),
    TRef.nullary (.of main_while1b_call15_c_0 : TRef sig ⟨S_, .i32⟩) (constantI S_ 32 0#32),
    TRef.binaryIndexed (.of main_v21_10 : TRef sig ⟨S8320x8x128, .f32⟩) (.of main_while1b_call15_v0 : TRef sig ⟨S1x8x128, .f32⟩) ![(.of main_while1b_v30 : TRef sig ⟨S_, .i32⟩), (.of main_while1b_call15_c : TRef sig ⟨S_, .i32⟩), (.of main_while1b_call15_c_0 : TRef sig ⟨S_, .i32⟩)] (.of main_while1b_v99 : TRef sig ⟨S8320x8x128, .f32⟩) (fun x u i => Host.dynamicUpdateSlice x u (fun k => (i k (Shape.Idx.first h_S_)).toInt) updateFits_S8320x8x128_S1x8x128),
    TRef.unary (.of main_while1b_v79 : TRef sig ⟨S8x128, .f32⟩) (.of main_while1b_call16_v0 : TRef sig ⟨S1x8x128, .f32⟩) (broadcastInDim S1x8x128 ![1, 2] bcast_S8x128_S1x8x128_1_2),
    TRef.nullary (.of main_while1b_call16_c : TRef sig ⟨S_, .i32⟩) (constantI S_ 32 0#32),
    TRef.nullary (.of main_while1b_call16_c_0 : TRef sig ⟨S_, .i32⟩) (constantI S_ 32 0#32),
    TRef.binaryIndexed (.of main_v21_11 : TRef sig ⟨S8320x8x128, .f32⟩) (.of main_while1b_call16_v0 : TRef sig ⟨S1x8x128, .f32⟩) ![(.of main_while1b_v30 : TRef sig ⟨S_, .i32⟩), (.of main_while1b_call16_c : TRef sig ⟨S_, .i32⟩), (.of main_while1b_call16_c_0 : TRef sig ⟨S_, .i32⟩)] (.of main_while1b_v100 : TRef sig ⟨S8320x8x128, .f32⟩) (fun x u i => Host.dynamicUpdateSlice x u (fun k => (i k (Shape.Idx.first h_S_)).toInt) updateFits_S8320x8x128_S1x8x128),
    TRef.unary (.of main_while1b_v80 : TRef sig ⟨S8, .f32⟩) (.of main_while1b_call17_v0 : TRef sig ⟨S1x8, .f32⟩) (broadcastInDim S1x8 ![1] bcast_S8_S1x8_1),
    TRef.nullary (.of main_while1b_call17_c : TRef sig ⟨S_, .i32⟩) (constantI S_ 32 0#32),
    TRef.binaryIndexed (.of main_v21_12 : TRef sig ⟨S8320x8, .f32⟩) (.of main_while1b_call17_v0 : TRef sig ⟨S1x8, .f32⟩) ![(.of main_while1b_v30 : TRef sig ⟨S_, .i32⟩), (.of main_while1b_call17_c : TRef sig ⟨S_, .i32⟩)] (.of main_while1b_v101 : TRef sig ⟨S8320x8, .f32⟩) (fun x u i => Host.dynamicUpdateSlice x u (fun k => (i k (Shape.Idx.first h_S_)).toInt) updateFits_S8320x8_S1x8),
    TRef.unary (.of main_while1b_v97 : TRef sig ⟨S8, .f32⟩) (.of main_while1b_call18_v0 : TRef sig ⟨S1x8, .f32⟩) (broadcastInDim S1x8 ![1] bcast_S8_S1x8_1),
    TRef.nullary (.of main_while1b_call18_c : TRef sig ⟨S_, .i32⟩) (constantI S_ 32 0#32),
    TRef.binaryIndexed (.of main_v21_13 : TRef sig ⟨S8320x8, .f32⟩) (.of main_while1b_call18_v0 : TRef sig ⟨S1x8, .f32⟩) ![(.of main_while1b_v30 : TRef sig ⟨S_, .i32⟩), (.of main_while1b_call18_c : TRef sig ⟨S_, .i32⟩)] (.of main_while1b_v102 : TRef sig ⟨S8320x8, .f32⟩) (fun x u i => Host.dynamicUpdateSlice x u (fun k => (i k (Shape.Idx.first h_S_)).toInt) updateFits_S8320x8_S1x8) ]
theorem bw6_fresh : Fresh (F := F) bw6 := forall_fresh_of_map rfl
/-- The buffers it writes. -/
abbrev bw6_W : List (Ref sig .tc) := [main_while1b_call14_v0, main_while1b_call14_c, main_while1b_call14_c_0, main_while1b_v98, main_while1b_call15_v0, main_while1b_call15_c, main_while1b_call15_c_0, main_while1b_v99, main_while1b_call16_v0, main_while1b_call16_c, main_while1b_call16_c_0, main_while1b_v100, main_while1b_call17_v0, main_while1b_call17_c, main_while1b_v101, main_while1b_call18_v0, main_while1b_call18_c, main_while1b_v102]
theorem bw6_writes : Writes (F := F) bw6 bw6_W := forall_writes_sub_of_map rfl
theorem bw6_keep : Keeps (F := F) bw6 bw6_W := fun V _ h => after_of_writes_sub bw6 V bw6_writes h

/-- Stretch 7 of the second loop's body. -/
abbrev bw7 : Ops F :=
  [ nullary main_while1b_c_40 (constantI S_ 32 1#32),
    binary main_v21_7 main_while1b_c_40 main_while1b_v103 (addi : 𝕀 S_ → 𝕀 S_ → 𝕀 S_),
    unary main_while1b_v103 main_v21_7 id,
    unary main_while1b_v95 main_v21_8 id,
    unary main_while1b_v98 main_v21_9 id,
    unary main_while1b_v99 main_v21_10 id,
    unary main_while1b_v100 main_v21_11 id,
    unary main_while1b_v101 main_v21_12 id,
    unary main_while1b_v102 main_v21_13 id ]
theorem bw7_fresh : Fresh (F := F) bw7 := forall_fresh_of_map rfl
/-- The buffers it writes. -/
abbrev bw7_W : List (Ref sig .tc) := [main_while1b_c_40, main_while1b_v103, main_v21_7, main_v21_8, main_v21_9, main_v21_10, main_v21_11, main_v21_12, main_v21_13]
theorem bw7_writes : Writes (F := F) bw7 bw7_W := forall_writes_sub_of_map rfl
theorem bw7_keep : Keeps (F := F) bw7 bw7_W := fun V _ h => after_of_writes_sub bw7 V bw7_writes h

/-- The operations of loop 0's condition. -/
abbrev cond0 : Ops F :=
  [ nullary main_while0c_c_20 (constantI S_ 32 8320#32),
    binary main_v11_5 main_while0c_c_20 main_while0c_v29 (cmpi .slt) ]
/-- The buffers it writes. -/
abbrev cond0_W : List (Ref sig .tc) := [main_while0c_c_20, main_while0c_v29]
theorem cond0_writes : Writes (F := F) cond0 cond0_W := forall_writes_sub_of_map rfl
theorem cond0_keep : Keeps (F := F) cond0 cond0_W := fun V _ h => after_of_writes_sub cond0 V cond0_writes h

/-- The operations of loop 1's condition. -/
abbrev cond1 : Ops F :=
  [ nullary main_while1c_c_25 (constantI S_ 32 8320#32),
    binary main_v21_7 main_while1c_c_25 main_while1c_v29 (cmpi .slt) ]
/-- The buffers it writes. -/
abbrev cond1_W : List (Ref sig .tc) := [main_while1c_c_25, main_while1c_v29]
theorem cond1_writes : Writes (F := F) cond1 cond1_W := forall_writes_sub_of_map rfl
theorem cond1_keep : Keeps (F := F) cond1 cond1_W := fun V _ h => after_of_writes_sub cond1 V cond1_writes h

theorem preOps_sub : Inside (F := F) preOps := ⟨unary_bufs_sub .., unary_bufs_sub .., unary_bufs_sub .., reshape_bufs_sub .., reshape_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub ..⟩
theorem midOps_sub : Inside (F := F) midOps := ⟨reshape_bufs_sub .., nullary_bufs_sub .., unary_bufs_sub .., reshape_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem postOps_sub : Inside (F := F) postOps := ⟨nullary_bufs_sub .., binary_bufs_sub .., nullary_bufs_sub .., binary_bufs_sub .., binary_bufs_sub .., reshape_bufs_sub .., reshape_bufs_sub .., reshape_bufs_sub .., nary_bufs_sub ..⟩
theorem fw0_sub : Inside (F := F) fw0 := ⟨nullary_bufs_sub .., nullary_bufs_sub .., unaryIndexed_bufs_sub .., reshape_bufs_sub .., nullary_bufs_sub .., nullary_bufs_sub .., unaryIndexed_bufs_sub .., reshape_bufs_sub .., nullary_bufs_sub .., nullary_bufs_sub .., unaryIndexed_bufs_sub .., reshape_bufs_sub .., nullary_bufs_sub .., unaryIndexed_bufs_sub .., reshape_bufs_sub .., nullary_bufs_sub .., unaryIndexed_bufs_sub .., reshape_bufs_sub ..⟩
theorem fw1_sub : Inside (F := F) fw1 := ⟨unary_bufs_sub .., unary_bufs_sub .., unary_bufs_sub .., binary_bufs_sub .., unary_bufs_sub .., unary_bufs_sub .., binary_bufs_sub .., nullary_bufs_sub .., binary_bufs_sub .., binary_bufs_sub .., unary_bufs_sub .., unary_bufs_sub .., binary_bufs_sub .., unary_bufs_sub .., unary_bufs_sub .., unary_bufs_sub .., unary_bufs_sub .., binary_bufs_sub .., binary_bufs_sub ..⟩
theorem fw2_sub : Inside (F := F) fw2 := ⟨unary_bufs_sub .., unary_bufs_sub .., binary_bufs_sub .., nullary_bufs_sub .., binary_bufs_sub ..⟩
theorem fw3_sub : Inside (F := F) fw3 := ⟨unary_bufs_sub .., nullary_bufs_sub .., nullary_bufs_sub .., binaryIndexed_bufs_sub .., unary_bufs_sub .., nullary_bufs_sub .., nullary_bufs_sub .., nullary_bufs_sub .., binaryIndexed_bufs_sub ..⟩
theorem fw4_sub : Inside (F := F) fw4 := ⟨nullary_bufs_sub .., binary_bufs_sub .., unary_bufs_sub .., unary_bufs_sub .., unary_bufs_sub .., unary_bufs_sub ..⟩
theorem bw0_sub : Inside (F := F) bw0 := ⟨nullary_bufs_sub .., binary_bufs_sub .., nullary_bufs_sub .., binary_bufs_sub .., nullary_bufs_sub .., nullary_bufs_sub .., unaryIndexed_bufs_sub .., reshape_bufs_sub .., nullary_bufs_sub .., nullary_bufs_sub .., nullary_bufs_sub .., unaryIndexed_bufs_sub .., reshape_bufs_sub ..⟩
theorem bw1_sub : Inside (F := F) bw1 := ⟨nullary_bufs_sub .., nullary_bufs_sub .., unaryIndexed_bufs_sub .., reshape_bufs_sub .., nullary_bufs_sub .., nullary_bufs_sub .., unaryIndexed_bufs_sub .., reshape_bufs_sub .., nullary_bufs_sub .., nullary_bufs_sub .., unaryIndexed_bufs_sub .., reshape_bufs_sub .., nullary_bufs_sub .., unaryIndexed_bufs_sub .., reshape_bufs_sub .., nullary_bufs_sub .., unaryIndexed_bufs_sub .., reshape_bufs_sub ..⟩
theorem bw2_sub : Inside (F := F) bw2 := ⟨unary_bufs_sub .., unary_bufs_sub .., unary_bufs_sub .., binary_bufs_sub .., unary_bufs_sub .., unary_bufs_sub .., binary_bufs_sub .., nullary_bufs_sub .., binary_bufs_sub .., binary_bufs_sub .., unary_bufs_sub .., unary_bufs_sub .., binary_bufs_sub ..⟩
theorem bw3_sub : Inside (F := F) bw3 := ⟨unary_bufs_sub .., unary_bufs_sub .., unary_bufs_sub .., unary_bufs_sub .., binary_bufs_sub .., binary_bufs_sub .., unary_bufs_sub .., unary_bufs_sub .., binary_bufs_sub .., nullary_bufs_sub .., binary_bufs_sub .., reshape_bufs_sub .., unary_bufs_sub .., binary_bufs_sub .., binary_bufs_sub ..⟩
theorem bw4_sub : Inside (F := F) bw4 := ⟨nullary_bufs_sub .., binary_bufs_sub .., unary_bufs_sub .., binary_bufs_sub .., nullary_bufs_sub .., binary_bufs_sub .., reshape_bufs_sub .., unary_bufs_sub .., binary_bufs_sub .., nullary_bufs_sub .., binary_bufs_sub .., reshape_bufs_sub .., nullary_bufs_sub .., binary_bufs_sub .., nullary_bufs_sub .., binary_bufs_sub .., binary_bufs_sub .., nullary_bufs_sub .., binary_bufs_sub .., reshape_bufs_sub .., unary_bufs_sub .., binary_bufs_sub .., nullary_bufs_sub .., binary_bufs_sub ..⟩
theorem bw5_sub : Inside (F := F) bw5 := ⟨unary_bufs_sub .., unary_bufs_sub .., binary_bufs_sub .., nullary_bufs_sub .., binary_bufs_sub .., reshape_bufs_sub .., unary_bufs_sub .., binary_bufs_sub .., binary_bufs_sub .., nullary_bufs_sub .., binary_bufs_sub .., binary_bufs_sub .., binary_bufs_sub .., nullary_bufs_sub .., binary_bufs_sub .., reshape_bufs_sub .., unary_bufs_sub .., binary_bufs_sub .., nullary_bufs_sub .., binary_bufs_sub .., binary_bufs_sub ..⟩
theorem bw6_sub : Inside (F := F) bw6 := ⟨unary_bufs_sub .., nullary_bufs_sub .., nullary_bufs_sub .., binaryIndexed_bufs_sub .., unary_bufs_sub .., nullary_bufs_sub .., nullary_bufs_sub .., binaryIndexed_bufs_sub .., unary_bufs_sub .., nullary_bufs_sub .., nullary_bufs_sub .., binaryIndexed_bufs_sub .., unary_bufs_sub .., nullary_bufs_sub .., binaryIndexed_bufs_sub .., unary_bufs_sub .., nullary_bufs_sub .., binaryIndexed_bufs_sub ..⟩
theorem bw7_sub : Inside (F := F) bw7 := ⟨nullary_bufs_sub .., binary_bufs_sub .., unary_bufs_sub .., unary_bufs_sub .., unary_bufs_sub .., unary_bufs_sub .., unary_bufs_sub .., unary_bufs_sub .., unary_bufs_sub ..⟩

theorem body0_chain : main_while0_body (F := F) = (Pipeline.chain [seq fw0, seq fw1, seq fw2, seq fw3, seq fw4] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, chain_seq_cons]
  chain_rfl

theorem body1_chain : main_while1_body (F := F) = (Pipeline.chain [seq bw0, seq bw1, seq bw2, seq bw3, seq bw4, seq bw5, seq bw6, seq bw7] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, Pipeline.chain_cons, chain_seq_cons]
  chain_rfl

theorem main_chain (c : Dev nD) : main (F := F) c = (Pipeline.chain [seq preOps, HostLoop.enter 0, seq midOps, HostLoop.enter 1, seq postOps] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

end Cert.RefRun
end
-- ==== Proof.RefRun.lean ====
/-
  The run of the reference: every execution ends with its buffers at the contents that the stretches and 8320 trips of each
  of its two loops make of the launch contents.
-/
module

public import proofs.«01_k».proof.Proof.Gen.ReferenceIdeal
public import proofs.«01_k».proof.Proof.RefOps
public import Idealize.ShloMosaic.Lib.StableHlo.RunRead
public import Idealize.ShloMosaic.Lib.Scf.ExitTest
public import Idealize.ShloMosaic.Lib.Scf.Counter

@[expose] public section

set_option maxRecDepth 100000

noncomputable section
namespace Cert.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

theorem plain_pre : Plain ([preOps] : List (List (HloOp τ sig (Elt F)))) := .cons preOps_sub (hf := List.forall_iff_forall_mem.mp preOps_fresh) .nil
theorem plain_mid : Plain ([midOps] : List (List (HloOp τ sig (Elt F)))) := .cons midOps_sub (hf := List.forall_iff_forall_mem.mp midOps_fresh) .nil
theorem plain_post : Plain ([postOps] : List (List (HloOp τ sig (Elt F)))) := .cons postOps_sub (hf := List.forall_iff_forall_mem.mp postOps_fresh) .nil

/-- The stretches of the body of loop 0. -/
abbrev body0 : List (List (HloOp τ sig (Elt F))) := [fw0, fw1, fw2, fw3, fw4]
theorem plain_body0 : Plain (body0 (F := F)) := .cons fw0_sub (hf := List.forall_iff_forall_mem.mp fw0_fresh) (.cons fw1_sub (hf := List.forall_iff_forall_mem.mp fw1_fresh) (.cons fw2_sub (hf := List.forall_iff_forall_mem.mp fw2_fresh) (.cons fw3_sub (hf := List.forall_iff_forall_mem.mp fw3_fresh) (.cons fw4_sub (hf := List.forall_iff_forall_mem.mp fw4_fresh) .nil))))
/-- Loop 0. -/
def loop0 : TwoLoops.Loop (pcfgs (F := F)) loops where
  l := 0
  cond := main_while0_cond
  body := main_while0_body
  hloops := rfl
  condOps := cond0
  bodyI := body0
  plain := plain_body0
  hbody := by rw [body0_chain]; rfl
  n := 8320

/-- A trip of loop 0 adds one to its counter. -/
theorem ctr0_step (V : Valuation τ sig (Elt F)) :
    afterL body0 (after cond0 V) (Proc.devRef .tc main_v11_5) = addi (V (Proc.devRef .tc main_v11_5)) (constantI S_ 32 1#32) := by
  simp only [afterL_cons, afterL_nil]
  have e : ∀ X : Valuation τ sig (Elt F), after fw4 X (Proc.devRef .tc main_v11_5) = addi (X (Proc.devRef .tc main_v11_5)) (constantI S_ 32 1#32) := fun X => by
    after_results
    rfl
  rw [e, fw3_keep _ _ (by decide +kernel), fw2_keep _ _ (by decide +kernel), fw1_keep _ _ (by decide +kernel), fw0_keep _ _ (by decide +kernel), cond0_keep _ _ (by decide +kernel)]

/-- The counter of loop 0 before its `k`-th trip. -/
theorem ctr0 (W : Dev nD → Valuation τ sig (Elt F)) (c : Dev nD) (h : W c (Proc.devRef .tc main_v11_5) = fun _ => (0#32 : BitVec 32)) :
    ∀ k, atTrip cond0 body0 W k c (Proc.devRef .tc main_v11_5) = fun _ => Scf.iv 0#32 1#32 k
  | 0 => by rw [atTrip_zero, h, Scf.iv_zero]
  | k + 1 => by rw [atTrip_succ, ctr0_step, ctr0 W c h k, Scf.iv_succ]; rfl

set_option backward.isDefEq.respectTransparency.types false in
/-- The condition of loop 0 holds for 8320 trips from a zero counter. -/
theorem spec0 (W : Dev nD → Valuation τ sig (Elt F)) (h : ∀ c, W c (Proc.devRef .tc main_v11_5) = fun _ => (0#32 : BitVec 32)) :
    CondSpec (pcfgs (F := F)) defs₀ loops (main_while0_cond (F := F)) cond0 body0 W 8320 := by
  intro k hk c bd
  have hctr := ctr0 W c (h c) k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) main_v11_5 HostLoop.idx0)
        (HloOp.result _ (atTrip cond0 body0 W k c) main_while0c_c_20 HostLoop.idx0) = 1#1) (k < 8320)
    rw [nullary_result_ne _ _ _ _ (by decide), nullary_result, hctr]
    exact Scf.cmpi_slt_iv_ub_iff (lb := 0#32) (ub := 8320#32) (st := 1#32) (by decide) (show k ≤ Scf.trips 0#32 8320#32 1#32 from hk)
  isplitl [Hb]; · iexact Hb
  rw [after_cons, after_cons, after_nil]; iexact Hh

/-- The stretches of the body of loop 1. -/
abbrev body1 : List (List (HloOp τ sig (Elt F))) := [bw0, bw1, bw2, bw3, bw4, bw5, bw6, bw7]
theorem plain_body1 : Plain (body1 (F := F)) := .cons bw0_sub (hf := List.forall_iff_forall_mem.mp bw0_fresh) (.cons bw1_sub (hf := List.forall_iff_forall_mem.mp bw1_fresh) (.cons bw2_sub (hf := List.forall_iff_forall_mem.mp bw2_fresh) (.cons bw3_sub (hf := List.forall_iff_forall_mem.mp bw3_fresh) (.cons bw4_sub (hf := List.forall_iff_forall_mem.mp bw4_fresh) (.cons bw5_sub (hf := List.forall_iff_forall_mem.mp bw5_fresh) (.cons bw6_sub (hf := List.forall_iff_forall_mem.mp bw6_fresh) (.cons bw7_sub (hf := List.forall_iff_forall_mem.mp bw7_fresh) .nil)))))))
/-- Loop 1. -/
def loop1 : TwoLoops.Loop (pcfgs (F := F)) loops where
  l := 1
  cond := main_while1_cond
  body := main_while1_body
  hloops := rfl
  condOps := cond1
  bodyI := body1
  plain := plain_body1
  hbody := by rw [body1_chain]; rfl
  n := 8320

/-- A trip of loop 1 adds one to its counter. -/
theorem ctr1_step (V : Valuation τ sig (Elt F)) :
    afterL body1 (after cond1 V) (Proc.devRef .tc main_v21_7) = addi (V (Proc.devRef .tc main_v21_7)) (constantI S_ 32 1#32) := by
  simp only [afterL_cons, afterL_nil]
  have e : ∀ X : Valuation τ sig (Elt F), after bw7 X (Proc.devRef .tc main_v21_7) = addi (X (Proc.devRef .tc main_v21_7)) (constantI S_ 32 1#32) := fun X => by
    after_results
    rfl
  rw [e, bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel), cond1_keep _ _ (by decide +kernel)]

/-- The counter of loop 1 before its `k`-th trip. -/
theorem ctr1 (W : Dev nD → Valuation τ sig (Elt F)) (c : Dev nD) (h : W c (Proc.devRef .tc main_v21_7) = fun _ => (0#32 : BitVec 32)) :
    ∀ k, atTrip cond1 body1 W k c (Proc.devRef .tc main_v21_7) = fun _ => Scf.iv 0#32 1#32 k
  | 0 => by rw [atTrip_zero, h, Scf.iv_zero]
  | k + 1 => by rw [atTrip_succ, ctr1_step, ctr1 W c h k, Scf.iv_succ]; rfl

set_option backward.isDefEq.respectTransparency.types false in
/-- The condition of loop 1 holds for 8320 trips from a zero counter. -/
theorem spec1 (W : Dev nD → Valuation τ sig (Elt F)) (h : ∀ c, W c (Proc.devRef .tc main_v21_7) = fun _ => (0#32 : BitVec 32)) :
    CondSpec (pcfgs (F := F)) defs₀ loops (main_while1_cond (F := F)) cond1 body1 W 8320 := by
  intro k hk c bd
  have hctr := ctr1 W c (h c) k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W k c) main_v21_7 HostLoop.idx0)
        (HloOp.result _ (atTrip cond1 body1 W k c) main_while1c_c_25 HostLoop.idx0) = 1#1) (k < 8320)
    rw [nullary_result_ne _ _ _ _ (by decide), nullary_result, hctr]
    exact Scf.cmpi_slt_iv_ub_iff (lb := 0#32) (ub := 8320#32) (st := 1#32) (by decide) (show k ≤ Scf.trips 0#32 8320#32 1#32 from hk)
  isplitl [Hb]; · iexact Hb
  rw [after_cons, after_cons, after_nil]; iexact Hh

/-- The contents before the second loop. -/
abbrev entry1 (c : Dev nD) : Valuation τ sig (Elt F) := TwoLoops.between loop0 [preOps] [midOps] m c
/-- The contents at the end. -/
abbrev final (c : Dev nD) : Valuation τ sig (Elt F) := TwoLoops.atEnd loop0 loop1 [preOps] [midOps] [postOps] m c

theorem ctr0_entry (c : Dev nD) : entryContents [preOps] m c (Proc.devRef .tc main_v11_5) = fun _ => (0#32 : BitVec 32) := by
  simp only [entryContents, afterL_cons, afterL_nil]
  after_reads_simp
  rfl

theorem ctr1_entry (c : Dev nD) : entry1 m c (Proc.devRef .tc main_v21_7) = fun _ => (0#32 : BitVec 32) := by
  simp only [entry1, TwoLoops.between, afterL_cons, afterL_nil]
  after_reads_simp
  rfl

/-- The run of the reference. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  TwoLoops.run loop0 loop1 [preOps] [midOps] [postOps] plain_pre plain_mid plain_post m main (fun c => by rw [main_chain]; rfl) ρ
    (spec0 _ (ctr0_entry m)) (spec1 _ (ctr1_entry m))

/-- The argument `main_arg0` keeps its contents. -/
theorem keeps_main_arg0 (c : Dev nD) : final m c (Proc.devRef .tc main_arg0) = m ((c.tc : Thread nD τ).loc main_arg0) := by
  have h1 : ∀ (W : Dev nD → Valuation τ sig (Elt F)) k, atTrip cond1 body1 W k c (Proc.devRef .tc main_arg0) = W c (Proc.devRef .tc main_arg0) := by
    intro W k
    induction k with
    | zero => rfl
    | succ k ih =>
      rw [atTrip_succ]
      simp only [afterL_cons, afterL_nil]
      rw [bw7_keep _ _ (by decide +kernel), bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel), cond1_keep _ _ (by decide +kernel), ih]
  have h0 : ∀ (W : Dev nD → Valuation τ sig (Elt F)) k, atTrip cond0 body0 W k c (Proc.devRef .tc main_arg0) = W c (Proc.devRef .tc main_arg0) := by
    intro W k
    induction k with
    | zero => rfl
    | succ k ih =>
      rw [atTrip_succ]
      simp only [afterL_cons, afterL_nil]
      rw [fw4_keep _ _ (by decide +kernel), fw3_keep _ _ (by decide +kernel), fw2_keep _ _ (by decide +kernel), fw1_keep _ _ (by decide +kernel), fw0_keep _ _ (by decide +kernel), cond0_keep _ _ (by decide +kernel), ih]
  show after postOps (after cond1 (atTrip cond1 body1 (entry1 m) 8320 c)) (Proc.devRef .tc main_arg0) = _
  rw [postOps_keep _ _ (by decide +kernel), cond1_keep _ _ (by decide +kernel), h1]
  show after midOps (after cond0 (atTrip cond0 body0 (entryContents [preOps] m) 8320 c)) (Proc.devRef .tc main_arg0) = _
  rw [midOps_keep _ _ (by decide +kernel), cond0_keep _ _ (by decide +kernel), h0]
  show after preOps (launchContents m c) (Proc.devRef .tc main_arg0) = _
  rw [preOps_keep _ _ (by decide +kernel)]

/-- The argument `main_arg1` keeps its contents. -/
theorem keeps_main_arg1 (c : Dev nD) : final m c (Proc.devRef .tc main_arg1) = m ((c.tc : Thread nD τ).loc main_arg1) := by
  have h1 : ∀ (W : Dev nD → Valuation τ sig (Elt F)) k, atTrip cond1 body1 W k c (Proc.devRef .tc main_arg1) = W c (Proc.devRef .tc main_arg1) := by
    intro W k
    induction k with
    | zero => rfl
    | succ k ih =>
      rw [atTrip_succ]
      simp only [afterL_cons, afterL_nil]
      rw [bw7_keep _ _ (by decide +kernel), bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel), cond1_keep _ _ (by decide +kernel), ih]
  have h0 : ∀ (W : Dev nD → Valuation τ sig (Elt F)) k, atTrip cond0 body0 W k c (Proc.devRef .tc main_arg1) = W c (Proc.devRef .tc main_arg1) := by
    intro W k
    induction k with
    | zero => rfl
    | succ k ih =>
      rw [atTrip_succ]
      simp only [afterL_cons, afterL_nil]
      rw [fw4_keep _ _ (by decide +kernel), fw3_keep _ _ (by decide +kernel), fw2_keep _ _ (by decide +kernel), fw1_keep _ _ (by decide +kernel), fw0_keep _ _ (by decide +kernel), cond0_keep _ _ (by decide +kernel), ih]
  show after postOps (after cond1 (atTrip cond1 body1 (entry1 m) 8320 c)) (Proc.devRef .tc main_arg1) = _
  rw [postOps_keep _ _ (by decide +kernel), cond1_keep _ _ (by decide +kernel), h1]
  show after midOps (after cond0 (atTrip cond0 body0 (entryContents [preOps] m) 8320 c)) (Proc.devRef .tc main_arg1) = _
  rw [midOps_keep _ _ (by decide +kernel), cond0_keep _ _ (by decide +kernel), h0]
  show after preOps (launchContents m c) (Proc.devRef .tc main_arg1) = _
  rw [preOps_keep _ _ (by decide +kernel)]

/-- The argument `main_arg2` keeps its contents. -/
theorem keeps_main_arg2 (c : Dev nD) : final m c (Proc.devRef .tc main_arg2) = m ((c.tc : Thread nD τ).loc main_arg2) := by
  have h1 : ∀ (W : Dev nD → Valuation τ sig (Elt F)) k, atTrip cond1 body1 W k c (Proc.devRef .tc main_arg2) = W c (Proc.devRef .tc main_arg2) := by
    intro W k
    induction k with
    | zero => rfl
    | succ k ih =>
      rw [atTrip_succ]
      simp only [afterL_cons, afterL_nil]
      rw [bw7_keep _ _ (by decide +kernel), bw6_keep _ _ (by decide +kernel), bw5_keep _ _ (by decide +kernel), bw4_keep _ _ (by decide +kernel), bw3_keep _ _ (by decide +kernel), bw2_keep _ _ (by decide +kernel), bw1_keep _ _ (by decide +kernel), bw0_keep _ _ (by decide +kernel), cond1_keep _ _ (by decide +kernel), ih]
  have h0 : ∀ (W : Dev nD → Valuation τ sig (Elt F)) k, atTrip cond0 body0 W k c (Proc.devRef .tc main_arg2) = W c (Proc.devRef .tc main_arg2) := by
    intro W k
    induction k with
    | zero => rfl
    | succ k ih =>
      rw [atTrip_succ]
      simp only [afterL_cons, afterL_nil]
      rw [fw4_keep _ _ (by decide +kernel), fw3_keep _ _ (by decide +kernel), fw2_keep _ _ (by decide +kernel), fw1_keep _ _ (by decide +kernel), fw0_keep _ _ (by decide +kernel), cond0_keep _ _ (by decide +kernel), ih]
  show after postOps (after cond1 (atTrip cond1 body1 (entry1 m) 8320 c)) (Proc.devRef .tc main_arg2) = _
  rw [postOps_keep _ _ (by decide +kernel), cond1_keep _ _ (by decide +kernel), h1]
  show after midOps (after cond0 (atTrip cond0 body0 (entryContents [preOps] m) 8320 c)) (Proc.devRef .tc main_arg2) = _
  rw [midOps_keep _ _ (by decide +kernel), cond0_keep _ _ (by decide +kernel), h0]
  show after preOps (launchContents m c) (Proc.devRef .tc main_arg2) = _
  rw [preOps_keep _ _ (by decide +kernel)]

end Cert.RefRun
end
-- ==== Proof.RefReal.lean ====
/-
  The operations of the reference on real numbers: rows and numbers of a token cut out of the stacks and written into
  them, and the products and sums of one token's rows and states.
-/
module

public import proofs.«01_k».proof.Proof.Gen.ReferenceIdeal
public import proofs.«01_k».proof.Proof.BlockReal
public import Idealize.ShloMosaic.Lib.DynamicIndex

@[expose] public section

set_option maxRecDepth 16384

noncomputable section
namespace Cert.RefReal

open Cert.ReferenceIdeal Cert.ReferenceIdeal.Gen Cert.Block Cert.Delta Cert.Lift Idealize.ShloMosaic
  Idealize.ShloMosaic.TcCoe Idealize.SL.Sem

/-- Single precision vectors of the idealised program. -/
abbrev W (s : Shape) := FVec Ideal s .f32

/-- The row of token `n` of a stack of eight heads' rows. -/
theorem slice3 (x : W S8320x8x128) (n : ℕ) (hn : n < 8320) (start : Fin 3 → ℤ) (hs : start = ![(n : ℤ), 0, 0]) (h) (hc) :
    shapeCast S8x128 (Host.dynamicSlice S1x8x128 x start h) hc = fun j => x (ix3 ⟨n, hn⟩ (j 0) (j 1)) := by
  rw [Host.dynamicSlice_eq_extractStridedSlice S1x8x128 x start ![n, 0, 0] h
    (by exact ⟨rfl, fun a => by fin_cases a <;> simp <;> omega⟩) (fun a => by subst hs; fin_cases a <;> simp)]
  funext j
  rw [eq_ix2 j]
  simp only [pointwise]
  refine congrArg x (funext fun a => Fin.ext ?_)
  match a with
  | ⟨0, _⟩ => simp
  | ⟨1, _⟩ => simp
  | ⟨2, _⟩ => simp

/-- The entries of token `n` of a stack of eight numbers. -/
theorem slice2 (x : W S8320x8) (n : ℕ) (hn : n < 8320) (start : Fin 2 → ℤ) (hs : start = ![(n : ℤ), 0]) (h) (hc) :
    shapeCast S8 (Host.dynamicSlice S1x8 x start h) hc = fun j => x (ix2 ⟨n, hn⟩ (j 0)) := by
  rw [Host.dynamicSlice_eq_extractStridedSlice S1x8 x start ![n, 0] h
    (by exact ⟨rfl, fun a => by fin_cases a <;> simp <;> omega⟩) (fun a => by subst hs; fin_cases a <;> simp)]
  funext j
  rw [eq_ix1 j]
  simp only [pointwise]
  refine congrArg x (funext fun a => Fin.ext ?_)
  match a with
  | ⟨0, _⟩ => simp
  | ⟨1, _⟩ => simp

/-- A stack with the row of token `n` written. -/
theorem put3 (x : W S8320x8x128) (u : W S8x128) (n : ℕ) (hn : n < 8320) (hf) (t : Fin 8320) (h : Fin 8) (j : Fin 128) :
    Host.dynamicUpdateSlice x (broadcastInDim S1x8x128 ![1, 2] bcast_S8x128_S1x8x128_1_2 u) ![(n : ℤ), 0, 0] hf (ix3 t h j) =
      if t.val = n then u (ix2 h j) else x (ix3 t h j) := by
  have hs : Shape.Slices S8320x8x128 ![n, 0, 0] S1x8x128 := ⟨rfl, fun a => by fin_cases a <;> simp <;> omega⟩
  rw [Host.dynamicUpdateSlice_eq_updateSlice x _ _ hf ![n, 0, 0] (fun a => by fin_cases a <;> simp <;> omega) hs]
  simp only [pointwise]
  by_cases htn : t.val = n
  · rw [dif_pos (show _ from by simp; omega), if_pos htn]
    refine congrArg u (congrArg₂ ix2 ?_ ?_)
    · exact dif_neg (by decide : ¬ (8 : ℕ) = 1)
    · exact dif_neg (by decide : ¬ (128 : ℕ) = 1)
  · rw [dif_neg (by simp; omega), if_neg htn]

/-- The loop's counter as a start. -/
theorem toInt_counter (n : ℕ) (hn : n < 8320) : (BitVec.ofNat 32 n).toInt = (n : ℤ) := by
  have e : (BitVec.ofNat 32 n).toNat = n := by rw [BitVec.toNat_ofNat]; omega
  rw [BitVec.toInt_eq_toNat_of_lt (by rw [e]; omega), e]

/-- The vector of the real numbers `f`. -/
def up1 {n : ℕ} (f : Fin n → ℝ) : W ⟨1, ![n]⟩ := fun i => ((f (i 0) : ℝ) : EReal)
/-- The stack of the real matrices `f`. -/
def ups {l n m : ℕ} (f : Fin l → Mat n m) : W ⟨3, ![l, n, m]⟩ := fun i => ((f (i 0) (i 1) (i 2) : ℝ) : EReal)
theorem up1_ix {n : ℕ} (f : Fin n → ℝ) (i : Fin n) : up1 f (ix1 i) = ((f i : ℝ) : EReal) := rfl
theorem ups_ix {l n m : ℕ} (f : Fin l → Mat n m) (h : Fin l) (i : Fin n) (j : Fin m) : ups f (ix3 h i j) = ((f h i j : ℝ) : EReal) := rfl
theorem ups_ext {l n m : ℕ} {x : W ⟨3, ![l, n, m]⟩} {f : Fin l → Mat n m} (h : ∀ i j k, x (ix3 i j k) = ((f i j k : ℝ) : EReal)) : x = ups f := by
  funext i
  rw [eq_ix3 i]
  exact h _ _ _

/-- The states of token `n` of a stack. -/
theorem slice4 (x : W S8320x8x128x128) (n : ℕ) (hn : n < 8320) (start : Fin 4 → ℤ) (hs : start = ![(n : ℤ), 0, 0, 0]) (h) (hc) :
    shapeCast S8x128x128 (Host.dynamicSlice S1x8x128x128 x start h) hc = fun j => x (ix4 ⟨n, hn⟩ (j 0) (j 1) (j 2)) := by
  rw [Host.dynamicSlice_eq_extractStridedSlice S1x8x128x128 x start ![n, 0, 0, 0] h
    (by exact ⟨rfl, fun a => by fin_cases a <;> simp <;> omega⟩) (fun a => by subst hs; fin_cases a <;> simp)]
  funext j
  rw [eq_ix3 j]
  simp only [pointwise]
  refine congrArg x (funext fun a => Fin.ext ?_)
  match a with
  | ⟨0, _⟩ => simp
  | ⟨1, _⟩ => simp
  | ⟨2, _⟩ => simp
  | ⟨3, _⟩ => simp

theorem ix3_congr {l n m : ℕ} {a a' : Fin l} {b b' : Fin n} {c c' : Fin m} (ha : a = a') (hb : b = b') (hc : c = c') : ix3 a b c = ix3 a' b' c' := by
  subst ha hb hc
  rfl

/-- A stack with the states of token `n` written. -/
theorem put4 (x : W S8320x8x128x128) (u : W S8x128x128) (n : ℕ) (hn : n < 8320) (hf) (t : Fin 8320) (h : Fin 8) (i j : Fin 128) :
    Host.dynamicUpdateSlice x (broadcastInDim S1x8x128x128 ![1, 2, 3] bcast_S8x128x128_S1x8x128x128_1_2_3 u) ![(n : ℤ), 0, 0, 0] hf (ix4 t h i j) =
      if t.val = n then u (ix3 h i j) else x (ix4 t h i j) := by
  have hs : Shape.Slices S8320x8x128x128 ![n, 0, 0, 0] S1x8x128x128 := ⟨rfl, fun a => by fin_cases a <;> simp <;> omega⟩
  rw [Host.dynamicUpdateSlice_eq_updateSlice x _ _ hf ![n, 0, 0, 0] (fun a => by fin_cases a <;> simp <;> omega) hs]
  simp only [pointwise]
  by_cases htn : t.val = n
  · rw [dif_pos (show _ from by simp; omega), if_pos htn]
    refine congrArg u (ix3_congr ?_ ?_ ?_)
    · exact dif_neg (by decide : ¬ (8 : ℕ) = 1)
    · exact dif_neg (by decide : ¬ (128 : ℕ) = 1)
    · exact dif_neg (by decide : ¬ (128 : ℕ) = 1)
  · rw [dif_neg (by simp; omega), if_neg htn]

/-- A stack with the numbers of token `n` written. -/
theorem put2 (x : W S8320x8) (u : W S8) (n : ℕ) (hn : n < 8320) (hf) (t : Fin 8320) (h : Fin 8) :
    Host.dynamicUpdateSlice x (broadcastInDim S1x8 ![1] bcast_S8_S1x8_1 u) ![(n : ℤ), 0] hf (ix2 t h) =
      if t.val = n then u (ix1 h) else x (ix2 t h) := by
  have hs : Shape.Slices S8320x8 ![n, 0] S1x8 := ⟨rfl, fun a => by fin_cases a <;> simp <;> omega⟩
  rw [Host.dynamicUpdateSlice_eq_updateSlice x _ _ hf ![n, 0] (fun a => by fin_cases a <;> simp <;> omega) hs]
  simp only [pointwise]
  by_cases htn : t.val = n
  · rw [dif_pos (show _ from by simp; omega), if_pos htn]
    refine congrArg u (congrArg ix1 ?_)
    exact dif_neg (by decide : ¬ (8 : ℕ) = 1)
  · rw [dif_neg (by simp; omega), if_neg htn]

theorem up1_ext {n : ℕ} {x : W ⟨1, ![n]⟩} {f : Fin n → ℝ} (h : ∀ i, x (ix1 i) = ((f i : ℝ) : EReal)) : x = up1 f := by
  funext i
  rw [eq_ix1 i]
  exact h _

/-! ## Rows and numbers spread over states -/

/-- A number of a head at every entry of its state. -/
def numS (g : W S8) : W S8x128x128 :=
  broadcastInDim S8x128x128 ![0, 1, 2] bcast_S8x1x1_S8x128x128_0_1_2 (broadcastInDim S8x1x1 ![0] bcast_S8_S8x1x1_0 g)
/-- A row of a head down the columns of its state. -/
def colS (k : W S8x128) : W S8x128x128 :=
  broadcastInDim S8x128x128 ![0, 1, 2] bcast_S8x128x1_S8x128x128_0_1_2 (broadcastInDim S8x128x1 ![0, 1] bcast_S8x128_S8x128x1_0_1 k)
/-- A row of a head along the rows of its state. -/
def rowS (u : W S8x128) : W S8x128x128 :=
  broadcastInDim S8x128x128 ![0, 1, 2] bcast_S8x1x128_S8x128x128_0_1_2 (broadcastInDim S8x1x128 ![0, 2] bcast_S8x128_S8x1x128_0_2 u)
/-- The same, spread at once. -/
def rowT (u : W S8x128) : W S8x128x128 := broadcastInDim S8x128x128 ![0, 2] bcast_S8x128_S8x128x128_0_2 u
/-- A number of a head at every entry of its row. -/
def numR (β : W S8) : W S8x128 := broadcastInDim S8x128 ![0, 1] bcast_S8x1_S8x128_0_1 (broadcastInDim S8x1 ![0] bcast_S8_S8x1_0 β)
/-- The sum over a state's rows. -/
def sumI (x : W S8x128x128) : W S8x128 := Host.reduceAdd x (constant S_ .f32 0x00000000#32) reducesTo_S8x128x128_S8x128_d1 h_S_
/-- The sum over a state's columns. -/
def sumJ (x : W S8x128x128) : W S8x128 := Host.reduceAdd x (constant S_ .f32 0x00000000#32) reducesTo_S8x128x128_S8x128_d2 h_S_
/-- The sum over a state. -/
def sumIJ (x : W S8x128x128) : W S8 := Host.reduceAdd x (constant S_ .f32 0x00000000#32) reducesTo_S8x128x128_S8_d1_2 h_S_
/-- The sum over a row. -/
def sumR (x : W S8x128) : W S8 := Host.reduceAdd x (constant S_ .f32 0x00000000#32) reducesTo_S8x128_S8_d1 h_S_

variable (s s' : Fin 8 → Mat 128 128) (k k' : Mat 8 128) (g g' : Fin 8 → ℝ)

theorem exp_up1 : (Host.exp (up1 g) : W S8) = up1 fun h => Real.exp (g h) := by
  refine up1_ext fun h => ?_
  simp [pointwise, up1_ix]
theorem mul_up1 : (mulf (up1 g) (up1 g') : W S8) = up1 fun h => g h * g' h := by
  refine up1_ext fun h => ?_
  simp [pointwise, up1_ix]
theorem numS_up : numS (up1 g) = ups fun h => Matrix.of fun _ _ => g h := by
  refine ups_ext fun h i j => ?_
  simp [numS, pointwise, up1_ix]
theorem colS_up : colS (up k) = ups fun h => Matrix.of fun i _ => k h i := by
  refine ups_ext fun h i j => ?_
  simp [colS, pointwise, up_ix2]
theorem rowS_up : rowS (up k) = ups fun h => Matrix.of fun _ j => k h j := by
  refine ups_ext fun h i j => ?_
  simp [rowS, pointwise, up_ix2]
theorem rowT_up : rowT (up k) = ups fun h => Matrix.of fun _ j => k h j := by
  refine ups_ext fun h i j => ?_
  simp [rowT, pointwise, up_ix2]
theorem numR_up : numR (up1 g) = (up (Matrix.of fun h (_ : Fin 128) => g h) : W S8x128) := by
  refine up_ext fun h j => ?_
  simp [numR, pointwise, up1_ix]
theorem mulS_up : (mulf (ups s) (ups s') : W S8x128x128) = ups fun h => Matrix.of fun i j => s h i j * s' h i j := by
  refine ups_ext fun h i j => ?_
  simp [pointwise, ups_ix]
theorem addS_up : (addf (ups s) (ups s') : W S8x128x128) = ups fun h => Matrix.of fun i j => s h i j + s' h i j := by
  refine ups_ext fun h i j => ?_
  simp [pointwise, ups_ix]
theorem mulR_up : (mulf (up k) (up k') : W S8x128) = up (Matrix.of fun h i => k h i * k' h i) := by
  refine up_ext fun h i => ?_
  simp [pointwise, up_ix2]
theorem addR_up : (addf (up k) (up k') : W S8x128) = up (Matrix.of fun h i => k h i + k' h i) := by
  refine up_ext fun h i => ?_
  simp [pointwise, up_ix2]
theorem subR_up : (subf (up k) (up k') : W S8x128) = up (Matrix.of fun h i => k h i - k' h i) := by
  refine up_ext fun h i => ?_
  simp [pointwise, up_ix2]
theorem negR_up : (Host.negf (up k) : W S8x128) = up (Matrix.of fun h i => -k h i) := by
  refine up_ext fun h i => ?_
  simp [pointwise, up_ix2]
theorem sumI_up : sumI (ups s) = (up (Matrix.of fun h j => ∑ i, s h i j) : W S8x128) := by
  refine up_ext fun h j => ?_
  simp [sumI, pointwise, ups_ix, coe_sum, const_up]
theorem sumJ_up : sumJ (ups s) = (up (Matrix.of fun h i => ∑ j, s h i j) : W S8x128) := by
  refine up_ext fun h j => ?_
  simp [sumJ, pointwise, ups_ix, coe_sum, const_up]
theorem sumIJ_up : sumIJ (ups s) = up1 fun h => ∑ i, ∑ j, s h i j := by
  refine up1_ext fun h => ?_
  simp [sumIJ, pointwise, ups_ix, coe_sum, const_up]
theorem sumR_up : sumR (up k) = up1 fun h => ∑ j, k h j := by
  refine up1_ext fun h => ?_
  simp [sumR, pointwise, up_ix2, coe_sum, const_up]

/-! ## Sums over an axis of one entry -/

theorem one2 (hc) (hh) : (Host.reduceAdd (shapeCast S8x128x1 (up k : W S8x128) hc) (constant S_ .f32 0x00000000#32) reducesTo_S8x128x1_S8x128_d2 hh : W S8x128) = up k := by
  refine up_ext fun h i => ?_
  simp [pointwise, up_ix2, const_up]
theorem one1 (hc) (hh) : (Host.reduceAdd (shapeCast S8x1x128 (up k : W S8x128) hc) (constant S_ .f32 0x00000000#32) reducesTo_S8x1x128_S8x128_d1 hh : W S8x128) = up k := by
  refine up_ext fun h i => ?_
  simp [pointwise, up_ix2, const_up]
theorem one8 (hc) (hh) : (Host.reduceAdd (shapeCast S8x1 (up1 g : W S8) hc) (constant S_ .f32 0x00000000#32) reducesTo_S8x1_S8_d1 hh : W S8) = up1 g := by
  refine up1_ext fun h => ?_
  simp [pointwise, up1_ix, const_up]
theorem one11 (hc) (hh) : (Host.reduceAdd (shapeCast S8x1x1 (up1 g : W S8) hc) (constant S_ .f32 0x00000000#32) reducesTo_S8x1x1_S8_d1_2 hh : W S8) = up1 g := by
  refine up1_ext fun h => ?_
  simp [pointwise, up1_ix, const_up]

/-! ## The tokens' rows -/

/-- The rows of token `n`. -/
def rowAt (f : ℕ → ℕ → Fin 128 → ℝ) (n : ℕ) : Mat 8 128 := fun h i => f h.val n i
/-- The numbers of all tokens. -/
def numsOf (f : ℕ → ℕ → ℝ) : Mat 8320 8 := fun n h => f h.val n.val
/-- The numbers of token `n`. -/
def numAt (f : ℕ → ℕ → ℝ) (n : ℕ) : Fin 8 → ℝ := fun h => f h.val n
/-- A stack of the rows of all tokens and heads. -/
def rowsOf (f : ℕ → ℕ → Fin 128 → ℝ) : Fin 8320 → Mat 8 128 := fun n h i => f h.val n.val i

variable (a b : ℕ → ℕ → ℝ)

/-- A block of 1024 columns split over eight heads. -/
theorem heads (x : W S8320x3072) (hx : ∀ i : S8320x3072.Idx, x i = ((a (i 0).val (i 1).val : ℝ) : EReal)) (o : ℕ) (hs) (hc) :
    (shapeCast S8320x8x128 (extractStridedSlice S8320x1024 ![0, o] x hs) hc : W S8320x8x128) =
      ups (rowsOf fun h n i => a n (o + (128 * h + i.val))) := by
  refine ups_ext fun t h j => ?_
  simp only [pointwise]
  refine (hx _).trans (congrArg Real.toEReal (congrArg₂ a ?_ ?_))
  · show 0 + t.val = t.val
    omega
  · show o + (h.val * 128 + j.val) = o + (128 * h.val + j.val)
    omega

/-- Eight of the columns of numbers. -/
theorem lanes (x : W S8320x128) (hx : ∀ i : S8320x128.Idx, x i = ((b (i 0).val (i 1).val : ℝ) : EReal)) (o : ℕ) (hs) :
    (extractStridedSlice S8320x8 ![0, o] x hs : W S8320x8) = up (numsOf fun h n => b n (o + h)) := by
  refine up_ext fun t h => ?_
  simp only [pointwise]
  refine (hx _).trans (congrArg Real.toEReal (congrArg₂ b ?_ ?_))
  · show 0 + t.val = t.val
    omega
  · rfl

end Cert.RefReal
end
-- ==== Proof.RefFwd.lean ====
/-
  The reference's loop over the tokens: one trip is one token of every head, so after the last trip the carried buffers
  hold the outputs of the token recurrence and the state before every token.
-/
module

public import proofs.«01_k».proof.Proof.RefRun
public import proofs.«01_k».proof.Proof.RefReal

@[expose] public section

set_option maxRecDepth 16384

noncomputable section
namespace Cert.RefReal

open Cert.ReferenceIdeal Cert.ReferenceIdeal.Gen Cert.RefRun Cert.Block Cert.Delta Cert.Lift Idealize.ShloMosaic
  Idealize.ShloMosaic.TcCoe Idealize.SL.Sem Idealize.ShloMosaic.StableHlo Idealize.ShloMosaic.Tactic

/-- Contents of the reference's buffers. -/
abbrev Vals := Valuation τ sig (Elt Ideal)
/-- A single integer. -/
abbrev I32 := (⟨S_, .i32⟩ : BufTy).Contents (Elt Ideal)

/-- The starts of a token's states, rows and numbers. -/
def at4 (x : I32) : Fin 4 → ℤ := fun k => ((![x, constantI S_ 32 0#32, constantI S_ 32 0#32, constantI S_ 32 0#32] : Fin 4 → I32) k (Shape.Idx.first h_S_)).toInt
def at3 (x : I32) : Fin 3 → ℤ := fun k => ((![x, constantI S_ 32 0#32, constantI S_ 32 0#32] : Fin 3 → I32) k (Shape.Idx.first h_S_)).toInt
def at2 (x : I32) : Fin 2 → ℤ := fun k => ((![x, constantI S_ 32 0#32] : Fin 2 → I32) k (Shape.Idx.first h_S_)).toInt
/-- A token's states, rows and numbers. -/
def get4 (n : I32) (x : W S8320x8x128x128) : W S8x128x128 :=
  shapeCast S8x128x128 (Host.dynamicSlice S1x8x128x128 x (at4 n) sliceFits_S8320x8x128x128_S1x8x128x128) shapeCasts_S1x8x128x128_S8x128x128
def get3 (n : I32) (x : W S8320x8x128) : W S8x128 :=
  shapeCast S8x128 (Host.dynamicSlice S1x8x128 x (at3 n) sliceFits_S8320x8x128_S1x8x128) shapeCasts_S1x8x128_S8x128
def get2 (n : I32) (x : W S8320x8) : W S8 :=
  shapeCast S8 (Host.dynamicSlice S1x8 x (at2 n) sliceFits_S8320x8_S1x8) shapeCasts_S1x8_S8
/-- A stack with a token's states, rows or numbers written. -/
def set4 (n : I32) (x : W S8320x8x128x128) (u : W S8x128x128) : W S8320x8x128x128 :=
  Host.dynamicUpdateSlice x (broadcastInDim S1x8x128x128 ![1, 2, 3] bcast_S8x128x128_S1x8x128x128_1_2_3 u) (at4 n) updateFits_S8320x8x128x128_S1x8x128x128
def set3 (n : I32) (x : W S8320x8x128) (u : W S8x128) : W S8320x8x128 :=
  Host.dynamicUpdateSlice x (broadcastInDim S1x8x128 ![1, 2] bcast_S8x128_S1x8x128_1_2 u) (at3 n) updateFits_S8320x8x128_S1x8x128
def set2 (n : I32) (x : W S8320x8) (u : W S8) : W S8320x8 :=
  Host.dynamicUpdateSlice x (broadcastInDim S1x8 ![1] bcast_S8_S1x8_1 u) (at2 n) updateFits_S8320x8_S1x8

section Index
variable {n : ℕ} {x : I32} (hn : n < 8320) (hx : x = fun _ : S_.Idx => BitVec.ofNat 32 n)
include hn hx
theorem at4_eq : at4 x = ![(n : ℤ), 0, 0, 0] := by
  subst hx
  funext k
  fin_cases k
  · exact toInt_counter n hn
  · rfl
  · rfl
  · rfl
theorem at3_eq : at3 x = ![(n : ℤ), 0, 0] := by
  subst hx
  funext k
  fin_cases k
  · exact toInt_counter n hn
  · rfl
  · rfl
theorem at2_eq : at2 x = ![(n : ℤ), 0] := by
  subst hx
  funext k
  fin_cases k
  · exact toInt_counter n hn
  · rfl
theorem get4_eq (y : W S8320x8x128x128) : get4 x y = fun j => y (ix4 ⟨n, hn⟩ (j 0) (j 1) (j 2)) := slice4 _ n hn _ (at4_eq hn hx) _ _
theorem get3_eq (f : ℕ → ℕ → Fin 128 → ℝ) : get3 x (ups (rowsOf f)) = up (rowAt f n) := slice3 _ n hn _ (at3_eq hn hx) _ _
theorem get2_eq (f : ℕ → ℕ → ℝ) : get2 x (up (numsOf f)) = up1 (numAt f n) := slice2 _ n hn _ (at2_eq hn hx) _ _
theorem set4_at (y : W S8320x8x128x128) (u : W S8x128x128) (t : Fin 8320) (h : Fin 8) (i j : Fin 128) :
    set4 x y u (ix4 t h i j) = if t.val = n then u (ix3 h i j) else y (ix4 t h i j) := by
  rw [set4, at4_eq hn hx, put4 _ _ n hn]
theorem set3_at (y : W S8320x8x128) (u : W S8x128) (t : Fin 8320) (h : Fin 8) (j : Fin 128) :
    set3 x y u (ix3 t h j) = if t.val = n then u (ix2 h j) else y (ix3 t h j) := by
  rw [set3, at3_eq hn hx, put3 _ _ n hn]
theorem set2_at (y : W S8320x8) (u : W S8) (t : Fin 8320) (h : Fin 8) :
    set2 x y u (ix2 t h) = if t.val = n then u (ix1 h) else y (ix2 t h) := by
  rw [set2, at2_eq hn hx, put2 _ _ n hn]
end Index

/-! ## What the stretches of the body write -/

theorem fw0_q (V : Vals) : after fw0 V (Proc.devRef .tc main_while0b_v29) = get3 (V (Proc.devRef .tc main_v11_5)) (V (Proc.devRef .tc main_v11_0)) := by
  after_results_entrywise [cast_eq]
theorem fw0_k (V : Vals) : after fw0 V (Proc.devRef .tc main_while0b_v30) = get3 (V (Proc.devRef .tc main_v11_5)) (V (Proc.devRef .tc main_v11_1)) := by
  after_results_entrywise [cast_eq]
theorem fw0_v (V : Vals) : after fw0 V (Proc.devRef .tc main_while0b_v31) = get3 (V (Proc.devRef .tc main_v11_5)) (V (Proc.devRef .tc main_v11_2)) := by
  after_results_entrywise [cast_eq]
theorem fw0_β (V : Vals) : after fw0 V (Proc.devRef .tc main_while0b_v32) = get2 (V (Proc.devRef .tc main_v11_5)) (V (Proc.devRef .tc main_v11_3)) := by
  after_results_entrywise [cast_eq]
theorem fw0_g (V : Vals) : after fw0 V (Proc.devRef .tc main_while0b_v33) = get2 (V (Proc.devRef .tc main_v11_5)) (V (Proc.devRef .tc main_v11_4)) := by
  after_results_entrywise [cast_eq]

/-- The decayed states, the errors, and the new states. -/
def decayT (s : W S8x128x128) (g : W S8) : W S8x128x128 := mulf s (numS (Host.exp g))
def errT (s : W S8x128x128) (k v : W S8x128) (g : W S8) : W S8x128 := subf v (sumI (mulf (decayT s g) (colS k)))
def stateT (s : W S8x128x128) (k v : W S8x128) (β g : W S8) : W S8x128x128 :=
  addf (decayT s g) (mulf (colS k) (rowS (mulf (errT s k v g) (numR β))))

theorem fw1_s (V : Vals) : after fw1 V (Proc.devRef .tc main_while0b_v51) = stateT (V (Proc.devRef .tc main_v11_6)) (V (Proc.devRef .tc main_while0b_v30))
    (V (Proc.devRef .tc main_while0b_v31)) (V (Proc.devRef .tc main_while0b_v32)) (V (Proc.devRef .tc main_while0b_v33)) := by
  after_reads_simp
  rfl
theorem fw2_o (V : Vals) : after fw2 V (Proc.devRef .tc main_while0b_v55) = sumI (mulf (V (Proc.devRef .tc main_while0b_v51)) (colS (V (Proc.devRef .tc main_while0b_v29)))) := by
  after_reads_simp
  rfl
theorem fw3_o (V : Vals) : after fw3 V (Proc.devRef .tc main_while0b_v56) = set3 (V (Proc.devRef .tc main_v11_5)) (V (Proc.devRef .tc main_v11_7)) (V (Proc.devRef .tc main_while0b_v55)) := by
  after_results_entrywise [cast_eq]
theorem fw3_s (V : Vals) : after fw3 V (Proc.devRef .tc main_while0b_v57) = set4 (V (Proc.devRef .tc main_v11_5)) (V (Proc.devRef .tc main_v11_8)) (V (Proc.devRef .tc main_v11_6)) := by
  after_results_entrywise [cast_eq]
theorem fw4_s (V : Vals) : after fw4 V (Proc.devRef .tc main_v11_6) = V (Proc.devRef .tc main_while0b_v51) := by
  after_reads_simp
  rfl
theorem fw4_o (V : Vals) : after fw4 V (Proc.devRef .tc main_v11_7) = V (Proc.devRef .tc main_while0b_v56) := by
  after_reads_simp
  rfl
theorem fw4_ss (V : Vals) : after fw4 V (Proc.devRef .tc main_v11_8) = V (Proc.devRef .tc main_while0b_v57) := by
  after_reads_simp
  rfl

/-! ## One trip -/

/-- The contents after one trip. -/
def trip0 (V : Vals) : Vals := after fw4 (after fw3 (after fw2 (after fw1 (after fw0 (after cond0 V)))))
theorem trip0_eq (V : Vals) : afterL body0 (after cond0 V) = trip0 V := by
  simp only [afterL_cons, afterL_nil]
  rfl
theorem trip0_keep (V : Vals) (r : Ref sig .tc) (hc : r ∉ cond0_W) (h0 : r ∉ fw0_W) (h1 : r ∉ fw1_W) (h2 : r ∉ fw2_W) (h3 : r ∉ fw3_W) (h4 : r ∉ fw4_W) :
    trip0 V (Proc.devRef .tc r) = V (Proc.devRef .tc r) := by
  rw [trip0, fw4_keep _ _ h4, fw3_keep _ _ h3, fw2_keep _ _ h2, fw1_keep _ _ h1, fw0_keep _ _ h0, cond0_keep _ _ hc]

theorem stateT_up (s : Fin 8 → Mat 128 128) (k v : Mat 8 128) (β g : Fin 8 → ℝ) :
    stateT (ups s) (up k) (up v) (up1 β) (up1 g) = ups fun h => step (k h) (v h) (β h) (g h) (s h) := by
  rw [stateT, errT, decayT, exp_up1, numS_up, mulS_up, colS_up, mulS_up, sumI_up, subR_up, numR_up, mulR_up, rowS_up, mulS_up, addS_up]
  refine congrArg ups ?_
  funext h i j
  simp only [step, wr, Matrix.of_apply]
  have : ∑ x, s h x j * Real.exp (g h) * k h x = ∑ x, k h x * (s h x j * Real.exp (g h)) :=
    Finset.sum_congr rfl fun x _ => mul_comm _ _
  rw [this]
  ring
theorem outT_up (s : Fin 8 → Mat 128 128) (q : Mat 8 128) : sumI (mulf (ups s) (colS (up q))) = (up (Matrix.of fun h => out (q h) (s h)) : W S8x128) := by
  rw [colS_up, mulS_up, sumI_up]
  refine congrArg up ?_
  funext h j
  show ∑ x, s h x j * q h x = ∑ x, q h x * s h x j
  exact Finset.sum_congr rfl fun x _ => mul_comm _ _

/-- What the buffers hold before token `n`. -/
structure Inv0 (a b : ℕ → ℕ → ℝ) (D : W S8320x1024) (V : Vals) (n : ℕ) : Prop where
  q : V (Proc.devRef .tc main_v11_0) = ups (rowsOf (qs a))
  k : V (Proc.devRef .tc main_v11_1) = ups (rowsOf (ks a))
  v : V (Proc.devRef .tc main_v11_2) = ups (rowsOf (vs a))
  β : V (Proc.devRef .tc main_v11_3) = (up (numsOf (bs b)) : W S8320x8)
  g : V (Proc.devRef .tc main_v11_4) = (up (numsOf (ds b)) : W S8320x8)
  ctr : V (Proc.devRef .tc main_v11_5) = fun _ : S_.Idx => BitVec.ofNat 32 n
  s : V (Proc.devRef .tc main_v11_6) = ups (fun h : Fin 8 => st a b h.val n)
  o : ∀ (t : Fin 8320) (h : Fin 8) (j : Fin 128), t.val < n → (V (Proc.devRef .tc main_v11_7) : W S8320x8x128) (ix3 t h j) =
    ((out (qs a h.val t.val) (st a b h.val (t.val + 1)) j : ℝ) : EReal)
  ss : ∀ (t : Fin 8320) (h : Fin 8) (i j : Fin 128), t.val < n → (V (Proc.devRef .tc main_v11_8) : W S8320x8x128x128) (ix4 t h i j) =
    ((st a b h.val t.val i j : ℝ) : EReal)
  q3 : V (Proc.devRef .tc main_v3) = ups (rowsOf (qs a))
  k4 : V (Proc.devRef .tc main_v4) = ups (rowsOf (ks a))
  v5 : V (Proc.devRef .tc main_v5) = ups (rowsOf (vs a))
  β6 : V (Proc.devRef .tc main_v6) = (up (numsOf (bs b)) : W S8320x8)
  g7 : V (Proc.devRef .tc main_v7) = (up (numsOf (ds b)) : W S8320x8)
  d2 : V (Proc.devRef .tc main_arg2) = D

variable {a b : ℕ → ℕ → ℝ} {D : W S8320x1024} {V : Vals} {n : ℕ}

/-- The rows of the trip's token. -/
theorem row_q (hn : n < 8320) (H : Inv0 a b D V n) : after fw0 (after cond0 V) (Proc.devRef .tc main_while0b_v29) = (up (rowAt (qs a) n) : W S8x128) := by
  rw [fw0_q, cond0_keep _ _ (by decide +kernel), cond0_keep _ _ (by decide +kernel), H.q]
  exact get3_eq hn H.ctr _
theorem row_k (hn : n < 8320) (H : Inv0 a b D V n) : after fw0 (after cond0 V) (Proc.devRef .tc main_while0b_v30) = (up (rowAt (ks a) n) : W S8x128) := by
  rw [fw0_k, cond0_keep _ _ (by decide +kernel), cond0_keep _ _ (by decide +kernel), H.k]
  exact get3_eq hn H.ctr _
theorem row_v (hn : n < 8320) (H : Inv0 a b D V n) : after fw0 (after cond0 V) (Proc.devRef .tc main_while0b_v31) = (up (rowAt (vs a) n) : W S8x128) := by
  rw [fw0_v, cond0_keep _ _ (by decide +kernel), cond0_keep _ _ (by decide +kernel), H.v]
  exact get3_eq hn H.ctr _
theorem num_β (hn : n < 8320) (H : Inv0 a b D V n) : after fw0 (after cond0 V) (Proc.devRef .tc main_while0b_v32) = (up1 (numAt (bs b) n) : W S8) := by
  rw [fw0_β, cond0_keep _ _ (by decide +kernel), cond0_keep _ _ (by decide +kernel), H.β]
  exact get2_eq hn H.ctr _
theorem num_g (hn : n < 8320) (H : Inv0 a b D V n) : after fw0 (after cond0 V) (Proc.devRef .tc main_while0b_v33) = (up1 (numAt (ds b) n) : W S8) := by
  rw [fw0_g, cond0_keep _ _ (by decide +kernel), cond0_keep _ _ (by decide +kernel), H.g]
  exact get2_eq hn H.ctr _

/-- The new states. -/
theorem new_s (hn : n < 8320) (H : Inv0 a b D V n) : after fw1 (after fw0 (after cond0 V)) (Proc.devRef .tc main_while0b_v51) =
    ups (fun h : Fin 8 => st a b h.val (n + 1)) := by
  rw [fw1_s, row_k hn H, row_v hn H, num_β hn H, num_g hn H, fw0_keep _ _ (by decide +kernel), cond0_keep _ _ (by decide +kernel), H.s]
  exact stateT_up _ _ _ _ _
/-- The outputs. -/
theorem new_o (hn : n < 8320) (H : Inv0 a b D V n) : after fw2 (after fw1 (after fw0 (after cond0 V))) (Proc.devRef .tc main_while0b_v55) =
    (up (Matrix.of fun h : Fin 8 => out (qs a h.val n) (st a b h.val (n + 1))) : W S8x128) := by
  rw [fw2_o, new_s hn H, fw1_keep _ _ (by decide +kernel), row_q hn H]
  exact outT_up _ _

/-- One trip of the loop is one token of every head. -/
theorem inv0_step (hn : n < 8320) (H : Inv0 a b D V n) : Inv0 a b D (trip0 V) (n + 1) where
  q := (trip0_keep V _ (by decide +kernel) (by decide +kernel) (by decide +kernel) (by decide +kernel) (by decide +kernel) (by decide +kernel)).trans H.q
  k := (trip0_keep V _ (by decide +kernel) (by decide +kernel) (by decide +kernel) (by decide +kernel) (by decide +kernel) (by decide +kernel)).trans H.k
  v := (trip0_keep V _ (by decide +kernel) (by decide +kernel) (by decide +kernel) (by decide +kernel) (by decide +kernel) (by decide +kernel)).trans H.v
  β := (trip0_keep V _ (by decide +kernel) (by decide +kernel) (by decide +kernel) (by decide +kernel) (by decide +kernel) (by decide +kernel)).trans H.β
  g := (trip0_keep V _ (by decide +kernel) (by decide +kernel) (by decide +kernel) (by decide +kernel) (by decide +kernel) (by decide +kernel)).trans H.g
  q3 := (trip0_keep V _ (by decide +kernel) (by decide +kernel) (by decide +kernel) (by decide +kernel) (by decide +kernel) (by decide +kernel)).trans H.q3
  k4 := (trip0_keep V _ (by decide +kernel) (by decide +kernel) (by decide +kernel) (by decide +kernel) (by decide +kernel) (by decide +kernel)).trans H.k4
  v5 := (trip0_keep V _ (by decide +kernel) (by decide +kernel) (by decide +kernel) (by decide +kernel) (by decide +kernel) (by decide +kernel)).trans H.v5
  β6 := (trip0_keep V _ (by decide +kernel) (by decide +kernel) (by decide +kernel) (by decide +kernel) (by decide +kernel) (by decide +kernel)).trans H.β6
  g7 := (trip0_keep V _ (by decide +kernel) (by decide +kernel) (by decide +kernel) (by decide +kernel) (by decide +kernel) (by decide +kernel)).trans H.g7
  d2 := (trip0_keep V _ (by decide +kernel) (by decide +kernel) (by decide +kernel) (by decide +kernel) (by decide +kernel) (by decide +kernel)).trans H.d2
  ctr := by
    rw [← trip0_eq, ctr0_step, H.ctr]
    funext j
    show BitVec.ofNat 32 n + 1#32 = BitVec.ofNat 32 (n + 1)
    rw [BitVec.ofNat_add]
  s := by
    rw [trip0, fw4_s, fw3_keep _ _ (by decide +kernel), fw2_keep _ _ (by decide +kernel)]
    exact new_s hn H
  o := by
    intro t h j ht
    rw [trip0, fw4_o, fw3_o, new_o hn H, fw2_keep _ main_v11_5 (by decide +kernel), fw1_keep _ main_v11_5 (by decide +kernel), fw0_keep _ main_v11_5 (by decide +kernel), cond0_keep _ main_v11_5 (by decide +kernel),
      fw2_keep _ main_v11_7 (by decide +kernel), fw1_keep _ main_v11_7 (by decide +kernel), fw0_keep _ main_v11_7 (by decide +kernel), cond0_keep _ main_v11_7 (by decide +kernel), set3_at hn H.ctr]
    by_cases htn : t.val = n
    · rw [if_pos htn]
      subst htn
      rfl
    · rw [if_neg htn]
      exact H.o t h j (by omega)
  ss := by
    intro t h i j ht
    rw [trip0, fw4_ss, fw3_s, fw2_keep _ main_v11_5 (by decide +kernel), fw1_keep _ main_v11_5 (by decide +kernel), fw0_keep _ main_v11_5 (by decide +kernel), cond0_keep _ main_v11_5 (by decide +kernel),
      fw2_keep _ main_v11_8 (by decide +kernel), fw1_keep _ main_v11_8 (by decide +kernel), fw0_keep _ main_v11_8 (by decide +kernel), cond0_keep _ main_v11_8 (by decide +kernel),
      fw2_keep _ main_v11_6 (by decide +kernel), fw1_keep _ main_v11_6 (by decide +kernel), fw0_keep _ main_v11_6 (by decide +kernel), cond0_keep _ main_v11_6 (by decide +kernel), set4_at hn H.ctr, H.s]
    by_cases htn : t.val = n
    · rw [if_pos htn]
      subst htn
      rfl
    · rw [if_neg htn]
      exact H.ss t h i j (by omega)

/-- Before the loop: the tokens' rows split over the heads, the zero state, nothing written. -/
theorem inv0_entry {m : (ℓ : Loc nD τ sig) → Buf (Elt Ideal) ℓ} {c : Dev nD} (a b : ℕ → ℕ → ℝ)
    (hA : ∀ i : S8320x3072.Idx, m ((c : Thread nD τ).loc main_arg0) i = ((a (i 0).val (i 1).val : ℝ) : EReal))
    (hB : ∀ i : S8320x128.Idx, m ((c : Thread nD τ).loc main_arg1) i = ((b (i 0).val (i 1).val : ℝ) : EReal)) :
    Inv0 a b (m ((c : Thread nD τ).loc main_arg2)) (entryContents (F := Ideal) [preOps] m c) 0 := by
  have eq : (shapeCast S8320x8x128 (extractStridedSlice S8320x1024 ![0, 0] (m ((c : Thread nD τ).loc main_arg0)) slices_S8320x3072_S8320x1024_0_0) shapeCasts_S8320x1024_S8320x8x128 : W S8320x8x128) = ups (rowsOf (qs a)) :=
    (heads a _ hA 0 _ _).trans (by simp only [Nat.zero_add]; rfl)
  have ek : (shapeCast S8320x8x128 (extractStridedSlice S8320x1024 ![0, 1024] (m ((c : Thread nD τ).loc main_arg0)) slices_S8320x3072_S8320x1024_0_1024) shapeCasts_S8320x1024_S8320x8x128 : W S8320x8x128) = ups (rowsOf (ks a)) :=
    (heads a _ hA 1024 _ _).trans (by simp only [← Nat.add_assoc]; rfl)
  have ev : (shapeCast S8320x8x128 (extractStridedSlice S8320x1024 ![0, 2048] (m ((c : Thread nD τ).loc main_arg0)) slices_S8320x3072_S8320x1024_0_2048) shapeCasts_S8320x1024_S8320x8x128 : W S8320x8x128) = ups (rowsOf (vs a)) :=
    (heads a _ hA 2048 _ _).trans (by simp only [← Nat.add_assoc]; rfl)
  have eβ : (extractStridedSlice S8320x8 ![0, 0] (m ((c : Thread nD τ).loc main_arg1)) slices_S8320x128_S8320x8_0_0 : W S8320x8) = up (numsOf (bs b)) :=
    (lanes b _ hB 0 _).trans (by simp only [Nat.zero_add]; rfl)
  have eg : (extractStridedSlice S8320x8 ![0, 8] (m ((c : Thread nD τ).loc main_arg1)) slices_S8320x128_S8320x8_0_8 : W S8320x8) = up (numsOf (ds b)) :=
    lanes b _ hB 8 _
  simp only [entryContents, afterL_cons, afterL_nil]
  constructor
  · after_reads_simp
    exact eq
  · after_reads_simp
    exact ek
  · after_reads_simp
    exact ev
  · after_reads_simp
    exact eβ
  · after_reads_simp
    exact eg
  · exact ctr0_entry m c
  · after_reads_simp
    exact ups_ext fun h i j => zero_f32
  · intro t h j ht
    exact absurd ht (Nat.not_lt_zero _)
  · intro t h i j ht
    exact absurd ht (Nat.not_lt_zero _)
  · after_reads_simp
    exact eq
  · after_reads_simp
    exact ek
  · after_reads_simp
    exact ev
  · after_reads_simp
    exact eβ
  · after_reads_simp
    exact eg
  · after_reads_simp

/-- After `n` trips. -/
theorem inv0_trips (W₀ : Dev nD → Vals) (c : Dev nD) (h : Inv0 a b D (W₀ c) 0) : ∀ n ≤ 8320, Inv0 a b D (atTrip cond0 body0 W₀ n c) n
  | 0, _ => h
  | n + 1, hn => by
    rw [atTrip_succ, trip0_eq]
    exact inv0_step (by omega) (inv0_trips W₀ c h n (by omega))

end Cert.RefReal
end
-- ==== Proof.RefBwd.lean ====
/-
  The reference's loop back over the tokens: one trip is the derivative of one token of every head, from the last token to
  the first.
-/
module

public import proofs.«01_k».proof.Proof.RefFwd
public import proofs.«01_k».proof.Proof.BwdReal

@[expose] public section

set_option maxRecDepth 16384

noncomputable section
namespace Cert.RefReal

open Cert.ReferenceIdeal Cert.ReferenceIdeal.Gen Cert.RefRun Cert.Block Cert.Back Cert.Delta Cert.Lift Idealize.ShloMosaic
  Idealize.ShloMosaic.TcCoe Idealize.SL.Sem Idealize.ShloMosaic.StableHlo Idealize.ShloMosaic.Tactic

/-! ## What the stretches of the body write -/

/-- The token of a trip. -/
def tok (n : I32) : I32 := subi (subi (constantI S_ 32 8320#32) n) (constantI S_ 32 1#32)
theorem tok_eq {n : ℕ} (hn : n < 8320) {x : I32} (hx : x = fun _ : S_.Idx => BitVec.ofNat 32 n) : tok x = fun _ : S_.Idx => BitVec.ofNat 32 (8319 - n) := by
  subst hx
  funext j
  show (8320#32 - BitVec.ofNat 32 n) - 1#32 = BitVec.ofNat 32 (8319 - n)
  apply BitVec.eq_of_toNat_eq
  simp only [BitVec.toNat_sub, BitVec.toNat_ofNat]
  omega

/-- A row of a head, given as a column of a state, a row of a state, or a number, spread over the state or the row. -/
def colB (k : W S8x128x1) : W S8x128x128 := broadcastInDim S8x128x128 ![0, 1, 2] bcast_S8x128x1_S8x128x128_0_1_2 k
def rowB (u : W S8x1x128) : W S8x128x128 := broadcastInDim S8x128x128 ![0, 1, 2] bcast_S8x1x128_S8x128x128_0_1_2 u
def numB (g : W S8x1x1) : W S8x128x128 := broadcastInDim S8x128x128 ![0, 1, 2] bcast_S8x1x1_S8x128x128_0_1_2 g
def numRB (β : W S8x1) : W S8x128 := broadcastInDim S8x128 ![0, 1] bcast_S8x1_S8x128_0_1 β
def colK (k : W S8x128) : W S8x128x1 := broadcastInDim S8x128x1 ![0, 1] bcast_S8x128_S8x128x1_0_1 k
def rowU (u : W S8x128) : W S8x1x128 := broadcastInDim S8x1x128 ![0, 2] bcast_S8x128_S8x1x128_0_2 u
def numG (g : W S8) : W S8x1x1 := broadcastInDim S8x1x1 ![0] bcast_S8_S8x1x1_0 g
def numH (β : W S8) : W S8x1 := broadcastInDim S8x1 ![0] bcast_S8_S8x1_0 β
/-- Sums over an axis of one entry. -/
def red2 (x : W S8x128x1) : W S8x128 := Host.reduceAdd x (constant S_ .f32 0x00000000#32) reducesTo_S8x128x1_S8x128_d2 h_S_
def red1 (x : W S8x1x128) : W S8x128 := Host.reduceAdd x (constant S_ .f32 0x00000000#32) reducesTo_S8x1x128_S8x128_d1 h_S_
def red8 (x : W S8x1) : W S8 := Host.reduceAdd x (constant S_ .f32 0x00000000#32) reducesTo_S8x1_S8_d1 h_S_
def red11 (x : W S8x1x1) : W S8 := Host.reduceAdd x (constant S_ .f32 0x00000000#32) reducesTo_S8x1x1_S8_d1_2 h_S_

theorem bw0_t (V : Vals) : after bw0 V (Proc.devRef .tc main_while1b_v30) = tok (V (Proc.devRef .tc main_v21_7)) := by
  after_reads_simp
  rfl
theorem bw0_o (V : Vals) : after bw0 V (Proc.devRef .tc main_while1b_v31) = get3 (tok (V (Proc.devRef .tc main_v21_7))) (V (Proc.devRef .tc main_v21_0)) := by
  after_results_entrywise [cast_eq]
theorem bw0_s (V : Vals) : after bw0 V (Proc.devRef .tc main_while1b_v32) = get4 (tok (V (Proc.devRef .tc main_v21_7))) (V (Proc.devRef .tc main_v21_1)) := by
  after_results_entrywise [cast_eq]
theorem bw1_q (V : Vals) : after bw1 V (Proc.devRef .tc main_while1b_v33) = get3 (V (Proc.devRef .tc main_while1b_v30)) (V (Proc.devRef .tc main_v21_2)) := by
  after_results_entrywise [cast_eq]
theorem bw1_k (V : Vals) : after bw1 V (Proc.devRef .tc main_while1b_v34) = get3 (V (Proc.devRef .tc main_while1b_v30)) (V (Proc.devRef .tc main_v21_3)) := by
  after_results_entrywise [cast_eq]
theorem bw1_v (V : Vals) : after bw1 V (Proc.devRef .tc main_while1b_v35) = get3 (V (Proc.devRef .tc main_while1b_v30)) (V (Proc.devRef .tc main_v21_4)) := by
  after_results_entrywise [cast_eq]
theorem bw1_β (V : Vals) : after bw1 V (Proc.devRef .tc main_while1b_v36) = get2 (V (Proc.devRef .tc main_while1b_v30)) (V (Proc.devRef .tc main_v21_5)) := by
  after_results_entrywise [cast_eq]
theorem bw1_g (V : Vals) : after bw1 V (Proc.devRef .tc main_while1b_v37) = get2 (V (Proc.devRef .tc main_while1b_v30)) (V (Proc.devRef .tc main_v21_6)) := by
  after_results_entrywise [cast_eq]

theorem bw2_x (V : Vals) : after bw2 V (Proc.devRef .tc main_while1b_v38) = (Host.exp (V (Proc.devRef .tc main_while1b_v37) : W S8) : W S8) := by
  after_reads_simp
theorem bw2_xg (V : Vals) : after bw2 V (Proc.devRef .tc main_while1b_v39) = numG (Host.exp (V (Proc.devRef .tc main_while1b_v37) : W S8)) := by
  after_reads_simp
  rfl
theorem bw2_a (V : Vals) : after bw2 V (Proc.devRef .tc main_while1b_v41) = decayT (V (Proc.devRef .tc main_while1b_v32)) (V (Proc.devRef .tc main_while1b_v37)) := by
  after_reads_simp
  rfl
theorem bw2_k (V : Vals) : after bw2 V (Proc.devRef .tc main_while1b_v42) = colK (V (Proc.devRef .tc main_while1b_v34)) := by
  after_reads_simp
  rfl
theorem bw2_e (V : Vals) : after bw2 V (Proc.devRef .tc main_while1b_v46) = errT (V (Proc.devRef .tc main_while1b_v32)) (V (Proc.devRef .tc main_while1b_v34)) (V (Proc.devRef .tc main_while1b_v35)) (V (Proc.devRef .tc main_while1b_v37)) := by
  after_reads_simp
  rfl
theorem bw2_b (V : Vals) : after bw2 V (Proc.devRef .tc main_while1b_v47) = numH (V (Proc.devRef .tc main_while1b_v36)) := by
  after_reads_simp
  rfl
theorem bw2_u (V : Vals) : after bw2 V (Proc.devRef .tc main_while1b_v49) = mulf (errT (V (Proc.devRef .tc main_while1b_v32)) (V (Proc.devRef .tc main_while1b_v34)) (V (Proc.devRef .tc main_while1b_v35)) (V (Proc.devRef .tc main_while1b_v37)))
    (numR (V (Proc.devRef .tc main_while1b_v36))) := by
  after_reads_simp
  rfl

theorem bw3_k (V : Vals) : after bw3 V (Proc.devRef .tc main_while1b_v50) = colK (V (Proc.devRef .tc main_while1b_v34)) := by
  after_reads_simp
  rfl
theorem bw3_u (V : Vals) : after bw3 V (Proc.devRef .tc main_while1b_v51) = rowU (V (Proc.devRef .tc main_while1b_v49)) := by
  after_reads_simp
  rfl
theorem bw3_q (V : Vals) : after bw3 V (Proc.devRef .tc main_while1b_v60) = shapeCast S8x128x1 (sumJ (mulf (addf (V (Proc.devRef .tc main_while1b_v41))
    (mulf (colS (V (Proc.devRef .tc main_while1b_v34))) (rowS (V (Proc.devRef .tc main_while1b_v49))))) (rowT (V (Proc.devRef .tc main_while1b_v31))))) shapeCasts_S8x128_S8x128x1 := by
  after_reads_simp
  rfl
theorem bw3_d (V : Vals) : after bw3 V (Proc.devRef .tc main_while1b_v63) = addf (V (Proc.devRef .tc main_v21_8))
    (mulf (rowT (V (Proc.devRef .tc main_while1b_v31))) (colS (V (Proc.devRef .tc main_while1b_v33)))) := by
  after_reads_simp
  rfl

/-- The gradient of the written values. -/
def duT (k : W S8x128x1) (D : W S8x128x128) : W S8x128 := red1 (shapeCast S8x1x128 (sumI (mulf (colB k) D)) shapeCasts_S8x128_S8x1x128)

theorem bw4_q (V : Vals) : after bw4 V (Proc.devRef .tc main_while1b_v64) = red2 (V (Proc.devRef .tc main_while1b_v60)) := by
  after_reads_simp
  rfl
theorem bw4_k (V : Vals) : after bw4 V (Proc.devRef .tc main_while1b_v74) = red2 (shapeCast S8x128x1 (sumJ (mulf (V (Proc.devRef .tc main_while1b_v63)) (rowB (V (Proc.devRef .tc main_while1b_v51))))) shapeCasts_S8x128_S8x128x1) := by
  after_reads_simp
  rfl
theorem bw4_v (V : Vals) : after bw4 V (Proc.devRef .tc main_while1b_v79) = mulf (duT (V (Proc.devRef .tc main_while1b_v50)) (V (Proc.devRef .tc main_while1b_v63))) (numRB (V (Proc.devRef .tc main_while1b_v47))) := by
  after_reads_simp
  rfl
theorem bw4_b (V : Vals) : after bw4 V (Proc.devRef .tc main_while1b_v80) = red8 (shapeCast S8x1 (sumR (mulf (V (Proc.devRef .tc main_while1b_v46))
    (duT (V (Proc.devRef .tc main_while1b_v50)) (V (Proc.devRef .tc main_while1b_v63))))) shapeCasts_S8_S8x1) := by
  after_reads_simp
  rfl

/-- The gradient of the decayed states. -/
def deT (D : W S8x128x128) (dv : W S8x128) (k : W S8x128x1) : W S8x128x128 := addf D (mulf (rowT (Host.negf dv)) (colB k))

theorem bw5_k (V : Vals) : after bw5 V (Proc.devRef .tc main_while1b_v90) = addf (V (Proc.devRef .tc main_while1b_v74))
    (red2 (shapeCast S8x128x1 (sumJ (mulf (V (Proc.devRef .tc main_while1b_v41)) (rowT (Host.negf (V (Proc.devRef .tc main_while1b_v79) : W S8x128))))) shapeCasts_S8x128_S8x128x1)) := by
  after_reads_simp
  rfl
theorem bw5_s (V : Vals) : after bw5 V (Proc.devRef .tc main_while1b_v95) = mulf (deT (V (Proc.devRef .tc main_while1b_v63)) (V (Proc.devRef .tc main_while1b_v79)) (V (Proc.devRef .tc main_while1b_v42)))
    (numB (V (Proc.devRef .tc main_while1b_v39))) := by
  after_reads_simp
  rfl
theorem bw5_g (V : Vals) : after bw5 V (Proc.devRef .tc main_while1b_v97) = mulf (red11 (shapeCast S8x1x1 (sumIJ (mulf (V (Proc.devRef .tc main_while1b_v32))
    (deT (V (Proc.devRef .tc main_while1b_v63)) (V (Proc.devRef .tc main_while1b_v79)) (V (Proc.devRef .tc main_while1b_v42))))) shapeCasts_S8_S8x1x1)) (V (Proc.devRef .tc main_while1b_v38)) := by
  after_reads_simp
  rfl

theorem bw6_q (V : Vals) : after bw6 V (Proc.devRef .tc main_while1b_v98) = set3 (V (Proc.devRef .tc main_while1b_v30)) (V (Proc.devRef .tc main_v21_9)) (V (Proc.devRef .tc main_while1b_v64)) := by
  after_results_entrywise [cast_eq]
theorem bw6_k (V : Vals) : after bw6 V (Proc.devRef .tc main_while1b_v99) = set3 (V (Proc.devRef .tc main_while1b_v30)) (V (Proc.devRef .tc main_v21_10)) (V (Proc.devRef .tc main_while1b_v90)) := by
  after_results_entrywise [cast_eq]
theorem bw6_v (V : Vals) : after bw6 V (Proc.devRef .tc main_while1b_v100) = set3 (V (Proc.devRef .tc main_while1b_v30)) (V (Proc.devRef .tc main_v21_11)) (V (Proc.devRef .tc main_while1b_v79)) := by
  after_results_entrywise [cast_eq]
theorem bw6_b (V : Vals) : after bw6 V (Proc.devRef .tc main_while1b_v101) = set2 (V (Proc.devRef .tc main_while1b_v30)) (V (Proc.devRef .tc main_v21_12)) (V (Proc.devRef .tc main_while1b_v80)) := by
  after_results_entrywise [cast_eq]
theorem bw6_g (V : Vals) : after bw6 V (Proc.devRef .tc main_while1b_v102) = set2 (V (Proc.devRef .tc main_while1b_v30)) (V (Proc.devRef .tc main_v21_13)) (V (Proc.devRef .tc main_while1b_v97)) := by
  after_results_entrywise [cast_eq]

theorem bw7_s (V : Vals) : after bw7 V (Proc.devRef .tc main_v21_8) = V (Proc.devRef .tc main_while1b_v95) := by
  after_reads_simp
  rfl
theorem bw7_q (V : Vals) : after bw7 V (Proc.devRef .tc main_v21_9) = V (Proc.devRef .tc main_while1b_v98) := by
  after_reads_simp
  rfl
theorem bw7_k (V : Vals) : after bw7 V (Proc.devRef .tc main_v21_10) = V (Proc.devRef .tc main_while1b_v99) := by
  after_reads_simp
  rfl
theorem bw7_v (V : Vals) : after bw7 V (Proc.devRef .tc main_v21_11) = V (Proc.devRef .tc main_while1b_v100) := by
  after_reads_simp
  rfl
theorem bw7_b (V : Vals) : after bw7 V (Proc.devRef .tc main_v21_12) = V (Proc.devRef .tc main_while1b_v101) := by
  after_reads_simp
  rfl
theorem bw7_g (V : Vals) : after bw7 V (Proc.devRef .tc main_v21_13) = V (Proc.devRef .tc main_while1b_v102) := by
  after_reads_simp
  rfl

/-! ## On real numbers -/

section Up
variable (q k v o : Mat 8 128) (β g : Fin 8 → ℝ) (S B : Fin 8 → Mat 128 128)

/-- The error of a token. -/
def er (h : Fin 8) (j : Fin 128) : ℝ := v h j - ∑ i, k h i * (S h i j * Real.exp (g h))

theorem decayT_up : decayT (ups S) (up1 g) = ups fun h => Matrix.of fun i j => S h i j * Real.exp (g h) := by
  rw [decayT, exp_up1, numS_up, mulS_up]
  rfl
theorem errT_up : errT (ups S) (up k) (up v) (up1 g) = up (Matrix.of fun h j => er k v g S h j) := by
  rw [errT, decayT_up, colS_up, mulS_up, sumI_up, subR_up]
  refine congrArg up ?_
  funext h j
  simp only [er, Matrix.of_apply]
  rw [Finset.sum_congr rfl fun x _ => mul_comm _ (k h x)]
theorem wroteT_up : mulf (errT (ups S) (up k) (up v) (up1 g)) (numR (up1 β)) = up (Matrix.of fun h j => wr (k h) (v h) (β h) (g h) (S h) j) := by
  rw [errT_up, numR_up, mulR_up]
  refine congrArg up ?_
  funext h j
  simp only [er, wr, Matrix.of_apply]
  ring
theorem gradQ_up (hc) : red2 (shapeCast S8x128x1 (sumJ (mulf (addf (decayT (ups S) (up1 g)) (mulf (colS (up k)) (rowS (up (Matrix.of fun h j => wr (k h) (v h) (β h) (g h) (S h) j)))))
    (rowT (up o)))) hc) = up (Matrix.of fun h => gradQ (k h) (v h) (o h) (β h) (g h) (S h)) := by
  rw [decayT_up, colS_up, rowS_up, mulS_up, addS_up, rowT_up, mulS_up, sumJ_up, red2, one2]
  rfl
theorem dD_up : addf (ups B) (mulf (rowT (up o)) (colS (up q))) = ups fun h => dD (q h) (o h) (B h) := by
  rw [rowT_up, colS_up, mulS_up, addS_up]
  refine congrArg ups ?_
  funext h i j
  simp only [dD, Matrix.of_apply]
  ring
theorem dU_up : duT (colK (up k)) (ups fun h => dD (q h) (o h) (B h)) = up (Matrix.of fun h => dU (q h) (k h) (o h) (B h)) := by
  rw [duT, show colB (colK (up k)) = colS (up k) from rfl, colS_up, mulS_up, sumI_up, red1, one1]
  rfl
theorem gradV_up : mulf (up (Matrix.of fun h => dU (q h) (k h) (o h) (B h))) (numRB (numH (up1 β))) = up (Matrix.of fun h => gradV (q h) (k h) (o h) (β h) (B h)) := by
  rw [show numRB (numH (up1 β)) = numR (up1 β) from rfl, numR_up, mulR_up]
  refine congrArg up ?_
  funext h j
  simp only [gradV, Matrix.of_apply]
  ring
theorem gradR_up (hc) : red8 (shapeCast S8x1 (sumR (mulf (up (Matrix.of fun h j => er k v g S h j)) (up (Matrix.of fun h => dU (q h) (k h) (o h) (B h))))) hc) =
    up1 fun h => gradR (q h) (k h) (v h) (o h) (g h) (S h) (B h) := by
  rw [mulR_up, sumR_up, red8, one8]
  refine congrArg up1 ?_
  funext h
  simp only [gradR, er, Matrix.of_apply]
  exact Finset.sum_congr rfl fun x _ => mul_comm _ _
theorem gradK_up (hc) (hc') : addf (red2 (shapeCast S8x128x1 (sumJ (mulf (ups fun h => dD (q h) (o h) (B h)) (rowB (rowU (up (Matrix.of fun h j => wr (k h) (v h) (β h) (g h) (S h) j)))))) hc))
    (red2 (shapeCast S8x128x1 (sumJ (mulf (decayT (ups S) (up1 g)) (rowT (Host.negf (up (Matrix.of fun h => gradV (q h) (k h) (o h) (β h) (B h)) : W S8x128))))) hc')) =
    up (Matrix.of fun h => gradK (q h) (k h) (v h) (o h) (β h) (g h) (S h) (B h)) := by
  rw [show rowB (rowU (up (Matrix.of fun h j => wr (k h) (v h) (β h) (g h) (S h) j))) = rowS (up (Matrix.of fun h j => wr (k h) (v h) (β h) (g h) (S h) j)) from rfl,
    rowS_up, mulS_up, sumJ_up, red2, one2, decayT_up, negR_up, rowT_up, mulS_up, sumJ_up, red2, one2, addR_up]
  refine congrArg up ?_
  funext h i
  simp only [gradK, gradV, Matrix.of_apply, mul_neg, Finset.sum_neg_distrib]
  rfl
theorem dE_up : deT (ups fun h => dD (q h) (o h) (B h)) (up (Matrix.of fun h => gradV (q h) (k h) (o h) (β h) (B h))) (colK (up k)) =
    ups fun h => dE (q h) (k h) (o h) (β h) (B h) := by
  rw [deT, show colB (colK (up k)) = colS (up k) from rfl, negR_up, rowT_up, colS_up, mulS_up, addS_up]
  refine congrArg ups ?_
  funext h i j
  simp only [dE, gradV, Matrix.of_apply]
  ring
theorem bstep_up : mulf (ups fun h => dE (q h) (k h) (o h) (β h) (B h)) (numB (numG (Host.exp (up1 g)))) = ups fun h => bstep (q h) (k h) (o h) (β h) (g h) (B h) := by
  rw [exp_up1, show ∀ x, numB (numG x) = numS x from fun _ => rfl, numS_up, mulS_up]
  refine congrArg ups ?_
  funext h i j
  simp only [bstep, Matrix.of_apply]
  ring
theorem gradG_up (hc) : mulf (red11 (shapeCast S8x1x1 (sumIJ (mulf (ups S) (ups fun h => dE (q h) (k h) (o h) (β h) (B h)))) hc)) (Host.exp (up1 g)) =
    up1 fun h => gradG (q h) (k h) (o h) (β h) (g h) (S h) (B h) := by
  rw [mulS_up, sumIJ_up, red11, one11, exp_up1, mul_up1]
  refine congrArg up1 ?_
  funext h
  simp only [gradG, bstep, Matrix.of_apply, Finset.sum_mul]
  refine Finset.sum_congr rfl fun i _ => Finset.sum_congr rfl fun j _ => ?_
  ring
end Up

/-! ## One trip back -/

/-- The contents after one trip. -/
def trip1 (V : Vals) : Vals := after bw7 (after bw6 (after bw5 (after bw4 (after bw3 (after bw2 (after bw1 (after bw0 (after cond1 V))))))))
theorem trip1_eq (V : Vals) : afterL body1 (after cond1 V) = trip1 V := by
  simp only [afterL_cons, afterL_nil]
  rfl
theorem trip1_keep (V : Vals) (r : Ref sig .tc) (hc : r ∉ cond1_W) (h0 : r ∉ bw0_W) (h1 : r ∉ bw1_W) (h2 : r ∉ bw2_W) (h3 : r ∉ bw3_W) (h4 : r ∉ bw4_W) (h5 : r ∉ bw5_W) (h6 : r ∉ bw6_W) (h7 : r ∉ bw7_W) :
    trip1 V (Proc.devRef .tc r) = V (Proc.devRef .tc r) := by
  rw [trip1, bw7_keep _ _ h7, bw6_keep _ _ h6, bw5_keep _ _ h5, bw4_keep _ _ h4, bw3_keep _ _ h3, bw2_keep _ _ h2, bw1_keep _ _ h1, bw0_keep _ _ h0, cond1_keep _ _ hc]

/-- What the buffers hold after `n` trips back. -/
structure Inv1 (a b d : ℕ → ℕ → ℝ) (V : Vals) (n : ℕ) : Prop where
  o : V (Proc.devRef .tc main_v21_0) = ups (rowsOf (os d))
  ss : ∀ (t : Fin 8320) (h : Fin 8) (i j : Fin 128), (V (Proc.devRef .tc main_v21_1) : W S8320x8x128x128) (ix4 t h i j) = ((st a b h.val t.val i j : ℝ) : EReal)
  q : V (Proc.devRef .tc main_v21_2) = ups (rowsOf (qs a))
  k : V (Proc.devRef .tc main_v21_3) = ups (rowsOf (ks a))
  v : V (Proc.devRef .tc main_v21_4) = ups (rowsOf (vs a))
  β : V (Proc.devRef .tc main_v21_5) = (up (numsOf (bs b)) : W S8320x8)
  g : V (Proc.devRef .tc main_v21_6) = (up (numsOf (ds b)) : W S8320x8)
  ctr : V (Proc.devRef .tc main_v21_7) = fun _ : S_.Idx => BitVec.ofNat 32 n
  s : V (Proc.devRef .tc main_v21_8) = ups (fun h : Fin 8 => bk a b d h.val n)
  dq : ∀ (t : Fin 8320) (h : Fin 8) (j : Fin 128), 8320 ≤ t.val + n → (V (Proc.devRef .tc main_v21_9) : W S8320x8x128) (ix3 t h j) =
    ((gradQ (ks a h.val t.val) (vs a h.val t.val) (os d h.val t.val) (bs b h.val t.val) (ds b h.val t.val) (st a b h.val t.val) j : ℝ) : EReal)
  dk : ∀ (t : Fin 8320) (h : Fin 8) (j : Fin 128), 8320 ≤ t.val + n → (V (Proc.devRef .tc main_v21_10) : W S8320x8x128) (ix3 t h j) =
    ((gradK (qs a h.val t.val) (ks a h.val t.val) (vs a h.val t.val) (os d h.val t.val) (bs b h.val t.val) (ds b h.val t.val) (st a b h.val t.val) (bk a b d h.val (8320 - (t.val + 1))) j : ℝ) : EReal)
  dv : ∀ (t : Fin 8320) (h : Fin 8) (j : Fin 128), 8320 ≤ t.val + n → (V (Proc.devRef .tc main_v21_11) : W S8320x8x128) (ix3 t h j) =
    ((gradV (qs a h.val t.val) (ks a h.val t.val) (os d h.val t.val) (bs b h.val t.val) (bk a b d h.val (8320 - (t.val + 1))) j : ℝ) : EReal)
  db : ∀ (t : Fin 8320) (h : Fin 8), 8320 ≤ t.val + n → (V (Proc.devRef .tc main_v21_12) : W S8320x8) (ix2 t h) = ((dbeta a b d h.val t.val : ℝ) : EReal)
  dg : ∀ (t : Fin 8320) (h : Fin 8), 8320 ≤ t.val + n → (V (Proc.devRef .tc main_v21_13) : W S8320x8) (ix2 t h) = ((ddecay a b d h.val t.val : ℝ) : EReal)

section Trip
variable {a b d : ℕ → ℕ → ℝ} {V : Vals} {n : ℕ}

/-- The token of the trip, its rows, numbers and states. -/
theorem t_t (hn : n < 8320) (H : Inv1 a b d V n) : after bw0 (after cond1 V) (Proc.devRef .tc main_while1b_v30) = fun _ : S_.Idx => BitVec.ofNat 32 (8319 - n) := by
  rw [bw0_t, cond1_keep _ main_v21_7 (by decide +kernel)]
  exact tok_eq hn H.ctr
theorem t_o (hn : n < 8320) (H : Inv1 a b d V n) : after bw0 (after cond1 V) (Proc.devRef .tc main_while1b_v31) = (up (rowAt (os d) (8319 - n)) : W S8x128) := by
  rw [bw0_o, cond1_keep _ main_v21_7 (by decide +kernel), cond1_keep _ main_v21_0 (by decide +kernel), H.o]
  exact get3_eq (by omega) (tok_eq hn H.ctr) _
theorem t_s (hn : n < 8320) (H : Inv1 a b d V n) : after bw0 (after cond1 V) (Proc.devRef .tc main_while1b_v32) = (ups (fun h : Fin 8 => st a b h.val (8319 - n)) : W S8x128x128) := by
  rw [bw0_s, cond1_keep _ main_v21_7 (by decide +kernel), cond1_keep _ main_v21_1 (by decide +kernel), get4_eq (by omega) (tok_eq hn H.ctr)]
  funext x
  exact H.ss ⟨8319 - n, by omega⟩ (x 0) (x 1) (x 2)
theorem t_q (hn : n < 8320) (H : Inv1 a b d V n) : after bw1 (after bw0 (after cond1 V)) (Proc.devRef .tc main_while1b_v33) = (up (rowAt (qs a) (8319 - n)) : W S8x128) := by
  rw [bw1_q, t_t hn H, bw0_keep _ main_v21_2 (by decide +kernel), cond1_keep _ main_v21_2 (by decide +kernel), H.q]
  exact get3_eq (by omega) rfl _
theorem t_k (hn : n < 8320) (H : Inv1 a b d V n) : after bw1 (after bw0 (after cond1 V)) (Proc.devRef .tc main_while1b_v34) = (up (rowAt (ks a) (8319 - n)) : W S8x128) := by
  rw [bw1_k, t_t hn H, bw0_keep _ main_v21_3 (by decide +kernel), cond1_keep _ main_v21_3 (by decide +kernel), H.k]
  exact get3_eq (by omega) rfl _
theorem t_v (hn : n < 8320) (H : Inv1 a b d V n) : after bw1 (after bw0 (after cond1 V)) (Proc.devRef .tc main_while1b_v35) = (up (rowAt (vs a) (8319 - n)) : W S8x128) := by
  rw [bw1_v, t_t hn H, bw0_keep _ main_v21_4 (by decide +kernel), cond1_keep _ main_v21_4 (by decide +kernel), H.v]
  exact get3_eq (by omega) rfl _
theorem t_β (hn : n < 8320) (H : Inv1 a b d V n) : after bw1 (after bw0 (after cond1 V)) (Proc.devRef .tc main_while1b_v36) = (up1 (numAt (bs b) (8319 - n)) : W S8) := by
  rw [bw1_β, t_t hn H, bw0_keep _ main_v21_5 (by decide +kernel), cond1_keep _ main_v21_5 (by decide +kernel), H.β]
  exact get2_eq (by omega) rfl _
theorem t_g (hn : n < 8320) (H : Inv1 a b d V n) : after bw1 (after bw0 (after cond1 V)) (Proc.devRef .tc main_while1b_v37) = (up1 (numAt (ds b) (8319 - n)) : W S8) := by
  rw [bw1_g, t_t hn H, bw0_keep _ main_v21_6 (by decide +kernel), cond1_keep _ main_v21_6 (by decide +kernel), H.g]
  exact get2_eq (by omega) rfl _
/-- The decayed states, the errors and the written values. -/
theorem t_a (hn : n < 8320) (H : Inv1 a b d V n) : after bw2 (after bw1 (after bw0 (after cond1 V))) (Proc.devRef .tc main_while1b_v41) = decayT (ups (fun h : Fin 8 => st a b h.val (8319 - n))) (up1 (numAt (ds b) (8319 - n))) := by
  rw [bw2_a, t_g hn H, bw1_keep _ main_while1b_v32 (by decide +kernel), t_s hn H]
theorem t_e (hn : n < 8320) (H : Inv1 a b d V n) : after bw2 (after bw1 (after bw0 (after cond1 V))) (Proc.devRef .tc main_while1b_v46) = (up (Matrix.of fun h j => er (rowAt (ks a) (8319 - n)) (rowAt (vs a) (8319 - n)) (numAt (ds b) (8319 - n)) (fun h : Fin 8 => st a b h.val (8319 - n)) h j) : W S8x128) := by
  rw [bw2_e, t_g hn H, t_k hn H, t_v hn H, bw1_keep _ main_while1b_v32 (by decide +kernel), t_s hn H]
  exact errT_up _ _ _ _
theorem t_u (hn : n < 8320) (H : Inv1 a b d V n) : after bw2 (after bw1 (after bw0 (after cond1 V))) (Proc.devRef .tc main_while1b_v49) = (up (Matrix.of fun h j => wr ((rowAt (ks a) (8319 - n)) h) ((rowAt (vs a) (8319 - n)) h) ((numAt (bs b) (8319 - n)) h) ((numAt (ds b) (8319 - n)) h) ((fun h : Fin 8 => st a b h.val (8319 - n)) h) j) : W S8x128) := by
  rw [bw2_u, t_g hn H, t_k hn H, t_v hn H, t_β hn H, bw1_keep _ main_while1b_v32 (by decide +kernel), t_s hn H]
  exact wroteT_up _ _ _ _ _
/-- The gradient of the new states. -/
theorem t_D (hn : n < 8320) (H : Inv1 a b d V n) : after bw3 (after bw2 (after bw1 (after bw0 (after cond1 V)))) (Proc.devRef .tc main_while1b_v63) = (ups fun h => dD ((rowAt (qs a) (8319 - n)) h) ((rowAt (os d) (8319 - n)) h) ((fun h : Fin 8 => bk a b d h.val n) h)) := by
  rw [bw3_d, bw2_keep _ main_v21_8 (by decide +kernel), bw1_keep _ main_v21_8 (by decide +kernel), bw0_keep _ main_v21_8 (by decide +kernel), cond1_keep _ main_v21_8 (by decide +kernel), H.s, bw2_keep _ main_while1b_v31 (by decide +kernel), bw1_keep _ main_while1b_v31 (by decide +kernel), t_o hn H, bw2_keep _ main_while1b_v33 (by decide +kernel), t_q hn H]
  exact dD_up _ _ _
/-- The gradients of the queries. -/
theorem t_dq (hn : n < 8320) (H : Inv1 a b d V n) : after bw4 (after bw3 (after bw2 (after bw1 (after bw0 (after cond1 V))))) (Proc.devRef .tc main_while1b_v64) = (up (Matrix.of fun h => gradQ ((rowAt (ks a) (8319 - n)) h) ((rowAt (vs a) (8319 - n)) h) ((rowAt (os d) (8319 - n)) h) ((numAt (bs b) (8319 - n)) h) ((numAt (ds b) (8319 - n)) h) ((fun h : Fin 8 => st a b h.val (8319 - n)) h)) : W S8x128) := by
  rw [bw4_q, bw3_q, t_a hn H, bw2_keep _ main_while1b_v34 (by decide +kernel), t_k hn H, t_u hn H, bw2_keep _ main_while1b_v31 (by decide +kernel), bw1_keep _ main_while1b_v31 (by decide +kernel), t_o hn H]
  exact gradQ_up _ _ _ _ _ _ _
theorem t_k0 (hn : n < 8320) (H : Inv1 a b d V n) : after bw3 (after bw2 (after bw1 (after bw0 (after cond1 V)))) (Proc.devRef .tc main_while1b_v50) = colK (up (rowAt (ks a) (8319 - n))) := by
  rw [bw3_k, bw2_keep _ main_while1b_v34 (by decide +kernel), t_k hn H]
/-- The gradients of the values and of the rates. -/
theorem t_dv (hn : n < 8320) (H : Inv1 a b d V n) : after bw4 (after bw3 (after bw2 (after bw1 (after bw0 (after cond1 V))))) (Proc.devRef .tc main_while1b_v79) = (up (Matrix.of fun h => gradV ((rowAt (qs a) (8319 - n)) h) ((rowAt (ks a) (8319 - n)) h) ((rowAt (os d) (8319 - n)) h) ((numAt (bs b) (8319 - n)) h) ((fun h : Fin 8 => bk a b d h.val n) h)) : W S8x128) := by
  rw [bw4_v, t_D hn H, t_k0 hn H, bw3_keep _ main_while1b_v47 (by decide +kernel), bw2_b, t_β hn H]
  exact (congrArg (fun x => mulf x (numRB (numH (up1 (numAt (bs b) (8319 - n)))))) (dU_up (rowAt (qs a) (8319 - n)) (rowAt (ks a) (8319 - n)) (rowAt (os d) (8319 - n)) (fun h : Fin 8 => bk a b d h.val n))).trans (gradV_up _ _ _ _ _)
theorem t_db (hn : n < 8320) (H : Inv1 a b d V n) : after bw4 (after bw3 (after bw2 (after bw1 (after bw0 (after cond1 V))))) (Proc.devRef .tc main_while1b_v80) = (up1 (fun h => gradR ((rowAt (qs a) (8319 - n)) h) ((rowAt (ks a) (8319 - n)) h) ((rowAt (vs a) (8319 - n)) h) ((rowAt (os d) (8319 - n)) h) ((numAt (ds b) (8319 - n)) h) ((fun h : Fin 8 => st a b h.val (8319 - n)) h) ((fun h : Fin 8 => bk a b d h.val n) h)) : W S8) := by
  rw [bw4_b, t_D hn H, t_k0 hn H, bw3_keep _ main_while1b_v46 (by decide +kernel), t_e hn H]
  exact (congrArg (fun x => red8 (shapeCast S8x1 (sumR (mulf (up (Matrix.of fun h j => er (rowAt (ks a) (8319 - n)) (rowAt (vs a) (8319 - n)) (numAt (ds b) (8319 - n)) (fun h : Fin 8 => st a b h.val (8319 - n)) h j)) x)) shapeCasts_S8_S8x1)) (dU_up (rowAt (qs a) (8319 - n)) (rowAt (ks a) (8319 - n)) (rowAt (os d) (8319 - n)) (fun h : Fin 8 => bk a b d h.val n))).trans (gradR_up _ _ _ _ _ _ _ _)
/-- The gradients of the keys. -/
theorem t_dk (hn : n < 8320) (H : Inv1 a b d V n) : after bw5 (after bw4 (after bw3 (after bw2 (after bw1 (after bw0 (after cond1 V)))))) (Proc.devRef .tc main_while1b_v90) = (up (Matrix.of fun h => gradK ((rowAt (qs a) (8319 - n)) h) ((rowAt (ks a) (8319 - n)) h) ((rowAt (vs a) (8319 - n)) h) ((rowAt (os d) (8319 - n)) h) ((numAt (bs b) (8319 - n)) h) ((numAt (ds b) (8319 - n)) h) ((fun h : Fin 8 => st a b h.val (8319 - n)) h) ((fun h : Fin 8 => bk a b d h.val n) h)) : W S8x128) := by
  rw [bw5_k, bw4_k, t_D hn H, bw3_u, t_u hn H, bw4_keep _ main_while1b_v41 (by decide +kernel), bw3_keep _ main_while1b_v41 (by decide +kernel), t_a hn H, t_dv hn H]
  exact gradK_up _ _ _ _ _ _ _ _ _ _
/-- The gradient of the decayed states. -/
theorem t_E (hn : n < 8320) (H : Inv1 a b d V n) : deT (after bw4 (after bw3 (after bw2 (after bw1 (after bw0 (after cond1 V))))) (Proc.devRef .tc main_while1b_v63)) (after bw4 (after bw3 (after bw2 (after bw1 (after bw0 (after cond1 V))))) (Proc.devRef .tc main_while1b_v79)) (after bw4 (after bw3 (after bw2 (after bw1 (after bw0 (after cond1 V))))) (Proc.devRef .tc main_while1b_v42)) = (ups fun h => dE ((rowAt (qs a) (8319 - n)) h) ((rowAt (ks a) (8319 - n)) h) ((rowAt (os d) (8319 - n)) h) ((numAt (bs b) (8319 - n)) h) ((fun h : Fin 8 => bk a b d h.val n) h)) := by
  rw [bw4_keep _ main_while1b_v63 (by decide +kernel), t_D hn H, t_dv hn H, bw4_keep _ main_while1b_v42 (by decide +kernel), bw3_keep _ main_while1b_v42 (by decide +kernel), bw2_k, t_k hn H]
  exact dE_up _ _ _ _ _
/-- The gradient of the states before the token. -/
theorem t_ds (hn : n < 8320) (H : Inv1 a b d V n) : after bw5 (after bw4 (after bw3 (after bw2 (after bw1 (after bw0 (after cond1 V)))))) (Proc.devRef .tc main_while1b_v95) = (ups (fun h : Fin 8 => bk a b d h.val (n + 1)) : W S8x128x128) := by
  rw [bw5_s, t_E hn H, bw4_keep _ main_while1b_v39 (by decide +kernel), bw3_keep _ main_while1b_v39 (by decide +kernel), bw2_xg, t_g hn H]
  refine (bstep_up _ _ _ _ _ _).trans (congrArg ups (funext fun h => ?_))
  show bstep _ _ _ _ _ _ = back _ _ _ _ _ _ _ (n + 1)
  rw [back, show 8320 - 1 - n = 8319 - n from by omega]
  rfl
/-- The gradients of the decays. -/
theorem t_dg (hn : n < 8320) (H : Inv1 a b d V n) : after bw5 (after bw4 (after bw3 (after bw2 (after bw1 (after bw0 (after cond1 V)))))) (Proc.devRef .tc main_while1b_v97) = (up1 (fun h => gradG ((rowAt (qs a) (8319 - n)) h) ((rowAt (ks a) (8319 - n)) h) ((rowAt (os d) (8319 - n)) h) ((numAt (bs b) (8319 - n)) h) ((numAt (ds b) (8319 - n)) h) ((fun h : Fin 8 => st a b h.val (8319 - n)) h) ((fun h : Fin 8 => bk a b d h.val n) h)) : W S8) := by
  rw [bw5_g, t_E hn H, bw4_keep _ main_while1b_v32 (by decide +kernel), bw3_keep _ main_while1b_v32 (by decide +kernel), bw2_keep _ main_while1b_v32 (by decide +kernel), bw1_keep _ main_while1b_v32 (by decide +kernel), t_s hn H, bw4_keep _ main_while1b_v38 (by decide +kernel), bw3_keep _ main_while1b_v38 (by decide +kernel), bw2_x, t_g hn H]
  exact gradG_up _ _ _ _ _ _ _ _

/-- One trip back is the derivative of one token of every head. -/
theorem inv1_step (hn : n < 8320) (H : Inv1 a b d V n) : Inv1 a b d (trip1 V) (n + 1) where
  o := (trip1_keep V _ (by decide +kernel) (by decide +kernel) (by decide +kernel) (by decide +kernel) (by decide +kernel) (by decide +kernel) (by decide +kernel) (by decide +kernel) (by decide +kernel)).trans H.o
  q := (trip1_keep V _ (by decide +kernel) (by decide +kernel) (by decide +kernel) (by decide +kernel) (by decide +kernel) (by decide +kernel) (by decide +kernel) (by decide +kernel) (by decide +kernel)).trans H.q
  k := (trip1_keep V _ (by decide +kernel) (by decide +kernel) (by decide +kernel) (by decide +kernel) (by decide +kernel) (by decide +kernel) (by decide +kernel) (by decide +kernel) (by decide +kernel)).trans H.k
  v := (trip1_keep V _ (by decide +kernel) (by decide +kernel) (by decide +kernel) (by decide +kernel) (by decide +kernel) (by decide +kernel) (by decide +kernel) (by decide +kernel) (by decide +kernel)).trans H.v
  β := (trip1_keep V _ (by decide +kernel) (by decide +kernel) (by decide +kernel) (by decide +kernel) (by decide +kernel) (by decide +kernel) (by decide +kernel) (by decide +kernel) (by decide +kernel)).trans H.β
  g := (trip1_keep V _ (by decide +kernel) (by decide +kernel) (by decide +kernel) (by decide +kernel) (by decide +kernel) (by decide +kernel) (by decide +kernel) (by decide +kernel) (by decide +kernel)).trans H.g
  ss := by
    rw [trip1_keep V main_v21_1 (by decide +kernel) (by decide +kernel) (by decide +kernel) (by decide +kernel) (by decide +kernel) (by decide +kernel) (by decide +kernel) (by decide +kernel) (by decide +kernel)]
    exact H.ss
  ctr := by
    rw [← trip1_eq, ctr1_step, H.ctr]
    funext j
    show BitVec.ofNat 32 n + 1#32 = BitVec.ofNat 32 (n + 1)
    rw [BitVec.ofNat_add]
  s := by
    rw [trip1, bw7_s, bw6_keep _ main_while1b_v95 (by decide +kernel)]
    exact t_ds hn H
  dq := by
    intro t h j ht
    rw [trip1, bw7_q, bw6_q, bw5_keep _ main_while1b_v30 (by decide +kernel), bw4_keep _ main_while1b_v30 (by decide +kernel), bw3_keep _ main_while1b_v30 (by decide +kernel), bw2_keep _ main_while1b_v30 (by decide +kernel), bw1_keep _ main_while1b_v30 (by decide +kernel), t_t hn H, bw5_keep _ main_v21_9 (by decide +kernel), bw4_keep _ main_v21_9 (by decide +kernel), bw3_keep _ main_v21_9 (by decide +kernel), bw2_keep _ main_v21_9 (by decide +kernel), bw1_keep _ main_v21_9 (by decide +kernel), bw0_keep _ main_v21_9 (by decide +kernel), cond1_keep _ main_v21_9 (by decide +kernel), bw5_keep _ main_while1b_v64 (by decide +kernel), t_dq hn H, set3_at (n := 8319 - n) (by omega) rfl]
    by_cases htn : t.val = 8319 - n
    · rw [if_pos htn]
      rw [htn]
      rfl
    · rw [if_neg htn]
      exact H.dq t h j (by omega)
  dk := by
    intro t h j ht
    rw [trip1, bw7_k, bw6_k, bw5_keep _ main_while1b_v30 (by decide +kernel), bw4_keep _ main_while1b_v30 (by decide +kernel), bw3_keep _ main_while1b_v30 (by decide +kernel), bw2_keep _ main_while1b_v30 (by decide +kernel), bw1_keep _ main_while1b_v30 (by decide +kernel), t_t hn H, bw5_keep _ main_v21_10 (by decide +kernel), bw4_keep _ main_v21_10 (by decide +kernel), bw3_keep _ main_v21_10 (by decide +kernel), bw2_keep _ main_v21_10 (by decide +kernel), bw1_keep _ main_v21_10 (by decide +kernel), bw0_keep _ main_v21_10 (by decide +kernel), cond1_keep _ main_v21_10 (by decide +kernel), t_dk hn H, set3_at (n := 8319 - n) (by omega) rfl]
    by_cases htn : t.val = 8319 - n
    · rw [if_pos htn]
      have hB : 8320 - (t.val + 1) = n := by omega
      rw [hB, htn]
      rfl
    · rw [if_neg htn]
      exact H.dk t h j (by omega)
  dv := by
    intro t h j ht
    rw [trip1, bw7_v, bw6_v, bw5_keep _ main_while1b_v30 (by decide +kernel), bw4_keep _ main_while1b_v30 (by decide +kernel), bw3_keep _ main_while1b_v30 (by decide +kernel), bw2_keep _ main_while1b_v30 (by decide +kernel), bw1_keep _ main_while1b_v30 (by decide +kernel), t_t hn H, bw5_keep _ main_v21_11 (by decide +kernel), bw4_keep _ main_v21_11 (by decide +kernel), bw3_keep _ main_v21_11 (by decide +kernel), bw2_keep _ main_v21_11 (by decide +kernel), bw1_keep _ main_v21_11 (by decide +kernel), bw0_keep _ main_v21_11 (by decide +kernel), cond1_keep _ main_v21_11 (by decide +kernel), bw5_keep _ main_while1b_v79 (by decide +kernel), t_dv hn H, set3_at (n := 8319 - n) (by omega) rfl]
    by_cases htn : t.val = 8319 - n
    · rw [if_pos htn]
      have hB : 8320 - (t.val + 1) = n := by omega
      rw [hB, htn]
      rfl
    · rw [if_neg htn]
      exact H.dv t h j (by omega)
  db := by
    intro t h ht
    rw [trip1, bw7_b, bw6_b, bw5_keep _ main_while1b_v30 (by decide +kernel), bw4_keep _ main_while1b_v30 (by decide +kernel), bw3_keep _ main_while1b_v30 (by decide +kernel), bw2_keep _ main_while1b_v30 (by decide +kernel), bw1_keep _ main_while1b_v30 (by decide +kernel), t_t hn H, bw5_keep _ main_v21_12 (by decide +kernel), bw4_keep _ main_v21_12 (by decide +kernel), bw3_keep _ main_v21_12 (by decide +kernel), bw2_keep _ main_v21_12 (by decide +kernel), bw1_keep _ main_v21_12 (by decide +kernel), bw0_keep _ main_v21_12 (by decide +kernel), cond1_keep _ main_v21_12 (by decide +kernel), bw5_keep _ main_while1b_v80 (by decide +kernel), t_db hn H, set2_at (n := 8319 - n) (by omega) rfl]
    by_cases htn : t.val = 8319 - n
    · rw [if_pos htn]
      have hB : 8320 - (t.val + 1) = n := by omega
      unfold dbeta
      rw [hB, htn]
      rfl
    · rw [if_neg htn]
      exact H.db t h (by omega)
  dg := by
    intro t h ht
    rw [trip1, bw7_g, bw6_g, bw5_keep _ main_while1b_v30 (by decide +kernel), bw4_keep _ main_while1b_v30 (by decide +kernel), bw3_keep _ main_while1b_v30 (by decide +kernel), bw2_keep _ main_while1b_v30 (by decide +kernel), bw1_keep _ main_while1b_v30 (by decide +kernel), t_t hn H, bw5_keep _ main_v21_13 (by decide +kernel), bw4_keep _ main_v21_13 (by decide +kernel), bw3_keep _ main_v21_13 (by decide +kernel), bw2_keep _ main_v21_13 (by decide +kernel), bw1_keep _ main_v21_13 (by decide +kernel), bw0_keep _ main_v21_13 (by decide +kernel), cond1_keep _ main_v21_13 (by decide +kernel), t_dg hn H, set2_at (n := 8319 - n) (by omega) rfl]
    by_cases htn : t.val = 8319 - n
    · rw [if_pos htn]
      have hB : 8320 - (t.val + 1) = n := by omega
      unfold ddecay
      rw [hB, htn]
      rfl
    · rw [if_neg htn]
      exact H.dg t h (by omega)

/-- After `n` trips. -/
theorem inv1_trips (W₀ : Dev nD → Vals) (c : Dev nD) (h : Inv1 a b d (W₀ c) 0) : ∀ n ≤ 8320, Inv1 a b d (atTrip cond1 body1 W₀ n c) n
  | 0, _ => h
  | n + 1, hn => by
    rw [atTrip_succ, trip1_eq]
    exact inv1_step (by omega) (inv1_trips W₀ c h n (by omega))
end Trip

end Cert.RefReal
end
-- ==== Proof.RefResult.lean ====
/-
  The results of the reference: the outputs of the token recurrence, and the gradients of its queries, keys, values, rates
  and decays.
-/
module

public import proofs.«01_k».proof.Proof.RefBwd

@[expose] public section

set_option maxRecDepth 16384

noncomputable section
namespace Cert.RefReal

open Cert.ReferenceIdeal Cert.ReferenceIdeal.Gen Cert.RefRun Cert.Block Cert.Back Cert.Delta Cert.Lift Idealize.ShloMosaic
  Idealize.ShloMosaic.TcCoe Idealize.SL.Sem Idealize.ShloMosaic.StableHlo Idealize.ShloMosaic.Tactic

/-- The gradients of the rates and decays of token `n`, in column `l`. -/
def dbg (a b d : ℕ → ℕ → ℝ) (n l : ℕ) : ℝ := if l < 8 then dbeta a b d l n else if l < 16 then ddecay a b d (l - 8) n else 0

/-- The rows of the gradients of the outputs, split over the heads. -/
theorem heads_o (d : ℕ → ℕ → ℝ) (x : W S8320x1024) (hx : ∀ i : S8320x1024.Idx, x i = ((d (i 0).val (i 1).val : ℝ) : EReal)) (hc) :
    (shapeCast S8320x8x128 x hc : W S8320x8x128) = ups (rowsOf (os d)) := by
  refine ups_ext fun t h j => ?_
  simp only [pointwise]
  refine (hx _).trans (congrArg Real.toEReal (congrArg₂ d ?_ ?_))
  · rfl
  · show h.val * 128 + j.val = 128 * h.val + j.val
    omega

/-! ## What the stretches between and after the loops write -/

theorem mid_o (V : Vals) : after midOps V (Proc.devRef .tc main_v12) = (shapeCast S8320x1024 (V (Proc.devRef .tc main_v11_7)) shapeCasts_S8320x8x128_S8320x1024 : W S8320x1024) := by
  after_reads_simp
  rfl
theorem mid_d (V : Vals) : after midOps V (Proc.devRef .tc main_v21_0) = (shapeCast S8320x8x128 (V (Proc.devRef .tc main_arg2)) shapeCasts_S8320x1024_S8320x8x128 : W S8320x8x128) := by
  after_reads_simp
  rfl
theorem mid_ss (V : Vals) : after midOps V (Proc.devRef .tc main_v21_1) = V (Proc.devRef .tc main_v11_8) := by
  after_reads_simp
  rfl
theorem mid_q (V : Vals) : after midOps V (Proc.devRef .tc main_v21_2) = V (Proc.devRef .tc main_v3) := by
  after_reads_simp
  rfl
theorem mid_k (V : Vals) : after midOps V (Proc.devRef .tc main_v21_3) = V (Proc.devRef .tc main_v4) := by
  after_reads_simp
  rfl
theorem mid_v (V : Vals) : after midOps V (Proc.devRef .tc main_v21_4) = V (Proc.devRef .tc main_v5) := by
  after_reads_simp
  rfl
theorem mid_β (V : Vals) : after midOps V (Proc.devRef .tc main_v21_5) = V (Proc.devRef .tc main_v6) := by
  after_reads_simp
  rfl
theorem mid_g (V : Vals) : after midOps V (Proc.devRef .tc main_v21_6) = V (Proc.devRef .tc main_v7) := by
  after_reads_simp
  rfl
theorem mid_s (V : Vals) : after midOps V (Proc.devRef .tc main_v21_8) = (broadcastInDim S8x128x128 ![] bcast_S_S8x128x128 (constant S_ .f32 0x00000000#32) : W S8x128x128) := by
  after_reads_simp
  rfl
theorem post_bg (V : Vals) : after postOps V (Proc.devRef .tc main_v24) = (addf
    (pad S8320x128 ![0, 8] ![0, 112] ![0, 0] (V (Proc.devRef .tc main_v21_13) : W S8320x8) (constant S_ .f32 0x00000000#32) pads_S8320x8_S8320x128_000_81120 h_S_)
    (pad S8320x128 ![0, 0] ![0, 120] ![0, 0] (V (Proc.devRef .tc main_v21_12) : W S8320x8) (constant S_ .f32 0x00000000#32) pads_S8320x8_S8320x128_000_01200 h_S_) : W S8320x128) := by
  after_reads_simp
theorem post_qkv (V : Vals) : after postOps V (Proc.devRef .tc main_v28) = (concatenate S8320x3072 1
    [⟨S8320x1024, (shapeCast S8320x1024 (V (Proc.devRef .tc main_v21_9)) shapeCasts_S8320x8x128_S8320x1024 : W S8320x1024)⟩,
     ⟨S8320x1024, (shapeCast S8320x1024 (V (Proc.devRef .tc main_v21_10)) shapeCasts_S8320x8x128_S8320x1024 : W S8320x1024)⟩,
     ⟨S8320x1024, (shapeCast S8320x1024 (V (Proc.devRef .tc main_v21_11)) shapeCasts_S8320x8x128_S8320x1024 : W S8320x1024)⟩]
    concatenates_S8320x1024_S8320x1024_S8320x1024_S8320x3072_d1 : W S8320x3072) := by
  after_results_entrywise [cast_eq]

/-- Eight columns after eight of zeros. -/
theorem pad_g (x : W S8320x8) (n : Fin 8320) (l : Fin 128) (hp) (hh) :
    pad S8320x128 ![0, 8] ![0, 112] ![0, 0] x (constant S_ .f32 0x00000000#32) hp hh (ix2 n l) = if h : 8 ≤ l.val ∧ l.val < 16 then x (ix2 n ⟨l.val - 8, by omega⟩) else 0 := by
  simp only [pointwise]
  by_cases h : 8 ≤ l.val ∧ l.val < 16
  · rw [dif_pos h, dif_pos (by intro a; fin_cases a <;> simp <;> omega)]
    refine congrArg x (congrArg₂ ix2 (Fin.ext ?_) (Fin.ext ?_)) <;> simp
  · rw [dif_neg h, dif_neg (by intro hh; have := hh 1; simp at this; omega)]
/-- Eight columns before zeros. -/
theorem pad_b (x : W S8320x8) (n : Fin 8320) (l : Fin 128) (hp) (hh) :
    pad S8320x128 ![0, 0] ![0, 120] ![0, 0] x (constant S_ .f32 0x00000000#32) hp hh (ix2 n l) = if h : l.val < 8 then x (ix2 n ⟨l.val, h⟩) else 0 := by
  simp only [pointwise]
  by_cases h : l.val < 8
  · rw [dif_pos h, dif_pos (by intro a; fin_cases a <;> simp <;> omega)]
    refine congrArg x (congrArg₂ ix2 (Fin.ext ?_) (Fin.ext ?_)) <;> simp
  · rw [dif_neg h, dif_neg (by intro hh; have := hh 1; simp at this; omega)]
/-- Three blocks of columns side by side. -/
theorem cat3 (x y z : W S8320x1024) (n : Fin 8320) (j : Fin 3072) (hc) :
    (concatenate S8320x3072 1 [⟨S8320x1024, x⟩, ⟨S8320x1024, y⟩, ⟨S8320x1024, z⟩] hc : W S8320x3072) (ix2 n j) =
      if h : j.val < 1024 then x (ix2 n ⟨j.val, h⟩) else if h' : j.val < 2048 then y (ix2 n ⟨j.val - 1024, by omega⟩) else z (ix2 n ⟨j.val - 2048, by omega⟩) := by
  simp [pointwise]
  by_cases h : j.val < 1024
  · rw [dif_pos h, dif_pos h]
  · rw [dif_neg h, dif_neg h]
    by_cases h' : j.val < 2048
    · rw [dif_pos h', dif_pos (by omega)]
    · rw [dif_neg h', dif_neg (by omega)]
      exact congrArg z (congrArg (ix2 n) (Fin.ext (by show j.val - 1024 - 1024 = j.val - 2048; omega)))

section Results
variable {m : (ℓ : Loc nD τ sig) → Buf (Elt Ideal) ℓ} {c : Dev nD} {a b d : ℕ → ℕ → ℝ}
  (hA : ∀ i : S8320x3072.Idx, m ((c : Thread nD τ).loc main_arg0) i = ((a (i 0).val (i 1).val : ℝ) : EReal))
  (hB : ∀ i : S8320x128.Idx, m ((c : Thread nD τ).loc main_arg1) i = ((b (i 0).val (i 1).val : ℝ) : EReal))
  (hD : ∀ i : S8320x1024.Idx, m ((c : Thread nD τ).loc main_arg2) i = ((d (i 0).val (i 1).val : ℝ) : EReal))

/-- The contents when the first loop is left. -/
def left0 (m : (ℓ : Loc nD τ sig) → Buf (Elt Ideal) ℓ) (c : Dev nD) : Vals := after cond0 (atTrip cond0 body0 (entryContents (F := Ideal) [preOps] m) 8320 c)
theorem entry1_eq (m : (ℓ : Loc nD τ sig) → Buf (Elt Ideal) ℓ) (c : Dev nD) : entry1 (F := Ideal) m c = after midOps (left0 m c) := by
  simp only [entry1, TwoLoops.between, afterL_cons, afterL_nil]
  rfl
/-- The contents when the second loop is left. -/
def left1 (m : (ℓ : Loc nD τ sig) → Buf (Elt Ideal) ℓ) (c : Dev nD) : Vals := after cond1 (atTrip cond1 body1 (entry1 (F := Ideal) m) 8320 c)
theorem final_eq (m : (ℓ : Loc nD τ sig) → Buf (Elt Ideal) ℓ) (c : Dev nD) : final (F := Ideal) m c = after postOps (left1 m c) := by
  simp only [final, TwoLoops.atEnd, afterL_cons, afterL_nil]
  rfl

include hA hB in
theorem left0_inv : Inv0 a b (m ((c : Thread nD τ).loc main_arg2)) (atTrip cond0 body0 (entryContents (F := Ideal) [preOps] m) 8320 c) 8320 :=
  inv0_trips _ c (inv0_entry a b hA hB) 8320 le_rfl

include hA hB hD in
/-- Before the second loop: the states before every token, nothing written. -/
theorem inv1_entry : Inv1 a b d (entry1 (F := Ideal) m c) 0 := by
  have H := left0_inv hA hB
  rw [entry1_eq]
  constructor
  · rw [mid_d, left0, cond0_keep _ _ (by decide +kernel), H.d2]
    exact heads_o d _ hD _
  · intro t h i j
    rw [mid_ss, left0, cond0_keep _ _ (by decide +kernel)]
    exact H.ss t h i j t.isLt
  · rw [mid_q, left0, cond0_keep _ _ (by decide +kernel), H.q3]
  · rw [mid_k, left0, cond0_keep _ _ (by decide +kernel), H.k4]
  · rw [mid_v, left0, cond0_keep _ _ (by decide +kernel), H.v5]
  · rw [mid_β, left0, cond0_keep _ _ (by decide +kernel), H.β6]
  · rw [mid_g, left0, cond0_keep _ _ (by decide +kernel), H.g7]
  · rw [← entry1_eq]
    exact ctr1_entry m c
  · rw [mid_s]
    exact ups_ext fun h i j => zero_f32
  · intro t h j ht
    exact absurd t.isLt (by omega)
  · intro t h j ht
    exact absurd t.isLt (by omega)
  · intro t h j ht
    exact absurd t.isLt (by omega)
  · intro t h ht
    exact absurd t.isLt (by omega)
  · intro t h ht
    exact absurd t.isLt (by omega)

include hA hB hD in
theorem left1_inv : Inv1 a b d (atTrip cond1 body1 (entry1 (F := Ideal) m) 8320 c) 8320 :=
  inv1_trips _ c (inv1_entry hA hB hD) 8320 le_rfl

/-- The second loop keeps the outputs. -/
theorem keep_o (W₀ : Dev nD → Vals) : ∀ n, atTrip cond1 body1 W₀ n c (Proc.devRef .tc main_v12) = W₀ c (Proc.devRef .tc main_v12)
  | 0 => rfl
  | n + 1 => by
    rw [atTrip_succ, trip1_eq, trip1_keep _ _ (by decide +kernel) (by decide +kernel) (by decide +kernel) (by decide +kernel) (by decide +kernel) (by decide +kernel) (by decide +kernel) (by decide +kernel) (by decide +kernel)]
    exact keep_o W₀ n

/-- Eight heads' rows side by side. -/
theorem joined (x : W S8320x8x128) (hc) (n : Fin 8320) (j : Fin 1024) :
    (shapeCast S8320x1024 x hc : W S8320x1024) (ix2 n j) = x (ix3 n ⟨j.val / 128, by omega⟩ ⟨j.val % 128, by omega⟩) := by
  simp only [pointwise]

include hA hB in
/-- The outputs. -/
theorem result_o (i : S8320x1024.Idx) : (final (F := Ideal) m c (Proc.devRef .tc main_v12) : W S8320x1024) i = ((oR a b (i 0).val (i 1).val : ℝ) : EReal) := by
  have H := left0_inv hA hB
  rw [final_eq, postOps_keep _ _ (by decide +kernel), left1, cond1_keep _ _ (by decide +kernel), keep_o, entry1_eq, mid_o, left0, cond0_keep _ _ (by decide +kernel), eq_ix2 i]
  exact (joined _ _ (i 0) (i 1)).trans (H.o (i 0) _ _ (i 0).isLt)

include hA hB hD in
/-- The gradients of the rates and decays. -/
theorem result_bg (i : S8320x128.Idx) : (final (F := Ideal) m c (Proc.devRef .tc main_v24) : W S8320x128) i = ((dbg a b d (i 0).val (i 1).val : ℝ) : EReal) := by
  have H := left1_inv hA hB hD
  have e12 : left1 m c (Proc.devRef .tc main_v21_12) = (up (Matrix.of fun t h => dbeta a b d h.val t.val) : W S8320x8) := by
    rw [left1, cond1_keep _ _ (by decide +kernel)]
    exact up_ext fun t h => H.db t h (by omega)
  have e13 : left1 m c (Proc.devRef .tc main_v21_13) = (up (Matrix.of fun t h => ddecay a b d h.val t.val) : W S8320x8) := by
    rw [left1, cond1_keep _ _ (by decide +kernel)]
    exact up_ext fun t h => H.dg t h (by omega)
  have hl : (i 1).val < 128 := (i 1).isLt
  rw [final_eq, post_bg, e12, e13, eq_ix2 i]
  refine (congrArg₂ (fun x y : EReal => x + y) (pad_g _ (i 0) (i 1) _ _) (pad_b _ (i 0) (i 1) _ _)).trans ?_
  show _ = ((dbg a b d (i 0).val (i 1).val : ℝ) : EReal)
  unfold dbg
  by_cases h : (i 1).val < 8
  · rw [dif_neg (by omega), dif_pos h, if_pos h, zero_add]
    rfl
  · by_cases h' : (i 1).val < 16
    · rw [dif_pos ⟨by omega, h'⟩, dif_neg h, if_neg h, if_pos h', add_zero]
      rfl
    · rw [dif_neg (by omega), dif_neg h, if_neg h, if_neg h', add_zero]
      rfl

include hA hB hD in
/-- The gradients of the queries, keys and values. -/
theorem result_qkv (i : S8320x3072.Idx) : (final (F := Ideal) m c (Proc.devRef .tc main_v28) : W S8320x3072) i = ((dqkv a b d (i 0).val (i 1).val : ℝ) : EReal) := by
  have H := left1_inv hA hB hD
  have hj : (i 1).val < 3072 := (i 1).isLt
  rw [final_eq, post_qkv, left1, cond1_keep _ _ (by decide +kernel), cond1_keep _ _ (by decide +kernel), cond1_keep _ _ (by decide +kernel), eq_ix2 i]
  refine (cat3 _ _ _ (i 0) (i 1) _).trans ?_
  show _ = ((dqkv a b d (i 0).val (i 1).val : ℝ) : EReal)
  unfold dqkv
  by_cases h : (i 1).val < 1024
  · rw [dif_pos h]
    refine (joined _ _ (i 0) ⟨(i 1).val, h⟩).trans ((H.dq (i 0) _ _ (by omega)).trans (congrArg Real.toEReal ?_))
    simp only [h, if_true]
    have e : (i 1).val / 128 % 8 = (i 1).val / 128 := by omega
    rw [e]
  · rw [dif_neg h]
    by_cases h' : (i 1).val < 2048
    · rw [dif_pos h']
      refine (joined _ _ (i 0) ⟨(i 1).val - 1024, by omega⟩).trans ((H.dk (i 0) _ _ (by omega)).trans (congrArg Real.toEReal ?_))
      simp only [h, h', if_true, if_false]
      have e : (i 1).val / 128 % 8 = ((i 1).val - 1024) / 128 := by omega
      have e' : ((i 1).val - 1024) % 128 = (i 1).val % 128 := by omega
      simp only [e, e']
    · rw [dif_neg h']
      refine (joined _ _ (i 0) ⟨(i 1).val - 2048, by omega⟩).trans ((H.dv (i 0) _ _ (by omega)).trans (congrArg Real.toEReal ?_))
      simp only [h, h', if_true, if_false]
      have e : (i 1).val / 128 % 8 = ((i 1).val - 2048) / 128 := by omega
      have e' : ((i 1).val - 2048) % 128 = (i 1).val % 128 := by omega
      simp only [e, e']
end Results

end Cert.RefReal
end
-- ==== Proof.KernelResult.lean ====
/-
  What the kernel's results hold at the end: the outputs of the token recurrence, the gradients of the queries, keys and
  values, and the gradients of the rates and decays.
-/
module

public import proofs.«01_k».proof.Proof.KernelRun
public import proofs.«01_k».proof.Proof.FwdArray
public import proofs.«01_k».proof.Proof.BwdArray
public import proofs.«01_k».proof.Proof.RefResult

@[expose] public section

set_option maxRecDepth 16384

noncomputable section
namespace Cert.KernelRun

open Cert.KernelIdeal Cert.KernelIdeal.Gen Cert.Block Cert.Head Cert.Back Idealize.ShloMosaic Idealize.ShloMosaic.TcCoe Idealize.SL.Sem
open Idealize.ShloMosaic.Pipeline (afterRegion)

/-- The contents of the device's buffers. -/
abbrev Vals := Valuation τ sig (Elt Ideal)
/-- Arrays of exact numbers. -/
abbrev A (s : Shape) := FVec Ideal s .f32

/-! ## The host's lines -/

theorem host0_rows (V : Vals) : StableHlo.after hostOps0 V (Proc.devRef .tc main_v2) = (transpose S130x8x64 [0, 2, 1] (shapeCast S130x64x8
    (extractStridedSlice S8320x8 ![0, 8] (V (Proc.devRef .tc main_arg1)) slices_S8320x128_S8320x8_0_8)
    shapeCasts_S8320x8_S130x64x8) transposes_S130x64x8_S130x8x64_0_2_1 : A S130x8x64) := by
  simp only [hostOps0]
  after_results_entrywise []
theorem host2_rows (V : Vals) : StableHlo.after hostOps2 V (Proc.devRef .tc main_v6) = (shapeCast S8320x8 (transpose S130x64x8 [0, 2, 1] (V (Proc.devRef .tc main_v4_2))
    transposes_S130x8x64_S130x64x8_0_2_1) shapeCasts_S130x64x8_S8320x8 : A S8320x8) := by
  simp only [hostOps2]
  after_results_entrywise []
theorem host2_zero (V : Vals) : StableHlo.after hostOps2 V (Proc.devRef .tc main_c) = (constantI S_ 32 0x00000000#32 : IVec S_ 32) := by
  simp only [hostOps2]
  after_results_entrywise []
theorem host3_pad (V : Vals) : StableHlo.after hostOps2_1 V (Proc.devRef .tc main_v7) = (pad S8320x128 ![0, 8] ![0, 112] ![0, 0] (V (Proc.devRef .tc main_v6) : A S8320x8)
    (sitofp .f32 (V (Proc.devRef .tc main_c) : IVec S_ 32)) pads_S8320x8_S8320x128_000_81120 h_S_ : A S8320x128) := by
  simp only [hostOps2_1]
  after_results_entrywise [cast_eq]
theorem host4_add (V : Vals) : StableHlo.after hostOps2_2 V (Proc.devRef .tc main_v8) = (addf (V (Proc.devRef .tc main_v4_1)) (V (Proc.devRef .tc main_v7)) : A S8320x128) := by
  simp only [hostOps2_2]
  after_results_entrywise []

/-- Eight columns after eight of zeros. -/
theorem pad_at (x : A S8320x8) (n : Fin 8320) (l : Fin 128) (hp) (hh) :
    pad S8320x128 ![0, 8] ![0, 112] ![0, 0] x (sitofp .f32 (constantI S_ 32 0x00000000#32) : A S_) hp hh (ix2 n l) =
      if h : 8 ≤ l.val ∧ l.val < 16 then x (ix2 n ⟨l.val - 8, by omega⟩) else 0 := by
  simp only [pointwise]
  by_cases h : 8 ≤ l.val ∧ l.val < 16
  · rw [dif_pos h, dif_pos (by intro a; fin_cases a <;> simp <;> omega)]
    refine congrArg x (congrArg₂ ix2 (Fin.ext ?_) (Fin.ext ?_)) <;> simp
  · rw [dif_neg h, dif_neg (by intro hh; have := hh 1; simp at this; omega)]
    show (((0#32 : BitVec 32).toInt : ℝ) : EReal) = 0
    simp
/-- The rows of the chunks, token by token. -/
theorem rows_at (x : A S130x8x64) (n : Fin 8320) (l : Fin 8) :
    shapeCast S8320x8 (transpose S130x64x8 [0, 2, 1] x transposes_S130x8x64_S130x64x8_0_2_1) shapeCasts_S130x64x8_S8320x8 (ix2 n l) =
      x (ix3 ⟨n.val / 64, by omega⟩ l ⟨n.val % 64, by omega⟩) := by
  simp only [pointwise]

section Results

variable {m : (ℓ : Loc nD τ sig) → Buf (Elt Ideal) ℓ} {c : Dev nD} {a b d : ℕ → ℕ → ℝ}
  (hA : ∀ i : S8320x3072.Idx, m ((c : Thread nD τ).loc main_arg0) i = ((a (i 0).val (i 1).val : ℝ) : EReal))
  (hB : ∀ i : S8320x128.Idx, m ((c : Thread nD τ).loc main_arg1) i = ((b (i 0).val (i 1).val : ℝ) : EReal))
  (hD : ∀ i : S8320x1024.Idx, m ((c : Thread nD τ).loc main_arg2) i = ((d (i 0).val (i 1).val : ℝ) : EReal))

/-! ## What the calls are entered with -/

/-- The first host lines leave what they don't write. -/
theorem ent0_keep (m : (ℓ : Loc nD τ sig) → Buf (Elt Ideal) ℓ) (c : Dev nD) (r : Ref sig .tc) (h : r ∉ hostOps0_W) :
    ent0 (F := Ideal) m c r = m ((c.tc : Thread nD τ).loc r) := StableHlo.after_of_writes_sub hostOps0 _ hostOps0_writes h
/-- The forward call leaves what it doesn't write. -/
theorem ent1_keep (m : (ℓ : Loc nD τ sig) → Buf (Elt Ideal) ℓ) (c : Dev nD) (r : Ref sig .tc) (h : ∀ w, Pipeline.arrRef spec0 w = r → (cfg0.win w).isOut = false) :
    ent1 (F := Ideal) m c r = ent0 (F := Ideal) m c r :=
  Pipeline.afterRegion_keeps (Fwd.dat (ent0 m) c) (W1 m c) arr_inj0 (Fwd.A_eq (ent0 m) c) r h

include hA in
theorem ent0_a (i : S8320x3072.Idx) : ent0 (F := Ideal) m c main_arg0 i = ((a (i 0).val (i 1).val : ℝ) : EReal) :=
  (congrFun (ent0_keep m c main_arg0 (by decide)) i).trans (hA i)
include hB in
theorem ent0_b (i : S8320x128.Idx) : ent0 (F := Ideal) m c main_arg1 i = ((b (i 0).val (i 1).val : ℝ) : EReal) :=
  (congrFun (ent0_keep m c main_arg1 (by decide)) i).trans (hB i)
include hB in
theorem ent0_r (i : S130x8x64.Idx) : ent0 (F := Ideal) m c main_v2 i = ((b (64 * (i 0).val + (i 2).val) (8 + (i 1).val) : ℝ) : EReal) := by
  refine (congrFun (host0_rows (V0 m c)) i).trans ?_
  rw [eq_ix3 i]
  simp only [pointwise]
  refine (hB _).trans (congrArg Real.toEReal (congrArg₂ b ?_ ?_))
  · show 0 + ((i 0).val * 64 + (i 2).val) = 64 * (i 0).val + (i 2).val
    omega
  · show 8 + (i 1).val = 8 + (i 1).val
    rfl
include hA in
theorem ent1_a (i : S8320x3072.Idx) : ent1 (F := Ideal) m c main_arg0 i = ((a (i 0).val (i 1).val : ℝ) : EReal) :=
  (congrFun (ent1_keep m c main_arg0 (by decide)) i).trans (ent0_a hA i)
include hB in
theorem ent1_b (i : S8320x128.Idx) : ent1 (F := Ideal) m c main_arg1 i = ((b (i 0).val (i 1).val : ℝ) : EReal) :=
  (congrFun (ent1_keep m c main_arg1 (by decide)) i).trans (ent0_b hB i)
include hB in
theorem ent1_r (i : S130x8x64.Idx) : ent1 (F := Ideal) m c main_v2 i = ((b (64 * (i 0).val + (i 2).val) (8 + (i 1).val) : ℝ) : EReal) :=
  (congrFun (ent1_keep m c main_v2 (by decide)) i).trans (ent0_r hB i)
include hD in
theorem ent1_d (i : S8320x1024.Idx) : ent1 (F := Ideal) m c main_arg2 i = ((d (i 0).val (i 1).val : ℝ) : EReal) :=
  (congrFun (ent1_keep m c main_arg2 (by decide)) i).trans ((congrFun (ent0_keep m c main_arg2 (by decide)) i).trans (hD i))
include hA hB in
theorem ent1_s (i : S130x8x128x128.Idx) : ent1 (F := Ideal) m c main_v3_1 i = ((st a b (i 1).val (64 * (i 0).val) (i 2) (i 3) : ℝ) : EReal) :=
  congrFun ((Pipeline.afterRegion_arr (Fwd.dat (ent0 m) c) (W1 m c) arr_inj0 4).trans
    (FwdArray.array4 (ent0 m) c a b (ent0_a hA) (ent0_b hB) (ent0_r hB))) i
include hA hB in
theorem ent1_x (i : S130x8x64x64.Idx) : ent1 (F := Ideal) m c main_v3_2 i =
    xH (blk0 a (64 * (i 0).val)) (blk1 b (64 * (i 0).val)) (blk2 b (64 * (i 0).val)) (i 1) (ix2 (i 2) (i 3)) :=
  congrFun ((Pipeline.afterRegion_arr (Fwd.dat (ent0 m) c) (W1 m c) arr_inj0 5).trans
    (FwdArray.array5 (ent0 m) c a b (ent0_a hA) (ent0_b hB) (ent0_r hB))) i

/-! ## The results -/

/-- The host's last lines leave what they don't write. -/
theorem W6_host (m : (ℓ : Loc nD τ sig) → Buf (Elt Ideal) ℓ) (c : Dev nD) (r : Ref sig .tc) (h2 : r ∉ hostOps2_W) (h3 : r ∉ hostOps2_1_W) (h4 : r ∉ hostOps2_2_W) :
    W6 (F := Ideal) m c (Proc.devRef .tc r) = W3 (F := Ideal) m c (Proc.devRef .tc r) :=
  (StableHlo.after_of_writes_sub hostOps2_2 _ hostOps2_2_writes h4).trans <|
  (StableHlo.after_of_writes_sub hostOps2_1 _ hostOps2_1_writes h3).trans (StableHlo.after_of_writes_sub hostOps2 _ hostOps2_writes h2)

include hA hB in
/-- The outputs are the token recurrence's. -/
theorem kernel_o : W6 (F := Ideal) m c (Proc.devRef .tc main_v3_0) = fun i : S8320x1024.Idx => ((oR a b (i 0).val (i 1).val : ℝ) : EReal) :=
  (W6_host m c main_v3_0 (by decide) (by decide) (by decide)).trans <|
  (Pipeline.afterRegion_keeps (Bwd.dat (ent1 m) c) (W2 m c) arr_inj1 (Bwd.A_eq (ent1 m) c) main_v3_0 (by decide)).trans <|
  (Pipeline.afterRegion_arr (Fwd.dat (ent0 m) c) (W1 m c) arr_inj0 3).trans
    (FwdArray.array3 (ent0 m) c a b (ent0_a hA) (ent0_b hB) (ent0_r hB))
include hA hB hD in
/-- The gradients of the queries, keys and values. -/
theorem kernel_qkv : W6 (F := Ideal) m c (Proc.devRef .tc main_v4_0) = fun i : S8320x3072.Idx => ((dqkv a b d (i 0).val (i 1).val : ℝ) : EReal) :=
  (W6_host m c main_v4_0 (by decide) (by decide) (by decide)).trans <|
  (Pipeline.afterRegion_arr (Bwd.dat (ent1 m) c) (W2 m c) arr_inj1 6).trans
    (BwdArray.array6 (ent1 m) c a b d (ent1_a hA) (ent1_b hB) (ent1_r hB) (ent1_d hD) (ent1_s hA hB) (ent1_x hA hB))
include hA hB hD in
theorem W3_g : W3 (F := Ideal) m c (Proc.devRef .tc main_v4_1) = fun i : S8320x128.Idx =>
    ((cG a b d (64 * ((i 0).val / 64)) ⟨(i 0).val % 64, Nat.mod_lt _ (by omega)⟩ (i 1).val : ℝ) : EReal) :=
  (Pipeline.afterRegion_arr (Bwd.dat (ent1 m) c) (W2 m c) arr_inj1 7).trans
    (BwdArray.array7 (ent1 m) c a b d (ent1_a hA) (ent1_b hB) (ent1_r hB) (ent1_d hD) (ent1_s hA hB) (ent1_x hA hB))
include hA hB hD in
theorem W3_r : W3 (F := Ideal) m c (Proc.devRef .tc main_v4_2) = fun i : S130x8x64.Idx =>
    ((sgr a b d (64 * (i 0).val) (i 1).val (i 2) : ℝ) : EReal) :=
  (Pipeline.afterRegion_arr (Bwd.dat (ent1 m) c) (W2 m c) arr_inj1 8).trans
    (BwdArray.array8 (ent1 m) c a b d (ent1_a hA) (ent1_b hB) (ent1_r hB) (ent1_d hD) (ent1_s hA hB) (ent1_x hA hB))

/-- The two parts of the gradients of the rates and decays together. -/
theorem parts_sum (n : ℕ) (hn : n < 8320) (l : ℕ) :
    cG a b d (64 * (n / 64)) ⟨n % 64, Nat.mod_lt _ (by omega)⟩ l + (if 8 ≤ l ∧ l < 16 then sgr a b d (64 * (n / 64)) (l - 8) ⟨n % 64, Nat.mod_lt _ (by omega)⟩ else 0) =
      Cert.RefReal.dbg a b d n l := by
  have e : 64 * (n / 64) + n % 64 = n := Nat.div_add_mod n 64
  have h := decay_sum a b d (64 * (n / 64)) (by omega) (l - 8) ⟨n % 64, Nat.mod_lt _ (by omega)⟩
  simp only [e] at h
  unfold cG Cert.RefReal.dbg
  simp only [e]
  by_cases h8 : l < 8
  · rw [if_pos h8, if_neg (by omega), if_neg (by omega), if_pos h8, add_zero, add_zero]
  · by_cases h16 : l < 16
    · rw [if_neg h8, if_pos ⟨by omega, h16⟩, if_pos ⟨by omega, h16⟩, if_neg h8, if_pos h16, zero_add, h]
    · rw [if_neg h8, if_neg (by omega), if_neg (by omega), if_neg h8, if_neg h16, add_zero, add_zero]

include hA hB hD in
/-- The gradients of the rates and decays. -/
theorem kernel_bg : W6 (F := Ideal) m c (Proc.devRef .tc main_v8) = fun i : S8320x128.Idx => ((Cert.RefReal.dbg a b d (i 0).val (i 1).val : ℝ) : EReal) := by
  have e1 : W5 (F := Ideal) m c (Proc.devRef .tc main_v4_1) = W3 (F := Ideal) m c (Proc.devRef .tc main_v4_1) :=
    (StableHlo.after_of_writes_sub hostOps2_1 _ hostOps2_1_writes (by decide)).trans (StableHlo.after_of_writes_sub hostOps2 _ hostOps2_writes (by decide))
  have e2 : W5 (F := Ideal) m c (Proc.devRef .tc main_v7) = _ := host3_pad (W4 m c)
  have e3 : W4 (F := Ideal) m c (Proc.devRef .tc main_v6) = _ := host2_rows (W3 m c)
  have e4 : W4 (F := Ideal) m c (Proc.devRef .tc main_c) = _ := host2_zero (W3 m c)
  refine (host4_add (W5 m c)).trans ?_
  rw [e1, e2, e3, e4, W3_g hA hB hD, W3_r hA hB hD]
  funext i
  have hl : (i 1).val < 128 := (i 1).isLt
  have hn : (i 0).val < 8320 := (i 0).isLt
  rw [← parts_sum (i 0).val hn (i 1).val, eq_ix2 i]
  refine (congrArg (fun y : EReal => ((cG a b d (64 * ((i 0).val / 64)) ⟨(i 0).val % 64, Nat.mod_lt _ (by omega)⟩ (i 1).val : ℝ) : EReal) + y) (pad_at _ (i 0) (i 1) _ _)).trans ?_
  rw [EReal.coe_add]
  refine congrArg (fun y : EReal => ((cG a b d (64 * ((i 0).val / 64)) ⟨(i 0).val % 64, Nat.mod_lt _ (by omega)⟩ (i 1).val : ℝ) : EReal) + y) ?_
  by_cases h : 8 ≤ (i 1).val ∧ (i 1).val < 16
  · rw [dif_pos h]
    refine (rows_at _ (i 0) ⟨(i 1).val - 8, by omega⟩).trans ?_
    exact congrArg Real.toEReal (if_pos h).symm
  · rw [dif_neg h]
    exact (congrArg Real.toEReal (if_neg h)).symm

end Results
end Cert.KernelRun
end
-- ==== Proof.Finite.lean ====
/-
  What the precondition says: every entry of the arguments is a real number.
-/
module

public import proofs.«01_k».proof.Proof.Gen.Pre_finite
public import Idealize.ShloMosaic.Lib.ReduceAll
public import proofs.«01_k».proof.Proof.Lift

@[expose] public section

set_option maxRecDepth 16384

noncomputable section
namespace Cert.Finite

open Cert.Pre_finite Cert.Pre_finite.Gen Idealize.ShloMosaic Idealize.ShloMosaic.TcCoe

instance : Subsingleton S_.Idx := ⟨fun _ _ => funext fun a => a.elim0⟩

/-- The infinity that the entries are compared with. -/
theorem inf_f32 : (FloatOps.ofBits (F := Ideal) .f32 0x7F800000#32 : EReal) = ⊤ := by
  simp [Ideal.ofBits, Ideal.ieee]

/-- An entry whose absolute value is below infinity is a real number. -/
theorem real_of_lt {x : EReal} (h : max x (-x) < ⊤) : x = ((x.toReal : ℝ) : EReal) := by
  refine (EReal.coe_toReal ?_ ?_).symm
  · rintro rfl
    exact absurd h (by simp)
  · rintro rfl
    exact absurd h (by simp)

/-- An array all of whose entries' absolute values are below infinity holds real numbers. -/
theorem all_real {s : Shape} {axes : List (Fin s.rank)} (x : FVec Ideal s .f32) (hb) (hr : s.ReducesTo axes S_) (hu) (j : S_.Idx)
    (h : Host.reduce IntOp.andi (cmpf .olt (Host.absf x) (broadcastInDim s ![] hb (constant S_ .f32 0x7F800000#32)))
      (constantI S_ 1 1#1) hr hu j = 1#1) (i : s.Idx) : x i = (((x i : EReal).toReal : ℝ) : EReal) := by
  have e := Host.reduce_andi_all _ _ hr hu j h i
  have e' : Ideal.cmp .olt (max (x i : EReal) (-(x i))) (FloatOps.ofBits (F := Ideal) .f32 0x7F800000#32 : EReal) = 1#1 := e
  rw [inf_f32] at e'
  refine real_of_lt ?_
  by_contra hn
  simp [Ideal.cmp, hn] at e'

/-- The precondition: the three arrays hold real numbers. -/
theorem reals (x : FVec Ideal S8320x3072 .f32) (y : FVec Ideal S8320x128 .f32) (z : FVec Ideal S8320x1024 .f32)
    (h : fn (F := Ideal) x y z = fun _ => 1#1) :
    (∀ i, x i = (((x i : EReal).toReal : ℝ) : EReal)) ∧ (∀ i, y i = (((y i : EReal).toReal : ℝ) : EReal)) ∧
      ∀ i, z i = (((z i : EReal).toReal : ℝ) : EReal) := by
  obtain ⟨h12, h3⟩ := IntOp.andi_eq_one.1 (congrFun h (fun a => a.elim0))
  obtain ⟨h1, h2⟩ := IntOp.andi_eq_one.1 h12
  exact ⟨all_real x _ _ _ _ h1, all_real y _ _ _ _ h2, all_real z _ _ _ _ h3⟩

/-- The entries of a matrix of real numbers, by natural numbers. -/
def entry {n m : ℕ} (x : FVec Ideal ⟨2, ![n, m]⟩ .f32) (i j : ℕ) : ℝ :=
  if h : i < n ∧ j < m then (x (ix2 ⟨i, h.1⟩ ⟨j, h.2⟩) : EReal).toReal else 0

theorem entry_eq {n m : ℕ} (x : FVec Ideal ⟨2, ![n, m]⟩ .f32) (hx : ∀ i, x i = (((x i : EReal).toReal : ℝ) : EReal))
    (i : (⟨2, ![n, m]⟩ : Shape).Idx) : x i = ((entry x (i 0).val (i 1).val : ℝ) : EReal) := by
  refine (hx i).trans (congrArg Real.toEReal ?_)
  unfold entry
  rw [dif_pos ⟨(i 0).isLt, (i 1).isLt⟩]
  exact congrArg (fun k => (x k : EReal).toReal) (eq_ix2 i)

end Cert.Finite
end
-- ==== Proof.GateReal.lean ====
/-
  The gates' backward call on one block of 320 tokens, over the reals: with `X` the projection's columns, `P` the
  parameters' rows (the logarithms of the decay rates in row 0, the biases in row 1) and `D` the gradients of the rates
  and decays, its stored block holds the gradients of the columns, and its two sums run over the block's tokens.
-/
module

public import proofs.«01_k».proof.Proof.Gen.Kernel2Ideal.Skeleton
public import Idealize.ShloMosaic.Lib.Pointwise.Contract
public import Idealize.ShloMosaic.Lib.Pointwise.Reduce
public import Idealize.ShloMosaic.Lib.Pointwise.Elementwise
public import Idealize.ShloMosaic.Lib.Pointwise.Select
public import Idealize.ShloMosaic.Lib.Pointwise.ShapeOps
public import Idealize.ShloMosaic.Lib.Pointwise.Reshape
public import Mathlib.Analysis.SpecialFunctions.Log.Basic

@[expose] public section

set_option maxRecDepth 16384

noncomputable section
namespace Cert.Gate

open Cert.Kernel2Ideal Idealize.ShloMosaic

/-! ## The two functions of the gates -/

/-- The logistic function. -/
def sg (x : ℝ) : ℝ := (1 + Real.exp (-x))⁻¹

/-- The softplus function. -/
def sp (x : ℝ) : ℝ := Real.log (1 + Real.exp x)

/-- The softplus by its larger part and the rest. -/
theorem sp_split (x : ℝ) : max x 0 + Real.log (1 + Real.exp (-|x|)) = sp x := by
  unfold sp
  rcases le_total x 0 with h | h
  · rw [max_eq_right h, abs_of_nonpos h, neg_neg, zero_add]
  · rw [max_eq_left h, abs_of_nonneg h]
    have e : 1 + Real.exp x = Real.exp x * (1 + Real.exp (-x)) := by
      rw [mul_add, ← Real.exp_add, add_neg_cancel, Real.exp_zero, mul_one, add_comm]
    rw [e, Real.log_mul (Real.exp_pos x).ne' (by positivity), Real.log_exp]

/-- The softplus's derivative is the logistic function. -/
theorem sg_eq (x : ℝ) : sg x = (1 + Real.exp x)⁻¹ * Real.exp x := by
  unfold sg
  have h : Real.exp x * Real.exp (-x) = 1 := by rw [← Real.exp_add, add_neg_cancel, Real.exp_zero]
  have p : 0 < Real.exp x := Real.exp_pos x
  have q : 0 < Real.exp (-x) := Real.exp_pos (-x)
  rw [inv_mul_eq_div, eq_div_iff (by positivity), inv_mul_eq_iff_eq_mul₀ (by positivity)]
  linear_combination -h

/-! ## The masks -/

theorem lane_lt (b : Fin 128) : IntOp.cmpi CmpIPredicate.slt (BitVec.ofNat 32 b.val) 8#32 = if b.val < 8 then 1#1 else 0#1 := by
  revert b; decide +kernel

theorem lane_in (b : Fin 128) : IntOp.andi (IntOp.cmpi CmpIPredicate.sge (BitVec.ofNat 32 b.val) 8#32) (IntOp.cmpi CmpIPredicate.slt (BitVec.ofNat 32 b.val) 16#32) =
    if 8 ≤ b.val ∧ b.val < 16 then 1#1 else 0#1 := by
  revert b; decide +kernel

theorem row_ge : ∀ (t : Fin 26) (a : Fin 320), IntOp.cmpi CmpIPredicate.sge (IntOp.addi (IntOp.muli (BitVec.ofNat 32 t.val) 320#32) (BitVec.ofNat 32 a.val)) 112#32 =
    if 112 ≤ 320 * t.val + a.val then 1#1 else 0#1 := by
  decide +kernel

theorem pick {α : Type} (p : Prop) [Decidable p] (x y : α) : Scalar.select (if p then 1#1 else 0#1) x y = if p then x else y := by
  by_cases h : p <;> simp [h, Scalar.select]

theorem mask8 (a : Fin 320) (b : Fin 128) : Gen.k0_pay8 (ix2 a b) = if b.val < 8 then 1#1 else 0#1 := by
  rw [← lane_lt]
  simp [Gen.k0_pay8, pointwise, ix2]

theorem mask9 (a : Fin 320) (b : Fin 128) : Gen.k0_pay9 (ix2 a b) = if 8 ≤ b.val ∧ b.val < 16 then 1#1 else 0#1 := by
  rw [← lane_in]
  simp [Gen.k0_pay9, pointwise, ix2]

theorem mask14 (i : grid0.Coords) (a : Fin 320) (b : Fin 128) : Gen.k0_pay14 i (ix2 a b) = if 112 ≤ 320 * (i 0).val + a.val then 1#1 else 0#1 := by
  rw [← row_ge ⟨(i 0).val, (i 0).isLt⟩ a]
  simp [Gen.k0_pay14, pointwise, ix2, Scalar.muli]

/-! ## The block's entries -/

theorem coe_sum {ι : Type*} (s : Finset ι) (f : ι → ℝ) : ((∑ k ∈ s, f k : ℝ) : EReal) = ∑ k ∈ s, (f k : EReal) := by
  classical
  induction s using Finset.induction_on with
  | empty => rfl
  | insert a s h ih => rw [Finset.sum_insert h, Finset.sum_insert h, EReal.coe_add, ih]

theorem coe_max (x y : ℝ) : ((max x y : ℝ) : EReal) = max (x : EReal) (y : EReal) := EReal.coe_strictMono.monotone.map_max

theorem log1p_exp (z : ℝ) : Ideal.log1p ((Real.exp z : ℝ) : EReal) = ((Real.log (1 + Real.exp z) : ℝ) : EReal) := by
  have h : ¬ (1 + Real.exp z ≤ 0) := not_le.2 (by positivity)
  show Ideal.log (((1 : ℝ) : EReal) + ((Real.exp z : ℝ) : EReal)) = _
  rw [← EReal.coe_add, Ideal.log_coe, if_neg h]

theorem softplus_at (z : ℝ) : max (z : EReal) 0 + Ideal.log1p (Ideal.exp (-(FloatOps.absf (F := Ideal) (φ := .f32) (z : EReal)))) = ((sp z : ℝ) : EReal) := by
  have e : -(FloatOps.absf (F := Ideal) (φ := .f32) (z : EReal)) = ((-|z| : ℝ) : EReal) := by
    show -(max (z : EReal) (-(z : EReal))) = _
    rw [← EReal.coe_neg, ← coe_max, ← EReal.coe_neg]; rfl
  rw [e, Ideal.exp_coe, log1p_exp, ← EReal.coe_zero, ← coe_max, ← EReal.coe_add, sp_split]

/-- A block of rows from row `o` on of a real array. -/
def rows {n m : ℕ} (A : ℕ → ℕ → ℝ) (o : ℕ) : (⟨2, ![n, m]⟩ : Shape).Idx → EReal := fun i => ((A (o + (i 0).val) (i 1).val : ℝ) : EReal)

variable (X P D : ℕ → ℕ → ℝ) (o : ℕ)

theorem pay10_at (a : Fin 320) (b : Fin 128) : Gen.k0_pay10 (F := Ideal) (rows X o) (ix2 a b) = ((sg (X (o + a.val) b.val) : ℝ) : EReal) := by
  simp only [Gen.k0_pay10, pointwise, Ideal.logistic_def]
  exact Ideal.logistic_coe _

theorem pay11_at (a : Fin 320) (b : Fin 128) : Gen.k0_pay11 (F := Ideal) (rows X o) (rows P 0) (ix2 a b) = ((X (o + a.val) b.val + P 1 b.val : ℝ) : EReal) := by
  simp [Gen.k0_pay11, Gen.k0_pay7, pointwise, rows]

theorem pay12_at (b : Fin 128) : Gen.k0_pay12 (F := Ideal) (rows P 0) (ix2 0 b) = ((-Real.exp (P 0 b.val) : ℝ) : EReal) := by
  simp [Gen.k0_pay12, Gen.k0_pay7, pointwise, rows]

theorem pay13_at (a : Fin 320) (b : Fin 128) : Gen.k0_pay13 (F := Ideal) (rows X o) (rows P 0) (ix2 a b) =
    ((-Real.exp (P 0 b.val) * sp (X (o + a.val) b.val + P 1 b.val) : ℝ) : EReal) := by
  have h := softplus_at (X (o + a.val) b.val + P 1 b.val)
  simp only [EReal.coe_add] at h
  simp [Gen.k0_pay13, pointwise, pay11_at, pay12_at, h]

/-- The gradient of the projection's column `c` at token `r`: through a rate's logistic function in columns 0 to 7, through
    a decay's softplus in columns 8 to 15, and none in the other columns or in the padding. -/
def gX (r c : ℕ) : ℝ :=
  if 112 ≤ r then (if c < 8 then D r c * sg (X r c) * (1 - sg (X r c))
    else if 8 ≤ c ∧ c < 16 then D r c * -Real.exp (P 0 c) * sg (X r c + P 1 c) else 0) else 0

/-- What token `r` adds to the gradient of the logarithm of decay rate `c`. -/
def gA (r c : ℕ) : ℝ :=
  if 8 ≤ c ∧ c < 16 then (if 112 ≤ r then D r c * (-Real.exp (P 0 c) * sp (X r c + P 1 c)) else 0) else 0

/-- What token `r` adds to the gradient of bias `c`. -/
def gB (r c : ℕ) : ℝ :=
  if 8 ≤ c ∧ c < 16 then (if 112 ≤ r then D r c * -Real.exp (P 0 c) * sg (X r c + P 1 c) else 0) else 0

variable (i : grid0.Coords)

/-- The block the call stores at point `i`. -/
theorem pay3_at (a : Fin 320) (b : Fin 128) :
    Gen.k0_pay3 (F := Ideal) Gen.k0_pay8 Gen.k0_pay9 (Gen.k0_pay10 (rows X (320 * (i 0).val))) (Gen.k0_pay11 (rows X (320 * (i 0).val)) (rows P 0))
      (Gen.k0_pay12 (rows P 0)) (rows D (320 * (i 0).val)) (Scalar.ofBits .f32 0x00000000#32) (Gen.k0_pay14 i) (ix2 a b)
      = ((gX X P D (320 * (i 0).val + a.val) b.val : ℝ) : EReal) := by
  simp [Gen.k0_pay3, Gen.k0_pay2, Gen.k0_pay1, pointwise, mask8, mask9, mask14, pay10_at, pay11_at, pay12_at, pick, rows]
  unfold gX
  split <;> split <;> (try split) <;> simp_all [← EReal.coe_add, Ideal.logistic_coe, sg]

/-- The sum over a block's tokens. -/
theorem csum_at (v : FVec Ideal S320x128 .f32) (h h' h'') (b : Fin 128) :
    multiReduction .add [0] S128 v 0x00000000#32 h h' h'' (ix1 b) = ∑ a : Fin 320, v (ix2 a b) := by
  simp [pointwise]

/-- The first sum the call adds to at point `i`. -/
theorem pay4_at (v : FVec Ideal S1x128 .f32) (b : Fin 128) :
    Gen.k0_pay4 (F := Ideal) Gen.k0_pay9 (Gen.k0_pay13 (rows X (320 * (i 0).val)) (rows P 0))
      (rows D (320 * (i 0).val)) (Scalar.ofBits .f32 0x00000000#32) (Gen.k0_pay14 i) v (ix2 0 b)
      = v (ix2 0 b) + ((∑ a : Fin 320, gA X P D (320 * (i 0).val + a.val) b.val : ℝ) : EReal) := by
  rw [coe_sum]
  simp [Gen.k0_pay4, Gen.k0_pay1, pointwise, mask9, mask14, pay13_at, pick, rows]
  refine congrArg _ ((csum_at _ _ _ _ b).trans (Finset.sum_congr rfl fun a _ => ?_))
  simp [pointwise, mask9, mask14, pay13_at, pick, rows]
  unfold gA
  split <;> (try split) <;> simp_all

/-- The second sum the call adds to at point `i`. -/
theorem pay5_at (v : FVec Ideal S1x128 .f32) (b : Fin 128) :
    Gen.k0_pay5 (F := Ideal) Gen.k0_pay9 (Gen.k0_pay11 (rows X (320 * (i 0).val)) (rows P 0)) (Gen.k0_pay12 (rows P 0))
      (rows D (320 * (i 0).val)) (Scalar.ofBits .f32 0x00000000#32) (Gen.k0_pay14 i) v (ix2 0 b)
      = v (ix2 0 b) + ((∑ a : Fin 320, gB X P D (320 * (i 0).val + a.val) b.val : ℝ) : EReal) := by
  rw [coe_sum]
  simp [Gen.k0_pay5, Gen.k0_pay2, Gen.k0_pay1, pointwise, mask9, mask14, pay11_at, pay12_at, pick, rows]
  refine congrArg _ ((csum_at _ _ _ _ b).trans (Finset.sum_congr rfl fun a _ => ?_))
  simp [pointwise, mask9, mask14, pay11_at, pay12_at, pick, rows]
  unfold gB
  split <;> (try split) <;> simp_all [← EReal.coe_add, Ideal.logistic_coe, sg]

end Cert.Gate
end
-- ==== Proof.GateBlock.lean ====
/-
  What one point of the gates' call leaves: the block of gradients it stores, and the block of sums, whose first row gains the
  decays' logarithms' gradients and whose second row gains the biases' gradients of the point's 320 tokens.
-/
module

public import proofs.«01_k».proof.Proof.GateReal
public import proofs.«01_k».proof.Proof.Gen.Kernel2Ideal.Frame
public import Idealize.ShloMosaic.Lib.WritesUnit

@[expose] public section

set_option maxRecDepth 16384

noncomputable section
namespace Cert.Gate

open Cert.Kernel2Ideal Cert.Kernel2Ideal.Gen Idealize.ShloMosaic Idealize.ShloMosaic.TcCoe Idealize.SL.Sem

local notation "𝕍" s:max => Vec Idealize.ShloMosaic.Ideal s EltTy.f32

/-- A load of a whole block reads the block. -/
theorem readX (arg : Memref sig .tc .vmem S320x128 .f32) (harg : arg.IsWhole) (x : 𝕍 S320x128) :
    View.readAt (Elt Ideal) arg.view (Rect.unit (s := S320x128) ![0, 0] S320x128.size inb_S320x128_S320x128_0_0).toLoadRect (harg.unread x) = x := by
  funext j
  refine (congrFun (Memref.IsWhole.read_unread (Val := Elt Ideal) harg x) _).trans (congrArg x (funext fun a => Fin.ext ?_))
  match a with
  | ⟨0, _⟩ => show 0 + 1 * (j 0).val = (j 0).val; omega
  | ⟨1, _⟩ => show 0 + 1 * (j 1).val = (j 1).val; omega
theorem readP (arg : Memref sig .tc .vmem S8x128 .f32) (harg : arg.IsWhole) (x : 𝕍 S8x128) :
    View.readAt (Elt Ideal) arg.view (Rect.unit (s := S8x128) ![0, 0] S8x128.size inb_S8x128_S8x128_0_0).toLoadRect (harg.unread x) = x := by
  funext j
  refine (congrFun (Memref.IsWhole.read_unread (Val := Elt Ideal) harg x) _).trans (congrArg x (funext fun a => Fin.ext ?_))
  match a with
  | ⟨0, _⟩ => show 0 + 1 * (j 0).val = (j 0).val; omega
  | ⟨1, _⟩ => show 0 + 1 * (j 1).val = (j 1).val; omega

/-- The rectangles of the first two rows of the sums' block. -/
def row0 : Rect S8x128 := Rect.unit (s := S8x128) ![0, 0] S1x128.size inb_S8x128_S1x128_0_0
def row1 : Rect S8x128 := Rect.unit (s := S8x128) ![1, 0] S1x128.size inb_S8x128_S1x128_1_0

/-- A buffer after a store of its first row and then of its second. -/
theorem rows_read {sp : Space} (v : View sig .tc sp S8x128 .f32) (f : v.ty.Contents (Elt Ideal)) (w0 w1 : 𝕍 S1x128)
    (L : List (View.Piece (Elt Ideal) S8x128 .f32)) (r : Fin 8) (b : Fin 128) :
    v.read (Elt Ideal) (v.writes (Elt Ideal) f (⟨row1, w1⟩ :: ⟨row0, w0⟩ :: L)) (ix2 r b) =
      if r.val = 0 then w0 (ix2 0 b) else if r.val = 1 then w1 (ix2 0 b) else v.read (Elt Ideal) (v.writes (Elt Ideal) f L) (ix2 r b) := by
  by_cases h0 : r.val = 0
  · rw [if_pos h0]
    refine (View.read_writes_cons_rows_of_not_mem (d := ![8, 128]) (o := 1) (W := 1) v f _ w1 _ (ix2 r b) rfl rfl (Or.inl (by show r.val < 1; omega))).trans ?_
    exact View.read_writes_cons_rows_of_mem (d := ![8, 128]) (o := 0) v f _ w0 _ (ix2 r b) (ix2 0 b) rfl (by show r.val = 0 + 0; omega) rfl
  · rw [if_neg h0]
    by_cases h1 : r.val = 1
    · rw [if_pos h1]
      exact View.read_writes_cons_rows_of_mem (d := ![8, 128]) (o := 1) v f _ w1 _ (ix2 r b) (ix2 0 b) rfl (by show r.val = 1 + 0; omega) rfl
    · rw [if_neg h1]
      refine (View.read_writes_cons_rows_of_not_mem (d := ![8, 128]) (o := 1) (W := 1) v f _ w1 _ (ix2 r b) rfl rfl (Or.inr (by show 1 + 1 ≤ r.val; omega))).trans ?_
      exact View.read_writes_cons_rows_of_not_mem (d := ![8, 128]) (o := 0) (W := 1) v f _ w0 _ (ix2 r b) rfl rfl (Or.inr (by show 0 + 1 ≤ r.val; omega))

/-- A load of the second row after a store of the first reads what lay there. -/
theorem row1_read {sp : Space} (v : View sig .tc sp S8x128 .f32) (f : v.ty.Contents (Elt Ideal)) (w0 : 𝕍 S1x128)
    (L : List (View.Piece (Elt Ideal) S8x128 .f32)) (b : Fin 128) :
    v.read (Elt Ideal) (v.writes (Elt Ideal) f (⟨row0, w0⟩ :: L)) (ix2 1 b) = v.read (Elt Ideal) (v.writes (Elt Ideal) f L) (ix2 1 b) :=
  View.read_writes_cons_rows_of_not_mem (d := ![8, 128]) (o := 0) (W := 1) v f _ w0 _ (ix2 1 b) rfl rfl (Or.inr (Nat.le_refl 1))

/-- Whole-block stores. -/
theorem whole_read {sp : Space} (v : View sig .tc sp S8x128 .f32) (f : v.ty.Contents (Elt Ideal)) (w : 𝕍 S8x128) (r : Fin 8) (b : Fin 128) :
    v.read (Elt Ideal) (v.writes (Elt Ideal) f [⟨Rect.unit (s := S8x128) ![0, 0] S8x128.size inb_S8x128_S8x128_0_0, w⟩]) (ix2 r b) = w (ix2 r b) :=
  View.read_writes_cons_rows_of_mem (d := ![8, 128]) (o := 0) v f _ w _ (ix2 r b) (ix2 r b) rfl (Nat.zero_add _).symm rfl
theorem whole_readX {sp : Space} (v : View sig .tc sp S320x128 .bf16) (f : v.ty.Contents (Elt Ideal)) (w : Vec Ideal S320x128 .bf16) (r : Fin 320) (b : Fin 128) :
    v.read (Elt Ideal) (v.writes (Elt Ideal) f [⟨Rect.unit (s := S320x128) ![0, 0] S320x128.size inb_S320x128_S320x128_0_0, w⟩]) (ix2 r b) = w (ix2 r b) :=
  View.read_writes_cons_rows_of_mem (d := ![320, 128]) (o := 0) v f _ w _ (ix2 r b) (ix2 r b) rfl (Nat.zero_add _).symm rfl

variable (c : Dev nD) (i : grid0.Coords) (arg1 : Memref sig .tc .vmem S320x128 .f32) (harg1 : arg1.IsWhole) (arg2 : Memref sig .tc .vmem S8x128 .f32) (harg2 : arg2.IsWhole) (arg3 : Memref sig .tc .vmem S320x128 .f32) (harg3 : arg3.IsWhole) (arg4 : Memref sig .tc .vmem S320x128 .bf16) (harg4 : arg4.IsWhole) (arg5 : Memref sig .tc .vmem S8x128 .f32) (harg5 : arg5.IsWhole)

/-- The block of gradients the body stores. -/
def payX (i : grid0.Coords) (x : 𝕍 S320x128) (p : 𝕍 S8x128) (d : 𝕍 S320x128) : Vec Ideal S320x128 .bf16 :=
  k0_pay3 (F := Ideal) k0_pay8 k0_pay9 (k0_pay10 x) (k0_pay11 x p) (k0_pay12 p) d (Scalar.ofBits .f32 0x00000000#32) (k0_pay14 i)
/-- The first row the body stores over `v`, and the second over `u`. -/
def payA (i : grid0.Coords) (x : 𝕍 S320x128) (p : 𝕍 S8x128) (d : 𝕍 S320x128) (v : 𝕍 S1x128) : 𝕍 S1x128 :=
  k0_pay4 (F := Ideal) k0_pay9 (k0_pay13 x p) d (Scalar.ofBits .f32 0x00000000#32) (k0_pay14 i) v
def payB (i : grid0.Coords) (x : 𝕍 S320x128) (p : 𝕍 S8x128) (d : 𝕍 S320x128) (u : 𝕍 S1x128) : 𝕍 S1x128 :=
  k0_pay5 (F := Ideal) k0_pay9 (k0_pay11 x p) (k0_pay12 p) d (Scalar.ofBits .f32 0x00000000#32) (k0_pay14 i) u

variable (x0 : 𝕍 S320x128) (x1 : 𝕍 S8x128) (x2 : 𝕍 S320x128) (xo4 : 𝕍 S8x128)

/-- The loads of the three arguments. -/
def lX : 𝕍 S320x128 := View.readAt (Elt Ideal) arg1.view (Rect.unit (s := S320x128) ![0, 0] S320x128.size inb_S320x128_S320x128_0_0).toLoadRect (harg1.unread x0)
def lP : 𝕍 S8x128 := View.readAt (Elt Ideal) arg2.view (Rect.unit (s := S8x128) ![0, 0] S8x128.size inb_S8x128_S8x128_0_0).toLoadRect (harg2.unread x1)
def lD : 𝕍 S320x128 := View.readAt (Elt Ideal) arg3.view (Rect.unit (s := S320x128) ![0, 0] S320x128.size inb_S320x128_S320x128_0_0).toLoadRect (harg3.unread x2)

/-- The zeros stored at the first point, the first row's store, and the loads between. -/
def zP : List (View.Piece (Elt Ideal) S8x128 .f32) := [⟨Rect.unit (s := S8x128) ![0, 0] S8x128.size inb_S8x128_S8x128_0_0, k0_pay6 (F := Ideal)⟩]
def vA : 𝕍 S1x128 := arg5.view.readCov zP row0.toLoadRect
def uA (w : 𝕍 S1x128) : 𝕍 S1x128 := arg5.view.readCov (⟨row0, w⟩ :: zP) row1.toLoadRect
def vB : 𝕍 S1x128 := View.readAt (Elt Ideal) arg5.view row0.toLoadRect (harg5.unread xo4)
def uB : 𝕍 S1x128 := View.readAt (Elt Ideal) arg5.view row1.toLoadRect (harg5.unread xo4)

/-- The pieces of the body's stores, at the first point and at a later one. -/
theorem piecesA3 (hc0 : cond0_0 i) :
    (kernelRun0_A (F := Ideal) c i arg1 harg1 arg2 harg2 arg3 harg3 arg4 harg4 arg5 harg5 hc0 x0 x1 x2).1
      = [⟨Rect.unit (s := S320x128) ![0, 0] S320x128.size inb_S320x128_S320x128_0_0, payX i x0 x1 x2⟩] := by
  refine Eq.trans (b := [⟨Rect.unit (s := S320x128) ![0, 0] S320x128.size inb_S320x128_S320x128_0_0, payX i (lX arg1 harg1 x0) (lP arg2 harg2 x1) (lD arg3 harg3 x2)⟩]) (by sl_kernel_rfl) ?_
  rw [show lX arg1 harg1 x0 = x0 from readX _ _ _, show lD arg3 harg3 x2 = x2 from readX _ _ _, show lP arg2 harg2 x1 = x1 from readP _ _ _]
theorem piecesB3 (hc0 : ¬cond0_0 i) :
    (kernelRun0_B (F := Ideal) c i arg1 harg1 arg2 harg2 arg3 harg3 arg4 harg4 arg5 harg5 hc0 x0 x1 x2 xo4).1
      = [⟨Rect.unit (s := S320x128) ![0, 0] S320x128.size inb_S320x128_S320x128_0_0, payX i x0 x1 x2⟩] := by
  refine Eq.trans (b := [⟨Rect.unit (s := S320x128) ![0, 0] S320x128.size inb_S320x128_S320x128_0_0, payX i (lX arg1 harg1 x0) (lP arg2 harg2 x1) (lD arg3 harg3 x2)⟩]) (by sl_kernel_rfl) ?_
  rw [show lX arg1 harg1 x0 = x0 from readX _ _ _, show lD arg3 harg3 x2 = x2 from readX _ _ _, show lP arg2 harg2 x1 = x1 from readP _ _ _]
theorem piecesA4 (hc0 : cond0_0 i) :
    (kernelRun0_A (F := Ideal) c i arg1 harg1 arg2 harg2 arg3 harg3 arg4 harg4 arg5 harg5 hc0 x0 x1 x2).2.1
      = ⟨row1, payB i x0 x1 x2 (uA arg5 (payA i x0 x1 x2 (vA arg5)))⟩ :: ⟨row0, payA i x0 x1 x2 (vA arg5)⟩ :: zP := by
  have e : (kernelRun0_A (F := Ideal) c i arg1 harg1 arg2 harg2 arg3 harg3 arg4 harg4 arg5 harg5 hc0 x0 x1 x2).2.1
      = ⟨row1, payB i (lX arg1 harg1 x0) (lP arg2 harg2 x1) (lD arg3 harg3 x2) (uA arg5 (payA i (lX arg1 harg1 x0) (lP arg2 harg2 x1) (lD arg3 harg3 x2) (vA arg5)))⟩
        :: ⟨row0, payA i (lX arg1 harg1 x0) (lP arg2 harg2 x1) (lD arg3 harg3 x2) (vA arg5)⟩ :: zP := by
    sl_kernel_rfl
  rw [e, show lX arg1 harg1 x0 = x0 from readX _ _ _, show lD arg3 harg3 x2 = x2 from readX _ _ _, show lP arg2 harg2 x1 = x1 from readP _ _ _]
theorem piecesB4 (hc0 : ¬cond0_0 i) :
    (kernelRun0_B (F := Ideal) c i arg1 harg1 arg2 harg2 arg3 harg3 arg4 harg4 arg5 harg5 hc0 x0 x1 x2 xo4).2.1
      = [⟨row1, payB i x0 x1 x2 (uB arg5 harg5 xo4)⟩, ⟨row0, payA i x0 x1 x2 (vB arg5 harg5 xo4)⟩] := by
  have e : (kernelRun0_B (F := Ideal) c i arg1 harg1 arg2 harg2 arg3 harg3 arg4 harg4 arg5 harg5 hc0 x0 x1 x2 xo4).2.1
      = [⟨row1, payB i (lX arg1 harg1 x0) (lP arg2 harg2 x1) (lD arg3 harg3 x2) (uB arg5 harg5 xo4)⟩,
        ⟨row0, payA i (lX arg1 harg1 x0) (lP arg2 harg2 x1) (lD arg3 harg3 x2) (vB arg5 harg5 xo4)⟩] := by
    sl_kernel_rfl
  rw [e, show lX arg1 harg1 x0 = x0 from readX _ _ _, show lD arg3 harg3 x2 = x2 from readX _ _ _, show lP arg2 harg2 x1 = x1 from readP _ _ _]

/-- What the loads of the sums' rows read. -/
theorem row_emb0 (b : Fin 128) : row0.toLoadRect.idx (ix2 0 b) = ix2 0 b := by
  funext a
  refine Fin.ext ?_
  match a with
  | ⟨0, _⟩ => rfl
  | ⟨1, _⟩ => show 0 + 1 * b.val = b.val; omega
theorem row_emb1 (b : Fin 128) : row1.toLoadRect.idx (ix2 0 b) = ix2 1 b := by
  funext a
  refine Fin.ext ?_
  match a with
  | ⟨0, _⟩ => rfl
  | ⟨1, _⟩ => show 0 + 1 * b.val = b.val; omega
theorem pay6_at (r : Fin 8) (b : Fin 128) : k0_pay6 (F := Ideal) (ix2 r b) = 0 := by simp [k0_pay6, pointwise]
theorem vA_at (b : Fin 128) : vA arg5 (ix2 0 b) = (0 : EReal) := by
  refine Eq.trans (b := arg5.view.read (Elt Ideal) (arg5.view.writes (Elt Ideal) arg5.view.junk zP) (row0.toLoadRect.idx (ix2 0 b))) rfl ?_
  rw [row_emb0]
  exact (whole_read _ _ _ _ _).trans (pay6_at _ _)
theorem uA_at (w : 𝕍 S1x128) (b : Fin 128) : uA arg5 w (ix2 0 b) = (0 : EReal) := by
  refine Eq.trans (b := arg5.view.read (Elt Ideal) (arg5.view.writes (Elt Ideal) arg5.view.junk (⟨row0, w⟩ :: zP)) (row1.toLoadRect.idx (ix2 0 b))) rfl ?_
  rw [row_emb1, row1_read]
  exact (whole_read _ _ _ _ _).trans (pay6_at _ _)
theorem vB_at (b : Fin 128) : vB arg5 harg5 xo4 (ix2 0 b) = xo4 (ix2 0 b) := by
  refine Eq.trans (b := arg5.view.read (Elt Ideal) (harg5.unread xo4) (row0.toLoadRect.idx (ix2 0 b))) rfl ?_
  rw [row_emb0]
  exact congrFun (Memref.IsWhole.read_unread (Val := Elt Ideal) harg5 xo4) _
theorem uB_at (b : Fin 128) : uB arg5 harg5 xo4 (ix2 0 b) = xo4 (ix2 1 b) := by
  refine Eq.trans (b := arg5.view.read (Elt Ideal) (harg5.unread xo4) (row1.toLoadRect.idx (ix2 0 b))) rfl ?_
  rw [row_emb1]
  exact congrFun (Memref.IsWhole.read_unread (Val := Elt Ideal) harg5 xo4) _

variable (X P D : ℕ → ℕ → ℝ)

/-- The block of gradients a point leaves. -/
theorem outA3 (hc0 : cond0_0 i) :
    out0_A_3 (F := Ideal) c i arg1 harg1 arg2 harg2 arg3 harg3 arg4 harg4 arg5 harg5 hc0 (rows X (320 * (i 0).val)) (rows P 0) (rows D (320 * (i 0).val))
      = fun j => ((gX X P D (320 * (i 0).val + (j 0).val) (j 1).val : ℝ) : EReal) := by
  funext j
  obtain ⟨a, b, rfl⟩ : ∃ a b, j = ix2 a b := ⟨j 0, j 1, eq_ix2 j⟩
  unfold out0_A_3
  rw [piecesA3, whole_readX]
  exact pay3_at X P D i a b
theorem outB3 (hc0 : ¬cond0_0 i) :
    out0_B_3 (F := Ideal) c i arg1 harg1 arg2 harg2 arg3 harg3 arg4 harg4 arg5 harg5 hc0 (rows X (320 * (i 0).val)) (rows P 0) (rows D (320 * (i 0).val)) xo4
      = fun j => ((gX X P D (320 * (i 0).val + (j 0).val) (j 1).val : ℝ) : EReal) := by
  funext j
  obtain ⟨a, b, rfl⟩ : ∃ a b, j = ix2 a b := ⟨j 0, j 1, eq_ix2 j⟩
  unfold out0_B_3
  rw [piecesB3, whole_readX]
  exact pay3_at X P D i a b

/-- What row `r` of the sums gains from token `t` in column `b`. -/
def gS (r t b : ℕ) : ℝ := if r = 0 then gA X P D t b else if r = 1 then gB X P D t b else 0

/-- The block of sums a point leaves: what lay there, and the point's tokens. -/
theorem outA4 (hc0 : cond0_0 i) :
    out0_A_4 (F := Ideal) c i arg1 harg1 arg2 harg2 arg3 harg3 arg4 harg4 arg5 harg5 hc0 (rows X (320 * (i 0).val)) (rows P 0) (rows D (320 * (i 0).val))
      = fun j => ((∑ a : Fin 320, gS X P D (j 0).val (320 * (i 0).val + a.val) (j 1).val : ℝ) : EReal) := by
  funext j
  obtain ⟨r, b, rfl⟩ : ∃ a b, j = ix2 a b := ⟨j 0, j 1, eq_ix2 j⟩
  show _ = ((∑ a : Fin 320, gS X P D r.val (320 * (i 0).val + a.val) b.val : ℝ) : EReal)
  unfold out0_A_4 gS
  rw [piecesA4, rows_read]
  by_cases h0 : r.val = 0
  · simp only [if_pos h0]
    refine (pay4_at X P D i _ b).trans ?_
    rw [vA_at, zero_add]
  · simp only [if_neg h0]
    by_cases h1 : r.val = 1
    · simp only [if_pos h1]
      refine (pay5_at X P D i _ b).trans ?_
      rw [uA_at, zero_add]
    · simp only [if_neg h1]
      refine ((whole_read _ _ _ _ _).trans (pay6_at _ _)).trans ?_
      simp
theorem outB4 (hc0 : ¬cond0_0 i) :
    out0_B_4 (F := Ideal) c i arg1 harg1 arg2 harg2 arg3 harg3 arg4 harg4 arg5 harg5 hc0 (rows X (320 * (i 0).val)) (rows P 0) (rows D (320 * (i 0).val)) xo4
      = fun j => xo4 j + ((∑ a : Fin 320, gS X P D (j 0).val (320 * (i 0).val + a.val) (j 1).val : ℝ) : EReal) := by
  funext j
  obtain ⟨r, b, rfl⟩ : ∃ a b, j = ix2 a b := ⟨j 0, j 1, eq_ix2 j⟩
  show _ = xo4 (ix2 r b) + ((∑ a : Fin 320, gS X P D r.val (320 * (i 0).val + a.val) b.val : ℝ) : EReal)
  unfold out0_B_4 gS
  rw [piecesB4, rows_read]
  by_cases h0 : r.val = 0
  · obtain rfl : r = 0 := Fin.ext h0
    simp only [if_pos h0]
    refine (pay4_at X P D i _ b).trans ?_
    rw [vB_at]
  · simp only [if_neg h0]
    by_cases h1 : r.val = 1
    · obtain rfl : r = 1 := Fin.ext h1
      simp only [if_pos h1]
      refine (pay5_at X P D i _ b).trans ?_
      rw [uB_at]
    · simp only [if_neg h1]
      refine (congrFun (Memref.IsWhole.read_unread (Val := Elt Ideal) harg5 xo4) _).trans ?_
      simp

end Cert.Gate
end
-- ==== Proof.GateArray.lean ====
/-
  The arrays the gates' call leaves: the gradients of the projection's columns, block after block, and the two sums over
  all tokens.
-/
module

public import proofs.«01_k».proof.Proof.GateBlock

@[expose] public section

set_option maxRecDepth 16384

noncomputable section
namespace Cert.Gate

open Cert.Kernel2Ideal Cert.Kernel2Ideal.Gen Idealize.ShloMosaic Idealize.ShloMosaic.TcCoe Idealize.SL.Sem

variable (m : (ℓ : Loc nD τ sig) → Buf (Elt Ideal) ℓ) (c : Dev nD) (X P D : ℕ → ℕ → ℝ)
variable (hX : ∀ i : S8320x128.Idx, V (F := Ideal) m c main_arg0 i = ((X (i 0).val (i 1).val : ℝ) : EReal))
variable (hP : ∀ i : S8x128.Idx, V (F := Ideal) m c main_v10 i = ((P (i 0).val (i 1).val : ℝ) : EReal))
variable (hD : ∀ i : S8320x128.Idx, V (F := Ideal) m c main_arg3 i = ((D (i 0).val (i 1).val : ℝ) : EReal))

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, (cfg0.win 3).flush t = true ∧ win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem coord : ∀ t : Fin cfg0.N, (grid0.coords t 0).val = t.val :=
  (by decide +kernel : ∀ t : Fin grid0.N, _)

include hX in
theorem iblk0 (t : Fin cfg0.N) : iblk (F := Ideal) m c 0 t = rows X (320 * (grid0.coords t 0).val) := by
  funext j
  obtain ⟨e0, e1⟩ := idx0 t
  have hb0 : (((cfg0.win 0).blk t).view.emb j 0).val = win0_0.index t (0 : Fin 2) * 320 + 1 * (j 0).val := rfl
  have hb1 : (((cfg0.win 0).blk t).view.emb j 1).val = win0_0.index t (1 : Fin 2) * 128 + 1 * (j 1).val := rfl
  refine (hX (((cfg0.win 0).blk t).view.emb j)).trans (congrArg Real.toEReal ?_)
  refine congrArg₂ X ?_ ?_
  · rw [hb0, e0, coord t]; omega
  · rw [hb1, e1]; omega

include hP in
theorem iblk1 (t : Fin cfg0.N) : iblk (F := Ideal) m c 1 t = rows P 0 := by
  funext j
  obtain ⟨e0, e1⟩ := idx1 t
  have hb0 : (((cfg0.win 1).blk t).view.emb j 0).val = win0_1.index t (0 : Fin 2) * 8 + 1 * (j 0).val := rfl
  have hb1 : (((cfg0.win 1).blk t).view.emb j 1).val = win0_1.index t (1 : Fin 2) * 128 + 1 * (j 1).val := rfl
  refine (hP (((cfg0.win 1).blk t).view.emb j)).trans (congrArg Real.toEReal ?_)
  refine congrArg₂ P ?_ ?_
  · rw [hb0, e0]; omega
  · rw [hb1, e1]; omega

include hD in
theorem iblk2 (t : Fin cfg0.N) : iblk (F := Ideal) m c 2 t = rows D (320 * (grid0.coords t 0).val) := by
  funext j
  obtain ⟨e0, e1⟩ := idx2 t
  have hb0 : (((cfg0.win 2).blk t).view.emb j 0).val = win0_2.index t (0 : Fin 2) * 320 + 1 * (j 0).val := rfl
  have hb1 : (((cfg0.win 2).blk t).view.emb j 1).val = win0_2.index t (1 : Fin 2) * 128 + 1 * (j 1).val := rfl
  refine (hD (((cfg0.win 2).blk t).view.emb j)).trans (congrArg Real.toEReal ?_)
  refine congrArg₂ D ?_ ?_
  · rw [hb0, e0, coord t]; omega
  · rw [hb1, e1]; omega

/-- The tokens of the blocks up to `n`. -/
theorem tokens (f : ℕ → ℝ) (n : ℕ) : ∑ t ∈ Finset.range (320 * (n + 1)), f t =
    ∑ t ∈ Finset.range (320 * n), f t + ∑ a : Fin 320, f (320 * n + a.val) := by
  rw [Nat.mul_succ, Finset.sum_range_add, Fin.sum_univ_eq_sum_range (fun a => f (320 * n + a))]

/-- The block of gradients after point `n`, and the sums over its tokens and all before. -/
def accS (n : ℕ) : Vec Ideal S8x128 .f32 := fun i => ((∑ t ∈ Finset.range (320 * (n + 1)), gS X P D (i 0).val t (i 1).val : ℝ) : EReal)

include hX hP hD in
theorem outs (n : ℕ) : ∀ hn : n < cfg0.N, outsAt0 (F := Ideal) m c n hn =
      ((fun i => ((gX X P D (320 * n + (i 0).val) (i 1).val : ℝ) : EReal)), accS X P D n) := by
  induction n with
  | zero =>
    intro hn
    rw [outsAt0_A m c ⟨0, hn⟩ (Nat.zero_mod _), iblk0 m c X hX, iblk1 m c P hP, iblk2 m c D hD, outA3, outA4, coord]
    refine Prod.ext rfl (funext fun i => congrArg Real.toEReal ?_)
    rw [tokens]
    simp
  | succ n ih =>
    intro hn
    have hN : n + 1 < 26 := lt_of_lt_of_eq hn (show cfg0.N = 26 from N_0)
    rw [outsAt0_B m c ⟨n + 1, hn⟩ (by show ¬(n + 1) % 26 = 0; omega), iblk0 m c X hX, iblk1 m c P hP, iblk2 m c D hD]
    have e : (outsAt0 (F := Ideal) m c ((⟨n + 1, hn⟩ : Fin cfg0.N).val - 1) (Nat.lt_of_le_of_lt (Nat.sub_le _ _) hn)).2 = accS X P D n :=
      congrArg (fun p => p.2) (ih (Nat.lt_of_succ_lt hn))
    rw [e, outB3, outB4, coord]
    refine Prod.ext rfl (funext fun i => ?_)
    exact (EReal.coe_add _ _).symm.trans (congrArg Real.toEReal (tokens (fun t => gS X P D (i 0).val t (i 1).val) (n + 1)).symm)

/-! ## The arrays -/

theorem flushed3 (t : Fin cfg0.N) : (dats (F := Ideal) m 0 c).flushed 3 t = (cfg0.win 3).cut (grid0.coords t) ((outsAt0 m c t.val t.isLt).1) := by
  show (cfg0.win 3).cut (grid0.coords t) ((dats m 0 c).after 3 t) = _
  rw [after0_3]
theorem flushed4 (t : Fin cfg0.N) : (dats (F := Ideal) m 0 c).flushed 4 t = (cfg0.win 4).cut (grid0.coords t) ((outsAt0 m c t.val t.isLt).2) := by
  show (cfg0.win 4).cut (grid0.coords t) ((dats m 0 c).after 4 t) = _
  rw [after0_4]

theorem cover3 (i : S8320x128.Idx) : ∃ t : Fin cfg0.N, (cfg0.win 3).flush t = true ∧ i ∈ ((cfg0.win 3).blk t).view.set := by
  have h0 : (i 0).val < 8320 := (i 0).isLt
  have h1 : (i 1).val < 128 := (i 1).isLt
  have hN : (i 0).val / 320 < cfg0.N := by rw [show cfg0.N = 26 from N_0]; omega
  obtain ⟨hf, e0, e1⟩ := idx3 ⟨(i 0).val / 320, hN⟩
  refine ⟨⟨(i 0).val / 320, hN⟩, hf, ?_⟩
  show i ∈ ((View.whole main_v11_0).slice (win0_3.rect ⟨(i 0).val / 320, hN⟩)).set
  rw [View.set_slice_whole, Rect.mem_set_unit]
  intro x
  match x with
  | ⟨0, _⟩ =>
    show win0_3.index ⟨(i 0).val / 320, hN⟩ (0 : Fin 2) * 320 ≤ (i 0).val ∧ (i 0).val < win0_3.index ⟨(i 0).val / 320, hN⟩ (0 : Fin 2) * 320 + 320
    rw [e0]; simp only; omega
  | ⟨1, _⟩ =>
    show win0_3.index ⟨(i 0).val / 320, hN⟩ (1 : Fin 2) * 128 ≤ (i 1).val ∧ (i 1).val < win0_3.index ⟨(i 0).val / 320, hN⟩ (1 : Fin 2) * 128 + 128
    rw [e1]; simp only; omega

theorem cover4 (i : S8x128.Idx) : ∃ t : Fin cfg0.N, (cfg0.win 4).flush t = true ∧ i ∈ ((cfg0.win 4).blk t).view.set := by
  have h0 : (i 0).val < 8 := (i 0).isLt
  have h1 : (i 1).val < 128 := (i 1).isLt
  have hN : 25 < cfg0.N := by rw [show cfg0.N = 26 from N_0]; omega
  obtain ⟨e0, e1⟩ := idx4 ⟨25, hN⟩
  refine ⟨⟨25, hN⟩, (flush0_4 _).2 rfl, ?_⟩
  show i ∈ ((View.whole main_v11_1).slice (win0_4.rect ⟨25, hN⟩)).set
  rw [View.set_slice_whole, Rect.mem_set_unit]
  intro x
  match x with
  | ⟨0, _⟩ =>
    show win0_4.index ⟨25, hN⟩ (0 : Fin 2) * 8 ≤ (i 0).val ∧ (i 0).val < win0_4.index ⟨25, hN⟩ (0 : Fin 2) * 8 + 8
    rw [e0]; omega
  | ⟨1, _⟩ =>
    show win0_4.index ⟨25, hN⟩ (1 : Fin 2) * 128 ≤ (i 1).val ∧ (i 1).val < win0_4.index ⟨25, hN⟩ (1 : Fin 2) * 128 + 128
    rw [e1]; omega

include hX hP hD in
/-- The gradients of the projection's columns. -/
theorem array3 : (dats (F := Ideal) m 0 c).arrAt 3 cfg0.N = fun i : S8320x128.Idx => ((gX X P D (i 0).val (i 1).val : ℝ) : EReal) := by
  refine (dats (F := Ideal) m 0 c).arrAt_eq_of_cover 3 (fun i : S8320x128.Idx => ((gX X P D (i 0).val (i 1).val : ℝ) : EReal)) (fun t _ => ?_) cover3
  rw [flushed3, outs m c X P D hX hP hD]
  funext y
  obtain ⟨hf, e0, e1⟩ := idx3 t
  have q0 : (((cfg0.win 3).blk t).view.emb y 0).val = win0_3.index t (0 : Fin 2) * 320 + 1 * (y 0).val := rfl
  have q1 : (((cfg0.win 3).blk t).view.emb y 1).val = win0_3.index t (1 : Fin 2) * 128 + 1 * (y 1).val := rfl
  rw [e0] at q0
  rw [e1] at q1
  show ((gX X P D (320 * t.val + (y 0).val) (y 1).val : ℝ) : EReal) = ((gX X P D (((cfg0.win 3).blk t).view.emb y 0).val (((cfg0.win 3).blk t).view.emb y 1).val : ℝ) : EReal)
  refine congrArg Real.toEReal (congrArg₂ (gX X P D) ?_ ?_)
  · rw [q0]; omega
  · rw [q1]; omega

include hX hP hD in
/-- The sums over all tokens. -/
theorem array4 : (dats (F := Ideal) m 0 c).arrAt 4 cfg0.N = accS X P D 25 := by
  refine (dats (F := Ideal) m 0 c).arrAt_eq_of_cover 4 (accS X P D 25) (fun t hf => ?_) cover4
  have ht : t.val = 25 := by
    have h1 := (flush0_4 t).1 hf
    have h2 : t.val < 26 := lt_of_lt_of_eq t.isLt (show cfg0.N = 26 from N_0)
    omega
  rw [flushed4, outs m c X P D hX hP hD]
  funext y
  obtain ⟨e0, e1⟩ := idx4 t
  have q0 : (((cfg0.win 4).blk t).view.emb y 0).val = win0_4.index t (0 : Fin 2) * 8 + 1 * (y 0).val := rfl
  have q1 : (((cfg0.win 4).blk t).view.emb y 1).val = win0_4.index t (1 : Fin 2) * 128 + 1 * (y 1).val := rfl
  rw [e0] at q0
  rw [e1] at q1
  have hi : ((cfg0.win 4).blk t).view.emb y = y := by
    funext a
    refine Fin.ext ?_
    match a with
    | ⟨0, _⟩ => exact q0.trans (show 0 * 8 + 1 * (y 0).val = (y 0).val by omega)
    | ⟨1, _⟩ => exact q1.trans (show 0 * 128 + 1 * (y 1).val = (y 1).val by omega)
  show accS X P D t.val y = accS X P D 25 (((cfg0.win 4).blk t).view.emb y)
  rw [ht]
  exact congrArg (accS X P D 25) hi.symm

end Cert.Gate
end
-- ==== Proof.GateHost.lean ====
/-
  The host's lines around the gates' call: the parameters' rows it prepares, and the two rows it cuts out of the sums.
-/
module

public import proofs.«01_k».proof.Proof.GateReal
public import Idealize.ShloMosaic.Lib.Routing.OpsOrder
public import Idealize.ShloMosaic.Lib.StableHlo.RunClose
public import proofs.«01_k».proof.Proof.Gen.Kernel2Ideal.Launch

@[expose] public section

set_option maxRecDepth 16384

noncomputable section
namespace Cert.Gate

open Cert.Kernel2Ideal Cert.Kernel2Ideal.Gen Idealize.ShloMosaic Idealize.ShloMosaic.TcCoe Idealize.SL.Sem

/-- A fold that takes the value at its one chosen index. -/
theorem fold_pick {α β : Type} [DecidableEq β] (p : β → Prop) [DecidablePred p] (g : β → α) (k : β) (hk : ∀ n, p n ↔ n = k) :
    ∀ (l : List β) (x : α), l.foldl (fun a n => if p n then g n else a) x = if k ∈ l then g k else x
  | [], x => by simp
  | n :: l, x => by
    rw [List.foldl_cons, fold_pick p g k hk l]
    by_cases h : n = k
    · subst h
      simp [(hk n).2 rfl]
    · rw [if_neg (fun q => h ((hk n).1 q))]
      simp [Ne.symm h]
theorem fold_none {α β : Type} (p : β → Prop) [DecidablePred p] (g : β → α) (hk : ∀ n, ¬p n) :
    ∀ (l : List β) (x : α), l.foldl (fun a n => if p n then g n else a) x = x
  | [], x => rfl
  | n :: l, x => by rw [List.foldl_cons, if_neg (hk n), fold_none p g hk l]

/-- Where the updates land: row `r`, columns 8 to 15. -/
def at8 (r : BitVec 32) : IVec S2 32 :=
  concatenate S2 0 [⟨S1, broadcastInDim S1 ![] bcast_S_S1 (constantI S_ 32 r)⟩, ⟨S1, broadcastInDim S1 ![] bcast_S_S1 (constantI S_ 32 8#32)⟩] concatenates_S1_S1_S2_d0
theorem land0 : ∀ n : Fin S8.numel, scatter_S8x128_S2_S8_0_0_01_0.resultIdx? (S8.rowMajor.symm n) (at8 0#32) = some (ix2 (0 : Fin 8) (⟨8 + n.val, by have : n.val < 8 := n.isLt; omega⟩ : Fin 128)) := by
  decide +kernel
theorem land1 : ∀ n : Fin S8.numel, scatter_S8x128_S2_S8_0_0_01_0.resultIdx? (S8.rowMajor.symm n) (at8 1#32) = some (ix2 (1 : Fin 8) (⟨8 + n.val, by have : n.val < 8 := n.isLt; omega⟩ : Fin 128)) := by
  decide +kernel
theorem flat8 : ∀ n : Fin S8.numel, S8.rowMajor.symm n = ix1 (⟨n.val, n.isLt⟩ : Fin 8) := by
  decide +kernel

/-- Eight updates of row `r`, columns 8 to 15. -/
theorem scatter_at (w : BitVec 32) (r : Fin 8) (land : ∀ n : Fin S8.numel, scatter_S8x128_S2_S8_0_0_01_0.resultIdx? (S8.rowMajor.symm n) (at8 w) =
      some (ix2 r (⟨8 + n.val, by have : n.val < 8 := n.isLt; omega⟩ : Fin 128)))
    (x : FVec Ideal S8x128 .f32) (u : FVec Ideal S8 .f32) (a : Fin 8) (b : Fin 128) :
    Host.scatter scatter_S8x128_S2_S8_0_0_01_0 (fun _ b => b) x (at8 w) u (ix2 a b) =
      if h : a = r ∧ 8 ≤ b.val ∧ b.val < 16 then u (ix1 ⟨b.val - 8, by omega⟩) else x (ix2 a b) := by
  rw [← Routing.scatterIn_finRange, Routing.scatterIn_at]
  have hl : ∀ n : Fin S8.numel, scatter_S8x128_S2_S8_0_0_01_0.resultIdx? (S8.rowMajor.symm n) (at8 w) = some (ix2 a b) ↔ a = r ∧ b.val = 8 + n.val := by
    intro n
    rw [land n, Option.some.injEq]
    constructor
    · intro e
      exact ⟨(congrFun e 0).symm, (congrArg Fin.val (congrFun e 1)).symm⟩
    · rintro ⟨e0, e1⟩
      rw [e0]
      exact congrArg (ix2 r) (Fin.ext e1.symm)
  by_cases h : a = r ∧ 8 ≤ b.val ∧ b.val < 16
  · rw [dif_pos h]
    have hk : ∀ n : Fin S8.numel, scatter_S8x128_S2_S8_0_0_01_0.resultIdx? (S8.rowMajor.symm n) (at8 w) = some (ix2 a b) ↔
        n = (⟨b.val - 8, show b.val - 8 < 8 by omega⟩ : Fin S8.numel) := by
      intro n
      rw [hl n]
      constructor
      · rintro ⟨-, e⟩
        exact Fin.ext (show n.val = b.val - 8 by omega)
      · intro e
        have := congrArg Fin.val e
        exact ⟨h.1, by simp only at this; omega⟩
    rw [fold_pick _ _ _ hk, if_pos (List.mem_finRange _), flat8]
  · rw [dif_neg h]
    refine fold_none _ _ (fun n q => h ?_) _ _
    obtain ⟨e0, e1⟩ := (hl n).1 q
    have : n.val < 8 := n.isLt
    exact ⟨e0, by omega, by omega⟩

/-! ## The lines -/

/-- The contents of the device's buffers. -/
abbrev Vals := Valuation τ sig (Elt Ideal)

theorem host_params (V : Vals) : StableHlo.after hostOps0 V (Proc.devRef .tc main_v10) =
    (Host.scatter scatter_S8x128_S2_S8_0_0_01_0 (fun _ b => b)
      (Host.scatter scatter_S8x128_S2_S8_0_0_01_0 (fun _ b => b) (broadcastInDim S8x128 ![] bcast_S_S8x128 (constant S_ .f32 0x00000000#32)) (at8 0#32)
        (shapeCast S8 (V (Proc.devRef .tc main_arg1) : FVec Ideal S1x8 .f32) shapeCasts_S1x8_S8))
      (at8 1#32) (shapeCast S8 (V (Proc.devRef .tc main_arg2) : FVec Ideal S1x8 .f32) shapeCasts_S1x8_S8) : FVec Ideal S8x128 .f32) := by
  simp only [hostOps0, at8]
  after_results_entrywise []

/-- The parameters' rows: the logarithms `A` of the decay rates and the biases `B` in columns 8 to 15. -/
def par (A B : ℕ → ℝ) (r c : ℕ) : ℝ := if 8 ≤ c ∧ c < 16 then (if r = 0 then A (c - 8) else if r = 1 then B (c - 8) else 0) else 0

theorem params_at (V : Vals) (A B : ℕ → ℝ) (hA : ∀ i : S1x8.Idx, (V (Proc.devRef .tc main_arg1) : FVec Ideal S1x8 .f32) i = ((A (i 1).val : ℝ) : EReal))
    (hB : ∀ i : S1x8.Idx, (V (Proc.devRef .tc main_arg2) : FVec Ideal S1x8 .f32) i = ((B (i 1).val : ℝ) : EReal)) (i : S8x128.Idx) :
    (StableHlo.after hostOps0 V (Proc.devRef .tc main_v10) : FVec Ideal S8x128 .f32) i = ((par A B (i 0).val (i 1).val : ℝ) : EReal) := by
  obtain ⟨a, b, rfl⟩ : ∃ a b, i = ix2 a b := ⟨i 0, i 1, eq_ix2 i⟩
  rw [host_params, scatter_at 1#32 1 land1, scatter_at 0#32 0 land0]
  show _ = ((par A B a.val b.val : ℝ) : EReal)
  unfold par
  have ha : ∀ (x : FVec Ideal S1x8 .f32) (C : ℕ → ℝ) (hx : ∀ i : S1x8.Idx, x i = ((C (i 1).val : ℝ) : EReal)) (k : Fin 8) (h),
      shapeCast S8 x h (ix1 k) = ((C k.val : ℝ) : EReal) := by
    intro x C hx k h
    simp only [pointwise]
    rw [hx]
    rfl
  by_cases hb : 8 ≤ b.val ∧ b.val < 16
  · rw [if_pos hb]
    by_cases h1 : a = 1
    · subst h1
      rw [dif_pos ⟨rfl, hb⟩, ha _ B hB]
      rfl
    · rw [dif_neg (fun q => h1 q.1)]
      have h1' : ¬a.val = 1 := fun q => h1 (Fin.ext q)
      by_cases h0 : a = 0
      · subst h0
        rw [dif_pos ⟨rfl, hb⟩, ha _ A hA]
        rfl
      · have h0' : ¬a.val = 0 := fun q => h0 (Fin.ext q)
        rw [dif_neg (fun q => h0 q.1), if_neg h0', if_neg h1']
        simp [pointwise]
  · rw [dif_neg (fun q => hb q.2), dif_neg (fun q => hb q.2), if_neg hb]
    simp [pointwise]

theorem host_rowA (V : Vals) : StableHlo.after hostOps1 V (Proc.devRef .tc main_v12) =
    (extractStridedSlice S1x8 ![0, 8] (V (Proc.devRef .tc main_v11_1) : FVec Ideal S8x128 .f32) slices_S8x128_S1x8_0_8 : FVec Ideal S1x8 .f32) := by
  simp only [hostOps1]
  after_results_entrywise []
theorem host_rowB (V : Vals) : StableHlo.after hostOps1 V (Proc.devRef .tc main_v13) =
    (extractStridedSlice S1x8 ![1, 8] (V (Proc.devRef .tc main_v11_1) : FVec Ideal S8x128 .f32) slices_S8x128_S1x8_1_8 : FVec Ideal S1x8 .f32) := by
  simp only [hostOps1]
  after_results_entrywise []

end Cert.Gate
end
-- ==== Proof.GateKernel.lean ====
/-
  The gates' call with the host's lines around it: what its results hold at the end.
-/
module

public import proofs.«01_k».proof.Proof.GateArray
public import proofs.«01_k».proof.Proof.GateHost
public import Idealize.ShloMosaic.Lib.Claim

@[expose] public section

set_option maxRecDepth 16384

noncomputable section
namespace Cert.Gate

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)
variable (X D : Dev nD → ℕ → ℕ → ℝ) (a b : Dev nD → ℕ → ℝ)
variable (hX : ∀ (c : Dev nD) (i : S8320x128.Idx), m (((c : Dev nD).tc : Thread nD τ).loc main_arg0) i = ((X c (i 0).val (i 1).val : ℝ) : EReal))
variable (ha : ∀ (c : Dev nD) (i : S1x8.Idx), m (((c : Dev nD).tc : Thread nD τ).loc main_arg1) i = ((a c (i 1).val : ℝ) : EReal))
variable (hb : ∀ (c : Dev nD) (i : S1x8.Idx), m (((c : Dev nD).tc : Thread nD τ).loc main_arg2) i = ((b c (i 1).val : ℝ) : EReal))
variable (hD : ∀ (c : Dev nD) (i : S8320x128.Idx), m (((c : Dev nD).tc : Thread nD τ).loc main_arg3) i = ((D c (i 0).val (i 1).val : ℝ) : EReal))

theorem arr_inj : Function.Injective (Pipeline.arrRef spec0) := by decide

include hX ha hb hD in
/-- The region leaves the summed rows in its second output. -/
theorem ends (c : Dev nD) : Pipeline.withArrays spec0 c (V0 m c) (fun w => (dats (F := Ideal) m 0 c).arrAt w cfg0.N) (Proc.devRef .tc main_v11_1)
    = accS (X c) (par (a c) (b c)) (D c) 25 :=
  (Pipeline.withArrays_arr spec0 arr_inj c (V0 m c) (fun w => (dats (F := Ideal) m 0 c).arrAt w cfg0.N) 4).trans
    (array4 m c (X c) (par (a c) (b c)) (D c) (fun i => (congrFun (V_main_arg0 m c) i).trans (hX c i))
      (params_at (fun r => m (c, r)) (a c) (b c) (ha c) (hb c)) (fun i => (congrFun (V_main_arg3 m c) i).trans (hD c i)))

theorem row0_at (w : FVec Ideal S8x128 .f32) {X P D : ℕ → ℕ → ℝ} (hw : w = accS X P D 25) (i : S1x8.Idx) :
    extractStridedSlice S1x8 ![0, 8] w slices_S8x128_S1x8_0_8 i = ((∑ t ∈ Finset.range 8320, gA X P D t (8 + (i 1).val) : ℝ) : EReal) := by
  obtain ⟨u, k, rfl⟩ : ∃ u k, i = ix2 u k := ⟨i 0, i 1, eq_ix2 i⟩
  obtain rfl : u = 0 := Subsingleton.elim _ _
  subst hw
  simp [accS, gS, pointwise]
theorem row1_at (w : FVec Ideal S8x128 .f32) {X P D : ℕ → ℕ → ℝ} (hw : w = accS X P D 25) (i : S1x8.Idx) :
    extractStridedSlice S1x8 ![1, 8] w slices_S8x128_S1x8_1_8 i = ((∑ t ∈ Finset.range 8320, gB X P D t (8 + (i 1).val) : ℝ) : EReal) := by
  obtain ⟨u, k, rfl⟩ : ∃ u k, i = ix2 u k := ⟨i 0, i 1, eq_ix2 i⟩
  obtain rfl : u = 0 := Subsingleton.elim _ _
  subst hw
  simp [accS, gS, pointwise]

include hX ha hb hD in
/-- The three results: the gradients of the projection's columns, of the decay rates' logarithms and of the biases. -/
theorem final : θ_run (defs (F := Ideal)) (onTc (τ := τ) (main (F := Ideal))) ⟨m, fun _ => 0, ρ⟩ (fun r => ∀ c : Dev nD,
    r.2.mem ((c.tc : Thread nD τ).loc main_v11_0) = (fun i : S8320x128.Idx => ((gX (X c) (par (a c) (b c)) (D c) (i 0).val (i 1).val : ℝ) : EReal))
    ∧ r.2.mem ((c.tc : Thread nD τ).loc main_v12) = (fun i : S1x8.Idx => ((∑ t ∈ Finset.range 8320, gA (X c) (par (a c) (b c)) (D c) t (8 + (i 1).val) : ℝ) : EReal))
    ∧ r.2.mem ((c.tc : Thread nD τ).loc main_v13) = (fun i : S1x8.Idx => ((∑ t ∈ Finset.range 8320, gB (X c) (par (a c) (b c)) (D c) t (8 + (i 1).val) : ℝ) : EReal))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from (run_main (F := Ideal) m ρ)
  · exact array3 m c (X c) (par (a c) (b c)) (D c) (fun i => (congrFun (V_main_arg0 m c) i).trans (hX c i))
      (params_at (fun r => m (c, r)) (a c) (b c) (ha c) (hb c)) (fun i => (congrFun (V_main_arg3 m c) i).trans (hD c i))
  · exact (host_rowA _).trans (funext (row0_at _ (ends m X D a b hX ha hb hD c)))
  · exact (host_rowB _).trans (funext (row1_at _ (ends m X D a b hX ha hb hD c)))
  · exact W_main_arg1 m (dats m) c
  · exact W_main_arg2 m (dats m) c

end Cert.Gate
end
-- ==== Proof.GateRef.lean ====
/-
  The gates' reference: its run, and its results over the reals.
-/
module

public import proofs.«01_k».proof.Proof.Gen.Reference2Ideal
public import proofs.«01_k».proof.Proof.GateHost
public import Idealize.ShloMosaic.Lib.StableHlo.RunHlo
public import Idealize.ShloMosaic.Lib.StableHlo.RunRead
public import Idealize.ShloMosaic.Lib.Claim
public import Idealize.ShloMosaic.Lib.Quiescent

@[expose] public section

set_option maxRecDepth 100000

noncomputable section
namespace Cert.GateRef

open Cert.Reference2Ideal Cert.Reference2Ideal.Gen Cert.Gate Idealize.ShloMosaic Idealize.ShloMosaic.TcCoe Idealize.SL.Sem

/-- Arrays of exact numbers. -/
abbrev A (s : Shape) := FVec Ideal s .f32

/-- One in every entry. -/
def ones : A S8208x8 := broadcastInDim S8208x8 ![] bcast_S_S8208x8 (constant S_ .f32 0x3F800000#32)
def zero : A S_ := constant S_ .f32 0x00000000#32

section
variable (x : A S8320x128) (al dt : A S1x8) (d : A S8320x128)
/-- The rates, the exponentials of the decays' inputs, and the gradients of the rates and of the decays. -/
def rate : A S8208x8 := Host.divf ones (addf ones
  (Host.exp (Host.negf (extractStridedSlice S8208x8 ![112, 0] x slices_S8320x128_S8208x8_112_0))))
def ez : A S8208x8 := Host.exp (addf (extractStridedSlice S8208x8 ![112, 8] x slices_S8320x128_S8208x8_112_8) (broadcastInDim S8208x8 ![0, 1] bcast_S1x8_S8208x8_0_1 dt))
def rest : A S8208x128 := extractStridedSlice S8208x128 ![112, 0] d slices_S8320x128_S8208x128_112_0
def gRate : A S8208x8 := extractStridedSlice S8208x8 ![0, 0] (rest d) slices_S8208x128_S8208x8_0_0
def gDec : A S8208x8 := extractStridedSlice S8208x8 ![0, 8] (rest d) slices_S8208x128_S8208x8_0_8
/-- The gradient of the decays' inputs and of the rates' inputs. -/
def gZ : A S8208x8 := mulf (Host.divf (mulf (broadcastInDim S8208x8 ![0, 1] bcast_S1x8_S8208x8_0_1 (Host.negf (Host.exp al))) (gDec d))
  (addf (ez x dt) ones)) (ez x dt)
def gR : A S8208x8 := mulf (gRate d) (mulf (rate x) (subf ones (rate x)))
/-- The three results. -/
def resX : FVec Ideal S8320x128 .bf16 := truncf .bf16 (addf (pad S8320x128 ![112, 8] ![0, 112] ![0, 0] (gZ x al dt d) zero pads_S8208x8_S8320x128_11200_81120 h_S_)
  (pad S8320x128 ![112, 0] ![0, 120] ![0, 0] (gR x d) zero pads_S8208x8_S8320x128_11200_01200 h_S_)) bitsLt_bf16_f32
def resA : A S1x8 := mulf (Host.negf (shapeCast S1x8 (Host.reduceAdd (mulf (gDec d) (Host.log1p (ez x dt))) zero reducesTo_S8208x8_S8_d0 h_S_) shapeCasts_S8_S1x8)) (Host.exp al)
def resB : A S1x8 := shapeCast S1x8 (Host.reduceAdd (gZ x al dt d) zero reducesTo_S8208x8_S8_d0 h_S_) shapeCasts_S8_S1x8
end

variable (m : (ℓ : Loc nD τ sig) → Buf (Elt Ideal) ℓ) (ρ : Dev nD → PrngReg)

/-- The reference runs, keeps its arguments, and ends with the three results. -/
theorem run : θ_run (defs (F := Ideal)) (onTc (τ := τ) (main (F := Ideal))) ⟨m, fun _ => 0, ρ⟩ (fun r => ∀ c : Dev nD,
    r.2.mem ((c.tc : Thread nD τ).loc main_v47) = resX (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v42) = resA (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v40) = resB (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  hlo_run <;> sl_kernel_rfl

/-! ## The results' entries -/

section Real
variable {x : A S8320x128} {al dt : A S1x8} {d : A S8320x128} {X D : ℕ → ℕ → ℝ} {a b : ℕ → ℝ}
variable (hx : ∀ i, x i = ((X (i 0).val (i 1).val : ℝ) : EReal)) (ha : ∀ i, al i = ((a (i 1).val : ℝ) : EReal))
variable (hb : ∀ i, dt i = ((b (i 1).val : ℝ) : EReal)) (hd : ∀ i, d i = ((D (i 0).val (i 1).val : ℝ) : EReal))

theorem ones_at (n : Fin 8208) (l : Fin 8) : ones (ix2 n l) = ((1 : ℝ) : EReal) := by
  simp [ones, pointwise]
include hx in
theorem rate_at (n : Fin 8208) (l : Fin 8) : rate x (ix2 n l) = ((sg (X (112 + n.val) l.val) : ℝ) : EReal) := by
  simp [rate, pointwise, ones_at, hx]
  exact Ideal.logistic_coe _
include hx hb in
theorem ez_at (n : Fin 8208) (l : Fin 8) : ez x dt (ix2 n l) = ((Real.exp (X (112 + n.val) (8 + l.val) + b l.val) : ℝ) : EReal) := by
  simp only [ez, pointwise, hx, hb]
  exact (congrArg Ideal.exp (EReal.coe_add _ _).symm).trans (Ideal.exp_coe _)
include hd in
theorem gRate_at (n : Fin 8208) (l : Fin 8) : gRate d (ix2 n l) = ((D (112 + n.val) l.val : ℝ) : EReal) := by
  simp [gRate, rest, pointwise, hd]
include hd in
theorem gDec_at (n : Fin 8208) (l : Fin 8) : gDec d (ix2 n l) = ((D (112 + n.val) (8 + l.val) : ℝ) : EReal) := by
  simp [gDec, rest, pointwise, hd]
include hx ha hb hd in
theorem gZ_at (n : Fin 8208) (l : Fin 8) : gZ x al dt d (ix2 n l) =
    ((D (112 + n.val) (8 + l.val) * -Real.exp (a l.val) * sg (X (112 + n.val) (8 + l.val) + b l.val) : ℝ) : EReal) := by
  have e : gZ x al dt d (ix2 n l) = Ideal.div (-((Real.exp (a l.val) : ℝ) : EReal) * ((D (112 + n.val) (8 + l.val) : ℝ) : EReal))
      (((Real.exp (X (112 + n.val) (8 + l.val) + b l.val) : ℝ) : EReal) + ((1 : ℝ) : EReal)) * ((Real.exp (X (112 + n.val) (8 + l.val) + b l.val) : ℝ) : EReal) := by
    simp only [gZ, pointwise, ones_at, ez_at hx hb, gDec_at hd, ha, Ideal.exp_coe]
    rfl
  have p := Real.exp_pos (X (112 + n.val) (8 + l.val) + b l.val)
  rw [e, ← EReal.coe_add, Ideal.div_coe (by positivity), ← EReal.coe_neg, ← EReal.coe_mul, ← EReal.coe_mul, ← EReal.coe_mul, sg_eq, add_comm (Real.exp _) 1, one_div]
  exact congrArg Real.toEReal (by ring)
include hx hd in
theorem gR_at (n : Fin 8208) (l : Fin 8) : gR x d (ix2 n l) =
    ((D (112 + n.val) l.val * sg (X (112 + n.val) l.val) * (1 - sg (X (112 + n.val) l.val)) : ℝ) : EReal) := by
  have e : gR x d (ix2 n l) = ((D (112 + n.val) l.val : ℝ) : EReal) * (((sg (X (112 + n.val) l.val) : ℝ) : EReal) * (((1 : ℝ) : EReal) - ((sg (X (112 + n.val) l.val) : ℝ) : EReal))) := by
    simp only [gR, pointwise, ones_at, rate_at hx, gRate_at hd]
  rw [e, ← EReal.coe_sub, ← EReal.coe_mul, ← EReal.coe_mul]
  exact congrArg Real.toEReal (by ring)

/-- Rows of zeros above, and columns of zeros on both sides. -/
theorem padZ_at (z : A S8208x8) (n : Fin 8320) (l : Fin 128) (hp) (hh) :
    pad S8320x128 ![112, 8] ![0, 112] ![0, 0] z zero hp hh (ix2 n l) =
      if h : 112 ≤ n.val ∧ 8 ≤ l.val ∧ l.val < 16 then z (ix2 ⟨n.val - 112, by omega⟩ ⟨l.val - 8, by omega⟩) else 0 := by
  simp only [pointwise]
  by_cases h : 112 ≤ n.val ∧ 8 ≤ l.val ∧ l.val < 16
  · rw [dif_pos h, dif_pos (by intro a; fin_cases a <;> simp <;> omega)]
    refine congrArg z (congrArg₂ ix2 (Fin.ext ?_) (Fin.ext ?_)) <;> simp
  · rw [dif_neg h, dif_neg (by intro hh; have h0 := hh 0; have h1 := hh 1; simp at h0 h1; omega)]
    simp [zero, pointwise]
theorem padR_at (z : A S8208x8) (n : Fin 8320) (l : Fin 128) (hp) (hh) :
    pad S8320x128 ![112, 0] ![0, 120] ![0, 0] z zero hp hh (ix2 n l) =
      if h : 112 ≤ n.val ∧ l.val < 8 then z (ix2 ⟨n.val - 112, by omega⟩ ⟨l.val, by omega⟩) else 0 := by
  simp only [pointwise]
  by_cases h : 112 ≤ n.val ∧ l.val < 8
  · rw [dif_pos h, dif_pos (by intro a; fin_cases a <;> simp <;> omega)]
    refine congrArg z (congrArg₂ ix2 (Fin.ext ?_) (Fin.ext ?_)) <;> simp
  · rw [dif_neg h, dif_neg (by intro hh; have h0 := hh 0; have h1 := hh 1; simp at h0 h1; omega)]
    simp [zero, pointwise]

include hx ha hb hd in
/-- The gradients of the projection's columns. -/
theorem resX_at (i : S8320x128.Idx) : resX x al dt d i = ((gX X (par a b) D (i 0).val (i 1).val : ℝ) : EReal) := by
  obtain ⟨n, l, rfl⟩ : ∃ n l, i = ix2 n l := ⟨i 0, i 1, eq_ix2 i⟩
  have e : resX x al dt d (ix2 n l) = (pad S8320x128 ![112, 8] ![0, 112] ![0, 0] (gZ x al dt d) zero pads_S8208x8_S8320x128_11200_81120 h_S_ (ix2 n l) : EReal) +
      pad S8320x128 ![112, 0] ![0, 120] ![0, 0] (gR x d) zero pads_S8208x8_S8320x128_11200_01200 h_S_ (ix2 n l) := by
    simp only [resX, pointwise]
  rw [e, padZ_at, padR_at]
  show _ = ((gX X (par a b) D n.val l.val : ℝ) : EReal)
  unfold gX par
  by_cases hn : 112 ≤ n.val
  · have en : 112 + (n.val - 112) = n.val := by omega
    rw [if_pos hn]
    by_cases h8 : l.val < 8
    · rw [dif_neg (by omega), dif_pos ⟨hn, h8⟩, if_pos h8, gR_at hx hd]
      simp only [en]
      exact zero_add _
    · rw [if_neg h8, dif_neg (show ¬(112 ≤ n.val ∧ l.val < 8) from fun q => h8 q.2), add_zero]
      by_cases h16 : 8 ≤ l.val ∧ l.val < 16
      · have el : 8 + (l.val - 8) = l.val := by omega
        rw [dif_pos ⟨hn, h16⟩, if_pos h16, gZ_at hx ha hb hd]
        simp only [en, el, if_pos h16, if_true, one_ne_zero, if_false]
      · rw [dif_neg (fun q => h16 q.2), if_neg h16]
        rfl
  · rw [dif_neg (fun q => hn q.1), dif_neg (fun q => hn q.1), if_neg hn]
    exact zero_add _

/-- A sum over all tokens of numbers that are zero at the first 112. -/
theorem from112 (f : ℕ → ℝ) (h : ∀ t, t < 112 → f t = 0) : ∑ t ∈ Finset.range 8320, f t = ∑ n : Fin 8208, f (112 + n.val) := by
  rw [show (8320 : ℕ) = 112 + 8208 from rfl, Finset.sum_range_add, Finset.sum_eq_zero (fun t ht => h t (Finset.mem_range.1 ht)), zero_add,
    Fin.sum_univ_eq_sum_range (fun n => f (112 + n))]

theorem sum_at (z : A S8208x8) (k : Fin 8) : Host.reduceAdd z zero reducesTo_S8208x8_S8_d0 h_S_ (ix1 k) = (∑ n : Fin 8208, z (ix2 n k) : EReal) := by
  simp [zero, pointwise]

include hx ha hb hd in
/-- The gradients of the biases. -/
theorem resB_at (i : S1x8.Idx) : resB x al dt d i = ((∑ t ∈ Finset.range 8320, gB X (par a b) D t (8 + (i 1).val) : ℝ) : EReal) := by
  obtain ⟨u, k, rfl⟩ : ∃ u k, i = ix2 u k := ⟨i 0, i 1, eq_ix2 i⟩
  have e : resB x al dt d (ix2 u k) = Host.reduceAdd (gZ x al dt d) zero reducesTo_S8208x8_S8_d0 h_S_ (ix1 k) := by
    obtain rfl : u = 0 := Subsingleton.elim _ _
    simp only [resB, pointwise]
  rw [e, sum_at, from112 _ (fun t ht => by unfold gB; rw [if_neg (by omega : ¬112 ≤ t)]; simp), coe_sum]
  refine Finset.sum_congr rfl fun n _ => (gZ_at hx ha hb hd n k).trans (congrArg Real.toEReal ?_)
  have hk := k.isLt
  show _ = gB X (par a b) D (112 + n.val) (8 + k.val)
  unfold gB par
  rw [if_pos (by omega), if_pos (by omega), if_pos (by omega), if_pos rfl, if_pos (by omega), if_neg (by omega), if_pos rfl, show 8 + k.val - 8 = k.val by omega]

include hx ha hb hd in
/-- The gradients of the logarithms of the decay rates. -/
theorem resA_at (i : S1x8.Idx) : resA x al dt d i = ((∑ t ∈ Finset.range 8320, gA X (par a b) D t (8 + (i 1).val) : ℝ) : EReal) := by
  obtain ⟨u, k, rfl⟩ : ∃ u k, i = ix2 u k := ⟨i 0, i 1, eq_ix2 i⟩
  obtain rfl : u = 0 := Subsingleton.elim _ _
  have e : resA x al dt d (ix2 0 k) = -(Host.reduceAdd (mulf (gDec d) (Host.log1p (ez x dt))) zero reducesTo_S8208x8_S8_d0 h_S_ (ix1 k) : EReal) * Ideal.exp (al (ix2 0 k)) := by
    simp only [resA, pointwise]
  have hz : ∀ n : Fin 8208, (mulf (gDec d) (Host.log1p (ez x dt)) : A S8208x8) (ix2 n k) =
      ((D (112 + n.val) (8 + k.val) * sp (X (112 + n.val) (8 + k.val) + b k.val) : ℝ) : EReal) := by
    intro n
    simp only [pointwise, gDec_at hd, ez_at hx hb]
    exact (congrArg _ (log1p_exp _)).trans (EReal.coe_mul _ _).symm
  rw [e, sum_at, Finset.sum_congr rfl (fun n _ => hz n), ← coe_sum, ha, Ideal.exp_coe, ← EReal.coe_neg, ← EReal.coe_mul,
    from112 _ (fun t ht => by unfold gA; rw [if_neg (by omega : ¬112 ≤ t)]; simp)]
  refine congrArg Real.toEReal ?_
  rw [← Finset.sum_neg_distrib, Finset.sum_mul]
  refine Finset.sum_congr rfl fun n _ => ?_
  have hk := k.isLt
  show _ = gA X (par a b) D (112 + n.val) (8 + k.val)
  unfold gA par
  rw [if_pos (by omega), if_pos (by omega), if_pos (by omega), if_pos rfl, if_pos (by omega), if_neg (by omega), if_pos rfl, show 8 + k.val - 8 = k.val by omega]
  show -(_ * _) * Real.exp (a k.val) = _
  ring
end Real

end Cert.GateRef
end
-- ==== Proof.GateClaim.lean ====
/-
  The claims about the gates' call: it runs and keeps its arguments, and of real arguments it returns the gradients of the gates.
-/
module

public import proofs.«01_k».proof.Defs
public import proofs.«01_k».proof.Proof.Gen.Kernel2.Frame
public import proofs.«01_k».proof.Proof.Gen.Pre_finite2
public import proofs.«01_k».proof.Proof.GateKernel
public import proofs.«01_k».proof.Proof.GateRef
public import proofs.«01_k».proof.Proof.Finite
public import Idealize.ShloMosaic.Adequacy
public import Idealize.ShloMosaic.Init
public import Idealize.ShloMosaic.Lib.Quiescent

@[expose] public section

set_option maxRecDepth 16384

noncomputable section
namespace Cert.Finite

open Cert.Pre_finite2 Cert.Pre_finite2.Gen Idealize.ShloMosaic Idealize.ShloMosaic.TcCoe

/-- The precondition of the gates: the four arrays hold real numbers. -/
theorem reals2 (x : FVec Ideal S8320x128 .f32) (y z : FVec Ideal S1x8 .f32) (w : FVec Ideal S8320x128 .f32)
    (h : fn (F := Ideal) x y z w = fun _ => 1#1) :
    (∀ i, x i = (((x i : EReal).toReal : ℝ) : EReal)) ∧ (∀ i, y i = (((y i : EReal).toReal : ℝ) : EReal)) ∧
      (∀ i, z i = (((z i : EReal).toReal : ℝ) : EReal)) ∧ ∀ i, w i = (((w i : EReal).toReal : ℝ) : EReal) := by
  obtain ⟨h123, h4⟩ := IntOp.andi_eq_one.1 (congrFun h (fun a => a.elim0))
  obtain ⟨h12, h3⟩ := IntOp.andi_eq_one.1 h123
  obtain ⟨h1, h2⟩ := IntOp.andi_eq_one.1 h12
  exact ⟨all_real x _ _ _ _ h1, all_real y _ _ _ _ h2, all_real z _ _ _ _ h3, all_real w _ _ _ _ h4⟩

/-- The entries of a row of real numbers, by natural numbers. -/
def rowEntry (x : FVec Ideal S1x8 .f32) (j : ℕ) : ℝ := entry x 0 j

theorem rowEntry_eq (x : FVec Ideal S1x8 .f32) (hx : ∀ i, x i = (((x i : EReal).toReal : ℝ) : EReal)) (i : S1x8.Idx) :
    x i = ((rowEntry x (i 1).val : ℝ) : EReal) := by
  refine (entry_eq x hx i).trans ?_
  have h : (i 0).val = 0 := Nat.lt_one_iff.1 (i 0).isLt
  rw [h]
  rfl

end Cert.Finite

namespace Cert.Proof

open Idealize.ShloMosaic Idealize.ShloMosaic.TcCoe Idealize.SL.Sem

/-- The gates' call on the machine's floats runs and keeps its arguments. -/
theorem quiescent_Kernel2 : Cert.quiescent_Kernel2 := fun m ρ _ => Cert.Kernel2.Gen.frame m ρ

/-- The same of its idealization. -/
theorem quiescent_Kernel2Ideal : Cert.quiescent_Kernel2Ideal := fun m ρ _ => Cert.Kernel2Ideal.Gen.frame m ρ

/-- The gates' reference runs, keeps its arguments, and declares no semaphore. -/
theorem quiescent_Reference2Ideal : Cert.quiescent_Reference2Ideal := fun m ρ _ =>
  (θ_run Cert.Reference2Ideal.defs _ _).mono (fun r h => ⟨fun c => (h c).2.2.2, sem_eq_zero_of_no_sems (by decide) r.2⟩) (GateRef.run m ρ)

/-- Of real arguments the gates' call and the reference return the same three gradients. -/
theorem algebraic2 : algebraic_Kernel2Ideal_Reference2Ideal_pre_finite2 := by
  intro m ρ m' ρ' hpre hagree
  have hx := fun c => Finite.entry_eq _ (Finite.reals2 _ _ _ _ (hpre c)).1
  have ha := fun c => Finite.rowEntry_eq _ (Finite.reals2 _ _ _ _ (hpre c)).2.1
  have hb := fun c => Finite.rowEntry_eq _ (Finite.reals2 _ _ _ _ (hpre c)).2.2.1
  have hd := fun c => Finite.entry_eq _ (Finite.reals2 _ _ _ _ (hpre c)).2.2.2
  refine ⟨_, _, _, Gate.final m ρ _ _ _ _ hx ha hb hd, ?_⟩
  refine (θ_run Cert.Reference2Ideal.defs _ _).mono (fun _ h c => ?_) (GateRef.run m' ρ')
  obtain ⟨e0, e1, e2, e3⟩ := hagree c
  have hx' := fun i => (congrFun e0 i).trans (hx c i)
  have ha' := fun i => (congrFun e1 i).trans (ha c i)
  have hb' := fun i => (congrFun e2 i).trans (hb c i)
  have hd' := fun i => (congrFun e3 i).trans (hd c i)
  obtain ⟨r0, r1, r2, k⟩ := h c
  exact ⟨r0.trans (funext (GateRef.resX_at hx' ha' hb' hd')), r1.trans (funext (GateRef.resA_at hx' ha' hb' hd')),
    r2.trans (funext (GateRef.resB_at hx' ha' hb' hd')), k⟩

end Cert.Proof
end
-- ==== Proof.MergeReal.lean ====
/-
  The merge's backward call on one block of 320 tokens. With `D` the gradient of the projected merge, `W` the output
  projection, `G` the gates' columns, `Y` and `Z` the two branches and `b` the second branch's bias, its stored blocks hold
  the gradients of the branches and of the gates' columns, and its sum runs over the block's tokens. The numbers are the
  extended reals: no entry has to be finite.
-/
module

public import proofs.«01_k».proof.Proof.Gen.Kernel3Ideal.Skeleton
public import Idealize.ShloMosaic.Lib.Pointwise.Contract
public import Idealize.ShloMosaic.Lib.Pointwise.Reduce
public import Idealize.ShloMosaic.Lib.Pointwise.Elementwise
public import Idealize.ShloMosaic.Lib.Pointwise.ShapeOps
public import Idealize.ShloMosaic.Lib.Pointwise.Reshape

@[expose] public section

set_option maxRecDepth 16384

noncomputable section
namespace Cert.Merge

open Cert.Kernel3Ideal Idealize.ShloMosaic

/-- A block of rows from row `o` on of an array. -/
def rows {n m : ℕ} (A : ℕ → ℕ → EReal) (o : ℕ) : (⟨2, ![n, m]⟩ : Shape).Idx → EReal := fun i => A (o + (i 0).val) (i 1).val

variable (D W G Y Z b : ℕ → ℕ → EReal)

/-- The gradient of the merged branches: the gradient of their projection times the projection's transpose. -/
def dm (n k : ℕ) : EReal := ∑ j : Fin 1024, D n j.val * W k j.val
/-- The two gates. -/
def sA (n k : ℕ) : EReal := Ideal.logistic (G n k)
def sB (n k : ℕ) : EReal := Ideal.logistic (G n (1024 + k))
/-- The gradients of the two branches. -/
def gY (n k : ℕ) : EReal := dm D W n k * sA G n k
def gZ (n k : ℕ) : EReal := dm D W n k * sB G n k
/-- The gradients of the columns of the two gates. -/
def gGA (n k : ℕ) : EReal := dm D W n k * Y n k * sA G n k * (1 - sA G n k)
def gGB (n k : ℕ) : EReal := dm D W n k * (Z n k + b 0 k) * sB G n k * (1 - sB G n k)
def gG (n l : ℕ) : EReal := if l < 1024 then gGA D W G Y n l else gGB D W G Z b n (l - 1024)

/-- The halves of a block of the gates' columns. -/
def half0 (x : Vec Ideal S320x2048 .bf16) : Vec Ideal S320x1024 .bf16 := fun j =>
  x (ix2 ⟨(j 0).val, (j 0).isLt⟩ ⟨(j 1).val, Nat.lt_of_lt_of_le (j 1).isLt (by decide)⟩)
def half1 (x : Vec Ideal S320x2048 .bf16) : Vec Ideal S320x1024 .bf16 := fun j =>
  x (ix2 ⟨(j 0).val, (j 0).isLt⟩ ⟨1024 + (j 1).val, Nat.add_lt_add_left (j 1).isLt 1024⟩)

variable (o : ℕ)

theorem pay3_at (r : Fin 320) (k : Fin 1024) : Gen.k0_pay3 (F := Ideal) (rows D o) (rows W 0) (ix2 r k) = dm D W (o + r.val) k.val := by
  simp [Gen.k0_pay3, pointwise, rows, dm]
theorem pay5_at (r : Fin 320) (k : Fin 1024) : Gen.k0_pay5 (F := Ideal) (half0 (rows G o)) (ix2 r k) = sA G (o + r.val) k.val := by
  simp only [Gen.k0_pay5, pointwise, Ideal.logistic_def]
  rfl
theorem pay6_at (r : Fin 320) (k : Fin 1024) : Gen.k0_pay6 (F := Ideal) (half1 (rows G o)) (ix2 r k) = sB G (o + r.val) k.val := by
  simp only [Gen.k0_pay6, pointwise, Ideal.logistic_def]
  rfl
theorem pay7_at (r : Fin 320) (k : Fin 1024) : Gen.k0_pay7 (F := Ideal) (rows D o) (rows W 0) (half1 (rows G o)) (ix2 r k) = gZ D W G (o + r.val) k.val := by
  simp only [Gen.k0_pay7, pointwise, pay3_at, pay6_at]
  rfl
theorem pay8_at (r : Fin 320) (k : Fin 1024) : Gen.k0_pay8 (F := Ideal) (rows D o) (rows W 0) (half0 (rows G o)) (ix2 r k) = gY D W G (o + r.val) k.val := by
  simp only [Gen.k0_pay8, pointwise, pay3_at, pay5_at]
  rfl
theorem pay9_at (r : Fin 320) (k : Fin 1024) : Gen.k0_pay9 (F := Ideal) (rows D o) (rows W 0) (half1 (rows G o)) (ix2 r k) = gZ D W G (o + r.val) k.val := by
  simp only [Gen.k0_pay9, pointwise, pay7_at]
  rfl
theorem pay10_at (r : Fin 320) (k : Fin 1024) : Gen.k0_pay10 (F := Ideal) (rows D o) (rows W 0) (half0 (rows G o)) (rows Y o) (ix2 r k) =
    gGA D W G Y (o + r.val) k.val := by
  simp [Gen.k0_pay10, pointwise, pay3_at, pay5_at]
  rfl
theorem pay11_at (r : Fin 320) (k : Fin 1024) : Gen.k0_pay11 (F := Ideal) (rows Z o) (rows b 0) (ix2 r k) = Z (o + r.val) k.val + b 0 k.val := by
  simp [Gen.k0_pay11, pointwise, rows]
theorem pay1_at (r : Fin 320) (k : Fin 1024) : Gen.k0_pay1 (F := Ideal) (Gen.k0_pay3 (rows D o) (rows W 0)) (Gen.k0_pay6 (half1 (rows G o)))
    (Gen.k0_pay11 (rows Z o) (rows b 0)) (ix2 r k) = gGB D W G Z b (o + r.val) k.val := by
  simp [Gen.k0_pay1, pointwise, pay3_at, pay6_at, pay11_at]
  rfl

/-- The sum over a block's tokens. -/
theorem csum_at (v : FVec Ideal S320x1024 .f32) (h h' h'') (k : Fin 1024) :
    multiReduction .add [0] S1024 v 0x00000000#32 h h' h'' (ix1 k) = ∑ a : Fin 320, v (ix2 a k) := by
  simp [pointwise]
/-- The row of sums the call adds to. -/
theorem pay2_at (v : FVec Ideal S1x1024 .f32) (k : Fin 1024) :
    Gen.k0_pay2 (F := Ideal) (Gen.k0_pay7 (rows D o) (rows W 0) (half1 (rows G o))) v (ix2 0 k)
      = v (ix2 0 k) + ∑ a : Fin 320, gZ D W G (o + a.val) k.val := by
  simp only [Gen.k0_pay2, pointwise]
  refine congrArg _ ((csum_at _ _ _ _ k).trans (Finset.sum_congr rfl fun a _ => pay7_at D W G o a k))

end Cert.Merge
end
-- ==== Proof.MergeBlock.lean ====
/-
  What one point of the merge's call leaves: the blocks of the gradients of the two branches, the block of the gates' columns'
  gradients, stored half by half, and the block of sums, whose first row gains the bias's gradients of the point's 320 tokens.
-/
module

public import proofs.«01_k».proof.Proof.MergeReal
public import proofs.«01_k».proof.Proof.Gen.Kernel3Ideal.Frame
public import Idealize.ShloMosaic.Lib.WritesUnit
public import Idealize.ShloMosaic.Lib.Pipeline.Value

@[expose] public section

set_option maxRecDepth 16384

noncomputable section
namespace Cert.Merge

open Cert.Kernel3Ideal Cert.Kernel3Ideal.Gen Idealize.ShloMosaic Idealize.ShloMosaic.TcCoe Idealize.SL.Sem

local notation "𝕍" s:max => Vec Idealize.ShloMosaic.Ideal s EltTy.f32
local notation "𝔹" s:max => Vec Idealize.ShloMosaic.Ideal s EltTy.bf16

/-! ## The rectangles of the body's loads and stores -/

abbrev wX : Rect S320x1024 := Rect.unit (s := S320x1024) ![0, 0] S320x1024.size inb_S320x1024_S320x1024_0_0
abbrev wW : Rect S1024x1024 := Rect.unit (s := S1024x1024) ![0, 0] S1024x1024.size inb_S1024x1024_S1024x1024_0_0
abbrev wB : Rect S1x1024 := Rect.unit (s := S1x1024) ![0, 0] S1x1024.size inb_S1x1024_S1x1024_0_0
abbrev wS : Rect S8x1024 := Rect.unit (s := S8x1024) ![0, 0] S8x1024.size inb_S8x1024_S8x1024_0_0
abbrev row0 : Rect S8x1024 := Rect.unit (s := S8x1024) ![0, 0] S1x1024.size inb_S8x1024_S1x1024_0_0
abbrev lo : Rect S320x2048 := Rect.unit (s := S320x2048) ![0, 0] S320x1024.size inb_S320x2048_S320x1024_0_0
abbrev hi : Rect S320x2048 := Rect.unit (s := S320x2048) ![0, 1024] S320x1024.size inb_S320x2048_S320x1024_0_1024

/-- A load of a whole block reads the block. -/
theorem read_whole {n m : ℕ} {e : EltTy} (arg : Memref sig .tc .vmem ⟨2, ![n, m]⟩ e) (harg : arg.IsWhole) (x : Vec Ideal ⟨2, ![n, m]⟩ e)
    (inb : ∀ a, (![0, 0] : Fin 2 → Nat) a + (⟨2, ![n, m]⟩ : Shape).size a ≤ (⟨2, ![n, m]⟩ : Shape).size a) :
    View.readAt (Elt Ideal) arg.view (Rect.unit (s := ⟨2, ![n, m]⟩) ![0, 0] (⟨2, ![n, m]⟩ : Shape).size inb).toLoadRect (harg.unread x) = x := by
  funext j
  refine (congrFun (Memref.IsWhole.read_unread (Val := Elt Ideal) harg x) _).trans (congrArg x (funext fun a => Fin.ext ?_))
  match a with
  | ⟨0, _⟩ => show 0 + 1 * (j 0).val = (j 0).val; omega
  | ⟨1, _⟩ => show 0 + 1 * (j 1).val = (j 1).val; omega
/-- A load of half the columns reads the half. -/
theorem read_lo (arg : Memref sig .tc .vmem S320x2048 .bf16) (harg : arg.IsWhole) (x : 𝔹 S320x2048) :
    View.readAt (Elt Ideal) arg.view lo.toLoadRect (harg.unread x) = half0 x := by
  funext j
  refine (congrFun (Memref.IsWhole.read_unread (Val := Elt Ideal) harg x) _).trans (congrArg x (funext fun a => Fin.ext ?_))
  match a with
  | ⟨0, _⟩ => show 0 + 1 * (j 0).val = (j 0).val; omega
  | ⟨1, _⟩ => show 0 + 1 * (j 1).val = (j 1).val; omega
theorem read_hi (arg : Memref sig .tc .vmem S320x2048 .bf16) (harg : arg.IsWhole) (x : 𝔹 S320x2048) :
    View.readAt (Elt Ideal) arg.view hi.toLoadRect (harg.unread x) = half1 x := by
  funext j
  refine (congrFun (Memref.IsWhole.read_unread (Val := Elt Ideal) harg x) _).trans (congrArg x (funext fun a => Fin.ext ?_))
  match a with
  | ⟨0, _⟩ => show 0 + 1 * (j 0).val = (j 0).val; omega
  | ⟨1, _⟩ => show 1024 + 1 * (j 1).val = 1024 + (j 1).val; omega

/-! ## Reading after the stores -/

theorem whole_read {sp : Space} {n m : ℕ} {e : EltTy} (v : View sig .tc sp ⟨2, ![n, m]⟩ e) (f : v.ty.Contents (Elt Ideal)) (w : Vec Ideal ⟨2, ![n, m]⟩ e)
    (inb : ∀ a, (![0, 0] : Fin 2 → Nat) a + (⟨2, ![n, m]⟩ : Shape).size a ≤ (⟨2, ![n, m]⟩ : Shape).size a) (r : Fin n) (k : Fin m) :
    v.read (Elt Ideal) (v.writes (Elt Ideal) f [⟨Rect.unit (s := ⟨2, ![n, m]⟩) ![0, 0] (⟨2, ![n, m]⟩ : Shape).size inb, w⟩]) (ix2 r k) = w (ix2 r k) :=
  View.read_writes_cons_rows_of_mem (d := ![n, m]) (o := 0) v f _ w _ (ix2 r k) (ix2 r k) rfl (Nat.zero_add _).symm rfl
/-- A buffer after a store of its left half and then of its right half. -/
theorem halves_read {sp : Space} (v : View sig .tc sp S320x2048 .bf16) (f : v.ty.Contents (Elt Ideal)) (w0 w1 : 𝔹 S320x1024) (r : Fin 320) (l : Fin 2048) :
    v.read (Elt Ideal) (v.writes (Elt Ideal) f [⟨hi, w1⟩, ⟨lo, w0⟩]) (ix2 r l) =
      if h : l.val < 1024 then w0 (ix2 r ⟨l.val, h⟩) else w1 (ix2 r ⟨l.val - 1024, by omega⟩) := by
  by_cases h : l.val < 1024
  · rw [dif_pos h]
    refine (View.read_writes_cons_unit_of_not_mem v f _ w1 _ (ix2 r l) rfl (1 : Fin 2) (Or.inl h)).trans ?_
    exact View.read_writes_cons_rows_of_mem (d := ![320, 2048]) (o := 0) v f _ w0 _ (ix2 r l) (ix2 r ⟨l.val, h⟩) rfl (Nat.zero_add _).symm rfl
  · rw [dif_neg h]
    refine View.read_writes_cons_unit_of_mem v f _ w1 _ (ix2 r l) (ix2 r ⟨l.val - 1024, by omega⟩) rfl (fun a => ?_)
    match a with
    | ⟨0, _⟩ => exact (Nat.zero_add _).symm
    | ⟨1, _⟩ => show l.val = 1024 + (l.val - 1024); omega
/-- A buffer after a store of its first row. -/
theorem row_read {sp : Space} (v : View sig .tc sp S8x1024 .f32) (f : v.ty.Contents (Elt Ideal)) (w0 : 𝕍 S1x1024)
    (L : List (View.Piece (Elt Ideal) S8x1024 .f32)) (r : Fin 8) (k : Fin 1024) :
    v.read (Elt Ideal) (v.writes (Elt Ideal) f (⟨row0, w0⟩ :: L)) (ix2 r k) =
      if r.val = 0 then w0 (ix2 0 k) else v.read (Elt Ideal) (v.writes (Elt Ideal) f L) (ix2 r k) := by
  by_cases h0 : r.val = 0
  · rw [if_pos h0]
    exact View.read_writes_cons_rows_of_mem (d := ![8, 1024]) (o := 0) v f _ w0 _ (ix2 r k) (ix2 0 k) rfl (by show r.val = 0 + 0; omega) rfl
  · rw [if_neg h0]
    exact View.read_writes_cons_rows_of_not_mem (d := ![8, 1024]) (o := 0) (W := 1) v f _ w0 _ (ix2 r k) rfl rfl (Or.inr (by show 0 + 1 ≤ r.val; omega))

variable (c : Dev nD) (i : grid0.Coords) (arg2 : Memref sig .tc .vmem S320x1024 .bf16) (harg2 : arg2.IsWhole) (arg3 : Memref sig .tc .vmem S1024x1024 .bf16) (harg3 : arg3.IsWhole) (arg4 : Memref sig .tc .vmem S320x2048 .bf16) (harg4 : arg4.IsWhole) (arg5 : Memref sig .tc .vmem S320x1024 .f32) (harg5 : arg5.IsWhole) (arg6 : Memref sig .tc .vmem S320x1024 .f32) (harg6 : arg6.IsWhole) (arg7 : Memref sig .tc .vmem S1x1024 .f32) (harg7 : arg7.IsWhole) (arg8 : Memref sig .tc .vmem S320x1024 .bf16) (harg8 : arg8.IsWhole) (arg9 : Memref sig .tc .vmem S320x1024 .bf16) (harg9 : arg9.IsWhole) (arg10 : Memref sig .tc .vmem S320x2048 .bf16) (harg10 : arg10.IsWhole) (arg11 : Memref sig .tc .vmem S8x1024 .f32) (harg11 : arg11.IsWhole)
variable (x0 : 𝔹 S320x1024) (x1 : 𝔹 S1024x1024) (x2 : 𝔹 S320x2048) (x3 x4 : 𝕍 S320x1024) (x5 : 𝕍 S1x1024) (xo9 : 𝕍 S8x1024)

/-- The loads of the six arguments. -/
def l0 : 𝔹 S320x1024 := View.readAt (Elt Ideal) arg2.view wX.toLoadRect (harg2.unread x0)
def l1 : 𝔹 S1024x1024 := View.readAt (Elt Ideal) arg3.view wW.toLoadRect (harg3.unread x1)
def l2 : 𝔹 S320x1024 := View.readAt (Elt Ideal) arg4.view lo.toLoadRect (harg4.unread x2)
def l2' : 𝔹 S320x1024 := View.readAt (Elt Ideal) arg4.view hi.toLoadRect (harg4.unread x2)
def l3 : 𝕍 S320x1024 := View.readAt (Elt Ideal) arg5.view wX.toLoadRect (harg5.unread x3)
def l4 : 𝕍 S320x1024 := View.readAt (Elt Ideal) arg6.view wX.toLoadRect (harg6.unread x4)
def l5 : 𝕍 S1x1024 := View.readAt (Elt Ideal) arg7.view wB.toLoadRect (harg7.unread x5)
theorem l0_eq : l0 arg2 harg2 x0 = x0 := read_whole _ _ _ _
theorem l1_eq : l1 arg3 harg3 x1 = x1 := read_whole _ _ _ _
theorem l2_eq : l2 arg4 harg4 x2 = half0 x2 := read_lo _ _ _
theorem l2'_eq : l2' arg4 harg4 x2 = half1 x2 := read_hi _ _ _
theorem l3_eq : l3 arg5 harg5 x3 = x3 := read_whole _ _ _ _
theorem l4_eq : l4 arg6 harg6 x4 = x4 := read_whole _ _ _ _
theorem l5_eq : l5 arg7 harg7 x5 = x5 := read_whole _ _ _ _

/-- The zeros stored at the first point, and the loads of the sums' first row. -/
def zP : List (View.Piece (Elt Ideal) S8x1024 .f32) := [⟨wS, k0_pay4 (F := Ideal)⟩]
def vA : 𝕍 S1x1024 := arg11.view.readCov zP row0.toLoadRect
def vB : 𝕍 S1x1024 := View.readAt (Elt Ideal) arg11.view row0.toLoadRect (harg11.unread xo9)

/-! ## The pieces of the body's stores, at the first point and at a later one -/

theorem piecesA6 (hc0 : cond0_0 i) :
    (kernelRun0_A (F := Ideal) c i arg2 harg2 arg3 harg3 arg4 harg4 arg5 harg5 arg6 harg6 arg7 harg7 arg8 harg8 arg9 harg9 arg10 harg10 arg11 harg11 hc0 x0 x1 x2 x3 x4 x5).1
      = [⟨wX, k0_pay8 (F := Ideal) x0 x1 (half0 x2)⟩] := by
  refine Eq.trans (b := [⟨wX, k0_pay8 (F := Ideal) (l0 arg2 harg2 x0) (l1 arg3 harg3 x1) (l2 arg4 harg4 x2)⟩]) (by sl_kernel_rfl) ?_
  rw [l0_eq, l1_eq, l2_eq]
theorem piecesB6 (hc0 : ¬cond0_0 i) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 xo9).1
      = [⟨wX, k0_pay8 (F := Ideal) x0 x1 (half0 x2)⟩] := by
  refine Eq.trans (b := [⟨wX, k0_pay8 (F := Ideal) (l0 arg2 harg2 x0) (l1 arg3 harg3 x1) (l2 arg4 harg4 x2)⟩]) (by sl_kernel_rfl) ?_
  rw [l0_eq, l1_eq, l2_eq]
theorem piecesA7 (hc0 : cond0_0 i) :
    (kernelRun0_A (F := Ideal) c i arg2 harg2 arg3 harg3 arg4 harg4 arg5 harg5 arg6 harg6 arg7 harg7 arg8 harg8 arg9 harg9 arg10 harg10 arg11 harg11 hc0 x0 x1 x2 x3 x4 x5).2.1
      = [⟨wX, k0_pay9 (F := Ideal) x0 x1 (half1 x2)⟩] := by
  refine Eq.trans (b := [⟨wX, k0_pay9 (F := Ideal) (l0 arg2 harg2 x0) (l1 arg3 harg3 x1) (l2' arg4 harg4 x2)⟩]) (by sl_kernel_rfl) ?_
  rw [l0_eq, l1_eq, l2'_eq]
theorem piecesB7 (hc0 : ¬cond0_0 i) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 xo9).2.1
      = [⟨wX, k0_pay9 (F := Ideal) x0 x1 (half1 x2)⟩] := by
  refine Eq.trans (b := [⟨wX, k0_pay9 (F := Ideal) (l0 arg2 harg2 x0) (l1 arg3 harg3 x1) (l2' arg4 harg4 x2)⟩]) (by sl_kernel_rfl) ?_
  rw [l0_eq, l1_eq, l2'_eq]
theorem piecesA8 (hc0 : cond0_0 i) :
    (kernelRun0_A (F := Ideal) c i arg2 harg2 arg3 harg3 arg4 harg4 arg5 harg5 arg6 harg6 arg7 harg7 arg8 harg8 arg9 harg9 arg10 harg10 arg11 harg11 hc0 x0 x1 x2 x3 x4 x5).2.2.1
      = [⟨hi, k0_pay1 (F := Ideal) (k0_pay3 x0 x1) (k0_pay6 (half1 x2)) (k0_pay11 x4 x5)⟩, ⟨lo, k0_pay10 (F := Ideal) x0 x1 (half0 x2) x3⟩] := by
  refine Eq.trans (b := [⟨hi, k0_pay1 (F := Ideal) (k0_pay3 (l0 arg2 harg2 x0) (l1 arg3 harg3 x1)) (k0_pay6 (l2' arg4 harg4 x2)) (k0_pay11 (l4 arg6 harg6 x4) (l5 arg7 harg7 x5))⟩, ⟨lo, k0_pay10 (F := Ideal) (l0 arg2 harg2 x0) (l1 arg3 harg3 x1) (l2 arg4 harg4 x2) (l3 arg5 harg5 x3)⟩]) (by sl_kernel_rfl) ?_
  rw [l0_eq, l1_eq, l2_eq, l2'_eq, l3_eq, l4_eq, l5_eq]
theorem piecesB8 (hc0 : ¬cond0_0 i) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 xo9).2.2.1
      = [⟨hi, k0_pay1 (F := Ideal) (k0_pay3 x0 x1) (k0_pay6 (half1 x2)) (k0_pay11 x4 x5)⟩, ⟨lo, k0_pay10 (F := Ideal) x0 x1 (half0 x2) x3⟩] := by
  refine Eq.trans (b := [⟨hi, k0_pay1 (F := Ideal) (k0_pay3 (l0 arg2 harg2 x0) (l1 arg3 harg3 x1)) (k0_pay6 (l2' arg4 harg4 x2)) (k0_pay11 (l4 arg6 harg6 x4) (l5 arg7 harg7 x5))⟩, ⟨lo, k0_pay10 (F := Ideal) (l0 arg2 harg2 x0) (l1 arg3 harg3 x1) (l2 arg4 harg4 x2) (l3 arg5 harg5 x3)⟩]) (by sl_kernel_rfl) ?_
  rw [l0_eq, l1_eq, l2_eq, l2'_eq, l3_eq, l4_eq, l5_eq]
theorem piecesA9 (hc0 : cond0_0 i) :
    (kernelRun0_A (F := Ideal) c i arg2 harg2 arg3 harg3 arg4 harg4 arg5 harg5 arg6 harg6 arg7 harg7 arg8 harg8 arg9 harg9 arg10 harg10 arg11 harg11 hc0 x0 x1 x2 x3 x4 x5).2.2.2.1
      = ⟨row0, k0_pay2 (F := Ideal) (k0_pay7 x0 x1 (half1 x2)) (vA arg11)⟩ :: zP := by
  refine Eq.trans (b := ⟨row0, k0_pay2 (F := Ideal) (k0_pay7 (l0 arg2 harg2 x0) (l1 arg3 harg3 x1) (l2' arg4 harg4 x2)) (vA arg11)⟩ :: zP) (by sl_kernel_rfl) ?_
  rw [l0_eq, l1_eq, l2'_eq]
theorem piecesB9 (hc0 : ¬cond0_0 i) :
    (kernelRun0_B (F := Ideal) c i arg2 harg2 arg3 harg3 arg4 harg4 arg5 harg5 arg6 harg6 arg7 harg7 arg8 harg8 arg9 harg9 arg10 harg10 arg11 harg11 hc0 x0 x1 x2 x3 x4 x5 xo9).2.2.2.1
      = ⟨row0, k0_pay2 (F := Ideal) (k0_pay7 x0 x1 (half1 x2)) (vB arg11 harg11 xo9)⟩ :: [] := by
  refine Eq.trans (b := ⟨row0, k0_pay2 (F := Ideal) (k0_pay7 (l0 arg2 harg2 x0) (l1 arg3 harg3 x1) (l2' arg4 harg4 x2)) (vB arg11 harg11 xo9)⟩ :: []) (by sl_kernel_rfl) ?_
  rw [l0_eq, l1_eq, l2'_eq]

/-- What the loads of the sums' first row read. -/
theorem row_emb0 (k : Fin 1024) : row0.toLoadRect.idx (ix2 0 k) = ix2 0 k := by
  funext a
  refine Fin.ext ?_
  match a with
  | ⟨0, _⟩ => rfl
  | ⟨1, _⟩ => show 0 + 1 * k.val = k.val; omega
theorem pay4_at (r : Fin 8) (k : Fin 1024) : k0_pay4 (F := Ideal) (ix2 r k) = 0 := by simp [k0_pay4, pointwise]
theorem vA_at (k : Fin 1024) : vA arg11 (ix2 0 k) = (0 : EReal) := by
  refine Eq.trans (b := arg11.view.read (Elt Ideal) (arg11.view.writes (Elt Ideal) arg11.view.junk zP) (row0.toLoadRect.idx (ix2 0 k))) rfl ?_
  rw [row_emb0]
  exact (whole_read _ _ _ _ _ _).trans (pay4_at _ _)
theorem vB_at (k : Fin 1024) : vB arg11 harg11 xo9 (ix2 0 k) = xo9 (ix2 0 k) := by
  refine Eq.trans (b := arg11.view.read (Elt Ideal) (harg11.unread xo9) (row0.toLoadRect.idx (ix2 0 k))) rfl ?_
  rw [row_emb0]
  exact congrFun (Memref.IsWhole.read_unread (Val := Elt Ideal) harg11 xo9) _

/-! ## The blocks a point leaves -/

variable (D W G Y Z b : ℕ → ℕ → EReal)

theorem outA6 (hc0 : cond0_0 i) :
    out0_A_6 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0)
      = fun j => gY D W G (320 * (i 0).val + (j 0).val) (j 1).val := by
  funext j
  obtain ⟨r, k, rfl⟩ : ∃ r k, j = ix2 r k := ⟨j 0, j 1, eq_ix2 j⟩
  unfold out0_A_6
  rw [piecesA6]
  refine (whole_read _ _ _ _ _ _).trans ?_
  exact pay8_at D W G _ r k
theorem outB6 (hc0 : ¬cond0_0 i) :
    out0_B_6 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0) xo9
      = fun j => gY D W G (320 * (i 0).val + (j 0).val) (j 1).val := by
  funext j
  obtain ⟨r, k, rfl⟩ : ∃ r k, j = ix2 r k := ⟨j 0, j 1, eq_ix2 j⟩
  unfold out0_B_6
  rw [piecesB6]
  refine (whole_read _ _ _ _ _ _).trans ?_
  exact pay8_at D W G _ r k
theorem outA7 (hc0 : cond0_0 i) :
    out0_A_7 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0)
      = fun j => gZ D W G (320 * (i 0).val + (j 0).val) (j 1).val := by
  funext j
  obtain ⟨r, k, rfl⟩ : ∃ r k, j = ix2 r k := ⟨j 0, j 1, eq_ix2 j⟩
  unfold out0_A_7
  rw [piecesA7]
  refine (whole_read _ _ _ _ _ _).trans ?_
  exact pay9_at D W G _ r k
theorem outB7 (hc0 : ¬cond0_0 i) :
    out0_B_7 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0) xo9
      = fun j => gZ D W G (320 * (i 0).val + (j 0).val) (j 1).val := by
  funext j
  obtain ⟨r, k, rfl⟩ : ∃ r k, j = ix2 r k := ⟨j 0, j 1, eq_ix2 j⟩
  unfold out0_B_7
  rw [piecesB7]
  refine (whole_read _ _ _ _ _ _).trans ?_
  exact pay9_at D W G _ r k
theorem outA8 (hc0 : cond0_0 i) :
    out0_A_8 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0)
      = fun j => gG D W G Y Z b (320 * (i 0).val + (j 0).val) (j 1).val := by
  funext j
  obtain ⟨r, k, rfl⟩ : ∃ r k, j = ix2 r k := ⟨j 0, j 1, eq_ix2 j⟩
  unfold out0_A_8
  rw [piecesA8, halves_read]
  show _ = gG D W G Y Z b (320 * (i 0).val + r.val) k.val
  unfold gG
  by_cases h : k.val < 1024
  · rw [dif_pos h, if_pos h]
    exact pay10_at D W G Y _ r ⟨k.val, h⟩
  · rw [dif_neg h, if_neg h]
    exact pay1_at D W G Z b _ r ⟨k.val - 1024, by omega⟩
theorem outB8 (hc0 : ¬cond0_0 i) :
    out0_B_8 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0) xo9
      = fun j => gG D W G Y Z b (320 * (i 0).val + (j 0).val) (j 1).val := by
  funext j
  obtain ⟨r, k, rfl⟩ : ∃ r k, j = ix2 r k := ⟨j 0, j 1, eq_ix2 j⟩
  unfold out0_B_8
  rw [piecesB8, halves_read]
  show _ = gG D W G Y Z b (320 * (i 0).val + r.val) k.val
  unfold gG
  by_cases h : k.val < 1024
  · rw [dif_pos h, if_pos h]
    exact pay10_at D W G Y _ r ⟨k.val, h⟩
  · rw [dif_neg h, if_neg h]
    exact pay1_at D W G Z b _ r ⟨k.val - 1024, by omega⟩

/-- What row `r` of the sums gains from token `t` in column `k`. -/
def gS (r t k : ℕ) : EReal := if r = 0 then gZ D W G t k else 0

theorem outA9 (hc0 : cond0_0 i) :
    out0_A_9 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0)
      = fun j => ∑ a : Fin 320, gS D W G (j 0).val (320 * (i 0).val + a.val) (j 1).val := by
  funext j
  obtain ⟨r, k, rfl⟩ : ∃ r k, j = ix2 r k := ⟨j 0, j 1, eq_ix2 j⟩
  show _ = ∑ a : Fin 320, gS D W G r.val (320 * (i 0).val + a.val) k.val
  unfold out0_A_9 gS
  rw [piecesA9, row_read]
  by_cases h0 : r.val = 0
  · obtain rfl : r = 0 := Fin.ext h0
    simp only [if_pos h0]
    refine (pay2_at D W G _ _ k).trans ?_
    rw [vA_at, zero_add]
  · simp only [if_neg h0]
    refine ((whole_read _ _ _ _ _ _).trans (pay4_at _ _)).trans ?_
    simp
theorem outB9 (hc0 : ¬cond0_0 i) :
    out0_B_9 (F := Ideal) c i arg2 harg2 arg3 harg3 arg4 harg4 arg5 harg5 arg6 harg6 arg7 harg7 arg8 harg8 arg9 harg9 arg10 harg10 arg11 harg11 hc0 (rows D (320 * (i 0).val)) (rows W 0) (rows G (320 * (i 0).val)) (rows Y (320 * (i 0).val)) (rows Z (320 * (i 0).val)) (rows b 0) xo9
      = fun j => xo9 j + ∑ a : Fin 320, gS D W G (j 0).val (320 * (i 0).val + a.val) (j 1).val := by
  funext j
  obtain ⟨r, k, rfl⟩ : ∃ r k, j = ix2 r k := ⟨j 0, j 1, eq_ix2 j⟩
  show _ = xo9 (ix2 r k) + ∑ a : Fin 320, gS D W G r.val (320 * (i 0).val + a.val) k.val
  unfold out0_B_9 gS
  rw [piecesB9, row_read]
  by_cases h0 : r.val = 0
  · obtain rfl : r = 0 := Fin.ext h0
    simp only [if_pos h0]
    refine (pay2_at D W G _ _ k).trans ?_
    rw [vB_at]
  · simp only [if_neg h0]
    refine (congrFun (Memref.IsWhole.read_unread (Val := Elt Ideal) harg11 xo9) _).trans ?_
    simp

end Cert.Merge
end
-- ==== Proof.MergeArray.lean ====
/-
  The arrays the merge's call leaves: the gradients of the two branches and of the gates' columns, block after block, and
  the sums over all tokens.
-/
module

public import proofs.«01_k».proof.Proof.MergeBlock

@[expose] public section

set_option maxRecDepth 16384

noncomputable section
namespace Cert.Merge

open Cert.Kernel3Ideal Cert.Kernel3Ideal.Gen Idealize.ShloMosaic Idealize.ShloMosaic.TcCoe Idealize.SL.Sem

/-- The gates' columns of the projection. -/
def gates (P : ℕ → ℕ → EReal) (n l : ℕ) : EReal := P n (6144 + l)

variable (m : (ℓ : Loc nD τ sig) → Buf (Elt Ideal) ℓ) (c : Dev nD) (D W P Y Z b : ℕ → ℕ → EReal)
variable (hD : ∀ i : S8320x1024.Idx, V (F := Ideal) m c main_arg0 i = D (i 0).val (i 1).val)
variable (hW : ∀ i : S1024x1024.Idx, V (F := Ideal) m c main_arg1 i = W (i 0).val (i 1).val)
variable (hP : ∀ i : S8320x9216.Idx, V (F := Ideal) m c main_arg2 i = P (i 0).val (i 1).val)
variable (hY : ∀ i : S8320x1024.Idx, V (F := Ideal) m c main_arg3 i = Y (i 0).val (i 1).val)
variable (hZ : ∀ i : S8320x1024.Idx, V (F := Ideal) m c main_arg4 i = Z (i 0).val (i 1).val)
variable (hb : ∀ i : S1x1024.Idx, V (F := Ideal) m c main_arg5 i = b (i 0).val (i 1).val)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 3 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 3 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem cut8_0 : ∀ t : Fin cfg0.N, win0_8.xsize (grid0.coords t) 0 = 320 :=
  (by decide +kernel : ∀ t : Fin grid0.N, _)
theorem cut8_1 : ∀ t : Fin cfg0.N, win0_8.xsize (grid0.coords t) 1 = 2048 :=
  (by decide +kernel : ∀ t : Fin grid0.N, _)
theorem coord : ∀ t : Fin cfg0.N, (grid0.coords t 0).val = t.val :=
  (by decide +kernel : ∀ t : Fin grid0.N, _)

include hD in
theorem block0 (t : Fin cfg0.N) : iblk (F := Ideal) m c 0 t = rows D (320 * (grid0.coords t 0).val) := by
  funext j
  obtain ⟨e0, e1⟩ := idx0 t
  have q0 : (((cfg0.win 0).blk t).view.emb j 0).val = win0_0.index t (0 : Fin 2) * 320 + 1 * (j 0).val := rfl
  have q1 : (((cfg0.win 0).blk t).view.emb j 1).val = win0_0.index t (1 : Fin 2) * 1024 + 1 * (j 1).val := rfl
  refine (hD (((cfg0.win 0).blk t).view.emb j)).trans (congrArg₂ D ?_ ?_)
  · rw [q0, e0, coord t]; omega
  · rw [q1, e1]; omega

include hW in
theorem block1 (t : Fin cfg0.N) : iblk (F := Ideal) m c 1 t = rows W 0 := by
  funext j
  obtain ⟨e0, e1⟩ := idx1 t
  have q0 : (((cfg0.win 1).blk t).view.emb j 0).val = win0_1.index t (0 : Fin 2) * 1024 + 1 * (j 0).val := rfl
  have q1 : (((cfg0.win 1).blk t).view.emb j 1).val = win0_1.index t (1 : Fin 2) * 1024 + 1 * (j 1).val := rfl
  refine (hW (((cfg0.win 1).blk t).view.emb j)).trans (congrArg₂ W ?_ ?_)
  · rw [q0, e0]; omega
  · rw [q1, e1]; omega

include hP in
theorem block2 (t : Fin cfg0.N) : X0_2 (F := Ideal) m c t = rows (gates P) (320 * (grid0.coords t 0).val) := by
  funext j
  unfold X0_2 Pipeline.Window.fill
  rw [dif_pos (moved0_2 t j)]
  obtain ⟨e0, e1⟩ := idx2 t
  refine (hP (((cfg0.win 2).blk t).view.emb _)).trans (congrArg₂ P ?_ ?_)
  · show win0_2.index t (0 : Fin 2) * 320 + 1 * (j 0).val = 320 * (grid0.coords t 0).val + (j 0).val
    rw [e0, coord t]; omega
  · show win0_2.index t (1 : Fin 2) * 2048 + 1 * (j 1).val = 6144 + (j 1).val
    rw [e1]; omega

include hY in
theorem block3 (t : Fin cfg0.N) : iblk (F := Ideal) m c 3 t = rows Y (320 * (grid0.coords t 0).val) := by
  funext j
  obtain ⟨e0, e1⟩ := idx3 t
  have q0 : (((cfg0.win 3).blk t).view.emb j 0).val = win0_3.index t (0 : Fin 2) * 320 + 1 * (j 0).val := rfl
  have q1 : (((cfg0.win 3).blk t).view.emb j 1).val = win0_3.index t (1 : Fin 2) * 1024 + 1 * (j 1).val := rfl
  refine (hY (((cfg0.win 3).blk t).view.emb j)).trans (congrArg₂ Y ?_ ?_)
  · rw [q0, e0, coord t]; omega
  · rw [q1, e1]; omega

include hZ in
theorem block4 (t : Fin cfg0.N) : iblk (F := Ideal) m c 4 t = rows Z (320 * (grid0.coords t 0).val) := by
  funext j
  obtain ⟨e0, e1⟩ := idx4 t
  have q0 : (((cfg0.win 4).blk t).view.emb j 0).val = win0_4.index t (0 : Fin 2) * 320 + 1 * (j 0).val := rfl
  have q1 : (((cfg0.win 4).blk t).view.emb j 1).val = win0_4.index t (1 : Fin 2) * 1024 + 1 * (j 1).val := rfl
  refine (hZ (((cfg0.win 4).blk t).view.emb j)).trans (congrArg₂ Z ?_ ?_)
  · rw [q0, e0, coord t]; omega
  · rw [q1, e1]; omega

include hb in
theorem block5 (t : Fin cfg0.N) : iblk (F := Ideal) m c 5 t = rows b 0 := by
  funext j
  obtain ⟨e0, e1⟩ := idx5 t
  have q0 : (((cfg0.win 5).blk t).view.emb j 0).val = win0_5.index t (0 : Fin 2) * 1 + 1 * (j 0).val := rfl
  have q1 : (((cfg0.win 5).blk t).view.emb j 1).val = win0_5.index t (1 : Fin 2) * 1024 + 1 * (j 1).val := rfl
  refine (hb (((cfg0.win 5).blk t).view.emb j)).trans (congrArg₂ b ?_ ?_)
  · rw [q0, e0]; omega
  · rw [q1, e1]; omega

/-- The tokens of the blocks up to `n`. -/
theorem tokens (f : ℕ → EReal) (n : ℕ) : ∑ t ∈ Finset.range (320 * (n + 1)), f t =
    ∑ t ∈ Finset.range (320 * n), f t + ∑ a : Fin 320, f (320 * n + a.val) := by
  rw [Nat.mul_succ, Finset.sum_range_add, Fin.sum_univ_eq_sum_range (fun a => f (320 * n + a))]

/-- The sums over the tokens of block `n` and all before. -/
def accS (n : ℕ) : Vec Ideal S8x1024 .f32 := fun i => ∑ t ∈ Finset.range (320 * (n + 1)), gS D W (gates P) (i 0).val t (i 1).val

include hD hW hP hY hZ hb in
theorem outs (n : ℕ) : ∀ hn : n < cfg0.N, outsAt0 (F := Ideal) m c n hn =
      ((fun j => gY D W (gates P) (320 * n + (j 0).val) (j 1).val), (fun j => gZ D W (gates P) (320 * n + (j 0).val) (j 1).val),
        (fun j => gG D W (gates P) Y Z b (320 * n + (j 0).val) (j 1).val), accS D W P n) := by
  induction n with
  | zero =>
    intro hn
    rw [outsAt0_A m c ⟨0, hn⟩ (Nat.zero_mod _), block0 m c D hD, block1 m c W hW, block2 m c P hP, block3 m c Y hY, block4 m c Z hZ, block5 m c b hb,
      outA6, outA7, outA8, outA9, coord]
    refine Prod.ext rfl (Prod.ext rfl (Prod.ext rfl (funext fun i => ?_)))
    show _ = ∑ t ∈ Finset.range (320 * (0 + 1)), gS D W (gates P) (i 0).val t (i 1).val
    rw [tokens]
    simp
  | succ n ih =>
    intro hn
    have hN : n + 1 < 26 := lt_of_lt_of_eq hn (show cfg0.N = 26 from N_0)
    rw [outsAt0_B m c ⟨n + 1, hn⟩ (by show ¬(n + 1) % 26 = 0; omega), block0 m c D hD, block1 m c W hW, block2 m c P hP, block3 m c Y hY, block4 m c Z hZ, block5 m c b hb]
    have e : (outsAt0 (F := Ideal) m c ((⟨n + 1, hn⟩ : Fin cfg0.N).val - 1) (Nat.lt_of_le_of_lt (Nat.sub_le _ _) hn)).2.2.2 = accS D W P n :=
      congrArg (fun p => p.2.2.2) (ih (Nat.lt_of_succ_lt hn))
    rw [e, outB6, outB7, outB8, outB9, coord]
    refine Prod.ext rfl (Prod.ext rfl (Prod.ext rfl (funext fun i => ?_)))
    exact (tokens (fun t => gS D W (gates P) (i 0).val t (i 1).val) (n + 1)).symm

/-! ## The arrays -/

theorem flushed6 (t : Fin cfg0.N) : (dats (F := Ideal) m 0 c).flushed 6 t = (cfg0.win 6).cut (grid0.coords t) ((outsAt0 m c t.val t.isLt).1) := by
  show (cfg0.win 6).cut (grid0.coords t) ((dats m 0 c).after 6 t) = _
  rw [after0_6]
theorem flushed7 (t : Fin cfg0.N) : (dats (F := Ideal) m 0 c).flushed 7 t = (cfg0.win 7).cut (grid0.coords t) ((outsAt0 m c t.val t.isLt).2.1) := by
  show (cfg0.win 7).cut (grid0.coords t) ((dats m 0 c).after 7 t) = _
  rw [after0_7]
theorem flushed8 (t : Fin cfg0.N) : (dats (F := Ideal) m 0 c).flushed 8 t = (cfg0.win 8).cut (grid0.coords t) ((outsAt0 m c t.val t.isLt).2.2.1) := by
  show (cfg0.win 8).cut (grid0.coords t) ((dats m 0 c).after 8 t) = _
  rw [after0_8]
theorem flushed9 (t : Fin cfg0.N) : (dats (F := Ideal) m 0 c).flushed 9 t = (cfg0.win 9).cut (grid0.coords t) ((outsAt0 m c t.val t.isLt).2.2.2) := by
  show (cfg0.win 9).cut (grid0.coords t) ((dats m 0 c).after 9 t) = _
  rw [after0_9]

theorem cover6 (i : S8320x1024.Idx) : ∃ t : Fin cfg0.N, (cfg0.win 6).flush t = true ∧ i ∈ ((cfg0.win 6).blk t).view.set := by
  have h0 : (i 0).val < 8320 := (i 0).isLt
  have h1 : (i 1).val < 1024 := (i 1).isLt
  have hN : (i 0).val / 320 < cfg0.N := by rw [show cfg0.N = 26 from N_0]; omega
  obtain ⟨e0, e1⟩ := idx6 ⟨(i 0).val / 320, hN⟩
  refine ⟨⟨(i 0).val / 320, hN⟩, flush0_6 _, ?_⟩
  show i ∈ ((View.whole main_v0_0).slice (win0_6.rect ⟨(i 0).val / 320, hN⟩)).set
  rw [View.set_slice_whole, Rect.mem_set_unit]
  intro x
  match x with
  | ⟨0, _⟩ =>
    show win0_6.index ⟨(i 0).val / 320, hN⟩ (0 : Fin 2) * 320 ≤ (i 0).val ∧ (i 0).val < win0_6.index ⟨(i 0).val / 320, hN⟩ (0 : Fin 2) * 320 + 320
    rw [e0]; simp only; omega
  | ⟨1, _⟩ =>
    show win0_6.index ⟨(i 0).val / 320, hN⟩ (1 : Fin 2) * 1024 ≤ (i 1).val ∧ (i 1).val < win0_6.index ⟨(i 0).val / 320, hN⟩ (1 : Fin 2) * 1024 + 1024
    rw [e1]; simp only; omega

include hD hW hP hY hZ hb in
theorem array6 : (dats (F := Ideal) m 0 c).arrAt 6 cfg0.N = fun i : S8320x1024.Idx => gY D W (gates P) (i 0).val (i 1).val := by
  refine (dats (F := Ideal) m 0 c).arrAt_eq_of_cover 6 (fun i : S8320x1024.Idx => gY D W (gates P) (i 0).val (i 1).val) (fun t _ => ?_) cover6
  rw [flushed6, outs m c D W P Y Z b hD hW hP hY hZ hb]
  funext y
  obtain ⟨e0, e1⟩ := idx6 t
  have q0 : (((cfg0.win 6).blk t).view.emb y 0).val = win0_6.index t (0 : Fin 2) * 320 + 1 * (y 0).val := rfl
  have q1 : (((cfg0.win 6).blk t).view.emb y 1).val = win0_6.index t (1 : Fin 2) * 1024 + 1 * (y 1).val := rfl
  rw [e0] at q0
  rw [e1] at q1
  show gY D W (gates P) (320 * t.val + (y 0).val) (y 1).val = gY D W (gates P) (((cfg0.win 6).blk t).view.emb y 0).val (((cfg0.win 6).blk t).view.emb y 1).val
  refine congrArg₂ (gY D W (gates P)) ?_ ?_
  · rw [q0]; omega
  · rw [q1]; omega

theorem cover7 (i : S8320x1024.Idx) : ∃ t : Fin cfg0.N, (cfg0.win 7).flush t = true ∧ i ∈ ((cfg0.win 7).blk t).view.set := by
  have h0 : (i 0).val < 8320 := (i 0).isLt
  have h1 : (i 1).val < 1024 := (i 1).isLt
  have hN : (i 0).val / 320 < cfg0.N := by rw [show cfg0.N = 26 from N_0]; omega
  obtain ⟨e0, e1⟩ := idx7 ⟨(i 0).val / 320, hN⟩
  refine ⟨⟨(i 0).val / 320, hN⟩, flush0_7 _, ?_⟩
  show i ∈ ((View.whole main_v0_1).slice (win0_7.rect ⟨(i 0).val / 320, hN⟩)).set
  rw [View.set_slice_whole, Rect.mem_set_unit]
  intro x
  match x with
  | ⟨0, _⟩ =>
    show win0_7.index ⟨(i 0).val / 320, hN⟩ (0 : Fin 2) * 320 ≤ (i 0).val ∧ (i 0).val < win0_7.index ⟨(i 0).val / 320, hN⟩ (0 : Fin 2) * 320 + 320
    rw [e0]; simp only; omega
  | ⟨1, _⟩ =>
    show win0_7.index ⟨(i 0).val / 320, hN⟩ (1 : Fin 2) * 1024 ≤ (i 1).val ∧ (i 1).val < win0_7.index ⟨(i 0).val / 320, hN⟩ (1 : Fin 2) * 1024 + 1024
    rw [e1]; simp only; omega

include hD hW hP hY hZ hb in
theorem array7 : (dats (F := Ideal) m 0 c).arrAt 7 cfg0.N = fun i : S8320x1024.Idx => gZ D W (gates P) (i 0).val (i 1).val := by
  refine (dats (F := Ideal) m 0 c).arrAt_eq_of_cover 7 (fun i : S8320x1024.Idx => gZ D W (gates P) (i 0).val (i 1).val) (fun t _ => ?_) cover7
  rw [flushed7, outs m c D W P Y Z b hD hW hP hY hZ hb]
  funext y
  obtain ⟨e0, e1⟩ := idx7 t
  have q0 : (((cfg0.win 7).blk t).view.emb y 0).val = win0_7.index t (0 : Fin 2) * 320 + 1 * (y 0).val := rfl
  have q1 : (((cfg0.win 7).blk t).view.emb y 1).val = win0_7.index t (1 : Fin 2) * 1024 + 1 * (y 1).val := rfl
  rw [e0] at q0
  rw [e1] at q1
  show gZ D W (gates P) (320 * t.val + (y 0).val) (y 1).val = gZ D W (gates P) (((cfg0.win 7).blk t).view.emb y 0).val (((cfg0.win 7).blk t).view.emb y 1).val
  refine congrArg₂ (gZ D W (gates P)) ?_ ?_
  · rw [q0]; omega
  · rw [q1]; omega

/-- The gates' columns of the projection lie in the blocks written back. -/
theorem cover8 (i : S8320x9216.Idx) (hi : 6144 ≤ (i 1).val ∧ (i 1).val < 8192) : ∃ t : Fin cfg0.N, i ∈ ((cfg0.win 8).blk t).view.set := by
  have h0 : (i 0).val < 8320 := (i 0).isLt
  have hN : (i 0).val / 320 < cfg0.N := by rw [show cfg0.N = 26 from N_0]; omega
  obtain ⟨e0, e1⟩ := idx8 ⟨(i 0).val / 320, hN⟩
  refine ⟨⟨(i 0).val / 320, hN⟩, ?_⟩
  show i ∈ ((View.whole main_v0_2).slice (win0_8.rect ⟨(i 0).val / 320, hN⟩)).set
  rw [View.set_slice_whole, Rect.mem_set_unit]
  intro x
  match x with
  | ⟨0, _⟩ =>
    show win0_8.index ⟨(i 0).val / 320, hN⟩ (0 : Fin 2) * 320 ≤ (i 0).val ∧ (i 0).val < win0_8.index ⟨(i 0).val / 320, hN⟩ (0 : Fin 2) * 320 + win0_8.xsize (grid0.coords ⟨(i 0).val / 320, hN⟩) 0
    rw [e0, cut8_0]; simp only; omega
  | ⟨1, _⟩ =>
    show win0_8.index ⟨(i 0).val / 320, hN⟩ (1 : Fin 2) * 2048 ≤ (i 1).val ∧ (i 1).val < win0_8.index ⟨(i 0).val / 320, hN⟩ (1 : Fin 2) * 2048 + win0_8.xsize (grid0.coords ⟨(i 0).val / 320, hN⟩) 1
    rw [e1, cut8_1]; simp only; omega

/-- The gradient of column `k` of the projection, for the gates' columns. -/
def gP (n k : ℕ) : EReal := gG D W (gates P) Y Z b n (k - 6144)

/-- What block `t` reads of an array given by its entries. -/
theorem read8 (g : ℕ → ℕ → EReal) (t : Fin cfg0.N) (y : ((cfg0.win 8).xblock (cfg0.grid.coords t)).Idx) :
    ((cfg0.win 8).blk t).view.read (Elt Ideal) (fun i : S8320x9216.Idx => g (i 0).val (i 1).val) y =
      g (((cfg0.win 8).blk t).view.emb y 0).val (((cfg0.win 8).blk t).view.emb y 1).val := rfl

include hD hW hP hY hZ hb in
/-- The gradients of the gates' columns; the call writes no other column of this array. -/
theorem array8 (i : S8320x9216.Idx) (hi : 6144 ≤ (i 1).val ∧ (i 1).val < 8192) :
    (dats (F := Ideal) m 0 c).arrAt 8 cfg0.N i = gP D W P Y Z b (i 0).val (i 1).val := by
  obtain ⟨t, ht⟩ := cover8 i hi
  refine (dats (F := Ideal) m 0 c).arrAt_apply_of_mem 8 (fun i : S8320x9216.Idx => gP D W P Y Z b (i 0).val (i 1).val) (fun t _ => ?_)
    cfg0.N t i t.isLt (flush0_8 t) ht
  rw [flushed8, outs m c D W P Y Z b hD hW hP hY hZ hb]
  funext y
  obtain ⟨e0, e1⟩ := idx8 t
  have q0 : (((cfg0.win 8).blk t).view.emb y 0).val = win0_8.index t (0 : Fin 2) * 320 + 1 * (y 0).val := rfl
  have q1 : (((cfg0.win 8).blk t).view.emb y 1).val = win0_8.index t (1 : Fin 2) * 2048 + 1 * (y 1).val := rfl
  rw [e0] at q0
  rw [e1] at q1
  have s0 : ((cfg0.win 8).xinj (cfg0.grid.coords t) y 0).val = (y 0).val := rfl
  have s1 : ((cfg0.win 8).xinj (cfg0.grid.coords t) y 1).val = (y 1).val := rfl
  refine Eq.trans (b := gG D W (gates P) Y Z b (320 * t.val + ((cfg0.win 8).xinj (cfg0.grid.coords t) y 0).val) ((cfg0.win 8).xinj (cfg0.grid.coords t) y 1).val) rfl ?_
  refine Eq.trans (b := gP D W P Y Z b (((cfg0.win 8).blk t).view.emb y 0).val (((cfg0.win 8).blk t).view.emb y 1).val) ?_ (read8 (gP D W P Y Z b) t y).symm
  rw [s0, s1]
  unfold gP
  refine congrArg₂ (gG D W (gates P) Y Z b) ?_ ?_
  · rw [q0]; omega
  · rw [q1]; omega

theorem cover9 (i : S8x1024.Idx) : ∃ t : Fin cfg0.N, (cfg0.win 9).flush t = true ∧ i ∈ ((cfg0.win 9).blk t).view.set := by
  have h0 : (i 0).val < 8 := (i 0).isLt
  have h1 : (i 1).val < 1024 := (i 1).isLt
  have hN : 25 < cfg0.N := by rw [show cfg0.N = 26 from N_0]; omega
  obtain ⟨e0, e1⟩ := idx9 ⟨25, hN⟩
  refine ⟨⟨25, hN⟩, (flush0_9 _).2 rfl, ?_⟩
  show i ∈ ((View.whole main_v0_3).slice (win0_9.rect ⟨25, hN⟩)).set
  rw [View.set_slice_whole, Rect.mem_set_unit]
  intro x
  match x with
  | ⟨0, _⟩ =>
    show win0_9.index ⟨25, hN⟩ (0 : Fin 2) * 8 ≤ (i 0).val ∧ (i 0).val < win0_9.index ⟨25, hN⟩ (0 : Fin 2) * 8 + 8
    rw [e0]; omega
  | ⟨1, _⟩ =>
    show win0_9.index ⟨25, hN⟩ (1 : Fin 2) * 1024 ≤ (i 1).val ∧ (i 1).val < win0_9.index ⟨25, hN⟩ (1 : Fin 2) * 1024 + 1024
    rw [e1]; omega

include hD hW hP hY hZ hb in
/-- The sums over all tokens. -/
theorem array9 : (dats (F := Ideal) m 0 c).arrAt 9 cfg0.N = accS D W P 25 := by
  refine (dats (F := Ideal) m 0 c).arrAt_eq_of_cover 9 (accS D W P 25) (fun t hf => ?_) cover9
  have ht : t.val = 25 := by
    have h1 := (flush0_9 t).1 hf
    have h2 : t.val < 26 := lt_of_lt_of_eq t.isLt (show cfg0.N = 26 from N_0)
    omega
  rw [flushed9, outs m c D W P Y Z b hD hW hP hY hZ hb]
  funext y
  obtain ⟨e0, e1⟩ := idx9 t
  have q0 : (((cfg0.win 9).blk t).view.emb y 0).val = win0_9.index t (0 : Fin 2) * 8 + 1 * (y 0).val := rfl
  have q1 : (((cfg0.win 9).blk t).view.emb y 1).val = win0_9.index t (1 : Fin 2) * 1024 + 1 * (y 1).val := rfl
  rw [e0] at q0
  rw [e1] at q1
  have hi : ((cfg0.win 9).blk t).view.emb y = y := by
    funext a
    refine Fin.ext ?_
    match a with
    | ⟨0, _⟩ => exact q0.trans (show 0 * 8 + 1 * (y 0).val = (y 0).val by omega)
    | ⟨1, _⟩ => exact q1.trans (show 0 * 1024 + 1 * (y 1).val = (y 1).val by omega)
  show accS D W P t.val y = accS D W P 25 (((cfg0.win 9).blk t).view.emb y)
  rw [ht]
  exact congrArg (accS D W P 25) hi.symm

end Cert.Merge
end
-- ==== Proof.MergeKernel.lean ====
/-
  The merge's call with the host's two slices after it: what its four results hold at the end.
-/
module

public import proofs.«01_k».proof.Proof.MergeArray
public import Idealize.ShloMosaic.Lib.StableHlo.RunClose
public import Idealize.ShloMosaic.Lib.Claim

@[expose] public section

set_option maxRecDepth 16384

noncomputable section
namespace Cert.Merge

open Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg)
variable (D W P Y Z b : Dev nD → ℕ → ℕ → EReal)
variable (hD : ∀ (c : Dev nD) (i : S8320x1024.Idx), m (((c : Dev nD).tc : Thread nD τ).loc main_arg0) i = D c (i 0).val (i 1).val)
variable (hW : ∀ (c : Dev nD) (i : S1024x1024.Idx), m (((c : Dev nD).tc : Thread nD τ).loc main_arg1) i = W c (i 0).val (i 1).val)
variable (hP : ∀ (c : Dev nD) (i : S8320x9216.Idx), m (((c : Dev nD).tc : Thread nD τ).loc main_arg2) i = P c (i 0).val (i 1).val)
variable (hY : ∀ (c : Dev nD) (i : S8320x1024.Idx), m (((c : Dev nD).tc : Thread nD τ).loc main_arg3) i = Y c (i 0).val (i 1).val)
variable (hZ : ∀ (c : Dev nD) (i : S8320x1024.Idx), m (((c : Dev nD).tc : Thread nD τ).loc main_arg4) i = Z c (i 0).val (i 1).val)
variable (hb : ∀ (c : Dev nD) (i : S1x1024.Idx), m (((c : Dev nD).tc : Thread nD τ).loc main_arg5) i = b c (i 0).val (i 1).val)

/-- The contents of the device's buffers. -/
abbrev Vals := Valuation τ sig (Elt Ideal)

theorem host_cols (V : Vals) : StableHlo.after hostOps1 V (Proc.devRef .tc main_v1) =
    (extractStridedSlice S8320x2048 ![0, 6144] (V (Proc.devRef .tc main_v0_2) : FVec Ideal S8320x9216 .bf16) slices_S8320x9216_S8320x2048_0_6144 : FVec Ideal S8320x2048 .bf16) := by
  simp only [hostOps1]
  after_results_entrywise []
theorem host_row (V : Vals) : StableHlo.after hostOps1 V (Proc.devRef .tc main_v2) =
    (extractStridedSlice S1x1024 ![0, 0] (V (Proc.devRef .tc main_v0_3) : FVec Ideal S8x1024 .f32) slices_S8x1024_S1x1024_0_0 : FVec Ideal S1x1024 .f32) := by
  simp only [hostOps1]
  after_results_entrywise []

theorem arr_inj : Function.Injective (Pipeline.arrRef spec0) := by decide

/-- What the region leaves in its third and fourth outputs. -/
theorem ends8 (c : Dev nD) : Pipeline.withArrays spec0 c (V0 m c) (fun w => (dats (F := Ideal) m 0 c).arrAt w cfg0.N) (Proc.devRef .tc main_v0_2)
    = (dats (F := Ideal) m 0 c).arrAt 8 cfg0.N :=
  Pipeline.withArrays_arr spec0 arr_inj c (V0 m c) (fun w => (dats (F := Ideal) m 0 c).arrAt w cfg0.N) 8
theorem ends9 (c : Dev nD) : Pipeline.withArrays spec0 c (V0 m c) (fun w => (dats (F := Ideal) m 0 c).arrAt w cfg0.N) (Proc.devRef .tc main_v0_3)
    = (dats (F := Ideal) m 0 c).arrAt 9 cfg0.N :=
  Pipeline.withArrays_arr spec0 arr_inj c (V0 m c) (fun w => (dats (F := Ideal) m 0 c).arrAt w cfg0.N) 9

theorem cols_at (w : FVec Ideal S8320x9216 .bf16) (g : ℕ → ℕ → EReal)
    (hw : ∀ i : S8320x9216.Idx, (6144 ≤ (i 1).val ∧ (i 1).val < 8192) → w i = g (i 0).val ((i 1).val - 6144)) (i : S8320x2048.Idx) :
    extractStridedSlice S8320x2048 ![0, 6144] w slices_S8320x9216_S8320x2048_0_6144 i = g (i 0).val (i 1).val := by
  obtain ⟨n, l, rfl⟩ : ∃ n l, i = ix2 n l := ⟨i 0, i 1, eq_ix2 i⟩
  have hl := l.isLt
  simp only [pointwise]
  refine (hw _ ?_).trans (congrArg₂ g ?_ ?_)
  · show 6144 ≤ 6144 + l.val ∧ 6144 + l.val < 8192
    omega
  · show 0 + n.val = n.val
    omega
  · show 6144 + l.val - 6144 = l.val
    omega
theorem row_at (w : FVec Ideal S8x1024 .f32) {D W P : ℕ → ℕ → EReal} (hw : w = accS D W P 25) (i : S1x1024.Idx) :
    extractStridedSlice S1x1024 ![0, 0] w slices_S8x1024_S1x1024_0_0 i = ∑ t ∈ Finset.range 8320, gZ D W (gates P) t (i 1).val := by
  obtain ⟨u, k, rfl⟩ : ∃ u k, i = ix2 u k := ⟨i 0, i 1, eq_ix2 i⟩
  obtain rfl : u = 0 := Subsingleton.elim _ _
  subst hw
  simp [accS, gS, pointwise]

include hD hW hP hY hZ hb in
/-- The four results: the gradients of the two branches, of the gates' columns, and of the second branch's bias. -/
theorem final : θ_run (defs (F := Ideal)) (onTc (τ := τ) (main (F := Ideal))) ⟨m, fun _ => 0, ρ⟩ (fun r => ∀ c : Dev nD,
    r.2.mem ((c.tc : Thread nD τ).loc main_v0_0) = (fun i : S8320x1024.Idx => gY (D c) (W c) (gates (P c)) (i 0).val (i 1).val)
    ∧ r.2.mem ((c.tc : Thread nD τ).loc main_v0_1) = (fun i : S8320x1024.Idx => gZ (D c) (W c) (gates (P c)) (i 0).val (i 1).val)
    ∧ r.2.mem ((c.tc : Thread nD τ).loc main_v1) = (fun i : S8320x2048.Idx => gG (D c) (W c) (gates (P c)) (Y c) (Z c) (b c) (i 0).val (i 1).val)
    ∧ r.2.mem ((c.tc : Thread nD τ).loc main_v2) = (fun i : S1x1024.Idx => ∑ t ∈ Finset.range 8320, gZ (D c) (W c) (gates (P c)) t (i 1).val)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  run_from (run_main (F := Ideal) m ρ)
  · exact array6 m c (D c) (W c) (P c) (Y c) (Z c) (b c) (hD c) (hW c) (hP c) (hY c) (hZ c) (hb c)
  · exact array7 m c (D c) (W c) (P c) (Y c) (Z c) (b c) (hD c) (hW c) (hP c) (hY c) (hZ c) (hb c)
  · exact (host_cols _).trans (funext (cols_at _ (gG (D c) (W c) (gates (P c)) (Y c) (Z c) (b c)) fun i hi => (congrFun (ends8 m c) i).trans
      ((array8 m c (D c) (W c) (P c) (Y c) (Z c) (b c) (hD c) (hW c) (hP c) (hY c) (hZ c) (hb c) i hi).trans (by unfold gP; rfl))))
  · exact (host_row _).trans (funext (row_at _ ((ends9 m c).trans
      (array9 m c (D c) (W c) (P c) (Y c) (Z c) (b c) (hD c) (hW c) (hP c) (hY c) (hZ c) (hb c)))))

end Cert.Merge
end
-- ==== Proof.MergeRef.lean ====
/-
  The merge's reference: its run, and the entries of its results.
-/
module

public import proofs.«01_k».proof.Proof.Gen.Reference3Ideal
public import proofs.«01_k».proof.Proof.MergeArray
public import Idealize.ShloMosaic.Lib.StableHlo.RunHlo
public import Idealize.ShloMosaic.Lib.StableHlo.RunRead
public import Idealize.ShloMosaic.Lib.Pointwise.SelectCore
public import Idealize.ShloMosaic.Lib.Claim
public import Idealize.ShloMosaic.Lib.Quiescent

@[expose] public section

set_option maxRecDepth 100000

noncomputable section
namespace Cert.MergeRef

open Cert.Reference3Ideal Cert.Reference3Ideal.Gen Cert.Merge Idealize.ShloMosaic Idealize.ShloMosaic.TcCoe Idealize.SL.Sem

/-- Arrays of exact numbers. -/
abbrev A (s : Shape) := FVec Ideal s .f32
abbrev H (s : Shape) := FVec Ideal s .bf16

/-- One in every entry. -/
def ones : A S8320x1024 := broadcastInDim S8320x1024 ![] bcast_S_S8320x1024 (constant S_ .f32 0x3F800000#32)
def zero : A S_ := constant S_ .f32 0x00000000#32

section
variable (d : H S8320x1024) (w : H S1024x1024) (p : H S8320x9216) (y z : A S8320x1024) (b : A S1x1024)
/-- The columns of the two gates, the gates, and their derivatives. -/
def colsA : A S8320x1024 := extf .f32 (extractStridedSlice S8320x1024 ![0, 6144] p slices_S8320x9216_S8320x1024_0_6144) bitsLt_bf16_f32
def colsB : A S8320x1024 := extf .f32 (extractStridedSlice S8320x1024 ![0, 7168] p slices_S8320x9216_S8320x1024_0_7168) bitsLt_bf16_f32
def gate (x : A S8320x1024) : A S8320x1024 := Host.divf ones (addf ones (Host.exp (Host.negf x)))
def slope (s : A S8320x1024) : A S8320x1024 := mulf s (subf ones s)
/-- The gradient of the merged branches. -/
def back : A S8320x1024 := Host.dotGeneral dot_S8320x1024_S1024x1024_S8320x1024_1_1_0_0_n_n none (extf .f32 d bitsLt_bf16_f32) (extf .f32 w bitsLt_bf16_f32)
/-- The second branch with its bias, and that branch's gradient. -/
def second : A S8320x1024 := addf z (broadcastInDim S8320x1024 ![0, 1] bcast_S1x1024_S8320x1024_0_1 b)
def gSecond : A S8320x1024 := mulf (gate (colsB p)) (back d w)
/-- The four results. -/
def resY : H S8320x1024 := truncf .bf16 (mulf (gate (colsA p)) (back d w)) bitsLt_bf16_f32
def resZ : H S8320x1024 := truncf .bf16 (gSecond d w p) bitsLt_bf16_f32
def resG : H S8320x2048 := truncf .bf16 (concatenate S8320x2048 1 [⟨S8320x1024, mulf (mulf (back d w) y) (slope (gate (colsA p)))⟩,
  ⟨S8320x1024, mulf (mulf (back d w) (second z b)) (slope (gate (colsB p)))⟩] concatenates_S8320x1024_S8320x1024_S8320x2048_d1) bitsLt_bf16_f32
def resB : A S1x1024 := shapeCast S1x1024 (Host.reduceAdd (gSecond d w p) zero reducesTo_S8320x1024_S1024_d0 h_S_) shapeCasts_S1024_S1x1024
end

variable (m : (ℓ : Loc nD τ sig) → Buf (Elt Ideal) ℓ) (ρ : Dev nD → PrngReg)

/-- The reference runs, keeps its arguments, and ends with the four results. -/
theorem run : θ_run (defs (F := Ideal)) (onTc (τ := τ) (main (F := Ideal))) ⟨m, fun _ => 0, ρ⟩ (fun r => ∀ c : Dev nD,
    r.2.mem ((c.tc : Thread nD τ).loc main_v39) = resY (m ((c.tc : Thread nD τ).loc main_arg0)) (m ((c.tc : Thread nD τ).loc main_arg1)) (m ((c.tc : Thread nD τ).loc main_arg2))
    ∧ r.2.mem ((c.tc : Thread nD τ).loc main_v40) = resZ (m ((c.tc : Thread nD τ).loc main_arg0)) (m ((c.tc : Thread nD τ).loc main_arg1)) (m ((c.tc : Thread nD τ).loc main_arg2))
    ∧ r.2.mem ((c.tc : Thread nD τ).loc main_v42) = resG (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
    ∧ r.2.mem ((c.tc : Thread nD τ).loc main_v34) = resB (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  hlo_run <;> sl_kernel_rfl

/-! ## The results' entries -/

section Entries
variable {d : H S8320x1024} {w : H S1024x1024} {p : H S8320x9216} {y z : A S8320x1024} {b : A S1x1024} {D W P Y Z B : ℕ → ℕ → EReal}
variable (hd : ∀ i, d i = D (i 0).val (i 1).val) (hw : ∀ i, w i = W (i 0).val (i 1).val) (hp : ∀ i, p i = P (i 0).val (i 1).val)
variable (hy : ∀ i, y i = Y (i 0).val (i 1).val) (hz : ∀ i, z i = Z (i 0).val (i 1).val) (hb : ∀ i, b i = B (i 0).val (i 1).val)

theorem ones_at (n : Fin 8320) (l : Fin 1024) : ones (ix2 n l) = (1 : EReal) := by
  simp [ones, pointwise]
include hp in
theorem colsA_at (n : Fin 8320) (l : Fin 1024) : colsA p (ix2 n l) = gates P n.val l.val := by
  simp [colsA, pointwise, hp, gates]
include hp in
theorem colsB_at (n : Fin 8320) (l : Fin 1024) : colsB p (ix2 n l) = gates P n.val (1024 + l.val) := by
  simp only [colsB, pointwise, hp, gates]
  refine congrArg₂ P ?_ ?_
  · show 0 + n.val = n.val
    omega
  · show 7168 + l.val = 6144 + (1024 + l.val)
    omega
theorem gate_at (x : A S8320x1024) (n : Fin 8320) (l : Fin 1024) : gate x (ix2 n l) = Ideal.logistic (x (ix2 n l)) := by
  simp only [gate, pointwise, ones_at]
  rfl
theorem slope_at (s : A S8320x1024) (n : Fin 8320) (l : Fin 1024) : slope s (ix2 n l) = (s (ix2 n l) * (1 - s (ix2 n l)) : EReal) := by
  simp only [slope, pointwise, ones_at]
  rfl
include hd hw in
theorem back_at (n : Fin 8320) (l : Fin 1024) : back d w (ix2 n l) = dm D W n.val l.val := by
  simp [back, pointwise, hd, hw, dm]
include hz hb in
theorem second_at (n : Fin 8320) (l : Fin 1024) : second z b (ix2 n l) = Z n.val l.val + B 0 l.val := by
  simp [second, pointwise, hz, hb]
include hd hw hp in
theorem gSecond_at (n : Fin 8320) (l : Fin 1024) : gSecond d w p (ix2 n l) = gZ D W (gates P) n.val l.val := by
  simp only [gSecond, pointwise, gate_at, colsB_at hp, back_at hd hw]
  exact mul_comm _ _

include hd hw hp in
/-- The gradients of the two branches. -/
theorem resY_at (i : S8320x1024.Idx) : resY d w p i = gY D W (gates P) (i 0).val (i 1).val := by
  obtain ⟨n, l, rfl⟩ : ∃ n l, i = ix2 n l := ⟨i 0, i 1, eq_ix2 i⟩
  simp only [resY, pointwise, gate_at, colsA_at hp, back_at hd hw]
  exact mul_comm _ _
include hd hw hp in
theorem resZ_at (i : S8320x1024.Idx) : resZ d w p i = gZ D W (gates P) (i 0).val (i 1).val := by
  obtain ⟨n, l, rfl⟩ : ∃ n l, i = ix2 n l := ⟨i 0, i 1, eq_ix2 i⟩
  exact gSecond_at hd hw hp n l

theorem cat_at (u v : A S8320x1024) (n : Fin 8320) (l : Fin 2048) (hc) :
    (concatenate S8320x2048 1 [⟨S8320x1024, u⟩, ⟨S8320x1024, v⟩] hc : A S8320x2048) (ix2 n l) =
      if h : l.val < 1024 then u (ix2 n ⟨l.val, h⟩) else v (ix2 n ⟨l.val - 1024, by omega⟩) := by
  simp [pointwise]

include hd hw hp hy hz hb in
/-- The gradients of the gates' columns. -/
theorem resG_at (i : S8320x2048.Idx) : resG d w p y z b i = gG D W (gates P) Y Z B (i 0).val (i 1).val := by
  obtain ⟨n, l, rfl⟩ : ∃ n l, i = ix2 n l := ⟨i 0, i 1, eq_ix2 i⟩
  refine (cat_at _ _ n l concatenates_S8320x1024_S8320x1024_S8320x2048_d1).trans ?_
  show _ = gG D W (gates P) Y Z B n.val l.val
  unfold gG
  by_cases h : l.val < 1024
  · rw [dif_pos h, if_pos h]
    simp only [pointwise, slope_at, gate_at, colsA_at hp, back_at hd hw, hy]
    exact (mul_assoc _ _ _).symm
  · rw [dif_neg h, if_neg h]
    simp only [pointwise, slope_at, gate_at, colsB_at hp, back_at hd hw, second_at hz hb]
    exact (mul_assoc _ _ _).symm

theorem sum_at (z : A S8320x1024) (k : Fin 1024) : Host.reduceAdd z zero reducesTo_S8320x1024_S1024_d0 h_S_ (ix1 k) = (∑ n : Fin 8320, z (ix2 n k) : EReal) := by
  simp [zero, pointwise]

include hd hw hp in
/-- The gradient of the second branch's bias. -/
theorem resB_at (i : S1x1024.Idx) : resB d w p i = ∑ t ∈ Finset.range 8320, gZ D W (gates P) t (i 1).val := by
  obtain ⟨u, k, rfl⟩ : ∃ u k, i = ix2 u k := ⟨i 0, i 1, eq_ix2 i⟩
  have e : resB d w p (ix2 u k) = Host.reduceAdd (gSecond d w p) zero reducesTo_S8320x1024_S1024_d0 h_S_ (ix1 k) := by
    obtain rfl : u = 0 := Subsingleton.elim _ _
    simp only [resB, pointwise]
  rw [e, sum_at]
  show _ = ∑ t ∈ Finset.range 8320, gZ D W (gates P) t k.val
  rw [← Fin.sum_univ_eq_sum_range (fun t => gZ D W (gates P) t k.val)]
  exact Finset.sum_congr rfl fun n _ => gSecond_at hd hw hp n k
end Entries

end Cert.MergeRef
end
-- ==== Proof.MergeClaim.lean ====
/-
  The claims about the merge's call: it runs and keeps its arguments, and of any arguments, finite or not, it returns the gradients of the merge.
-/
module

public import proofs.«01_k».proof.Defs
public import proofs.«01_k».proof.Proof.Gen.Kernel3.Frame
public import proofs.«01_k».proof.Proof.MergeKernel
public import proofs.«01_k».proof.Proof.MergeRef
public import Idealize.ShloMosaic.Adequacy
public import Idealize.ShloMosaic.Init
public import Idealize.ShloMosaic.Lib.Quiescent

@[expose] public section

set_option maxRecDepth 16384

noncomputable section
namespace Cert.Merge

open Idealize.ShloMosaic

/-- The entries of an array, by natural numbers. -/
def ent {n m : ℕ} (x : (⟨2, ![n, m]⟩ : Shape).Idx → EReal) (r k : ℕ) : EReal := if h : r < n ∧ k < m then x (ix2 ⟨r, h.1⟩ ⟨k, h.2⟩) else 0
theorem ent_eq {n m : ℕ} (x : (⟨2, ![n, m]⟩ : Shape).Idx → EReal) (i : (⟨2, ![n, m]⟩ : Shape).Idx) : x i = ent x (i 0).val (i 1).val := by
  unfold ent
  rw [dif_pos ⟨(i 0).isLt, (i 1).isLt⟩]
  exact congrArg x (eq_ix2 i)

end Cert.Merge

namespace Cert.Proof

open Idealize.ShloMosaic Idealize.ShloMosaic.TcCoe Idealize.SL.Sem

/-- The merge's call on the machine's floats runs and keeps its arguments. -/
theorem quiescent_Kernel3 : Cert.quiescent_Kernel3 := fun m ρ _ => Cert.Kernel3.Gen.frame m ρ

/-- The same of its idealization. -/
theorem quiescent_Kernel3Ideal : Cert.quiescent_Kernel3Ideal := fun m ρ _ => Cert.Kernel3Ideal.Gen.frame m ρ

/-- The merge's reference runs, keeps its arguments, and declares no semaphore. -/
theorem quiescent_Reference3Ideal : Cert.quiescent_Reference3Ideal := fun m ρ _ =>
  (θ_run Cert.Reference3Ideal.defs _ _).mono (fun r h => ⟨fun c => (h c).2.2.2.2, sem_eq_zero_of_no_sems (by decide) r.2⟩) (MergeRef.run m ρ)

/-- The merge's call and the reference return the same four gradients. -/
theorem algebraic3 : algebraic_Kernel3Ideal_Reference3Ideal := by
  intro m ρ m' ρ' _ hagree
  have hD := fun (c : Dev Cert.Kernel3Ideal.nD) => Merge.ent_eq (m ((c.tc : Thread Cert.Kernel3Ideal.nD Cert.Kernel3Ideal.τ).loc Cert.Kernel3Ideal.main_arg0))
  have hW := fun (c : Dev Cert.Kernel3Ideal.nD) => Merge.ent_eq (m ((c.tc : Thread Cert.Kernel3Ideal.nD Cert.Kernel3Ideal.τ).loc Cert.Kernel3Ideal.main_arg1))
  have hP := fun (c : Dev Cert.Kernel3Ideal.nD) => Merge.ent_eq (m ((c.tc : Thread Cert.Kernel3Ideal.nD Cert.Kernel3Ideal.τ).loc Cert.Kernel3Ideal.main_arg2))
  have hY := fun (c : Dev Cert.Kernel3Ideal.nD) => Merge.ent_eq (m ((c.tc : Thread Cert.Kernel3Ideal.nD Cert.Kernel3Ideal.τ).loc Cert.Kernel3Ideal.main_arg3))
  have hZ := fun (c : Dev Cert.Kernel3Ideal.nD) => Merge.ent_eq (m ((c.tc : Thread Cert.Kernel3Ideal.nD Cert.Kernel3Ideal.τ).loc Cert.Kernel3Ideal.main_arg4))
  have hb := fun (c : Dev Cert.Kernel3Ideal.nD) => Merge.ent_eq (m ((c.tc : Thread Cert.Kernel3Ideal.nD Cert.Kernel3Ideal.τ).loc Cert.Kernel3Ideal.main_arg5))
  refine ⟨_, _, _, _, Merge.final m ρ _ _ _ _ _ _ hD hW hP hY hZ hb, ?_⟩
  refine (θ_run Cert.Reference3Ideal.defs _ _).mono (fun _ h c => ?_) (MergeRef.run m' ρ')
  obtain ⟨e0, e1, e2, e3, e4, e5⟩ := hagree c
  have hD' := fun i => (congrFun e0 i).trans (hD c i)
  have hW' := fun i => (congrFun e1 i).trans (hW c i)
  have hP' := fun i => (congrFun e2 i).trans (hP c i)
  have hY' := fun i => (congrFun e3 i).trans (hY c i)
  have hZ' := fun i => (congrFun e4 i).trans (hZ c i)
  have hb' := fun i => (congrFun e5 i).trans (hb c i)
  obtain ⟨r0, r1, r2, r3, k⟩ := h c
  exact ⟨r0.trans (funext (MergeRef.resY_at hD' hW' hP')), r1.trans (funext (MergeRef.resZ_at hD' hW' hP')),
    r2.trans (funext (MergeRef.resG_at hD' hW' hP' hY' hZ' hb')), r3.trans (funext (MergeRef.resB_at hD' hW' hP')), k⟩

end Cert.Proof
end
-- ==== Proof.WeightCall.lean ====
/-
  The call of the gradient of the input projection's weights. Each column of blocks of the result sums, over five blocks of
  1664 tokens, the product of the hidden state, transposed, and the gradient of the projection; the sum is held in a scratch
  and written back after the fifth block. The numbers are the extended reals: no entry has to be finite.
-/
module

public import proofs.«01_k».proof.Proof.Gen.Kernel4Ideal.Frame
public import proofs.«01_k».proof.Proof.Gen.Reference4Ideal
public import Idealize.ShloMosaic.Lib.Pipeline.Value
public import Idealize.ShloMosaic.Lib.Pipeline.ValueKit.Acc
public import Idealize.ShloMosaic.Lib.Pointwise.Contract
public import Idealize.ShloMosaic.Lib.Pointwise.Elementwise
public import Idealize.ShloMosaic.Lib.Pointwise.Reduce
public import Idealize.ShloMosaic.Lib.Pointwise.ShapeOps
public import Idealize.ShloMosaic.Lib.Pointwise.Reshape
public import Idealize.ShloMosaic.Lib.StableHlo.RunClose
public import Idealize.ShloMosaic.Lib.StableHlo.RunHlo
public import Idealize.ShloMosaic.Lib.StableHlo.RunRead
public import Idealize.ShloMosaic.Lib.Claim
public import Idealize.ShloMosaic.Lib.Quiescent

@[expose] public section

set_option maxRecDepth 16384

noncomputable section
namespace Cert.Weight

open Cert.Kernel4Ideal Cert.Kernel4Ideal.Gen Idealize.ShloMosaic Idealize.ShloMosaic.TcCoe Idealize.SL.Sem

/-- The gradient of the weights, summed over the first `n` tokens: the hidden state `H`, transposed, times the gradient `D` of the projection. -/
def part (H D : ℕ → ℕ → EReal) (n k l : ℕ) : EReal := ∑ t ∈ Finset.range n, H t k * D t l
/-- The block from row `o` and column `p` on. -/
def block {n m : ℕ} (A : ℕ → ℕ → EReal) (o p : ℕ) : (⟨2, ![n, m]⟩ : Shape).Idx → EReal := fun i => A (o + (i 0).val) (p + (i 1).val)

theorem part_add (H D : ℕ → ℕ → EReal) (n k l : ℕ) :
    part H D (1664 * (n + 1)) k l = part H D (1664 * n) k l + ∑ a : Fin 1664, H (1664 * n + a.val) k * D (1664 * n + a.val) l := by
  unfold part
  rw [Nat.mul_succ, Finset.sum_range_add, Fin.sum_univ_eq_sum_range (fun a => H (1664 * n + a) k * D (1664 * n + a) l)]

/-- The product of one block of tokens. -/
theorem pay1_at (H D : ℕ → ℕ → EReal) (o p : ℕ) (k l : Fin 1024) :
    k0_pay1 (F := Ideal) (block H o 0) (block D o p) (ix2 k l) = ∑ a : Fin 1664, H (o + a.val) k.val * D (o + a.val) (p + l.val) := by
  simp [k0_pay1, pointwise, block]
theorem pay2_eq (x0 x1 : Vec Ideal S1664x1024 .bf16) : k0_pay2 (F := Ideal) x0 x1 = k0_pay1 x0 x1 := by
  funext i
  obtain ⟨k, l, rfl⟩ : ∃ k l, i = ix2 k l := ⟨i 0, i 1, eq_ix2 i⟩
  simp only [k0_pay2, pointwise]
theorem pay3_eq (x0 x1 : Vec Ideal S1664x1024 .bf16) (s : Vec Ideal S1024x1024 .f32) :
    k0_pay3 (F := Ideal) x0 x1 s = fun i => (s i + k0_pay1 (F := Ideal) x0 x1 i : EReal) := by
  funext i
  obtain ⟨k, l, rfl⟩ : ∃ k l, i = ix2 k l := ⟨i 0, i 1, eq_ix2 i⟩
  simp only [k0_pay3, pointwise]
  rfl

section
variable (m : (ℓ : Loc nD τ sig) → Buf (Elt Ideal) ℓ) (c : Dev nD) (H D : ℕ → ℕ → EReal)
variable (hH : ∀ i : S8320x1024.Idx, V (F := Ideal) m c main_arg0 i = H (i 0).val (i 1).val)
variable (hD : ∀ i : S8320x9216.Idx, V (F := Ideal) m c main_arg1 i = D (i 0).val (i 1).val)

theorem idx0 : ∀ t : Fin cfg0.N, win0_0.index t (0 : Fin 2) = t.val % 5 ∧ win0_0.index t (1 : Fin 2) = 0 :=
  (by decide +kernel : ∀ t : Fin grid0.N, _)
theorem idx1 : ∀ t : Fin cfg0.N, win0_1.index t (0 : Fin 2) = t.val % 5 ∧ win0_1.index t (1 : Fin 2) = t.val / 5 :=
  (by decide +kernel : ∀ t : Fin grid0.N, _)
theorem idx2 : ∀ t : Fin cfg0.N, win0_2.index t (0 : Fin 2) = 0 ∧ win0_2.index t (1 : Fin 2) = t.val / 5 :=
  (by decide +kernel : ∀ t : Fin grid0.N, _)

include hH in
theorem block0 (t : Fin cfg0.N) : iblk (F := Ideal) m c 0 t = block H (1664 * (t.val % 5)) 0 := by
  funext j
  obtain ⟨e0, e1⟩ := idx0 t
  have q0 : (((cfg0.win 0).blk t).view.emb j 0).val = win0_0.index t (0 : Fin 2) * 1664 + 1 * (j 0).val := rfl
  have q1 : (((cfg0.win 0).blk t).view.emb j 1).val = win0_0.index t (1 : Fin 2) * 1024 + 1 * (j 1).val := rfl
  refine (hH (((cfg0.win 0).blk t).view.emb j)).trans (congrArg₂ H ?_ ?_)
  · rw [q0, e0]; omega
  · rw [q1, e1]; omega
include hD in
theorem block1 (t : Fin cfg0.N) : iblk (F := Ideal) m c 1 t = block D (1664 * (t.val % 5)) (1024 * (t.val / 5)) := by
  funext j
  obtain ⟨e0, e1⟩ := idx1 t
  have q0 : (((cfg0.win 1).blk t).view.emb j 0).val = win0_1.index t (0 : Fin 2) * 1664 + 1 * (j 0).val := rfl
  have q1 : (((cfg0.win 1).blk t).view.emb j 1).val = win0_1.index t (1 : Fin 2) * 1024 + 1 * (j 1).val := rfl
  refine (hD (((cfg0.win 1).blk t).view.emb j)).trans (congrArg₂ D ?_ ?_)
  · rw [q0, e0]; omega
  · rw [q1, e1]; omega

/-- What the scratch holds after point `n`: the sum over the column's blocks of tokens up to the point's. -/
def acc (n : ℕ) : Vec Ideal S1024x1024 .f32 := block (part H D (1664 * (n % 5 + 1))) 0 (1024 * (n / 5))

/-- The sum over a column's blocks gains the block of a later point. -/
theorem acc_step (n : ℕ) (h0 : ¬n % 5 = 0) (i : S1024x1024.Idx) : (acc H D (n - 1) i +
    k0_pay1 (F := Ideal) (block H (1664 * (n % 5)) 0) (block D (1664 * (n % 5)) (1024 * (n / 5))) i : EReal) = acc H D n i := by
  obtain ⟨k, l, rfl⟩ : ∃ k l, i = ix2 k l := ⟨i 0, i 1, eq_ix2 i⟩
  rw [pay1_at]
  have e1 : (n - 1) % 5 + 1 = n % 5 := by omega
  have e2 : (n - 1) / 5 = n / 5 := by omega
  unfold acc block
  rw [e1, e2, part_add]
  simp
theorem acc_first (n : ℕ) (h0 : n % 5 = 0) (i : S1024x1024.Idx) :
    k0_pay1 (F := Ideal) (block H (1664 * (n % 5)) 0) (block D (1664 * (n % 5)) (1024 * (n / 5))) i = acc H D n i := by
  obtain ⟨k, l, rfl⟩ : ∃ k l, i = ix2 k l := ⟨i 0, i 1, eq_ix2 i⟩
  rw [pay1_at]
  unfold acc block
  rw [part_add, h0]
  simp [part]

/-- The scratch after a column's first point, and after a later one. -/
theorem first (t : Fin cfg0.N) (h0 : t.val % 5 = 0) : (outsAt0 (F := Ideal) m c t.val t.isLt).2 = k0_pay2 (iblk m c 0 t) (iblk m c 1 t) := by
  rw [outsAt0_A m c t h0 (by omega) (by omega)]
  frame_out
set_option maxHeartbeats 1000000 in
theorem middle (t : Fin cfg0.N) (h0 : ¬t.val % 5 = 0) (h2 : ¬t.val % 5 = 4) : (outsAt0 (F := Ideal) m c t.val t.isLt).2 =
    k0_pay3 (iblk m c 0 t) (iblk m c 1 t) (outsAt0 (F := Ideal) m c (t.val - 1) (Nat.lt_of_le_of_lt (Nat.sub_le _ _) t.isLt)).2 := by
  rw [outsAt0_B m c t h0 (by omega) h2]
  frame_out
  exact congrArg (k0_pay3 _ _) (Memref.IsWhole.read_unread (Val := Elt Ideal) (Memref.isWhole_whole _) _)
set_option maxHeartbeats 1000000 in
theorem last (t : Fin cfg0.N) (h2 : t.val % 5 = 4) : (outsAt0 (F := Ideal) m c t.val t.isLt).2 =
    k0_pay3 (iblk m c 0 t) (iblk m c 1 t) (outsAt0 (F := Ideal) m c (t.val - 1) (Nat.lt_of_le_of_lt (Nat.sub_le _ _) t.isLt)).2 := by
  rw [outsAt0_C m c t (by omega) (by omega) h2]
  frame_out
  exact congrArg (k0_pay3 _ _) (Memref.IsWhole.read_unread (Val := Elt Ideal) (Memref.isWhole_whole _) _)
set_option maxHeartbeats 1000000 in
/-- What the last point of a column stores. -/
theorem stores (t : Fin cfg0.N) (h2 : t.val % 5 = 4) : (outsAt0 (F := Ideal) m c t.val t.isLt).1 = k0_pay4 (
    k0_pay3 (iblk m c 0 t) (iblk m c 1 t) (outsAt0 (F := Ideal) m c (t.val - 1) (Nat.lt_of_le_of_lt (Nat.sub_le _ _) t.isLt)).2) := by
  rw [outsAt0_C m c t (by omega) (by omega) h2]
  frame_out
  exact congrArg (fun a => k0_pay4 (k0_pay3 _ _ a)) (Memref.IsWhole.read_unread (Val := Elt Ideal) (Memref.isWhole_whole _) _)

include hH hD in
theorem scratch (n : ℕ) : ∀ hn : n < cfg0.N, (outsAt0 (F := Ideal) m c n hn).2 = acc H D n := by
  induction n with
  | zero =>
    intro hn
    rw [first m c ⟨0, hn⟩ (Nat.zero_mod _), pay2_eq, block0 m c H hH, block1 m c D hD]
    exact funext (acc_first H D 0 rfl)
  | succ n ih =>
    intro hn
    by_cases h0 : (n + 1) % 5 = 0
    · rw [first m c ⟨n + 1, hn⟩ h0, pay2_eq, block0 m c H hH, block1 m c D hD]
      exact funext (acc_first H D (n + 1) h0)
    · have e : (outsAt0 (F := Ideal) m c (n + 1) hn).2 = k0_pay3 (iblk m c 0 ⟨n + 1, hn⟩) (iblk m c 1 ⟨n + 1, hn⟩) (acc H D n) := by
        rw [← ih (Nat.lt_of_succ_lt hn)]
        by_cases h2 : (n + 1) % 5 = 4
        · exact last m c ⟨n + 1, hn⟩ h2
        · exact middle m c ⟨n + 1, hn⟩ h0 h2
      rw [e, pay3_eq, block0 m c H hH, block1 m c D hD]
      exact funext (acc_step H D (n + 1) h0)

include hH hD in
/-- A point that writes back stores what the scratch holds. -/
theorem stored (t : Fin cfg0.N) (h2 : t.val % 5 = 4) : (outsAt0 (F := Ideal) m c t.val t.isLt).1 = acc H D t.val := by
  rw [stores m c t h2, ← last m c t h2, scratch m c H D hH hD]
  rfl

theorem cover2 (i : S1024x9216.Idx) : ∃ t : Fin cfg0.N, (cfg0.win 2).flush t = true ∧ i ∈ ((cfg0.win 2).blk t).view.set := by
  have h0 : (i 0).val < 1024 := (i 0).isLt
  have h1 : (i 1).val < 9216 := (i 1).isLt
  have hN : 5 * ((i 1).val / 1024) + 4 < cfg0.N := by rw [show cfg0.N = 45 from N_0]; omega
  obtain ⟨e0, e1⟩ := idx2 ⟨_, hN⟩
  refine ⟨⟨_, hN⟩, (flush0_2 _).2 (by show (5 * ((i 1).val / 1024) + 4) % 5 = 4; omega), ?_⟩
  show i ∈ ((View.whole main_v0).slice (win0_2.rect ⟨_, hN⟩)).set
  rw [View.set_slice_whole, Rect.mem_set_unit]
  intro x
  match x with
  | ⟨0, _⟩ =>
    show win0_2.index ⟨_, hN⟩ (0 : Fin 2) * 1024 ≤ (i 0).val ∧ (i 0).val < win0_2.index ⟨_, hN⟩ (0 : Fin 2) * 1024 + 1024
    rw [e0]; omega
  | ⟨1, _⟩ =>
    show win0_2.index ⟨_, hN⟩ (1 : Fin 2) * 1024 ≤ (i 1).val ∧ (i 1).val < win0_2.index ⟨_, hN⟩ (1 : Fin 2) * 1024 + 1024
    rw [e1]; simp only; omega

theorem flushed (t : Fin cfg0.N) : (dats (F := Ideal) m 0 c).flushed 2 t = (cfg0.win 2).cut (grid0.coords t) ((outsAt0 m c t.val t.isLt).1) := by
  show (cfg0.win 2).cut (grid0.coords t) ((dats m 0 c).after 2 t) = _
  rw [after0_2]

include hH hD in
/-- The array the call leaves: the gradient of the weights, summed over all tokens. -/
theorem array : (dats (F := Ideal) m 0 c).arrAt 2 cfg0.N = fun i : S1024x9216.Idx => part H D 8320 (i 0).val (i 1).val := by
  refine (dats (F := Ideal) m 0 c).arrAt_eq_of_cover 2 (fun i : S1024x9216.Idx => part H D 8320 (i 0).val (i 1).val) (fun t hf => ?_) cover2
  have h2 := (flush0_2 t).1 hf
  rw [flushed, stored m c H D hH hD t h2]
  funext y
  obtain ⟨e0, e1⟩ := idx2 t
  have q0 : (((cfg0.win 2).blk t).view.emb y 0).val = win0_2.index t (0 : Fin 2) * 1024 + 1 * (y 0).val := rfl
  have q1 : (((cfg0.win 2).blk t).view.emb y 1).val = win0_2.index t (1 : Fin 2) * 1024 + 1 * (y 1).val := rfl
  rw [e0] at q0
  rw [e1] at q1
  show part H D (1664 * (t.val % 5 + 1)) (0 + (y 0).val) (1024 * (t.val / 5) + (y 1).val) =
    part H D 8320 (((cfg0.win 2).blk t).view.emb y 0).val (((cfg0.win 2).blk t).view.emb y 1).val
  rw [h2]
  refine congrArg₂ (part H D 8320) ?_ ?_
  · rw [q0]; omega
  · rw [q1]; omega
end

variable (m : (ℓ : Loc nD τ sig) → Buf (Elt Ideal) ℓ) (ρ : Dev nD → PrngReg) (H D : Dev nD → ℕ → ℕ → EReal)
variable (hH : ∀ (c : Dev nD) (i : S8320x1024.Idx), m (((c : Dev nD).tc : Thread nD τ).loc main_arg0) i = H c (i 0).val (i 1).val)
variable (hD : ∀ (c : Dev nD) (i : S8320x9216.Idx), m (((c : Dev nD).tc : Thread nD τ).loc main_arg1) i = D c (i 0).val (i 1).val)

include hH hD in
/-- The call returns the gradient of the weights and keeps its arguments. -/
theorem final : θ_run (defs (F := Ideal)) (onTc (τ := τ) (main (F := Ideal))) ⟨m, fun _ => 0, ρ⟩ (fun r => ∀ c : Dev nD,
    r.2.mem ((c.tc : Thread nD τ).loc main_v0) = (fun i : S1024x9216.Idx => part (H c) (D c) 8320 (i 0).val (i 1).val)
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  run_from (run_main (F := Ideal) m ρ)
  exact array m c (H c) (D c) (hH c) (hD c)

end Cert.Weight

namespace Cert.WeightRef

open Cert.Reference4Ideal Cert.Reference4Ideal.Gen Idealize.ShloMosaic Idealize.ShloMosaic.TcCoe Idealize.SL.Sem

/-- The reference's result. -/
def res (h : FVec Ideal S8320x1024 .bf16) (d : FVec Ideal S8320x9216 .bf16) : FVec Ideal S1024x9216 .bf16 :=
  truncf .bf16 (transpose S1024x9216 [1, 0] (Host.dotGeneral dot_S8320x9216_S8320x1024_S9216x1024_0_0_1_1_n_n none (extf .f32 d bitsLt_bf16_f32) (extf .f32 h bitsLt_bf16_f32) : FVec Ideal S9216x1024 .f32)
    transposes_S9216x1024_S1024x9216_1_0 : FVec Ideal S1024x9216 .f32) bitsLt_bf16_f32

variable (m : (ℓ : Loc nD τ sig) → Buf (Elt Ideal) ℓ) (ρ : Dev nD → PrngReg)

/-- The reference runs, keeps its arguments, and ends with that result. -/
theorem run : θ_run (defs (F := Ideal)) (onTc (τ := τ) (main (F := Ideal))) ⟨m, fun _ => 0, ρ⟩ (fun r => ∀ c : Dev nD,
    r.2.mem ((c.tc : Thread nD τ).loc main_v6) = res (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run <;> sl_kernel_rfl

/-- Its entries are the gradient's. -/
theorem res_at {h : FVec Ideal S8320x1024 .bf16} {d : FVec Ideal S8320x9216 .bf16} {H D : ℕ → ℕ → EReal}
    (hh : ∀ i, h i = H (i 0).val (i 1).val) (hd : ∀ i, d i = D (i 0).val (i 1).val) (i : S1024x9216.Idx) : res h d i = Weight.part H D 8320 (i 0).val (i 1).val := by
  obtain ⟨k, l, rfl⟩ : ∃ k l, i = ix2 k l := ⟨i 0, i 1, eq_ix2 i⟩
  show _ = ∑ t ∈ Finset.range 8320, H t k.val * D t l.val
  rw [← Fin.sum_univ_eq_sum_range (fun t => H t k.val * D t l.val)]
  simp only [res, pointwise, hh, hd]
  exact (zero_add _).trans (Finset.sum_congr rfl fun (t : Fin 8320) _ => mul_comm (D t.val l.val) (H t.val k.val))

end Cert.WeightRef
end
-- ==== Proof.WeightClaim.lean ====
/-
  The claims about the call of the gradient of the input projection's weights: it runs and keeps its arguments, and of any
  arguments, finite or not, it returns that gradient.
-/
module

public import proofs.«01_k».proof.Defs
public import proofs.«01_k».proof.Proof.Gen.Kernel4.Frame
public import proofs.«01_k».proof.Proof.WeightCall
public import proofs.«01_k».proof.Proof.MergeClaim
public import Idealize.ShloMosaic.Adequacy
public import Idealize.ShloMosaic.Init

@[expose] public section

set_option maxRecDepth 16384

noncomputable section
namespace Cert.Proof

open Idealize.ShloMosaic Idealize.ShloMosaic.TcCoe Idealize.SL.Sem

/-- The weight gradient's call on the machine's floats runs and keeps its arguments. -/
theorem quiescent_Kernel4 : Cert.quiescent_Kernel4 := fun m ρ _ => Cert.Kernel4.Gen.frame m ρ

/-- The same of its idealization. -/
theorem quiescent_Kernel4Ideal : Cert.quiescent_Kernel4Ideal := fun m ρ _ => Cert.Kernel4Ideal.Gen.frame m ρ

/-- The weight gradient's reference runs, keeps its arguments, and declares no semaphore. -/
theorem quiescent_Reference4Ideal : Cert.quiescent_Reference4Ideal := fun m ρ _ =>
  (θ_run Cert.Reference4Ideal.defs _ _).mono (fun r h => ⟨fun c => (h c).2, sem_eq_zero_of_no_sems (by decide) r.2⟩) (WeightRef.run m ρ)

/-- The weight gradient's call and the reference return the same gradient. -/
theorem algebraic4 : algebraic_Kernel4Ideal_Reference4Ideal := by
  intro m ρ m' ρ' _ hagree
  have hH := fun (c : Dev Cert.Kernel4Ideal.nD) => Merge.ent_eq (m ((c.tc : Thread Cert.Kernel4Ideal.nD Cert.Kernel4Ideal.τ).loc Cert.Kernel4Ideal.main_arg0))
  have hD := fun (c : Dev Cert.Kernel4Ideal.nD) => Merge.ent_eq (m ((c.tc : Thread Cert.Kernel4Ideal.nD Cert.Kernel4Ideal.τ).loc Cert.Kernel4Ideal.main_arg1))
  refine ⟨_, Weight.final m ρ _ _ hH hD, ?_⟩
  refine (θ_run Cert.Reference4Ideal.defs _ _).mono (fun _ h c => ?_) (WeightRef.run m' ρ')
  obtain ⟨e0, e1⟩ := hagree c
  have hH' := fun i => (congrFun e0 i).trans (hH c i)
  have hD' := fun i => (congrFun e1 i).trans (hD c i)
  obtain ⟨r0, k⟩ := h c
  exact ⟨r0.trans (funext (WeightRef.res_at hH' hD')), k⟩

end Cert.Proof
end
-- ==== Proof.ProjCall.lean ====
/-
  The input projection's call. Each point multiplies a block of 1664 tokens by a block of 1024 columns of the weights, over
  the whole width of the hidden state, and writes its block of the projection; the blocks tile the result. The numbers are the
  extended reals: no entry has to be finite.
-/
module

public import proofs.«01_k».proof.Proof.Gen.Kernel5Ideal.Frame
public import proofs.«01_k».proof.Proof.Gen.Reference5Ideal
public import Idealize.ShloMosaic.Lib.Pipeline.Value
public import Idealize.ShloMosaic.Lib.Pipeline.ValueKit.Basic
public import Idealize.ShloMosaic.Lib.Pointwise.Contract
public import Idealize.ShloMosaic.Lib.Pointwise.Elementwise
public import Idealize.ShloMosaic.Lib.Pointwise.Reduce
public import Idealize.ShloMosaic.Lib.Pointwise.ShapeOps
public import Idealize.ShloMosaic.Lib.StableHlo.RunClose
public import Idealize.ShloMosaic.Lib.StableHlo.RunHlo
public import Idealize.ShloMosaic.Lib.StableHlo.RunRead
public import Idealize.ShloMosaic.Lib.Claim
public import Idealize.ShloMosaic.Lib.Quiescent

@[expose] public section

set_option maxRecDepth 16384

noncomputable section
namespace Cert.Proj

open Cert.Kernel5Ideal Cert.Kernel5Ideal.Gen Idealize.ShloMosaic Idealize.ShloMosaic.TcCoe Idealize.SL.Sem

/-- The projection: the hidden state `H` times the weights `W`. -/
def proj (H W : ℕ → ℕ → EReal) (n l : ℕ) : EReal := ∑ k : Fin 1024, H n k.val * W k.val l
/-- The block from row `o` and column `p` on. -/
def block {n m : ℕ} (A : ℕ → ℕ → EReal) (o p : ℕ) : (⟨2, ![n, m]⟩ : Shape).Idx → EReal := fun i => A (o + (i 0).val) (p + (i 1).val)

/-- What one point stores: its block of the projection. -/
theorem pay_at (H W : ℕ → ℕ → EReal) (o p : ℕ) (r : Fin 1664) (l : Fin 1024) :
    k0_pay1 (F := Ideal) (block H o 0) (block W 0 p) (ix2 r l) = proj H W (o + r.val) (p + l.val) := by
  simp [k0_pay1, pointwise, block, proj]
theorem out_eq (H W : ℕ → ℕ → EReal) (o p : ℕ) : out0_2 (F := Ideal) (block H o 0) (block W 0 p) = block (proj H W) o p := by
  funext i
  obtain ⟨r, l, rfl⟩ : ∃ r l, i = ix2 r l := ⟨i 0, i 1, eq_ix2 i⟩
  have z : (![0, 0] : Fin 2 → ℕ) = fun _ => 0 := by decide
  unfold out0_2
  rw [View.canon_cons_unit_zero z, View.ld_unit_zero z, View.ld_unit_zero z]
  exact pay_at H W o p r l

section
variable (m : (ℓ : Loc nD τ sig) → Buf (Elt Ideal) ℓ) (c : Dev nD) (H W : ℕ → ℕ → EReal)
variable (hH : ∀ i : S8320x1024.Idx, V (F := Ideal) m c main_arg0 i = H (i 0).val (i 1).val)
variable (hW : ∀ i : S1024x9216.Idx, V (F := Ideal) m c main_arg1 i = W (i 0).val (i 1).val)

theorem idx0 : ∀ t : Fin cfg0.N, win0_0.index t (0 : Fin 2) = t.val / 9 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 9 :=
  (by decide +kernel : ∀ t : Fin grid0.N, _)
theorem idx2 : ∀ t : Fin cfg0.N, win0_2.index t (0 : Fin 2) = t.val / 9 ∧ win0_2.index t (1 : Fin 2) = t.val % 9 :=
  (by decide +kernel : ∀ t : Fin grid0.N, _)

include hH in
theorem block0 (t : Fin cfg0.N) : iblk (F := Ideal) m c 0 t = block H (1664 * (t.val / 9)) 0 := by
  funext j
  obtain ⟨e0, e1⟩ := idx0 t
  have q0 : (((cfg0.win 0).blk t).view.emb j 0).val = win0_0.index t (0 : Fin 2) * 1664 + 1 * (j 0).val := rfl
  have q1 : (((cfg0.win 0).blk t).view.emb j 1).val = win0_0.index t (1 : Fin 2) * 1024 + 1 * (j 1).val := rfl
  refine (hH (((cfg0.win 0).blk t).view.emb j)).trans (congrArg₂ H ?_ ?_)
  · rw [q0, e0]; omega
  · rw [q1, e1]; omega
include hW in
theorem block1 (t : Fin cfg0.N) : iblk (F := Ideal) m c 1 t = block W 0 (1024 * (t.val % 9)) := by
  funext j
  obtain ⟨e0, e1⟩ := idx1 t
  have q0 : (((cfg0.win 1).blk t).view.emb j 0).val = win0_1.index t (0 : Fin 2) * 1024 + 1 * (j 0).val := rfl
  have q1 : (((cfg0.win 1).blk t).view.emb j 1).val = win0_1.index t (1 : Fin 2) * 1024 + 1 * (j 1).val := rfl
  refine (hW (((cfg0.win 1).blk t).view.emb j)).trans (congrArg₂ W ?_ ?_)
  · rw [q0, e0]; omega
  · rw [q1, e1]; omega

theorem cover2 (i : S8320x9216.Idx) : ∃ t : Fin cfg0.N, (cfg0.win 2).flush t = true ∧ i ∈ ((cfg0.win 2).blk t).view.set := by
  have h0 : (i 0).val < 8320 := (i 0).isLt
  have h1 : (i 1).val < 9216 := (i 1).isLt
  have hN : 9 * ((i 0).val / 1664) + (i 1).val / 1024 < cfg0.N := by rw [show cfg0.N = 45 from N_0]; omega
  obtain ⟨e0, e1⟩ := idx2 ⟨_, hN⟩
  refine ⟨⟨_, hN⟩, flush0_2 _, ?_⟩
  show i ∈ ((View.whole main_v0).slice (win0_2.rect ⟨_, hN⟩)).set
  rw [View.set_slice_whole, Rect.mem_set_unit]
  intro x
  match x with
  | ⟨0, _⟩ =>
    show win0_2.index ⟨_, hN⟩ (0 : Fin 2) * 1664 ≤ (i 0).val ∧ (i 0).val < win0_2.index ⟨_, hN⟩ (0 : Fin 2) * 1664 + 1664
    rw [e0]; simp only; omega
  | ⟨1, _⟩ =>
    show win0_2.index ⟨_, hN⟩ (1 : Fin 2) * 1024 ≤ (i 1).val ∧ (i 1).val < win0_2.index ⟨_, hN⟩ (1 : Fin 2) * 1024 + 1024
    rw [e1]; simp only; omega

theorem flushed (t : Fin cfg0.N) : (dats (F := Ideal) m 0 c).flushed 2 t = (cfg0.win 2).cut (grid0.coords t) (out0_2 (iblk m c 0 t) (iblk m c 1 t)) := by
  show (cfg0.win 2).cut (grid0.coords t) ((dats m 0 c).after 2 t) = _
  rw [after0_2]

include hH hW in
/-- The array the call leaves: the projection. -/
theorem array : (dats (F := Ideal) m 0 c).arrAt 2 cfg0.N = fun i : S8320x9216.Idx => proj H W (i 0).val (i 1).val := by
  refine (dats (F := Ideal) m 0 c).arrAt_eq_of_cover 2 (fun i : S8320x9216.Idx => proj H W (i 0).val (i 1).val) (fun t _ => ?_) cover2
  rw [flushed, block0 m c H hH, block1 m c W hW, out_eq]
  funext y
  obtain ⟨e0, e1⟩ := idx2 t
  have q0 : (((cfg0.win 2).blk t).view.emb y 0).val = win0_2.index t (0 : Fin 2) * 1664 + 1 * (y 0).val := rfl
  have q1 : (((cfg0.win 2).blk t).view.emb y 1).val = win0_2.index t (1 : Fin 2) * 1024 + 1 * (y 1).val := rfl
  rw [e0] at q0
  rw [e1] at q1
  show proj H W (1664 * (t.val / 9) + (y 0).val) (1024 * (t.val % 9) + (y 1).val) =
    proj H W (((cfg0.win 2).blk t).view.emb y 0).val (((cfg0.win 2).blk t).view.emb y 1).val
  refine congrArg₂ (proj H W) ?_ ?_
  · rw [q0]; omega
  · rw [q1]; omega
end

variable (m : (ℓ : Loc nD τ sig) → Buf (Elt Ideal) ℓ) (ρ : Dev nD → PrngReg) (H W : Dev nD → ℕ → ℕ → EReal)
variable (hH : ∀ (c : Dev nD) (i : S8320x1024.Idx), m (((c : Dev nD).tc : Thread nD τ).loc main_arg0) i = H c (i 0).val (i 1).val)
variable (hW : ∀ (c : Dev nD) (i : S1024x9216.Idx), m (((c : Dev nD).tc : Thread nD τ).loc main_arg1) i = W c (i 0).val (i 1).val)

include hH hW in
/-- The call returns the projection and keeps its arguments. -/
theorem final : θ_run (defs (F := Ideal)) (onTc (τ := τ) (main (F := Ideal))) ⟨m, fun _ => 0, ρ⟩ (fun r => ∀ c : Dev nD,
    r.2.mem ((c.tc : Thread nD τ).loc main_v0) = (fun i : S8320x9216.Idx => proj (H c) (W c) (i 0).val (i 1).val)
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  run_from (run_main (F := Ideal) m ρ)
  exact array m c (H c) (W c) (hH c) (hW c)

end Cert.Proj

namespace Cert.ProjRef

open Cert.Reference5Ideal Cert.Reference5Ideal.Gen Idealize.ShloMosaic Idealize.ShloMosaic.TcCoe Idealize.SL.Sem

/-- The reference's result. -/
def res (h : FVec Ideal S8320x1024 .bf16) (w : FVec Ideal S1024x9216 .bf16) : FVec Ideal S8320x9216 .bf16 :=
  truncf .bf16 (Host.dotGeneral dot_S8320x1024_S1024x9216_S8320x9216_1_0_0_1_n_n none (extf .f32 h bitsLt_bf16_f32) (extf .f32 w bitsLt_bf16_f32) : FVec Ideal S8320x9216 .f32) bitsLt_bf16_f32

variable (m : (ℓ : Loc nD τ sig) → Buf (Elt Ideal) ℓ) (ρ : Dev nD → PrngReg)

/-- The reference runs, keeps its arguments, and ends with that result. -/
theorem run : θ_run (defs (F := Ideal)) (onTc (τ := τ) (main (F := Ideal))) ⟨m, fun _ => 0, ρ⟩ (fun r => ∀ c : Dev nD,
    r.2.mem ((c.tc : Thread nD τ).loc main_v3) = res (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  hlo_run <;> sl_kernel_rfl

/-- Its entries are the projection's. -/
theorem res_at {h : FVec Ideal S8320x1024 .bf16} {w : FVec Ideal S1024x9216 .bf16} {H W : ℕ → ℕ → EReal}
    (hh : ∀ i, h i = H (i 0).val (i 1).val) (hw : ∀ i, w i = W (i 0).val (i 1).val) (i : S8320x9216.Idx) : res h w i = Proj.proj H W (i 0).val (i 1).val := by
  obtain ⟨n, l, rfl⟩ : ∃ n l, i = ix2 n l := ⟨i 0, i 1, eq_ix2 i⟩
  simp [res, pointwise, hh, hw, Proj.proj]

end Cert.ProjRef
end
-- ==== Proof.ProjClaim.lean ====
/-
  The claims about the input projection's call: it runs and keeps its arguments, and of any arguments, finite or not, it
  returns the projection.
-/
module

public import proofs.«01_k».proof.Defs
public import proofs.«01_k».proof.Proof.Gen.Kernel5.Frame
public import proofs.«01_k».proof.Proof.ProjCall
public import proofs.«01_k».proof.Proof.MergeClaim
public import Idealize.ShloMosaic.Adequacy
public import Idealize.ShloMosaic.Init

@[expose] public section

set_option maxRecDepth 16384

noncomputable section
namespace Cert.Proof

open Idealize.ShloMosaic Idealize.ShloMosaic.TcCoe Idealize.SL.Sem

/-- The projection's call on the machine's floats runs and keeps its arguments. -/
theorem quiescent_Kernel5 : Cert.quiescent_Kernel5 := fun m ρ _ => Cert.Kernel5.Gen.frame m ρ

/-- The same of its idealization. -/
theorem quiescent_Kernel5Ideal : Cert.quiescent_Kernel5Ideal := fun m ρ _ => Cert.Kernel5Ideal.Gen.frame m ρ

/-- The projection's reference runs, keeps its arguments, and declares no semaphore. -/
theorem quiescent_Reference5Ideal : Cert.quiescent_Reference5Ideal := fun m ρ _ =>
  (θ_run Cert.Reference5Ideal.defs _ _).mono (fun r h => ⟨fun c => (h c).2, sem_eq_zero_of_no_sems (by decide) r.2⟩) (ProjRef.run m ρ)

/-- The projection's call and the reference return the same projection. -/
theorem algebraic5 : algebraic_Kernel5Ideal_Reference5Ideal := by
  intro m ρ m' ρ' _ hagree
  have hH := fun (c : Dev Cert.Kernel5Ideal.nD) => Merge.ent_eq (m ((c.tc : Thread Cert.Kernel5Ideal.nD Cert.Kernel5Ideal.τ).loc Cert.Kernel5Ideal.main_arg0))
  have hW := fun (c : Dev Cert.Kernel5Ideal.nD) => Merge.ent_eq (m ((c.tc : Thread Cert.Kernel5Ideal.nD Cert.Kernel5Ideal.τ).loc Cert.Kernel5Ideal.main_arg1))
  refine ⟨_, Proj.final m ρ _ _ hH hW, ?_⟩
  refine (θ_run Cert.Reference5Ideal.defs _ _).mono (fun _ h c => ?_) (ProjRef.run m' ρ')
  obtain ⟨e0, e1⟩ := hagree c
  have hH' := fun i => (congrFun e0 i).trans (hH c i)
  have hW' := fun i => (congrFun e1 i).trans (hW c i)
  obtain ⟨r0, k⟩ := h c
  exact ⟨r0.trans (funext (ProjRef.res_at hH' hW')), k⟩

end Cert.Proof
end
-- ==== Proof.lean ====
/-
  The certificate: the programs run to the end with their arguments kept and every counter at zero; over the reals the
  chunks of the kernel's two calls compute the outputs of the token recurrence and the gradients of its arguments, and the
  gates' backward call computes the gradients of the gates; and of any arguments at all the merge's backward call computes
  the gradients of the merge.
-/
module

public import proofs.«01_k».proof.Defs
public import proofs.«01_k».proof.Proof.Gen.Kernel
public import proofs.«01_k».proof.Proof.KernelResult
public import proofs.«01_k».proof.Proof.RefResult
public import proofs.«01_k».proof.Proof.Finite
public import proofs.«01_k».proof.Proof.Gen.Kernel2
public import proofs.«01_k».proof.Proof.GateClaim
public import proofs.«01_k».proof.Proof.Gen.Kernel3
public import proofs.«01_k».proof.Proof.MergeClaim
public import proofs.«01_k».proof.Proof.Gen.Kernel4
public import proofs.«01_k».proof.Proof.WeightClaim
public import proofs.«01_k».proof.Proof.Gen.Kernel5
public import proofs.«01_k».proof.Proof.ProjClaim
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel on the machine's floats runs and keeps its arguments. -/
theorem quiescent_Kernel : Cert.quiescent_Kernel := by
  intro m ρ _
  refine (fun P Q (p : P) (e : P = Q) => e ▸ p : ∀ P Q : Prop, P → P = Q → Q) _ _ (KernelRun.args (F := Bits) m ρ) ?_
  sl_kernel_rfl

/-- The same of its idealization. -/
theorem quiescent_KernelIdeal : Cert.quiescent_KernelIdeal := fun m ρ _ => KernelRun.args (F := Ideal) m ρ

/-- The reference runs, keeps its arguments, and declares no semaphore. -/
theorem quiescent_ReferenceIdeal : Cert.quiescent_ReferenceIdeal := fun m ρ _ =>
  (θ_run Cert.ReferenceIdeal.defs _ _).mono (fun r h => ⟨fun c =>
    ⟨(h c Cert.ReferenceIdeal.main_arg0 rfl).trans (RefRun.keeps_main_arg0 m c), (h c Cert.ReferenceIdeal.main_arg1 rfl).trans (RefRun.keeps_main_arg1 m c),
      (h c Cert.ReferenceIdeal.main_arg2 rfl).trans (RefRun.keeps_main_arg2 m c)⟩, sem_eq_zero_of_no_sems (by decide) r.2⟩)
    (RefRun.run (F := Ideal) m ρ)

open Cert.KernelIdeal in
/-- A buffer of the TensorCore that the run reports. -/
theorem reported (b : Ref sig .tc) (h : b.isScoped = false) : Proc.devRef .tc b ∈ Pipeline.ucRefs τ sig :=
  Finset.mem_filter.mpr ⟨StableHlo.devRef_mem_tcRefs b, by simpa using h⟩

/-- Of real arguments the kernel's results and the reference's are the outputs of the token recurrence and its gradients. -/
theorem algebraic : algebraic_KernelIdeal_ReferenceIdeal_pre_finite := by
  intro m ρ m' ρ' hpre hagree
  refine ⟨fun c => KernelRun.W6 (F := Ideal) m c (Proc.devRef .tc Cert.KernelIdeal.main_v3_0), fun c => KernelRun.W6 (F := Ideal) m c (Proc.devRef .tc Cert.KernelIdeal.main_v4_0),
    fun c => KernelRun.W6 (F := Ideal) m c (Proc.devRef .tc Cert.KernelIdeal.main_v8), ?_, ?_⟩
  · refine (θ_run Cert.KernelIdeal.defs _ _).mono (fun _ h c => ?_) (KernelRun.run (F := Ideal) m ρ)
    exact ⟨h.1 c _ (reported _ rfl), h.1 c _ (reported _ rfl), h.1 c _ (reported _ rfl),
      (h.1 c _ (reported _ rfl)).trans (KernelRun.W6_keep m c Cert.KernelIdeal.main_arg0 (by decide) (by decide) (by decide) (by decide) (by decide) (by decide)),
      (h.1 c _ (reported _ rfl)).trans (KernelRun.W6_keep m c Cert.KernelIdeal.main_arg1 (by decide) (by decide) (by decide) (by decide) (by decide) (by decide)),
      (h.1 c _ (reported _ rfl)).trans (KernelRun.W6_keep m c Cert.KernelIdeal.main_arg2 (by decide) (by decide) (by decide) (by decide) (by decide) (by decide))⟩
  · refine (θ_run Cert.ReferenceIdeal.defs _ _).mono (fun _ h c => ?_) (RefRun.run (F := Ideal) m' ρ')
    obtain ⟨hx, hy, hz⟩ := Finite.reals _ _ _ (hpre c)
    obtain ⟨ex, ey, ez⟩ := hagree c
    have hA := Finite.entry_eq _ hx
    have hB := Finite.entry_eq _ hy
    have hD := Finite.entry_eq _ hz
    have hA' := fun i => (congrFun ex i).trans (hA i)
    have hB' := fun i => (congrFun ey i).trans (hB i)
    have hD' := fun i => (congrFun ez i).trans (hD i)
    refine ⟨?_, ?_, ?_, (h c Cert.ReferenceIdeal.main_arg0 rfl).trans (RefRun.keeps_main_arg0 m' c),
      (h c Cert.ReferenceIdeal.main_arg1 rfl).trans (RefRun.keeps_main_arg1 m' c), (h c Cert.ReferenceIdeal.main_arg2 rfl).trans (RefRun.keeps_main_arg2 m' c)⟩
    · refine (h c Cert.ReferenceIdeal.main_v12 rfl).trans ((funext fun i => ?_).trans (KernelRun.kernel_o hA hB).symm)
      exact RefReal.result_o hA' hB' i
    · refine (h c Cert.ReferenceIdeal.main_v28 rfl).trans ((funext fun i => ?_).trans (KernelRun.kernel_qkv hA hB hD).symm)
      exact RefReal.result_qkv hA' hB' hD' i
    · refine (h c Cert.ReferenceIdeal.main_v24 rfl).trans ((funext fun i => ?_).trans (KernelRun.kernel_bg hA hB hD).symm)
      exact RefReal.result_bg hA' hB' hD' i

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Pre_finite.Gen.facts, Cert.Pre_finite2.Gen.facts,
  quiescent_Kernel, quiescent_KernelIdeal, fun m ρ _ => quiescent_KernelIdeal m ρ trivial,
  quiescent_ReferenceIdeal, fun m ρ _ => quiescent_ReferenceIdeal m ρ trivial,
  quiescent_Kernel2, quiescent_Kernel2Ideal, fun m ρ _ => quiescent_Kernel2Ideal m ρ trivial,
  quiescent_Reference2Ideal, fun m ρ _ => quiescent_Reference2Ideal m ρ trivial,
  quiescent_Kernel3, quiescent_Kernel3Ideal, quiescent_Reference3Ideal,
  quiescent_Kernel4, quiescent_Kernel4Ideal, quiescent_Reference4Ideal, quiescent_Kernel5, quiescent_Kernel5Ideal, quiescent_Reference5Ideal,
  (trivial : preserves_Kernel_KernelIdeal), algebraic, (trivial : preserves_Kernel2_Kernel2Ideal), algebraic2,
  (trivial : preserves_Kernel3_Kernel3Ideal), algebraic3, (trivial : preserves_Kernel4_Kernel4Ideal), algebraic4,
  (trivial : preserves_Kernel5_Kernel5Ideal), algebraic5⟩

end Cert.Proof

end
